-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Inputs (m : (ℓ : Loc Cert.Inputs.nD Cert.Inputs.τ Cert.Inputs.sig) → Buf (Elt Bits) ℓ) : Prop :=
  True

def Pre_InputsIdeal (m : (ℓ : Loc Cert.InputsIdeal.nD Cert.InputsIdeal.τ Cert.InputsIdeal.sig) → Buf (Elt Ideal) ℓ) : Prop :=
  True

def Pre_InputsReferenceIdeal (m : (ℓ : Loc Cert.InputsReferenceIdeal.nD Cert.InputsReferenceIdeal.τ Cert.InputsReferenceIdeal.sig) → Buf (Elt Ideal) ℓ) : Prop :=
  True

def Pre_Experts [hPre_tiles_named : Cert.Pre_tiles_named.Facts] (m : (ℓ : Loc Cert.Experts.nD Cert.Experts.τ Cert.Experts.sig) → Buf (Elt Bits) ℓ) : Prop :=
  ∀ c : Dev Cert.Experts.nD,
    (Cert.Pre_tiles_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tiles_named : Cert.Pre_tiles_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tiles_named [hPre_tiles_named : Cert.Pre_tiles_named.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tiles_named.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite_latents [hPre_finite_latents : Cert.Pre_finite_latents.Facts] (m : (ℓ : Loc Cert.LatentIdeal.nD Cert.LatentIdeal.τ Cert.LatentIdeal.sig) → Buf (Elt Ideal) ℓ) : Prop :=
  ∀ c : Dev Cert.LatentIdeal.nD,
    (Cert.Pre_finite_latents.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6)) (m ((c.tc : Thread Cert.LatentIdeal.nD Cert.LatentIdeal.τ).loc Cert.LatentIdeal.main_arg7))).1 = (fun _ => 1#1)
    ∧ (Cert.Pre_finite_latents.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6)) (m ((c.tc : Thread Cert.LatentIdeal.nD Cert.LatentIdeal.τ).loc Cert.LatentIdeal.main_arg7))).2.1 = (fun _ => 1#1)
    ∧ (Cert.Pre_finite_latents.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6)) (m ((c.tc : Thread Cert.LatentIdeal.nD Cert.LatentIdeal.τ).loc Cert.LatentIdeal.main_arg7))).2.2.1 = (fun _ => 1#1)
    ∧ (Cert.Pre_finite_latents.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6)) (m ((c.tc : Thread Cert.LatentIdeal.nD Cert.LatentIdeal.τ).loc Cert.LatentIdeal.main_arg7))).2.2.2.1 = (fun _ => 1#1)
    ∧ (Cert.Pre_finite_latents.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6)) (m ((c.tc : Thread Cert.LatentIdeal.nD Cert.LatentIdeal.τ).loc Cert.LatentIdeal.main_arg7))).2.2.2.2.1 = (fun _ => 1#1)
    ∧ (Cert.Pre_finite_latents.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5)) (m ((c.tc : Thread Cert.LatentIdeal.nD Cert.LatentIdeal.τ).loc Cert.LatentIdeal.main_arg6)) (m ((c.tc : Thread Cert.LatentIdeal.nD Cert.LatentIdeal.τ).loc Cert.LatentIdeal.main_arg7))).2.2.2.2.2 = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_finite_latents [hPre_finite_latents : Cert.Pre_finite_latents.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_finite_latents.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6)) (m ((c.tc : Thread Cert.LatentReferenceIdeal.nD Cert.LatentReferenceIdeal.τ).loc Cert.LatentReferenceIdeal.main_arg7))).1 = (fun _ => 1#1)
    ∧ (Cert.Pre_finite_latents.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6)) (m ((c.tc : Thread Cert.LatentReferenceIdeal.nD Cert.LatentReferenceIdeal.τ).loc Cert.LatentReferenceIdeal.main_arg7))).2.1 = (fun _ => 1#1)
    ∧ (Cert.Pre_finite_latents.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6)) (m ((c.tc : Thread Cert.LatentReferenceIdeal.nD Cert.LatentReferenceIdeal.τ).loc Cert.LatentReferenceIdeal.main_arg7))).2.2.1 = (fun _ => 1#1)
    ∧ (Cert.Pre_finite_latents.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6)) (m ((c.tc : Thread Cert.LatentReferenceIdeal.nD Cert.LatentReferenceIdeal.τ).loc Cert.LatentReferenceIdeal.main_arg7))).2.2.2.1 = (fun _ => 1#1)
    ∧ (Cert.Pre_finite_latents.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6)) (m ((c.tc : Thread Cert.LatentReferenceIdeal.nD Cert.LatentReferenceIdeal.τ).loc Cert.LatentReferenceIdeal.main_arg7))).2.2.2.2.1 = (fun _ => 1#1)
    ∧ (Cert.Pre_finite_latents.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5)) (m ((c.tc : Thread Cert.LatentReferenceIdeal.nD Cert.LatentReferenceIdeal.τ).loc Cert.LatentReferenceIdeal.main_arg6)) (m ((c.tc : Thread Cert.LatentReferenceIdeal.nD Cert.LatentReferenceIdeal.τ).loc Cert.LatentReferenceIdeal.main_arg7))).2.2.2.2.2 = (fun _ => 1#1)

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextIdeal_finite_context [hPre_finite_context : Cert.Pre_finite_context.Facts] (m : (ℓ : Loc Cert.ContextIdeal.nD Cert.ContextIdeal.τ Cert.ContextIdeal.sig) → Buf (Elt Ideal) ℓ) : Prop :=
  ∀ c : Dev Cert.ContextIdeal.nD,
    (Cert.Pre_finite_context.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6)) (m ((c.tc : Thread Cert.ContextIdeal.nD Cert.ContextIdeal.τ).loc Cert.ContextIdeal.main_arg7)) (m ((c.tc : Thread Cert.ContextIdeal.nD Cert.ContextIdeal.τ).loc Cert.ContextIdeal.main_arg8)) (m ((c.tc : Thread Cert.ContextIdeal.nD Cert.ContextIdeal.τ).loc Cert.ContextIdeal.main_arg9)) (m ((c.tc : Thread Cert.ContextIdeal.nD Cert.ContextIdeal.τ).loc Cert.ContextIdeal.main_arg10)) (m ((c.tc : Thread Cert.ContextIdeal.nD Cert.ContextIdeal.τ).loc Cert.ContextIdeal.main_arg11)) (m ((c.tc : Thread Cert.ContextIdeal.nD Cert.ContextIdeal.τ).loc Cert.ContextIdeal.main_arg12))).1 = (fun _ => 1#1)
    ∧ (Cert.Pre_finite_context.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6)) (m ((c.tc : Thread Cert.ContextIdeal.nD Cert.ContextIdeal.τ).loc Cert.ContextIdeal.main_arg7)) (m ((c.tc : Thread Cert.ContextIdeal.nD Cert.ContextIdeal.τ).loc Cert.ContextIdeal.main_arg8)) (m ((c.tc : Thread Cert.ContextIdeal.nD Cert.ContextIdeal.τ).loc Cert.ContextIdeal.main_arg9)) (m ((c.tc : Thread Cert.ContextIdeal.nD Cert.ContextIdeal.τ).loc Cert.ContextIdeal.main_arg10)) (m ((c.tc : Thread Cert.ContextIdeal.nD Cert.ContextIdeal.τ).loc Cert.ContextIdeal.main_arg11)) (m ((c.tc : Thread Cert.ContextIdeal.nD Cert.ContextIdeal.τ).loc Cert.ContextIdeal.main_arg12))).2.1 = (fun _ => 1#1)
    ∧ (Cert.Pre_finite_context.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6)) (m ((c.tc : Thread Cert.ContextIdeal.nD Cert.ContextIdeal.τ).loc Cert.ContextIdeal.main_arg7)) (m ((c.tc : Thread Cert.ContextIdeal.nD Cert.ContextIdeal.τ).loc Cert.ContextIdeal.main_arg8)) (m ((c.tc : Thread Cert.ContextIdeal.nD Cert.ContextIdeal.τ).loc Cert.ContextIdeal.main_arg9)) (m ((c.tc : Thread Cert.ContextIdeal.nD Cert.ContextIdeal.τ).loc Cert.ContextIdeal.main_arg10)) (m ((c.tc : Thread Cert.ContextIdeal.nD Cert.ContextIdeal.τ).loc Cert.ContextIdeal.main_arg11)) (m ((c.tc : Thread Cert.ContextIdeal.nD Cert.ContextIdeal.τ).loc Cert.ContextIdeal.main_arg12))).2.2.1 = (fun _ => 1#1)
    ∧ (Cert.Pre_finite_context.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6)) (m ((c.tc : Thread Cert.ContextIdeal.nD Cert.ContextIdeal.τ).loc Cert.ContextIdeal.main_arg7)) (m ((c.tc : Thread Cert.ContextIdeal.nD Cert.ContextIdeal.τ).loc Cert.ContextIdeal.main_arg8)) (m ((c.tc : Thread Cert.ContextIdeal.nD Cert.ContextIdeal.τ).loc Cert.ContextIdeal.main_arg9)) (m ((c.tc : Thread Cert.ContextIdeal.nD Cert.ContextIdeal.τ).loc Cert.ContextIdeal.main_arg10)) (m ((c.tc : Thread Cert.ContextIdeal.nD Cert.ContextIdeal.τ).loc Cert.ContextIdeal.main_arg11)) (m ((c.tc : Thread Cert.ContextIdeal.nD Cert.ContextIdeal.τ).loc Cert.ContextIdeal.main_arg12))).2.2.2.1 = (fun _ => 1#1)
    ∧ (Cert.Pre_finite_context.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6)) (m ((c.tc : Thread Cert.ContextIdeal.nD Cert.ContextIdeal.τ).loc Cert.ContextIdeal.main_arg7)) (m ((c.tc : Thread Cert.ContextIdeal.nD Cert.ContextIdeal.τ).loc Cert.ContextIdeal.main_arg8)) (m ((c.tc : Thread Cert.ContextIdeal.nD Cert.ContextIdeal.τ).loc Cert.ContextIdeal.main_arg9)) (m ((c.tc : Thread Cert.ContextIdeal.nD Cert.ContextIdeal.τ).loc Cert.ContextIdeal.main_arg10)) (m ((c.tc : Thread Cert.ContextIdeal.nD Cert.ContextIdeal.τ).loc Cert.ContextIdeal.main_arg11)) (m ((c.tc : Thread Cert.ContextIdeal.nD Cert.ContextIdeal.τ).loc Cert.ContextIdeal.main_arg12))).2.2.2.2.1 = (fun _ => 1#1)
    ∧ (Cert.Pre_finite_context.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6)) (m ((c.tc : Thread Cert.ContextIdeal.nD Cert.ContextIdeal.τ).loc Cert.ContextIdeal.main_arg7)) (m ((c.tc : Thread Cert.ContextIdeal.nD Cert.ContextIdeal.τ).loc Cert.ContextIdeal.main_arg8)) (m ((c.tc : Thread Cert.ContextIdeal.nD Cert.ContextIdeal.τ).loc Cert.ContextIdeal.main_arg9)) (m ((c.tc : Thread Cert.ContextIdeal.nD Cert.ContextIdeal.τ).loc Cert.ContextIdeal.main_arg10)) (m ((c.tc : Thread Cert.ContextIdeal.nD Cert.ContextIdeal.τ).loc Cert.ContextIdeal.main_arg11)) (m ((c.tc : Thread Cert.ContextIdeal.nD Cert.ContextIdeal.τ).loc Cert.ContextIdeal.main_arg12))).2.2.2.2.2.1 = (fun _ => 1#1)
    ∧ (Cert.Pre_finite_context.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6)) (m ((c.tc : Thread Cert.ContextIdeal.nD Cert.ContextIdeal.τ).loc Cert.ContextIdeal.main_arg7)) (m ((c.tc : Thread Cert.ContextIdeal.nD Cert.ContextIdeal.τ).loc Cert.ContextIdeal.main_arg8)) (m ((c.tc : Thread Cert.ContextIdeal.nD Cert.ContextIdeal.τ).loc Cert.ContextIdeal.main_arg9)) (m ((c.tc : Thread Cert.ContextIdeal.nD Cert.ContextIdeal.τ).loc Cert.ContextIdeal.main_arg10)) (m ((c.tc : Thread Cert.ContextIdeal.nD Cert.ContextIdeal.τ).loc Cert.ContextIdeal.main_arg11)) (m ((c.tc : Thread Cert.ContextIdeal.nD Cert.ContextIdeal.τ).loc Cert.ContextIdeal.main_arg12))).2.2.2.2.2.2.1 = (fun _ => 1#1)
    ∧ (Cert.Pre_finite_context.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6)) (m ((c.tc : Thread Cert.ContextIdeal.nD Cert.ContextIdeal.τ).loc Cert.ContextIdeal.main_arg7)) (m ((c.tc : Thread Cert.ContextIdeal.nD Cert.ContextIdeal.τ).loc Cert.ContextIdeal.main_arg8)) (m ((c.tc : Thread Cert.ContextIdeal.nD Cert.ContextIdeal.τ).loc Cert.ContextIdeal.main_arg9)) (m ((c.tc : Thread Cert.ContextIdeal.nD Cert.ContextIdeal.τ).loc Cert.ContextIdeal.main_arg10)) (m ((c.tc : Thread Cert.ContextIdeal.nD Cert.ContextIdeal.τ).loc Cert.ContextIdeal.main_arg11)) (m ((c.tc : Thread Cert.ContextIdeal.nD Cert.ContextIdeal.τ).loc Cert.ContextIdeal.main_arg12))).2.2.2.2.2.2.2 = (fun _ => 1#1)

def Pre_ContextReferenceIdeal (m : (ℓ : Loc Cert.ContextReferenceIdeal.nD Cert.ContextReferenceIdeal.τ Cert.ContextReferenceIdeal.sig) → Buf (Elt Ideal) ℓ) : Prop :=
  True

def Pre_ContextReferenceIdeal_finite_context [hPre_finite_context : Cert.Pre_finite_context.Facts] (m : (ℓ : Loc Cert.ContextReferenceIdeal.nD Cert.ContextReferenceIdeal.τ Cert.ContextReferenceIdeal.sig) → Buf (Elt Ideal) ℓ) : Prop :=
  ∀ c : Dev Cert.ContextReferenceIdeal.nD,
    (Cert.Pre_finite_context.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3)) (m ((c.tc : Thread Cert.ContextReferenceIdeal.nD Cert.ContextReferenceIdeal.τ).loc Cert.ContextReferenceIdeal.main_arg4)) (m ((c.tc : Thread Cert.ContextReferenceIdeal.nD Cert.ContextReferenceIdeal.τ).loc Cert.ContextReferenceIdeal.main_arg5)) (m ((c.tc : Thread Cert.ContextReferenceIdeal.nD Cert.ContextReferenceIdeal.τ).loc Cert.ContextReferenceIdeal.main_arg6)) (m ((c.tc : Thread Cert.ContextReferenceIdeal.nD Cert.ContextReferenceIdeal.τ).loc Cert.ContextReferenceIdeal.main_arg7)) (m ((c.tc : Thread Cert.ContextReferenceIdeal.nD Cert.ContextReferenceIdeal.τ).loc Cert.ContextReferenceIdeal.main_arg8)) (m ((c.tc : Thread Cert.ContextReferenceIdeal.nD Cert.ContextReferenceIdeal.τ).loc Cert.ContextReferenceIdeal.main_arg9)) (m ((c.tc : Thread Cert.ContextReferenceIdeal.nD Cert.ContextReferenceIdeal.τ).loc Cert.ContextReferenceIdeal.main_arg10)) (m ((c.tc : Thread Cert.ContextReferenceIdeal.nD Cert.ContextReferenceIdeal.τ).loc Cert.ContextReferenceIdeal.main_arg11)) (m ((c.tc : Thread Cert.ContextReferenceIdeal.nD Cert.ContextReferenceIdeal.τ).loc Cert.ContextReferenceIdeal.main_arg12))).1 = (fun _ => 1#1)
    ∧ (Cert.Pre_finite_context.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3)) (m ((c.tc : Thread Cert.ContextReferenceIdeal.nD Cert.ContextReferenceIdeal.τ).loc Cert.ContextReferenceIdeal.main_arg4)) (m ((c.tc : Thread Cert.ContextReferenceIdeal.nD Cert.ContextReferenceIdeal.τ).loc Cert.ContextReferenceIdeal.main_arg5)) (m ((c.tc : Thread Cert.ContextReferenceIdeal.nD Cert.ContextReferenceIdeal.τ).loc Cert.ContextReferenceIdeal.main_arg6)) (m ((c.tc : Thread Cert.ContextReferenceIdeal.nD Cert.ContextReferenceIdeal.τ).loc Cert.ContextReferenceIdeal.main_arg7)) (m ((c.tc : Thread Cert.ContextReferenceIdeal.nD Cert.ContextReferenceIdeal.τ).loc Cert.ContextReferenceIdeal.main_arg8)) (m ((c.tc : Thread Cert.ContextReferenceIdeal.nD Cert.ContextReferenceIdeal.τ).loc Cert.ContextReferenceIdeal.main_arg9)) (m ((c.tc : Thread Cert.ContextReferenceIdeal.nD Cert.ContextReferenceIdeal.τ).loc Cert.ContextReferenceIdeal.main_arg10)) (m ((c.tc : Thread Cert.ContextReferenceIdeal.nD Cert.ContextReferenceIdeal.τ).loc Cert.ContextReferenceIdeal.main_arg11)) (m ((c.tc : Thread Cert.ContextReferenceIdeal.nD Cert.ContextReferenceIdeal.τ).loc Cert.ContextReferenceIdeal.main_arg12))).2.1 = (fun _ => 1#1)
    ∧ (Cert.Pre_finite_context.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3)) (m ((c.tc : Thread Cert.ContextReferenceIdeal.nD Cert.ContextReferenceIdeal.τ).loc Cert.ContextReferenceIdeal.main_arg4)) (m ((c.tc : Thread Cert.ContextReferenceIdeal.nD Cert.ContextReferenceIdeal.τ).loc Cert.ContextReferenceIdeal.main_arg5)) (m ((c.tc : Thread Cert.ContextReferenceIdeal.nD Cert.ContextReferenceIdeal.τ).loc Cert.ContextReferenceIdeal.main_arg6)) (m ((c.tc : Thread Cert.ContextReferenceIdeal.nD Cert.ContextReferenceIdeal.τ).loc Cert.ContextReferenceIdeal.main_arg7)) (m ((c.tc : Thread Cert.ContextReferenceIdeal.nD Cert.ContextReferenceIdeal.τ).loc Cert.ContextReferenceIdeal.main_arg8)) (m ((c.tc : Thread Cert.ContextReferenceIdeal.nD Cert.ContextReferenceIdeal.τ).loc Cert.ContextReferenceIdeal.main_arg9)) (m ((c.tc : Thread Cert.ContextReferenceIdeal.nD Cert.ContextReferenceIdeal.τ).loc Cert.ContextReferenceIdeal.main_arg10)) (m ((c.tc : Thread Cert.ContextReferenceIdeal.nD Cert.ContextReferenceIdeal.τ).loc Cert.ContextReferenceIdeal.main_arg11)) (m ((c.tc : Thread Cert.ContextReferenceIdeal.nD Cert.ContextReferenceIdeal.τ).loc Cert.ContextReferenceIdeal.main_arg12))).2.2.1 = (fun _ => 1#1)
    ∧ (Cert.Pre_finite_context.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3)) (m ((c.tc : Thread Cert.ContextReferenceIdeal.nD Cert.ContextReferenceIdeal.τ).loc Cert.ContextReferenceIdeal.main_arg4)) (m ((c.tc : Thread Cert.ContextReferenceIdeal.nD Cert.ContextReferenceIdeal.τ).loc Cert.ContextReferenceIdeal.main_arg5)) (m ((c.tc : Thread Cert.ContextReferenceIdeal.nD Cert.ContextReferenceIdeal.τ).loc Cert.ContextReferenceIdeal.main_arg6)) (m ((c.tc : Thread Cert.ContextReferenceIdeal.nD Cert.ContextReferenceIdeal.τ).loc Cert.ContextReferenceIdeal.main_arg7)) (m ((c.tc : Thread Cert.ContextReferenceIdeal.nD Cert.ContextReferenceIdeal.τ).loc Cert.ContextReferenceIdeal.main_arg8)) (m ((c.tc : Thread Cert.ContextReferenceIdeal.nD Cert.ContextReferenceIdeal.τ).loc Cert.ContextReferenceIdeal.main_arg9)) (m ((c.tc : Thread Cert.ContextReferenceIdeal.nD Cert.ContextReferenceIdeal.τ).loc Cert.ContextReferenceIdeal.main_arg10)) (m ((c.tc : Thread Cert.ContextReferenceIdeal.nD Cert.ContextReferenceIdeal.τ).loc Cert.ContextReferenceIdeal.main_arg11)) (m ((c.tc : Thread Cert.ContextReferenceIdeal.nD Cert.ContextReferenceIdeal.τ).loc Cert.ContextReferenceIdeal.main_arg12))).2.2.2.1 = (fun _ => 1#1)
    ∧ (Cert.Pre_finite_context.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3)) (m ((c.tc : Thread Cert.ContextReferenceIdeal.nD Cert.ContextReferenceIdeal.τ).loc Cert.ContextReferenceIdeal.main_arg4)) (m ((c.tc : Thread Cert.ContextReferenceIdeal.nD Cert.ContextReferenceIdeal.τ).loc Cert.ContextReferenceIdeal.main_arg5)) (m ((c.tc : Thread Cert.ContextReferenceIdeal.nD Cert.ContextReferenceIdeal.τ).loc Cert.ContextReferenceIdeal.main_arg6)) (m ((c.tc : Thread Cert.ContextReferenceIdeal.nD Cert.ContextReferenceIdeal.τ).loc Cert.ContextReferenceIdeal.main_arg7)) (m ((c.tc : Thread Cert.ContextReferenceIdeal.nD Cert.ContextReferenceIdeal.τ).loc Cert.ContextReferenceIdeal.main_arg8)) (m ((c.tc : Thread Cert.ContextReferenceIdeal.nD Cert.ContextReferenceIdeal.τ).loc Cert.ContextReferenceIdeal.main_arg9)) (m ((c.tc : Thread Cert.ContextReferenceIdeal.nD Cert.ContextReferenceIdeal.τ).loc Cert.ContextReferenceIdeal.main_arg10)) (m ((c.tc : Thread Cert.ContextReferenceIdeal.nD Cert.ContextReferenceIdeal.τ).loc Cert.ContextReferenceIdeal.main_arg11)) (m ((c.tc : Thread Cert.ContextReferenceIdeal.nD Cert.ContextReferenceIdeal.τ).loc Cert.ContextReferenceIdeal.main_arg12))).2.2.2.2.1 = (fun _ => 1#1)
    ∧ (Cert.Pre_finite_context.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3)) (m ((c.tc : Thread Cert.ContextReferenceIdeal.nD Cert.ContextReferenceIdeal.τ).loc Cert.ContextReferenceIdeal.main_arg4)) (m ((c.tc : Thread Cert.ContextReferenceIdeal.nD Cert.ContextReferenceIdeal.τ).loc Cert.ContextReferenceIdeal.main_arg5)) (m ((c.tc : Thread Cert.ContextReferenceIdeal.nD Cert.ContextReferenceIdeal.τ).loc Cert.ContextReferenceIdeal.main_arg6)) (m ((c.tc : Thread Cert.ContextReferenceIdeal.nD Cert.ContextReferenceIdeal.τ).loc Cert.ContextReferenceIdeal.main_arg7)) (m ((c.tc : Thread Cert.ContextReferenceIdeal.nD Cert.ContextReferenceIdeal.τ).loc Cert.ContextReferenceIdeal.main_arg8)) (m ((c.tc : Thread Cert.ContextReferenceIdeal.nD Cert.ContextReferenceIdeal.τ).loc Cert.ContextReferenceIdeal.main_arg9)) (m ((c.tc : Thread Cert.ContextReferenceIdeal.nD Cert.ContextReferenceIdeal.τ).loc Cert.ContextReferenceIdeal.main_arg10)) (m ((c.tc : Thread Cert.ContextReferenceIdeal.nD Cert.ContextReferenceIdeal.τ).loc Cert.ContextReferenceIdeal.main_arg11)) (m ((c.tc : Thread Cert.ContextReferenceIdeal.nD Cert.ContextReferenceIdeal.τ).loc Cert.ContextReferenceIdeal.main_arg12))).2.2.2.2.2.1 = (fun _ => 1#1)
    ∧ (Cert.Pre_finite_context.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3)) (m ((c.tc : Thread Cert.ContextReferenceIdeal.nD Cert.ContextReferenceIdeal.τ).loc Cert.ContextReferenceIdeal.main_arg4)) (m ((c.tc : Thread Cert.ContextReferenceIdeal.nD Cert.ContextReferenceIdeal.τ).loc Cert.ContextReferenceIdeal.main_arg5)) (m ((c.tc : Thread Cert.ContextReferenceIdeal.nD Cert.ContextReferenceIdeal.τ).loc Cert.ContextReferenceIdeal.main_arg6)) (m ((c.tc : Thread Cert.ContextReferenceIdeal.nD Cert.ContextReferenceIdeal.τ).loc Cert.ContextReferenceIdeal.main_arg7)) (m ((c.tc : Thread Cert.ContextReferenceIdeal.nD Cert.ContextReferenceIdeal.τ).loc Cert.ContextReferenceIdeal.main_arg8)) (m ((c.tc : Thread Cert.ContextReferenceIdeal.nD Cert.ContextReferenceIdeal.τ).loc Cert.ContextReferenceIdeal.main_arg9)) (m ((c.tc : Thread Cert.ContextReferenceIdeal.nD Cert.ContextReferenceIdeal.τ).loc Cert.ContextReferenceIdeal.main_arg10)) (m ((c.tc : Thread Cert.ContextReferenceIdeal.nD Cert.ContextReferenceIdeal.τ).loc Cert.ContextReferenceIdeal.main_arg11)) (m ((c.tc : Thread Cert.ContextReferenceIdeal.nD Cert.ContextReferenceIdeal.τ).loc Cert.ContextReferenceIdeal.main_arg12))).2.2.2.2.2.2.1 = (fun _ => 1#1)
    ∧ (Cert.Pre_finite_context.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3)) (m ((c.tc : Thread Cert.ContextReferenceIdeal.nD Cert.ContextReferenceIdeal.τ).loc Cert.ContextReferenceIdeal.main_arg4)) (m ((c.tc : Thread Cert.ContextReferenceIdeal.nD Cert.ContextReferenceIdeal.τ).loc Cert.ContextReferenceIdeal.main_arg5)) (m ((c.tc : Thread Cert.ContextReferenceIdeal.nD Cert.ContextReferenceIdeal.τ).loc Cert.ContextReferenceIdeal.main_arg6)) (m ((c.tc : Thread Cert.ContextReferenceIdeal.nD Cert.ContextReferenceIdeal.τ).loc Cert.ContextReferenceIdeal.main_arg7)) (m ((c.tc : Thread Cert.ContextReferenceIdeal.nD Cert.ContextReferenceIdeal.τ).loc Cert.ContextReferenceIdeal.main_arg8)) (m ((c.tc : Thread Cert.ContextReferenceIdeal.nD Cert.ContextReferenceIdeal.τ).loc Cert.ContextReferenceIdeal.main_arg9)) (m ((c.tc : Thread Cert.ContextReferenceIdeal.nD Cert.ContextReferenceIdeal.τ).loc Cert.ContextReferenceIdeal.main_arg10)) (m ((c.tc : Thread Cert.ContextReferenceIdeal.nD Cert.ContextReferenceIdeal.τ).loc Cert.ContextReferenceIdeal.main_arg11)) (m ((c.tc : Thread Cert.ContextReferenceIdeal.nD Cert.ContextReferenceIdeal.τ).loc Cert.ContextReferenceIdeal.main_arg12))).2.2.2.2.2.2.2 = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_Cache (m : (ℓ : Loc Cert.Cache.nD Cert.Cache.τ Cert.Cache.sig) → Buf (Elt Bits) ℓ) : Prop :=
  True

def Pre_CacheIdeal (m : (ℓ : Loc Cert.CacheIdeal.nD Cert.CacheIdeal.τ Cert.CacheIdeal.sig) → Buf (Elt Ideal) ℓ) : Prop :=
  True

def Pre_CacheReferenceIdeal (m : (ℓ : Loc Cert.CacheReferenceIdeal.nD Cert.CacheReferenceIdeal.τ Cert.CacheReferenceIdeal.sig) → Buf (Elt Ideal) ℓ) : Prop :=
  True

def Pre_Tokens (m : (ℓ : Loc Cert.Tokens.nD Cert.Tokens.τ Cert.Tokens.sig) → Buf (Elt Bits) ℓ) : Prop :=
  True

def Pre_TokensIdeal (m : (ℓ : Loc Cert.TokensIdeal.nD Cert.TokensIdeal.τ Cert.TokensIdeal.sig) → Buf (Elt Ideal) ℓ) : Prop :=
  True

def Pre_TokensReferenceIdeal (m : (ℓ : Loc Cert.TokensReferenceIdeal.nD Cert.TokensReferenceIdeal.τ Cert.TokensReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Inputs [hInputs : Cert.Inputs.Facts] : Prop :=
  ∀ (m : (ℓ : Loc Cert.Inputs.nD Cert.Inputs.τ Cert.Inputs.sig) → Buf (Elt Bits) ℓ) (g : Dev Cert.Inputs.nD → PrngReg), Pre_Inputs m →
    θ_run (Cert.Inputs.defs (F := Bits)) (onTc (τ := Cert.Inputs.τ) (Cert.Inputs.main (F := Bits))) ⟨m, fun _ => 0, g⟩ (fun r => (∀ c : Dev Cert.Inputs.nD,
      r.2.mem ((c.tc : Thread Cert.Inputs.nD Cert.Inputs.τ).loc Cert.Inputs.main_arg0) = m ((c.tc : Thread Cert.Inputs.nD Cert.Inputs.τ).loc Cert.Inputs.main_arg0)
      ∧ r.2.mem ((c.tc : Thread Cert.Inputs.nD Cert.Inputs.τ).loc Cert.Inputs.main_arg1) = m ((c.tc : Thread Cert.Inputs.nD Cert.Inputs.τ).loc Cert.Inputs.main_arg1)
      ∧ r.2.mem ((c.tc : Thread Cert.Inputs.nD Cert.Inputs.τ).loc Cert.Inputs.main_arg2) = m ((c.tc : Thread Cert.Inputs.nD Cert.Inputs.τ).loc Cert.Inputs.main_arg2)
      ∧ r.2.mem ((c.tc : Thread Cert.Inputs.nD Cert.Inputs.τ).loc Cert.Inputs.main_arg3) = m ((c.tc : Thread Cert.Inputs.nD Cert.Inputs.τ).loc Cert.Inputs.main_arg3)
      ∧ r.2.mem ((c.tc : Thread Cert.Inputs.nD Cert.Inputs.τ).loc Cert.Inputs.main_arg4) = m ((c.tc : Thread Cert.Inputs.nD Cert.Inputs.τ).loc Cert.Inputs.main_arg4)
      ∧ r.2.mem ((c.tc : Thread Cert.Inputs.nD Cert.Inputs.τ).loc Cert.Inputs.main_arg5) = m ((c.tc : Thread Cert.Inputs.nD Cert.Inputs.τ).loc Cert.Inputs.main_arg5)
      ∧ r.2.mem ((c.tc : Thread Cert.Inputs.nD Cert.Inputs.τ).loc Cert.Inputs.main_arg6) = m ((c.tc : Thread Cert.Inputs.nD Cert.Inputs.τ).loc Cert.Inputs.main_arg6))
      ∧ r.2.sem = fun _ => 0)

def quiescent_InputsIdeal [hInputsIdeal : Cert.InputsIdeal.Facts] : Prop :=
  ∀ (m : (ℓ : Loc Cert.InputsIdeal.nD Cert.InputsIdeal.τ Cert.InputsIdeal.sig) → Buf (Elt Ideal) ℓ) (g : Dev Cert.InputsIdeal.nD → PrngReg), Pre_InputsIdeal m →
    θ_run (Cert.InputsIdeal.defs (F := Ideal)) (onTc (τ := Cert.InputsIdeal.τ) (Cert.InputsIdeal.main (F := Ideal))) ⟨m, fun _ => 0, g⟩ (fun r => (∀ c : Dev Cert.InputsIdeal.nD,
      r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
      ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
      ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
      ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3)
      ∧ r.2.mem ((c.tc : Thread Cert.InputsIdeal.nD Cert.InputsIdeal.τ).loc Cert.InputsIdeal.main_arg4) = m ((c.tc : Thread Cert.InputsIdeal.nD Cert.InputsIdeal.τ).loc Cert.InputsIdeal.main_arg4)
      ∧ r.2.mem ((c.tc : Thread Cert.InputsIdeal.nD Cert.InputsIdeal.τ).loc Cert.InputsIdeal.main_arg5) = m ((c.tc : Thread Cert.InputsIdeal.nD Cert.InputsIdeal.τ).loc Cert.InputsIdeal.main_arg5)
      ∧ r.2.mem ((c.tc : Thread Cert.InputsIdeal.nD Cert.InputsIdeal.τ).loc Cert.InputsIdeal.main_arg6) = m ((c.tc : Thread Cert.InputsIdeal.nD Cert.InputsIdeal.τ).loc Cert.InputsIdeal.main_arg6))
      ∧ r.2.sem = fun _ => 0)

def quiescent_InputsReferenceIdeal [hInputsReferenceIdeal : Cert.InputsReferenceIdeal.Facts] : Prop :=
  ∀ (m : (ℓ : Loc Cert.InputsReferenceIdeal.nD Cert.InputsReferenceIdeal.τ Cert.InputsReferenceIdeal.sig) → Buf (Elt Ideal) ℓ) (g : Dev Cert.InputsReferenceIdeal.nD → PrngReg), Pre_InputsReferenceIdeal m →
    θ_run (Cert.InputsReferenceIdeal.defs (F := Ideal)) (onTc (τ := Cert.InputsReferenceIdeal.τ) (Cert.InputsReferenceIdeal.main (F := Ideal))) ⟨m, fun _ => 0, g⟩ (fun r => (∀ c : Dev Cert.InputsReferenceIdeal.nD,
      r.2.mem ((c.tc : Thread Cert.InputsReferenceIdeal.nD Cert.InputsReferenceIdeal.τ).loc Cert.InputsReferenceIdeal.main_arg0) = m ((c.tc : Thread Cert.InputsReferenceIdeal.nD Cert.InputsReferenceIdeal.τ).loc Cert.InputsReferenceIdeal.main_arg0)
      ∧ r.2.mem ((c.tc : Thread Cert.InputsReferenceIdeal.nD Cert.InputsReferenceIdeal.τ).loc Cert.InputsReferenceIdeal.main_arg1) = m ((c.tc : Thread Cert.InputsReferenceIdeal.nD Cert.InputsReferenceIdeal.τ).loc Cert.InputsReferenceIdeal.main_arg1)
      ∧ r.2.mem ((c.tc : Thread Cert.InputsReferenceIdeal.nD Cert.InputsReferenceIdeal.τ).loc Cert.InputsReferenceIdeal.main_arg2) = m ((c.tc : Thread Cert.InputsReferenceIdeal.nD Cert.InputsReferenceIdeal.τ).loc Cert.InputsReferenceIdeal.main_arg2)
      ∧ r.2.mem ((c.tc : Thread Cert.InputsReferenceIdeal.nD Cert.InputsReferenceIdeal.τ).loc Cert.InputsReferenceIdeal.main_arg3) = m ((c.tc : Thread Cert.InputsReferenceIdeal.nD Cert.InputsReferenceIdeal.τ).loc Cert.InputsReferenceIdeal.main_arg3)
      ∧ r.2.mem ((c.tc : Thread Cert.InputsReferenceIdeal.nD Cert.InputsReferenceIdeal.τ).loc Cert.InputsReferenceIdeal.main_arg4) = m ((c.tc : Thread Cert.InputsReferenceIdeal.nD Cert.InputsReferenceIdeal.τ).loc Cert.InputsReferenceIdeal.main_arg4)
      ∧ r.2.mem ((c.tc : Thread Cert.InputsReferenceIdeal.nD Cert.InputsReferenceIdeal.τ).loc Cert.InputsReferenceIdeal.main_arg5) = m ((c.tc : Thread Cert.InputsReferenceIdeal.nD Cert.InputsReferenceIdeal.τ).loc Cert.InputsReferenceIdeal.main_arg5)
      ∧ r.2.mem ((c.tc : Thread Cert.InputsReferenceIdeal.nD Cert.InputsReferenceIdeal.τ).loc Cert.InputsReferenceIdeal.main_arg6) = m ((c.tc : Thread Cert.InputsReferenceIdeal.nD Cert.InputsReferenceIdeal.τ).loc Cert.InputsReferenceIdeal.main_arg6))
      ∧ r.2.sem = fun _ => 0)

def quiescent_Experts [hExperts : Cert.Experts.Facts] [hPre_tiles_named : Cert.Pre_tiles_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tiles_named : Cert.Pre_tiles_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_tiles_named [hExpertsReferenceIdeal : Cert.ExpertsReferenceIdeal.Facts] [hPre_tiles_named : Cert.Pre_tiles_named.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tiles_named m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8)
      ∧ r.2.mem ((c.tc : Thread Cert.Combine.nD Cert.Combine.τ).loc Cert.Combine.main_arg9) = m ((c.tc : Thread Cert.Combine.nD Cert.Combine.τ).loc Cert.Combine.main_arg9))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6)
      ∧ r.2.mem ((c.tc : Thread Cert.CombineReferenceIdeal.nD Cert.CombineReferenceIdeal.τ).loc Cert.CombineReferenceIdeal.main_arg7) = m ((c.tc : Thread Cert.CombineReferenceIdeal.nD Cert.CombineReferenceIdeal.τ).loc Cert.CombineReferenceIdeal.main_arg7)
      ∧ r.2.mem ((c.tc : Thread Cert.CombineReferenceIdeal.nD Cert.CombineReferenceIdeal.τ).loc Cert.CombineReferenceIdeal.main_arg8) = m ((c.tc : Thread Cert.CombineReferenceIdeal.nD Cert.CombineReferenceIdeal.τ).loc Cert.CombineReferenceIdeal.main_arg8)
      ∧ r.2.mem ((c.tc : Thread Cert.CombineReferenceIdeal.nD Cert.CombineReferenceIdeal.τ).loc Cert.CombineReferenceIdeal.main_arg9) = m ((c.tc : Thread Cert.CombineReferenceIdeal.nD Cert.CombineReferenceIdeal.τ).loc Cert.CombineReferenceIdeal.main_arg9))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6)
      ∧ r.2.mem ((c.tc : Thread Cert.Latent.nD Cert.Latent.τ).loc Cert.Latent.main_arg7) = m ((c.tc : Thread Cert.Latent.nD Cert.Latent.τ).loc Cert.Latent.main_arg7))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6)
      ∧ r.2.mem ((c.tc : Thread Cert.LatentIdeal.nD Cert.LatentIdeal.τ).loc Cert.LatentIdeal.main_arg7) = m ((c.tc : Thread Cert.LatentIdeal.nD Cert.LatentIdeal.τ).loc Cert.LatentIdeal.main_arg7))
      ∧ r.2.sem = fun _ => 0)

def quiescent_LatentIdeal_pre_finite_latents [hLatentIdeal : Cert.LatentIdeal.Facts] [hPre_finite_latents : Cert.Pre_finite_latents.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_latents m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6)
      ∧ r.2.mem ((c.tc : Thread Cert.LatentIdeal.nD Cert.LatentIdeal.τ).loc Cert.LatentIdeal.main_arg7) = m ((c.tc : Thread Cert.LatentIdeal.nD Cert.LatentIdeal.τ).loc Cert.LatentIdeal.main_arg7))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6)
      ∧ r.2.mem ((c.tc : Thread Cert.LatentReferenceIdeal.nD Cert.LatentReferenceIdeal.τ).loc Cert.LatentReferenceIdeal.main_arg7) = m ((c.tc : Thread Cert.LatentReferenceIdeal.nD Cert.LatentReferenceIdeal.τ).loc Cert.LatentReferenceIdeal.main_arg7))
      ∧ r.2.sem = fun _ => 0)

def quiescent_LatentReferenceIdeal_pre_finite_latents [hLatentReferenceIdeal : Cert.LatentReferenceIdeal.Facts] [hPre_finite_latents : Cert.Pre_finite_latents.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_finite_latents m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6)
      ∧ r.2.mem ((c.tc : Thread Cert.LatentReferenceIdeal.nD Cert.LatentReferenceIdeal.τ).loc Cert.LatentReferenceIdeal.main_arg7) = m ((c.tc : Thread Cert.LatentReferenceIdeal.nD Cert.LatentReferenceIdeal.τ).loc Cert.LatentReferenceIdeal.main_arg7))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3)
      ∧ r.2.mem ((c.tc : Thread Cert.Context.nD Cert.Context.τ).loc Cert.Context.main_arg4) = m ((c.tc : Thread Cert.Context.nD Cert.Context.τ).loc Cert.Context.main_arg4)
      ∧ r.2.mem ((c.tc : Thread Cert.Context.nD Cert.Context.τ).loc Cert.Context.main_arg5) = m ((c.tc : Thread Cert.Context.nD Cert.Context.τ).loc Cert.Context.main_arg5)
      ∧ r.2.mem ((c.tc : Thread Cert.Context.nD Cert.Context.τ).loc Cert.Context.main_arg6) = m ((c.tc : Thread Cert.Context.nD Cert.Context.τ).loc Cert.Context.main_arg6)
      ∧ r.2.mem ((c.tc : Thread Cert.Context.nD Cert.Context.τ).loc Cert.Context.main_arg7) = m ((c.tc : Thread Cert.Context.nD Cert.Context.τ).loc Cert.Context.main_arg7)
      ∧ r.2.mem ((c.tc : Thread Cert.Context.nD Cert.Context.τ).loc Cert.Context.main_arg8) = m ((c.tc : Thread Cert.Context.nD Cert.Context.τ).loc Cert.Context.main_arg8)
      ∧ r.2.mem ((c.tc : Thread Cert.Context.nD Cert.Context.τ).loc Cert.Context.main_arg9) = m ((c.tc : Thread Cert.Context.nD Cert.Context.τ).loc Cert.Context.main_arg9)
      ∧ r.2.mem ((c.tc : Thread Cert.Context.nD Cert.Context.τ).loc Cert.Context.main_arg10) = m ((c.tc : Thread Cert.Context.nD Cert.Context.τ).loc Cert.Context.main_arg10)
      ∧ r.2.mem ((c.tc : Thread Cert.Context.nD Cert.Context.τ).loc Cert.Context.main_arg11) = m ((c.tc : Thread Cert.Context.nD Cert.Context.τ).loc Cert.Context.main_arg11)
      ∧ r.2.mem ((c.tc : Thread Cert.Context.nD Cert.Context.τ).loc Cert.Context.main_arg12) = m ((c.tc : Thread Cert.Context.nD Cert.Context.τ).loc Cert.Context.main_arg12))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6)
      ∧ r.2.mem ((c.tc : Thread Cert.ContextIdeal.nD Cert.ContextIdeal.τ).loc Cert.ContextIdeal.main_arg7) = m ((c.tc : Thread Cert.ContextIdeal.nD Cert.ContextIdeal.τ).loc Cert.ContextIdeal.main_arg7)
      ∧ r.2.mem ((c.tc : Thread Cert.ContextIdeal.nD Cert.ContextIdeal.τ).loc Cert.ContextIdeal.main_arg8) = m ((c.tc : Thread Cert.ContextIdeal.nD Cert.ContextIdeal.τ).loc Cert.ContextIdeal.main_arg8)
      ∧ r.2.mem ((c.tc : Thread Cert.ContextIdeal.nD Cert.ContextIdeal.τ).loc Cert.ContextIdeal.main_arg9) = m ((c.tc : Thread Cert.ContextIdeal.nD Cert.ContextIdeal.τ).loc Cert.ContextIdeal.main_arg9)
      ∧ r.2.mem ((c.tc : Thread Cert.ContextIdeal.nD Cert.ContextIdeal.τ).loc Cert.ContextIdeal.main_arg10) = m ((c.tc : Thread Cert.ContextIdeal.nD Cert.ContextIdeal.τ).loc Cert.ContextIdeal.main_arg10)
      ∧ r.2.mem ((c.tc : Thread Cert.ContextIdeal.nD Cert.ContextIdeal.τ).loc Cert.ContextIdeal.main_arg11) = m ((c.tc : Thread Cert.ContextIdeal.nD Cert.ContextIdeal.τ).loc Cert.ContextIdeal.main_arg11)
      ∧ r.2.mem ((c.tc : Thread Cert.ContextIdeal.nD Cert.ContextIdeal.τ).loc Cert.ContextIdeal.main_arg12) = m ((c.tc : Thread Cert.ContextIdeal.nD Cert.ContextIdeal.τ).loc Cert.ContextIdeal.main_arg12))
      ∧ r.2.sem = fun _ => 0)

def quiescent_ContextIdeal_pre_finite_context [hContextIdeal : Cert.ContextIdeal.Facts] [hPre_finite_context : Cert.Pre_finite_context.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal_finite_context m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6)
      ∧ r.2.mem ((c.tc : Thread Cert.ContextIdeal.nD Cert.ContextIdeal.τ).loc Cert.ContextIdeal.main_arg7) = m ((c.tc : Thread Cert.ContextIdeal.nD Cert.ContextIdeal.τ).loc Cert.ContextIdeal.main_arg7)
      ∧ r.2.mem ((c.tc : Thread Cert.ContextIdeal.nD Cert.ContextIdeal.τ).loc Cert.ContextIdeal.main_arg8) = m ((c.tc : Thread Cert.ContextIdeal.nD Cert.ContextIdeal.τ).loc Cert.ContextIdeal.main_arg8)
      ∧ r.2.mem ((c.tc : Thread Cert.ContextIdeal.nD Cert.ContextIdeal.τ).loc Cert.ContextIdeal.main_arg9) = m ((c.tc : Thread Cert.ContextIdeal.nD Cert.ContextIdeal.τ).loc Cert.ContextIdeal.main_arg9)
      ∧ r.2.mem ((c.tc : Thread Cert.ContextIdeal.nD Cert.ContextIdeal.τ).loc Cert.ContextIdeal.main_arg10) = m ((c.tc : Thread Cert.ContextIdeal.nD Cert.ContextIdeal.τ).loc Cert.ContextIdeal.main_arg10)
      ∧ r.2.mem ((c.tc : Thread Cert.ContextIdeal.nD Cert.ContextIdeal.τ).loc Cert.ContextIdeal.main_arg11) = m ((c.tc : Thread Cert.ContextIdeal.nD Cert.ContextIdeal.τ).loc Cert.ContextIdeal.main_arg11)
      ∧ r.2.mem ((c.tc : Thread Cert.ContextIdeal.nD Cert.ContextIdeal.τ).loc Cert.ContextIdeal.main_arg12) = m ((c.tc : Thread Cert.ContextIdeal.nD Cert.ContextIdeal.τ).loc Cert.ContextIdeal.main_arg12))
      ∧ r.2.sem = fun _ => 0)

def quiescent_ContextReferenceIdeal [hContextReferenceIdeal : Cert.ContextReferenceIdeal.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
      ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3)
      ∧ r.2.mem ((c.tc : Thread Cert.ContextReferenceIdeal.nD Cert.ContextReferenceIdeal.τ).loc Cert.ContextReferenceIdeal.main_arg4) = m ((c.tc : Thread Cert.ContextReferenceIdeal.nD Cert.ContextReferenceIdeal.τ).loc Cert.ContextReferenceIdeal.main_arg4)
      ∧ r.2.mem ((c.tc : Thread Cert.ContextReferenceIdeal.nD Cert.ContextReferenceIdeal.τ).loc Cert.ContextReferenceIdeal.main_arg5) = m ((c.tc : Thread Cert.ContextReferenceIdeal.nD Cert.ContextReferenceIdeal.τ).loc Cert.ContextReferenceIdeal.main_arg5)
      ∧ r.2.mem ((c.tc : Thread Cert.ContextReferenceIdeal.nD Cert.ContextReferenceIdeal.τ).loc Cert.ContextReferenceIdeal.main_arg6) = m ((c.tc : Thread Cert.ContextReferenceIdeal.nD Cert.ContextReferenceIdeal.τ).loc Cert.ContextReferenceIdeal.main_arg6)
      ∧ r.2.mem ((c.tc : Thread Cert.ContextReferenceIdeal.nD Cert.ContextReferenceIdeal.τ).loc Cert.ContextReferenceIdeal.main_arg7) = m ((c.tc : Thread Cert.ContextReferenceIdeal.nD Cert.ContextReferenceIdeal.τ).loc Cert.ContextReferenceIdeal.main_arg7)
      ∧ r.2.mem ((c.tc : Thread Cert.ContextReferenceIdeal.nD Cert.ContextReferenceIdeal.τ).loc Cert.ContextReferenceIdeal.main_arg8) = m ((c.tc : Thread Cert.ContextReferenceIdeal.nD Cert.ContextReferenceIdeal.τ).loc Cert.ContextReferenceIdeal.main_arg8)
      ∧ r.2.mem ((c.tc : Thread Cert.ContextReferenceIdeal.nD Cert.ContextReferenceIdeal.τ).loc Cert.ContextReferenceIdeal.main_arg9) = m ((c.tc : Thread Cert.ContextReferenceIdeal.nD Cert.ContextReferenceIdeal.τ).loc Cert.ContextReferenceIdeal.main_arg9)
      ∧ r.2.mem ((c.tc : Thread Cert.ContextReferenceIdeal.nD Cert.ContextReferenceIdeal.τ).loc Cert.ContextReferenceIdeal.main_arg10) = m ((c.tc : Thread Cert.ContextReferenceIdeal.nD Cert.ContextReferenceIdeal.τ).loc Cert.ContextReferenceIdeal.main_arg10)
      ∧ r.2.mem ((c.tc : Thread Cert.ContextReferenceIdeal.nD Cert.ContextReferenceIdeal.τ).loc Cert.ContextReferenceIdeal.main_arg11) = m ((c.tc : Thread Cert.ContextReferenceIdeal.nD Cert.ContextReferenceIdeal.τ).loc Cert.ContextReferenceIdeal.main_arg11)
      ∧ r.2.mem ((c.tc : Thread Cert.ContextReferenceIdeal.nD Cert.ContextReferenceIdeal.τ).loc Cert.ContextReferenceIdeal.main_arg12) = m ((c.tc : Thread Cert.ContextReferenceIdeal.nD Cert.ContextReferenceIdeal.τ).loc Cert.ContextReferenceIdeal.main_arg12))
      ∧ r.2.sem = fun _ => 0)

def quiescent_ContextReferenceIdeal_pre_finite_context [hContextReferenceIdeal : Cert.ContextReferenceIdeal.Facts] [hPre_finite_context : Cert.Pre_finite_context.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal_finite_context m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
      ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3)
      ∧ r.2.mem ((c.tc : Thread Cert.ContextReferenceIdeal.nD Cert.ContextReferenceIdeal.τ).loc Cert.ContextReferenceIdeal.main_arg4) = m ((c.tc : Thread Cert.ContextReferenceIdeal.nD Cert.ContextReferenceIdeal.τ).loc Cert.ContextReferenceIdeal.main_arg4)
      ∧ r.2.mem ((c.tc : Thread Cert.ContextReferenceIdeal.nD Cert.ContextReferenceIdeal.τ).loc Cert.ContextReferenceIdeal.main_arg5) = m ((c.tc : Thread Cert.ContextReferenceIdeal.nD Cert.ContextReferenceIdeal.τ).loc Cert.ContextReferenceIdeal.main_arg5)
      ∧ r.2.mem ((c.tc : Thread Cert.ContextReferenceIdeal.nD Cert.ContextReferenceIdeal.τ).loc Cert.ContextReferenceIdeal.main_arg6) = m ((c.tc : Thread Cert.ContextReferenceIdeal.nD Cert.ContextReferenceIdeal.τ).loc Cert.ContextReferenceIdeal.main_arg6)
      ∧ r.2.mem ((c.tc : Thread Cert.ContextReferenceIdeal.nD Cert.ContextReferenceIdeal.τ).loc Cert.ContextReferenceIdeal.main_arg7) = m ((c.tc : Thread Cert.ContextReferenceIdeal.nD Cert.ContextReferenceIdeal.τ).loc Cert.ContextReferenceIdeal.main_arg7)
      ∧ r.2.mem ((c.tc : Thread Cert.ContextReferenceIdeal.nD Cert.ContextReferenceIdeal.τ).loc Cert.ContextReferenceIdeal.main_arg8) = m ((c.tc : Thread Cert.ContextReferenceIdeal.nD Cert.ContextReferenceIdeal.τ).loc Cert.ContextReferenceIdeal.main_arg8)
      ∧ r.2.mem ((c.tc : Thread Cert.ContextReferenceIdeal.nD Cert.ContextReferenceIdeal.τ).loc Cert.ContextReferenceIdeal.main_arg9) = m ((c.tc : Thread Cert.ContextReferenceIdeal.nD Cert.ContextReferenceIdeal.τ).loc Cert.ContextReferenceIdeal.main_arg9)
      ∧ r.2.mem ((c.tc : Thread Cert.ContextReferenceIdeal.nD Cert.ContextReferenceIdeal.τ).loc Cert.ContextReferenceIdeal.main_arg10) = m ((c.tc : Thread Cert.ContextReferenceIdeal.nD Cert.ContextReferenceIdeal.τ).loc Cert.ContextReferenceIdeal.main_arg10)
      ∧ r.2.mem ((c.tc : Thread Cert.ContextReferenceIdeal.nD Cert.ContextReferenceIdeal.τ).loc Cert.ContextReferenceIdeal.main_arg11) = m ((c.tc : Thread Cert.ContextReferenceIdeal.nD Cert.ContextReferenceIdeal.τ).loc Cert.ContextReferenceIdeal.main_arg11)
      ∧ r.2.mem ((c.tc : Thread Cert.ContextReferenceIdeal.nD Cert.ContextReferenceIdeal.τ).loc Cert.ContextReferenceIdeal.main_arg12) = m ((c.tc : Thread Cert.ContextReferenceIdeal.nD Cert.ContextReferenceIdeal.τ).loc Cert.ContextReferenceIdeal.main_arg12))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_Cache [hCache : Cert.Cache.Facts] : Prop :=
  ∀ (m : (ℓ : Loc Cert.Cache.nD Cert.Cache.τ Cert.Cache.sig) → Buf (Elt Bits) ℓ) (g : Dev Cert.Cache.nD → PrngReg), Pre_Cache m →
    θ_run (Cert.Cache.defs (F := Bits)) (onTc (τ := Cert.Cache.τ) (Cert.Cache.main (F := Bits))) ⟨m, fun _ => 0, g⟩ (fun r => (∀ c : Dev Cert.Cache.nD,
      r.2.mem ((c.tc : Thread Cert.Cache.nD Cert.Cache.τ).loc Cert.Cache.main_arg0) = m ((c.tc : Thread Cert.Cache.nD Cert.Cache.τ).loc Cert.Cache.main_arg0)
      ∧ r.2.mem ((c.tc : Thread Cert.Cache.nD Cert.Cache.τ).loc Cert.Cache.main_arg1) = m ((c.tc : Thread Cert.Cache.nD Cert.Cache.τ).loc Cert.Cache.main_arg1)
      ∧ r.2.mem ((c.tc : Thread Cert.Cache.nD Cert.Cache.τ).loc Cert.Cache.main_arg2) = m ((c.tc : Thread Cert.Cache.nD Cert.Cache.τ).loc Cert.Cache.main_arg2))
      ∧ r.2.sem = fun _ => 0)

def quiescent_CacheIdeal [hCacheIdeal : Cert.CacheIdeal.Facts] : Prop :=
  ∀ (m : (ℓ : Loc Cert.CacheIdeal.nD Cert.CacheIdeal.τ Cert.CacheIdeal.sig) → Buf (Elt Ideal) ℓ) (g : Dev Cert.CacheIdeal.nD → PrngReg), Pre_CacheIdeal m →
    θ_run (Cert.CacheIdeal.defs (F := Ideal)) (onTc (τ := Cert.CacheIdeal.τ) (Cert.CacheIdeal.main (F := Ideal))) ⟨m, fun _ => 0, g⟩ (fun r => (∀ c : Dev Cert.CacheIdeal.nD,
      r.2.mem ((c.tc : Thread Cert.CacheIdeal.nD Cert.CacheIdeal.τ).loc Cert.CacheIdeal.main_arg0) = m ((c.tc : Thread Cert.CacheIdeal.nD Cert.CacheIdeal.τ).loc Cert.CacheIdeal.main_arg0)
      ∧ r.2.mem ((c.tc : Thread Cert.CacheIdeal.nD Cert.CacheIdeal.τ).loc Cert.CacheIdeal.main_arg1) = m ((c.tc : Thread Cert.CacheIdeal.nD Cert.CacheIdeal.τ).loc Cert.CacheIdeal.main_arg1)
      ∧ r.2.mem ((c.tc : Thread Cert.CacheIdeal.nD Cert.CacheIdeal.τ).loc Cert.CacheIdeal.main_arg2) = m ((c.tc : Thread Cert.CacheIdeal.nD Cert.CacheIdeal.τ).loc Cert.CacheIdeal.main_arg2))
      ∧ r.2.sem = fun _ => 0)

def quiescent_CacheReferenceIdeal [hCacheReferenceIdeal : Cert.CacheReferenceIdeal.Facts] : Prop :=
  ∀ (m : (ℓ : Loc Cert.CacheReferenceIdeal.nD Cert.CacheReferenceIdeal.τ Cert.CacheReferenceIdeal.sig) → Buf (Elt Ideal) ℓ) (g : Dev Cert.CacheReferenceIdeal.nD → PrngReg), Pre_CacheReferenceIdeal m →
    θ_run (Cert.CacheReferenceIdeal.defs (F := Ideal)) (onTc (τ := Cert.CacheReferenceIdeal.τ) (Cert.CacheReferenceIdeal.main (F := Ideal))) ⟨m, fun _ => 0, g⟩ (fun r => (∀ c : Dev Cert.CacheReferenceIdeal.nD,
      r.2.mem ((c.tc : Thread Cert.CacheReferenceIdeal.nD Cert.CacheReferenceIdeal.τ).loc Cert.CacheReferenceIdeal.main_arg0) = m ((c.tc : Thread Cert.CacheReferenceIdeal.nD Cert.CacheReferenceIdeal.τ).loc Cert.CacheReferenceIdeal.main_arg0)
      ∧ r.2.mem ((c.tc : Thread Cert.CacheReferenceIdeal.nD Cert.CacheReferenceIdeal.τ).loc Cert.CacheReferenceIdeal.main_arg1) = m ((c.tc : Thread Cert.CacheReferenceIdeal.nD Cert.CacheReferenceIdeal.τ).loc Cert.CacheReferenceIdeal.main_arg1)
      ∧ r.2.mem ((c.tc : Thread Cert.CacheReferenceIdeal.nD Cert.CacheReferenceIdeal.τ).loc Cert.CacheReferenceIdeal.main_arg2) = m ((c.tc : Thread Cert.CacheReferenceIdeal.nD Cert.CacheReferenceIdeal.τ).loc Cert.CacheReferenceIdeal.main_arg2))
      ∧ r.2.sem = fun _ => 0)

def quiescent_Tokens [hTokens : Cert.Tokens.Facts] : Prop :=
  ∀ (m : (ℓ : Loc Cert.Tokens.nD Cert.Tokens.τ Cert.Tokens.sig) → Buf (Elt Bits) ℓ) (g : Dev Cert.Tokens.nD → PrngReg), Pre_Tokens m →
    θ_run (Cert.Tokens.defs (F := Bits)) (onTc (τ := Cert.Tokens.τ) (Cert.Tokens.main (F := Bits))) ⟨m, fun _ => 0, g⟩ (fun r => (∀ c : Dev Cert.Tokens.nD,
      r.2.mem ((c.tc : Thread Cert.Tokens.nD Cert.Tokens.τ).loc Cert.Tokens.main_arg0) = m ((c.tc : Thread Cert.Tokens.nD Cert.Tokens.τ).loc Cert.Tokens.main_arg0)
      ∧ r.2.mem ((c.tc : Thread Cert.Tokens.nD Cert.Tokens.τ).loc Cert.Tokens.main_arg1) = m ((c.tc : Thread Cert.Tokens.nD Cert.Tokens.τ).loc Cert.Tokens.main_arg1)
      ∧ r.2.mem ((c.tc : Thread Cert.Tokens.nD Cert.Tokens.τ).loc Cert.Tokens.main_arg2) = m ((c.tc : Thread Cert.Tokens.nD Cert.Tokens.τ).loc Cert.Tokens.main_arg2)
      ∧ r.2.mem ((c.tc : Thread Cert.Tokens.nD Cert.Tokens.τ).loc Cert.Tokens.main_arg3) = m ((c.tc : Thread Cert.Tokens.nD Cert.Tokens.τ).loc Cert.Tokens.main_arg3)
      ∧ r.2.mem ((c.tc : Thread Cert.Tokens.nD Cert.Tokens.τ).loc Cert.Tokens.main_arg4) = m ((c.tc : Thread Cert.Tokens.nD Cert.Tokens.τ).loc Cert.Tokens.main_arg4)
      ∧ r.2.mem ((c.tc : Thread Cert.Tokens.nD Cert.Tokens.τ).loc Cert.Tokens.main_arg5) = m ((c.tc : Thread Cert.Tokens.nD Cert.Tokens.τ).loc Cert.Tokens.main_arg5)
      ∧ r.2.mem ((c.tc : Thread Cert.Tokens.nD Cert.Tokens.τ).loc Cert.Tokens.main_arg6) = m ((c.tc : Thread Cert.Tokens.nD Cert.Tokens.τ).loc Cert.Tokens.main_arg6))
      ∧ r.2.sem = fun _ => 0)

def quiescent_TokensIdeal [hTokensIdeal : Cert.TokensIdeal.Facts] : Prop :=
  ∀ (m : (ℓ : Loc Cert.TokensIdeal.nD Cert.TokensIdeal.τ Cert.TokensIdeal.sig) → Buf (Elt Ideal) ℓ) (g : Dev Cert.TokensIdeal.nD → PrngReg), Pre_TokensIdeal m →
    θ_run (Cert.TokensIdeal.defs (F := Ideal)) (onTc (τ := Cert.TokensIdeal.τ) (Cert.TokensIdeal.main (F := Ideal))) ⟨m, fun _ => 0, g⟩ (fun r => (∀ c : Dev Cert.TokensIdeal.nD,
      r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
      ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
      ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2)
      ∧ r.2.mem ((c.tc : Thread Cert.TokensIdeal.nD Cert.TokensIdeal.τ).loc Cert.TokensIdeal.main_arg3) = m ((c.tc : Thread Cert.TokensIdeal.nD Cert.TokensIdeal.τ).loc Cert.TokensIdeal.main_arg3)
      ∧ r.2.mem ((c.tc : Thread Cert.TokensIdeal.nD Cert.TokensIdeal.τ).loc Cert.TokensIdeal.main_arg4) = m ((c.tc : Thread Cert.TokensIdeal.nD Cert.TokensIdeal.τ).loc Cert.TokensIdeal.main_arg4)
      ∧ r.2.mem ((c.tc : Thread Cert.TokensIdeal.nD Cert.TokensIdeal.τ).loc Cert.TokensIdeal.main_arg5) = m ((c.tc : Thread Cert.TokensIdeal.nD Cert.TokensIdeal.τ).loc Cert.TokensIdeal.main_arg5)
      ∧ r.2.mem ((c.tc : Thread Cert.TokensIdeal.nD Cert.TokensIdeal.τ).loc Cert.TokensIdeal.main_arg6) = m ((c.tc : Thread Cert.TokensIdeal.nD Cert.TokensIdeal.τ).loc Cert.TokensIdeal.main_arg6))
      ∧ r.2.sem = fun _ => 0)

def quiescent_TokensReferenceIdeal [hTokensReferenceIdeal : Cert.TokensReferenceIdeal.Facts] : Prop :=
  ∀ (m : (ℓ : Loc Cert.TokensReferenceIdeal.nD Cert.TokensReferenceIdeal.τ Cert.TokensReferenceIdeal.sig) → Buf (Elt Ideal) ℓ) (g : Dev Cert.TokensReferenceIdeal.nD → PrngReg), Pre_TokensReferenceIdeal m →
    θ_run (Cert.TokensReferenceIdeal.defs (F := Ideal)) (onTc (τ := Cert.TokensReferenceIdeal.τ) (Cert.TokensReferenceIdeal.main (F := Ideal))) ⟨m, fun _ => 0, g⟩ (fun r => (∀ c : Dev Cert.TokensReferenceIdeal.nD,
      r.2.mem ((c.tc : Thread Cert.TokensReferenceIdeal.nD Cert.TokensReferenceIdeal.τ).loc Cert.TokensReferenceIdeal.main_arg0) = m ((c.tc : Thread Cert.TokensReferenceIdeal.nD Cert.TokensReferenceIdeal.τ).loc Cert.TokensReferenceIdeal.main_arg0)
      ∧ r.2.mem ((c.tc : Thread Cert.TokensReferenceIdeal.nD Cert.TokensReferenceIdeal.τ).loc Cert.TokensReferenceIdeal.main_arg1) = m ((c.tc : Thread Cert.TokensReferenceIdeal.nD Cert.TokensReferenceIdeal.τ).loc Cert.TokensReferenceIdeal.main_arg1)
      ∧ r.2.mem ((c.tc : Thread Cert.TokensReferenceIdeal.nD Cert.TokensReferenceIdeal.τ).loc Cert.TokensReferenceIdeal.main_arg2) = m ((c.tc : Thread Cert.TokensReferenceIdeal.nD Cert.TokensReferenceIdeal.τ).loc Cert.TokensReferenceIdeal.main_arg2)
      ∧ r.2.mem ((c.tc : Thread Cert.TokensReferenceIdeal.nD Cert.TokensReferenceIdeal.τ).loc Cert.TokensReferenceIdeal.main_arg3) = m ((c.tc : Thread Cert.TokensReferenceIdeal.nD Cert.TokensReferenceIdeal.τ).loc Cert.TokensReferenceIdeal.main_arg3)
      ∧ r.2.mem ((c.tc : Thread Cert.TokensReferenceIdeal.nD Cert.TokensReferenceIdeal.τ).loc Cert.TokensReferenceIdeal.main_arg4) = m ((c.tc : Thread Cert.TokensReferenceIdeal.nD Cert.TokensReferenceIdeal.τ).loc Cert.TokensReferenceIdeal.main_arg4)
      ∧ r.2.mem ((c.tc : Thread Cert.TokensReferenceIdeal.nD Cert.TokensReferenceIdeal.τ).loc Cert.TokensReferenceIdeal.main_arg5) = m ((c.tc : Thread Cert.TokensReferenceIdeal.nD Cert.TokensReferenceIdeal.τ).loc Cert.TokensReferenceIdeal.main_arg5)
      ∧ r.2.mem ((c.tc : Thread Cert.TokensReferenceIdeal.nD Cert.TokensReferenceIdeal.τ).loc Cert.TokensReferenceIdeal.main_arg6) = m ((c.tc : Thread Cert.TokensReferenceIdeal.nD Cert.TokensReferenceIdeal.τ).loc Cert.TokensReferenceIdeal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Inputs_InputsIdeal : Prop :=
  True

def algebraic_InputsIdeal_InputsReferenceIdeal [hInputsIdeal : Cert.InputsIdeal.Facts] [hInputsReferenceIdeal : Cert.InputsReferenceIdeal.Facts] : Prop :=
  ∀ (m : (ℓ : Loc Cert.InputsIdeal.nD Cert.InputsIdeal.τ Cert.InputsIdeal.sig) → Buf (Elt Ideal) ℓ) (g : Dev Cert.InputsIdeal.nD → PrngReg)
    (m' : (ℓ : Loc Cert.InputsReferenceIdeal.nD Cert.InputsReferenceIdeal.τ Cert.InputsReferenceIdeal.sig) → Buf (Elt Ideal) ℓ) (g' : Dev Cert.InputsReferenceIdeal.nD → PrngReg), Pre_InputsIdeal m →
    (∀ c : Dev Cert.InputsIdeal.nD,
      m' ((c.tc : Thread Cert.InputsReferenceIdeal.nD Cert.InputsReferenceIdeal.τ).loc Cert.InputsReferenceIdeal.main_arg0) = m ((c.tc : Thread Cert.InputsIdeal.nD Cert.InputsIdeal.τ).loc Cert.InputsIdeal.main_arg0)
      ∧ m' ((c.tc : Thread Cert.InputsReferenceIdeal.nD Cert.InputsReferenceIdeal.τ).loc Cert.InputsReferenceIdeal.main_arg1) = m ((c.tc : Thread Cert.InputsIdeal.nD Cert.InputsIdeal.τ).loc Cert.InputsIdeal.main_arg1)
      ∧ m' ((c.tc : Thread Cert.InputsReferenceIdeal.nD Cert.InputsReferenceIdeal.τ).loc Cert.InputsReferenceIdeal.main_arg2) = m ((c.tc : Thread Cert.InputsIdeal.nD Cert.InputsIdeal.τ).loc Cert.InputsIdeal.main_arg2)
      ∧ m' ((c.tc : Thread Cert.InputsReferenceIdeal.nD Cert.InputsReferenceIdeal.τ).loc Cert.InputsReferenceIdeal.main_arg3) = m ((c.tc : Thread Cert.InputsIdeal.nD Cert.InputsIdeal.τ).loc Cert.InputsIdeal.main_arg3)
      ∧ m' ((c.tc : Thread Cert.InputsReferenceIdeal.nD Cert.InputsReferenceIdeal.τ).loc Cert.InputsReferenceIdeal.main_arg4) = m ((c.tc : Thread Cert.InputsIdeal.nD Cert.InputsIdeal.τ).loc Cert.InputsIdeal.main_arg4)
      ∧ m' ((c.tc : Thread Cert.InputsReferenceIdeal.nD Cert.InputsReferenceIdeal.τ).loc Cert.InputsReferenceIdeal.main_arg5) = m ((c.tc : Thread Cert.InputsIdeal.nD Cert.InputsIdeal.τ).loc Cert.InputsIdeal.main_arg5)
      ∧ m' ((c.tc : Thread Cert.InputsReferenceIdeal.nD Cert.InputsReferenceIdeal.τ).loc Cert.InputsReferenceIdeal.main_arg6) = m ((c.tc : Thread Cert.InputsIdeal.nD Cert.InputsIdeal.τ).loc Cert.InputsIdeal.main_arg6)) →
    ∃ (v0 : (c : Dev Cert.InputsIdeal.nD) → Buf (Elt Ideal) ((c.tc : Thread Cert.InputsIdeal.nD Cert.InputsIdeal.τ).loc Cert.InputsIdeal.main_v9_0)) (v1 : (c : Dev Cert.InputsIdeal.nD) → Buf (Elt Ideal) ((c.tc : Thread Cert.InputsIdeal.nD Cert.InputsIdeal.τ).loc Cert.InputsIdeal.main_v9_1)) (v2 : (c : Dev Cert.InputsIdeal.nD) → Buf (Elt Ideal) ((c.tc : Thread Cert.InputsIdeal.nD Cert.InputsIdeal.τ).loc Cert.InputsIdeal.main_v9_2)) (v3 : (c : Dev Cert.InputsIdeal.nD) → Buf (Elt Ideal) ((c.tc : Thread Cert.InputsIdeal.nD Cert.InputsIdeal.τ).loc Cert.InputsIdeal.main_v9_3)) (v4 : (c : Dev Cert.InputsIdeal.nD) → Buf (Elt Ideal) ((c.tc : Thread Cert.InputsIdeal.nD Cert.InputsIdeal.τ).loc Cert.InputsIdeal.main_v9_4)) (v5 : (c : Dev Cert.InputsIdeal.nD) → Buf (Elt Ideal) ((c.tc : Thread Cert.InputsIdeal.nD Cert.InputsIdeal.τ).loc Cert.InputsIdeal.main_v9_5)) (v6 : (c : Dev Cert.InputsIdeal.nD) → Buf (Elt Ideal) ((c.tc : Thread Cert.InputsIdeal.nD Cert.InputsIdeal.τ).loc Cert.InputsIdeal.main_v9_6)) (v7 : (c : Dev Cert.InputsIdeal.nD) → Buf (Elt Ideal) ((c.tc : Thread Cert.InputsIdeal.nD Cert.InputsIdeal.τ).loc Cert.InputsIdeal.main_v9_7)) (v8 : (c : Dev Cert.InputsIdeal.nD) → Buf (Elt Ideal) ((c.tc : Thread Cert.InputsIdeal.nD Cert.InputsIdeal.τ).loc Cert.InputsIdeal.main_v9_8)) (v9 : (c : Dev Cert.InputsIdeal.nD) → Buf (Elt Ideal) ((c.tc : Thread Cert.InputsIdeal.nD Cert.InputsIdeal.τ).loc Cert.InputsIdeal.main_v9_9)) (v10 : (c : Dev Cert.InputsIdeal.nD) → Buf (Elt Ideal) ((c.tc : Thread Cert.InputsIdeal.nD Cert.InputsIdeal.τ).loc Cert.InputsIdeal.main_v9_10)) (v11 : (c : Dev Cert.InputsIdeal.nD) → Buf (Elt Ideal) ((c.tc : Thread Cert.InputsIdeal.nD Cert.InputsIdeal.τ).loc Cert.InputsIdeal.main_v9_11)) (v12 : (c : Dev Cert.InputsIdeal.nD) → Buf (Elt Ideal) ((c.tc : Thread Cert.InputsIdeal.nD Cert.InputsIdeal.τ).loc Cert.InputsIdeal.main_v9_12)),
      θ_run (Cert.InputsIdeal.defs (F := Ideal)) (onTc (τ := Cert.InputsIdeal.τ) (Cert.InputsIdeal.main (F := Ideal))) ⟨m, fun _ => 0, g⟩ (fun r => ∀ c : Dev Cert.InputsIdeal.nD,
          r.2.mem ((c.tc : Thread Cert.InputsIdeal.nD Cert.InputsIdeal.τ).loc Cert.InputsIdeal.main_v9_0) = v0 c
          ∧ r.2.mem ((c.tc : Thread Cert.InputsIdeal.nD Cert.InputsIdeal.τ).loc Cert.InputsIdeal.main_v9_1) = v1 c
          ∧ r.2.mem ((c.tc : Thread Cert.InputsIdeal.nD Cert.InputsIdeal.τ).loc Cert.InputsIdeal.main_v9_2) = v2 c
          ∧ r.2.mem ((c.tc : Thread Cert.InputsIdeal.nD Cert.InputsIdeal.τ).loc Cert.InputsIdeal.main_v9_3) = v3 c
          ∧ r.2.mem ((c.tc : Thread Cert.InputsIdeal.nD Cert.InputsIdeal.τ).loc Cert.InputsIdeal.main_v9_4) = v4 c
          ∧ r.2.mem ((c.tc : Thread Cert.InputsIdeal.nD Cert.InputsIdeal.τ).loc Cert.InputsIdeal.main_v9_5) = v5 c
          ∧ r.2.mem ((c.tc : Thread Cert.InputsIdeal.nD Cert.InputsIdeal.τ).loc Cert.InputsIdeal.main_v9_6) = v6 c
          ∧ r.2.mem ((c.tc : Thread Cert.InputsIdeal.nD Cert.InputsIdeal.τ).loc Cert.InputsIdeal.main_v9_7) = v7 c
          ∧ r.2.mem ((c.tc : Thread Cert.InputsIdeal.nD Cert.InputsIdeal.τ).loc Cert.InputsIdeal.main_v9_8) = v8 c
          ∧ r.2.mem ((c.tc : Thread Cert.InputsIdeal.nD Cert.InputsIdeal.τ).loc Cert.InputsIdeal.main_v9_9) = v9 c
          ∧ r.2.mem ((c.tc : Thread Cert.InputsIdeal.nD Cert.InputsIdeal.τ).loc Cert.InputsIdeal.main_v9_10) = v10 c
          ∧ r.2.mem ((c.tc : Thread Cert.InputsIdeal.nD Cert.InputsIdeal.τ).loc Cert.InputsIdeal.main_v9_11) = v11 c
          ∧ r.2.mem ((c.tc : Thread Cert.InputsIdeal.nD Cert.InputsIdeal.τ).loc Cert.InputsIdeal.main_v9_12) = v12 c
          ∧ r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
          ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
          ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
          ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3)
          ∧ r.2.mem ((c.tc : Thread Cert.InputsIdeal.nD Cert.InputsIdeal.τ).loc Cert.InputsIdeal.main_arg4) = m ((c.tc : Thread Cert.InputsIdeal.nD Cert.InputsIdeal.τ).loc Cert.InputsIdeal.main_arg4)
          ∧ r.2.mem ((c.tc : Thread Cert.InputsIdeal.nD Cert.InputsIdeal.τ).loc Cert.InputsIdeal.main_arg5) = m ((c.tc : Thread Cert.InputsIdeal.nD Cert.InputsIdeal.τ).loc Cert.InputsIdeal.main_arg5)
          ∧ r.2.mem ((c.tc : Thread Cert.InputsIdeal.nD Cert.InputsIdeal.τ).loc Cert.InputsIdeal.main_arg6) = m ((c.tc : Thread Cert.InputsIdeal.nD Cert.InputsIdeal.τ).loc Cert.InputsIdeal.main_arg6))
      ∧ θ_run (Cert.InputsReferenceIdeal.defs (F := Ideal)) (onTc (τ := Cert.InputsReferenceIdeal.τ) (Cert.InputsReferenceIdeal.main (F := Ideal))) ⟨m', fun _ => 0, g'⟩ (fun r => ∀ c : Dev Cert.InputsReferenceIdeal.nD,
          r.2.mem ((c.tc : Thread Cert.InputsReferenceIdeal.nD Cert.InputsReferenceIdeal.τ).loc Cert.InputsReferenceIdeal.main_v65) = v0 c
          ∧ r.2.mem ((c.tc : Thread Cert.InputsReferenceIdeal.nD Cert.InputsReferenceIdeal.τ).loc Cert.InputsReferenceIdeal.main_v66) = v1 c
          ∧ r.2.mem ((c.tc : Thread Cert.InputsReferenceIdeal.nD Cert.InputsReferenceIdeal.τ).loc Cert.InputsReferenceIdeal.main_v67) = v2 c
          ∧ r.2.mem ((c.tc : Thread Cert.InputsReferenceIdeal.nD Cert.InputsReferenceIdeal.τ).loc Cert.InputsReferenceIdeal.main_v68) = v3 c
          ∧ r.2.mem ((c.tc : Thread Cert.InputsReferenceIdeal.nD Cert.InputsReferenceIdeal.τ).loc Cert.InputsReferenceIdeal.main_v69) = v4 c
          ∧ r.2.mem ((c.tc : Thread Cert.InputsReferenceIdeal.nD Cert.InputsReferenceIdeal.τ).loc Cert.InputsReferenceIdeal.main_v70) = v5 c
          ∧ r.2.mem ((c.tc : Thread Cert.InputsReferenceIdeal.nD Cert.InputsReferenceIdeal.τ).loc Cert.InputsReferenceIdeal.main_v71) = v6 c
          ∧ r.2.mem ((c.tc : Thread Cert.InputsReferenceIdeal.nD Cert.InputsReferenceIdeal.τ).loc Cert.InputsReferenceIdeal.main_v16) = v7 c
          ∧ r.2.mem ((c.tc : Thread Cert.InputsReferenceIdeal.nD Cert.InputsReferenceIdeal.τ).loc Cert.InputsReferenceIdeal.main_v17) = v8 c
          ∧ r.2.mem ((c.tc : Thread Cert.InputsReferenceIdeal.nD Cert.InputsReferenceIdeal.τ).loc Cert.InputsReferenceIdeal.main_v19) = v9 c
          ∧ r.2.mem ((c.tc : Thread Cert.InputsReferenceIdeal.nD Cert.InputsReferenceIdeal.τ).loc Cert.InputsReferenceIdeal.main_v20) = v10 c
          ∧ r.2.mem ((c.tc : Thread Cert.InputsReferenceIdeal.nD Cert.InputsReferenceIdeal.τ).loc Cert.InputsReferenceIdeal.main_v57) = v11 c
          ∧ r.2.mem ((c.tc : Thread Cert.InputsReferenceIdeal.nD Cert.InputsReferenceIdeal.τ).loc Cert.InputsReferenceIdeal.main_v23) = v12 c
          ∧ r.2.mem ((c.tc : Thread Cert.InputsReferenceIdeal.nD Cert.InputsReferenceIdeal.τ).loc Cert.InputsReferenceIdeal.main_arg0) = m' ((c.tc : Thread Cert.InputsReferenceIdeal.nD Cert.InputsReferenceIdeal.τ).loc Cert.InputsReferenceIdeal.main_arg0)
          ∧ r.2.mem ((c.tc : Thread Cert.InputsReferenceIdeal.nD Cert.InputsReferenceIdeal.τ).loc Cert.InputsReferenceIdeal.main_arg1) = m' ((c.tc : Thread Cert.InputsReferenceIdeal.nD Cert.InputsReferenceIdeal.τ).loc Cert.InputsReferenceIdeal.main_arg1)
          ∧ r.2.mem ((c.tc : Thread Cert.InputsReferenceIdeal.nD Cert.InputsReferenceIdeal.τ).loc Cert.InputsReferenceIdeal.main_arg2) = m' ((c.tc : Thread Cert.InputsReferenceIdeal.nD Cert.InputsReferenceIdeal.τ).loc Cert.InputsReferenceIdeal.main_arg2)
          ∧ r.2.mem ((c.tc : Thread Cert.InputsReferenceIdeal.nD Cert.InputsReferenceIdeal.τ).loc Cert.InputsReferenceIdeal.main_arg3) = m' ((c.tc : Thread Cert.InputsReferenceIdeal.nD Cert.InputsReferenceIdeal.τ).loc Cert.InputsReferenceIdeal.main_arg3)
          ∧ r.2.mem ((c.tc : Thread Cert.InputsReferenceIdeal.nD Cert.InputsReferenceIdeal.τ).loc Cert.InputsReferenceIdeal.main_arg4) = m' ((c.tc : Thread Cert.InputsReferenceIdeal.nD Cert.InputsReferenceIdeal.τ).loc Cert.InputsReferenceIdeal.main_arg4)
          ∧ r.2.mem ((c.tc : Thread Cert.InputsReferenceIdeal.nD Cert.InputsReferenceIdeal.τ).loc Cert.InputsReferenceIdeal.main_arg5) = m' ((c.tc : Thread Cert.InputsReferenceIdeal.nD Cert.InputsReferenceIdeal.τ).loc Cert.InputsReferenceIdeal.main_arg5)
          ∧ r.2.mem ((c.tc : Thread Cert.InputsReferenceIdeal.nD Cert.InputsReferenceIdeal.τ).loc Cert.InputsReferenceIdeal.main_arg6) = m' ((c.tc : Thread Cert.InputsReferenceIdeal.nD Cert.InputsReferenceIdeal.τ).loc Cert.InputsReferenceIdeal.main_arg6))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tiles_named : Cert.Pre_tiles_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v34) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v3_0)) (v1 : (c : Dev Cert.MergeIdeal.nD) → Buf (Elt Ideal) ((c.tc : Thread Cert.MergeIdeal.nD Cert.MergeIdeal.τ).loc Cert.MergeIdeal.main_v3_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3_0) = v0 c
          ∧ r.2.mem ((c.tc : Thread Cert.MergeIdeal.nD Cert.MergeIdeal.τ).loc Cert.MergeIdeal.main_v3_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v87) = v0 c
          ∧ r.2.mem ((c.tc : Thread Cert.MergeReferenceIdeal.nD Cert.MergeReferenceIdeal.τ).loc Cert.MergeReferenceIdeal.main_v96) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)
      ∧ m' ((c.tc : Thread Cert.CombineReferenceIdeal.nD Cert.CombineReferenceIdeal.τ).loc Cert.CombineReferenceIdeal.main_arg7) = m ((c.tc : Thread Cert.CombineIdeal.nD Cert.CombineIdeal.τ).loc Cert.CombineIdeal.main_arg7)
      ∧ m' ((c.tc : Thread Cert.CombineReferenceIdeal.nD Cert.CombineReferenceIdeal.τ).loc Cert.CombineReferenceIdeal.main_arg8) = m ((c.tc : Thread Cert.CombineIdeal.nD Cert.CombineIdeal.τ).loc Cert.CombineIdeal.main_arg8)
      ∧ m' ((c.tc : Thread Cert.CombineReferenceIdeal.nD Cert.CombineReferenceIdeal.τ).loc Cert.CombineReferenceIdeal.main_arg9) = m ((c.tc : Thread Cert.CombineIdeal.nD Cert.CombineIdeal.τ).loc Cert.CombineIdeal.main_arg9)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
          ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v60) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6)
          ∧ r.2.mem ((c.tc : Thread Cert.CombineReferenceIdeal.nD Cert.CombineReferenceIdeal.τ).loc Cert.CombineReferenceIdeal.main_arg7) = m' ((c.tc : Thread Cert.CombineReferenceIdeal.nD Cert.CombineReferenceIdeal.τ).loc Cert.CombineReferenceIdeal.main_arg7)
          ∧ r.2.mem ((c.tc : Thread Cert.CombineReferenceIdeal.nD Cert.CombineReferenceIdeal.τ).loc Cert.CombineReferenceIdeal.main_arg8) = m' ((c.tc : Thread Cert.CombineReferenceIdeal.nD Cert.CombineReferenceIdeal.τ).loc Cert.CombineReferenceIdeal.main_arg8)
          ∧ r.2.mem ((c.tc : Thread Cert.CombineReferenceIdeal.nD Cert.CombineReferenceIdeal.τ).loc Cert.CombineReferenceIdeal.main_arg9) = m' ((c.tc : Thread Cert.CombineReferenceIdeal.nD Cert.CombineReferenceIdeal.τ).loc Cert.CombineReferenceIdeal.main_arg9))

def preserves_Latent_LatentIdeal : Prop :=
  True

def algebraic_LatentIdeal_LatentReferenceIdeal_pre_finite_latents [hLatentIdeal : Cert.LatentIdeal.Facts] [hLatentReferenceIdeal : Cert.LatentReferenceIdeal.Facts] [hPre_finite_latents : Cert.Pre_finite_latents.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal_finite_latents m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)
      ∧ m' ((c.tc : Thread Cert.LatentReferenceIdeal.nD Cert.LatentReferenceIdeal.τ).loc Cert.LatentReferenceIdeal.main_arg5) = m ((c.tc : Thread Cert.LatentIdeal.nD Cert.LatentIdeal.τ).loc Cert.LatentIdeal.main_arg5)
      ∧ m' ((c.tc : Thread Cert.LatentReferenceIdeal.nD Cert.LatentReferenceIdeal.τ).loc Cert.LatentReferenceIdeal.main_arg6) = m ((c.tc : Thread Cert.LatentIdeal.nD Cert.LatentIdeal.τ).loc Cert.LatentIdeal.main_arg6)
      ∧ m' ((c.tc : Thread Cert.LatentReferenceIdeal.nD Cert.LatentReferenceIdeal.τ).loc Cert.LatentReferenceIdeal.main_arg7) = m ((c.tc : Thread Cert.LatentIdeal.nD Cert.LatentIdeal.τ).loc Cert.LatentIdeal.main_arg7)) →
    ∃ (v0 : (c : Dev Cert.LatentIdeal.nD) → Buf (Elt Ideal) ((c.tc : Thread Cert.LatentIdeal.nD Cert.LatentIdeal.τ).loc Cert.LatentIdeal.main_v3)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v3) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6)
          ∧ r.2.mem ((c.tc : Thread Cert.LatentIdeal.nD Cert.LatentIdeal.τ).loc Cert.LatentIdeal.main_arg7) = m ((c.tc : Thread Cert.LatentIdeal.nD Cert.LatentIdeal.τ).loc Cert.LatentIdeal.main_arg7))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v41) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5)
          ∧ r.2.mem ((c.tc : Thread Cert.LatentReferenceIdeal.nD Cert.LatentReferenceIdeal.τ).loc Cert.LatentReferenceIdeal.main_arg6) = m' ((c.tc : Thread Cert.LatentReferenceIdeal.nD Cert.LatentReferenceIdeal.τ).loc Cert.LatentReferenceIdeal.main_arg6)
          ∧ r.2.mem ((c.tc : Thread Cert.LatentReferenceIdeal.nD Cert.LatentReferenceIdeal.τ).loc Cert.LatentReferenceIdeal.main_arg7) = m' ((c.tc : Thread Cert.LatentReferenceIdeal.nD Cert.LatentReferenceIdeal.τ).loc Cert.LatentReferenceIdeal.main_arg7))

def preserves_Context_ContextIdeal : Prop :=
  True

def algebraic_ContextIdeal_ContextReferenceIdeal_pre_finite_context [hContextIdeal : Cert.ContextIdeal.Facts] [hContextReferenceIdeal : Cert.ContextReferenceIdeal.Facts] [hPre_finite_context : Cert.Pre_finite_context.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextReferenceIdeal.nD Cert.ContextReferenceIdeal.τ Cert.ContextReferenceIdeal.sig) → Buf (Elt Ideal) ℓ) (g' : Dev Cert.ContextReferenceIdeal.nD → PrngReg), Pre_ContextIdeal_finite_context m →
    (∀ c : Dev Cert.ContextIdeal.nD,
      m' ((c.tc : Thread Cert.ContextReferenceIdeal.nD Cert.ContextReferenceIdeal.τ).loc Cert.ContextReferenceIdeal.main_arg0) = m ((c.tc : Thread Cert.ContextIdeal.nD Cert.ContextIdeal.τ).loc Cert.ContextIdeal.main_arg0)
      ∧ m' ((c.tc : Thread Cert.ContextReferenceIdeal.nD Cert.ContextReferenceIdeal.τ).loc Cert.ContextReferenceIdeal.main_arg1) = m ((c.tc : Thread Cert.ContextIdeal.nD Cert.ContextIdeal.τ).loc Cert.ContextIdeal.main_arg1)
      ∧ m' ((c.tc : Thread Cert.ContextReferenceIdeal.nD Cert.ContextReferenceIdeal.τ).loc Cert.ContextReferenceIdeal.main_arg2) = m ((c.tc : Thread Cert.ContextIdeal.nD Cert.ContextIdeal.τ).loc Cert.ContextIdeal.main_arg2)
      ∧ m' ((c.tc : Thread Cert.ContextReferenceIdeal.nD Cert.ContextReferenceIdeal.τ).loc Cert.ContextReferenceIdeal.main_arg3) = m ((c.tc : Thread Cert.ContextIdeal.nD Cert.ContextIdeal.τ).loc Cert.ContextIdeal.main_arg3)
      ∧ m' ((c.tc : Thread Cert.ContextReferenceIdeal.nD Cert.ContextReferenceIdeal.τ).loc Cert.ContextReferenceIdeal.main_arg4) = m ((c.tc : Thread Cert.ContextIdeal.nD Cert.ContextIdeal.τ).loc Cert.ContextIdeal.main_arg4)
      ∧ m' ((c.tc : Thread Cert.ContextReferenceIdeal.nD Cert.ContextReferenceIdeal.τ).loc Cert.ContextReferenceIdeal.main_arg5) = m ((c.tc : Thread Cert.ContextIdeal.nD Cert.ContextIdeal.τ).loc Cert.ContextIdeal.main_arg5)
      ∧ m' ((c.tc : Thread Cert.ContextReferenceIdeal.nD Cert.ContextReferenceIdeal.τ).loc Cert.ContextReferenceIdeal.main_arg6) = m ((c.tc : Thread Cert.ContextIdeal.nD Cert.ContextIdeal.τ).loc Cert.ContextIdeal.main_arg6)
      ∧ m' ((c.tc : Thread Cert.ContextReferenceIdeal.nD Cert.ContextReferenceIdeal.τ).loc Cert.ContextReferenceIdeal.main_arg7) = m ((c.tc : Thread Cert.ContextIdeal.nD Cert.ContextIdeal.τ).loc Cert.ContextIdeal.main_arg7)
      ∧ m' ((c.tc : Thread Cert.ContextReferenceIdeal.nD Cert.ContextReferenceIdeal.τ).loc Cert.ContextReferenceIdeal.main_arg8) = m ((c.tc : Thread Cert.ContextIdeal.nD Cert.ContextIdeal.τ).loc Cert.ContextIdeal.main_arg8)
      ∧ m' ((c.tc : Thread Cert.ContextReferenceIdeal.nD Cert.ContextReferenceIdeal.τ).loc Cert.ContextReferenceIdeal.main_arg9) = m ((c.tc : Thread Cert.ContextIdeal.nD Cert.ContextIdeal.τ).loc Cert.ContextIdeal.main_arg9)
      ∧ m' ((c.tc : Thread Cert.ContextReferenceIdeal.nD Cert.ContextReferenceIdeal.τ).loc Cert.ContextReferenceIdeal.main_arg10) = m ((c.tc : Thread Cert.ContextIdeal.nD Cert.ContextIdeal.τ).loc Cert.ContextIdeal.main_arg10)
      ∧ m' ((c.tc : Thread Cert.ContextReferenceIdeal.nD Cert.ContextReferenceIdeal.τ).loc Cert.ContextReferenceIdeal.main_arg11) = m ((c.tc : Thread Cert.ContextIdeal.nD Cert.ContextIdeal.τ).loc Cert.ContextIdeal.main_arg11)
      ∧ m' ((c.tc : Thread Cert.ContextReferenceIdeal.nD Cert.ContextReferenceIdeal.τ).loc Cert.ContextReferenceIdeal.main_arg12) = m ((c.tc : Thread Cert.ContextIdeal.nD Cert.ContextIdeal.τ).loc Cert.ContextIdeal.main_arg12)) →
    ∃ (v0 : (c : Dev Cert.ContextIdeal.nD) → Buf (Elt Ideal) ((c.tc : Thread Cert.ContextIdeal.nD Cert.ContextIdeal.τ).loc Cert.ContextIdeal.main_v1_0)) (v1 : (c : Dev Cert.ContextIdeal.nD) → Buf (Elt Ideal) ((c.tc : Thread Cert.ContextIdeal.nD Cert.ContextIdeal.τ).loc Cert.ContextIdeal.main_v1_1)) (v2 : (c : Dev Cert.ContextIdeal.nD) → Buf (Elt Ideal) ((c.tc : Thread Cert.ContextIdeal.nD Cert.ContextIdeal.τ).loc Cert.ContextIdeal.main_v1_2)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v1_0) = v0 c
          ∧ r.2.mem ((c.tc : Thread Cert.ContextIdeal.nD Cert.ContextIdeal.τ).loc Cert.ContextIdeal.main_v1_1) = v1 c
          ∧ r.2.mem ((c.tc : Thread Cert.ContextIdeal.nD Cert.ContextIdeal.τ).loc Cert.ContextIdeal.main_v1_2) = v2 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
          ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
          ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
          ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6)
          ∧ r.2.mem ((c.tc : Thread Cert.ContextIdeal.nD Cert.ContextIdeal.τ).loc Cert.ContextIdeal.main_arg7) = m ((c.tc : Thread Cert.ContextIdeal.nD Cert.ContextIdeal.τ).loc Cert.ContextIdeal.main_arg7)
          ∧ r.2.mem ((c.tc : Thread Cert.ContextIdeal.nD Cert.ContextIdeal.τ).loc Cert.ContextIdeal.main_arg8) = m ((c.tc : Thread Cert.ContextIdeal.nD Cert.ContextIdeal.τ).loc Cert.ContextIdeal.main_arg8)
          ∧ r.2.mem ((c.tc : Thread Cert.ContextIdeal.nD Cert.ContextIdeal.τ).loc Cert.ContextIdeal.main_arg9) = m ((c.tc : Thread Cert.ContextIdeal.nD Cert.ContextIdeal.τ).loc Cert.ContextIdeal.main_arg9)
          ∧ r.2.mem ((c.tc : Thread Cert.ContextIdeal.nD Cert.ContextIdeal.τ).loc Cert.ContextIdeal.main_arg10) = m ((c.tc : Thread Cert.ContextIdeal.nD Cert.ContextIdeal.τ).loc Cert.ContextIdeal.main_arg10)
          ∧ r.2.mem ((c.tc : Thread Cert.ContextIdeal.nD Cert.ContextIdeal.τ).loc Cert.ContextIdeal.main_arg11) = m ((c.tc : Thread Cert.ContextIdeal.nD Cert.ContextIdeal.τ).loc Cert.ContextIdeal.main_arg11)
          ∧ r.2.mem ((c.tc : Thread Cert.ContextIdeal.nD Cert.ContextIdeal.τ).loc Cert.ContextIdeal.main_arg12) = m ((c.tc : Thread Cert.ContextIdeal.nD Cert.ContextIdeal.τ).loc Cert.ContextIdeal.main_arg12))
      ∧ θ_run (Cert.ContextReferenceIdeal.defs (F := Ideal)) (onTc (τ := Cert.ContextReferenceIdeal.τ) (Cert.ContextReferenceIdeal.main (F := Ideal))) ⟨m', fun _ => 0, g'⟩ (fun r => ∀ c : Dev Cert.ContextReferenceIdeal.nD,
          r.2.mem ((c.tc : Thread Cert.ContextReferenceIdeal.nD Cert.ContextReferenceIdeal.τ).loc Cert.ContextReferenceIdeal.main_v57) = v0 c
          ∧ r.2.mem ((c.tc : Thread Cert.ContextReferenceIdeal.nD Cert.ContextReferenceIdeal.τ).loc Cert.ContextReferenceIdeal.main_v104) = v1 c
          ∧ r.2.mem ((c.tc : Thread Cert.ContextReferenceIdeal.nD Cert.ContextReferenceIdeal.τ).loc Cert.ContextReferenceIdeal.main_v106) = v2 c
          ∧ r.2.mem ((c.tc : Thread Cert.ContextReferenceIdeal.nD Cert.ContextReferenceIdeal.τ).loc Cert.ContextReferenceIdeal.main_arg0) = m' ((c.tc : Thread Cert.ContextReferenceIdeal.nD Cert.ContextReferenceIdeal.τ).loc Cert.ContextReferenceIdeal.main_arg0)
          ∧ r.2.mem ((c.tc : Thread Cert.ContextReferenceIdeal.nD Cert.ContextReferenceIdeal.τ).loc Cert.ContextReferenceIdeal.main_arg1) = m' ((c.tc : Thread Cert.ContextReferenceIdeal.nD Cert.ContextReferenceIdeal.τ).loc Cert.ContextReferenceIdeal.main_arg1)
          ∧ r.2.mem ((c.tc : Thread Cert.ContextReferenceIdeal.nD Cert.ContextReferenceIdeal.τ).loc Cert.ContextReferenceIdeal.main_arg2) = m' ((c.tc : Thread Cert.ContextReferenceIdeal.nD Cert.ContextReferenceIdeal.τ).loc Cert.ContextReferenceIdeal.main_arg2)
          ∧ r.2.mem ((c.tc : Thread Cert.ContextReferenceIdeal.nD Cert.ContextReferenceIdeal.τ).loc Cert.ContextReferenceIdeal.main_arg3) = m' ((c.tc : Thread Cert.ContextReferenceIdeal.nD Cert.ContextReferenceIdeal.τ).loc Cert.ContextReferenceIdeal.main_arg3)
          ∧ r.2.mem ((c.tc : Thread Cert.ContextReferenceIdeal.nD Cert.ContextReferenceIdeal.τ).loc Cert.ContextReferenceIdeal.main_arg4) = m' ((c.tc : Thread Cert.ContextReferenceIdeal.nD Cert.ContextReferenceIdeal.τ).loc Cert.ContextReferenceIdeal.main_arg4)
          ∧ r.2.mem ((c.tc : Thread Cert.ContextReferenceIdeal.nD Cert.ContextReferenceIdeal.τ).loc Cert.ContextReferenceIdeal.main_arg5) = m' ((c.tc : Thread Cert.ContextReferenceIdeal.nD Cert.ContextReferenceIdeal.τ).loc Cert.ContextReferenceIdeal.main_arg5)
          ∧ r.2.mem ((c.tc : Thread Cert.ContextReferenceIdeal.nD Cert.ContextReferenceIdeal.τ).loc Cert.ContextReferenceIdeal.main_arg6) = m' ((c.tc : Thread Cert.ContextReferenceIdeal.nD Cert.ContextReferenceIdeal.τ).loc Cert.ContextReferenceIdeal.main_arg6)
          ∧ r.2.mem ((c.tc : Thread Cert.ContextReferenceIdeal.nD Cert.ContextReferenceIdeal.τ).loc Cert.ContextReferenceIdeal.main_arg7) = m' ((c.tc : Thread Cert.ContextReferenceIdeal.nD Cert.ContextReferenceIdeal.τ).loc Cert.ContextReferenceIdeal.main_arg7)
          ∧ r.2.mem ((c.tc : Thread Cert.ContextReferenceIdeal.nD Cert.ContextReferenceIdeal.τ).loc Cert.ContextReferenceIdeal.main_arg8) = m' ((c.tc : Thread Cert.ContextReferenceIdeal.nD Cert.ContextReferenceIdeal.τ).loc Cert.ContextReferenceIdeal.main_arg8)
          ∧ r.2.mem ((c.tc : Thread Cert.ContextReferenceIdeal.nD Cert.ContextReferenceIdeal.τ).loc Cert.ContextReferenceIdeal.main_arg9) = m' ((c.tc : Thread Cert.ContextReferenceIdeal.nD Cert.ContextReferenceIdeal.τ).loc Cert.ContextReferenceIdeal.main_arg9)
          ∧ r.2.mem ((c.tc : Thread Cert.ContextReferenceIdeal.nD Cert.ContextReferenceIdeal.τ).loc Cert.ContextReferenceIdeal.main_arg10) = m' ((c.tc : Thread Cert.ContextReferenceIdeal.nD Cert.ContextReferenceIdeal.τ).loc Cert.ContextReferenceIdeal.main_arg10)
          ∧ r.2.mem ((c.tc : Thread Cert.ContextReferenceIdeal.nD Cert.ContextReferenceIdeal.τ).loc Cert.ContextReferenceIdeal.main_arg11) = m' ((c.tc : Thread Cert.ContextReferenceIdeal.nD Cert.ContextReferenceIdeal.τ).loc Cert.ContextReferenceIdeal.main_arg11)
          ∧ r.2.mem ((c.tc : Thread Cert.ContextReferenceIdeal.nD Cert.ContextReferenceIdeal.τ).loc Cert.ContextReferenceIdeal.main_arg12) = m' ((c.tc : Thread Cert.ContextReferenceIdeal.nD Cert.ContextReferenceIdeal.τ).loc Cert.ContextReferenceIdeal.main_arg12))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v20) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_Cache_CacheIdeal : Prop :=
  True

def algebraic_CacheIdeal_CacheReferenceIdeal [hCacheIdeal : Cert.CacheIdeal.Facts] [hCacheReferenceIdeal : Cert.CacheReferenceIdeal.Facts] : Prop :=
  ∀ (m : (ℓ : Loc Cert.CacheIdeal.nD Cert.CacheIdeal.τ Cert.CacheIdeal.sig) → Buf (Elt Ideal) ℓ) (g : Dev Cert.CacheIdeal.nD → PrngReg)
    (m' : (ℓ : Loc Cert.CacheReferenceIdeal.nD Cert.CacheReferenceIdeal.τ Cert.CacheReferenceIdeal.sig) → Buf (Elt Ideal) ℓ) (g' : Dev Cert.CacheReferenceIdeal.nD → PrngReg), Pre_CacheIdeal m →
    (∀ c : Dev Cert.CacheIdeal.nD,
      m' ((c.tc : Thread Cert.CacheReferenceIdeal.nD Cert.CacheReferenceIdeal.τ).loc Cert.CacheReferenceIdeal.main_arg0) = m ((c.tc : Thread Cert.CacheIdeal.nD Cert.CacheIdeal.τ).loc Cert.CacheIdeal.main_arg0)
      ∧ m' ((c.tc : Thread Cert.CacheReferenceIdeal.nD Cert.CacheReferenceIdeal.τ).loc Cert.CacheReferenceIdeal.main_arg1) = m ((c.tc : Thread Cert.CacheIdeal.nD Cert.CacheIdeal.τ).loc Cert.CacheIdeal.main_arg1)
      ∧ m' ((c.tc : Thread Cert.CacheReferenceIdeal.nD Cert.CacheReferenceIdeal.τ).loc Cert.CacheReferenceIdeal.main_arg2) = m ((c.tc : Thread Cert.CacheIdeal.nD Cert.CacheIdeal.τ).loc Cert.CacheIdeal.main_arg2)) →
    ∃ (v0 : (c : Dev Cert.CacheIdeal.nD) → Buf (Elt Ideal) ((c.tc : Thread Cert.CacheIdeal.nD Cert.CacheIdeal.τ).loc Cert.CacheIdeal.main_v0_0)) (v1 : (c : Dev Cert.CacheIdeal.nD) → Buf (Elt Ideal) ((c.tc : Thread Cert.CacheIdeal.nD Cert.CacheIdeal.τ).loc Cert.CacheIdeal.main_v0_1)) (v2 : (c : Dev Cert.CacheIdeal.nD) → Buf (Elt Ideal) ((c.tc : Thread Cert.CacheIdeal.nD Cert.CacheIdeal.τ).loc Cert.CacheIdeal.main_v0_2)),
      θ_run (Cert.CacheIdeal.defs (F := Ideal)) (onTc (τ := Cert.CacheIdeal.τ) (Cert.CacheIdeal.main (F := Ideal))) ⟨m, fun _ => 0, g⟩ (fun r => ∀ c : Dev Cert.CacheIdeal.nD,
          r.2.mem ((c.tc : Thread Cert.CacheIdeal.nD Cert.CacheIdeal.τ).loc Cert.CacheIdeal.main_v0_0) = v0 c
          ∧ r.2.mem ((c.tc : Thread Cert.CacheIdeal.nD Cert.CacheIdeal.τ).loc Cert.CacheIdeal.main_v0_1) = v1 c
          ∧ r.2.mem ((c.tc : Thread Cert.CacheIdeal.nD Cert.CacheIdeal.τ).loc Cert.CacheIdeal.main_v0_2) = v2 c
          ∧ r.2.mem ((c.tc : Thread Cert.CacheIdeal.nD Cert.CacheIdeal.τ).loc Cert.CacheIdeal.main_arg0) = m ((c.tc : Thread Cert.CacheIdeal.nD Cert.CacheIdeal.τ).loc Cert.CacheIdeal.main_arg0)
          ∧ r.2.mem ((c.tc : Thread Cert.CacheIdeal.nD Cert.CacheIdeal.τ).loc Cert.CacheIdeal.main_arg1) = m ((c.tc : Thread Cert.CacheIdeal.nD Cert.CacheIdeal.τ).loc Cert.CacheIdeal.main_arg1)
          ∧ r.2.mem ((c.tc : Thread Cert.CacheIdeal.nD Cert.CacheIdeal.τ).loc Cert.CacheIdeal.main_arg2) = m ((c.tc : Thread Cert.CacheIdeal.nD Cert.CacheIdeal.τ).loc Cert.CacheIdeal.main_arg2))
      ∧ θ_run (Cert.CacheReferenceIdeal.defs (F := Ideal)) (onTc (τ := Cert.CacheReferenceIdeal.τ) (Cert.CacheReferenceIdeal.main (F := Ideal))) ⟨m', fun _ => 0, g'⟩ (fun r => ∀ c : Dev Cert.CacheReferenceIdeal.nD,
          r.2.mem ((c.tc : Thread Cert.CacheReferenceIdeal.nD Cert.CacheReferenceIdeal.τ).loc Cert.CacheReferenceIdeal.main_v8) = v0 c
          ∧ r.2.mem ((c.tc : Thread Cert.CacheReferenceIdeal.nD Cert.CacheReferenceIdeal.τ).loc Cert.CacheReferenceIdeal.main_v9) = v1 c
          ∧ r.2.mem ((c.tc : Thread Cert.CacheReferenceIdeal.nD Cert.CacheReferenceIdeal.τ).loc Cert.CacheReferenceIdeal.main_v11) = v2 c
          ∧ r.2.mem ((c.tc : Thread Cert.CacheReferenceIdeal.nD Cert.CacheReferenceIdeal.τ).loc Cert.CacheReferenceIdeal.main_arg0) = m' ((c.tc : Thread Cert.CacheReferenceIdeal.nD Cert.CacheReferenceIdeal.τ).loc Cert.CacheReferenceIdeal.main_arg0)
          ∧ r.2.mem ((c.tc : Thread Cert.CacheReferenceIdeal.nD Cert.CacheReferenceIdeal.τ).loc Cert.CacheReferenceIdeal.main_arg1) = m' ((c.tc : Thread Cert.CacheReferenceIdeal.nD Cert.CacheReferenceIdeal.τ).loc Cert.CacheReferenceIdeal.main_arg1)
          ∧ r.2.mem ((c.tc : Thread Cert.CacheReferenceIdeal.nD Cert.CacheReferenceIdeal.τ).loc Cert.CacheReferenceIdeal.main_arg2) = m' ((c.tc : Thread Cert.CacheReferenceIdeal.nD Cert.CacheReferenceIdeal.τ).loc Cert.CacheReferenceIdeal.main_arg2))

def preserves_Tokens_TokensIdeal : Prop :=
  True

def algebraic_TokensIdeal_TokensReferenceIdeal [hTokensIdeal : Cert.TokensIdeal.Facts] [hTokensReferenceIdeal : Cert.TokensReferenceIdeal.Facts] : Prop :=
  ∀ (m : (ℓ : Loc Cert.TokensIdeal.nD Cert.TokensIdeal.τ Cert.TokensIdeal.sig) → Buf (Elt Ideal) ℓ) (g : Dev Cert.TokensIdeal.nD → PrngReg)
    (m' : (ℓ : Loc Cert.TokensReferenceIdeal.nD Cert.TokensReferenceIdeal.τ Cert.TokensReferenceIdeal.sig) → Buf (Elt Ideal) ℓ) (g' : Dev Cert.TokensReferenceIdeal.nD → PrngReg), Pre_TokensIdeal m →
    (∀ c : Dev Cert.TokensIdeal.nD,
      m' ((c.tc : Thread Cert.TokensReferenceIdeal.nD Cert.TokensReferenceIdeal.τ).loc Cert.TokensReferenceIdeal.main_arg0) = m ((c.tc : Thread Cert.TokensIdeal.nD Cert.TokensIdeal.τ).loc Cert.TokensIdeal.main_arg0)
      ∧ m' ((c.tc : Thread Cert.TokensReferenceIdeal.nD Cert.TokensReferenceIdeal.τ).loc Cert.TokensReferenceIdeal.main_arg1) = m ((c.tc : Thread Cert.TokensIdeal.nD Cert.TokensIdeal.τ).loc Cert.TokensIdeal.main_arg1)
      ∧ m' ((c.tc : Thread Cert.TokensReferenceIdeal.nD Cert.TokensReferenceIdeal.τ).loc Cert.TokensReferenceIdeal.main_arg2) = m ((c.tc : Thread Cert.TokensIdeal.nD Cert.TokensIdeal.τ).loc Cert.TokensIdeal.main_arg2)
      ∧ m' ((c.tc : Thread Cert.TokensReferenceIdeal.nD Cert.TokensReferenceIdeal.τ).loc Cert.TokensReferenceIdeal.main_arg3) = m ((c.tc : Thread Cert.TokensIdeal.nD Cert.TokensIdeal.τ).loc Cert.TokensIdeal.main_arg3)
      ∧ m' ((c.tc : Thread Cert.TokensReferenceIdeal.nD Cert.TokensReferenceIdeal.τ).loc Cert.TokensReferenceIdeal.main_arg4) = m ((c.tc : Thread Cert.TokensIdeal.nD Cert.TokensIdeal.τ).loc Cert.TokensIdeal.main_arg4)
      ∧ m' ((c.tc : Thread Cert.TokensReferenceIdeal.nD Cert.TokensReferenceIdeal.τ).loc Cert.TokensReferenceIdeal.main_arg5) = m ((c.tc : Thread Cert.TokensIdeal.nD Cert.TokensIdeal.τ).loc Cert.TokensIdeal.main_arg5)
      ∧ m' ((c.tc : Thread Cert.TokensReferenceIdeal.nD Cert.TokensReferenceIdeal.τ).loc Cert.TokensReferenceIdeal.main_arg6) = m ((c.tc : Thread Cert.TokensIdeal.nD Cert.TokensIdeal.τ).loc Cert.TokensIdeal.main_arg6)) →
    ∃ (v0 : (c : Dev Cert.TokensIdeal.nD) → Buf (Elt Ideal) ((c.tc : Thread Cert.TokensIdeal.nD Cert.TokensIdeal.τ).loc Cert.TokensIdeal.main_v102_0)) (v1 : (c : Dev Cert.TokensIdeal.nD) → Buf (Elt Ideal) ((c.tc : Thread Cert.TokensIdeal.nD Cert.TokensIdeal.τ).loc Cert.TokensIdeal.main_v102_1)) (v2 : (c : Dev Cert.TokensIdeal.nD) → Buf (Elt Ideal) ((c.tc : Thread Cert.TokensIdeal.nD Cert.TokensIdeal.τ).loc Cert.TokensIdeal.main_v102_2)) (v3 : (c : Dev Cert.TokensIdeal.nD) → Buf (Elt Ideal) ((c.tc : Thread Cert.TokensIdeal.nD Cert.TokensIdeal.τ).loc Cert.TokensIdeal.main_v102_3)) (v4 : (c : Dev Cert.TokensIdeal.nD) → Buf (Elt Ideal) ((c.tc : Thread Cert.TokensIdeal.nD Cert.TokensIdeal.τ).loc Cert.TokensIdeal.main_v102_4)) (v5 : (c : Dev Cert.TokensIdeal.nD) → Buf (Elt Ideal) ((c.tc : Thread Cert.TokensIdeal.nD Cert.TokensIdeal.τ).loc Cert.TokensIdeal.main_v102_5)) (v6 : (c : Dev Cert.TokensIdeal.nD) → Buf (Elt Ideal) ((c.tc : Thread Cert.TokensIdeal.nD Cert.TokensIdeal.τ).loc Cert.TokensIdeal.main_v102_6)) (v7 : (c : Dev Cert.TokensIdeal.nD) → Buf (Elt Ideal) ((c.tc : Thread Cert.TokensIdeal.nD Cert.TokensIdeal.τ).loc Cert.TokensIdeal.main_v102_7)) (v8 : (c : Dev Cert.TokensIdeal.nD) → Buf (Elt Ideal) ((c.tc : Thread Cert.TokensIdeal.nD Cert.TokensIdeal.τ).loc Cert.TokensIdeal.main_v102_8)) (v9 : (c : Dev Cert.TokensIdeal.nD) → Buf (Elt Ideal) ((c.tc : Thread Cert.TokensIdeal.nD Cert.TokensIdeal.τ).loc Cert.TokensIdeal.main_v102_9)) (v10 : (c : Dev Cert.TokensIdeal.nD) → Buf (Elt Ideal) ((c.tc : Thread Cert.TokensIdeal.nD Cert.TokensIdeal.τ).loc Cert.TokensIdeal.main_v102_10)),
      θ_run (Cert.TokensIdeal.defs (F := Ideal)) (onTc (τ := Cert.TokensIdeal.τ) (Cert.TokensIdeal.main (F := Ideal))) ⟨m, fun _ => 0, g⟩ (fun r => ∀ c : Dev Cert.TokensIdeal.nD,
          r.2.mem ((c.tc : Thread Cert.TokensIdeal.nD Cert.TokensIdeal.τ).loc Cert.TokensIdeal.main_v102_0) = v0 c
          ∧ r.2.mem ((c.tc : Thread Cert.TokensIdeal.nD Cert.TokensIdeal.τ).loc Cert.TokensIdeal.main_v102_1) = v1 c
          ∧ r.2.mem ((c.tc : Thread Cert.TokensIdeal.nD Cert.TokensIdeal.τ).loc Cert.TokensIdeal.main_v102_2) = v2 c
          ∧ r.2.mem ((c.tc : Thread Cert.TokensIdeal.nD Cert.TokensIdeal.τ).loc Cert.TokensIdeal.main_v102_3) = v3 c
          ∧ r.2.mem ((c.tc : Thread Cert.TokensIdeal.nD Cert.TokensIdeal.τ).loc Cert.TokensIdeal.main_v102_4) = v4 c
          ∧ r.2.mem ((c.tc : Thread Cert.TokensIdeal.nD Cert.TokensIdeal.τ).loc Cert.TokensIdeal.main_v102_5) = v5 c
          ∧ r.2.mem ((c.tc : Thread Cert.TokensIdeal.nD Cert.TokensIdeal.τ).loc Cert.TokensIdeal.main_v102_6) = v6 c
          ∧ r.2.mem ((c.tc : Thread Cert.TokensIdeal.nD Cert.TokensIdeal.τ).loc Cert.TokensIdeal.main_v102_7) = v7 c
          ∧ r.2.mem ((c.tc : Thread Cert.TokensIdeal.nD Cert.TokensIdeal.τ).loc Cert.TokensIdeal.main_v102_8) = v8 c
          ∧ r.2.mem ((c.tc : Thread Cert.TokensIdeal.nD Cert.TokensIdeal.τ).loc Cert.TokensIdeal.main_v102_9) = v9 c
          ∧ r.2.mem ((c.tc : Thread Cert.TokensIdeal.nD Cert.TokensIdeal.τ).loc Cert.TokensIdeal.main_v102_10) = v10 c
          ∧ r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
          ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
          ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2)
          ∧ r.2.mem ((c.tc : Thread Cert.TokensIdeal.nD Cert.TokensIdeal.τ).loc Cert.TokensIdeal.main_arg3) = m ((c.tc : Thread Cert.TokensIdeal.nD Cert.TokensIdeal.τ).loc Cert.TokensIdeal.main_arg3)
          ∧ r.2.mem ((c.tc : Thread Cert.TokensIdeal.nD Cert.TokensIdeal.τ).loc Cert.TokensIdeal.main_arg4) = m ((c.tc : Thread Cert.TokensIdeal.nD Cert.TokensIdeal.τ).loc Cert.TokensIdeal.main_arg4)
          ∧ r.2.mem ((c.tc : Thread Cert.TokensIdeal.nD Cert.TokensIdeal.τ).loc Cert.TokensIdeal.main_arg5) = m ((c.tc : Thread Cert.TokensIdeal.nD Cert.TokensIdeal.τ).loc Cert.TokensIdeal.main_arg5)
          ∧ r.2.mem ((c.tc : Thread Cert.TokensIdeal.nD Cert.TokensIdeal.τ).loc Cert.TokensIdeal.main_arg6) = m ((c.tc : Thread Cert.TokensIdeal.nD Cert.TokensIdeal.τ).loc Cert.TokensIdeal.main_arg6))
      ∧ θ_run (Cert.TokensReferenceIdeal.defs (F := Ideal)) (onTc (τ := Cert.TokensReferenceIdeal.τ) (Cert.TokensReferenceIdeal.main (F := Ideal))) ⟨m', fun _ => 0, g'⟩ (fun r => ∀ c : Dev Cert.TokensReferenceIdeal.nD,
          r.2.mem ((c.tc : Thread Cert.TokensReferenceIdeal.nD Cert.TokensReferenceIdeal.τ).loc Cert.TokensReferenceIdeal.main_v354) = v0 c
          ∧ r.2.mem ((c.tc : Thread Cert.TokensReferenceIdeal.nD Cert.TokensReferenceIdeal.τ).loc Cert.TokensReferenceIdeal.main_v355) = v1 c
          ∧ r.2.mem ((c.tc : Thread Cert.TokensReferenceIdeal.nD Cert.TokensReferenceIdeal.τ).loc Cert.TokensReferenceIdeal.main_v356) = v2 c
          ∧ r.2.mem ((c.tc : Thread Cert.TokensReferenceIdeal.nD Cert.TokensReferenceIdeal.τ).loc Cert.TokensReferenceIdeal.main_v359) = v3 c
          ∧ r.2.mem ((c.tc : Thread Cert.TokensReferenceIdeal.nD Cert.TokensReferenceIdeal.τ).loc Cert.TokensReferenceIdeal.main_v360) = v4 c
          ∧ r.2.mem ((c.tc : Thread Cert.TokensReferenceIdeal.nD Cert.TokensReferenceIdeal.τ).loc Cert.TokensReferenceIdeal.main_v361) = v5 c
          ∧ r.2.mem ((c.tc : Thread Cert.TokensReferenceIdeal.nD Cert.TokensReferenceIdeal.τ).loc Cert.TokensReferenceIdeal.main_v364) = v6 c
          ∧ r.2.mem ((c.tc : Thread Cert.TokensReferenceIdeal.nD Cert.TokensReferenceIdeal.τ).loc Cert.TokensReferenceIdeal.main_v367) = v7 c
          ∧ r.2.mem ((c.tc : Thread Cert.TokensReferenceIdeal.nD Cert.TokensReferenceIdeal.τ).loc Cert.TokensReferenceIdeal.main_v369) = v8 c
          ∧ r.2.mem ((c.tc : Thread Cert.TokensReferenceIdeal.nD Cert.TokensReferenceIdeal.τ).loc Cert.TokensReferenceIdeal.main_v370) = v9 c
          ∧ r.2.mem ((c.tc : Thread Cert.TokensReferenceIdeal.nD Cert.TokensReferenceIdeal.τ).loc Cert.TokensReferenceIdeal.main_v371) = v10 c
          ∧ r.2.mem ((c.tc : Thread Cert.TokensReferenceIdeal.nD Cert.TokensReferenceIdeal.τ).loc Cert.TokensReferenceIdeal.main_arg0) = m' ((c.tc : Thread Cert.TokensReferenceIdeal.nD Cert.TokensReferenceIdeal.τ).loc Cert.TokensReferenceIdeal.main_arg0)
          ∧ r.2.mem ((c.tc : Thread Cert.TokensReferenceIdeal.nD Cert.TokensReferenceIdeal.τ).loc Cert.TokensReferenceIdeal.main_arg1) = m' ((c.tc : Thread Cert.TokensReferenceIdeal.nD Cert.TokensReferenceIdeal.τ).loc Cert.TokensReferenceIdeal.main_arg1)
          ∧ r.2.mem ((c.tc : Thread Cert.TokensReferenceIdeal.nD Cert.TokensReferenceIdeal.τ).loc Cert.TokensReferenceIdeal.main_arg2) = m' ((c.tc : Thread Cert.TokensReferenceIdeal.nD Cert.TokensReferenceIdeal.τ).loc Cert.TokensReferenceIdeal.main_arg2)
          ∧ r.2.mem ((c.tc : Thread Cert.TokensReferenceIdeal.nD Cert.TokensReferenceIdeal.τ).loc Cert.TokensReferenceIdeal.main_arg3) = m' ((c.tc : Thread Cert.TokensReferenceIdeal.nD Cert.TokensReferenceIdeal.τ).loc Cert.TokensReferenceIdeal.main_arg3)
          ∧ r.2.mem ((c.tc : Thread Cert.TokensReferenceIdeal.nD Cert.TokensReferenceIdeal.τ).loc Cert.TokensReferenceIdeal.main_arg4) = m' ((c.tc : Thread Cert.TokensReferenceIdeal.nD Cert.TokensReferenceIdeal.τ).loc Cert.TokensReferenceIdeal.main_arg4)
          ∧ r.2.mem ((c.tc : Thread Cert.TokensReferenceIdeal.nD Cert.TokensReferenceIdeal.τ).loc Cert.TokensReferenceIdeal.main_arg5) = m' ((c.tc : Thread Cert.TokensReferenceIdeal.nD Cert.TokensReferenceIdeal.τ).loc Cert.TokensReferenceIdeal.main_arg5)
          ∧ r.2.mem ((c.tc : Thread Cert.TokensReferenceIdeal.nD Cert.TokensReferenceIdeal.τ).loc Cert.TokensReferenceIdeal.main_arg6) = m' ((c.tc : Thread Cert.TokensReferenceIdeal.nD Cert.TokensReferenceIdeal.τ).loc Cert.TokensReferenceIdeal.main_arg6))

def Claim : Prop :=
  ∃ (hKernel : Cert.Kernel.Facts) (hKernelIdeal : Cert.KernelIdeal.Facts) (hReferenceIdeal : Cert.ReferenceIdeal.Facts) (hInputs : Cert.Inputs.Facts) (hInputsIdeal : Cert.InputsIdeal.Facts) (hInputsReferenceIdeal : Cert.InputsReferenceIdeal.Facts) (hExperts : Cert.Experts.Facts) (hExpertsIdeal : Cert.ExpertsIdeal.Facts) (hExpertsReferenceIdeal : Cert.ExpertsReferenceIdeal.Facts) (hMerge : Cert.Merge.Facts) (hMergeIdeal : Cert.MergeIdeal.Facts) (hMergeReferenceIdeal : Cert.MergeReferenceIdeal.Facts) (hCombine : Cert.Combine.Facts) (hCombineIdeal : Cert.CombineIdeal.Facts) (hCombineReferenceIdeal : Cert.CombineReferenceIdeal.Facts) (hLatent : Cert.Latent.Facts) (hLatentIdeal : Cert.LatentIdeal.Facts) (hLatentReferenceIdeal : Cert.LatentReferenceIdeal.Facts) (hContext : Cert.Context.Facts) (hContextIdeal : Cert.ContextIdeal.Facts) (hContextReferenceIdeal : Cert.ContextReferenceIdeal.Facts) (hModulation : Cert.Modulation.Facts) (hModulationIdeal : Cert.ModulationIdeal.Facts) (hModulationReferenceIdeal : Cert.ModulationReferenceIdeal.Facts) (hCache : Cert.Cache.Facts) (hCacheIdeal : Cert.CacheIdeal.Facts) (hCacheReferenceIdeal : Cert.CacheReferenceIdeal.Facts) (hTokens : Cert.Tokens.Facts) (hTokensIdeal : Cert.TokensIdeal.Facts) (hTokensReferenceIdeal : Cert.TokensReferenceIdeal.Facts) (hPre_finite_scores : Cert.Pre_finite_scores.Facts) (hPre_tiles_named : Cert.Pre_tiles_named.Facts) (hPre_finite_latents : Cert.Pre_finite_latents.Facts) (hPre_finite_context : Cert.Pre_finite_context.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Inputs (hInputs := hInputs)
    ∧ quiescent_InputsIdeal (hInputsIdeal := hInputsIdeal)
    ∧ quiescent_InputsReferenceIdeal (hInputsReferenceIdeal := hInputsReferenceIdeal)
    ∧ quiescent_Experts (hExperts := hExperts) (hPre_tiles_named := hPre_tiles_named)
    ∧ quiescent_ExpertsIdeal (hExpertsIdeal := hExpertsIdeal) (hPre_tiles_named := hPre_tiles_named)
    ∧ quiescent_ExpertsReferenceIdeal (hExpertsReferenceIdeal := hExpertsReferenceIdeal)
    ∧ quiescent_ExpertsReferenceIdeal_pre_tiles_named (hExpertsReferenceIdeal := hExpertsReferenceIdeal) (hPre_tiles_named := hPre_tiles_named)
    ∧ quiescent_Merge (hMerge := hMerge)
    ∧ quiescent_MergeIdeal (hMergeIdeal := hMergeIdeal)
    ∧ quiescent_MergeReferenceIdeal (hMergeReferenceIdeal := hMergeReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_Latent (hLatent := hLatent)
    ∧ quiescent_LatentIdeal (hLatentIdeal := hLatentIdeal)
    ∧ quiescent_LatentIdeal_pre_finite_latents (hLatentIdeal := hLatentIdeal) (hPre_finite_latents := hPre_finite_latents)
    ∧ quiescent_LatentReferenceIdeal (hLatentReferenceIdeal := hLatentReferenceIdeal)
    ∧ quiescent_LatentReferenceIdeal_pre_finite_latents (hLatentReferenceIdeal := hLatentReferenceIdeal) (hPre_finite_latents := hPre_finite_latents)
    ∧ quiescent_Context (hContext := hContext)
    ∧ quiescent_ContextIdeal (hContextIdeal := hContextIdeal)
    ∧ quiescent_ContextIdeal_pre_finite_context (hContextIdeal := hContextIdeal) (hPre_finite_context := hPre_finite_context)
    ∧ quiescent_ContextReferenceIdeal (hContextReferenceIdeal := hContextReferenceIdeal)
    ∧ quiescent_ContextReferenceIdeal_pre_finite_context (hContextReferenceIdeal := hContextReferenceIdeal) (hPre_finite_context := hPre_finite_context)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_Cache (hCache := hCache)
    ∧ quiescent_CacheIdeal (hCacheIdeal := hCacheIdeal)
    ∧ quiescent_CacheReferenceIdeal (hCacheReferenceIdeal := hCacheReferenceIdeal)
    ∧ quiescent_Tokens (hTokens := hTokens)
    ∧ quiescent_TokensIdeal (hTokensIdeal := hTokensIdeal)
    ∧ quiescent_TokensReferenceIdeal (hTokensReferenceIdeal := hTokensReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Inputs_InputsIdeal
    ∧ algebraic_InputsIdeal_InputsReferenceIdeal (hInputsIdeal := hInputsIdeal) (hInputsReferenceIdeal := hInputsReferenceIdeal)
    ∧ preserves_Experts_ExpertsIdeal
    ∧ algebraic_ExpertsIdeal_ExpertsReferenceIdeal (hExpertsIdeal := hExpertsIdeal) (hExpertsReferenceIdeal := hExpertsReferenceIdeal) (hPre_tiles_named := hPre_tiles_named)
    ∧ preserves_Merge_MergeIdeal
    ∧ algebraic_MergeIdeal_MergeReferenceIdeal (hMergeIdeal := hMergeIdeal) (hMergeReferenceIdeal := hMergeReferenceIdeal)
    ∧ preserves_Combine_CombineIdeal
    ∧ algebraic_CombineIdeal_CombineReferenceIdeal (hCombineIdeal := hCombineIdeal) (hCombineReferenceIdeal := hCombineReferenceIdeal)
    ∧ preserves_Latent_LatentIdeal
    ∧ algebraic_LatentIdeal_LatentReferenceIdeal_pre_finite_latents (hLatentIdeal := hLatentIdeal) (hLatentReferenceIdeal := hLatentReferenceIdeal) (hPre_finite_latents := hPre_finite_latents)
    ∧ preserves_Context_ContextIdeal
    ∧ algebraic_ContextIdeal_ContextReferenceIdeal_pre_finite_context (hContextIdeal := hContextIdeal) (hContextReferenceIdeal := hContextReferenceIdeal) (hPre_finite_context := hPre_finite_context)
    ∧ preserves_Modulation_ModulationIdeal
    ∧ algebraic_ModulationIdeal_ModulationReferenceIdeal (hModulationIdeal := hModulationIdeal) (hModulationReferenceIdeal := hModulationReferenceIdeal)
    ∧ preserves_Cache_CacheIdeal
    ∧ algebraic_CacheIdeal_CacheReferenceIdeal (hCacheIdeal := hCacheIdeal) (hCacheReferenceIdeal := hCacheReferenceIdeal)
    ∧ preserves_Tokens_TokensIdeal
    ∧ algebraic_TokensIdeal_TokensReferenceIdeal (hTokensIdeal := hTokensIdeal) (hTokensReferenceIdeal := hTokensReferenceIdeal)
-- ==== Pre_finite_context.lean ====
abbrev S8192x512 : Shape := ⟨2, ![8192, 512]⟩
abbrev S8192x256 : Shape := ⟨2, ![8192, 256]⟩
abbrev S8192x128 : Shape := ⟨2, ![8192, 128]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S8192x256 : S_.BroadcastsInDim S8192x256 (![] : Fin 0 → Fin S8192x256.rank)
  bcast_S_S8192x128 : S_.BroadcastsInDim S8192x128 (![] : Fin 0 → Fin S8192x128.rank)

variable [Facts]

def fn_part1 {F : FTy → Type} [FloatOps F] (main_arg8 : FVec F S8192x512 .bf16) (main_arg9 : FVec F S8192x128 .bf16) (main_v3 : IVec S8192x512 1) (main_v6 : IVec S8192x512 1) (main_v10 : IVec S8192x512 1) (main_v13 : IVec S8192x512 1) (main_v17 : IVec S8192x512 1) (main_v18 : FVec F S8192x256 .f32) : IVec S8192x512 1 × IVec S8192x512 1 × IVec S8192x512 1 × IVec S8192x512 1 × IVec S8192x512 1 × IVec S8192x256 1 × IVec S8192x512 1 × IVec S8192x128 1 :=
  let main_v19 : FVec F S8192x256 .f32 := Host.absf main_v18
  let main_cst_4 : FVec F S_ .f32 := constant S_ .f32 0x7F800000#32
  let main_v20 : FVec F S8192x256 .f32 := broadcastInDim S8192x256 ![] bcast_S_S8192x256 main_cst_4
  let main_v21 : IVec S8192x256 1 := cmpf .olt main_v19 main_v20
  let main_v22 : FVec F S8192x512 .f32 := (extf .f32 · bitsLt_bf16_f32) main_arg8
  let main_v23 : FVec F S8192x512 .f32 := Host.absf main_v22
  let main_cst_5 : FVec F S_ .f32 := constant S_ .f32 0x7F800000#32
  let main_v24 : FVec F S8192x512 .f32 := broadcastInDim S8192x512 ![] bcast_S_S8192x512 main_cst_5
  let main_v25 : IVec S8192x512 1 := cmpf .olt main_v23 main_v24
  let main_v26 : FVec F S8192x128 .f32 := (extf .f32 · bitsLt_bf16_f32) main_arg9
  let main_v27 : FVec F S8192x128 .f32 := Host.absf main_v26
  let main_cst_6 : FVec F S_ .f32 := constant S_ .f32 0x7F800000#32
  let main_v28 : FVec F S8192x128 .f32 := broadcastInDim S8192x128 ![] bcast_S_S8192x128 main_cst_6
  let main_v29 : IVec S8192x128 1 := cmpf .olt main_v27 main_v28
  (main_v3, main_v6, main_v10, main_v13, main_v17, main_v21, main_v25, main_v29)

def fn {F : FTy → Type} [FloatOps F] (main_arg0 : FVec F S8192x512 .bf16) (main_arg1 : FVec F S8192x512 .f32) (main_arg2 : FVec F S8192x512 .f32) (main_arg3 : FVec F S8192x512 .bf16) (main_arg4 : FVec F S8192x512 .f32) (main_arg5 : FVec F S8192x512 .f32) (main_arg6 : FVec F S8192x512 .bf16) (main_arg7 : FVec F S8192x256 .bf16) (main_arg8 : FVec F S8192x512 .bf16) (main_arg9 : FVec F S8192x128 .bf16) (main_arg10 : FVec F S8192x512 .bf16) (main_arg11 : FVec F S4x64 .f32) (main_arg12 : FVec F S128 .f32) : IVec S8192x512 1 × IVec S8192x512 1 × IVec S8192x512 1 × IVec S8192x512 1 × IVec S8192x512 1 × IVec S8192x256 1 × IVec S8192x512 1 × IVec S8192x128 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_v7 : FVec F S8192x512 .f32 := (extf .f32 · bitsLt_bf16_f32) main_arg3
  let main_v8 : FVec F S8192x512 .f32 := Host.absf main_v7
  let main_cst_1 : FVec F S_ .f32 := constant S_ .f32 0x7F800000#32
  let main_v9 : FVec F S8192x512 .f32 := broadcastInDim S8192x512 ![] bcast_S_S8192x512 main_cst_1
  let main_v10 : IVec S8192x512 1 := cmpf .olt main_v8 main_v9
  let main_v11 : FVec F S8192x512 .f32 := Host.absf main_arg4
  let main_cst_2 : FVec F S_ .f32 := constant S_ .f32 0x7F800000#32
  let main_v12 : FVec F S8192x512 .f32 := broadcastInDim S8192x512 ![] bcast_S_S8192x512 main_cst_2
  let main_v13 : IVec S8192x512 1 := cmpf .olt main_v11 main_v12
  let main_v14 : FVec F S8192x512 .f32 := (extf .f32 · bitsLt_bf16_f32) main_arg6
  let main_v15 : FVec F S8192x512 .f32 := Host.absf main_v14
  let main_cst_3 : FVec F S_ .f32 := constant S_ .f32 0x7F800000#32
  let main_v16 : FVec F S8192x512 .f32 := broadcastInDim S8192x512 ![] bcast_S_S8192x512 main_cst_3
  let main_v17 : IVec S8192x512 1 := cmpf .olt main_v15 main_v16
  let main_v18 : FVec F S8192x256 .f32 := (extf .f32 · bitsLt_bf16_f32) main_arg7
  fn_part1 (F := F) main_arg8 main_arg9 main_v3 main_v6 main_v10 main_v13 main_v17 main_v18
-- ==== Pre_finite_latents.lean ====
abbrev S16384x512 : Shape := ⟨2, ![16384, 512]⟩
abbrev S16384x256 : Shape := ⟨2, ![16384, 256]⟩
abbrev S8x512x512 : Shape := ⟨3, ![8, 512, 512]⟩
abbrev S8x512x128 : Shape := ⟨3, ![8, 512, 128]⟩
abbrev S16384x128 : Shape := ⟨2, ![16384, 128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S16384x256 : S_.BroadcastsInDim S16384x256 (![] : Fin 0 → Fin S16384x256.rank)
  bcast_S_S8x512x512 : S_.BroadcastsInDim S8x512x512 (![] : Fin 0 → Fin S8x512x512.rank)
  bcast_S_S8x512x128 : S_.BroadcastsInDim S8x512x128 (![] : Fin 0 → Fin S8x512x128.rank)
  bcast_S_S16384x128 : S_.BroadcastsInDim S16384x128 (![] : Fin 0 → Fin S16384x128.rank)

variable [Facts]

def fn_part1 {F : FTy → Type} [FloatOps F] (main_arg6 : FVec F S16384x128 .bf16) (main_v3 : IVec S16384x512 1) (main_v7 : IVec S16384x256 1) (main_v11 : IVec S8x512x512 1) (main_v15 : IVec S8x512x128 1) (main_v17 : FVec F S16384x512 .f32) (main_v18 : FVec F S16384x512 .f32) : IVec S16384x512 1 × IVec S16384x256 1 × IVec S8x512x512 1 × IVec S8x512x128 1 × IVec S16384x512 1 × IVec S16384x128 1 :=
  let main_v19 : IVec S16384x512 1 := cmpf .olt main_v17 main_v18
  let main_v20 : FVec F S16384x128 .f32 := (extf .f32 · bitsLt_bf16_f32) main_arg6
  let main_v21 : FVec F S16384x128 .f32 := Host.absf main_v20
  let main_cst_4 : FVec F S_ .f32 := constant S_ .f32 0x7F800000#32
  let main_v22 : FVec F S16384x128 .f32 := broadcastInDim S16384x128 ![] bcast_S_S16384x128 main_cst_4
  let main_v23 : IVec S16384x128 1 := cmpf .olt main_v21 main_v22
  (main_v3, main_v7, main_v11, main_v15, main_v19, main_v23)

def fn {F : FTy → Type} [FloatOps F] (main_arg0 : FVec F S16384x512 .bf16) (main_arg1 : FVec F S16384x256 .bf16) (main_arg2 : FVec F S8x512x512 .bf16) (main_arg3 : FVec F S8x512x128 .bf16) (main_arg4 : FVec F S8x512x512 .bf16) (main_arg5 : FVec F S16384x512 .bf16) (main_arg6 : FVec F S16384x128 .bf16) (main_arg7 : FVec F S16384x512 .bf16) : IVec S16384x512 1 × IVec S16384x256 1 × IVec S8x512x512 1 × IVec S8x512x128 1 × IVec S16384x512 1 × IVec S16384x128 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x256 .f32 := (extf .f32 · bitsLt_bf16_f32) main_arg1
  let main_v5 : FVec F S16384x256 .f32 := Host.absf main_v4
  let main_cst_0 : FVec F S_ .f32 := constant S_ .f32 0x7F800000#32
  let main_v6 : FVec F S16384x256 .f32 := broadcastInDim S16384x256 ![] bcast_S_S16384x256 main_cst_0
  let main_v7 : IVec S16384x256 1 := cmpf .olt main_v5 main_v6
  let main_v8 : FVec F S8x512x512 .f32 := (extf .f32 · bitsLt_bf16_f32) main_arg2
  let main_v9 : FVec F S8x512x512 .f32 := Host.absf main_v8
  let main_cst_1 : FVec F S_ .f32 := constant S_ .f32 0x7F800000#32
  let main_v10 : FVec F S8x512x512 .f32 := broadcastInDim S8x512x512 ![] bcast_S_S8x512x512 main_cst_1
  let main_v11 : IVec S8x512x512 1 := cmpf .olt main_v9 main_v10
  let main_v12 : FVec F S8x512x128 .f32 := (extf .f32 · bitsLt_bf16_f32) main_arg3
  let main_v13 : FVec F S8x512x128 .f32 := Host.absf main_v12
  let main_cst_2 : FVec F S_ .f32 := constant S_ .f32 0x7F800000#32
  let main_v14 : FVec F S8x512x128 .f32 := broadcastInDim S8x512x128 ![] bcast_S_S8x512x128 main_cst_2
  let main_v15 : IVec S8x512x128 1 := cmpf .olt main_v13 main_v14
  let main_v16 : FVec F S16384x512 .f32 := (extf .f32 · bitsLt_bf16_f32) main_arg5
  let main_v17 : FVec F S16384x512 .f32 := Host.absf main_v16
  let main_cst_3 : FVec F S_ .f32 := constant S_ .f32 0x7F800000#32
  let main_v18 : FVec F S16384x512 .f32 := broadcastInDim S16384x512 ![] bcast_S_S16384x512 main_cst_3
  fn_part1 (F := F) main_arg6 main_v3 main_v7 main_v11 main_v15 main_v17 main_v18
-- ==== Pre_finite_scores.lean ====
abbrev S16384x512 : Shape := ⟨2, ![16384, 512]⟩
abbrev S8x2x512x4x128 : Shape := ⟨5, ![8, 2, 512, 4, 128]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S8x2x512x4x128 : S_.BroadcastsInDim S8x2x512x4x128 (![] : Fin 0 → Fin S8x2x512x4x128.rank)

variable [Facts]

def fn {F : FTy → Type} [FloatOps F] (main_arg0 : FVec F S16384x512 .bf16) (main_arg1 : FVec F S8x2x512x4x128 .f32) (main_arg2 : FVec F S8x2x512x4x128 .f32) (main_arg3 : FVec F S16384x512 .bf16) (main_arg4 : FVec F S16384x512 .bf16) (main_arg5 : FVec F S4x64 .f32) (main_arg6 : FVec F S128 .f32) : IVec S16384x512 1 × IVec S8x2x512x4x128 1 × IVec S16384x512 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S8x2x512x4x128 .f32 := Host.absf main_arg1
  let main_cst_0 : FVec F S_ .f32 := constant S_ .f32 0x7F800000#32
  let main_v5 : FVec F S8x2x512x4x128 .f32 := broadcastInDim S8x2x512x4x128 ![] bcast_S_S8x2x512x4x128 main_cst_0
  let main_v6 : IVec S8x2x512x4x128 1 := cmpf .olt main_v4 main_v5
  let main_v7 : FVec F S16384x512 .f32 := (extf .f32 · bitsLt_bf16_f32) main_arg3
  let main_v8 : FVec F S16384x512 .f32 := Host.absf main_v7
  let main_cst_1 : FVec F S_ .f32 := constant S_ .f32 0x7F800000#32
  let main_v9 : FVec F S16384x512 .f32 := broadcastInDim S16384x512 ![] bcast_S_S16384x512 main_cst_1
  let main_v10 : IVec S16384x512 1 := cmpf .olt main_v8 main_v9
  (main_v3, main_v6, main_v10)
-- ==== Pre_tiles_named.lean ====
abbrev S196608x1024 : Shape := ⟨2, ![196608, 1024]⟩
abbrev S192 : Shape := ⟨1, ![192]⟩
abbrev S64x1024x256 : Shape := ⟨3, ![64, 1024, 256]⟩
abbrev S64x256x1024 : Shape := ⟨3, ![64, 256, 1024]⟩
abbrev S_ : Shape := ⟨0, ![]⟩

class Facts : Prop where
  bcast_S_S192 : S_.BroadcastsInDim S192 (![] : Fin 0 → Fin S192.rank)

variable [Facts]

def fn {F : FTy → Type} [FloatOps F] (main_arg0 : FVec F S196608x1024 .bf16) (main_arg1 : IVec S192 32) (main_arg2 : IVec S192 32) (main_arg3 : FVec F S64x1024x256 .bf16) (main_arg4 : FVec F S64x1024x256 .bf16) (main_arg5 : FVec F S64x256x1024 .bf16) : IVec S192 1 :=
  let main_c : IVec S_ 32 := constantI S_ 32 0#32
  let main_v0 : IVec S192 32 := broadcastInDim S192 ![] bcast_S_S192 main_c
  let main_v1 : IVec S192 1 := cmpi .sge main_arg1 main_v0
  let main_c_0 : IVec S_ 32 := constantI S_ 32 64#32
  let main_v2 : IVec S192 32 := broadcastInDim S192 ![] bcast_S_S192 main_c_0
  let main_v3 : IVec S192 1 := cmpi .slt main_arg1 main_v2
  let main_v4 : IVec S192 1 := andi main_v1 main_v3
  let main_c_1 : IVec S_ 32 := constantI S_ 32 0#32
  let main_v5 : IVec S192 32 := broadcastInDim S192 ![] bcast_S_S192 main_c_1
  let main_v6 : IVec S192 1 := cmpi .sge main_arg2 main_v5
  let main_v7 : IVec S192 1 := andi main_v4 main_v6
  main_v7
-- ==== Kernel.lean ====
abbrev S16384x512 : Shape := ⟨2, ![16384, 512]⟩
abbrev S8x2x512x4x128 : Shape := ⟨5, ![8, 2, 512, 4, 128]⟩
abbrev S4x64 : Shape := ⟨2, ![4, 64]⟩
abbrev S128 : Shape := ⟨1, ![128]⟩
abbrev S8x2x512x512 : Shape := ⟨4, ![8, 2, 512, 512]⟩
abbrev S1x128 : Shape := ⟨2, ![1, 128]⟩
abbrev S8x2048x512 : Shape := ⟨3, ![8, 2048, 512]⟩
abbrev S512x512 : Shape := ⟨2, ![512, 512]⟩
abbrev S1x1x512x512 : Shape := ⟨4, ![1, 1, 512, 512]⟩
abbrev S1x2048x512 : Shape := ⟨3, ![1, 2048, 512]⟩
abbrev S1x64 : Shape := ⟨2, ![1, 64]⟩
abbrev S1 : Shape := ⟨1, ![1]⟩
abbrev S1x1 : Shape := ⟨2, ![1, 1]⟩
abbrev S512x128 : Shape := ⟨2, ![512, 128]⟩
abbrev S1x1x512x128 : Shape := ⟨4, ![1, 1, 512, 128]⟩
abbrev S1x2048x128 : Shape := ⟨3, ![1, 2048, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S8x2x512x4x128, .f32⟩
  | .hbm, ⟨2, _⟩ => ⟨S8x2x512x4x128, .f32⟩
  | .hbm, ⟨3, _⟩ => ⟨S16384x512, .bf16⟩
  | .hbm, ⟨4, _⟩ => ⟨S16384x512, .bf16⟩
  | .hbm, ⟨5, _⟩ => ⟨S4x64, .f32⟩
  | .hbm, ⟨6, _⟩ => ⟨S128, .f32⟩
  | .hbm, ⟨7, _⟩ => ⟨S8x2x512x512, .f32⟩
  | .hbm, ⟨8, _⟩ => ⟨S8x2x512x512, .f32⟩
  | .hbm, ⟨9, _⟩ => ⟨S1x128, .f32⟩
  | .hbm, ⟨10, _⟩ => ⟨S8x2048x512, .bf16⟩
  | .hbm, ⟨11, _⟩ => ⟨S8x2048x512, .bf16⟩
  | .hbm, ⟨12, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S4x64, .f32⟩
  | .local _ .vmem, ⟨11, _⟩ => ⟨S1x128, .f32⟩
  | .local _ .vmem, ⟨12, _⟩ => ⟨S512x512, .bf16⟩
  | .local _ .vmem, ⟨13, _⟩ => ⟨S512x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x512 : Shape := ⟨2, ![16384, 512]⟩
abbrev S8x2x512x4x128 : Shape := ⟨5, ![8, 2, 512, 4, 128]⟩
abbrev S4x64 : Shape := ⟨2, ![4, 64]⟩
abbrev S128 : Shape := ⟨1, ![128]⟩
abbrev S_ : Shape := ⟨0, ![]⟩
abbrev S8x2048x4x2x64 : Shape := ⟨5, ![8, 2048, 4, 2, 64]⟩
abbrev S8x1x512x4x128 : Shape := ⟨5, ![8, 1, 512, 4, 128]⟩
abbrev S8x512x4x128 : Shape := ⟨4, ![8, 512, 4, 128]⟩
abbrev S8x512x4x2x64 : Shape := ⟨5, ![8, 512, 4, 2, 64]⟩
abbrev S8x2560x4x2x64 : Shape := ⟨5, ![8, 2560, 4, 2, 64]⟩
abbrev S8x2048x4x128 : Shape := ⟨4, ![8, 2048, 4, 128]⟩
abbrev S8x2560x4x128 : Shape := ⟨4, ![8, 2560, 4, 128]⟩
abbrev S1x64 : Shape := ⟨2, ![1, 64]⟩
abbrev S64 : Shape := ⟨1, ![64]⟩
abbrev S8x4x2x2048x2560 : Shape := ⟨5, ![8, 4, 2, 2048, 2560]⟩
abbrev S8x4x2x2048 : Shape := ⟨4, ![8, 4, 2, 2048]⟩
abbrev S8x4x2x2048x1 : Shape := ⟨5, ![8, 4, 2, 2048, 1]⟩
abbrev S8x4x1x2048x2560 : Shape := ⟨5, ![8, 4, 1, 2048, 2560]⟩
abbrev S8x4x2048x2560 : Shape := ⟨4, ![8, 4, 2048, 2560]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S8x2x512x4x128, .f32⟩
  | .hbm, ⟨2, _⟩ => ⟨S8x2x512x4x128, .f32⟩
  | .hbm, ⟨3, _⟩ => ⟨S16384x512, .bf16⟩
  | .hbm, ⟨4, _⟩ => ⟨S16384x512, .bf16⟩
  | .hbm, ⟨5, _⟩ => ⟨S4x64, .f32⟩
  | .hbm, ⟨6, _⟩ => ⟨S128, .f32⟩
  | .hbm, ⟨7, _⟩ => ⟨S16384x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S8x2048x4x2x64, .f32⟩
  | .hbm, ⟨14, _⟩ => ⟨S8x1x512x4x128, .f32⟩
  | .hbm, ⟨15, _⟩ => ⟨S8x512x4x128, .f32⟩
  | .hbm, ⟨16, _⟩ => ⟨S8x512x4x2x64, .f32⟩
  | .hbm, ⟨17, _⟩ => ⟨S16384x512, .f32⟩
  | .hbm, ⟨18, _⟩ => ⟨S8x2048x4x2x64, .f32⟩
  | .hbm, ⟨19, _⟩ => ⟨S8x2560x4x2x64, .f32⟩
  | .hbm, ⟨20, _⟩ => ⟨S8x1x512x4x128, .f32⟩
  | .hbm, ⟨21, _⟩ => ⟨S8x512x4x128, .f32⟩
  | .hbm, ⟨22, _⟩ => ⟨S16384x512, .f32⟩
  | .hbm, ⟨23, _⟩ => ⟨S8x2048x4x128, .f32⟩
  | .hbm, ⟨24, _⟩ => ⟨S8x2560x4x128, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x64, .f32⟩
  | .hbm, ⟨34, _⟩ => ⟨S64, .f32⟩
  | .hbm, ⟨35, _⟩ => ⟨S1x64, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8x4x2x2048x2560, .f32⟩
  | .hbm, ⟨45, _⟩ => ⟨S_, .f32⟩
  | .hbm, ⟨46, _⟩ => ⟨S8x4x2x2048, .f32⟩
  | .hbm, ⟨47, _⟩ => ⟨S_, .f32⟩
  | .hbm, ⟨48, _⟩ => ⟨S8x4x2x2048, .f32⟩
  | .hbm, ⟨49, _⟩ => ⟨S8x4x2x2048, .f32⟩
  | .hbm, ⟨50, _⟩ => ⟨S8x4x2x2048x1, .f32⟩
  | .hbm, ⟨51, _⟩ => ⟨S8x4x2x2048x2560, .f32⟩
  | .hbm, ⟨52, _⟩ => ⟨S8x4x2x2048x2560, .f32⟩
  | .hbm, ⟨53, _⟩ => ⟨S8x4x2x2048x2560, .f32⟩
  | .hbm, ⟨54, _⟩ => ⟨S_, .f32⟩
  | .hbm, ⟨55, _⟩ => ⟨S8x4x2x2048, .f32⟩
  | .hbm, ⟨56, _⟩ => ⟨S8x4x2x2048x1, .f32⟩
  | .hbm, ⟨57, _⟩ => ⟨S8x4x2x2048x2560, .f32⟩
  | .hbm, ⟨58, _⟩ => ⟨S8x4x2x2048x2560, .f32⟩
  | .hbm, ⟨59, _⟩ => ⟨S8x4x1x2048x2560, .f32⟩
  | .hbm, ⟨60, _⟩ => ⟨S8x4x2048x2560, .f32⟩
  | .hbm, ⟨61, _⟩ => ⟨S8x4x1x2048x2560, .f32⟩
  | .hbm, ⟨62, _⟩ => ⟨S8x4x2048x2560, .f32⟩
  | .hbm, ⟨63, _⟩ => ⟨S8x4x2048x2560, .f32⟩
  | .hbm, ⟨64, _⟩ => ⟨S8x4x2048x2560, .f32⟩
  | .hbm, ⟨65, _⟩ => ⟨S8x4x2048x2560, .f32⟩
  | .hbm, ⟨66, _⟩ => ⟨S8x4x128x2048, .f32⟩
  | .hbm, ⟨67, _⟩ => ⟨S8x2048x4x128, .f32⟩
  | .hbm, ⟨68, _⟩ => ⟨S8x2048x4x128, .f32⟩
  | .hbm, ⟨69, _⟩ => ⟨S_, .f32⟩
  | .hbm, ⟨70, _⟩ => ⟨S8x2048x4, .f32⟩
  | .hbm, ⟨71, _⟩ => ⟨S8x2048x4x1, .f32⟩
  | .hbm, ⟨72, _⟩ => ⟨S_, .f32⟩
  | .hbm, ⟨73, _⟩ => ⟨S8x2048x4x1, .f32⟩
  | .hbm, ⟨74, _⟩ => ⟨S8x2048x4x1, .f32⟩
  | .hbm, ⟨75, _⟩ => ⟨S_, .f32⟩
  | .hbm, ⟨76, _⟩ => ⟨S8x2048x4x1, .f32⟩
  | .hbm, ⟨77, _⟩ => ⟨S8x2048x4x1, .f32⟩
  | .hbm, ⟨78, _⟩ => ⟨S8x2048x4x1, .f32⟩
  | .hbm, ⟨79, _⟩ => ⟨S8x2048x4x128, .f32⟩
  | .hbm, ⟨80, _⟩ => ⟨S8x2048x4x128, .f32⟩
  | .hbm, ⟨81, _⟩ => ⟨S1x1x1x128, .f32⟩
  | .hbm, ⟨82, _⟩ => ⟨S8x2048x4x128, .f32⟩
  | .hbm, ⟨83, _⟩ => ⟨S8x2048x4x128, .f32⟩
  | .hbm, ⟨84, _⟩ => ⟨S_, .f32⟩
  | .hbm, ⟨85, _⟩ => ⟨S8x2048x4x128, .f32⟩
  | .hbm, ⟨86, _⟩ => ⟨S8x2048x4x128, .f32⟩
  | .hbm, ⟨87, _⟩ => ⟨S16384x512, .f32⟩
  | .hbm, ⟨88, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Inputs.lean ====
abbrev S8192x1024 : Shape := ⟨2, ![8192, 1024]⟩
abbrev S1x6x1024 : Shape := ⟨3, ![1, 6, 1024]⟩
abbrev S1024x6816 : Shape := ⟨2, ![1024, 6816]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S1024x3072 : Shape := ⟨2, ![1024, 3072]⟩
abbrev S1024x640 : Shape := ⟨2, ![1024, 640]⟩
abbrev S1024x32 : Shape := ⟨2, ![1024, 32]⟩
abbrev S1x1024x1x32 : Shape := ⟨4, ![1, 1024, 1, 32]⟩
abbrev S1x1024x4x32 : Shape := ⟨4, ![1, 1024, 4, 32]⟩
abbrev S1024x128 : Shape := ⟨2, ![1024, 128]⟩
abbrev S1024x768 : Shape := ⟨2, ![1024, 768]⟩
abbrev S1x384 : Shape := ⟨2, ![1, 384]⟩
abbrev S1x256 : Shape := ⟨2, ![1, 256]⟩
abbrev S8192x512 : Shape := ⟨2, ![8192, 512]⟩
abbrev S8192x256 : Shape := ⟨2, ![8192, 256]⟩
abbrev S8192x128 : Shape := ⟨2, ![8192, 128]⟩
abbrev S8192x32 : Shape := ⟨2, ![8192, 32]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512x32 : Shape := ⟨2, ![512, 32]⟩
abbrev S6x1024 : Shape := ⟨2, ![6, 1024]⟩
abbrev S1x1024 : Shape := ⟨2, ![1, 1024]⟩
abbrev S512x3072 : Shape := ⟨2, ![512, 3072]⟩
abbrev S512x768 : Shape := ⟨2, ![512, 768]⟩
abbrev S512x384 : Shape := ⟨2, ![512, 384]⟩
abbrev S512 : Shape := ⟨1, ![512]⟩
abbrev S512x1 : Shape := ⟨2, ![512, 1]⟩

abbrev nBuf : Space → Nat
  | .hbm => 29
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S1x6x1024, .f32⟩
  | .hbm, ⟨2, _⟩ => ⟨S1024x6816, .bf16⟩
  | .hbm, ⟨3, _⟩ => ⟨S384, .f32⟩
  | .hbm, ⟨4, _⟩ => ⟨S256, .f32⟩
  | .hbm, ⟨5, _⟩ => ⟨S384x768, .bf16⟩
  | .hbm, ⟨6, _⟩ => ⟨S256x1024, .bf16⟩
  | .hbm, ⟨7, _⟩ => ⟨S1024x3072, .bf16⟩
  | .hbm, ⟨8, _⟩ => ⟨S1024x640, .bf16⟩
  | .hbm, ⟨9, _⟩ => ⟨S1024x32, .bf16⟩
  | .hbm, ⟨10, _⟩ => ⟨S1x1024x1x32, .bf16⟩
  | .hbm, ⟨11, _⟩ => ⟨S1x1024x4x32, .bf16⟩
  | .hbm, ⟨12, _⟩ => ⟨S1024x128, .bf16⟩
  | .hbm, ⟨13, _⟩ => ⟨S1024x768, .bf16⟩
  | .hbm, ⟨14, _⟩ => ⟨S1x384, .f32⟩
  | .hbm, ⟨15, _⟩ => ⟨S1x256, .f32⟩
  | .hbm, ⟨16, _⟩ => ⟨S8192x512, .bf16⟩
  | .hbm, ⟨17, _⟩ => ⟨S8192x512, .bf16⟩
  | .hbm, ⟨18, _⟩ => ⟨S8192x512, .bf16⟩
  | .hbm, ⟨19, _⟩ => ⟨S8192x256, .bf16⟩
  | .hbm, ⟨20, _⟩ => ⟨S8192x128, .bf16⟩
  | .hbm, ⟨21, _⟩ => ⟨S8192x512, .bf16⟩
  | .hbm, ⟨22, _⟩ => ⟨S8192x512, .bf16⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x256, .f32⟩
  | .hbm, ⟨28, _⟩ => ⟨S8192x32, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x3072, .bf16⟩
  | .local _ .vmem, ⟨5, _⟩ => ⟨S1024x768, .bf16⟩
  | .local _ .vmem, ⟨6, _⟩ => ⟨S1x384, .f32⟩
  | .local _ .vmem, ⟨7, _⟩ => ⟨S1x256, .f32⟩
  | .local _ .vmem, ⟨8, _⟩ => ⟨S384x768, .bf16⟩
  | .local _ .vmem, ⟨9, _⟩ => ⟨S256x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S512x256, .bf16⟩
  | .local _ .vmem, ⟨18, _⟩ => ⟨S512x128, .bf16⟩
  | .local _ .vmem, ⟨19, _⟩ => ⟨S512x128, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x256, .f32⟩
  | .local _ .vmem, ⟨33, _⟩ => ⟨S512x256, .f32⟩
  | .local _ .vmem, ⟨34, _⟩ => ⟨S512x32, .f32⟩
  | .local _ .vmem, ⟨35, _⟩ => ⟨S512x32, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev main_v9_8 : Ref sig .tc := ⟨.hbm, 24, rfl⟩
abbrev main_v9_9 : Ref sig .tc := ⟨.hbm, 25, rfl⟩
abbrev main_v9_10 : Ref sig .tc := ⟨.hbm, 26, rfl⟩
abbrev main_v9_11 : Ref sig .tc := ⟨.hbm, 27, rfl⟩
abbrev main_v9_12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== InputsReferenceIdeal.lean ====
abbrev S8192x1024 : Shape := ⟨2, ![8192, 1024]⟩
abbrev S1x6x1024 : Shape := ⟨3, ![1, 6, 1024]⟩
abbrev S1024x6816 : Shape := ⟨2, ![1024, 6816]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S1x1x1024 : Shape := ⟨3, ![1, 1, 1024]⟩
abbrev S1024 : Shape := ⟨1, ![1024]⟩
abbrev S_ : Shape := ⟨0, ![]⟩
abbrev S1x1024 : Shape := ⟨2, ![1, 1024]⟩
abbrev S1024x3744 : Shape := ⟨2, ![1024, 3744]⟩
abbrev S8192x3744 : Shape := ⟨2, ![8192, 3744]⟩
abbrev S8192x512 : Shape := ⟨2, ![8192, 512]⟩
abbrev S8192x384 : Shape := ⟨2, ![8192, 384]⟩
abbrev S8192x256 : Shape := ⟨2, ![8192, 256]⟩
abbrev S8192x32 : Shape := ⟨2, ![8192, 32]⟩
abbrev S8192 : Shape := ⟨1, ![8192]⟩
abbrev S8192x1 : Shape := ⟨2, ![8192, 1]⟩
abbrev S1x384 : Shape := ⟨2, ![1, 384]⟩
abbrev S8192x768 : Shape := ⟨2, ![8192, 768]⟩
abbrev S1x256 : Shape := ⟨2, ![1, 256]⟩
abbrev S8192x128 : Shape := ⟨2, ![8192, 128]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x6x1024, .f32⟩
  | .hbm, ⟨2, _⟩ => ⟨S1024x6816, .bf16⟩
  | .hbm, ⟨3, _⟩ => ⟨S384, .f32⟩
  | .hbm, ⟨4, _⟩ => ⟨S256, .f32⟩
  | .hbm, ⟨5, _⟩ => ⟨S384x768, .bf16⟩
  | .hbm, ⟨6, _⟩ => ⟨S256x1024, .bf16⟩
  | .hbm, ⟨7, _⟩ => ⟨S1x1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x3744, .bf16⟩
  | .hbm, ⟨21, _⟩ => ⟨S1024x3744, .f32⟩
  | .hbm, ⟨22, _⟩ => ⟨S8192x3744, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x384, .f32⟩
  | .hbm, ⟨30, _⟩ => ⟨S8192x256, .f32⟩
  | .hbm, ⟨31, _⟩ => ⟨S8192x32, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S8192x384, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x384, .f32⟩
  | .hbm, ⟨50, _⟩ => ⟨S8192x384, .f32⟩
  | .hbm, ⟨51, _⟩ => ⟨S1x384, .f32⟩
  | .hbm, ⟨52, _⟩ => ⟨S8192x384, .f32⟩
  | .hbm, ⟨53, _⟩ => ⟨S8192x384, .f32⟩
  | .hbm, ⟨54, _⟩ => ⟨S384x768, .f32⟩
  | .hbm, ⟨55, _⟩ => ⟨S8192x768, .f32⟩
  | .hbm, ⟨56, _⟩ => ⟨S_, .f32⟩
  | .hbm, ⟨57, _⟩ => ⟨S8192x768, .f32⟩
  | .hbm, ⟨58, _⟩ => ⟨S8192x768, .f32⟩
  | .hbm, ⟨59, _⟩ => ⟨S8192x256, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x256, .f32⟩
  | .hbm, ⟨71, _⟩ => ⟨S8192x256, .f32⟩
  | .hbm, ⟨72, _⟩ => ⟨S1x256, .f32⟩
  | .hbm, ⟨73, _⟩ => ⟨S8192x256, .f32⟩
  | .hbm, ⟨74, _⟩ => ⟨S8192x256, .f32⟩
  | .hbm, ⟨75, _⟩ => ⟨S256x1024, .f32⟩
  | .hbm, ⟨76, _⟩ => ⟨S8192x1024, .f32⟩
  | .hbm, ⟨77, _⟩ => ⟨S8192x512, .f32⟩
  | .hbm, ⟨78, _⟩ => ⟨S8192x256, .f32⟩
  | .hbm, ⟨79, _⟩ => ⟨S8192x512, .f32⟩
  | .hbm, ⟨80, _⟩ => ⟨S8192x512, .f32⟩
  | .hbm, ⟨81, _⟩ => ⟨S8192x128, .f32⟩
  | .hbm, ⟨82, _⟩ => ⟨S8192x512, .bf16⟩
  | .hbm, ⟨83, _⟩ => ⟨S8192x512, .bf16⟩
  | .hbm, ⟨84, _⟩ => ⟨S8192x512, .bf16⟩
  | .hbm, ⟨85, _⟩ => ⟨S8192x256, .bf16⟩
  | .hbm, ⟨86, _⟩ => ⟨S8192x128, .bf16⟩
  | .hbm, ⟨87, _⟩ => ⟨S8192x512, .bf16⟩
  | .hbm, ⟨88, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Experts.lean ====
abbrev S196608x1024 : Shape := ⟨2, ![196608, 1024]⟩
abbrev S192 : Shape := ⟨1, ![192]⟩
abbrev S64x1024x256 : Shape := ⟨3, ![64, 1024, 256]⟩
abbrev S64x256x1024 : Shape := ⟨3, ![64, 256, 1024]⟩
abbrev S1024x1024 : Shape := ⟨2, ![1024, 1024]⟩
abbrev S1x1024x256 : Shape := ⟨3, ![1, 1024, 256]⟩
abbrev S1 : Shape := ⟨1, ![1]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S196608x1024, .bf16⟩
  | .hbm, ⟨1, _⟩ => ⟨S64x1024x256, .bf16⟩
  | .hbm, ⟨2, _⟩ => ⟨S64x1024x256, .bf16⟩
  | .hbm, ⟨3, _⟩ => ⟨S64x256x1024, .bf16⟩
  | .hbm, ⟨4, _⟩ => ⟨S196608x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1024x1024, .bf16⟩
  | .local _ .smem, ⟨0, _⟩ => ⟨S192, .i32⟩
  | .local _ .smem, ⟨1, _⟩ => ⟨S192, .i32⟩
  | _, _ => ⟨S196608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![192], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .eq v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S196608x1024 : Shape := ⟨2, ![196608, 1024]⟩
abbrev S192 : Shape := ⟨1, ![192]⟩
abbrev S64x1024x256 : Shape := ⟨3, ![64, 1024, 256]⟩
abbrev S64x256x1024 : Shape := ⟨3, ![64, 256, 1024]⟩
abbrev S1024 : Shape := ⟨1, ![1024]⟩
abbrev S1x1024 : Shape := ⟨2, ![1, 1024]⟩
abbrev S192x1024 : Shape := ⟨2, ![192, 1024]⟩
abbrev S192x1 : Shape := ⟨2, ![192, 1]⟩
abbrev S64 : Shape := ⟨1, ![64]⟩
abbrev S1x64 : Shape := ⟨2, ![1, 64]⟩
abbrev S192x64 : Shape := ⟨2, ![192, 64]⟩
abbrev S192x1024x1 : Shape := ⟨3, ![192, 1024, 1]⟩
abbrev S192x1x64 : Shape := ⟨3, ![192, 1, 64]⟩
abbrev S192x1024x64 : Shape := ⟨3, ![192, 1024, 64]⟩
abbrev S196608x64 : Shape := ⟨2, ![196608, 64]⟩
abbrev S196608x64x256 : Shape := ⟨3, ![196608, 64, 256]⟩
abbrev S_ : Shape := ⟨0, ![]⟩
abbrev S64x1024x196608 : Shape := ⟨3, ![64, 1024, 196608]⟩
abbrev S196608x64x1024 : Shape := ⟨3, ![196608, 64, 1024]⟩
abbrev S196608x64x1 : Shape := ⟨3, ![196608, 64, 1]⟩

abbrev nBuf : Space → Nat
  | .hbm => 50
  | .vmem => 0
  | .smem => 0
  | _ => 0

abbrev bufTy : (tb : Table) → Fin (tcTables nBuf tb) → BufTy
  | .hbm, ⟨0, _⟩ => ⟨S196608x1024, .bf16⟩
  | .hbm, ⟨1, _⟩ => ⟨S192, .i32⟩
  | .hbm, ⟨2, _⟩ => ⟨S192, .i32⟩
  | .hbm, ⟨3, _⟩ => ⟨S64x1024x256, .bf16⟩
  | .hbm, ⟨4, _⟩ => ⟨S64x1024x256, .bf16⟩
  | .hbm, ⟨5, _⟩ => ⟨S64x256x1024, .bf16⟩
  | .hbm, ⟨6, _⟩ => ⟨S196608x1024, .f32⟩
  | .hbm, ⟨7, _⟩ => ⟨S1024, .i32⟩
  | .hbm, ⟨8, _⟩ => ⟨S1x1024, .i32⟩
  | .hbm, ⟨9, _⟩ => ⟨S192x1024, .i32⟩
  | .hbm, ⟨10, _⟩ => ⟨S192x1, .i32⟩
  | .hbm, ⟨11, _⟩ => ⟨S192x1024, .i32⟩
  | .hbm, ⟨12, _⟩ => ⟨S192x1024, .i1⟩
  | .hbm, ⟨13, _⟩ => ⟨S192x1024, .f32⟩
  | .hbm, ⟨14, _⟩ => ⟨S192x1, .i32⟩
  | .hbm, ⟨15, _⟩ => ⟨S64, .i32⟩
  | .hbm, ⟨16, _⟩ => ⟨S1x64, .i32⟩
  | .hbm, ⟨17, _⟩ => ⟨S192x64, .i32⟩
  | .hbm, ⟨18, _⟩ => ⟨S192x64, .i32⟩
  | .hbm, ⟨19, _⟩ => ⟨S192x64, .i1⟩
  | .hbm, ⟨20, _⟩ => ⟨S192x64, .f32⟩
  | .hbm, ⟨21, _⟩ => ⟨S192x1024x1, .f32⟩
  | .hbm, ⟨22, _⟩ => ⟨S192x1x64, .f32⟩
  | .hbm, ⟨23, _⟩ => ⟨S192x1024x64, .f32⟩
  | .hbm, ⟨24, _⟩ => ⟨S192x1024x64, .f32⟩
  | .hbm, ⟨25, _⟩ => ⟨S192x1024x64, .f32⟩
  | .hbm, ⟨26, _⟩ => ⟨S196608x64, .f32⟩
  | .hbm, ⟨27, _⟩ => ⟨S64x1024x256, .f32⟩
  | .hbm, ⟨28, _⟩ => ⟨S196608x64x256, .f32⟩
  | .hbm, ⟨29, _⟩ => ⟨S196608x64x256, .f32⟩
  | .hbm, ⟨30, _⟩ => ⟨S196608x64x256, .f32⟩
  | .hbm, ⟨31, _⟩ => ⟨S_, .f32⟩
  | .hbm, ⟨32, _⟩ => ⟨S196608x64x256, .f32⟩
  | .hbm, ⟨33, _⟩ => ⟨S196608x64x256, .f32⟩
  | .hbm, ⟨34, _⟩ => ⟨S_, .f32⟩
  | .hbm, ⟨35, _⟩ => ⟨S196608x64x256, .f32⟩
  | .hbm, ⟨36, _⟩ => ⟨S196608x64x256, .f32⟩
  | .hbm, ⟨37, _⟩ => ⟨S196608x64x256, .f32⟩
  | .hbm, ⟨38, _⟩ => ⟨S64x1024x256, .f32⟩
  | .hbm, ⟨39, _⟩ => ⟨S196608x64x256, .f32⟩
  | .hbm, ⟨40, _⟩ => ⟨S196608x64x256, .f32⟩
  | .hbm, ⟨41, _⟩ => ⟨S64x256x1024, .f32⟩
  | .hbm, ⟨42, _⟩ => ⟨S64x1024x196608, .f32⟩
  | .hbm, ⟨43, _⟩ => ⟨S196608x64x1024, .f32⟩
  | .hbm, ⟨44, _⟩ => ⟨S196608x64x1, .f32⟩
  | .hbm, ⟨45, _⟩ => ⟨S196608x64x1024, .f32⟩
  | .hbm, ⟨46, _⟩ => ⟨S196608x64x1024, .f32⟩
  | .hbm, ⟨47, _⟩ => ⟨S_, .f32⟩
  | .hbm, ⟨48, _⟩ => ⟨S196608x1024, .f32⟩
  | .hbm, ⟨49, _⟩ => ⟨S196608x1024, .bf16⟩
  | _, _ => ⟨S196608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Merge.lean ====
abbrev S8192x1024 : Shape := ⟨2, ![8192, 1024]⟩
abbrev S1x6x1024 : Shape := ⟨3, ![1, 6, 1024]⟩
abbrev S8192x512 : Shape := ⟨2, ![8192, 512]⟩
abbrev S1024x6816 : Shape := ⟨2, ![1024, 6816]⟩
abbrev S512x1024 : Shape := ⟨2, ![512, 1024]⟩
abbrev S1024x1024 : Shape := ⟨2, ![1024, 1024]⟩
abbrev S1024 : Shape := ⟨1, ![1024]⟩
abbrev S1024x3072 : Shape := ⟨2, ![1024, 3072]⟩
abbrev S1x1024 : Shape := ⟨2, ![1, 1024]⟩
abbrev S512x512 : Shape := ⟨2, ![512, 512]⟩
abbrev S6x1024 : Shape := ⟨2, ![6, 1024]⟩
abbrev S512x3072 : Shape := ⟨2, ![512, 3072]⟩
abbrev S512 : Shape := ⟨1, ![512]⟩
abbrev S512x1 : Shape := ⟨2, ![512, 1]⟩

abbrev nBuf : Space → Nat
  | .hbm => 17
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x6x1024, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S1024x6816, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1024, .f32⟩
  | .hbm, ⟨11, _⟩ => ⟨S1024, .f32⟩
  | .hbm, ⟨12, _⟩ => ⟨S1024x3072, .bf16⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x3072, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S8192x1024 : Shape := ⟨2, ![8192, 1024]⟩
abbrev S1x6x1024 : Shape := ⟨3, ![1, 6, 1024]⟩
abbrev S8192x512 : Shape := ⟨2, ![8192, 512]⟩
abbrev S1024x6816 : Shape := ⟨2, ![1024, 6816]⟩
abbrev S512x1024 : Shape := ⟨2, ![512, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S1x1024 : Shape := ⟨2, ![1, 1024]⟩
abbrev S1024x3072 : Shape := ⟨2, ![1024, 3072]⟩
abbrev S8192x3072 : Shape := ⟨2, ![8192, 3072]⟩
abbrev S8192 : Shape := ⟨1, ![8192]⟩
abbrev S8192x1 : Shape := ⟨2, ![8192, 1]⟩

abbrev nBuf : Space → Nat
  | .hbm => 123
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x6x1024, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S1024x6816, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1024, .f32⟩
  | .hbm, ⟨11, _⟩ => ⟨S1024, .f32⟩
  | .hbm, ⟨12, _⟩ => ⟨S1x1x1024, .f32⟩
  | .hbm, ⟨13, _⟩ => ⟨S1024, .f32⟩
  | .hbm, ⟨14, _⟩ => ⟨S1x1x1024, .f32⟩
  | .hbm, ⟨15, _⟩ => ⟨S1024, .f32⟩
  | .hbm, ⟨16, _⟩ => ⟨S1x1x1024, .f32⟩
  | .hbm, ⟨17, _⟩ => ⟨S1024, .f32⟩
  | .hbm, ⟨18, _⟩ => ⟨S1x1x1024, .f32⟩
  | .hbm, ⟨19, _⟩ => ⟨S1024, .f32⟩
  | .hbm, ⟨20, _⟩ => ⟨S1x1x1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1024x3072, .bf16⟩
  | .hbm, ⟨32, _⟩ => ⟨S1024x3072, .f32⟩
  | .hbm, ⟨33, _⟩ => ⟨S8192x3072, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x512, .f32⟩
  | .hbm, ⟨46, _⟩ => ⟨S512x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x512, .f32⟩
  | .hbm, ⟨58, _⟩ => ⟨S512x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x512, .f32⟩
  | .hbm, ⟨71, _⟩ => ⟨S512x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1024x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S8192x1024, .f32⟩
  | .hbm, ⟨100, _⟩ => ⟨S8192x1024, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S8192x1, .f32⟩
  | .hbm, ⟨105, _⟩ => ⟨S8192x1024, .f32⟩
  | .hbm, ⟨106, _⟩ => ⟨S8192x1024, .f32⟩
  | .hbm, ⟨107, _⟩ => ⟨S1x1024, .f32⟩
  | .hbm, ⟨108, _⟩ => ⟨S8192x1024, .f32⟩
  | .hbm, ⟨109, _⟩ => ⟨S8192x1024, .f32⟩
  | .hbm, ⟨110, _⟩ => ⟨S1x1024, .f32⟩
  | .hbm, ⟨111, _⟩ => ⟨S8192x1024, .f32⟩
  | .hbm, ⟨112, _⟩ => ⟨S8192x1024, .f32⟩
  | .hbm, ⟨113, _⟩ => ⟨S_, .f32⟩
  | .hbm, ⟨114, _⟩ => ⟨S1024, .f32⟩
  | .hbm, ⟨115, _⟩ => ⟨S1024, .f32⟩
  | .hbm, ⟨116, _⟩ => ⟨S1x1024, .f32⟩
  | .hbm, ⟨117, _⟩ => ⟨S8192x1024, .f32⟩
  | .hbm, ⟨118, _⟩ => ⟨S8192x1024, .f32⟩
  | .hbm, ⟨119, _⟩ => ⟨S1x1024, .f32⟩
  | .hbm, ⟨120, _⟩ => ⟨S8192x1024, .f32⟩
  | .hbm, ⟨121, _⟩ => ⟨S8192x1024, .f32⟩
  | .hbm, ⟨122, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_4 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_cst_8 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_11 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_12 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩

abbrev nD : Nat := 1
abbrev τ : Topo := Topo.v7x

variable {F : FTy → Type} [FloatOps F]
-- ==== Combine.lean ====
abbrev S8x8192x512 : Shape := ⟨3, ![8, 8192, 512]⟩
abbrev S8192x512 : Shape := ⟨2, ![8192, 512]⟩
abbrev S8192x128 : Shape := ⟨2, ![8192, 128]⟩
abbrev S8192x1024 : Shape := ⟨2, ![8192, 1024]⟩
abbrev S1x6x1024 : Shape := ⟨3, ![1, 6, 1024]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S8x512x512 : Shape := ⟨3, ![8, 512, 512]⟩
abbrev S512x512 : Shape := ⟨2, ![512, 512]⟩
abbrev S512x128 : Shape := ⟨2, ![512, 128]⟩
abbrev S512x1024 : Shape := ⟨2, ![512, 1024]⟩
abbrev S512x1 : Shape := ⟨2, ![512, 1]⟩
abbrev S1x512x512 : Shape := ⟨3, ![1, 512, 512]⟩
abbrev S512x256 : Shape := ⟨2, ![512, 256]⟩
abbrev S6x1024 : Shape := ⟨2, ![6, 1024]⟩
abbrev S512 : Shape := ⟨1, ![512]⟩

abbrev nBuf : Space → Nat
  | .hbm => 13
  | .vmem => 17
  | .smem => 0
  | _ => 0

abbrev bufTy : (tb : Table) → Fin (tcTables nBuf tb) → BufTy
  | .hbm, ⟨0, _⟩ => ⟨S8x8192x512, .i32⟩
  | .hbm, ⟨1, _⟩ => ⟨S8192x512, .i32⟩
  | .hbm, ⟨2, _⟩ => ⟨S8192x128, .f32⟩
  | .hbm, ⟨3, _⟩ => ⟨S8192x1024, .f32⟩
  | .hbm, ⟨4, _⟩ => ⟨S1x6x1024, .f32⟩
  | .hbm, ⟨5, _⟩ => ⟨S1024x256, .bf16⟩
  | .hbm, ⟨6, _⟩ => ⟨S1024x256, .bf16⟩
  | .hbm, ⟨7, _⟩ => ⟨S256x1024, .bf16⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S8192x1024, .f32⟩
  | .local _ .vmem, ⟨0, _⟩ => ⟨S8x512x512, .i32⟩
  | .local _ .vmem, ⟨1, _⟩ => ⟨S8x512x512, .i32⟩
  | .local _ .vmem, ⟨2, _⟩ => ⟨S512x512, .i32⟩
  | .local _ .vmem, ⟨3, _⟩ => ⟨S512x512, .i32⟩
  | .local _ .vmem, ⟨4, _⟩ => ⟨S512x128, .f32⟩
  | .local _ .vmem, ⟨5, _⟩ => ⟨S512x128, .f32⟩
  | .local _ .vmem, ⟨6, _⟩ => ⟨S512x1024, .f32⟩
  | .local _ .vmem, ⟨7, _⟩ => ⟨S512x1024, .f32⟩
  | .local _ .vmem, ⟨8, _⟩ => ⟨S1x6x1024, .f32⟩
  | .local _ .vmem, ⟨9, _⟩ => ⟨S1x6x1024, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S8x8192x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== CombineReferenceIdeal.lean ====
abbrev S8x8192x512 : Shape := ⟨3, ![8, 8192, 512]⟩
abbrev S8192x512 : Shape := ⟨2, ![8192, 512]⟩
abbrev S8192x128 : Shape := ⟨2, ![8192, 128]⟩
abbrev S8192x1024 : Shape := ⟨2, ![8192, 1024]⟩
abbrev S1x6x1024 : Shape := ⟨3, ![1, 6, 1024]⟩
abbrev S1024x256 : Shape := ⟨2, ![1024, 256]⟩
abbrev S256x1024 : Shape := ⟨2, ![256, 1024]⟩
abbrev S1024 : Shape := ⟨1, ![1024]⟩
abbrev S8192x512x2 : Shape := ⟨3, ![8192, 512, 2]⟩
abbrev S8192x512x1 : Shape := ⟨3, ![8192, 512, 1]⟩
abbrev S8192x8 : Shape := ⟨2, ![8192, 8]⟩
abbrev S8x8192 : Shape := ⟨2, ![8, 8192]⟩
abbrev S8x8192x1 : Shape := ⟨3, ![8, 8192, 1]⟩
abbrev S8x8192x512x2 : Shape := ⟨4, ![8, 8192, 512, 2]⟩
abbrev S8x8192x512x1 : Shape := ⟨4, ![8, 8192, 512, 1]⟩
abbrev S8x8192x1024 : Shape := ⟨3, ![8, 8192, 1024]⟩
abbrev S_ : Shape := ⟨0, ![]⟩
abbrev S8192x256 : Shape := ⟨2, ![8192, 256]⟩
abbrev S1x1x1024 : Shape := ⟨3, ![1, 1, 1024]⟩
abbrev S1x1024 : Shape := ⟨2, ![1, 1024]⟩
abbrev S8192 : Shape := ⟨1, ![8192]⟩
abbrev S8192x1 : Shape := ⟨2, ![8192, 1]⟩

abbrev nBuf : Space → Nat
  | .hbm => 86
  | .vmem => 0
  | .smem => 0
  | _ => 0

abbrev bufTy : (tb : Table) → Fin (tcTables nBuf tb) → BufTy
  | .hbm, ⟨0, _⟩ => ⟨S8x8192x512, .i32⟩
  | .hbm, ⟨1, _⟩ => ⟨S8192x512, .i32⟩
  | .hbm, ⟨2, _⟩ => ⟨S8192x128, .f32⟩
  | .hbm, ⟨3, _⟩ => ⟨S8192x1024, .f32⟩
  | .hbm, ⟨4, _⟩ => ⟨S1x6x1024, .f32⟩
  | .hbm, ⟨5, _⟩ => ⟨S1024x256, .bf16⟩
  | .hbm, ⟨6, _⟩ => ⟨S1024x256, .bf16⟩
  | .hbm, ⟨7, _⟩ => ⟨S256x1024, .bf16⟩
  | .hbm, ⟨8, _⟩ => ⟨S1024, .f32⟩
  | .hbm, ⟨9, _⟩ => ⟨S1024, .f32⟩
  | .hbm, ⟨10, _⟩ => ⟨S8192x512x2, .bf16⟩
  | .hbm, ⟨11, _⟩ => ⟨S8192x512x1, .bf16⟩
  | .hbm, ⟨12, _⟩ => ⟨S8192x512, .bf16⟩
  | .hbm, ⟨13, _⟩ => ⟨S8192x512x1, .bf16⟩
  | .hbm, ⟨14, _⟩ => ⟨S8192x512, .bf16⟩
  | .hbm, ⟨15, _⟩ => ⟨S8192x1024, .bf16⟩
  | .hbm, ⟨16, _⟩ => ⟨S8192x1024, .f32⟩
  | .hbm, ⟨17, _⟩ => ⟨S8192x8, .f32⟩
  | .hbm, ⟨18, _⟩ => ⟨S8x8192, .f32⟩
  | .hbm, ⟨19, _⟩ => ⟨S8x8192x1, .f32⟩
  | .hbm, ⟨20, _⟩ => ⟨S8x8192x512x2, .bf16⟩
  | .hbm, ⟨21, _⟩ => ⟨S8x8192x512x1, .bf16⟩
  | .hbm, ⟨22, _⟩ => ⟨S8x8192x512, .bf16⟩
  | .hbm, ⟨23, _⟩ => ⟨S8x8192x512x1, .bf16⟩
  | .hbm, ⟨24, _⟩ => ⟨S8x8192x512, .bf16⟩
  | .hbm, ⟨25, _⟩ => ⟨S8x8192x1024, .bf16⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S_, .f32⟩
  | .hbm, ⟨30, _⟩ => ⟨S8192x1024, .f32⟩
  | .hbm, ⟨31, _⟩ => ⟨S1024x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S_, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S1024x256, .f32⟩
  | .hbm, ⟨43, _⟩ => ⟨S8192x256, .f32⟩
  | .hbm, ⟨44, _⟩ => ⟨S8192x256, .f32⟩
  | .hbm, ⟨45, _⟩ => ⟨S256x1024, .f32⟩
  | .hbm, ⟨46, _⟩ => ⟨S8192x1024, .f32⟩
  | .hbm, ⟨47, _⟩ => ⟨S1x1x1024, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S1x1024, .f32⟩
  | .hbm, ⟨84, _⟩ => ⟨S8192x1024, .f32⟩
  | .hbm, ⟨85, _⟩ => ⟨S8192x1024, .f32⟩
  | _, _ => ⟨S8x8192x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_1 : Ref sig .tc := ⟨.hbm, 57, rfl⟩
abbrev main_v37 : Ref sig .tc := ⟨.hbm, 58, rfl⟩
abbrev main_v38 : Ref sig .tc := ⟨.hbm, 59, rfl⟩
abbrev main_cst_2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_5 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Latent.lean ====
abbrev S16384x512 : Shape := ⟨2, ![16384, 512]⟩
abbrev S16384x256 : Shape := ⟨2, ![16384, 256]⟩
abbrev S8x512x512 : Shape := ⟨3, ![8, 512, 512]⟩
abbrev S8x512x128 : Shape := ⟨3, ![8, 512, 128]⟩
abbrev S16384x128 : Shape := ⟨2, ![16384, 128]⟩
abbrev S8x2048x512 : Shape := ⟨3, ![8, 2048, 512]⟩
abbrev S8x2048x128 : Shape := ⟨3, ![8, 2048, 128]⟩
abbrev S512x512 : Shape := ⟨2, ![512, 512]⟩
abbrev S512x256 : Shape := ⟨2, ![512, 256]⟩
abbrev S1x512x512 : Shape := ⟨3, ![1, 512, 512]⟩
abbrev S1x512x128 : Shape := ⟨3, ![1, 512, 128]⟩
abbrev S1x2048x512 : Shape := ⟨3, ![1, 2048, 512]⟩
abbrev S1x2048x128 : Shape := ⟨3, ![1, 2048, 128]⟩
abbrev S512x128 : Shape := ⟨2, ![512, 128]⟩
abbrev S2048x128 : Shape := ⟨2, ![2048, 128]⟩
abbrev S1x128 : Shape := ⟨2, ![1, 128]⟩
abbrev S2048x256 : Shape := ⟨2, ![2048, 256]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x256, .bf16⟩
  | .hbm, ⟨2, _⟩ => ⟨S8x512x512, .bf16⟩
  | .hbm, ⟨3, _⟩ => ⟨S8x512x128, .bf16⟩
  | .hbm, ⟨4, _⟩ => ⟨S8x512x512, .bf16⟩
  | .hbm, ⟨5, _⟩ => ⟨S16384x512, .bf16⟩
  | .hbm, ⟨6, _⟩ => ⟨S16384x128, .bf16⟩
  | .hbm, ⟨7, _⟩ => ⟨S16384x512, .bf16⟩
  | .hbm, ⟨8, _⟩ => ⟨S8x2048x512, .bf16⟩
  | .hbm, ⟨9, _⟩ => ⟨S8x2048x128, .bf16⟩
  | .hbm, ⟨10, _⟩ => ⟨S8x2048x512, .bf16⟩
  | .hbm, ⟨11, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x512, .bf16⟩
  | .local _ .vmem, ⟨9, _⟩ => ⟨S1x512x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x512, .bf16⟩
  | .local _ .vmem, ⟨15, _⟩ => ⟨S1x2048x512, .bf16⟩
  | .local _ .vmem, ⟨16, _⟩ => ⟨S512x512, .bf16⟩
  | .local _ .vmem, ⟨17, _⟩ => ⟨S512x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== LatentReferenceIdeal.lean ====
abbrev S16384x512 : Shape := ⟨2, ![16384, 512]⟩
abbrev S16384x256 : Shape := ⟨2, ![16384, 256]⟩
abbrev S8x512x512 : Shape := ⟨3, ![8, 512, 512]⟩
abbrev S8x512x128 : Shape := ⟨3, ![8, 512, 128]⟩
abbrev S16384x128 : Shape := ⟨2, ![16384, 128]⟩
abbrev S8x2048x8x64 : Shape := ⟨4, ![8, 2048, 8, 64]⟩
abbrev S8x2048x8x32 : Shape := ⟨4, ![8, 2048, 8, 32]⟩
abbrev S8x2048x8x96 : Shape := ⟨4, ![8, 2048, 8, 96]⟩
abbrev S8x512x4x32 : Shape := ⟨4, ![8, 512, 4, 32]⟩
abbrev S8x2048x4x32 : Shape := ⟨4, ![8, 2048, 4, 32]⟩
abbrev S8x2560x4x32 : Shape := ⟨4, ![8, 2560, 4, 32]⟩
abbrev S8x512x8x64 : Shape := ⟨4, ![8, 512, 8, 64]⟩
abbrev S8x2560x8x64 : Shape := ⟨4, ![8, 2560, 8, 64]⟩
abbrev S8x2560x8x32 : Shape := ⟨4, ![8, 2560, 8, 32]⟩
abbrev S8x2560x8x96 : Shape := ⟨4, ![8, 2560, 8, 96]⟩
abbrev S_ : Shape := ⟨0, ![]⟩
abbrev S8x8x2048x2560 : Shape := ⟨4, ![8, 8, 2048, 2560]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x256, .bf16⟩
  | .hbm, ⟨2, _⟩ => ⟨S8x512x512, .bf16⟩
  | .hbm, ⟨3, _⟩ => ⟨S8x512x128, .bf16⟩
  | .hbm, ⟨4, _⟩ => ⟨S8x512x512, .bf16⟩
  | .hbm, ⟨5, _⟩ => ⟨S16384x512, .bf16⟩
  | .hbm, ⟨6, _⟩ => ⟨S16384x128, .bf16⟩
  | .hbm, ⟨7, _⟩ => ⟨S16384x512, .bf16⟩
  | .hbm, ⟨8, _⟩ => ⟨S16384x512, .f32⟩
  | .hbm, ⟨9, _⟩ => ⟨S8x2048x8x64, .f32⟩
  | .hbm, ⟨10, _⟩ => ⟨S16384x256, .f32⟩
  | .hbm, ⟨11, _⟩ => ⟨S8x2048x8x32, .f32⟩
  | .hbm, ⟨12, _⟩ => ⟨S8x2048x8x96, .f32⟩
  | .hbm, ⟨13, _⟩ => ⟨S8x512x128, .f32⟩
  | .hbm, ⟨14, _⟩ => ⟨S8x512x4x32, .f32⟩
  | .hbm, ⟨15, _⟩ => ⟨S16384x128, .f32⟩
  | .hbm, ⟨16, _⟩ => ⟨S8x2048x4x32, .f32⟩
  | .hbm, ⟨17, _⟩ => ⟨S8x2560x4x32, .f32⟩
  | .hbm, ⟨18, _⟩ => ⟨S8x512x512, .f32⟩
  | .hbm, ⟨19, _⟩ => ⟨S8x512x8x64, .f32⟩
  | .hbm, ⟨20, _⟩ => ⟨S16384x512, .f32⟩
  | .hbm, ⟨21, _⟩ => ⟨S8x2048x8x64, .f32⟩
  | .hbm, ⟨22, _⟩ => ⟨S8x2560x8x64, .f32⟩
  | .hbm, ⟨23, _⟩ => ⟨S8x2560x8x32, .f32⟩
  | .hbm, ⟨24, _⟩ => ⟨S8x2560x8x96, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x2048x8x96, .f32⟩
  | .hbm, ⟨29, _⟩ => ⟨S8x2048x8x96, .f32⟩
  | .hbm, ⟨30, _⟩ => ⟨S8x8x2048x2560, .f32⟩
  | .hbm, ⟨31, _⟩ => ⟨S_, .f32⟩
  | .hbm, ⟨32, _⟩ => ⟨S8x8x2048, .f32⟩
  | .hbm, ⟨33, _⟩ => ⟨S_, .f32⟩
  | .hbm, ⟨34, _⟩ => ⟨S8x8x2048, .f32⟩
  | .hbm, ⟨35, _⟩ => ⟨S8x8x2048, .f32⟩
  | .hbm, ⟨36, _⟩ => ⟨S8x8x2048x1, .f32⟩
  | .hbm, ⟨37, _⟩ => ⟨S8x8x2048x2560, .f32⟩
  | .hbm, ⟨38, _⟩ => ⟨S8x8x2048x2560, .f32⟩
  | .hbm, ⟨39, _⟩ => ⟨S8x8x2048x2560, .f32⟩
  | .hbm, ⟨40, _⟩ => ⟨S_, .f32⟩
  | .hbm, ⟨41, _⟩ => ⟨S8x8x2048, .f32⟩
  | .hbm, ⟨42, _⟩ => ⟨S8x8x2048x1, .f32⟩
  | .hbm, ⟨43, _⟩ => ⟨S8x8x2048x2560, .f32⟩
  | .hbm, ⟨44, _⟩ => ⟨S8x8x2048x2560, .f32⟩
  | .hbm, ⟨45, _⟩ => ⟨S8x512x512, .f32⟩
  | .hbm, ⟨46, _⟩ => ⟨S8x512x8x64, .f32⟩
  | .hbm, ⟨47, _⟩ => ⟨S16384x512, .f32⟩
  | .hbm, ⟨48, _⟩ => ⟨S8x2048x8x64, .f32⟩
  | .hbm, ⟨49, _⟩ => ⟨S8x2560x8x64, .f32⟩
  | .hbm, ⟨50, _⟩ => ⟨S8x8x64x2048, .f32⟩
  | .hbm, ⟨51, _⟩ => ⟨S8x2048x8x64, .f32⟩
  | .hbm, ⟨52, _⟩ => ⟨S16384x512, .f32⟩
  | .hbm, ⟨53, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Context.lean ====
abbrev S8192x512 : Shape := ⟨2, ![8192, 512]⟩
abbrev S8192x256 : Shape := ⟨2, ![8192, 256]⟩
abbrev S8192x128 : Shape := ⟨2, ![8192, 128]⟩
abbrev S4x64 : Shape := ⟨2, ![4, 64]⟩
abbrev S128 : Shape := ⟨1, ![128]⟩
abbrev S1x128 : Shape := ⟨2, ![1, 128]⟩
abbrev S256x512 : Shape := ⟨2, ![256, 512]⟩
abbrev S256x256 : Shape := ⟨2, ![256, 256]⟩
abbrev S256x128 : Shape := ⟨2, ![256, 128]⟩
abbrev S1x64 : Shape := ⟨2, ![1, 64]⟩
abbrev S1 : Shape := ⟨1, ![1]⟩
abbrev S1x1 : Shape := ⟨2, ![1, 1]⟩
abbrev S256 : Shape := ⟨1, ![256]⟩
abbrev S256x1 : Shape := ⟨2, ![256, 1]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 30
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S8192x512, .f32⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S8192x512, .bf16⟩
  | .hbm, ⟨7, _⟩ => ⟨S8192x256, .bf16⟩
  | .hbm, ⟨8, _⟩ => ⟨S8192x512, .bf16⟩
  | .hbm, ⟨9, _⟩ => ⟨S8192x128, .bf16⟩
  | .hbm, ⟨10, _⟩ => ⟨S8192x512, .bf16⟩
  | .hbm, ⟨11, _⟩ => ⟨S4x64, .f32⟩
  | .hbm, ⟨12, _⟩ => ⟨S128, .f32⟩
  | .hbm, ⟨13, _⟩ => ⟨S1x128, .f32⟩
  | .hbm, ⟨14, _⟩ => ⟨S8192x512, .bf16⟩
  | .hbm, ⟨15, _⟩ => ⟨S8192x512, .bf16⟩
  | .hbm, ⟨16, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S256x256, .bf16⟩
  | .local _ .vmem, ⟨15, _⟩ => ⟨S256x256, .bf16⟩
  | .local _ .vmem, ⟨16, _⟩ => ⟨S256x512, .bf16⟩
  | .local _ .vmem, ⟨17, _⟩ => ⟨S256x512, .bf16⟩
  | .local _ .vmem, ⟨18, _⟩ => ⟨S256x128, .bf16⟩
  | .local _ .vmem, ⟨19, _⟩ => ⟨S256x128, .bf16⟩
  | .local _ .vmem, ⟨20, _⟩ => ⟨S256x512, .bf16⟩
  | .local _ .vmem, ⟨21, _⟩ => ⟨S256x512, .bf16⟩
  | .local _ .vmem, ⟨22, _⟩ => ⟨S4x64, .f32⟩
  | .local _ .vmem, ⟨23, _⟩ => ⟨S1x128, .f32⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ContextReferenceIdeal.lean ====
abbrev S8192x512 : Shape := ⟨2, ![8192, 512]⟩
abbrev S8192x256 : Shape := ⟨2, ![8192, 256]⟩
abbrev S8192x128 : Shape := ⟨2, ![8192, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S32x256x4x2x64 : Shape := ⟨5, ![32, 256, 4, 2, 64]⟩
abbrev S32x4x2x256x256 : Shape := ⟨5, ![32, 4, 2, 256, 256]⟩
abbrev S32x4x2x256 : Shape := ⟨4, ![32, 4, 2, 256]⟩
abbrev S32x4x2x256x1 : Shape := ⟨5, ![32, 4, 2, 256, 1]⟩
abbrev S32x4x1x256x256 : Shape := ⟨5, ![32, 4, 1, 256, 256]⟩
abbrev S32x4x256x256 : Shape := ⟨4, ![32, 4, 256, 256]⟩
abbrev S32x256x4x128 : Shape := ⟨4, ![32, 256, 4, 128]⟩
abbrev S32x4x128x256 : Shape := ⟨4, ![32, 4, 128, 256]⟩
abbrev S32x256x4 : Shape := ⟨3, ![32, 256, 4]⟩
abbrev S32x256x4x1 : Shape := ⟨4, ![32, 256, 4, 1]⟩
abbrev S1x1x1x128 : Shape := ⟨4, ![1, 1, 1, 128]⟩
abbrev S32x256x8x64 : Shape := ⟨4, ![32, 256, 8, 64]⟩
abbrev S32x8x256x256 : Shape := ⟨4, ![32, 8, 256, 256]⟩
abbrev S32x8x256 : Shape := ⟨3, ![32, 8, 256]⟩
abbrev S32x8x256x1 : Shape := ⟨4, ![32, 8, 256, 1]⟩
abbrev S32x8x64x256 : Shape := ⟨4, ![32, 8, 64, 256]⟩
abbrev S32x256x4x32 : Shape := ⟨4, ![32, 256, 4, 32]⟩
abbrev S32x256x8x32 : Shape := ⟨4, ![32, 256, 8, 32]⟩
abbrev S32x256x8x96 : Shape := ⟨4, ![32, 256, 8, 96]⟩

abbrev nBuf : Space → Nat
  | .hbm => 136
  | .vmem => 0
  | .smem => 0
  | _ => 0

abbrev hbmTy0_0 (i : Nat) : BufTy := match i % 128 with
  | 0 => ⟨S8192x512, .bf16⟩
  | 1 => ⟨S8192x512, .f32⟩
  | 2 => ⟨S8192x512, .f32⟩
  | 3 => ⟨S8192x512, .bf16⟩
  | 4 => ⟨S8192x512, .f32⟩
  | 5 => ⟨S8192x512, .f32⟩
  | 6 => ⟨S8192x512, .bf16⟩
  | 7 => ⟨S8192x256, .bf16⟩
  | 8 => ⟨S8192x512, .bf16⟩
  | 9 => ⟨S8192x128, .bf16⟩
  | 10 => ⟨S8192x512, .bf16⟩
  | 11 => ⟨S4x64, .f32⟩
  | 12 => ⟨S128, .f32⟩
  | 13 => ⟨S1x64, .f32⟩
  | 14 => ⟨S64, .f32⟩
  | 15 => ⟨S1x64, .f32⟩
  | 16 => ⟨S64, .f32⟩
  | 17 => ⟨S64, .f32⟩
  | 18 => ⟨S_, .f32⟩
  | 19 => ⟨S_, .f32⟩
  | 20 => ⟨S_, .f32⟩
  | 21 => ⟨S1x64, .f32⟩
  | 22 => ⟨S64, .f32⟩
  | 23 => ⟨S1x64, .f32⟩
  | 24 => ⟨S64, .f32⟩
  | 25 => ⟨S64, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S8192x512, .f32⟩
  | 33 => ⟨S32x256x4x2x64, .f32⟩
  | 34 => ⟨S32x256x4x2x64, .f32⟩
  | 35 => ⟨S32x4x2x256x256, .f32⟩
  | 36 => ⟨S_, .f32⟩
  | 37 => ⟨S32x4x2x256, .f32⟩
  | 38 => ⟨S_, .f32⟩
  | 39 => ⟨S32x4x2x256, .f32⟩
  | 40 => ⟨S32x4x2x256, .f32⟩
  | 41 => ⟨S32x4x2x256x1, .f32⟩
  | 42 => ⟨S32x4x2x256x256, .f32⟩
  | 43 => ⟨S32x4x2x256x256, .f32⟩
  | 44 => ⟨S32x4x2x256x256, .f32⟩
  | 45 => ⟨S_, .f32⟩
  | 46 => ⟨S32x4x2x256, .f32⟩
  | 47 => ⟨S32x4x2x256x1, .f32⟩
  | 48 => ⟨S32x4x2x256x256, .f32⟩
  | 49 => ⟨S32x4x2x256x256, .f32⟩
  | 50 => ⟨S32x4x1x256x256, .f32⟩
  | 51 => ⟨S32x4x256x256, .f32⟩
  | 52 => ⟨S32x4x1x256x256, .f32⟩
  | 53 => ⟨S32x4x256x256, .f32⟩
  | 54 => ⟨S32x4x256x256, .f32⟩
  | 55 => ⟨S32x4x256x256, .f32⟩
  | 56 => ⟨S32x4x256x256, .f32⟩
  | 57 => ⟨S32x256x4x128, .f32⟩
  | 58 => ⟨S32x4x128x256, .f32⟩
  | 59 => ⟨S32x256x4x128, .f32⟩
  | 60 => ⟨S32x256x4x128, .f32⟩
  | 61 => ⟨S_, .f32⟩
  | 62 => ⟨S32x256x4, .f32⟩
  | 63 => ⟨S32x256x4x1, .f32⟩
  | 64 => ⟨S_, .f32⟩
  | 65 => ⟨S32x256x4x1, .f32⟩
  | 66 => ⟨S32x256x4x1, .f32⟩
  | 67 => ⟨S_, .f32⟩
  | 68 => ⟨S32x256x4x1, .f32⟩
  | 69 => ⟨S32x256x4x1, .f32⟩
  | 70 => ⟨S32x256x4x1, .f32⟩
  | 71 => ⟨S32x256x4x128, .f32⟩
  | 72 => ⟨S32x256x4x128, .f32⟩
  | 73 => ⟨S1x1x1x128, .f32⟩
  | 74 => ⟨S32x256x4x128, .f32⟩
  | 75 => ⟨S32x256x4x128, .f32⟩
  | 76 => ⟨S_, .f32⟩
  | 77 => ⟨S32x256x4x128, .f32⟩
  | 78 => ⟨S32x256x4x128, .f32⟩
  | 79 => ⟨S8192x512, .f32⟩
  | 80 => ⟨S8192x512, .bf16⟩
  | 81 => ⟨S8192x512, .f32⟩
  | 82 => ⟨S32x256x8x64, .f32⟩
  | 83 => ⟨S32x256x8x64, .f32⟩
  | 84 => ⟨S32x256x8x64, .f32⟩
  | 85 => ⟨S32x8x256x256, .f32⟩
  | 86 => ⟨S_, .f32⟩
  | 87 => ⟨S32x8x256, .f32⟩
  | 88 => ⟨S_, .f32⟩
  | 89 => ⟨S32x8x256, .f32⟩
  | 90 => ⟨S32x8x256, .f32⟩
  | 91 => ⟨S32x8x256x1, .f32⟩
  | 92 => ⟨S32x8x256x256, .f32⟩
  | 93 => ⟨S32x8x256x256, .f32⟩
  | 94 => ⟨S32x8x256x256, .f32⟩
  | 95 => ⟨S_, .f32⟩
  | 96 => ⟨S32x8x256, .f32⟩
  | 97 => ⟨S32x8x256x1, .f32⟩
  | 98 => ⟨S32x8x256x256, .f32⟩
  | 99 => ⟨S32x8x256x256, .f32⟩
  | 100 => ⟨S32x8x64x256, .f32⟩
  | 101 => ⟨S32x256x8x64, .f32⟩
  | 102 => ⟨S8192x128, .f32⟩
  | 103 => ⟨S32x256x4x32, .f32⟩
  | 104 => ⟨S8192x512, .f32⟩
  | 105 => ⟨S32x256x8x64, .f32⟩
  | 106 => ⟨S8192x256, .f32⟩
  | 107 => ⟨S32x256x8x32, .f32⟩
  | 108 => ⟨S32x256x8x96, .f32⟩
  | 109 => ⟨S8192x512, .f32⟩
  | 110 => ⟨S32x256x8x64, .f32⟩
  | 111 => ⟨S32x256x8x32, .f32⟩
  | 112 => ⟨S32x256x8x96, .f32⟩
  | 113 => ⟨S8192x512, .f32⟩
  | 114 => ⟨S32x256x8x64, .f32⟩
  | 115 => ⟨S32x8x256x256, .f32⟩
  | 116 => ⟨S_, .f32⟩
  | 117 => ⟨S32x8x256, .f32⟩
  | 118 => ⟨S_, .f32⟩
  | 119 => ⟨S32x8x256, .f32⟩
  | 120 => ⟨S32x8x256, .f32⟩
  | 121 => ⟨S32x8x256x1, .f32⟩
  | 122 => ⟨S32x8x256x256, .f32⟩
  | 123 => ⟨S32x8x256x256, .f32⟩
  | 124 => ⟨S32x8x256x256, .f32⟩
  | 125 => ⟨S_, .f32⟩
  | 126 => ⟨S32x8x256, .f32⟩
  | 127 => ⟨S32x8x256x1, .f32⟩
  | _ => ⟨S8192x512, .bf16⟩

abbrev hbmTy0_1 (i : Nat) : BufTy := match i % 128 with
  | 0 => ⟨S32x8x256x256, .f32⟩
  | 1 => ⟨S32x8x256x256, .f32⟩
  | 2 => ⟨S32x8x64x256, .f32⟩
  | 3 => ⟨S32x256x8x64, .f32⟩
  | 4 => ⟨S8192x512, .f32⟩
  | 5 => ⟨S8192x512, .bf16⟩
  | 6 => ⟨S8192x512, .f32⟩
  | 7 => ⟨S8192x512, .bf16⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_12 : Ref sig .tc := ⟨.hbm, 116, rfl⟩
abbrev main_v90 : Ref sig .tc := ⟨.hbm, 117, rfl⟩
abbrev main_cst_13 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_14 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩

abbrev nD : Nat := 1
abbrev τ : Topo := Topo.v7x

variable {F : FTy → Type} [FloatOps F]
-- ==== Modulation.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S1x16x6144, .f32⟩
  | .hbm, ⟨38, _⟩ => ⟨S1x16x6144, .f32⟩
  | .hbm, ⟨39, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Cache.lean ====
abbrev S8x2x512x256 : Shape := ⟨4, ![8, 2, 512, 256]⟩
abbrev S8x2x512x32 : Shape := ⟨4, ![8, 2, 512, 32]⟩
abbrev S256x1024 : Shape := ⟨2, ![256, 1024]⟩
abbrev S32x128 : Shape := ⟨2, ![32, 128]⟩
abbrev S8x512x512 : Shape := ⟨3, ![8, 512, 512]⟩
abbrev S8x512x128 : Shape := ⟨3, ![8, 512, 128]⟩
abbrev S1x1x512x256 : Shape := ⟨4, ![1, 1, 512, 256]⟩
abbrev S1x1x512x32 : Shape := ⟨4, ![1, 1, 512, 32]⟩
abbrev S1x512x512 : Shape := ⟨3, ![1, 512, 512]⟩
abbrev S1x512x128 : Shape := ⟨3, ![1, 512, 128]⟩
abbrev S512x256 : Shape := ⟨2, ![512, 256]⟩
abbrev S512x1024 : Shape := ⟨2, ![512, 1024]⟩
abbrev S512x512 : Shape := ⟨2, ![512, 512]⟩
abbrev S512x32 : Shape := ⟨2, ![512, 32]⟩
abbrev S512x128 : Shape := ⟨2, ![512, 128]⟩

abbrev nBuf : Space → Nat
  | .hbm => 7
  | .vmem => 12
  | .smem => 0
  | _ => 0

abbrev bufTy : (tb : Table) → Fin (tcTables nBuf tb) → BufTy
  | .hbm, ⟨0, _⟩ => ⟨S8x2x512x256, .f32⟩
  | .hbm, ⟨1, _⟩ => ⟨S8x2x512x32, .f32⟩
  | .hbm, ⟨2, _⟩ => ⟨S256x1024, .bf16⟩
  | .hbm, ⟨3, _⟩ => ⟨S32x128, .bf16⟩
  | .hbm, ⟨4, _⟩ => ⟨S8x512x512, .bf16⟩
  | .hbm, ⟨5, _⟩ => ⟨S8x512x512, .bf16⟩
  | .hbm, ⟨6, _⟩ => ⟨S8x512x128, .bf16⟩
  | .local _ .vmem, ⟨0, _⟩ => ⟨S1x1x512x256, .f32⟩
  | .local _ .vmem, ⟨1, _⟩ => ⟨S1x1x512x256, .f32⟩
  | .local _ .vmem, ⟨2, _⟩ => ⟨S1x1x512x32, .f32⟩
  | .local _ .vmem, ⟨3, _⟩ => ⟨S1x1x512x32, .f32⟩
  | .local _ .vmem, ⟨4, _⟩ => ⟨S256x1024, .bf16⟩
  | .local _ .vmem, ⟨5, _⟩ => ⟨S32x128, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x128, .bf16⟩
  | .local _ .vmem, ⟨11, _⟩ => ⟨S1x512x128, .bf16⟩
  | _, _ => ⟨S8x2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CacheReferenceIdeal.lean ====
abbrev S8x2x512x256 : Shape := ⟨4, ![8, 2, 512, 256]⟩
abbrev S8x2x512x32 : Shape := ⟨4, ![8, 2, 512, 32]⟩
abbrev S256x1024 : Shape := ⟨2, ![256, 1024]⟩
abbrev S8x1x512x256 : Shape := ⟨4, ![8, 1, 512, 256]⟩
abbrev S8x512x256 : Shape := ⟨3, ![8, 512, 256]⟩
abbrev S8x512x1024 : Shape := ⟨3, ![8, 512, 1024]⟩
abbrev S8x512x512 : Shape := ⟨3, ![8, 512, 512]⟩
abbrev S8x1x512x32 : Shape := ⟨4, ![8, 1, 512, 32]⟩
abbrev S8x512x32 : Shape := ⟨3, ![8, 512, 32]⟩
abbrev S8x512x128 : Shape := ⟨3, ![8, 512, 128]⟩

abbrev nBuf : Space → Nat
  | .hbm => 15
  | .vmem => 0
  | .smem => 0
  | _ => 0

abbrev bufTy : (tb : Table) → Fin (tcTables nBuf tb) → BufTy
  | .hbm, ⟨0, _⟩ => ⟨S8x2x512x256, .f32⟩
  | .hbm, ⟨1, _⟩ => ⟨S8x2x512x32, .f32⟩
  | .hbm, ⟨2, _⟩ => ⟨S256x1024, .bf16⟩
  | .hbm, ⟨3, _⟩ => ⟨S8x1x512x256, .f32⟩
  | .hbm, ⟨4, _⟩ => ⟨S8x512x256, .f32⟩
  | .hbm, ⟨5, _⟩ => ⟨S256x1024, .f32⟩
  | .hbm, ⟨6, _⟩ => ⟨S8x512x1024, .f32⟩
  | .hbm, ⟨7, _⟩ => ⟨S8x512x512, .f32⟩
  | .hbm, ⟨8, _⟩ => ⟨S8x512x512, .f32⟩
  | .hbm, ⟨9, _⟩ => ⟨S8x1x512x32, .f32⟩
  | .hbm, ⟨10, _⟩ => ⟨S8x512x32, .f32⟩
  | .hbm, ⟨11, _⟩ => ⟨S8x512x512, .bf16⟩
  | .hbm, ⟨12, _⟩ => ⟨S8x512x512, .bf16⟩
  | .hbm, ⟨13, _⟩ => ⟨S8x512x128, .f32⟩
  | .hbm, ⟨14, _⟩ => ⟨S8x512x128, .bf16⟩
  | _, _ => ⟨S8x2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Tokens.lean ====
abbrev S16384x1024 : Shape := ⟨2, ![16384, 1024]⟩
abbrev S8x6x1024 : Shape := ⟨3, ![8, 6, 1024]⟩
abbrev S1024x6816 : Shape := ⟨2, ![1024, 6816]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S32 : Shape := ⟨1, ![32]⟩
abbrev S1024 : Shape := ⟨1, ![1024]⟩
abbrev S1024x3072 : Shape := ⟨2, ![1024, 3072]⟩
abbrev S1024x640 : Shape := ⟨2, ![1024, 640]⟩
abbrev S1024x32 : Shape := ⟨2, ![1024, 32]⟩
abbrev S1x1024x1x32 : Shape := ⟨4, ![1, 1024, 1, 32]⟩
abbrev S1x1024x4x32 : Shape := ⟨4, ![1, 1024, 4, 32]⟩
abbrev S1024x128 : Shape := ⟨2, ![1024, 128]⟩
abbrev S_ : Shape := ⟨0, ![]⟩
abbrev S32x1 : Shape := ⟨2, ![32, 1]⟩
abbrev S1024x1024 : Shape := ⟨2, ![1024, 1024]⟩
abbrev S1024x1 : Shape := ⟨2, ![1024, 1]⟩
abbrev S1024x896 : Shape := ⟨2, ![1024, 896]⟩
abbrev S1x384 : Shape := ⟨2, ![1, 384]⟩
abbrev S1x256 : Shape := ⟨2, ![1, 256]⟩
abbrev S384x256 : Shape := ⟨2, ![384, 256]⟩
abbrev S256x1 : Shape := ⟨2, ![256, 1]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8 : Shape := ⟨1, ![8]⟩
abbrev S1x8 : Shape := ⟨2, ![1, 8]⟩
abbrev S2048x8 : Shape := ⟨2, ![2048, 8]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S16384x512 : Shape := ⟨2, ![16384, 512]⟩
abbrev S16384x256 : Shape := ⟨2, ![16384, 256]⟩
abbrev S16384x128 : Shape := ⟨2, ![16384, 128]⟩
abbrev S512x1024 : Shape := ⟨2, ![512, 1024]⟩
abbrev S1x6x1024 : Shape := ⟨3, ![1, 6, 1024]⟩
abbrev S512x128 : Shape := ⟨2, ![512, 128]⟩
abbrev S512x512 : Shape := ⟨2, ![512, 512]⟩
abbrev S512x256 : Shape := ⟨2, ![512, 256]⟩
abbrev S6x1024 : Shape := ⟨2, ![6, 1024]⟩
abbrev S1x1024 : Shape := ⟨2, ![1, 1024]⟩
abbrev S512x3072 : Shape := ⟨2, ![512, 3072]⟩
abbrev S512x896 : Shape := ⟨2, ![512, 896]⟩
abbrev S512x384 : Shape := ⟨2, ![512, 384]⟩
abbrev S512 : Shape := ⟨1, ![512]⟩
abbrev S512x1 : Shape := ⟨2, ![512, 1]⟩
abbrev S512x768 : Shape := ⟨2, ![512, 768]⟩

abbrev nBuf : Space → Nat
  | .hbm => 171
  | .vmem => 42
  | .smem => 0
  | _ => 0

abbrev hbmTy0_0 (i : Nat) : BufTy := match i % 128 with
  | 0 => ⟨S16384x1024, .f32⟩
  | 1 => ⟨S8x6x1024, .f32⟩
  | 2 => ⟨S1024x6816, .bf16⟩
  | 3 => ⟨S384, .f32⟩
  | 4 => ⟨S256, .f32⟩
  | 5 => ⟨S384x768, .bf16⟩
  | 6 => ⟨S256x1024, .bf16⟩
  | 7 => ⟨S32, .i32⟩
  | 8 => ⟨S32, .i1⟩
  | 9 => ⟨S1024, .i32⟩
  | 10 => ⟨S1024, .i1⟩
  | 11 => ⟨S256, .i32⟩
  | 12 => ⟨S256, .i1⟩
  | 13 => ⟨S1024x3072, .bf16⟩
  | 14 => ⟨S1024x640, .bf16⟩
  | 15 => ⟨S1024x32, .bf16⟩
  | 16 => ⟨S1x1024x1x32, .bf16⟩
  | 17 => ⟨S1x1024x4x32, .bf16⟩
  | 18 => ⟨S1024x128, .bf16⟩
  | 19 => ⟨S_, .i32⟩
  | 20 => ⟨S32, .i32⟩
  | 21 => ⟨S32, .i32⟩
  | 22 => ⟨S32, .i32⟩
  | 23 => ⟨S32x1, .i32⟩
  | 24 => ⟨S1024x32, .bf16⟩
  | 25 => ⟨S1x1024x1x32, .bf16⟩
  | 26 => ⟨S1x1024x4x32, .bf16⟩
  | 27 => ⟨S1024x128, .bf16⟩
  | 28 => ⟨S1024x1024, .bf16⟩
  | 29 => ⟨S_, .i32⟩
  | 30 => ⟨S1024, .i32⟩
  | 31 => ⟨S1024, .i32⟩
  | 32 => ⟨S1024, .i32⟩
  | 33 => ⟨S1024x1, .i32⟩
  | 34 => ⟨S1024x1024, .bf16⟩
  | 35 => ⟨S1024x896, .bf16⟩
  | 36 => ⟨S1x384, .f32⟩
  | 37 => ⟨S1x256, .f32⟩
  | 38 => ⟨S384x256, .bf16⟩
  | 39 => ⟨S_, .i32⟩
  | 40 => ⟨S256, .i32⟩
  | 41 => ⟨S256, .i32⟩
  | 42 => ⟨S256, .i32⟩
  | 43 => ⟨S256x1, .i32⟩
  | 44 => ⟨S384x256, .bf16⟩
  | 45 => ⟨S2048, .i32⟩
  | 46 => ⟨S_, .i32⟩
  | 47 => ⟨S_, .i32⟩
  | 48 => ⟨S2048, .i32⟩
  | 49 => ⟨S2048, .i32⟩
  | 50 => ⟨S2048, .i32⟩
  | 51 => ⟨S_, .i32⟩
  | 52 => ⟨S2048, .i32⟩
  | 53 => ⟨S2048, .i1⟩
  | 54 => ⟨S2048, .i32⟩
  | 55 => ⟨S2048, .i32⟩
  | 56 => ⟨S_, .i32⟩
  | 57 => ⟨S2048, .i32⟩
  | 58 => ⟨S2048, .i1⟩
  | 59 => ⟨S2048, .i1⟩
  | 60 => ⟨S_, .i32⟩
  | 61 => ⟨S2048, .i32⟩
  | 62 => ⟨S2048, .i32⟩
  | 63 => ⟨S2048, .i32⟩
  | 64 => ⟨S2048, .f32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S2048, .i32⟩
  | 72 => ⟨S2048, .i32⟩
  | 73 => ⟨S_, .i32⟩
  | 74 => ⟨S2048, .i32⟩
  | 75 => ⟨S2048, .i1⟩
  | 76 => ⟨S_, .i32⟩
  | 77 => ⟨S2048, .i32⟩
  | 78 => ⟨S2048, .i1⟩
  | 79 => ⟨S_, .i32⟩
  | 80 => ⟨S_, .i1⟩
  | 81 => ⟨S2048, .i1⟩
  | 82 => ⟨S2048, .i1⟩
  | 83 => ⟨S2048, .i1⟩
  | 84 => ⟨S2048, .i32⟩
  | 85 => ⟨S2048, .i32⟩
  | 86 => ⟨S2048, .i32⟩
  | 87 => ⟨S2048, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S2048x1, .f32⟩
  | 97 => ⟨S1x16, .f32⟩
  | 98 => ⟨S2048x16, .f32⟩
  | 99 => ⟨S2048x16, .f32⟩
  | 100 => ⟨S2048x16, .f32⟩
  | 101 => ⟨S2048x16, .f32⟩
  | 102 => ⟨S2048x16, .f32⟩
  | 103 => ⟨S2048x16, .f32⟩
  | 104 => ⟨S2048x16, .f32⟩
  | 105 => ⟨S2048x16, .f32⟩
  | 106 => ⟨S2048x1, .f32⟩
  | 107 => ⟨S1x16, .f32⟩
  | 108 => ⟨S2048x16, .f32⟩
  | 109 => ⟨S2048x16, .f32⟩
  | 110 => ⟨S2048x16, .f32⟩
  | 111 => ⟨S2048x16, .f32⟩
  | 112 => ⟨S2048x16, .f32⟩
  | 113 => ⟨S2048x16, .f32⟩
  | 114 => ⟨S2048x16, .f32⟩
  | 115 => ⟨S2048x16, .f32⟩
  | 116 => ⟨S2048x64, .f32⟩
  | 117 => ⟨S1x2048x1x64, .f32⟩
  | 118 => ⟨S1x2048x2x64, .f32⟩
  | 119 => ⟨S2048x128, .f32⟩
  | 120 => ⟨S2048x64, .f32⟩
  | 121 => ⟨S1x2048x1x64, .f32⟩
  | 122 => ⟨S1x2048x2x64, .f32⟩
  | 123 => ⟨S2048x128, .f32⟩
  | 124 => ⟨S8, .f32⟩
  | 125 => ⟨S8, .f32⟩
  | 126 => ⟨S_, .f32⟩
  | 127 => ⟨S8, .f32⟩
  | _ => ⟨S16384x1024, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S2048x1, .f32⟩
  | 5 => ⟨S1x8, .f32⟩
  | 6 => ⟨S2048x8, .f32⟩
  | 7 => ⟨S2048x8, .f32⟩
  | 8 => ⟨S2048x8, .f32⟩
  | 9 => ⟨S2048x8, .f32⟩
  | 10 => ⟨S2048x8, .f32⟩
  | 11 => ⟨S2048x8, .f32⟩
  | 12 => ⟨S2048x8, .f32⟩
  | 13 => ⟨S2048x8, .f32⟩
  | 14 => ⟨S2048x1, .f32⟩
  | 15 => ⟨S1x8, .f32⟩
  | 16 => ⟨S2048x8, .f32⟩
  | 17 => ⟨S2048x8, .f32⟩
  | 18 => ⟨S2048x8, .f32⟩
  | 19 => ⟨S2048x8, .f32⟩
  | 20 => ⟨S2048x8, .f32⟩
  | 21 => ⟨S2048x8, .f32⟩
  | 22 => ⟨S2048x8, .f32⟩
  | 23 => ⟨S2048x8, .f32⟩
  | 24 => ⟨S2048x32, .f32⟩
  | 25 => ⟨S1x2048x1x32, .f32⟩
  | 26 => ⟨S1x2048x4x32, .f32⟩
  | 27 => ⟨S2048x128, .f32⟩
  | 28 => ⟨S2048x32, .f32⟩
  | 29 => ⟨S1x2048x1x32, .f32⟩
  | 30 => ⟨S1x2048x4x32, .f32⟩
  | 31 => ⟨S2048x128, .f32⟩
  | 32 => ⟨S16384x512, .bf16⟩
  | 33 => ⟨S16384x512, .bf16⟩
  | 34 => ⟨S16384x512, .bf16⟩
  | 35 => ⟨S16384x512, .bf16⟩
  | 36 => ⟨S16384x512, .bf16⟩
  | 37 => ⟨S16384x512, .bf16⟩
  | 38 => ⟨S16384x512, .bf16⟩
  | 39 => ⟨S16384x256, .bf16⟩
  | 40 => ⟨S16384x128, .bf16⟩
  | 41 => ⟨S16384x512, .bf16⟩
  | 42 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x3072, .bf16⟩
  | .local _ .vmem, ⟨5, _⟩ => ⟨S1024x896, .bf16⟩
  | .local _ .vmem, ⟨6, _⟩ => ⟨S1x384, .f32⟩
  | .local _ .vmem, ⟨7, _⟩ => ⟨S1x256, .f32⟩
  | .local _ .vmem, ⟨8, _⟩ => ⟨S384x768, .bf16⟩
  | .local _ .vmem, ⟨9, _⟩ => ⟨S256x1024, .bf16⟩
  | .local _ .vmem, ⟨10, _⟩ => ⟨S1024x1024, .bf16⟩
  | .local _ .vmem, ⟨11, _⟩ => ⟨S384x256, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x256, .bf16⟩
  | .local _ .vmem, ⟨35, _⟩ => ⟨S512x256, .bf16⟩
  | .local _ .vmem, ⟨36, _⟩ => ⟨S512x128, .bf16⟩
  | .local _ .vmem, ⟨37, _⟩ => ⟨S512x128, .bf16⟩
  | .local _ .vmem, ⟨38, _⟩ => ⟨S512x512, .bf16⟩
  | .local _ .vmem, ⟨39, _⟩ => ⟨S512x512, .bf16⟩
  | .local _ .vmem, ⟨40, _⟩ => ⟨S512x512, .bf16⟩
  | .local _ .vmem, ⟨41, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_6 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_c : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_0 : Ref sig .tc := ⟨.hbm, 60, rfl⟩
abbrev main_call0_v12 : Ref sig .tc := ⟨.hbm, 61, rfl⟩
abbrev main_call0_v13 : Ref sig .tc := ⟨.hbm, 62, rfl⟩
abbrev main_v30 : Ref sig .tc := ⟨.hbm, 63, rfl⟩
abbrev main_v31 : Ref sig .tc := ⟨.hbm, 64, rfl⟩
abbrev main_c_9 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_c_1 : Ref sig .tc := ⟨.hbm, 73, rfl⟩
abbrev main_call1_v5 : Ref sig .tc := ⟨.hbm, 74, rfl⟩
abbrev main_call1_v6 : Ref sig .tc := ⟨.hbm, 75, rfl⟩
abbrev main_call1_c_2 : Ref sig .tc := ⟨.hbm, 76, rfl⟩
abbrev main_call1_v7 : Ref sig .tc := ⟨.hbm, 77, rfl⟩
abbrev main_call1_v8 : Ref sig .tc := ⟨.hbm, 78, rfl⟩
abbrev main_call1_c_3 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_cst : Ref sig .tc := ⟨.hbm, 90, rfl⟩
abbrev main_v36 : Ref sig .tc := ⟨.hbm, 91, rfl⟩
abbrev main_v37 : Ref sig .tc := ⟨.hbm, 92, rfl⟩
abbrev main_cst_10 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_11 : Ref sig .tc := ⟨.hbm, 126, rfl⟩
abbrev main_v70 : Ref sig .tc := ⟨.hbm, 127, rfl⟩
abbrev main_v71 : Ref sig .tc := ⟨.hbm, 128, rfl⟩
abbrev main_cst_12 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102_0 : Ref sig .tc := ⟨.hbm, 160, rfl⟩
abbrev main_v102_1 : Ref sig .tc := ⟨.hbm, 161, rfl⟩
abbrev main_v102_2 : Ref sig .tc := ⟨.hbm, 162, rfl⟩
abbrev main_v102_3 : Ref sig .tc := ⟨.hbm, 163, rfl⟩
abbrev main_v102_4 : Ref sig .tc := ⟨.hbm, 164, rfl⟩
abbrev main_v102_5 : Ref sig .tc := ⟨.hbm, 165, rfl⟩
abbrev main_v102_6 : Ref sig .tc := ⟨.hbm, 166, rfl⟩
abbrev main_v102_7 : Ref sig .tc := ⟨.hbm, 167, rfl⟩
abbrev main_v102_8 : Ref sig .tc := ⟨.hbm, 168, rfl⟩
abbrev main_v102_9 : Ref sig .tc := ⟨.hbm, 169, rfl⟩
abbrev main_v102_10 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== TokensReferenceIdeal.lean ====
abbrev S16384x1024 : Shape := ⟨2, ![16384, 1024]⟩
abbrev S8x6x1024 : Shape := ⟨3, ![8, 6, 1024]⟩
abbrev S1024x6816 : Shape := ⟨2, ![1024, 6816]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S8x1x1024 : Shape := ⟨3, ![8, 1, 1024]⟩
abbrev S8x2048x1024 : Shape := ⟨3, ![8, 2048, 1024]⟩
abbrev S_ : Shape := ⟨0, ![]⟩
abbrev S1024x3744 : Shape := ⟨2, ![1024, 3744]⟩
abbrev S16384x3744 : Shape := ⟨2, ![16384, 3744]⟩
abbrev S16384x512 : Shape := ⟨2, ![16384, 512]⟩
abbrev S16384x384 : Shape := ⟨2, ![16384, 384]⟩
abbrev S16384x256 : Shape := ⟨2, ![16384, 256]⟩
abbrev S16384x32 : Shape := ⟨2, ![16384, 32]⟩
abbrev S16384 : Shape := ⟨1, ![16384]⟩
abbrev S16384x1 : Shape := ⟨2, ![16384, 1]⟩
abbrev S1x384 : Shape := ⟨2, ![1, 384]⟩
abbrev S16384x768 : Shape := ⟨2, ![16384, 768]⟩
abbrev S1x256 : Shape := ⟨2, ![1, 256]⟩
abbrev S8x2048x8x64 : Shape := ⟨4, ![8, 2048, 8, 64]⟩
abbrev S2048 : Shape := ⟨1, ![2048]⟩
abbrev S8x2048x8x32 : Shape := ⟨4, ![8, 2048, 8, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S8x2048x8x16 : Shape := ⟨4, ![8, 2048, 8, 16]⟩
abbrev S1x2048x1x16 : Shape := ⟨4, ![1, 2048, 1, 16]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S8x2048x8x8 : Shape := ⟨4, ![8, 2048, 8, 8]⟩
abbrev S1x2048x1x8 : Shape := ⟨4, ![1, 2048, 1, 8]⟩
abbrev S8x2048x1x32 : Shape := ⟨4, ![8, 2048, 1, 32]⟩
abbrev S8x2048x1x16 : Shape := ⟨4, ![8, 2048, 1, 16]⟩
abbrev S8x2048x1x8 : Shape := ⟨4, ![8, 2048, 1, 8]⟩
abbrev S16384x128 : Shape := ⟨2, ![16384, 128]⟩

abbrev nBuf : Space → Nat
  | .hbm => 558
  | .vmem => 0
  | .smem => 0
  | _ => 0

abbrev hbmTy0_0 (i : Nat) : BufTy := match i % 128 with
  | 0 => ⟨S16384x1024, .f32⟩
  | 1 => ⟨S8x6x1024, .f32⟩
  | 2 => ⟨S1024x6816, .bf16⟩
  | 3 => ⟨S384, .f32⟩
  | 4 => ⟨S256, .f32⟩
  | 5 => ⟨S384x768, .bf16⟩
  | 6 => ⟨S256x1024, .bf16⟩
  | 7 => ⟨S8x1x1024, .f32⟩
  | 8 => ⟨S8x1x1024, .f32⟩
  | 9 => ⟨S8x2048x1024, .f32⟩
  | 10 => ⟨S_, .f32⟩
  | 11 => ⟨S8x1x1024, .f32⟩
  | 12 => ⟨S8x1x1024, .f32⟩
  | 13 => ⟨S8x2048x1024, .f32⟩
  | 14 => ⟨S8x2048x1024, .f32⟩
  | 15 => ⟨S8x2048x1024, .f32⟩
  | 16 => ⟨S8x2048x1024, .f32⟩
  | 17 => ⟨S16384x1024, .f32⟩
  | 18 => ⟨S1024x3744, .bf16⟩
  | 19 => ⟨S1024x3744, .f32⟩
  | 20 => ⟨S16384x3744, .f32⟩
  | 21 => ⟨S16384x512, .f32⟩
  | 22 => ⟨S16384x512, .f32⟩
  | 23 => ⟨S16384x512, .f32⟩
  | 24 => ⟨S16384x512, .f32⟩
  | 25 => ⟨S16384x512, .f32⟩
  | 26 => ⟨S16384x512, .f32⟩
  | 27 => ⟨S16384x384, .f32⟩
  | 28 => ⟨S16384x256, .f32⟩
  | 29 => ⟨S16384x32, .f32⟩
  | 30 => ⟨S16384x384, .f32⟩
  | 31 => ⟨S_, .f32⟩
  | 32 => ⟨S16384, .f32⟩
  | 33 => ⟨S16384x1, .f32⟩
  | 34 => ⟨S_, .f32⟩
  | 35 => ⟨S16384x1, .f32⟩
  | 36 => ⟨S16384x1, .f32⟩
  | 37 => ⟨S_, .f32⟩
  | 38 => ⟨S16384x1, .f32⟩
  | 39 => ⟨S16384x1, .f32⟩
  | 40 => ⟨S16384x1, .f32⟩
  | 41 => ⟨S16384x384, .f32⟩
  | 42 => ⟨S16384x384, .f32⟩
  | 43 => ⟨S1x384, .f32⟩
  | 44 => ⟨S16384x384, .f32⟩
  | 45 => ⟨S16384x384, .f32⟩
  | 46 => ⟨S384x768, .f32⟩
  | 47 => ⟨S16384x768, .f32⟩
  | 48 => ⟨S16384x256, .f32⟩
  | 49 => ⟨S_, .f32⟩
  | 50 => ⟨S16384, .f32⟩
  | 51 => ⟨S16384x1, .f32⟩
  | 52 => ⟨S_, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x1, .f32⟩
  | 59 => ⟨S16384x256, .f32⟩
  | 60 => ⟨S16384x256, .f32⟩
  | 61 => ⟨S1x256, .f32⟩
  | 62 => ⟨S16384x256, .f32⟩
  | 63 => ⟨S16384x256, .f32⟩
  | 64 => ⟨S256x1024, .f32⟩
  | 65 => ⟨S16384x1024, .f32⟩
  | 66 => ⟨S16384x512, .f32⟩
  | 67 => ⟨S16384x256, .f32⟩
  | 68 => ⟨S16384x512, .f32⟩
  | 69 => ⟨S16384x512, .f32⟩
  | 70 => ⟨S8x2048x8x64, .f32⟩
  | 71 => ⟨S2048, .i32⟩
  | 72 => ⟨S8x2048x8x32, .f32⟩
  | 73 => ⟨S_, .i32⟩
  | 74 => ⟨S_, .i32⟩
  | 75 => ⟨S2048, .i32⟩
  | 76 => ⟨S2048, .i32⟩
  | 77 => ⟨S2048, .i32⟩
  | 78 => ⟨S_, .i32⟩
  | 79 => ⟨S2048, .i32⟩
  | 80 => ⟨S2048, .i1⟩
  | 81 => ⟨S2048, .i32⟩
  | 82 => ⟨S2048, .i32⟩
  | 83 => ⟨S_, .i32⟩
  | 84 => ⟨S2048, .i32⟩
  | 85 => ⟨S2048, .i1⟩
  | 86 => ⟨S2048, .i1⟩
  | 87 => ⟨S_, .i32⟩
  | 88 => ⟨S2048, .i32⟩
  | 89 => ⟨S2048, .i32⟩
  | 90 => ⟨S2048, .i32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S2048, .f32⟩
  | 100 => ⟨S2048x1, .f32⟩
  | 101 => ⟨S1x16, .f32⟩
  | 102 => ⟨S2048x16, .f32⟩
  | 103 => ⟨S2048x16, .f32⟩
  | 104 => ⟨S2048x16, .f32⟩
  | 105 => ⟨S2048x16, .f32⟩
  | 106 => ⟨S2048x1x16, .f32⟩
  | 107 => ⟨S2048x16, .f32⟩
  | 108 => ⟨S2048x1x16, .f32⟩
  | 109 => ⟨S8x2048x8x16, .f32⟩
  | 110 => ⟨S8x2048x8x16, .f32⟩
  | 111 => ⟨S1x2048x1x16, .f32⟩
  | 112 => ⟨S8x2048x8x16, .f32⟩
  | 113 => ⟨S8x2048x8x16, .f32⟩
  | 114 => ⟨S1x2048x1x16, .f32⟩
  | 115 => ⟨S8x2048x8x16, .f32⟩
  | 116 => ⟨S8x2048x8x16, .f32⟩
  | 117 => ⟨S8x2048x8x16, .f32⟩
  | 118 => ⟨S1x2048x1x16, .f32⟩
  | 119 => ⟨S8x2048x8x16, .f32⟩
  | 120 => ⟨S8x2048x8x16, .f32⟩
  | 121 => ⟨S1x2048x1x16, .f32⟩
  | 122 => ⟨S8x2048x8x16, .f32⟩
  | 123 => ⟨S8x2048x8x16, .f32⟩
  | 124 => ⟨S8x2048x8x16, .f32⟩
  | 125 => ⟨S8x2048x8x32, .f32⟩
  | 126 => ⟨S8x2048x8x32, .f32⟩
  | 127 => ⟨S_, .i32⟩
  | _ => ⟨S16384x1024, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S2048, .i32⟩
  | 6 => ⟨S2048, .i32⟩
  | 7 => ⟨S_, .i32⟩
  | 8 => ⟨S2048, .i32⟩
  | 9 => ⟨S2048, .i1⟩
  | 10 => ⟨S_, .i32⟩
  | 11 => ⟨S2048, .i32⟩
  | 12 => ⟨S2048, .i1⟩
  | 13 => ⟨S_, .i32⟩
  | 14 => ⟨S_, .i1⟩
  | 15 => ⟨S2048, .i1⟩
  | 16 => ⟨S2048, .i1⟩
  | 17 => ⟨S2048, .i1⟩
  | 18 => ⟨S2048, .i32⟩
  | 19 => ⟨S2048, .i32⟩
  | 20 => ⟨S2048, .i32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S2048, .f32⟩
  | 30 => ⟨S2048x1, .f32⟩
  | 31 => ⟨S1x16, .f32⟩
  | 32 => ⟨S2048x16, .f32⟩
  | 33 => ⟨S2048x16, .f32⟩
  | 34 => ⟨S2048x16, .f32⟩
  | 35 => ⟨S2048x16, .f32⟩
  | 36 => ⟨S2048x1x16, .f32⟩
  | 37 => ⟨S2048x16, .f32⟩
  | 38 => ⟨S2048x1x16, .f32⟩
  | 39 => ⟨S8x2048x8x16, .f32⟩
  | 40 => ⟨S8x2048x8x16, .f32⟩
  | 41 => ⟨S1x2048x1x16, .f32⟩
  | 42 => ⟨S8x2048x8x16, .f32⟩
  | 43 => ⟨S8x2048x8x16, .f32⟩
  | 44 => ⟨S1x2048x1x16, .f32⟩
  | 45 => ⟨S8x2048x8x16, .f32⟩
  | 46 => ⟨S8x2048x8x16, .f32⟩
  | 47 => ⟨S8x2048x8x16, .f32⟩
  | 48 => ⟨S1x2048x1x16, .f32⟩
  | 49 => ⟨S8x2048x8x16, .f32⟩
  | 50 => ⟨S8x2048x8x16, .f32⟩
  | 51 => ⟨S1x2048x1x16, .f32⟩
  | 52 => ⟨S8x2048x8x16, .f32⟩
  | 53 => ⟨S8x2048x8x16, .f32⟩
  | 54 => ⟨S8x2048x8x16, .f32⟩
  | 55 => ⟨S8x2048x8x32, .f32⟩
  | 56 => ⟨S8x2048x8x64, .f32⟩
  | 57 => ⟨S16384x512, .f32⟩
  | 58 => ⟨S8x2048x8x64, .f32⟩
  | 59 => ⟨S2048, .i32⟩
  | 60 => ⟨S8x2048x8x32, .f32⟩
  | 61 => ⟨S_, .i32⟩
  | 62 => ⟨S_, .i32⟩
  | 63 => ⟨S2048, .i32⟩
  | 64 => ⟨S2048, .i32⟩
  | 65 => ⟨S2048, .i32⟩
  | 66 => ⟨S_, .i32⟩
  | 67 => ⟨S2048, .i32⟩
  | 68 => ⟨S2048, .i1⟩
  | 69 => ⟨S2048, .i32⟩
  | 70 => ⟨S2048, .i32⟩
  | 71 => ⟨S_, .i32⟩
  | 72 => ⟨S2048, .i32⟩
  | 73 => ⟨S2048, .i1⟩
  | 74 => ⟨S2048, .i1⟩
  | 75 => ⟨S_, .i32⟩
  | 76 => ⟨S2048, .i32⟩
  | 77 => ⟨S2048, .i32⟩
  | 78 => ⟨S2048, .i32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S2048, .f32⟩
  | 88 => ⟨S2048x1, .f32⟩
  | 89 => ⟨S1x16, .f32⟩
  | 90 => ⟨S2048x16, .f32⟩
  | 91 => ⟨S2048x16, .f32⟩
  | 92 => ⟨S2048x16, .f32⟩
  | 93 => ⟨S2048x16, .f32⟩
  | 94 => ⟨S2048x1x16, .f32⟩
  | 95 => ⟨S2048x16, .f32⟩
  | 96 => ⟨S2048x1x16, .f32⟩
  | 97 => ⟨S8x2048x8x16, .f32⟩
  | 98 => ⟨S8x2048x8x16, .f32⟩
  | 99 => ⟨S1x2048x1x16, .f32⟩
  | 100 => ⟨S8x2048x8x16, .f32⟩
  | 101 => ⟨S8x2048x8x16, .f32⟩
  | 102 => ⟨S1x2048x1x16, .f32⟩
  | 103 => ⟨S8x2048x8x16, .f32⟩
  | 104 => ⟨S8x2048x8x16, .f32⟩
  | 105 => ⟨S8x2048x8x16, .f32⟩
  | 106 => ⟨S1x2048x1x16, .f32⟩
  | 107 => ⟨S8x2048x8x16, .f32⟩
  | 108 => ⟨S8x2048x8x16, .f32⟩
  | 109 => ⟨S1x2048x1x16, .f32⟩
  | 110 => ⟨S8x2048x8x16, .f32⟩
  | 111 => ⟨S8x2048x8x16, .f32⟩
  | 112 => ⟨S8x2048x8x16, .f32⟩
  | 113 => ⟨S8x2048x8x32, .f32⟩
  | 114 => ⟨S8x2048x8x32, .f32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S2048, .i32⟩
  | 122 => ⟨S2048, .i32⟩
  | 123 => ⟨S_, .i32⟩
  | 124 => ⟨S2048, .i32⟩
  | 125 => ⟨S2048, .i1⟩
  | 126 => ⟨S_, .i32⟩
  | 127 => ⟨S2048, .i32⟩
  | _ => ⟨S16384x1024, .f32⟩

abbrev hbmTy0_2 (i : Nat) : BufTy := match i % 128 with
  | 0 => ⟨S2048, .i1⟩
  | 1 => ⟨S_, .i32⟩
  | 2 => ⟨S_, .i1⟩
  | 3 => ⟨S2048, .i1⟩
  | 4 => ⟨S2048, .i1⟩
  | 5 => ⟨S2048, .i1⟩
  | 6 => ⟨S2048, .i32⟩
  | 7 => ⟨S2048, .i32⟩
  | 8 => ⟨S2048, .i32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S2048, .f32⟩
  | 18 => ⟨S2048x1, .f32⟩
  | 19 => ⟨S1x16, .f32⟩
  | 20 => ⟨S2048x16, .f32⟩
  | 21 => ⟨S2048x16, .f32⟩
  | 22 => ⟨S2048x16, .f32⟩
  | 23 => ⟨S2048x16, .f32⟩
  | 24 => ⟨S2048x1x16, .f32⟩
  | 25 => ⟨S2048x16, .f32⟩
  | 26 => ⟨S2048x1x16, .f32⟩
  | 27 => ⟨S8x2048x8x16, .f32⟩
  | 28 => ⟨S8x2048x8x16, .f32⟩
  | 29 => ⟨S1x2048x1x16, .f32⟩
  | 30 => ⟨S8x2048x8x16, .f32⟩
  | 31 => ⟨S8x2048x8x16, .f32⟩
  | 32 => ⟨S1x2048x1x16, .f32⟩
  | 33 => ⟨S8x2048x8x16, .f32⟩
  | 34 => ⟨S8x2048x8x16, .f32⟩
  | 35 => ⟨S8x2048x8x16, .f32⟩
  | 36 => ⟨S1x2048x1x16, .f32⟩
  | 37 => ⟨S8x2048x8x16, .f32⟩
  | 38 => ⟨S8x2048x8x16, .f32⟩
  | 39 => ⟨S1x2048x1x16, .f32⟩
  | 40 => ⟨S8x2048x8x16, .f32⟩
  | 41 => ⟨S8x2048x8x16, .f32⟩
  | 42 => ⟨S8x2048x8x16, .f32⟩
  | 43 => ⟨S8x2048x8x32, .f32⟩
  | 44 => ⟨S8x2048x8x64, .f32⟩
  | 45 => ⟨S16384x512, .f32⟩
  | 46 => ⟨S8x2048x8x32, .f32⟩
  | 47 => ⟨S2048, .i32⟩
  | 48 => ⟨S8x2048x8x16, .f32⟩
  | 49 => ⟨S_, .i32⟩
  | 50 => ⟨S_, .i32⟩
  | 51 => ⟨S2048, .i32⟩
  | 52 => ⟨S2048, .i32⟩
  | 53 => ⟨S2048, .i32⟩
  | 54 => ⟨S_, .i32⟩
  | 55 => ⟨S2048, .i32⟩
  | 56 => ⟨S2048, .i1⟩
  | 57 => ⟨S2048, .i32⟩
  | 58 => ⟨S2048, .i32⟩
  | 59 => ⟨S_, .i32⟩
  | 60 => ⟨S2048, .i32⟩
  | 61 => ⟨S2048, .i1⟩
  | 62 => ⟨S2048, .i1⟩
  | 63 => ⟨S_, .i32⟩
  | 64 => ⟨S2048, .i32⟩
  | 65 => ⟨S2048, .i32⟩
  | 66 => ⟨S2048, .i32⟩
  | 67 => ⟨S8, .f32⟩
  | 68 => ⟨S8, .f32⟩
  | 69 => ⟨S_, .f32⟩
  | 70 => ⟨S8, .f32⟩
  | 71 => ⟨S8, .f32⟩
  | 72 => ⟨S_, .f32⟩
  | 73 => ⟨S8, .f32⟩
  | 74 => ⟨S8, .f32⟩
  | 75 => ⟨S2048, .f32⟩
  | 76 => ⟨S2048x1, .f32⟩
  | 77 => ⟨S1x8, .f32⟩
  | 78 => ⟨S2048x8, .f32⟩
  | 79 => ⟨S2048x8, .f32⟩
  | 80 => ⟨S2048x8, .f32⟩
  | 81 => ⟨S2048x8, .f32⟩
  | 82 => ⟨S2048x1x8, .f32⟩
  | 83 => ⟨S2048x8, .f32⟩
  | 84 => ⟨S2048x1x8, .f32⟩
  | 85 => ⟨S8x2048x8x8, .f32⟩
  | 86 => ⟨S8x2048x8x8, .f32⟩
  | 87 => ⟨S1x2048x1x8, .f32⟩
  | 88 => ⟨S8x2048x8x8, .f32⟩
  | 89 => ⟨S8x2048x8x8, .f32⟩
  | 90 => ⟨S1x2048x1x8, .f32⟩
  | 91 => ⟨S8x2048x8x8, .f32⟩
  | 92 => ⟨S8x2048x8x8, .f32⟩
  | 93 => ⟨S8x2048x8x8, .f32⟩
  | 94 => ⟨S1x2048x1x8, .f32⟩
  | 95 => ⟨S8x2048x8x8, .f32⟩
  | 96 => ⟨S8x2048x8x8, .f32⟩
  | 97 => ⟨S1x2048x1x8, .f32⟩
  | 98 => ⟨S8x2048x8x8, .f32⟩
  | 99 => ⟨S8x2048x8x8, .f32⟩
  | 100 => ⟨S8x2048x8x8, .f32⟩
  | 101 => ⟨S8x2048x8x16, .f32⟩
  | 102 => ⟨S8x2048x8x16, .f32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S2048, .i32⟩
  | 110 => ⟨S2048, .i32⟩
  | 111 => ⟨S_, .i32⟩
  | 112 => ⟨S2048, .i32⟩
  | 113 => ⟨S2048, .i1⟩
  | 114 => ⟨S_, .i32⟩
  | 115 => ⟨S2048, .i32⟩
  | 116 => ⟨S2048, .i1⟩
  | 117 => ⟨S_, .i32⟩
  | 118 => ⟨S_, .i1⟩
  | 119 => ⟨S2048, .i1⟩
  | 120 => ⟨S2048, .i1⟩
  | 121 => ⟨S2048, .i1⟩
  | 122 => ⟨S2048, .i32⟩
  | 123 => ⟨S2048, .i32⟩
  | 124 => ⟨S2048, .i32⟩
  | 125 => ⟨S8, .f32⟩
  | 126 => ⟨S8, .f32⟩
  | 127 => ⟨S_, .f32⟩
  | _ => ⟨S16384x1024, .f32⟩

abbrev hbmTy0_3 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S2048, .f32⟩
  | 6 => ⟨S2048x1, .f32⟩
  | 7 => ⟨S1x8, .f32⟩
  | 8 => ⟨S2048x8, .f32⟩
  | 9 => ⟨S2048x8, .f32⟩
  | 10 => ⟨S2048x8, .f32⟩
  | 11 => ⟨S2048x8, .f32⟩
  | 12 => ⟨S2048x1x8, .f32⟩
  | 13 => ⟨S2048x8, .f32⟩
  | 14 => ⟨S2048x1x8, .f32⟩
  | 15 => ⟨S8x2048x8x8, .f32⟩
  | 16 => ⟨S8x2048x8x8, .f32⟩
  | 17 => ⟨S1x2048x1x8, .f32⟩
  | 18 => ⟨S8x2048x8x8, .f32⟩
  | 19 => ⟨S8x2048x8x8, .f32⟩
  | 20 => ⟨S1x2048x1x8, .f32⟩
  | 21 => ⟨S8x2048x8x8, .f32⟩
  | 22 => ⟨S8x2048x8x8, .f32⟩
  | 23 => ⟨S8x2048x8x8, .f32⟩
  | 24 => ⟨S1x2048x1x8, .f32⟩
  | 25 => ⟨S8x2048x8x8, .f32⟩
  | 26 => ⟨S8x2048x8x8, .f32⟩
  | 27 => ⟨S1x2048x1x8, .f32⟩
  | 28 => ⟨S8x2048x8x8, .f32⟩
  | 29 => ⟨S8x2048x8x8, .f32⟩
  | 30 => ⟨S8x2048x8x8, .f32⟩
  | 31 => ⟨S8x2048x8x16, .f32⟩
  | 32 => ⟨S8x2048x8x32, .f32⟩
  | 33 => ⟨S16384x256, .f32⟩
  | 34 => ⟨S8x2048x1x32, .f32⟩
  | 35 => ⟨S2048, .i32⟩
  | 36 => ⟨S8x2048x1x16, .f32⟩
  | 37 => ⟨S_, .i32⟩
  | 38 => ⟨S_, .i32⟩
  | 39 => ⟨S2048, .i32⟩
  | 40 => ⟨S2048, .i32⟩
  | 41 => ⟨S2048, .i32⟩
  | 42 => ⟨S_, .i32⟩
  | 43 => ⟨S2048, .i32⟩
  | 44 => ⟨S2048, .i1⟩
  | 45 => ⟨S2048, .i32⟩
  | 46 => ⟨S2048, .i32⟩
  | 47 => ⟨S_, .i32⟩
  | 48 => ⟨S2048, .i32⟩
  | 49 => ⟨S2048, .i1⟩
  | 50 => ⟨S2048, .i1⟩
  | 51 => ⟨S_, .i32⟩
  | 52 => ⟨S2048, .i32⟩
  | 53 => ⟨S2048, .i32⟩
  | 54 => ⟨S2048, .i32⟩
  | 55 => ⟨S8, .f32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S8, .f32⟩
  | 63 => ⟨S2048, .f32⟩
  | 64 => ⟨S2048x1, .f32⟩
  | 65 => ⟨S1x8, .f32⟩
  | 66 => ⟨S2048x8, .f32⟩
  | 67 => ⟨S2048x8, .f32⟩
  | 68 => ⟨S2048x8, .f32⟩
  | 69 => ⟨S2048x8, .f32⟩
  | 70 => ⟨S2048x1x8, .f32⟩
  | 71 => ⟨S2048x8, .f32⟩
  | 72 => ⟨S2048x1x8, .f32⟩
  | 73 => ⟨S8x2048x1x8, .f32⟩
  | 74 => ⟨S8x2048x1x8, .f32⟩
  | 75 => ⟨S1x2048x1x8, .f32⟩
  | 76 => ⟨S8x2048x1x8, .f32⟩
  | 77 => ⟨S8x2048x1x8, .f32⟩
  | 78 => ⟨S1x2048x1x8, .f32⟩
  | 79 => ⟨S8x2048x1x8, .f32⟩
  | 80 => ⟨S8x2048x1x8, .f32⟩
  | 81 => ⟨S8x2048x1x8, .f32⟩
  | 82 => ⟨S1x2048x1x8, .f32⟩
  | 83 => ⟨S8x2048x1x8, .f32⟩
  | 84 => ⟨S8x2048x1x8, .f32⟩
  | 85 => ⟨S1x2048x1x8, .f32⟩
  | 86 => ⟨S8x2048x1x8, .f32⟩
  | 87 => ⟨S8x2048x1x8, .f32⟩
  | 88 => ⟨S8x2048x1x8, .f32⟩
  | 89 => ⟨S8x2048x1x16, .f32⟩
  | 90 => ⟨S8x2048x1x16, .f32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S2048, .i32⟩
  | 98 => ⟨S2048, .i32⟩
  | 99 => ⟨S_, .i32⟩
  | 100 => ⟨S2048, .i32⟩
  | 101 => ⟨S2048, .i1⟩
  | 102 => ⟨S_, .i32⟩
  | 103 => ⟨S2048, .i32⟩
  | 104 => ⟨S2048, .i1⟩
  | 105 => ⟨S_, .i32⟩
  | 106 => ⟨S_, .i1⟩
  | 107 => ⟨S2048, .i1⟩
  | 108 => ⟨S2048, .i1⟩
  | 109 => ⟨S2048, .i1⟩
  | 110 => ⟨S2048, .i32⟩
  | 111 => ⟨S2048, .i32⟩
  | 112 => ⟨S2048, .i32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S2048, .f32⟩
  | 122 => ⟨S2048x1, .f32⟩
  | 123 => ⟨S1x8, .f32⟩
  | 124 => ⟨S2048x8, .f32⟩
  | 125 => ⟨S2048x8, .f32⟩
  | 126 => ⟨S2048x8, .f32⟩
  | 127 => ⟨S2048x8, .f32⟩
  | _ => ⟨S16384x1024, .f32⟩

abbrev hbmTy0_4 (i : Nat) : BufTy := match i % 128 with
  | 0 => ⟨S2048x1x8, .f32⟩
  | 1 => ⟨S2048x8, .f32⟩
  | 2 => ⟨S2048x1x8, .f32⟩
  | 3 => ⟨S8x2048x1x8, .f32⟩
  | 4 => ⟨S8x2048x1x8, .f32⟩
  | 5 => ⟨S1x2048x1x8, .f32⟩
  | 6 => ⟨S8x2048x1x8, .f32⟩
  | 7 => ⟨S8x2048x1x8, .f32⟩
  | 8 => ⟨S1x2048x1x8, .f32⟩
  | 9 => ⟨S8x2048x1x8, .f32⟩
  | 10 => ⟨S8x2048x1x8, .f32⟩
  | 11 => ⟨S8x2048x1x8, .f32⟩
  | 12 => ⟨S1x2048x1x8, .f32⟩
  | 13 => ⟨S8x2048x1x8, .f32⟩
  | 14 => ⟨S8x2048x1x8, .f32⟩
  | 15 => ⟨S1x2048x1x8, .f32⟩
  | 16 => ⟨S8x2048x1x8, .f32⟩
  | 17 => ⟨S8x2048x1x8, .f32⟩
  | 18 => ⟨S8x2048x1x8, .f32⟩
  | 19 => ⟨S8x2048x1x16, .f32⟩
  | 20 => ⟨S8x2048x1x32, .f32⟩
  | 21 => ⟨S16384x32, .f32⟩
  | 22 => ⟨S_, .f32⟩
  | 23 => ⟨S16384x512, .f32⟩
  | 24 => ⟨S16384x512, .f32⟩
  | 25 => ⟨S16384x512, .bf16⟩
  | 26 => ⟨S16384x512, .bf16⟩
  | 27 => ⟨S16384x512, .bf16⟩
  | 28 => ⟨S_, .f32⟩
  | 29 => ⟨S16384x512, .f32⟩
  | 30 => ⟨S16384x512, .f32⟩
  | 31 => ⟨S16384x512, .bf16⟩
  | 32 => ⟨S16384x512, .bf16⟩
  | 33 => ⟨S16384x512, .bf16⟩
  | 34 => ⟨S_, .f32⟩
  | 35 => ⟨S16384x512, .f32⟩
  | 36 => ⟨S16384x512, .f32⟩
  | 37 => ⟨S16384x512, .bf16⟩
  | 38 => ⟨S_, .f32⟩
  | 39 => ⟨S16384x256, .f32⟩
  | 40 => ⟨S16384x256, .f32⟩
  | 41 => ⟨S16384x256, .bf16⟩
  | 42 => ⟨S16384x128, .f32⟩
  | 43 => ⟨S16384x128, .bf16⟩
  | 44 => ⟨S16384x512, .bf16⟩
  | 45 => ⟨S16384x512, .bf16⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_c : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_c_0 : Ref sig .tc := ⟨.hbm, 87, rfl⟩
abbrev main_call0_v12 : Ref sig .tc := ⟨.hbm, 88, rfl⟩
abbrev main_call0_v13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_6 : Ref sig .tc := ⟨.hbm, 93, rfl⟩
abbrev main_v62 : Ref sig .tc := ⟨.hbm, 94, rfl⟩
abbrev main_v63 : Ref sig .tc := ⟨.hbm, 95, rfl⟩
abbrev main_cst_7 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_8 : Ref sig .tc := ⟨.hbm, 127, rfl⟩
abbrev main_call1_v0 : Ref sig .tc := ⟨.hbm, 128, rfl⟩
abbrev main_call1_c : Ref sig .tc := ⟨.hbm, 129, rfl⟩
abbrev main_call1_v1 : Ref sig .tc := ⟨.hbm, 130, rfl⟩
abbrev main_call1_c_0 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_call1_c_1 : Ref sig .tc := ⟨.hbm, 135, rfl⟩
abbrev main_call1_v5 : Ref sig .tc := ⟨.hbm, 136, rfl⟩
abbrev main_call1_v6 : Ref sig .tc := ⟨.hbm, 137, rfl⟩
abbrev main_call1_c_2 : Ref sig .tc := ⟨.hbm, 138, rfl⟩
abbrev main_call1_v7 : Ref sig .tc := ⟨.hbm, 139, rfl⟩
abbrev main_call1_v8 : Ref sig .tc := ⟨.hbm, 140, rfl⟩
abbrev main_call1_c_3 : Ref sig .tc := ⟨.hbm, 141, rfl⟩
abbrev main_call1_v9 : Ref sig .tc := ⟨.hbm, 142, rfl⟩
abbrev main_call1_v10 : Ref sig .tc := ⟨.hbm, 143, rfl⟩
abbrev main_call1_v11 : Ref sig .tc := ⟨.hbm, 144, rfl⟩
abbrev main_call1_v12 : Ref sig .tc := ⟨.hbm, 145, rfl⟩
abbrev main_call1_v13 : Ref sig .tc := ⟨.hbm, 146, rfl⟩
abbrev main_call1_v14 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_9 : Ref sig .tc := ⟨.hbm, 151, rfl⟩
abbrev main_v97 : Ref sig .tc := ⟨.hbm, 152, rfl⟩
abbrev main_v98 : Ref sig .tc := ⟨.hbm, 153, rfl⟩
abbrev main_cst_10 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_c_11 : Ref sig .tc := ⟨.hbm, 189, rfl⟩
abbrev main_call2_v0 : Ref sig .tc := ⟨.hbm, 190, rfl⟩
abbrev main_call2_v1 : Ref sig .tc := ⟨.hbm, 191, rfl⟩
abbrev main_call2_v2 : Ref sig .tc := ⟨.hbm, 192, rfl⟩
abbrev main_call2_v3 : Ref sig .tc := ⟨.hbm, 193, rfl⟩
abbrev main_call2_v4 : Ref sig .tc := ⟨.hbm, 194, rfl⟩
abbrev main_call2_v5 : Ref sig .tc := ⟨.hbm, 195, rfl⟩
abbrev main_call2_v6 : Ref sig .tc := ⟨.hbm, 196, rfl⟩
abbrev main_call2_v7 : Ref sig .tc := ⟨.hbm, 197, rfl⟩
abbrev main_call2_v8 : Ref sig .tc := ⟨.hbm, 198, rfl⟩
abbrev main_call2_c : Ref sig .tc := ⟨.hbm, 199, rfl⟩
abbrev main_call2_v9 : Ref sig .tc := ⟨.hbm, 200, rfl⟩
abbrev main_call2_v10 : Ref sig .tc := ⟨.hbm, 201, rfl⟩
abbrev main_call2_v11 : Ref sig .tc := ⟨.hbm, 202, rfl⟩
abbrev main_call2_c_0 : Ref sig .tc := ⟨.hbm, 203, rfl⟩
abbrev main_call2_v12 : Ref sig .tc := ⟨.hbm, 204, rfl⟩
abbrev main_call2_v13 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_cst_12 : Ref sig .tc := ⟨.hbm, 209, rfl⟩
abbrev main_v136 : Ref sig .tc := ⟨.hbm, 210, rfl⟩
abbrev main_v137 : Ref sig .tc := ⟨.hbm, 211, rfl⟩
abbrev main_cst_13 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_c_14 : Ref sig .tc := ⟨.hbm, 243, rfl⟩
abbrev main_call3_v0 : Ref sig .tc := ⟨.hbm, 244, rfl⟩
abbrev main_call3_c : Ref sig .tc := ⟨.hbm, 245, rfl⟩
abbrev main_call3_v1 : Ref sig .tc := ⟨.hbm, 246, rfl⟩
abbrev main_call3_c_0 : Ref sig .tc := ⟨.hbm, 247, rfl⟩
abbrev main_call3_v2 : Ref sig .tc := ⟨.hbm, 248, rfl⟩
abbrev main_call3_v3 : Ref sig .tc := ⟨.hbm, 249, rfl⟩
abbrev main_call3_v4 : Ref sig .tc := ⟨.hbm, 250, rfl⟩
abbrev main_call3_c_1 : Ref sig .tc := ⟨.hbm, 251, rfl⟩
abbrev main_call3_v5 : Ref sig .tc := ⟨.hbm, 252, rfl⟩
abbrev main_call3_v6 : Ref sig .tc := ⟨.hbm, 253, rfl⟩
abbrev main_call3_c_2 : Ref sig .tc := ⟨.hbm, 254, rfl⟩
abbrev main_call3_v7 : Ref sig .tc := ⟨.hbm, 255, rfl⟩
abbrev main_call3_v8 : Ref sig .tc := ⟨.hbm, 256, rfl⟩
abbrev main_call3_c_3 : Ref sig .tc := ⟨.hbm, 257, rfl⟩
abbrev main_call3_v9 : Ref sig .tc := ⟨.hbm, 258, rfl⟩
abbrev main_call3_v10 : Ref sig .tc := ⟨.hbm, 259, rfl⟩
abbrev main_call3_v11 : Ref sig .tc := ⟨.hbm, 260, rfl⟩
abbrev main_call3_v12 : Ref sig .tc := ⟨.hbm, 261, rfl⟩
abbrev main_call3_v13 : Ref sig .tc := ⟨.hbm, 262, rfl⟩
abbrev main_call3_v14 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_cst_15 : Ref sig .tc := ⟨.hbm, 267, rfl⟩
abbrev main_v171 : Ref sig .tc := ⟨.hbm, 268, rfl⟩
abbrev main_v172 : Ref sig .tc := ⟨.hbm, 269, rfl⟩
abbrev main_cst_16 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_c_17 : Ref sig .tc := ⟨.hbm, 305, rfl⟩
abbrev main_call4_v0 : Ref sig .tc := ⟨.hbm, 306, rfl⟩
abbrev main_call4_v1 : Ref sig .tc := ⟨.hbm, 307, rfl⟩
abbrev main_call4_v2 : Ref sig .tc := ⟨.hbm, 308, rfl⟩
abbrev main_call4_v3 : Ref sig .tc := ⟨.hbm, 309, rfl⟩
abbrev main_call4_v4 : Ref sig .tc := ⟨.hbm, 310, rfl⟩
abbrev main_call4_v5 : Ref sig .tc := ⟨.hbm, 311, rfl⟩
abbrev main_call4_v6 : Ref sig .tc := ⟨.hbm, 312, rfl⟩
abbrev main_call4_v7 : Ref sig .tc := ⟨.hbm, 313, rfl⟩
abbrev main_call4_v8 : Ref sig .tc := ⟨.hbm, 314, rfl⟩
abbrev main_call4_c : Ref sig .tc := ⟨.hbm, 315, rfl⟩
abbrev main_call4_v9 : Ref sig .tc := ⟨.hbm, 316, rfl⟩
abbrev main_call4_v10 : Ref sig .tc := ⟨.hbm, 317, rfl⟩
abbrev main_call4_v11 : Ref sig .tc := ⟨.hbm, 318, rfl⟩
abbrev main_call4_c_0 : Ref sig .tc := ⟨.hbm, 319, rfl⟩
abbrev main_call4_v12 : Ref sig .tc := ⟨.hbm, 320, rfl⟩
abbrev main_call4_v13 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_cst_18 : Ref sig .tc := ⟨.hbm, 325, rfl⟩
abbrev main_v210 : Ref sig .tc := ⟨.hbm, 326, rfl⟩
abbrev main_v211 : Ref sig .tc := ⟨.hbm, 327, rfl⟩
abbrev main_cst_19 : Ref sig .tc := ⟨.hbm, 328, rfl⟩
abbrev main_v212 : Ref sig .tc := ⟨.hbm, 329, rfl⟩
abbrev main_v213 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_v225 : Ref sig .tc := ⟨.hbm, 342, rfl⟩
abbrev main_v226 : Ref sig .tc := ⟨.hbm, 343, rfl⟩
abbrev main_v227 : Ref sig .tc := ⟨.hbm, 344, rfl⟩
abbrev main_v228 : Ref sig .tc := ⟨.hbm, 345, rfl⟩
abbrev main_v229 : Ref sig .tc := ⟨.hbm, 346, rfl⟩
abbrev main_v230 : Ref sig .tc := ⟨.hbm, 347, rfl⟩
abbrev main_v231 : Ref sig .tc := ⟨.hbm, 348, rfl⟩
abbrev main_v232 : Ref sig .tc := ⟨.hbm, 349, rfl⟩
abbrev main_v233 : Ref sig .tc := ⟨.hbm, 350, rfl⟩
abbrev main_v234 : Ref sig .tc := ⟨.hbm, 351, rfl⟩
abbrev main_v235 : Ref sig .tc := ⟨.hbm, 352, rfl⟩
abbrev main_v236 : Ref sig .tc := ⟨.hbm, 353, rfl⟩
abbrev main_v237 : Ref sig .tc := ⟨.hbm, 354, rfl⟩
abbrev main_v238 : Ref sig .tc := ⟨.hbm, 355, rfl⟩
abbrev main_v239 : Ref sig .tc := ⟨.hbm, 356, rfl⟩
abbrev main_v240 : Ref sig .tc := ⟨.hbm, 357, rfl⟩
abbrev main_v241 : Ref sig .tc := ⟨.hbm, 358, rfl⟩
abbrev main_c_20 : Ref sig .tc := ⟨.hbm, 359, rfl⟩
abbrev main_call5_v0 : Ref sig .tc := ⟨.hbm, 360, rfl⟩
abbrev main_call5_c : Ref sig .tc := ⟨.hbm, 361, rfl⟩
abbrev main_call5_v1 : Ref sig .tc := ⟨.hbm, 362, rfl⟩
abbrev main_call5_c_0 : Ref sig .tc := ⟨.hbm, 363, rfl⟩
abbrev main_call5_v2 : Ref sig .tc := ⟨.hbm, 364, rfl⟩
abbrev main_call5_v3 : Ref sig .tc := ⟨.hbm, 365, rfl⟩
abbrev main_call5_v4 : Ref sig .tc := ⟨.hbm, 366, rfl⟩
abbrev main_call5_c_1 : Ref sig .tc := ⟨.hbm, 367, rfl⟩
abbrev main_call5_v5 : Ref sig .tc := ⟨.hbm, 368, rfl⟩
abbrev main_call5_v6 : Ref sig .tc := ⟨.hbm, 369, rfl⟩
abbrev main_call5_c_2 : Ref sig .tc := ⟨.hbm, 370, rfl⟩
abbrev main_call5_v7 : Ref sig .tc := ⟨.hbm, 371, rfl⟩
abbrev main_call5_v8 : Ref sig .tc := ⟨.hbm, 372, rfl⟩
abbrev main_call5_c_3 : Ref sig .tc := ⟨.hbm, 373, rfl⟩
abbrev main_call5_v9 : Ref sig .tc := ⟨.hbm, 374, rfl⟩
abbrev main_call5_v10 : Ref sig .tc := ⟨.hbm, 375, rfl⟩
abbrev main_call5_v11 : Ref sig .tc := ⟨.hbm, 376, rfl⟩
abbrev main_call5_v12 : Ref sig .tc := ⟨.hbm, 377, rfl⟩
abbrev main_call5_v13 : Ref sig .tc := ⟨.hbm, 378, rfl⟩
abbrev main_call5_v14 : Ref sig .tc := ⟨.hbm, 379, rfl⟩
abbrev main_v242 : Ref sig .tc := ⟨.hbm, 380, rfl⟩
abbrev main_v243 : Ref sig .tc := ⟨.hbm, 381, rfl⟩
abbrev main_v244 : Ref sig .tc := ⟨.hbm, 382, rfl⟩
abbrev main_cst_21 : Ref sig .tc := ⟨.hbm, 383, rfl⟩
abbrev main_v245 : Ref sig .tc := ⟨.hbm, 384, rfl⟩
abbrev main_v246 : Ref sig .tc := ⟨.hbm, 385, rfl⟩
abbrev main_cst_22 : Ref sig .tc := ⟨.hbm, 386, rfl⟩
abbrev main_v247 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_v251 : Ref sig .tc := ⟨.hbm, 391, rfl⟩
abbrev main_v252 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_v256 : Ref sig .tc := ⟨.hbm, 396, rfl⟩
abbrev main_v257 : Ref sig .tc := ⟨.hbm, 397, rfl⟩
abbrev main_v258 : Ref sig .tc := ⟨.hbm, 398, rfl⟩
abbrev main_v259 : Ref sig .tc := ⟨.hbm, 399, rfl⟩
abbrev main_v260 : Ref sig .tc := ⟨.hbm, 400, rfl⟩
abbrev main_v261 : Ref sig .tc := ⟨.hbm, 401, rfl⟩
abbrev main_v262 : Ref sig .tc := ⟨.hbm, 402, rfl⟩
abbrev main_v263 : Ref sig .tc := ⟨.hbm, 403, rfl⟩
abbrev main_v264 : Ref sig .tc := ⟨.hbm, 404, rfl⟩
abbrev main_v265 : Ref sig .tc := ⟨.hbm, 405, rfl⟩
abbrev main_v266 : Ref sig .tc := ⟨.hbm, 406, rfl⟩
abbrev main_v267 : Ref sig .tc := ⟨.hbm, 407, rfl⟩
abbrev main_v268 : Ref sig .tc := ⟨.hbm, 408, rfl⟩
abbrev main_v269 : Ref sig .tc := ⟨.hbm, 409, rfl⟩
abbrev main_v270 : Ref sig .tc := ⟨.hbm, 410, rfl⟩
abbrev main_v271 : Ref sig .tc := ⟨.hbm, 411, rfl⟩
abbrev main_v272 : Ref sig .tc := ⟨.hbm, 412, rfl⟩
abbrev main_v273 : Ref sig .tc := ⟨.hbm, 413, rfl⟩
abbrev main_v274 : Ref sig .tc := ⟨.hbm, 414, rfl⟩
abbrev main_v275 : Ref sig .tc := ⟨.hbm, 415, rfl⟩
abbrev main_v276 : Ref sig .tc := ⟨.hbm, 416, rfl⟩
abbrev main_v277 : Ref sig .tc := ⟨.hbm, 417, rfl⟩
abbrev main_v278 : Ref sig .tc := ⟨.hbm, 418, rfl⟩
abbrev main_v279 : Ref sig .tc := ⟨.hbm, 419, rfl⟩
abbrev main_v280 : Ref sig .tc := ⟨.hbm, 420, rfl⟩
abbrev main_c_23 : Ref sig .tc := ⟨.hbm, 421, rfl⟩
abbrev main_call6_v0 : Ref sig .tc := ⟨.hbm, 422, rfl⟩
abbrev main_call6_v1 : Ref sig .tc := ⟨.hbm, 423, rfl⟩
abbrev main_call6_v2 : Ref sig .tc := ⟨.hbm, 424, rfl⟩
abbrev main_call6_v3 : Ref sig .tc := ⟨.hbm, 425, rfl⟩
abbrev main_call6_v4 : Ref sig .tc := ⟨.hbm, 426, rfl⟩
abbrev main_call6_v5 : Ref sig .tc := ⟨.hbm, 427, rfl⟩
abbrev main_call6_v6 : Ref sig .tc := ⟨.hbm, 428, rfl⟩
abbrev main_call6_v7 : Ref sig .tc := ⟨.hbm, 429, rfl⟩
abbrev main_call6_v8 : Ref sig .tc := ⟨.hbm, 430, rfl⟩
abbrev main_call6_c : Ref sig .tc := ⟨.hbm, 431, rfl⟩
abbrev main_call6_v9 : Ref sig .tc := ⟨.hbm, 432, rfl⟩
abbrev main_call6_v10 : Ref sig .tc := ⟨.hbm, 433, rfl⟩
abbrev main_call6_v11 : Ref sig .tc := ⟨.hbm, 434, rfl⟩
abbrev main_call6_c_0 : Ref sig .tc := ⟨.hbm, 435, rfl⟩
abbrev main_call6_v12 : Ref sig .tc := ⟨.hbm, 436, rfl⟩
abbrev main_call6_v13 : Ref sig .tc := ⟨.hbm, 437, rfl⟩
abbrev main_v281 : Ref sig .tc := ⟨.hbm, 438, rfl⟩
abbrev main_v282 : Ref sig .tc := ⟨.hbm, 439, rfl⟩
abbrev main_v283 : Ref sig .tc := ⟨.hbm, 440, rfl⟩
abbrev main_cst_24 : Ref sig .tc := ⟨.hbm, 441, rfl⟩
abbrev main_v284 : Ref sig .tc := ⟨.hbm, 442, rfl⟩
abbrev main_v285 : Ref sig .tc := ⟨.hbm, 443, rfl⟩
abbrev main_cst_25 : Ref sig .tc := ⟨.hbm, 444, rfl⟩
abbrev main_v286 : Ref sig .tc := ⟨.hbm, 445, rfl⟩
abbrev main_v287 : Ref sig .tc := ⟨.hbm, 446, rfl⟩
abbrev main_v288 : Ref sig .tc := ⟨.hbm, 447, rfl⟩
abbrev main_v289 : Ref sig .tc := ⟨.hbm, 448, rfl⟩
abbrev main_v290 : Ref sig .tc := ⟨.hbm, 449, rfl⟩
abbrev main_v291 : Ref sig .tc := ⟨.hbm, 450, rfl⟩
abbrev main_v292 : Ref sig .tc := ⟨.hbm, 451, rfl⟩
abbrev main_v293 : Ref sig .tc := ⟨.hbm, 452, rfl⟩
abbrev main_v294 : Ref sig .tc := ⟨.hbm, 453, rfl⟩
abbrev main_v295 : Ref sig .tc := ⟨.hbm, 454, rfl⟩
abbrev main_v296 : Ref sig .tc := ⟨.hbm, 455, rfl⟩
abbrev main_v297 : Ref sig .tc := ⟨.hbm, 456, rfl⟩
abbrev main_v298 : Ref sig .tc := ⟨.hbm, 457, rfl⟩
abbrev main_v299 : Ref sig .tc := ⟨.hbm, 458, rfl⟩
abbrev main_v300 : Ref sig .tc := ⟨.hbm, 459, rfl⟩
abbrev main_v301 : Ref sig .tc := ⟨.hbm, 460, rfl⟩
abbrev main_v302 : Ref sig .tc := ⟨.hbm, 461, rfl⟩
abbrev main_v303 : Ref sig .tc := ⟨.hbm, 462, rfl⟩
abbrev main_v304 : Ref sig .tc := ⟨.hbm, 463, rfl⟩
abbrev main_v305 : Ref sig .tc := ⟨.hbm, 464, rfl⟩
abbrev main_v306 : Ref sig .tc := ⟨.hbm, 465, rfl⟩
abbrev main_v307 : Ref sig .tc := ⟨.hbm, 466, rfl⟩
abbrev main_v308 : Ref sig .tc := ⟨.hbm, 467, rfl⟩
abbrev main_v309 : Ref sig .tc := ⟨.hbm, 468, rfl⟩
abbrev main_v310 : Ref sig .tc := ⟨.hbm, 469, rfl⟩
abbrev main_v311 : Ref sig .tc := ⟨.hbm, 470, rfl⟩
abbrev main_v312 : Ref sig .tc := ⟨.hbm, 471, rfl⟩
abbrev main_v313 : Ref sig .tc := ⟨.hbm, 472, rfl⟩
abbrev main_v314 : Ref sig .tc := ⟨.hbm, 473, rfl⟩
abbrev main_v315 : Ref sig .tc := ⟨.hbm, 474, rfl⟩
abbrev main_c_26 : Ref sig .tc := ⟨.hbm, 475, rfl⟩
abbrev main_call7_v0 : Ref sig .tc := ⟨.hbm, 476, rfl⟩
abbrev main_call7_c : Ref sig .tc := ⟨.hbm, 477, rfl⟩
abbrev main_call7_v1 : Ref sig .tc := ⟨.hbm, 478, rfl⟩
abbrev main_call7_c_0 : Ref sig .tc := ⟨.hbm, 479, rfl⟩
abbrev main_call7_v2 : Ref sig .tc := ⟨.hbm, 480, rfl⟩
abbrev main_call7_v3 : Ref sig .tc := ⟨.hbm, 481, rfl⟩
abbrev main_call7_v4 : Ref sig .tc := ⟨.hbm, 482, rfl⟩
abbrev main_call7_c_1 : Ref sig .tc := ⟨.hbm, 483, rfl⟩
abbrev main_call7_v5 : Ref sig .tc := ⟨.hbm, 484, rfl⟩
abbrev main_call7_v6 : Ref sig .tc := ⟨.hbm, 485, rfl⟩
abbrev main_call7_c_2 : Ref sig .tc := ⟨.hbm, 486, rfl⟩
abbrev main_call7_v7 : Ref sig .tc := ⟨.hbm, 487, rfl⟩
abbrev main_call7_v8 : Ref sig .tc := ⟨.hbm, 488, rfl⟩
abbrev main_call7_c_3 : Ref sig .tc := ⟨.hbm, 489, rfl⟩
abbrev main_call7_v9 : Ref sig .tc := ⟨.hbm, 490, rfl⟩
abbrev main_call7_v10 : Ref sig .tc := ⟨.hbm, 491, rfl⟩
abbrev main_call7_v11 : Ref sig .tc := ⟨.hbm, 492, rfl⟩
abbrev main_call7_v12 : Ref sig .tc := ⟨.hbm, 493, rfl⟩
abbrev main_call7_v13 : Ref sig .tc := ⟨.hbm, 494, rfl⟩
abbrev main_call7_v14 : Ref sig .tc := ⟨.hbm, 495, rfl⟩
abbrev main_v316 : Ref sig .tc := ⟨.hbm, 496, rfl⟩
abbrev main_v317 : Ref sig .tc := ⟨.hbm, 497, rfl⟩
abbrev main_v318 : Ref sig .tc := ⟨.hbm, 498, rfl⟩
abbrev main_cst_27 : Ref sig .tc := ⟨.hbm, 499, rfl⟩
abbrev main_v319 : Ref sig .tc := ⟨.hbm, 500, rfl⟩
abbrev main_v320 : Ref sig .tc := ⟨.hbm, 501, rfl⟩
abbrev main_cst_28 : Ref sig .tc := ⟨.hbm, 502, rfl⟩
abbrev main_v321 : Ref sig .tc := ⟨.hbm, 503, rfl⟩
abbrev main_v322 : Ref sig .tc := ⟨.hbm, 504, rfl⟩
abbrev main_v323 : Ref sig .tc := ⟨.hbm, 505, rfl⟩
abbrev main_v324 : Ref sig .tc := ⟨.hbm, 506, rfl⟩
abbrev main_v325 : Ref sig .tc := ⟨.hbm, 507, rfl⟩
abbrev main_v326 : Ref sig .tc := ⟨.hbm, 508, rfl⟩
abbrev main_v327 : Ref sig .tc := ⟨.hbm, 509, rfl⟩
abbrev main_v328 : Ref sig .tc := ⟨.hbm, 510, rfl⟩
abbrev main_v329 : Ref sig .tc := ⟨.hbm, 511, rfl⟩
abbrev main_v330 : Ref sig .tc := ⟨.hbm, 512, rfl⟩
abbrev main_v331 : Ref sig .tc := ⟨.hbm, 513, rfl⟩
abbrev main_v332 : Ref sig .tc := ⟨.hbm, 514, rfl⟩
abbrev main_v333 : Ref sig .tc := ⟨.hbm, 515, rfl⟩
abbrev main_v334 : Ref sig .tc := ⟨.hbm, 516, rfl⟩
abbrev main_v335 : Ref sig .tc := ⟨.hbm, 517, rfl⟩
abbrev main_v336 : Ref sig .tc := ⟨.hbm, 518, rfl⟩
abbrev main_v337 : Ref sig .tc := ⟨.hbm, 519, rfl⟩
abbrev main_v338 : Ref sig .tc := ⟨.hbm, 520, rfl⟩
abbrev main_v339 : Ref sig .tc := ⟨.hbm, 521, rfl⟩
abbrev main_v340 : Ref sig .tc := ⟨.hbm, 522, rfl⟩
abbrev main_v341 : Ref sig .tc := ⟨.hbm, 523, rfl⟩
abbrev main_v342 : Ref sig .tc := ⟨.hbm, 524, rfl⟩
abbrev main_v343 : Ref sig .tc := ⟨.hbm, 525, rfl⟩
abbrev main_v344 : Ref sig .tc := ⟨.hbm, 526, rfl⟩
abbrev main_v345 : Ref sig .tc := ⟨.hbm, 527, rfl⟩
abbrev main_v346 : Ref sig .tc := ⟨.hbm, 528, rfl⟩
abbrev main_v347 : Ref sig .tc := ⟨.hbm, 529, rfl⟩
abbrev main_v348 : Ref sig .tc := ⟨.hbm, 530, rfl⟩
abbrev main_v349 : Ref sig .tc := ⟨.hbm, 531, rfl⟩
abbrev main_v350 : Ref sig .tc := ⟨.hbm, 532, rfl⟩
abbrev main_v351 : Ref sig .tc := ⟨.hbm, 533, rfl⟩
abbrev main_cst_29 : Ref sig .tc := ⟨.hbm, 534, rfl⟩
abbrev main_v352 : Ref sig .tc := ⟨.hbm, 535, rfl⟩
abbrev main_v353 : Ref sig .tc := ⟨.hbm, 536, rfl⟩
abbrev main_v354 : Ref sig .tc := ⟨.hbm, 537, rfl⟩
abbrev main_v355 : Ref sig .tc := ⟨.hbm, 538, rfl⟩
abbrev main_v356 : Ref sig .tc := ⟨.hbm, 539, rfl⟩
abbrev main_cst_30 : Ref sig .tc := ⟨.hbm, 540, rfl⟩
abbrev main_v357 : Ref sig .tc := ⟨.hbm, 541, rfl⟩
abbrev main_v358 : Ref sig .tc := ⟨.hbm, 542, rfl⟩
abbrev main_v359 : Ref sig .tc := ⟨.hbm, 543, rfl⟩
abbrev main_v360 : Ref sig .tc := ⟨.hbm, 544, rfl⟩
abbrev main_v361 : Ref sig .tc := ⟨.hbm, 545, rfl⟩
abbrev main_cst_31 : Ref sig .tc := ⟨.hbm, 546, rfl⟩
abbrev main_v362 : Ref sig .tc := ⟨.hbm, 547, rfl⟩
abbrev main_v363 : Ref sig .tc := ⟨.hbm, 548, rfl⟩
abbrev main_v364 : Ref sig .tc := ⟨.hbm, 549, rfl⟩
abbrev main_cst_32 : Ref sig .tc := ⟨.hbm, 550, rfl⟩
abbrev main_v365 : Ref sig .tc := ⟨.hbm, 551, rfl⟩
abbrev main_v366 : Ref sig .tc := ⟨.hbm, 552, rfl⟩
abbrev main_v367 : Ref sig .tc := ⟨.hbm, 553, rfl⟩
abbrev main_v368 : Ref sig .tc := ⟨.hbm, 554, rfl⟩
abbrev main_v369 : Ref sig .tc := ⟨.hbm, 555, rfl⟩
abbrev main_v370 : Ref sig .tc := ⟨.hbm, 556, rfl⟩
abbrev main_v371 : Ref sig .tc := ⟨.hbm, 557, rfl⟩

abbrev nD : Nat := 1
abbrev τ : Topo := Topo.v7x

variable {F : FTy → Type} [FloatOps F]
-- ==== Proof.InputsA.lean ====
module

public import proofs.«01_k».proof.Proof.Gen.Inputs
public import proofs.«01_k».proof.Proof.Gen.Inputs.Frame
public import proofs.«01_k».proof.Proof.Gen.InputsIdeal
public import proofs.«01_k».proof.Proof.Gen.InputsIdeal.Value
public import proofs.«01_k».proof.Proof.Gen.InputsReferenceIdeal
public import proofs.«01_k».proof.Proof.Gen.InputsReferenceIdeal.Run
-- ==== Proof.ExpertsA.lean ====
module

public import proofs.«01_k».proof.Proof.Gen.Experts.Skeleton
public import proofs.«01_k».proof.Proof.Gen.Experts.Launch
public import proofs.«01_k».proof.Proof.Gen.ExpertsIdeal.Skeleton
public import proofs.«01_k».proof.Proof.Gen.ExpertsIdeal.Launch
public import proofs.«01_k».proof.Proof.Gen.ExpertsReferenceIdeal.Run
-- ==== Proof.MergeRun.lean ====
module

public import proofs.«01_k».proof.Proof.Gen.MergeIdeal.Frame
public import Idealize.ShloMosaic.Lib.Pipeline.Value

@[expose] public section

noncomputable section

/-! The merge's run: its two result arrays after the last grid point, its arguments as they were. -/
namespace Cert.MergeIdeal.Run

open Cert.MergeIdeal Cert.MergeIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem post12 (r : PUnit × MemSt nD τ sig (Elt F)) (h : Pipeline.FramePost cfgs (dats m) 0 (V m) r) (c : Dev nD) :
    r.2.mem ((c : Thread nD τ).loc main_v3_0) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v3_1) = (dats m 0 c).arrAt 13 cfg0.N :=
  (h c).1 13

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem run_blocks : θ_run defs (onTc (τ := τ) (main (F := F))) ⟨m, fun _ => 0, ρ⟩ fun r => ∀ c : Dev nD,
      r.2.mem ((c : Thread nD τ).loc main_v3_0) = (dats m 0 c).arrAt 12 cfg0.N
      ∧ r.2.mem ((c : Thread nD τ).loc main_v3_1) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post12 m r h c,
      post13 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.MergeIdeal.Run

end
-- ==== Proof.MergeA.lean ====
module

public import proofs.«01_k».proof.Proof.Gen.Merge
public import proofs.«01_k».proof.Proof.Gen.Merge.Frame
public import proofs.«01_k».proof.Proof.Gen.MergeIdeal
public import proofs.«01_k».proof.Proof.MergeRun
public import proofs.«01_k».proof.Proof.Gen.MergeReferenceIdeal
public import proofs.«01_k».proof.Proof.Gen.MergeReferenceIdeal.Run
-- ==== Proof.CombineA.lean ====
module

public import proofs.«01_k».proof.Proof.Gen.Combine
public import proofs.«01_k».proof.Proof.Gen.Combine.Frame
public import proofs.«01_k».proof.Proof.Gen.CombineIdeal
public import proofs.«01_k».proof.Proof.Gen.CombineIdeal.Value
public import proofs.«01_k».proof.Proof.Gen.CombineReferenceIdeal
public import proofs.«01_k».proof.Proof.Gen.CombineReferenceIdeal.Run
-- ==== Proof.LatentA.lean ====
module

public import proofs.«01_k».proof.Proof.Gen.Latent
public import proofs.«01_k».proof.Proof.Gen.Latent.Frame
public import proofs.«01_k».proof.Proof.Gen.LatentIdeal
public import proofs.«01_k».proof.Proof.Gen.LatentIdeal.Value
public import proofs.«01_k».proof.Proof.Gen.LatentReferenceIdeal
public import proofs.«01_k».proof.Proof.Gen.LatentReferenceIdeal.Run
-- ==== Proof.ContextA.lean ====
module

public import proofs.«01_k».proof.Proof.Gen.Context
public import proofs.«01_k».proof.Proof.Gen.Context.Frame
public import proofs.«01_k».proof.Proof.Gen.ContextIdeal
public import proofs.«01_k».proof.Proof.Gen.ContextIdeal.Value
public import proofs.«01_k».proof.Proof.Gen.ContextReferenceIdeal
public import proofs.«01_k».proof.Proof.Gen.ContextReferenceIdeal.Run
-- ==== Proof.ModulationA.lean ====
module

public import proofs.«01_k».proof.Proof.Gen.Modulation
public import proofs.«01_k».proof.Proof.Gen.Modulation.Frame
public import proofs.«01_k».proof.Proof.Gen.ModulationIdeal
public import proofs.«01_k».proof.Proof.Gen.ModulationIdeal.Value
public import proofs.«01_k».proof.Proof.Gen.ModulationReferenceIdeal
public import proofs.«01_k».proof.Proof.Gen.ModulationReferenceIdeal.Run
-- ==== Proof.CacheA.lean ====
module

public import proofs.«01_k».proof.Proof.Gen.Cache
public import proofs.«01_k».proof.Proof.Gen.Cache.Frame
public import proofs.«01_k».proof.Proof.Gen.CacheIdeal
public import proofs.«01_k».proof.Proof.Gen.CacheIdeal.Value
public import proofs.«01_k».proof.Proof.Gen.CacheReferenceIdeal
public import proofs.«01_k».proof.Proof.Gen.CacheReferenceIdeal.Run
-- ==== Proof.TokensA.lean ====
module

public import proofs.«01_k».proof.Proof.Gen.Tokens
public import proofs.«01_k».proof.Proof.Gen.Tokens.Frame
public import proofs.«01_k».proof.Proof.Gen.TokensIdeal
public import proofs.«01_k».proof.Proof.Gen.TokensIdeal.Value
public import proofs.«01_k».proof.Proof.Gen.TokensReferenceIdeal
public import proofs.«01_k».proof.Proof.Gen.TokensReferenceIdeal.Run
-- ==== Proof.Soft.lean ====
module

public import Idealize.ShloMosaic.Lib.Pipeline.ValueKit
public import Idealize.ShloMosaic.Lib.Pointwise
public import Idealize.ShloMosaic.PureOps.Ideal

@[expose] public section

noncomputable section

/-! Softmax and the difference of two softmaxes over the extended reals, for finite scores. -/
namespace Cert.Soft

open Idealize.ShloMosaic

/-- The pattern of minus infinity. -/
theorem ninf_eq : Ideal.ofBits .f32 0xFF800000#32 = ⊥ := by simp [Ideal.ofBits, Ideal.ieee]

/-- The pattern of two. -/
theorem two_eq : Ideal.ofBits .f32 0x40000000#32 = ((2 : ℝ) : EReal) := by
  simp [Ideal.ofBits, Ideal.ieee, -EReal.coe_mul]; norm_num

/-- A nonnegative real factor goes into a sum. -/
theorem add_mul_coe (x y : EReal) {c : ℝ} (hc : 0 ≤ c) : (x + y) * (c : EReal) = x * c + y * c :=
  EReal.right_distrib_of_nonneg_of_ne_top (EReal.coe_nonneg.2 hc) (EReal.coe_ne_top c) x y

theorem sub_mul_coe (x y : EReal) {c : ℝ} (hc : 0 ≤ c) : (x - y) * (c : EReal) = x * c - y * c := by
  rw [sub_eq_add_neg, add_mul_coe _ _ hc, EReal.neg_mul, ← sub_eq_add_neg]

theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih => rw [Finset.sum_insert ha, Finset.sum_insert ha, add_mul_coe _ _ hc, ih]

/-- The sum of reals, as an extended real. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The largest of finitely many reals is a real. -/
theorem fold_max_real {n : ℕ} (hn : 0 < n) (f : Fin n → ℝ) :
    ∃ M : ℝ, Finset.univ.fold max (Ideal.ofBits .f32 0xFF800000#32) (fun k => (f k : EReal)) = (M : EReal) := by
  rw [ninf_eq]
  obtain ⟨i, _, hi⟩ := Finset.exists_mem_eq_sup (Finset.univ : Finset (Fin n)) ⟨⟨0, hn⟩, Finset.mem_univ _⟩
    (fun k => (f k : EReal))
  exact ⟨f i, hi⟩

theorem max_coe (x y : ℝ) : max (x : EReal) (y : EReal) = ((max x y : ℝ) : EReal) :=
  (EReal.coe_strictMono.monotone.map_max).symm

/-- The base-two exponential by the natural one. -/
theorem exp2_real (x : ℝ) : Ideal.exp2 (x : EReal) = ((Real.exp (Real.log 2 * x) : ℝ) : EReal) := by
  rw [Ideal.exp2_coe]
  exact congrArg _ (Real.rpow_def_of_pos (by norm_num) x)

theorem exp_real (x : ℝ) : Ideal.exp (x : EReal) = ((Real.exp x : ℝ) : EReal) := Ideal.exp_coe ..

/-- One row's softmax as a reference computes it. -/
def prob {n : ℕ} (S : Fin n → EReal) (k : Fin n) : EReal :=
  Ideal.div (Ideal.exp (S k - max (Ideal.ofBits .f32 0xFF800000#32) (Finset.univ.fold max (Ideal.ofBits .f32 0xFF800000#32) S)))
    (∑ j : Fin n, Ideal.exp (S j - max (Ideal.ofBits .f32 0xFF800000#32) (Finset.univ.fold max (Ideal.ofBits .f32 0xFF800000#32) S)))

/-- For real scores the softmax does not depend on what is subtracted from them. -/
theorem prob_real {n : ℕ} (hn : 0 < n) (S : Fin n → EReal) (s : Fin n → ℝ) (hS : ∀ k, S k = (s k : EReal)) (m : ℝ)
    (k : Fin n) : prob S k = ((Real.exp (s k - m) / ∑ j : Fin n, Real.exp (s j - m) : ℝ) : EReal) := by
  obtain ⟨M, hM⟩ := fold_max_real hn s
  have hS' : S = fun k => (s k : EReal) := funext hS
  have hpos : (0 : ℝ) < ∑ j : Fin n, Real.exp (s j - M) :=
    Finset.sum_pos (fun j _ => Real.exp_pos _) ⟨⟨0, hn⟩, Finset.mem_univ _⟩
  have hpos' : (0 : ℝ) < ∑ j : Fin n, Real.exp (s j - m) :=
    Finset.sum_pos (fun j _ => Real.exp_pos _) ⟨⟨0, hn⟩, Finset.mem_univ _⟩
  have hmax : max (Ideal.ofBits .f32 0xFF800000#32) (M : EReal) = (M : EReal) := by rw [ninf_eq]; exact max_eq_right bot_le
  unfold prob
  rw [hS', hM, hmax]
  simp only [← EReal.coe_sub, exp_real, coe_sum]
  rw [Ideal.div_coe hpos.ne', ← EReal.coe_mul]
  refine congrArg _ ?_
  have he : ∀ j, Real.exp (s j - M) = Real.exp (m - M) * Real.exp (s j - m) := fun j => by
    rw [← Real.exp_add]; congr 1; ring
  simp only [he, ← Finset.mul_sum]
  field_simp

/-- The largest score over two lists. -/
def top2 {a b : ℕ} (A : Fin a → EReal) (B : Fin b → EReal) : EReal :=
  max (Finset.univ.fold max (Ideal.ofBits .f32 0xFF800000#32) A) (Finset.univ.fold max (Ideal.ofBits .f32 0xFF800000#32) B)

/-- The sum of the base-two exponentials over two lists. -/
def sum2 {a b : ℕ} (A : Fin a → EReal) (B : Fin b → EReal) : EReal :=
  ∑ x, Ideal.exp2 (A x - top2 A B) + ∑ x, Ideal.exp2 (B x - top2 A B)

/-- What a kernel row computes before its norm: the two maps' exponentials combined once, against the values. -/
def diff2 {a b : ℕ} (A1 A2 : Fin a → EReal) (B1 B2 : Fin b → EReal) (lam : EReal) (vA : Fin a → EReal) (vB : Fin b → EReal) :
    EReal :=
  Ideal.div (∑ x, (Ideal.exp2 (A1 x - top2 A1 B1) - Ideal.exp2 (A2 x - top2 A2 B2) * Ideal.div (lam * sum2 A1 B1) (sum2 A2 B2)) * vA x
      + ∑ x, (Ideal.exp2 (B1 x - top2 A1 B1) - Ideal.exp2 (B2 x - top2 A2 B2) * Ideal.div (lam * sum2 A1 B1) (sum2 A2 B2)) * vB x)
    (sum2 A1 B1)

theorem top2_real {a b : ℕ} (ha : 0 < a) (hb : 0 < b) (A : Fin a → ℝ) (B : Fin b → ℝ) :
    ∃ M : ℝ, top2 (fun k => (A k : EReal)) (fun k => (B k : EReal)) = (M : EReal) := by
  obtain ⟨M, hM⟩ := fold_max_real ha A
  obtain ⟨M', hM'⟩ := fold_max_real hb B
  exact ⟨max M M', by rw [top2, hM, hM', max_coe]⟩

theorem sum2_real {a b : ℕ} (A : Fin a → ℝ) (B : Fin b → ℝ) (M : ℝ)
    (hM : top2 (fun k => (A k : EReal)) (fun k => (B k : EReal)) = (M : EReal)) :
    sum2 (fun k => (A k : EReal)) (fun k => (B k : EReal))
      = ((∑ x, Real.exp (Real.log 2 * A x - Real.log 2 * M) + ∑ x, Real.exp (Real.log 2 * B x - Real.log 2 * M) : ℝ) : EReal) := by
  unfold sum2
  rw [hM]
  simp only [← EReal.coe_sub, exp2_real, coe_sum, ← EReal.coe_add, mul_sub]

/-- One term: the quotient by the first sum, taken inside. -/
theorem term_eq (x1 x2 l1 l2 : ℝ) (h1 : 0 < l1) (h2 : 0 < l2) (lam v : EReal) :
    (((x1 : EReal) - (x2 : EReal) * Ideal.div (lam * (l1 : EReal)) (l2 : EReal)) * v) * ((1 / l1 : ℝ) : EReal)
      = v * (((x1 / l1 : ℝ) : EReal) - lam * ((x2 / l2 : ℝ) : EReal)) := by
  rw [Ideal.div_coe h2.ne', mul_right_comm, sub_mul_coe _ _ (by positivity), mul_comm v]
  refine congrArg (· * v) ?_
  refine congrArg₂ (· - ·) ?_ ?_
  · rw [← EReal.coe_mul]; refine congrArg _ ?_; field_simp
  · have : (x2 : EReal) * (lam * (l1 : EReal) * ((1 / l2 : ℝ) : EReal)) * ((1 / l1 : ℝ) : EReal)
        = lam * ((x2 : EReal) * (l1 : EReal) * ((1 / l2 : ℝ) : EReal) * ((1 / l1 : ℝ) : EReal)) := by ac_rfl
    rw [this, ← EReal.coe_mul, ← EReal.coe_mul, ← EReal.coe_mul]
    refine congrArg (fun r : ℝ => lam * (r : EReal)) ?_
    field_simp

/-- THE ATTENTION'S ALGEBRA: the combined, once-divided product is the values weighted by the difference of the two
    softmaxes, for real scores (base two on the kernel's side, times `log 2` on the reference's) and any values. -/
theorem diff2_eq {a b n : ℕ} (hn : n = a + b) (ha : 0 < a) (hb : 0 < b) (a1 a2 : Fin a → ℝ) (b1 b2 : Fin b → ℝ)
    (lam : EReal) (vA : Fin a → EReal) (vB : Fin b → EReal) (S1 S2 V : Fin n → EReal)
    (h1A : ∀ x : Fin a, S1 ⟨x, by omega⟩ = ((Real.log 2 * a1 x : ℝ) : EReal))
    (h1B : ∀ x : Fin b, S1 ⟨a + x, by omega⟩ = ((Real.log 2 * b1 x : ℝ) : EReal))
    (h2A : ∀ x : Fin a, S2 ⟨x, by omega⟩ = ((Real.log 2 * a2 x : ℝ) : EReal))
    (h2B : ∀ x : Fin b, S2 ⟨a + x, by omega⟩ = ((Real.log 2 * b2 x : ℝ) : EReal))
    (hvA : ∀ x : Fin a, V ⟨x, by omega⟩ = vA x) (hvB : ∀ x : Fin b, V ⟨a + x, by omega⟩ = vB x) :
    diff2 (fun k => (a1 k : EReal)) (fun k => (a2 k : EReal)) (fun k => (b1 k : EReal)) (fun k => (b2 k : EReal)) lam vA vB
      = ∑ k : Fin n, V k * (prob S1 k - lam * prob S2 k) := by
  subst hn
  obtain ⟨M1, hM1⟩ := top2_real ha hb a1 b1
  obtain ⟨M2, hM2⟩ := top2_real ha hb a2 b2
  let s1 : Fin (a + b) → ℝ := Fin.append (fun x => Real.log 2 * a1 x) (fun x => Real.log 2 * b1 x)
  let s2 : Fin (a + b) → ℝ := Fin.append (fun x => Real.log 2 * a2 x) (fun x => Real.log 2 * b2 x)
  have hS1 : ∀ k, S1 k = (s1 k : EReal) := fun k => by
    refine Fin.addCases (fun x => ?_) (fun x => ?_) k
    · refine (h1A x).trans (congrArg _ ?_); simp only [s1, Fin.append_left]
    · refine (h1B x).trans (congrArg _ ?_); simp only [s1, Fin.append_right]
  have hS2 : ∀ k, S2 k = (s2 k : EReal) := fun k => by
    refine Fin.addCases (fun x => ?_) (fun x => ?_) k
    · refine (h2A x).trans (congrArg _ ?_); simp only [s2, Fin.append_left]
    · refine (h2B x).trans (congrArg _ ?_); simp only [s2, Fin.append_right]
  have hl1 := sum2_real a1 b1 M1 hM1
  have hl2 := sum2_real a2 b2 M2 hM2
  have e1 : ∑ j, Real.exp (s1 j - Real.log 2 * M1)
      = ∑ x, Real.exp (Real.log 2 * a1 x - Real.log 2 * M1) + ∑ x, Real.exp (Real.log 2 * b1 x - Real.log 2 * M1) := by
    rw [Fin.sum_univ_add]; simp only [s1, Fin.append_left, Fin.append_right]
  have e2 : ∑ j, Real.exp (s2 j - Real.log 2 * M2)
      = ∑ x, Real.exp (Real.log 2 * a2 x - Real.log 2 * M2) + ∑ x, Real.exp (Real.log 2 * b2 x - Real.log 2 * M2) := by
    rw [Fin.sum_univ_add]; simp only [s2, Fin.append_left, Fin.append_right]
  have p1 : (0 : ℝ) < ∑ j, Real.exp (s1 j - Real.log 2 * M1) :=
    Finset.sum_pos (fun j _ => Real.exp_pos _) ⟨⟨0, by omega⟩, Finset.mem_univ _⟩
  have p2 : (0 : ℝ) < ∑ j, Real.exp (s2 j - Real.log 2 * M2) :=
    Finset.sum_pos (fun j _ => Real.exp_pos _) ⟨⟨0, by omega⟩, Finset.mem_univ _⟩
  rw [← e1] at hl1
  rw [← e2] at hl2
  have hp1 := prob_real (by omega : 0 < a + b) S1 s1 hS1 (Real.log 2 * M1)
  have hp2 := prob_real (by omega : 0 < a + b) S2 s2 hS2 (Real.log 2 * M2)
  generalize (∑ j, Real.exp (s1 j - Real.log 2 * M1)) = L1 at *
  generalize (∑ j, Real.exp (s2 j - Real.log 2 * M2)) = L2 at *
  unfold diff2
  rw [hl1, hl2, hM1, hM2, Ideal.div_coe p1.ne', add_mul_coe _ _ (by positivity), sum_mul_coe _ _ (by positivity),
    sum_mul_coe _ _ (by positivity), Fin.sum_univ_add]
  simp only [← EReal.coe_sub, exp2_real, mul_sub, hp1, hp2]
  refine congrArg₂ (· + ·) (Finset.sum_congr rfl fun x _ => ?_) (Finset.sum_congr rfl fun x _ => ?_)
  · refine (term_eq _ _ _ _ p1 p2 lam (vA x)).trans ?_
    rw [← hvA]; simp only [s1, s2, Fin.append_left]; rfl
  · refine (term_eq _ _ _ _ p1 p2 lam (vB x)).trans ?_
    rw [← hvB]; simp only [s1, s2, Fin.append_right]; rfl

/-- `v` on the first 64 of 128 lanes, zero on the others. -/
def lo (x : Fin 128) (v : EReal) : EReal := Scalar.select (IntOp.cmpi .slt (BitVec.ofNat 32 ↑x) 64#32) v 0

/-- `v` on the last 64 of 128 lanes, zero on the others. -/
def hi (x : Fin 128) (v : EReal) : EReal := Scalar.select (IntOp.cmpi .slt (BitVec.ofNat 32 ↑x) 64#32) 0 v

theorem cmp_lo : ∀ x : Fin 64, IntOp.cmpi .slt (BitVec.ofNat 32 (x : ℕ)) 64#32 = 1#1 := by decide
theorem cmp_hi : ∀ x : Fin 64, IntOp.cmpi .slt (BitVec.ofNat 32 (64 + (x : ℕ))) 64#32 = 0#1 := by decide

/-- The sum over the first 64 lanes. -/
theorem sum_lo (f : Fin 128 → EReal) : ∑ x : Fin 128, lo x (f x) = ∑ x : Fin 64, f ⟨x, by omega⟩ := by
  have := Fin.sum_univ_add (a := 64) (b := 64) (fun x : Fin (64 + 64) => lo x (f x))
  refine this.trans ?_
  have h1 : ∀ x : Fin 64, lo (Fin.castAdd 64 x) (f (Fin.castAdd 64 x)) = f ⟨x, by omega⟩ := fun x => by
    unfold lo; simp only [Fin.val_castAdd, cmp_lo]; rfl
  have h2 : ∀ x : Fin 64, lo (Fin.natAdd 64 x) (f (Fin.natAdd 64 x)) = 0 := fun x => by
    unfold lo; simp only [Fin.val_natAdd, cmp_hi]; rfl
  simp only [h1, h2, Finset.sum_const_zero, add_zero]

/-- The sum over the last 64 lanes. -/
theorem sum_hi (f : Fin 128 → EReal) : ∑ x : Fin 128, hi x (f x) = ∑ x : Fin 64, f ⟨64 + x, by omega⟩ := by
  have := Fin.sum_univ_add (a := 64) (b := 64) (fun x : Fin (64 + 64) => hi x (f x))
  refine this.trans ?_
  have h1 : ∀ x : Fin 64, hi (Fin.castAdd 64 x) (f (Fin.castAdd 64 x)) = 0 := fun x => by
    unfold hi; simp only [Fin.val_castAdd, cmp_lo]; rfl
  have h2 : ∀ x : Fin 64, hi (Fin.natAdd 64 x) (f (Fin.natAdd 64 x)) = f ⟨64 + x, by omega⟩ := fun x => by
    unfold hi; simp only [Fin.val_natAdd, cmp_hi]; rfl
  simp only [h1, h2, Finset.sum_const_zero, zero_add]

/-- The root-mean-square norm of 128 entries with a gain and the last factor, at entry `e`. -/
def norm128 (o : Fin 128 → EReal) (g : EReal) (e : Fin 128) : EReal :=
  o e * Ideal.rsqrt (Ideal.div (∑ x : Fin 128, o x * o x) (Ideal.ofBits .f32 0x43000000#32) + Ideal.ofBits .f32 0x358637BD#32) * g
    * Ideal.ofBits .f32 0x3F4CCCCD#32

end Cert.Soft

end
-- ==== Proof.Head.lean ====
module

public import proofs.«01_k».proof.Proof.Gen.KernelIdeal.Frame
public import Idealize.ShloMosaic.Lib.Pipeline.ValueKit
public import Idealize.ShloMosaic.Lib.Pointwise
public import proofs.«01_k».proof.Proof.Soft

@[expose] public section

set_option maxRecDepth 16384

noncomputable section

namespace Cert.KernelIdeal.Head

open Cert.KernelIdeal Cert.KernelIdeal.Gen
open Idealize.ShloMosaic Idealize.ShloMosaic.TcCoe Idealize.SL.Sem

/-- What the body stores for one head: `q` its 128 query lanes (two maps of 64), `kc`/`vc` the cached keys and values,
    `kn`/`vn` the latent ones, `lam` the four lambda vectors and `g` the norm's gain. -/
def headTile (lam : Vec Ideal S4x64 .f32) (g : Vec Ideal S1x128 .f32) (q : Vec Ideal S512x128 .bf16)
    (kc vc : Vec Ideal S1x1x512x128 .f32) (kn vn : Vec Ideal S1x2048x128 .bf16) : FVec Ideal S512x128 .bf16 :=
  k0_pay21 (k0_pay3 g) (k0_pay12 (k0_pay8 q kc) (k0_pay9 q kn)) (k0_pay13 (k0_pay8 q kc) (k0_pay9 q kn))
    (k0_pay18 (k0_pay5 q) (k0_pay6 kc) (k0_pay7 kn))
    (k0_pay19 (k0_pay1 lam) (k0_pay5 q) (k0_pay6 kc) (k0_pay7 kn) (k0_pay8 q kc) (k0_pay9 q kn))
    (k0_pay20 (k0_pay1 lam) (k0_pay5 q) (k0_pay6 kc) (k0_pay7 kn) (k0_pay8 q kc) (k0_pay9 q kn) vc) vn

/-- The larger of the two lists' largest scores, at a row. -/
theorem top_at (A : FVec Ideal S512x512 .f32) (B : FVec Ideal S512x2048 .f32) (i : Fin 512) :
    k0_pay10 A B (ix2 i 0) = Cert.Soft.top2 (fun k : Fin 512 => A (ix2 i k)) (fun k : Fin 2048 => B (ix2 i k)) := by
  pointwise [k0_pay10]
  rfl

/-- The cached keys' exponentials. -/
theorem expA_at (A : FVec Ideal S512x512 .f32) (B : FVec Ideal S512x2048 .f32) (i k : Fin 512) :
    k0_pay11 A B (ix2 i k)
      = Ideal.exp2 (A (ix2 i k) - Cert.Soft.top2 (fun k : Fin 512 => A (ix2 i k)) (fun k : Fin 2048 => B (ix2 i k))) := by
  rw [← top_at]
  unfold k0_pay11
  generalize k0_pay10 A B = t
  pointwise
  rfl

/-- The latent keys' exponentials. -/
theorem expB_at (A : FVec Ideal S512x512 .f32) (B : FVec Ideal S512x2048 .f32) (i : Fin 512) (k : Fin 2048) :
    k0_pay12 A B (ix2 i k)
      = Ideal.exp2 (B (ix2 i k) - Cert.Soft.top2 (fun k : Fin 512 => A (ix2 i k)) (fun k : Fin 2048 => B (ix2 i k))) := by
  rw [← top_at]
  unfold k0_pay12
  generalize k0_pay10 A B = t
  pointwise
  rfl

/-- The exponentials' sum at a row. -/
theorem sum_at (A : FVec Ideal S512x512 .f32) (B : FVec Ideal S512x2048 .f32) (i : Fin 512) :
    k0_pay13 A B (ix2 i 0) = Cert.Soft.sum2 (fun k : Fin 512 => A (ix2 i k)) (fun k : Fin 2048 => B (ix2 i k)) := by
  unfold Cert.Soft.sum2
  simp only [← expA_at, ← expB_at]
  unfold k0_pay13
  generalize k0_pay11 A B = a
  generalize k0_pay12 A B = b
  pointwise

/-- The factor of the second map: `lam` times the first sum over the second. -/
theorem ratio_at (v15 : FVec Ideal S1x1 .f32) (q kc : FVec Ideal S512x128 .bf16) (kn : FVec Ideal S2048x128 .bf16)
    (A : FVec Ideal S512x512 .f32) (B : FVec Ideal S512x2048 .f32) (i : Fin 512) :
    k0_pay19 v15 q kc kn A B (ix2 i 0) = Ideal.div (v15 (ix2 0 0) * k0_pay13 A B (ix2 i 0))
      (k0_pay13 (k0_pay14 q kc) (k0_pay15 q kn) (ix2 i 0)) := by
  have h : k0_pay19 v15 q kc kn A B = divf (mulf (broadcastTo S512x1 v15 broadcasts_S1x1_S512x1) (k0_pay13 A B))
      (k0_pay13 (k0_pay14 q kc) (k0_pay15 q kn)) := rfl
  rw [h]
  generalize k0_pay13 A B = a
  generalize k0_pay13 (k0_pay14 q kc) (k0_pay15 q kn) = b
  pointwise

/-- The cached part of the product with the values. -/
theorem pv_at (v15 : FVec Ideal S1x1 .f32) (q kc : FVec Ideal S512x128 .bf16) (kn : FVec Ideal S2048x128 .bf16)
    (A : FVec Ideal S512x512 .f32) (B : FVec Ideal S512x2048 .f32) (vc : Vec Ideal S1x1x512x128 .f32) (i : Fin 512)
    (e : Fin 128) : k0_pay20 v15 q kc kn A B vc (ix2 i e)
      = ∑ x : Fin 512, (k0_pay11 A B (ix2 i x) - k0_pay11 (k0_pay14 q kc) (k0_pay15 q kn) (ix2 i x)
          * k0_pay19 v15 q kc kn A B (ix2 i 0)) * vc (ix4 0 0 x e) := by
  have h : k0_pay17 q kc kn = k0_pay11 (k0_pay14 q kc) (k0_pay15 q kn) := rfl
  unfold k0_pay20
  rw [h]
  generalize k0_pay11 A B = a
  generalize k0_pay11 (k0_pay14 q kc) (k0_pay15 q kn) = b
  generalize k0_pay19 v15 q kc kn A B = r
  pointwise

/-- The quotient and the norm of a row. -/
theorem out_at (g : FVec Ideal S1x128 .f32) (a : FVec Ideal S512x2048 .f32) (l : FVec Ideal S512x1 .f32)
    (b : FVec Ideal S512x2048 .f32) (r : FVec Ideal S512x1 .f32) (p : FVec Ideal S512x128 .f32)
    (vn : Vec Ideal S1x2048x128 .bf16) (i : Fin 512) (e : Fin 128) : k0_pay21 g a l b r p vn (ix2 i e)
      = Cert.Soft.norm128 (fun e : Fin 128 => Ideal.div (p (ix2 i e)
          + ∑ x : Fin 2048, (a (ix2 i x) - b (ix2 i x) * r (ix2 i 0)) * vn (ix3 0 x e)) (l (ix2 i 0))) (g (ix2 0 e)) e := by
  unfold Cert.Soft.norm128
  pointwise [k0_pay21]

/-- The first map's scores: the product kept on the first 64 lanes. -/
theorem s1A_at (q : Vec Ideal S512x128 .bf16) (kc : Vec Ideal S1x1x512x128 .f32) (i k : Fin 512) :
    k0_pay8 (F := Ideal) q kc (ix2 i k) = ∑ x : Fin 128, Cert.Soft.lo x (q (ix2 i x) * kc (ix4 0 0 k x)) := by
  unfold Cert.Soft.lo
  pointwise [k0_pay8, k0_pay4, k0_pay6, k0_pay2]

theorem s1B_at (q : Vec Ideal S512x128 .bf16) (kn : Vec Ideal S1x2048x128 .bf16) (i : Fin 512) (k : Fin 2048) :
    k0_pay9 (F := Ideal) q kn (ix2 i k) = ∑ x : Fin 128, Cert.Soft.lo x (q (ix2 i x) * kn (ix3 0 k x)) := by
  unfold Cert.Soft.lo
  pointwise [k0_pay9, k0_pay4, k0_pay7, k0_pay2]

/-- The second map's scores: the product kept on the last 64 lanes. -/
theorem s2A_at (q : Vec Ideal S512x128 .bf16) (kc : Vec Ideal S1x1x512x128 .f32) (i k : Fin 512) :
    k0_pay14 (F := Ideal) (k0_pay5 q) (k0_pay6 kc) (ix2 i k)
      = ∑ x : Fin 128, Cert.Soft.hi x (q (ix2 i x) * kc (ix4 0 0 k x)) := by
  unfold Cert.Soft.hi
  pointwise [k0_pay14, k0_pay5, k0_pay6, k0_pay2]

theorem s2B_at (q : Vec Ideal S512x128 .bf16) (kn : Vec Ideal S1x2048x128 .bf16) (i : Fin 512) (k : Fin 2048) :
    k0_pay15 (F := Ideal) (k0_pay5 q) (k0_pay7 kn) (ix2 i k)
      = ∑ x : Fin 128, Cert.Soft.hi x (q (ix2 i x) * kn (ix3 0 k x)) := by
  unfold Cert.Soft.hi
  pointwise [k0_pay15, k0_pay5, k0_pay7, k0_pay2]

/-- The mixing factor out of the four vectors. -/
theorem lam_at (lam : Vec Ideal S4x64 .f32) : k0_pay1 (F := Ideal) lam (ix2 0 0)
    = Ideal.exp (∑ x : Fin 64, lam (ix2 0 x) * lam (ix2 1 x)) - Ideal.exp (∑ x : Fin 64, lam (ix2 2 x) * lam (ix2 3 x))
      + Ideal.ofBits .f32 0x3E4CCCCD#32 := by
  pointwise [k0_pay1]

theorem gain_at (g : Vec Ideal S1x128 .f32) (e : Fin 128) : k0_pay3 (F := Ideal) g (ix2 0 e) = g (ix2 0 e) := by
  pointwise [k0_pay3]

/-- One head's block at an index, out of its operands. -/
theorem headTile_at (lam : Vec Ideal S4x64 .f32) (g : Vec Ideal S1x128 .f32) (q : Vec Ideal S512x128 .bf16)
    (kc vc : Vec Ideal S1x1x512x128 .f32) (kn vn : Vec Ideal S1x2048x128 .bf16) (i : Fin 512) (e : Fin 128) :
    headTile lam g q kc vc kn vn (ix2 i e)
      = Cert.Soft.norm128 (fun e : Fin 128 => Cert.Soft.diff2
          (fun k : Fin 512 => ∑ x : Fin 128, Cert.Soft.lo x (q (ix2 i x) * kc (ix4 0 0 k x)))
          (fun k : Fin 512 => ∑ x : Fin 128, Cert.Soft.hi x (q (ix2 i x) * kc (ix4 0 0 k x)))
          (fun k : Fin 2048 => ∑ x : Fin 128, Cert.Soft.lo x (q (ix2 i x) * kn (ix3 0 k x)))
          (fun k : Fin 2048 => ∑ x : Fin 128, Cert.Soft.hi x (q (ix2 i x) * kn (ix3 0 k x)))
          (Ideal.exp (∑ x : Fin 64, lam (ix2 0 x) * lam (ix2 1 x)) - Ideal.exp (∑ x : Fin 64, lam (ix2 2 x) * lam (ix2 3 x))
            + Ideal.ofBits .f32 0x3E4CCCCD#32)
          (fun k : Fin 512 => vc (ix4 0 0 k e)) (fun k : Fin 2048 => vn (ix3 0 k e))) (g (ix2 0 e)) e := by
  have h18 : k0_pay18 (F := Ideal) (k0_pay5 q) (k0_pay6 kc) (k0_pay7 kn)
      = k0_pay12 (k0_pay14 (k0_pay5 q) (k0_pay6 kc)) (k0_pay15 (k0_pay5 q) (k0_pay7 kn)) := rfl
  unfold headTile
  rw [out_at, gain_at, h18]
  simp only [pv_at, ratio_at, expA_at, expB_at, sum_at, lam_at, s1A_at, s1B_at, s2A_at, s2B_at]
  rfl

end Cert.KernelIdeal.Head

end
-- ==== Proof.Heads.lean ====
module

public import proofs.«01_k».proof.Proof.Head

@[expose] public section

set_option maxRecDepth 16384

noncomputable section

/-! The four heads of a block do the same: what is stored for heads 1, 2 and 3 is `headTile` too. -/
namespace Cert.KernelIdeal.Head

open Cert.KernelIdeal Cert.KernelIdeal.Gen
open Idealize.ShloMosaic Idealize.ShloMosaic.TcCoe Idealize.SL.Sem

variable (lam : Vec Ideal S4x64 .f32) (g : Vec Ideal S1x128 .f32) (q : Vec Ideal S512x128 .bf16)
  (kc vc : Vec Ideal S1x1x512x128 .f32) (kn vn : Vec Ideal S1x2048x128 .bf16)

theorem head3 :
    k0_pay77 (k0_pay1 lam) (k0_pay3 g) (k0_pay67 (k0_pay58 (k0_pay2) q) kc kn) (k0_pay68 (k0_pay58 (k0_pay2) q) kc kn) (k0_pay69 (k0_pay58 (k0_pay2) q) kc kn) (k0_pay73 q (k0_pay59 ) (k0_pay60 (k0_pay2)) kc kn) (k0_pay74 q (k0_pay59 ) (k0_pay60 (k0_pay2)) kc kn) (k0_pay75 q (k0_pay59 ) (k0_pay60 (k0_pay2)) kc kn) (k0_pay76 q (k0_pay59 ) (k0_pay60 (k0_pay2)) kc kn) vc vn
      = headTile lam g q kc vc kn vn := rfl

theorem head2 :
    k0_pay57 (k0_pay3 g) (k0_pay47 (k0_pay40 (k0_pay2) q) kc kn) (k0_pay48 (k0_pay40 (k0_pay2) q) kc kn) (k0_pay49 (k0_pay40 (k0_pay2) q) kc kn) (k0_pay53 (k0_pay41 (k0_pay2) q) kc kn) (k0_pay54 (k0_pay41 (k0_pay2) q) kc kn) (k0_pay55 (k0_pay1 lam) (k0_pay40 (k0_pay2) q) (k0_pay41 (k0_pay2) q) kc kn) (k0_pay56 (k0_pay1 lam) (k0_pay40 (k0_pay2) q) (k0_pay41 (k0_pay2) q) kc kn) vc vn
      = headTile lam g q kc vc kn vn := rfl

theorem head1 :
    k0_pay39 (k0_pay3 g) (k0_pay30 (k0_pay22 (k0_pay2) q) (k0_pay24 kc) kn) (k0_pay31 (k0_pay22 (k0_pay2) q) (k0_pay24 kc) kn) (k0_pay36 (k0_pay23 (k0_pay2) q) (k0_pay24 kc) kn) (k0_pay37 (k0_pay1 lam) (k0_pay22 (k0_pay2) q) (k0_pay23 (k0_pay2) q) (k0_pay24 kc) kn) (k0_pay38 (k0_pay1 lam) (k0_pay22 (k0_pay2) q) (k0_pay23 (k0_pay2) q) (k0_pay24 kc) kn) vc vn
      = headTile lam g q kc vc kn vn := rfl

end Cert.KernelIdeal.Head

end
-- ==== Proof.Stages.lean ====
module

public import proofs.«01_k».proof.Proof.Gen.ReferenceIdeal.Run
public import Idealize.ShloMosaic.Lib.Pipeline.ValueKit
public import Idealize.ShloMosaic.Lib.Pointwise
public import proofs.«01_k».proof.Proof.Soft

@[expose] public section

set_option maxRecDepth 16384

noncomputable section

namespace Cert.ReferenceIdeal.Stages

open Cert.ReferenceIdeal Cert.ReferenceIdeal.Gen
open Idealize.ShloMosaic Idealize.ShloMosaic.TcCoe Idealize.SL.Sem

/-- Cached and latent values along one key axis. -/
def values (arg2 : FVec Ideal S8x2x512x4x128 .f32) (arg4 : FVec Ideal S16384x512 .bf16) : FVec Ideal S8x2560x4x128 .f32 :=
  (concatenate S8x2560x4x128 1 [⟨S8x512x4x128, (shapeCast S8x512x4x128 (extractStridedSlice S8x1x512x4x128 ![0, 0, 0, 0, 0] arg2 slices_S8x2x512x4x128_S8x1x512x4x128_0_0_0_0_0) shapeCasts_S8x1x512x4x128_S8x512x4x128)⟩, ⟨S8x2048x4x128, (shapeCast S8x2048x4x128 (extf .f32 arg4 bitsLt_bf16_f32) shapeCasts_S16384x512_S8x2048x4x128)⟩] concatenates_S8x512x4x128_S8x2048x4x128_S8x2560x4x128_d1)

/-- The weight of the second map. -/
def lam2 (arg5 : FVec Ideal S4x64 .f32) : FVec Ideal S_ .f32 :=
  (addf (subf (Host.exp (Host.reduceAdd (mulf (shapeCast S64 (extractStridedSlice S1x64 ![0, 0] arg5 slices_S4x64_S1x64_0_0) shapeCasts_S1x64_S64) (shapeCast S64 (extractStridedSlice S1x64 ![1, 0] arg5 slices_S4x64_S1x64_1_0) shapeCasts_S1x64_S64)) (constant S_ .f32 0x00000000#32) reducesTo_S64_S_d0 h_S_)) (Host.exp (Host.reduceAdd (mulf (shapeCast S64 (extractStridedSlice S1x64 ![2, 0] arg5 slices_S4x64_S1x64_2_0) shapeCasts_S1x64_S64) (shapeCast S64 (extractStridedSlice S1x64 ![3, 0] arg5 slices_S4x64_S1x64_3_0) shapeCasts_S1x64_S64)) (constant S_ .f32 0x00000000#32) reducesTo_S64_S_d0 h_S_))) (constant S_ .f32 0x3E4CCCCD#32))

/-- The scores: 64-lane dot products of the two maps, in natural-log units. -/
def scores (arg0 : FVec Ideal S16384x512 .bf16) (arg1 : FVec Ideal S8x2x512x4x128 .f32) (arg3 : FVec Ideal S16384x512 .bf16) : FVec Ideal S8x4x2x2048x2560 .f32 :=
  (Host.dotGeneral dot_S8x2048x4x2x64_S8x2560x4x2x64_S8x4x2x2048x2560_4_4_1_1_023_023 none (shapeCast S8x2048x4x2x64 (mulf (extf .f32 arg0 bitsLt_bf16_f32) (broadcastInDim S16384x512 ![] bcast_S_S16384x512 (id (Host.log (constant S_ .f32 0x40000000#32))))) shapeCasts_S16384x512_S8x2048x4x2x64) (concatenate S8x2560x4x2x64 1 [⟨S8x512x4x2x64, (shapeCast S8x512x4x2x64 (shapeCast S8x512x4x128 (extractStridedSlice S8x1x512x4x128 ![0, 0, 0, 0, 0] arg1 slices_S8x2x512x4x128_S8x1x512x4x128_0_0_0_0_0) shapeCasts_S8x1x512x4x128_S8x512x4x128) shapeCasts_S8x512x4x128_S8x512x4x2x64)⟩, ⟨S8x2048x4x2x64, (shapeCast S8x2048x4x2x64 (extf .f32 arg3 bitsLt_bf16_f32) shapeCasts_S16384x512_S8x2048x4x2x64)⟩] concatenates_S8x512x4x2x64_S8x2048x4x2x64_S8x2560x4x2x64_d1))

/-- The largest score of each row, as the reduction leaves it. -/
def topRaw (scores_ : FVec Ideal S8x4x2x2048x2560 .f32) : FVec Ideal S8x4x2x2048 .f32 :=
  (Host.reduce FloatOps.maximumf scores_ (constant S_ .f32 0xFF800000#32) reducesTo_S8x4x2x2048x2560_S8x4x2x2048_d4 h_S_)

/-- The largest score of each row. -/
def top (topRaw_ : FVec Ideal S8x4x2x2048 .f32) : FVec Ideal S8x4x2x2048 .f32 :=
  (maximumf (broadcastInDim S8x4x2x2048 ![] bcast_S_S8x4x2x2048 (constant S_ .f32 0xFF800000#32)) topRaw_)

/-- The exponential of each score less the largest one of its row. -/
def expo (scores_ : FVec Ideal S8x4x2x2048x2560 .f32) (top_ : FVec Ideal S8x4x2x2048 .f32) : FVec Ideal S8x4x2x2048x2560 .f32 :=
  (Host.exp (subf scores_ (broadcastInDim S8x4x2x2048x2560 ![0, 1, 2, 3, 4] bcast_S8x4x2x2048x1_S8x4x2x2048x2560_0_1_2_3_4 (broadcastInDim S8x4x2x2048x1 ![0, 1, 2, 3] bcast_S8x4x2x2048_S8x4x2x2048x1_0_1_2_3 top_))))

/-- Softmax: each exponential over the sum of its row. -/
def probs (expo_ : FVec Ideal S8x4x2x2048x2560 .f32) : FVec Ideal S8x4x2x2048x2560 .f32 :=
  (Host.divf expo_ (broadcastInDim S8x4x2x2048x2560 ![0, 1, 2, 3, 4] bcast_S8x4x2x2048x1_S8x4x2x2048x2560_0_1_2_3_4 (broadcastInDim S8x4x2x2048x1 ![0, 1, 2, 3] bcast_S8x4x2x2048_S8x4x2x2048x1_0_1_2_3 (Host.reduceAdd expo_ (constant S_ .f32 0x00000000#32) reducesTo_S8x4x2x2048x2560_S8x4x2x2048_d4 h_S_))))

/-- The values weighted by the difference of the two maps. -/
def mix (values_ : FVec Ideal S8x2560x4x128 .f32) (lam2_ : FVec Ideal S_ .f32) (probs_ : FVec Ideal S8x4x2x2048x2560 .f32) : FVec Ideal S8x2048x4x128 .f32 :=
  (transpose S8x2048x4x128 [0, 3, 1, 2] (Host.dotGeneral dot_S8x2560x4x128_S8x4x2048x2560_S8x4x128x2048_1_3_3_2_02_01 none values_ (subf (shapeCast S8x4x2048x2560 (extractStridedSlice S8x4x1x2048x2560 ![0, 0, 0, 0, 0] probs_ slices_S8x4x2x2048x2560_S8x4x1x2048x2560_0_0_0_0_0) shapeCasts_S8x4x1x2048x2560_S8x4x2048x2560) (mulf (broadcastInDim S8x4x2048x2560 ![] bcast_S_S8x4x2048x2560 lam2_) (shapeCast S8x4x2048x2560 (extractStridedSlice S8x4x1x2048x2560 ![0, 0, 1, 0, 0] probs_ slices_S8x4x2x2048x2560_S8x4x1x2048x2560_0_0_1_0_0) shapeCasts_S8x4x1x2048x2560_S8x4x2048x2560)))) transposes_S8x4x128x2048_S8x2048x4x128_0_3_1_2)

/-- The norm of each head's row with the gain, the factor `1 - lambda_init`, and the heads side by side. -/
def diffOut (arg6 : FVec Ideal S128 .f32) (mix_ : FVec Ideal S8x2048x4x128 .f32) : FVec Ideal S16384x512 .bf16 :=
  (truncf .bf16 (shapeCast S16384x512 (mulf (mulf (mulf mix_ (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf mix_ mix_) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 arg6))) (broadcastInDim S8x2048x4x128 ![] bcast_S_S8x2048x4x128 (constant S_ .f32 0x3F4CCCCD#32))) shapeCasts_S8x2048x4x128_S16384x512) bitsLt_bf16_f32)

/-- The weight of the second map, from the four lambda vectors. -/
theorem lam2_at (a5 : FVec Ideal S4x64 .f32) : lam2 a5 ix0
    = Ideal.exp (∑ x : Fin 64, a5 (ix2 0 x) * a5 (ix2 1 x)) - Ideal.exp (∑ x : Fin 64, a5 (ix2 2 x) * a5 (ix2 3 x))
      + Ideal.ofBits .f32 0x3E4CCCCD#32 := by
  pointwise [lam2]

/-- The logarithm of two, as the reference computes it. -/
theorem log_two : Host.log (constant (F := Ideal) S_ .f32 0x40000000#32) ix0 = ((Real.log 2 : ℝ) : EReal) := by
  show Ideal.log (Ideal.ofBits .f32 0x40000000#32) = _
  rw [Cert.Soft.two_eq, Ideal.log_coe, if_neg (by norm_num)]

/-- A score at an index. -/
theorem scores_at (a0 a3 : FVec Ideal S16384x512 .bf16) (a1 : FVec Ideal S8x2x512x4x128 .f32) (b : Fin 8) (h : Fin 4)
    (mm : Fin 2) (n : Fin 2048) (k : Fin 2560) : scores a0 a1 a3 (ix5 b h mm n k)
    = ∑ x : Fin 64, a0 (ix2 ⟨b * 2048 + n, by omega⟩ ⟨h * 128 + mm * 64 + x, by omega⟩) * ((Real.log 2 : ℝ) : EReal) *
        if _h : (k : ℕ) < 512 then a1 (ix5 b 0 ⟨k, by omega⟩ h ⟨mm * 64 + x, by omega⟩)
        else a3 (ix2 ⟨b * 2048 + (k - 512), by omega⟩ ⟨h * 128 + mm * 64 + x, by omega⟩) := by
  pointwise [scores]
  refine Finset.sum_congr rfl fun x _ => ?_
  rw [← log_two]
  rfl

/-- The reduction by maximum at an index, from any initial value. -/
theorem topRaw_gen (s : FVec Ideal S8x4x2x2048x2560 .f32) (z : FVec Ideal S_ .f32) (b : Fin 8) (h : Fin 4) (mm : Fin 2)
    (n : Fin 2048) : Host.reduce FloatOps.maximumf s z reducesTo_S8x4x2x2048x2560_S8x4x2x2048_d4 h_S_ (ix4 b h mm n)
    = Finset.univ.fold max (z (Shape.Idx.first h_S_)) fun k : Fin 2560 => s (ix5 b h mm n k) := by
  pointwise

theorem topRaw_at (s : FVec Ideal S8x4x2x2048x2560 .f32) (b : Fin 8) (h : Fin 4) (mm : Fin 2)
    (n : Fin 2048) : topRaw s (ix4 b h mm n)
    = Finset.univ.fold max (Ideal.ofBits .f32 0xFF800000#32) fun k : Fin 2560 => s (ix5 b h mm n k) :=
  topRaw_gen s _ b h mm n

theorem top_at (q : FVec Ideal S8x4x2x2048 .f32) (b : Fin 8) (h : Fin 4) (mm : Fin 2) (n : Fin 2048) :
    top q (ix4 b h mm n) = max (Ideal.ofBits .f32 0xFF800000#32) (q (ix4 b h mm n)) := by
  pointwise [top]

theorem expo_at (s : FVec Ideal S8x4x2x2048x2560 .f32) (q : FVec Ideal S8x4x2x2048 .f32) (b : Fin 8) (h : Fin 4)
    (mm : Fin 2) (n : Fin 2048) (k : Fin 2560) :
    expo s q (ix5 b h mm n k) = Ideal.exp (s (ix5 b h mm n k) - q (ix4 b h mm n)) := by
  pointwise [expo]

theorem probs_at (e : FVec Ideal S8x4x2x2048x2560 .f32) (b : Fin 8) (h : Fin 4)
    (mm : Fin 2) (n : Fin 2048) (k : Fin 2560) :
    probs e (ix5 b h mm n k) = Ideal.div (e (ix5 b h mm n k)) (∑ j : Fin 2560, e (ix5 b h mm n j)) := by
  pointwise [probs]

theorem mix_at (v : FVec Ideal S8x2560x4x128 .f32) (l : FVec Ideal S_ .f32) (p : FVec Ideal S8x4x2x2048x2560 .f32)
    (b : Fin 8) (h : Fin 4) (n : Fin 2048) (e : Fin 128) : mix v l p (ix4 b n h e)
    = ∑ k : Fin 2560, v (ix4 b k h e) * (p (ix5 b h 0 n k) - l ix0 * p (ix5 b h 1 n k)) := by
  pointwise [mix]

theorem values_at (a2 : FVec Ideal S8x2x512x4x128 .f32) (a4 : FVec Ideal S16384x512 .bf16) (b : Fin 8) (h : Fin 4)
    (k : Fin 2560) (e : Fin 128) : values a2 a4 (ix4 b k h e)
    = if _h : (k : ℕ) < 512 then a2 (ix5 b 0 ⟨k, by omega⟩ h e)
      else a4 (ix2 ⟨b * 2048 + (k - 512), by omega⟩ ⟨h * 128 + e, by omega⟩) := by
  pointwise [values]

/-- The root-mean-square norm with gain, and the factor `1 - lambda_init`, at an index. -/
theorem diffOut_at (g : FVec Ideal S128 .f32) (o : FVec Ideal S8x2048x4x128 .f32) (b : Fin 8) (h : Fin 4)
    (n : Fin 2048) (e : Fin 128) : diffOut g o (ix2 ⟨b * 2048 + n, by omega⟩ ⟨h * 128 + e, by omega⟩)
    = o (ix4 b n h e) * Ideal.rsqrt (Ideal.div (∑ x : Fin 128, o (ix4 b n h x) * o (ix4 b n h x))
          (Ideal.ofBits .f32 0x43000000#32) + Ideal.ofBits .f32 0x358637BD#32) * g (ix1 e)
        * Ideal.ofBits .f32 0x3F4CCCCD#32 := by
  have hr : (⟨(b * 2048 + n : ℕ) / 2048, by omega⟩ : Fin 8) = b := Fin.ext (by show (b * 2048 + n : ℕ) / 2048 = b; omega)
  have hn : (⟨(b * 2048 + n : ℕ) % 2048, by omega⟩ : Fin 2048) = n := Fin.ext (by show (b * 2048 + n : ℕ) % 2048 = n; omega)
  have hh : (⟨(h * 128 + e : ℕ) / 128, by omega⟩ : Fin 4) = h := Fin.ext (by show (h * 128 + e : ℕ) / 128 = h; omega)
  have he : (⟨(h * 128 + e : ℕ) % 128, by omega⟩ : Fin 128) = e := Fin.ext (by show (h * 128 + e : ℕ) % 128 = e; omega)
  pointwise [diffOut]

/-- The stages composed are the reference's result. -/
theorem result_eq (m : (ℓ : Loc nD τ sig) → Buf (Elt Ideal) ℓ) (c : Dev nD) : Cert.ReferenceIdeal.Value.res_out0 m c
    = diffOut (m ((c.tc : Thread nD τ).loc main_arg6))
        (mix (values (m ((c.tc : Thread nD τ).loc main_arg2)) (m ((c.tc : Thread nD τ).loc main_arg4)))
          (lam2 (m ((c.tc : Thread nD τ).loc main_arg5)))
          (probs (expo (scores (m ((c.tc : Thread nD τ).loc main_arg0)) (m ((c.tc : Thread nD τ).loc main_arg1))
              (m ((c.tc : Thread nD τ).loc main_arg3)))
            (top (topRaw (scores (m ((c.tc : Thread nD τ).loc main_arg0)) (m ((c.tc : Thread nD τ).loc main_arg1))
              (m ((c.tc : Thread nD τ).loc main_arg3)))))))) := by
  unfold Cert.ReferenceIdeal.Value.res_out0
  rfl

end Cert.ReferenceIdeal.Stages

end
-- ==== Proof.Row.lean ====
module

public import proofs.«01_k».proof.Proof.Heads
public import proofs.«01_k».proof.Proof.Stages

@[expose] public section

set_option maxRecDepth 16384

noncomputable section

/-! One row of one head: what the kernel's block holds is the reference's row. -/
namespace Cert.Row

open Cert.ReferenceIdeal
open Idealize.ShloMosaic Idealize.ShloMosaic.TcCoe Idealize.SL.Sem

/-- The reference's result over its arguments. -/
def ref (a0 : FVec Ideal S16384x512 .bf16) (a1 a2 : FVec Ideal S8x2x512x4x128 .f32) (a3 a4 : FVec Ideal S16384x512 .bf16)
    (a5 : FVec Ideal S4x64 .f32) (a6 : FVec Ideal S128 .f32) : FVec Ideal S16384x512 .bf16 :=
  Stages.diffOut a6 (Stages.mix (Stages.values a2 a4) (Stages.lam2 a5) (Stages.probs (Stages.expo (Stages.scores a0 a1 a3)
    (Stages.top (Stages.topRaw (Stages.scores a0 a1 a3))))))

/-- The reference at a row of one head: the values weighted by the difference of two softmaxes, then the norm. -/
theorem ref_at (a0 : FVec Ideal S16384x512 .bf16) (a1 a2 : FVec Ideal S8x2x512x4x128 .f32) (a3 a4 : FVec Ideal S16384x512 .bf16)
    (a5 : FVec Ideal S4x64 .f32) (a6 : FVec Ideal S128 .f32) (b : Fin 8) (h : Fin 4) (n : Fin 2048) (e : Fin 128) :
    ref a0 a1 a2 a3 a4 a5 a6 (ix2 ⟨b * 2048 + n, by omega⟩ ⟨h * 128 + e, by omega⟩)
      = Cert.Soft.norm128 (fun e : Fin 128 => ∑ k : Fin 2560, Stages.values a2 a4 (ix4 b k h e)
          * (Cert.Soft.prob (fun k : Fin 2560 => Stages.scores a0 a1 a3 (ix5 b h 0 n k)) k
            - Stages.lam2 a5 ix0 * Cert.Soft.prob (fun k : Fin 2560 => Stages.scores a0 a1 a3 (ix5 b h 1 n k)) k))
          (a6 (ix1 e)) e := by
  unfold ref Cert.Soft.norm128 Cert.Soft.prob
  rw [Stages.diffOut_at]
  simp only [Stages.mix_at, Stages.probs_at, Stages.expo_at, Stages.top_at, Stages.topRaw_at]

/-- A score of finite queries and keys, over a map's 64 lanes, in reals. -/
theorem dot_real (x y : Fin 64 → EReal) (rx ry : Fin 64 → ℝ) (hx : ∀ d, x d = (rx d : EReal)) (hy : ∀ d, y d = (ry d : EReal)) :
    ∑ d, x d * y d = ((∑ d, rx d * ry d : ℝ) : EReal) := by
  simp only [hx, hy, ← EReal.coe_mul, Cert.Soft.coe_sum]

/-- The same with the queries times `log 2`. -/
theorem dot_log (x y : Fin 64 → EReal) (rx ry : Fin 64 → ℝ) (hx : ∀ d, x d = (rx d : EReal)) (hy : ∀ d, y d = (ry d : EReal)) :
    ∑ d, x d * ((Real.log 2 : ℝ) : EReal) * y d = ((Real.log 2 * ∑ d, rx d * ry d : ℝ) : EReal) := by
  simp only [hx, hy, ← EReal.coe_mul, Cert.Soft.coe_sum]
  refine congrArg _ ?_
  rw [Finset.mul_sum]
  exact Finset.sum_congr rfl fun d _ => by ring

/-- THE ROW: a head's block whose operands are the arguments' rows and lanes is the reference there. -/
theorem row_eq (a0 : FVec Ideal S16384x512 .bf16) (a1 a2 : FVec Ideal S8x2x512x4x128 .f32) (a3 a4 : FVec Ideal S16384x512 .bf16)
    (a5 : FVec Ideal S4x64 .f32) (a6 : FVec Ideal S128 .f32) (h0 : ∀ i, ∃ r : ℝ, a0 i = (r : EReal))
    (h1 : ∀ i, ∃ r : ℝ, a1 i = (r : EReal)) (h3 : ∀ i, ∃ r : ℝ, a3 i = (r : EReal))
    (b : Fin 8) (h : Fin 4) (n : Fin 2048) (i : Fin 512) (e : Fin 128)
    (lam : Vec Ideal Cert.KernelIdeal.S4x64 .f32) (g : Vec Ideal Cert.KernelIdeal.S1x128 .f32)
    (q : Vec Ideal Cert.KernelIdeal.S512x128 .bf16) (kc vc : Vec Ideal Cert.KernelIdeal.S1x1x512x128 .f32)
    (kn vn : Vec Ideal Cert.KernelIdeal.S1x2048x128 .bf16)
    (hlam : ∀ (a : Fin 4) (d : Fin 64), lam (ix2 a d) = a5 (ix2 a d)) (hg : ∀ e : Fin 128, g (ix2 0 e) = a6 (ix1 e))
    (hq : ∀ d : Fin 128, q (ix2 i d) = a0 (ix2 ⟨b * 2048 + n, by omega⟩ ⟨h * 128 + d, by omega⟩))
    (hkc : ∀ (k : Fin 512) (d : Fin 128), kc (ix4 0 0 k d) = a1 (ix5 b 0 k h d))
    (hvc : ∀ (k : Fin 512) (d : Fin 128), vc (ix4 0 0 k d) = a2 (ix5 b 0 k h d))
    (hkn : ∀ (k : Fin 2048) (d : Fin 128), kn (ix3 0 k d) = a3 (ix2 ⟨b * 2048 + k, by omega⟩ ⟨h * 128 + d, by omega⟩))
    (hvn : ∀ (k : Fin 2048) (d : Fin 128), vn (ix3 0 k d) = a4 (ix2 ⟨b * 2048 + k, by omega⟩ ⟨h * 128 + d, by omega⟩)) :
    Cert.KernelIdeal.Head.headTile lam g q kc vc kn vn (ix2 i e)
      = ref a0 a1 a2 a3 a4 a5 a6 (ix2 ⟨b * 2048 + n, by omega⟩ ⟨h * 128 + e, by omega⟩) := by
  choose r0 hr0 using h0
  choose r1 hr1 using h1
  choose r3 hr3 using h3
  rw [Cert.KernelIdeal.Head.headTile_at, ref_at, hg]
  refine congrArg (fun o : Fin 128 → EReal => Cert.Soft.norm128 o (a6 (ix1 e)) e) (funext fun e => ?_)
  simp only [Cert.Soft.sum_lo, Cert.Soft.sum_hi, hlam, hq, hkc, hvc, hkn, hvn, ← Stages.lam2_at]
  simp only [dot_real _ _ _ _ (fun d => hr0 _) (fun d => hr1 _), dot_real _ _ _ _ (fun d => hr0 _) (fun d => hr3 _)]
  refine Cert.Soft.diff2_eq (n := 2560) rfl (by norm_num) (by norm_num) _ _ _ _ _ _ _ _ _ _ ?_ ?_ ?_ ?_ ?_ ?_
  · intro x
    rw [Stages.scores_at]
    simp only [dif_pos x.isLt]
    exact dot_log _ _ _ _ (fun d => hr0 _) (fun d => (congrArg (fun z : Fin 128 => a1 (ix5 b 0 x h z)) (Fin.ext (by simp))).trans (hr1 _))
  · intro x
    rw [Stages.scores_at]
    simp only [dif_neg (by omega : ¬ 512 + (x : ℕ) < 512), Nat.add_sub_cancel_left]
    exact dot_log _ _ _ _ (fun d => hr0 _) (fun d => hr3 _)
  · intro x
    rw [Stages.scores_at]
    simp only [dif_pos x.isLt]
    exact dot_log _ _ _ _ (fun d => (congrArg (fun z : Fin 512 => a0 (ix2 ⟨b * 2048 + n, by omega⟩ z)) (Fin.ext (by simp; omega))).trans (hr0 _)) (fun d => hr1 _)
  · intro x
    rw [Stages.scores_at]
    simp only [dif_neg (by omega : ¬ 512 + (x : ℕ) < 512), Nat.add_sub_cancel_left]
    exact dot_log _ _ _ _ (fun d => (congrArg (fun z : Fin 512 => a0 (ix2 ⟨b * 2048 + n, by omega⟩ z)) (Fin.ext (by simp; omega))).trans (hr0 _)) (fun d => (congrArg (fun z : Fin 512 => a3 (ix2 ⟨b * 2048 + x, by omega⟩ z)) (Fin.ext (by simp; omega))).trans (hr3 _))
  · intro x
    rw [Stages.values_at]
    exact dif_pos x.isLt
  · intro x
    rw [Stages.values_at]
    simp only [dif_neg (by omega : ¬ 512 + (x : ℕ) < 512), Nat.add_sub_cancel_left]

end Cert.Row

end
-- ==== Proof.Value.lean ====
module

public import proofs.«01_k».proof.Proof.Gen.KernelIdeal.Value
public import proofs.«01_k».proof.Proof.Row
public import Idealize.ShloMosaic.Lib.Claim

@[expose] public section

set_option maxRecDepth 16384

noncomputable section

/-! The kernel's result array: every block's every head is the reference's row. -/
namespace Cert.KernelIdeal.Arr

open Cert.KernelIdeal Cert.KernelIdeal.Gen
open Idealize.ShloMosaic Idealize.ShloMosaic.TcCoe Idealize.SL.Sem

variable (m : (ℓ : Loc nD τ sig) → Buf (Elt Ideal) ℓ)

/-- The blocks a grid point stages. -/
theorem idx_val : ∀ t : Fin cfg0.N, win0_0.index t = ![t.val, 0] ∧ win0_1.index t = ![t.val / 4, 0, 0, 0]
    ∧ win0_2.index t = ![t.val / 4, 0, 0, 0] ∧ win0_3.index t = ![t.val / 4, 0, 0] ∧ win0_4.index t = ![t.val / 4, 0, 0]
    ∧ win0_5.index t = ![0, 0] ∧ win0_6.index t = ![0, 0] ∧ win0_7.index t = ![t.val, 0] :=
  (by decide +kernel : ∀ t : Fin grid0.N, _)

/-- The caches, the latent keys and values and the gain as the kernel receives them: reshaped arguments. -/
theorem V_v0 (c : Dev nD) : V m c main_v0 = shapeCast S8x2x512x512 (m ((c : Thread nD τ).loc main_arg1)) shapeCasts_S8x2x512x4x128_S8x2x512x512 := by
  unfold V; after_results; try rfl
theorem V_v1 (c : Dev nD) : V m c main_v1 = shapeCast S8x2x512x512 (m ((c : Thread nD τ).loc main_arg2)) shapeCasts_S8x2x512x4x128_S8x2x512x512 := by
  unfold V; after_results; try rfl
theorem V_v2 (c : Dev nD) : V m c main_v2 = shapeCast S1x128 (m ((c : Thread nD τ).loc main_arg6)) shapeCasts_S128_S1x128 := by
  unfold V; after_results; try rfl
theorem V_v3 (c : Dev nD) : V m c main_v3 = shapeCast S8x2048x512 (m ((c : Thread nD τ).loc main_arg3)) shapeCasts_S16384x512_S8x2048x512 := by
  unfold V; after_results; try rfl
theorem V_v4 (c : Dev nD) : V m c main_v4 = shapeCast S8x2048x512 (m ((c : Thread nD τ).loc main_arg4)) shapeCasts_S16384x512_S8x2048x512 := by
  unfold V; after_results; try rfl

/-- The latent arrays' reshape at an index. -/
theorem split_rows (X : FVec Ideal S16384x512 .bf16) (b : Fin 8) (k : Fin 2048) (l : Fin 512) :
    shapeCast S8x2048x512 X shapeCasts_S16384x512_S8x2048x512 (ix3 b k l) = X (ix2 ⟨b * 2048 + k, by omega⟩ l) := by
  pointwise

/-- A block of the queries at an index. -/
theorem q_at (c : Dev nD) (t : Fin cfg0.N) (i : Fin 512) (l : Fin 512) (ht : t.val < 32) :
    iblk m c 0 t (ix2 i l) = m ((c : Thread nD τ).loc main_arg0) (ix2 ⟨t.val * 512 + i, by omega⟩ l) := by
  blk_ext [iblk, V, idx_val t]

theorem kc_at (c : Dev nD) (t : Fin cfg0.N) (k : Fin 512) (h : Fin 4) (d : Fin 128) (ht : t.val < 32) :
    iblk m c 1 t (ix4 0 0 k ⟨h * 128 + d, by omega⟩)
      = m ((c : Thread nD τ).loc main_arg1) (ix5 ⟨t.val / 4, by omega⟩ 0 k h d) := by
  blk_simp [iblk]
  rw [V_v0]
  pointwise
  blk_ext [idx_val t]

theorem vc_at (c : Dev nD) (t : Fin cfg0.N) (k : Fin 512) (h : Fin 4) (d : Fin 128) (ht : t.val < 32) :
    iblk m c 2 t (ix4 0 0 k ⟨h * 128 + d, by omega⟩)
      = m ((c : Thread nD τ).loc main_arg2) (ix5 ⟨t.val / 4, by omega⟩ 0 k h d) := by
  blk_simp [iblk]
  rw [V_v1]
  pointwise
  blk_ext [idx_val t]

theorem kn_at (c : Dev nD) (t : Fin cfg0.N) (k : Fin 2048) (l : Fin 512) (ht : t.val < 32) :
    iblk m c 3 t (ix3 0 k l) = m ((c : Thread nD τ).loc main_arg3) (ix2 ⟨t.val / 4 * 2048 + k, by omega⟩ l) := by
  refine Eq.trans (b := V m c main_v3 (ix3 ⟨t.val / 4, by omega⟩ k l)) ?_ ?_
  · blk_ext [iblk, idx_val t]
  · rw [V_v3]; exact split_rows _ _ _ _

theorem vn_at (c : Dev nD) (t : Fin cfg0.N) (k : Fin 2048) (l : Fin 512) (ht : t.val < 32) :
    iblk m c 4 t (ix3 0 k l) = m ((c : Thread nD τ).loc main_arg4) (ix2 ⟨t.val / 4 * 2048 + k, by omega⟩ l) := by
  refine Eq.trans (b := V m c main_v4 (ix3 ⟨t.val / 4, by omega⟩ k l)) ?_ ?_
  · blk_ext [iblk, idx_val t]
  · rw [V_v4]; exact split_rows _ _ _ _

theorem lam_at (c : Dev nD) (t : Fin cfg0.N) (a : Fin 4) (d : Fin 64) :
    iblk m c 5 t (ix2 a d) = m ((c : Thread nD τ).loc main_arg5) (ix2 a d) := by
  blk_ext [iblk, V, idx_val t]

theorem gain_at (c : Dev nD) (t : Fin cfg0.N) (e : Fin 128) :
    iblk m c 6 t (ix2 0 e) = m ((c : Thread nD τ).loc main_arg6) (ix1 e) := by
  blk_simp [iblk]
  rw [V_v2]
  pointwise
  blk_ext [idx_val t]

/-- An element below infinity in size is a real. -/
theorem real_of_abs (x : EReal) (h : Ideal.cmp .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- What one head of a block holds is the reference at the head's lanes. -/
theorem head_eq (c : Dev nD) (t : Fin cfg0.N) (ht : t.val < 32)
    (f0 : ∀ i, ∃ r : ℝ, m ((c : Thread nD τ).loc main_arg0) i = (r : EReal))
    (f1 : ∀ i, ∃ r : ℝ, m ((c : Thread nD τ).loc main_arg1) i = (r : EReal))
    (f3 : ∀ i, ∃ r : ℝ, m ((c : Thread nD τ).loc main_arg3) i = (r : EReal))
    (h : Fin 4) (lam : Vec Ideal S4x64 .f32) (g : Vec Ideal S1x128 .f32)
    (q : Vec Ideal S512x128 .bf16) (kc vc : Vec Ideal S1x1x512x128 .f32) (kn vn : Vec Ideal S1x2048x128 .bf16)
    (hlam : ∀ (a : Fin 4) (d : Fin 64), lam (ix2 a d) = iblk m c 5 t (ix2 a d)) (hg : ∀ e : Fin 128, g (ix2 0 e) = iblk m c 6 t (ix2 0 e))
    (hq : ∀ (i : Fin 512) (d : Fin 128), q (ix2 i d) = iblk m c 0 t (ix2 i ⟨h * 128 + d, by omega⟩))
    (hkc : ∀ (k : Fin 512) (d : Fin 128), kc (ix4 0 0 k d) = iblk m c 1 t (ix4 0 0 k ⟨h * 128 + d, by omega⟩))
    (hvc : ∀ (k : Fin 512) (d : Fin 128), vc (ix4 0 0 k d) = iblk m c 2 t (ix4 0 0 k ⟨h * 128 + d, by omega⟩))
    (hkn : ∀ (k : Fin 2048) (d : Fin 128), kn (ix3 0 k d) = iblk m c 3 t (ix3 0 k ⟨h * 128 + d, by omega⟩))
    (hvn : ∀ (k : Fin 2048) (d : Fin 128), vn (ix3 0 k d) = iblk m c 4 t (ix3 0 k ⟨h * 128 + d, by omega⟩))
    (x : S512x128.Idx) (j : S16384x512.Idx) (hj0 : (j 0 : ℕ) = t.val * 512 + x 0) (hj1 : (j 1 : ℕ) = h * 128 + x 1) :
    Head.headTile lam g q kc vc kn vn x
      = Cert.Row.ref (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) j := by
  idx_vars x
  have b0 : (x0 : ℕ) < 512 := x0.isLt
  have b1 : (x1 : ℕ) < 128 := x1.isLt
  have hj : j = ix2 ⟨(⟨t.val / 4, by omega⟩ : Fin 8) * 2048 + (⟨t.val % 4 * 512 + x0, by omega⟩ : Fin 2048), by show t.val / 4 * 2048 + (t.val % 4 * 512 + (x0 : ℕ)) < 16384; omega⟩
      ⟨h * 128 + x1, by omega⟩ := by
    funext a
    refine Fin.ext ?_
    match a with
    | 0 => show (j 0 : ℕ) = t.val / 4 * 2048 + (t.val % 4 * 512 + (x0 : ℕ)); omega
    | 1 => exact hj1
  rw [hj]
  refine Cert.Row.row_eq _ _ _ _ _ _ _ f0 f1 f3 ⟨t.val / 4, by omega⟩ h ⟨t.val % 4 * 512 + x0, by omega⟩ x0 x1 lam g q kc vc kn vn
    (fun a d => (hlam a d).trans (lam_at m c t a d)) (fun e => (hg e).trans (gain_at m c t e)) (fun d => ?_)
    (fun k d => (hkc k d).trans (kc_at m c t k h d ht)) (fun k d => (hvc k d).trans (vc_at m c t k h d ht))
    (fun k d => (hkn k d).trans (kn_at m c t k _ ht)) (fun k d => (hvn k d).trans (vn_at m c t k _ ht))
  refine (hq x0 d).trans ((q_at m c t x0 _ ht).trans ?_)
  refine congrArg (fun z => m ((c : Thread nD τ).loc main_arg0) (ix2 z ⟨h * 128 + d, by omega⟩)) (Fin.ext ?_)
  show t.val * 512 + (x0 : ℕ) = t.val / 4 * 2048 + (t.val % 4 * 512 + (x0 : ℕ))
  omega

/-! The loads: a head's lanes of a block. -/

theorem ldq0 (B : Vec Ideal S512x512 .bf16) (i : Fin 512) (d : Fin 128) :
    View.ld B r0_2 (ix2 i d) = B (ix2 i ⟨(((0 : Fin 4) : ℕ)) * 128 + d, by omega⟩) := by
  pointwise
theorem ldc0 (B : Vec Ideal S1x1x512x512 .f32) (k : Fin 512) (d : Fin 128) :
    View.ld B r0_3 (ix4 0 0 k d) = B (ix4 0 0 k ⟨(((0 : Fin 4) : ℕ)) * 128 + d, by omega⟩) := by
  pointwise
theorem ldn0 (B : Vec Ideal S1x2048x512 .bf16) (k : Fin 2048) (d : Fin 128) :
    View.ld B r0_4 (ix3 0 k d) = B (ix3 0 k ⟨(((0 : Fin 4) : ℕ)) * 128 + d, by omega⟩) := by
  pointwise
theorem ldq1 (B : Vec Ideal S512x512 .bf16) (i : Fin 512) (d : Fin 128) :
    View.ld B r0_5 (ix2 i d) = B (ix2 i ⟨(((1 : Fin 4) : ℕ)) * 128 + d, by omega⟩) := by
  pointwise
theorem ldc1 (B : Vec Ideal S1x1x512x512 .f32) (k : Fin 512) (d : Fin 128) :
    View.ld B r0_6 (ix4 0 0 k d) = B (ix4 0 0 k ⟨(((1 : Fin 4) : ℕ)) * 128 + d, by omega⟩) := by
  pointwise
theorem ldn1 (B : Vec Ideal S1x2048x512 .bf16) (k : Fin 2048) (d : Fin 128) :
    View.ld B r0_7 (ix3 0 k d) = B (ix3 0 k ⟨(((1 : Fin 4) : ℕ)) * 128 + d, by omega⟩) := by
  pointwise
theorem ldq2 (B : Vec Ideal S512x512 .bf16) (i : Fin 512) (d : Fin 128) :
    View.ld B r0_8 (ix2 i d) = B (ix2 i ⟨(((2 : Fin 4) : ℕ)) * 128 + d, by omega⟩) := by
  pointwise
theorem ldc2 (B : Vec Ideal S1x1x512x512 .f32) (k : Fin 512) (d : Fin 128) :
    View.ld B r0_9 (ix4 0 0 k d) = B (ix4 0 0 k ⟨(((2 : Fin 4) : ℕ)) * 128 + d, by omega⟩) := by
  pointwise
theorem ldn2 (B : Vec Ideal S1x2048x512 .bf16) (k : Fin 2048) (d : Fin 128) :
    View.ld B r0_10 (ix3 0 k d) = B (ix3 0 k ⟨(((2 : Fin 4) : ℕ)) * 128 + d, by omega⟩) := by
  pointwise
theorem ldq3 (B : Vec Ideal S512x512 .bf16) (i : Fin 512) (d : Fin 128) :
    View.ld B r0_11 (ix2 i d) = B (ix2 i ⟨(((3 : Fin 4) : ℕ)) * 128 + d, by omega⟩) := by
  pointwise
theorem ldc3 (B : Vec Ideal S1x1x512x512 .f32) (k : Fin 512) (d : Fin 128) :
    View.ld B r0_12 (ix4 0 0 k d) = B (ix4 0 0 k ⟨(((3 : Fin 4) : ℕ)) * 128 + d, by omega⟩) := by
  pointwise
theorem ldn3 (B : Vec Ideal S1x2048x512 .bf16) (k : Fin 2048) (d : Fin 128) :
    View.ld B r0_13 (ix3 0 k d) = B (ix3 0 k ⟨(((3 : Fin 4) : ℕ)) * 128 + d, by omega⟩) := by
  pointwise
theorem ldl (B : Vec Ideal S4x64 .f32) (a : Fin 4) (d : Fin 64) : View.ld B r0_0 (ix2 a d) = B (ix2 a d) := by
  pointwise
theorem ldg (B : Vec Ideal S1x128 .f32) (e : Fin 128) : View.ld B r0_1 (ix2 0 e) = B (ix2 0 e) := by
  pointwise

/-- A block of the result at an index of it. -/
theorem point (c : Dev nD) (t : Fin cfg0.N)
    (f0 : ∀ i, ∃ r : ℝ, m ((c : Thread nD τ).loc main_arg0) i = (r : EReal))
    (f1 : ∀ i, ∃ r : ℝ, m ((c : Thread nD τ).loc main_arg1) i = (r : EReal))
    (f3 : ∀ i, ∃ r : ℝ, m ((c : Thread nD τ).loc main_arg3) i = (r : EReal)) (y : S512x512.Idx) :
    out0_7 (F := Ideal) (iblk m c 0 t) (iblk m c 1 t) (iblk m c 2 t) (iblk m c 3 t) (iblk m c 4 t) (iblk m c 5 t) (iblk m c 6 t) y
      = Cert.Row.ref (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (((cfg0.win 7).blk t).view.emb y) := by
  have ht : t.val < 32 := lt_of_lt_of_eq t.isLt N_0
  canon_tiles x h
  · refine (congrFun (Head.head3 ..) x).trans (head_eq m c t ht f0 f1 f3 3 _ _ _ _ _ _ _ (ldl _) (ldg _) (ldq3 _) (ldc3 _) (ldc3 _) (ldn3 _) (ldn3 _) x _ ?_ ?_)
    · blk_simp [idx_val t]; try omega
    · blk_simp [idx_val t]; try omega
  · refine (congrFun (Head.head2 ..) x).trans (head_eq m c t ht f0 f1 f3 2 _ _ _ _ _ _ _ (ldl _) (ldg _) (ldq2 _) (ldc2 _) (ldc2 _) (ldn2 _) (ldn2 _) x _ ?_ ?_)
    · blk_simp [idx_val t]; try omega
    · blk_simp [idx_val t]; try omega
  · refine (congrFun (Head.head1 ..) x).trans (head_eq m c t ht f0 f1 f3 1 _ _ _ _ _ _ _ (ldl _) (ldg _) (ldq1 _) (ldc1 _) (ldc1 _) (ldn1 _) (ldn1 _) x _ ?_ ?_)
    · blk_simp [idx_val t]; try omega
    · blk_simp [idx_val t]; try omega
  · refine (head_eq m c t ht f0 f1 f3 0 _ _ _ _ _ _ _ (ldl _) (ldg _) (ldq0 _) (ldc0 _) (ldc0 _) (ldn0 _) (ldn0 _) x _ ?_ ?_)
    · blk_simp [idx_val t]; try omega
    · blk_simp [idx_val t]; try omega

/-- THE KERNEL'S RESULT is the reference's term of the arguments. -/
theorem final (c : Dev nD)
    (f0 : ∀ i, ∃ r : ℝ, m ((c : Thread nD τ).loc main_arg0) i = (r : EReal))
    (f1 : ∀ i, ∃ r : ℝ, m ((c : Thread nD τ).loc main_arg1) i = (r : EReal))
    (f3 : ∀ i, ∃ r : ℝ, m ((c : Thread nD τ).loc main_arg3) i = (r : EReal)) :
    (dats m 0 c).arrAt 7 cfg0.N
      = Cert.Row.ref (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t _ y => ?_
  blk_simp
  rw [after0_7]
  exact point m c t f0 f1 f3 y

end Cert.KernelIdeal.Arr

end
-- ==== Proof.LatentSoft.lean ====
module

public import proofs.«01_k».proof.Proof.Soft

@[expose] public section

noncomputable section

/-! One softmax over two key lists against the values, and sums over masked lanes. -/
namespace Cert.Soft

open Idealize.ShloMosaic

/-- What a kernel row computes: the exponentials against the values, divided once by the exponentials' sum. -/
def mix1 {a b : ℕ} (A : Fin a → EReal) (B : Fin b → EReal) (vA : Fin a → EReal) (vB : Fin b → EReal) : EReal :=
  Ideal.div (∑ x, Ideal.exp2 (A x - top2 A B) * vA x + ∑ x, Ideal.exp2 (B x - top2 A B) * vB x) (sum2 A B)

/-- One term: the quotient by the sum, taken inside. -/
theorem term1_eq (x l : ℝ) (v : EReal) :
    ((x : EReal) * v) * ((1 / l : ℝ) : EReal) = v * ((x / l : ℝ) : EReal) := by
  rw [mul_right_comm, ← EReal.coe_mul, mul_comm]
  refine congrArg (fun r : ℝ => v * (r : EReal)) ?_
  ring

/-- THE ATTENTION'S ALGEBRA: the once-divided product is the values weighted by the softmax, for real scores (base two on
    the kernel's side, times `log 2` on the reference's) and any values. -/
theorem mix1_eq {a b n : ℕ} (hn : n = a + b) (ha : 0 < a) (hb : 0 < b) (a1 : Fin a → ℝ) (b1 : Fin b → ℝ)
    (vA : Fin a → EReal) (vB : Fin b → EReal) (S1 V : Fin n → EReal)
    (h1A : ∀ x : Fin a, S1 ⟨x, by omega⟩ = ((Real.log 2 * a1 x : ℝ) : EReal))
    (h1B : ∀ x : Fin b, S1 ⟨a + x, by omega⟩ = ((Real.log 2 * b1 x : ℝ) : EReal))
    (hvA : ∀ x : Fin a, V ⟨x, by omega⟩ = vA x) (hvB : ∀ x : Fin b, V ⟨a + x, by omega⟩ = vB x) :
    mix1 (fun k => (a1 k : EReal)) (fun k => (b1 k : EReal)) vA vB = ∑ k : Fin n, V k * prob S1 k := by
  subst hn
  obtain ⟨M1, hM1⟩ := top2_real ha hb a1 b1
  let s1 : Fin (a + b) → ℝ := Fin.append (fun x => Real.log 2 * a1 x) (fun x => Real.log 2 * b1 x)
  have hS1 : ∀ k, S1 k = (s1 k : EReal) := fun k => by
    refine Fin.addCases (fun x => ?_) (fun x => ?_) k
    · refine (h1A x).trans (congrArg _ ?_); simp only [s1, Fin.append_left]
    · refine (h1B x).trans (congrArg _ ?_); simp only [s1, Fin.append_right]
  have hl1 := sum2_real a1 b1 M1 hM1
  have e1 : ∑ j, Real.exp (s1 j - Real.log 2 * M1)
      = ∑ x, Real.exp (Real.log 2 * a1 x - Real.log 2 * M1) + ∑ x, Real.exp (Real.log 2 * b1 x - Real.log 2 * M1) := by
    rw [Fin.sum_univ_add]; simp only [s1, Fin.append_left, Fin.append_right]
  have p1 : (0 : ℝ) < ∑ j, Real.exp (s1 j - Real.log 2 * M1) :=
    Finset.sum_pos (fun j _ => Real.exp_pos _) ⟨⟨0, by omega⟩, Finset.mem_univ _⟩
  rw [← e1] at hl1
  have hp1 := prob_real (by omega : 0 < a + b) S1 s1 hS1 (Real.log 2 * M1)
  generalize (∑ j, Real.exp (s1 j - Real.log 2 * M1)) = L1 at *
  unfold mix1
  rw [hl1, hM1, Ideal.div_coe p1.ne', add_mul_coe _ _ (by positivity), sum_mul_coe _ _ (by positivity),
    sum_mul_coe _ _ (by positivity), Fin.sum_univ_add]
  simp only [← EReal.coe_sub, exp2_real, mul_sub, hp1]
  refine congrArg₂ (· + ·) (Finset.sum_congr rfl fun x _ => ?_) (Finset.sum_congr rfl fun x _ => ?_)
  · refine (term1_eq _ _ (vA x)).trans ?_
    rw [← hvA]; simp only [s1, Fin.append_left]; rfl
  · refine (term1_eq _ _ (vB x)).trans ?_
    rw [← hvB]; simp only [s1, Fin.append_right]; rfl

/-- A sum over `n` lanes kept on block `c` of width `w`. -/
theorem sum_block {n w : ℕ} (c : ℕ) (hc : (c + 1) * w ≤ n) (hw : 0 < w) (f : Fin n → EReal) :
    (∑ x : Fin n, if (x : ℕ) / w = c then f x else 0) = ∑ x : Fin w, f ⟨c * w + x, by have := x.isLt; rw [Nat.add_mul] at hc; omega⟩ := by
  rw [← Finset.sum_filter]
  symm
  refine Finset.sum_bij (fun x _ => ⟨c * w + x, by have := x.isLt; rw [Nat.add_mul] at hc; omega⟩) (fun x _ => ?_) (fun x _ y _ h => ?_) (fun y hy => ?_) (fun x _ => rfl)
  · rw [Finset.mem_filter]
    refine ⟨Finset.mem_univ _, ?_⟩
    show (c * w + (x : ℕ)) / w = c
    rw [Nat.mul_comm, Nat.mul_add_div hw, Nat.div_eq_of_lt x.isLt, Nat.add_zero]
  · have : c * w + (x : ℕ) = c * w + y := congrArg (fun z : Fin n => (z : ℕ)) h
    exact Fin.ext (by omega)
  · rw [Finset.mem_filter] at hy
    have hd := Nat.div_add_mod (y : ℕ) w
    have hm := Nat.mod_lt (y : ℕ) hw
    rw [hy.2, Nat.mul_comm] at hd
    exact ⟨⟨(y : ℕ) % w, hm⟩, Finset.mem_univ _, Fin.ext hd⟩

/-- A product kept on block `c`: the factor is zero elsewhere. -/
theorem dot_block {n w : ℕ} (c : ℕ) (hc : (c + 1) * w ≤ n) (hw : 0 < w) (q k : Fin n → EReal) :
    (∑ x : Fin n, (if (x : ℕ) / w = c then q x else 0) * k x)
      = ∑ x : Fin w, q ⟨c * w + x, by have := x.isLt; rw [Nat.add_mul] at hc; omega⟩
          * k ⟨c * w + x, by have := x.isLt; rw [Nat.add_mul] at hc; omega⟩ := by
  rw [← sum_block c hc hw (fun x => q x * k x)]
  refine Finset.sum_congr rfl fun x _ => ?_
  split
  · rfl
  · exact zero_mul _

/-- A real dot product. -/
theorem dot_real {n : ℕ} (x y : Fin n → EReal) (rx ry : Fin n → ℝ) (hx : ∀ d, x d = (rx d : EReal)) (hy : ∀ d, y d = (ry d : EReal)) :
    ∑ d, x d * y d = ((∑ d, rx d * ry d : ℝ) : EReal) := by
  simp only [hx, hy, ← EReal.coe_mul, coe_sum]

/-- The same with the first factor times `log 2`. -/
theorem dot_log {n : ℕ} (x y : Fin n → EReal) (rx ry : Fin n → ℝ) (hx : ∀ d, x d = (rx d : EReal)) (hy : ∀ d, y d = (ry d : EReal)) :
    ∑ d, x d * ((Real.log 2 : ℝ) : EReal) * y d = ((Real.log 2 * ∑ d, rx d * ry d : ℝ) : EReal) := by
  simp only [hx, hy, ← EReal.coe_mul, coe_sum]
  refine congrArg _ ?_
  rw [Finset.mul_sum]
  exact Finset.sum_congr rfl fun d _ => by ring

end Cert.Soft

end
-- ==== Proof.LatentHead.lean ====
module

public import proofs.«01_k».proof.Proof.Gen.LatentIdeal.Frame
public import Idealize.ShloMosaic.Lib.Pipeline.ValueKit
public import Idealize.ShloMosaic.Lib.Pointwise
public import proofs.«01_k».proof.Proof.LatentSoft

@[expose] public section

set_option maxRecDepth 16384

noncomputable section

/-! Two heads of the latent tokens' multi-head latent attention: what the body stores for a pair of heads. -/
namespace Cert.LatentIdeal.Head

open Cert.LatentIdeal Cert.LatentIdeal.Gen
open Idealize.ShloMosaic Idealize.ShloMosaic.TcCoe Idealize.SL.Sem

/-- The lanes of block `c` of 32. -/
def rotMask (c : BitVec 32) : IVec S1x128 1 :=
  cmpi .eq (select (andi (cmpi .ne (subi k0_pay12 (extui 32 (cmpi .slt (iota .tc S1x128 32 [1] iota_S1x128_d1_w32) (broadcast S1x128 0#32)) natLt_1_32))
      (broadcast S1x128 (Scalar.subi (Scalar.extui (Scalar.cmpi .sgt 32#32 0#32)) (Scalar.extui (Scalar.cmpi .slt 32#32 0#32)))))
    (cmpi .ne (remsi (iota .tc S1x128 32 [1] iota_S1x128_d1_w32) (broadcast S1x128 32#32)) (broadcast S1x128 0#32)))
    (subi k0_pay11 (broadcast S1x128 1#32)) k0_pay11) (broadcast S1x128 c)

/-- The other 64 lanes. -/
def hiMask : IVec S1x128 1 := xori k0_pay4 (constantI S1x128 1 1#1)

/-- A head's queries: its 64 plain lanes and its 32 rotary lanes of two 128-lane tiles, the other lanes zero. -/
def qTile (mk : IVec S1x128 1) (c : BitVec 32) (qn qr : Vec Ideal S512x128 .bf16) : FVec Ideal S512x256 .bf16 :=
  concatenate S512x256 1 [⟨S512x128, select (broadcastTo S512x128 (shapeCast S1x128 mk shapeCasts_S1x128_S1x128) broadcasts_S1x128_S512x128) qn
      (broadcast S512x128 (Scalar.ofBits (F := Ideal) .bf16 0x0000#16))⟩,
    ⟨S512x128, select (broadcastTo S512x128 (shapeCast S1x128 (rotMask c) shapeCasts_S1x128_S1x128) broadcasts_S1x128_S512x128) qr
      (broadcast S512x128 (Scalar.ofBits (F := Ideal) .bf16 0x0000#16))⟩] concatenates_S512x128_S512x128_S512x256_d1

/-- What the body stores for a pair of heads. -/
def pairTile (c0 c1 : BitVec 32) (qn qr : Vec Ideal S512x128 .bf16) (kc krc vc : Vec Ideal S1x512x128 .bf16)
    (kn krn vn : Vec Ideal S1x2048x128 .bf16) : FVec Ideal S512x128 .bf16 :=
  k0_pay19 k0_pay5 (k0_pay6 krc kc) (k0_pay7 krn kn) (k0_pay8 vc) (k0_pay9 vn) (qTile hiMask c1 qn qr)
    (k0_pay18 (k0_pay6 krc kc) (k0_pay7 krn kn) (k0_pay8 vc) (k0_pay9 vn) (qTile k0_pay4 c0 qn qr))
    (constant S512x512 .f32 0x00000000#32)

theorem loMask_at : ∀ x : Fin 128, k0_pay4 (ix2 (0 : Fin 1) x) = if (x : ℕ) / 64 = 0 then 1#1 else 0#1 := by
  intro x
  pointwise [k0_pay4]
  revert x
  decide +kernel

theorem outMask_at : ∀ x : Fin 128, k0_pay5 (ix2 (0 : Fin 1) x) = if (x : ℕ) / 64 = 0 then 1#1 else 0#1 := loMask_at

theorem hiMask_at : ∀ x : Fin 128, hiMask (ix2 (0 : Fin 1) x) = if (x : ℕ) / 64 = 1 then 1#1 else 0#1 := by
  intro x
  pointwise [hiMask, k0_pay4]
  revert x
  decide +kernel

theorem rotMask_at (c : Fin 4) : ∀ x : Fin 128, rotMask (BitVec.ofNat 32 c) (ix2 (0 : Fin 1) x) = if (x : ℕ) / 32 = c then 1#1 else 0#1 := by
  intro x
  pointwise [rotMask, k0_pay11, k0_pay12]
  revert c x
  decide +kernel

/-- A mask's choice between a value and zero. -/
theorem sel_if {p : Prop} [Decidable p] (v : EReal) :
    (Scalar.select (if p then 1#1 else 0#1) v (0 : EReal) : EReal) = if p then v else 0 := by
  split <;> rfl

theorem qTile_lo (mk : IVec S1x128 1) (c : BitVec 32) (qn qr : Vec Ideal S512x128 .bf16) (i : Fin 512) (x : Fin 128) :
    qTile mk c qn qr (ix2 i ⟨x, by omega⟩) = (Scalar.select (mk (ix2 0 x)) (qn (ix2 i x) : EReal) (0 : EReal) : EReal) := by
  unfold qTile
  generalize rotMask c = r
  pointwise

theorem qTile_hi (mk : IVec S1x128 1) (c : BitVec 32) (qn qr : Vec Ideal S512x128 .bf16) (i : Fin 512) (x : Fin 128) :
    qTile mk c qn qr (ix2 i ⟨128 + x, by omega⟩) = (Scalar.select (rotMask c (ix2 0 x)) (qr (ix2 i x) : EReal) (0 : EReal) : EReal) := by
  unfold qTile
  generalize rotMask c = r
  pointwise

theorem kA_lo (krc kc : Vec Ideal S1x512x128 .bf16) (k : Fin 512) (x : Fin 128) :
    k0_pay6 (F := Ideal) krc kc (ix2 k ⟨x, by omega⟩) = kc (ix3 0 k x) := by
  pointwise [k0_pay6, k0_pay2]
theorem kA_hi (krc kc : Vec Ideal S1x512x128 .bf16) (k : Fin 512) (x : Fin 128) :
    k0_pay6 (F := Ideal) krc kc (ix2 k ⟨128 + x, by omega⟩) = krc (ix3 0 k x) := by
  pointwise [k0_pay6, k0_pay2]
theorem kB_lo (krn kn : Vec Ideal S1x2048x128 .bf16) (k : Fin 2048) (x : Fin 128) :
    k0_pay7 (F := Ideal) krn kn (ix2 k ⟨x, by omega⟩) = kn (ix3 0 k x) := by
  pointwise [k0_pay7, k0_pay3]
theorem kB_hi (krn kn : Vec Ideal S1x2048x128 .bf16) (k : Fin 2048) (x : Fin 128) :
    k0_pay7 (F := Ideal) krn kn (ix2 k ⟨128 + x, by omega⟩) = krn (ix3 0 k x) := by
  pointwise [k0_pay7, k0_pay3]
theorem vA_at (vc : Vec Ideal S1x512x128 .bf16) (k : Fin 512) (x : Fin 128) :
    k0_pay8 (F := Ideal) vc (ix2 k x) = vc (ix3 0 k x) := by
  pointwise [k0_pay8]
theorem vB_at (vn : Vec Ideal S1x2048x128 .bf16) (k : Fin 2048) (x : Fin 128) :
    k0_pay9 (F := Ideal) vn (ix2 k x) = vn (ix3 0 k x) := by
  pointwise [k0_pay9]

/-- A sum over 256 lanes as two over 128. -/
theorem split256 (f : Fin 256 → EReal) : ∑ x : Fin 256, f x = ∑ x : Fin 128, f ⟨x, by omega⟩ + ∑ x : Fin 128, f ⟨128 + x, by omega⟩ :=
  Fin.sum_univ_add (a := 128) (b := 128) f

/-! The stages of one head. -/

def sA (q kA : FVec Ideal S512x256 .bf16) : FVec Ideal S512x512 .f32 :=
  matmul dot_S512x256_S512x256_S512x512_1_1_0_0_n_n none q kA (constant S512x512 .f32 0x00000000#32)
def sB (q : FVec Ideal S512x256 .bf16) (kB : FVec Ideal S2048x256 .bf16) : FVec Ideal S512x2048 .f32 :=
  matmul dot_S512x256_S2048x256_S512x2048_1_1_0_0_n_n none q kB (constant S512x2048 .f32 0x00000000#32)
def topv (A : FVec Ideal S512x512 .f32) (B : FVec Ideal S512x2048 .f32) : FVec Ideal S512x1 .f32 :=
  maximumf (shapeCast S512x1 (multiReduction .maximumf [1] S512 A 0xFF800000#32 reduces_S512x512_S512 (.inl rfl) rfl) shapeCasts_S512_S512x1)
    (shapeCast S512x1 (multiReduction .maximumf [1] S512 B 0xFF800000#32 reduces_S512x2048_S512 (.inl rfl) rfl) shapeCasts_S512_S512x1)
def eA (A : FVec Ideal S512x512 .f32) (t : FVec Ideal S512x1 .f32) : FVec Ideal S512x512 .f32 :=
  exp2 (subf A (broadcastTo S512x512 t broadcasts_S512x1_S512x512))
def eB (B : FVec Ideal S512x2048 .f32) (t : FVec Ideal S512x1 .f32) : FVec Ideal S512x2048 .f32 :=
  exp2 (subf B (broadcastTo S512x2048 t broadcasts_S512x1_S512x2048))
def outv (a : FVec Ideal S512x512 .f32) (b : FVec Ideal S512x2048 .f32) (vA : FVec Ideal S512x128 .bf16)
    (vB : FVec Ideal S2048x128 .bf16) : FVec Ideal S512x128 .f32 :=
  divf (addf (matmul dot_S512x512_S512x128_S512x128_1_0_0_1_n_n none (truncf .bf16 a bitsLt_bf16_f32) vA (constant S512x128 .f32 0x00000000#32))
      (matmul dot_S512x2048_S2048x128_S512x128_1_0_0_1_n_n none (truncf .bf16 b bitsLt_bf16_f32) vB (constant S512x128 .f32 0x00000000#32)))
    (broadcastTo S512x128 (addf (shapeCast S512x1 (multiReduction .add [1] S512 a 0x00000000#32 reduces_S512x512_S512 (.inl rfl) rfl) shapeCasts_S512_S512x1)
      (shapeCast S512x1 (multiReduction .add [1] S512 b 0x00000000#32 reduces_S512x2048_S512 (.inl rfl) rfl) shapeCasts_S512_S512x1)) broadcasts_S512x1_S512x128)

theorem head_stages (kA : FVec Ideal S512x256 .bf16) (kB : FVec Ideal S2048x256 .bf16) (vA : FVec Ideal S512x128 .bf16)
    (vB : FVec Ideal S2048x128 .bf16) (q : FVec Ideal S512x256 .bf16) : k0_pay18 kA kB vA vB q
      = outv (eA (sA q kA) (topv (sA q kA) (sB q kB))) (eB (sB q kB) (topv (sA q kA) (sB q kB))) vA vB := rfl

theorem sA_at (q kA : FVec Ideal S512x256 .bf16) (i k : Fin 512) :
    sA q kA (ix2 i k) = ∑ x : Fin 256, q (ix2 i x) * kA (ix2 k x) := by
  pointwise [sA]
theorem sB_at (q : FVec Ideal S512x256 .bf16) (kB : FVec Ideal S2048x256 .bf16) (i : Fin 512) (k : Fin 2048) :
    sB q kB (ix2 i k) = ∑ x : Fin 256, q (ix2 i x) * kB (ix2 k x) := by
  pointwise [sB]
theorem topv_at (A : FVec Ideal S512x512 .f32) (B : FVec Ideal S512x2048 .f32) (i : Fin 512) :
    topv A B (ix2 i 0) = Cert.Soft.top2 (fun k : Fin 512 => A (ix2 i k)) (fun k : Fin 2048 => B (ix2 i k)) := by
  pointwise [topv]
  rfl
theorem eA_at (A : FVec Ideal S512x512 .f32) (t : FVec Ideal S512x1 .f32) (i k : Fin 512) :
    eA A t (ix2 i k) = Ideal.exp2 (A (ix2 i k) - t (ix2 i 0)) := by
  pointwise [eA]
  try rfl
theorem eB_at (B : FVec Ideal S512x2048 .f32) (t : FVec Ideal S512x1 .f32) (i : Fin 512) (k : Fin 2048) :
    eB B t (ix2 i k) = Ideal.exp2 (B (ix2 i k) - t (ix2 i 0)) := by
  pointwise [eB]
  try rfl
theorem outv_at (a : FVec Ideal S512x512 .f32) (b : FVec Ideal S512x2048 .f32) (vA : FVec Ideal S512x128 .bf16)
    (vB : FVec Ideal S2048x128 .bf16) (i : Fin 512) (e : Fin 128) : outv a b vA vB (ix2 i e)
      = Ideal.div (∑ x : Fin 512, a (ix2 i x) * vA (ix2 x e) + ∑ x : Fin 2048, b (ix2 i x) * vB (ix2 x e))
          (∑ x : Fin 512, a (ix2 i x) + ∑ x : Fin 2048, b (ix2 i x)) := by
  pointwise [outv]

/-- One head at an index: the once-divided product of the exponentials with the values. -/
theorem head_at (kA : FVec Ideal S512x256 .bf16) (kB : FVec Ideal S2048x256 .bf16) (vA : FVec Ideal S512x128 .bf16)
    (vB : FVec Ideal S2048x128 .bf16) (q : FVec Ideal S512x256 .bf16) (i : Fin 512) (e : Fin 128) :
    k0_pay18 kA kB vA vB q (ix2 i e)
      = Cert.Soft.mix1 (fun k : Fin 512 => ∑ x : Fin 256, q (ix2 i x) * kA (ix2 k x))
          (fun k : Fin 2048 => ∑ x : Fin 256, q (ix2 i x) * kB (ix2 k x)) (fun k : Fin 512 => vA (ix2 k e))
          (fun k : Fin 2048 => vB (ix2 k e)) := by
  rw [head_stages, outv_at]
  simp only [eA_at, eB_at, topv_at, sA_at, sB_at]
  rfl

/-- The pair's tile chooses by the lane. -/
theorem pair_sel (c0 c1 : BitVec 32) (qn qr : Vec Ideal S512x128 .bf16) (kc krc vc : Vec Ideal S1x512x128 .bf16)
    (kn krn vn : Vec Ideal S1x2048x128 .bf16) (i : Fin 512) (e : Fin 128) :
    pairTile c0 c1 qn qr kc krc vc kn krn vn (ix2 i e)
      = (Scalar.select (k0_pay5 (ix2 (0 : Fin 1) e))
          (k0_pay18 (k0_pay6 krc kc) (k0_pay7 krn kn) (k0_pay8 vc) (k0_pay9 vn) (qTile k0_pay4 c0 qn qr) (ix2 i e) : EReal)
          (k0_pay18 (k0_pay6 krc kc) (k0_pay7 krn kn) (k0_pay8 vc) (k0_pay9 vn) (qTile hiMask c1 qn qr) (ix2 i e) : EReal) : EReal) := by
  have h : pairTile c0 c1 qn qr kc krc vc kn krn vn = truncf .bf16 (select (broadcastTo S512x128 (shapeCast S1x128 k0_pay5 shapeCasts_S1x128_S1x128) broadcasts_S1x128_S512x128)
      (k0_pay18 (k0_pay6 krc kc) (k0_pay7 krn kn) (k0_pay8 vc) (k0_pay9 vn) (qTile k0_pay4 c0 qn qr))
      (k0_pay18 (k0_pay6 krc kc) (k0_pay7 krn kn) (k0_pay8 vc) (k0_pay9 vn) (qTile hiMask c1 qn qr))) bitsLt_bf16_f32 := rfl
  rw [h]
  generalize k0_pay18 (k0_pay6 krc kc) (k0_pay7 krn kn) (k0_pay8 vc) (k0_pay9 vn) (qTile k0_pay4 c0 qn qr) = a
  generalize k0_pay18 (k0_pay6 krc kc) (k0_pay7 krn kn) (k0_pay8 vc) (k0_pay9 vn) (qTile hiMask c1 qn qr) = b
  generalize (k0_pay5 : IVec S1x128 1) = mk
  pointwise

/-- The scores of a head against the cached keys: 64 plain lanes and 32 rotary ones. -/
theorem scoreA (mk : IVec S1x128 1) (hh : Fin 2) (c : Fin 4) (hm : ∀ x : Fin 128, mk (ix2 (0 : Fin 1) x) = if (x : ℕ) / 64 = hh then 1#1 else 0#1)
    (qn qr : Vec Ideal S512x128 .bf16) (krc kc : Vec Ideal S1x512x128 .bf16) (i k : Fin 512) :
    ∑ x : Fin 256, qTile mk (BitVec.ofNat 32 c) qn qr (ix2 i x) * k0_pay6 (F := Ideal) krc kc (ix2 k x)
      = ∑ x : Fin 64, qn (ix2 i ⟨hh * 64 + x, by omega⟩) * kc (ix3 0 k ⟨hh * 64 + x, by omega⟩)
        + ∑ x : Fin 32, qr (ix2 i ⟨c * 32 + x, by omega⟩) * krc (ix3 0 k ⟨c * 32 + x, by omega⟩) := by
  rw [split256]
  simp only [qTile_lo, qTile_hi, kA_lo, kA_hi, hm, rotMask_at, sel_if]
  exact congrArg₂ (· + ·) (Cert.Soft.dot_block (n := 128) (w := 64) (hh : ℕ) (by omega) (by norm_num) (fun x => qn (ix2 i x)) fun x => kc (ix3 0 k x))
    (Cert.Soft.dot_block (n := 128) (w := 32) (c : ℕ) (by omega) (by norm_num) (fun x => qr (ix2 i x)) fun x => krc (ix3 0 k x))

/-- The same against the latent keys. -/
theorem scoreB (mk : IVec S1x128 1) (hh : Fin 2) (c : Fin 4) (hm : ∀ x : Fin 128, mk (ix2 (0 : Fin 1) x) = if (x : ℕ) / 64 = hh then 1#1 else 0#1)
    (qn qr : Vec Ideal S512x128 .bf16) (krn kn : Vec Ideal S1x2048x128 .bf16) (i : Fin 512) (k : Fin 2048) :
    ∑ x : Fin 256, qTile mk (BitVec.ofNat 32 c) qn qr (ix2 i x) * k0_pay7 (F := Ideal) krn kn (ix2 k x)
      = ∑ x : Fin 64, qn (ix2 i ⟨hh * 64 + x, by omega⟩) * kn (ix3 0 k ⟨hh * 64 + x, by omega⟩)
        + ∑ x : Fin 32, qr (ix2 i ⟨c * 32 + x, by omega⟩) * krn (ix3 0 k ⟨c * 32 + x, by omega⟩) := by
  rw [split256]
  simp only [qTile_lo, qTile_hi, kB_lo, kB_hi, hm, rotMask_at, sel_if]
  exact congrArg₂ (· + ·) (Cert.Soft.dot_block (n := 128) (w := 64) (hh : ℕ) (by omega) (by norm_num) (fun x => qn (ix2 i x)) fun x => kn (ix3 0 k x))
    (Cert.Soft.dot_block (n := 128) (w := 32) (c : ℕ) (by omega) (by norm_num) (fun x => qr (ix2 i x)) fun x => krn (ix3 0 k x))

/-- One head of a pair, at an index, out of the operands. -/
def headVal (hh : Fin 2) (c : Fin 4) (qn qr : Vec Ideal S512x128 .bf16) (kc krc vc : Vec Ideal S1x512x128 .bf16)
    (kn krn vn : Vec Ideal S1x2048x128 .bf16) (i : Fin 512) (e : Fin 128) : EReal :=
  Cert.Soft.mix1
    (fun k : Fin 512 => ∑ x : Fin 64, qn (ix2 i ⟨hh * 64 + x, by omega⟩) * kc (ix3 0 k ⟨hh * 64 + x, by omega⟩)
      + ∑ x : Fin 32, qr (ix2 i ⟨c * 32 + x, by omega⟩) * krc (ix3 0 k ⟨c * 32 + x, by omega⟩))
    (fun k : Fin 2048 => ∑ x : Fin 64, qn (ix2 i ⟨hh * 64 + x, by omega⟩) * kn (ix3 0 k ⟨hh * 64 + x, by omega⟩)
      + ∑ x : Fin 32, qr (ix2 i ⟨c * 32 + x, by omega⟩) * krn (ix3 0 k ⟨c * 32 + x, by omega⟩))
    (fun k : Fin 512 => vc (ix3 0 k e)) (fun k : Fin 2048 => vn (ix3 0 k e))

theorem head_val (mk : IVec S1x128 1) (hh : Fin 2) (c : Fin 4) (hm : ∀ x : Fin 128, mk (ix2 (0 : Fin 1) x) = if (x : ℕ) / 64 = hh then 1#1 else 0#1)
    (qn qr : Vec Ideal S512x128 .bf16) (kc krc vc : Vec Ideal S1x512x128 .bf16)
    (kn krn vn : Vec Ideal S1x2048x128 .bf16) (i : Fin 512) (e : Fin 128) :
    k0_pay18 (k0_pay6 krc kc) (k0_pay7 krn kn) (k0_pay8 vc) (k0_pay9 vn) (qTile mk (BitVec.ofNat 32 c) qn qr) (ix2 i e)
      = headVal hh c qn qr kc krc vc kn krn vn i e := by
  rw [head_at]
  unfold headVal
  simp only [scoreA mk hh c hm, scoreB mk hh c hm, vA_at, vB_at]

/-- A pair's tile at a lane of its first head. -/
theorem pair_lo (c0 c1 : Fin 4) (qn qr : Vec Ideal S512x128 .bf16) (kc krc vc : Vec Ideal S1x512x128 .bf16)
    (kn krn vn : Vec Ideal S1x2048x128 .bf16) (i : Fin 512) (e : Fin 128) (he : (e : ℕ) / 64 = 0) :
    pairTile (BitVec.ofNat 32 c0) (BitVec.ofNat 32 c1) qn qr kc krc vc kn krn vn (ix2 i e)
      = headVal 0 c0 qn qr kc krc vc kn krn vn i e := by
  rw [pair_sel, outMask_at, if_pos he, head_val k0_pay4 0 c0 loMask_at]
  rfl

/-- A pair's tile at a lane of its second head. -/
theorem pair_hi (c0 c1 : Fin 4) (qn qr : Vec Ideal S512x128 .bf16) (kc krc vc : Vec Ideal S1x512x128 .bf16)
    (kn krn vn : Vec Ideal S1x2048x128 .bf16) (i : Fin 512) (e : Fin 128) (he : (e : ℕ) / 64 = 1) :
    pairTile (BitVec.ofNat 32 c0) (BitVec.ofNat 32 c1) qn qr kc krc vc kn krn vn (ix2 i e)
      = headVal 1 c1 qn qr kc krc vc kn krn vn i e := by
  rw [pair_sel, outMask_at, if_neg (by omega), head_val hiMask 1 c1 hiMask_at]
  rfl

end Cert.LatentIdeal.Head

end
-- ==== Proof.LatentPairs.lean ====
module

public import proofs.«01_k».proof.Proof.LatentHead

@[expose] public section

set_option maxRecDepth 16384

noncomputable section

/-! The four pairs of heads do the same: each store's tile is `pairTile`. -/
namespace Cert.LatentIdeal.Head

open Cert.LatentIdeal Cert.LatentIdeal.Gen
open Idealize.ShloMosaic Idealize.ShloMosaic.TcCoe Idealize.SL.Sem

variable (qn qr : Vec Ideal S512x128 .bf16) (kc krc vc : Vec Ideal S1x512x128 .bf16) (kn krn vn : Vec Ideal S1x2048x128 .bf16)

theorem pair3 : k0_pay1 (k0_pay5) (k0_pay52 (k0_pay2 krc) kc) (k0_pay53 (k0_pay3 krn) kn) (k0_pay54 vc) (k0_pay55 vn) (k0_pay63 (iota .tc S1x128 32 [1] iota_S1x128_d1_w32) (k0_pay60 (k0_pay4) qn) qr 32#32 (k0_pay61 (iota .tc S1x128 32 [1] iota_S1x128_d1_w32)) (k0_pay62 (iota .tc S1x128 32 [1] iota_S1x128_d1_w32)) (Scalar.cmpi .sgt 32#32 0#32)) (k0_pay64 (k0_pay52 (k0_pay2 krc) kc) (k0_pay53 (k0_pay3 krn) kn) (k0_pay54 vc) (k0_pay55 vn) (k0_pay59 (iota .tc S1x128 32 [1] iota_S1x128_d1_w32) (k0_pay56 (k0_pay4) qn) qr 32#32 (k0_pay57 (iota .tc S1x128 32 [1] iota_S1x128_d1_w32)) (k0_pay58 (iota .tc S1x128 32 [1] iota_S1x128_d1_w32)))) (constant S512x512 .f32 0x00000000#32)
      = pairTile 2#32 3#32 qn qr kc krc vc kn krn vn := rfl

theorem pair2 : k0_pay51 (k0_pay5) (k0_pay35 vc) (k0_pay36 vn) (k0_pay44 (k0_pay33 (k0_pay2 krc) kc) (k0_pay34 (k0_pay3 krn) kn) (k0_pay35 vc) (k0_pay36 vn) (k0_pay40 (k0_pay37 (k0_pay4) qn) qr (k0_pay38 (iota .tc S1x128 32 [1] iota_S1x128_d1_w32)) (k0_pay39 (iota .tc S1x128 32 [1] iota_S1x128_d1_w32)))) (k0_pay48 (k0_pay33 (k0_pay2 krc) kc) (k0_pay34 (k0_pay3 krn) kn) (k0_pay41 (k0_pay4) qn) qr (k0_pay42 (iota .tc S1x128 32 [1] iota_S1x128_d1_w32))) (k0_pay49 (k0_pay33 (k0_pay2 krc) kc) (k0_pay34 (k0_pay3 krn) kn) (k0_pay41 (k0_pay4) qn) qr (k0_pay42 (iota .tc S1x128 32 [1] iota_S1x128_d1_w32))) (k0_pay50 (k0_pay33 (k0_pay2 krc) kc) (k0_pay34 (k0_pay3 krn) kn) (k0_pay41 (k0_pay4) qn) qr (k0_pay42 (iota .tc S1x128 32 [1] iota_S1x128_d1_w32)))
      = pairTile 0#32 1#32 qn qr kc krc vc kn krn vn := rfl

theorem pair1 : k0_pay32 (k0_pay5) (k0_pay20 (k0_pay2 krc) kc) (k0_pay21 (k0_pay3 krn) kn) (k0_pay22 vc) (k0_pay23 vn) (k0_pay27 (iota .tc S1x128 32 [1] iota_S1x128_d1_w32) qn (k0_pay25 (k0_pay4)) (k0_pay26 (F := Ideal)) qr) (k0_pay29 (k0_pay21 (k0_pay3 krn) kn) (k0_pay24 (iota .tc S1x128 32 [1] iota_S1x128_d1_w32) (k0_pay4) qn qr)) (k0_pay30 (k0_pay20 (k0_pay2 krc) kc) (k0_pay21 (k0_pay3 krn) kn) (k0_pay24 (iota .tc S1x128 32 [1] iota_S1x128_d1_w32) (k0_pay4) qn qr)) (k0_pay31 (k0_pay20 (k0_pay2 krc) kc) (k0_pay21 (k0_pay3 krn) kn) (k0_pay24 (iota .tc S1x128 32 [1] iota_S1x128_d1_w32) (k0_pay4) qn qr))
      = pairTile 2#32 3#32 qn qr kc krc vc kn krn vn := rfl

theorem pair0 : k0_pay19 (k0_pay5) (k0_pay6 krc kc) (k0_pay7 krn kn) (k0_pay8 vc) (k0_pay9 vn) (k0_pay17 (iota .tc S1x128 32 [1] iota_S1x128_d1_w32) (k0_pay14 (k0_pay4) qn) qr 32#32 (k0_pay15 (iota .tc S1x128 32 [1] iota_S1x128_d1_w32)) (k0_pay16 (iota .tc S1x128 32 [1] iota_S1x128_d1_w32)) (Scalar.cmpi .sgt 32#32 0#32)) (k0_pay18 (k0_pay6 krc kc) (k0_pay7 krn kn) (k0_pay8 vc) (k0_pay9 vn) (k0_pay13 (iota .tc S1x128 32 [1] iota_S1x128_d1_w32) (k0_pay10 qn) qr 32#32 k0_pay11 k0_pay12)) (constant S512x512 .f32 0x00000000#32)
      = pairTile 0#32 1#32 qn qr kc krc vc kn krn vn := rfl

end Cert.LatentIdeal.Head

end
-- ==== Proof.LatentRef.lean ====
module

public import proofs.«01_k».proof.Proof.Gen.LatentReferenceIdeal.Run
public import Idealize.ShloMosaic.Lib.Pipeline.ValueKit
public import Idealize.ShloMosaic.Lib.Pointwise
public import proofs.«01_k».proof.Proof.LatentSoft

@[expose] public section

set_option maxRecDepth 16384

noncomputable section

/-! The reference of the latent tokens' multi-head latent attention, stage by stage. -/
namespace Cert.LatentReferenceIdeal.Stages

open Cert.LatentReferenceIdeal Cert.LatentReferenceIdeal.Gen
open Idealize.ShloMosaic Idealize.ShloMosaic.TcCoe Idealize.SL.Sem

/-- The queries of a head: 64 plain lanes, then 32 rotary ones. -/
def queries (a0 : FVec Ideal S16384x512 .bf16) (a1 : FVec Ideal S16384x256 .bf16) : FVec Ideal S8x2048x8x96 .f32 :=
  concatenate S8x2048x8x96 3 [⟨S8x2048x8x64, shapeCast S8x2048x8x64 (extf .f32 a0 bitsLt_bf16_f32) shapeCasts_S16384x512_S8x2048x8x64⟩, ⟨S8x2048x8x32, shapeCast S8x2048x8x32 (extf .f32 a1 bitsLt_bf16_f32) shapeCasts_S16384x256_S8x2048x8x32⟩] concatenates_S8x2048x8x64_S8x2048x8x32_S8x2048x8x96_d3

/-- Cached and latent rotary keys along one key axis. -/
def rot (a3 : FVec Ideal S8x512x128 .bf16) (a6 : FVec Ideal S16384x128 .bf16) : FVec Ideal S8x2560x4x32 .f32 :=
  concatenate S8x2560x4x32 1 [⟨S8x512x4x32, shapeCast S8x512x4x32 (extf .f32 a3 bitsLt_bf16_f32) shapeCasts_S8x512x128_S8x512x4x32⟩, ⟨S8x2048x4x32, shapeCast S8x2048x4x32 (extf .f32 a6 bitsLt_bf16_f32) shapeCasts_S16384x128_S8x2048x4x32⟩] concatenates_S8x512x4x32_S8x2048x4x32_S8x2560x4x32_d1

/-- Cached and latent rows of eight heads of 64 along one key axis. -/
def both (a2 : FVec Ideal S8x512x512 .bf16) (a5 : FVec Ideal S16384x512 .bf16) : FVec Ideal S8x2560x8x64 .f32 :=
  concatenate S8x2560x8x64 1 [⟨S8x512x8x64, shapeCast S8x512x8x64 (extf .f32 a2 bitsLt_bf16_f32) shapeCasts_S8x512x512_S8x512x8x64⟩, ⟨S8x2048x8x64, shapeCast S8x2048x8x64 (extf .f32 a5 bitsLt_bf16_f32) shapeCasts_S16384x512_S8x2048x8x64⟩] concatenates_S8x512x8x64_S8x2048x8x64_S8x2560x8x64_d1

/-- The keys of a head: 64 plain lanes, then its 32 rotary ones. -/
def keys (n : FVec Ideal S8x2560x8x64 .f32) (r : FVec Ideal S8x2560x4x32 .f32) : FVec Ideal S8x2560x8x96 .f32 :=
  concatenate S8x2560x8x96 3 [⟨S8x2560x8x64, n⟩, ⟨S8x2560x8x32, concatenate S8x2560x8x32 2 [⟨S8x2560x4x32, r⟩, ⟨S8x2560x4x32, r⟩] concatenates_S8x2560x4x32_S8x2560x4x32_S8x2560x8x32_d2⟩] concatenates_S8x2560x8x64_S8x2560x8x32_S8x2560x8x96_d3

/-- The scores: 96-lane dot products, in natural-log units. -/
def scores (q : FVec Ideal S8x2048x8x96 .f32) (k : FVec Ideal S8x2560x8x96 .f32) : FVec Ideal S8x8x2048x2560 .f32 :=
  Host.dotGeneral dot_S8x2048x8x96_S8x2560x8x96_S8x8x2048x2560_3_3_1_1_02_02 none (mulf q (broadcastInDim S8x2048x8x96 ![] bcast_S_S8x2048x8x96 (id (Host.log (constant S_ .f32 0x40000000#32))))) k

/-- The largest score of each row, as the reduction leaves it. -/
def topRaw (s : FVec Ideal S8x8x2048x2560 .f32) : FVec Ideal S8x8x2048 .f32 :=
  Host.reduce FloatOps.maximumf s (constant S_ .f32 0xFF800000#32) reducesTo_S8x8x2048x2560_S8x8x2048_d3 h_S_

/-- The largest score of each row. -/
def top (t : FVec Ideal S8x8x2048 .f32) : FVec Ideal S8x8x2048 .f32 :=
  maximumf (broadcastInDim S8x8x2048 ![] bcast_S_S8x8x2048 (constant S_ .f32 0xFF800000#32)) t

/-- The exponential of each score less the largest one of its row. -/
def expo (s : FVec Ideal S8x8x2048x2560 .f32) (t : FVec Ideal S8x8x2048 .f32) : FVec Ideal S8x8x2048x2560 .f32 :=
  Host.exp (subf s (broadcastInDim S8x8x2048x2560 ![0, 1, 2, 3] bcast_S8x8x2048x1_S8x8x2048x2560_0_1_2_3 (broadcastInDim S8x8x2048x1 ![0, 1, 2] bcast_S8x8x2048_S8x8x2048x1_0_1_2 t)))

/-- Softmax: each exponential over the sum of its row. -/
def probs (e : FVec Ideal S8x8x2048x2560 .f32) : FVec Ideal S8x8x2048x2560 .f32 :=
  Host.divf e (broadcastInDim S8x8x2048x2560 ![0, 1, 2, 3] bcast_S8x8x2048x1_S8x8x2048x2560_0_1_2_3 (broadcastInDim S8x8x2048x1 ![0, 1, 2] bcast_S8x8x2048_S8x8x2048x1_0_1_2 (Host.reduceAdd e (constant S_ .f32 0x00000000#32) reducesTo_S8x8x2048x2560_S8x8x2048_d3 h_S_)))

/-- The values weighted by the softmax, the heads side by side. -/
def out (v : FVec Ideal S8x2560x8x64 .f32) (p : FVec Ideal S8x8x2048x2560 .f32) : FVec Ideal S16384x512 .bf16 :=
  truncf .bf16 (shapeCast S16384x512 (transpose S8x2048x8x64 [0, 3, 1, 2] (Host.dotGeneral dot_S8x2560x8x64_S8x8x2048x2560_S8x8x64x2048_1_3_3_2_02_01 none v p) transposes_S8x8x64x2048_S8x2048x8x64_0_3_1_2) shapeCasts_S8x2048x8x64_S16384x512) bitsLt_bf16_f32

theorem queries_lo (a0 : FVec Ideal S16384x512 .bf16) (a1 : FVec Ideal S16384x256 .bf16) (b : Fin 8) (n : Fin 2048) (h : Fin 8) (x : Fin 64) :
    queries a0 a1 (ix4 b n h ⟨x, by omega⟩) = a0 (ix2 ⟨b * 2048 + n, by omega⟩ ⟨h * 64 + x, by omega⟩) := by
  pointwise [queries]
theorem queries_hi (a0 : FVec Ideal S16384x512 .bf16) (a1 : FVec Ideal S16384x256 .bf16) (b : Fin 8) (n : Fin 2048) (h : Fin 8) (x : Fin 32) :
    queries a0 a1 (ix4 b n h ⟨64 + x, by omega⟩) = a1 (ix2 ⟨b * 2048 + n, by omega⟩ ⟨h * 32 + x, by omega⟩) := by
  pointwise [queries]

theorem rot_lo (a3 : FVec Ideal S8x512x128 .bf16) (a6 : FVec Ideal S16384x128 .bf16) (b : Fin 8) (k : Fin 512) (h : Fin 4) (x : Fin 32) :
    rot a3 a6 (ix4 b ⟨k, by omega⟩ h x) = a3 (ix3 b k ⟨h * 32 + x, by omega⟩) := by
  pointwise [rot]
theorem rot_hi (a3 : FVec Ideal S8x512x128 .bf16) (a6 : FVec Ideal S16384x128 .bf16) (b : Fin 8) (k : Fin 2048) (h : Fin 4) (x : Fin 32) :
    rot a3 a6 (ix4 b ⟨512 + k, by omega⟩ h x) = a6 (ix2 ⟨b * 2048 + k, by omega⟩ ⟨h * 32 + x, by omega⟩) := by
  pointwise [rot]

theorem both_lo (a2 : FVec Ideal S8x512x512 .bf16) (a5 : FVec Ideal S16384x512 .bf16) (b : Fin 8) (k : Fin 512) (h : Fin 8) (x : Fin 64) :
    both a2 a5 (ix4 b ⟨k, by omega⟩ h x) = a2 (ix3 b k ⟨h * 64 + x, by omega⟩) := by
  pointwise [both]
theorem both_hi (a2 : FVec Ideal S8x512x512 .bf16) (a5 : FVec Ideal S16384x512 .bf16) (b : Fin 8) (k : Fin 2048) (h : Fin 8) (x : Fin 64) :
    both a2 a5 (ix4 b ⟨512 + k, by omega⟩ h x) = a5 (ix2 ⟨b * 2048 + k, by omega⟩ ⟨h * 64 + x, by omega⟩) := by
  pointwise [both]

theorem keys_lo (n : FVec Ideal S8x2560x8x64 .f32) (r : FVec Ideal S8x2560x4x32 .f32) (b : Fin 8) (k : Fin 2560) (h : Fin 8) (x : Fin 64) :
    keys n r (ix4 b k h ⟨x, by omega⟩) = n (ix4 b k h x) := by
  pointwise [keys]
theorem keys_hi (n : FVec Ideal S8x2560x8x64 .f32) (r : FVec Ideal S8x2560x4x32 .f32) (b : Fin 8) (k : Fin 2560) (h : Fin 8) (x : Fin 32) :
    keys n r (ix4 b k h ⟨64 + x, by omega⟩) = r (ix4 b k ⟨h % 4, by omega⟩ x) := by
  have e : keys n r (ix4 b k h ⟨64 + x, by omega⟩)
      = if _h : (h : ℕ) < 4 then r (ix4 b k ⟨h, by omega⟩ x) else r (ix4 b k ⟨h - 4, by omega⟩ x) := by
    pointwise [keys]
  rw [e]
  split
  · exact congrArg (fun z : Fin 4 => r (ix4 b k z x)) (Fin.ext (by show (h : ℕ) = h % 4; omega))
  · exact congrArg (fun z : Fin 4 => r (ix4 b k z x)) (Fin.ext (by show (h : ℕ) - 4 = h % 4; omega))

/-- The logarithm of two, as the reference computes it. -/
theorem log_two : Host.log (constant (F := Ideal) S_ .f32 0x40000000#32) ix0 = ((Real.log 2 : ℝ) : EReal) := by
  show Ideal.log (Ideal.ofBits .f32 0x40000000#32) = _
  rw [Cert.Soft.two_eq, Ideal.log_coe, if_neg (by norm_num)]

theorem scores_at (q : FVec Ideal S8x2048x8x96 .f32) (k : FVec Ideal S8x2560x8x96 .f32) (b h : Fin 8) (n : Fin 2048) (j : Fin 2560) :
    scores q k (ix4 b h n j) = ∑ x : Fin 96, q (ix4 b n h x) * ((Real.log 2 : ℝ) : EReal) * k (ix4 b j h x) := by
  rw [← log_two]
  unfold scores
  generalize Host.log (constant (F := Ideal) S_ .f32 0x40000000#32) = l
  pointwise
  rfl

/-- A sum over 96 lanes as the plain lanes' and the rotary lanes'. -/
theorem split96 (f : Fin 96 → EReal) : ∑ x : Fin 96, f x = ∑ x : Fin 64, f ⟨x, by omega⟩ + ∑ x : Fin 32, f ⟨64 + x, by omega⟩ :=
  Fin.sum_univ_add (a := 64) (b := 32) f

theorem topRaw_gen (s : FVec Ideal S8x8x2048x2560 .f32) (z : FVec Ideal S_ .f32) (b h : Fin 8) (n : Fin 2048) :
    Host.reduce FloatOps.maximumf s z reducesTo_S8x8x2048x2560_S8x8x2048_d3 h_S_ (ix3 b h n)
    = Finset.univ.fold max (z (Shape.Idx.first h_S_)) fun k : Fin 2560 => s (ix4 b h n k) := by
  pointwise

theorem topRaw_at (s : FVec Ideal S8x8x2048x2560 .f32) (b h : Fin 8) (n : Fin 2048) : topRaw s (ix3 b h n)
    = Finset.univ.fold max (Ideal.ofBits .f32 0xFF800000#32) fun k : Fin 2560 => s (ix4 b h n k) :=
  topRaw_gen s _ b h n

theorem top_at (t : FVec Ideal S8x8x2048 .f32) (b h : Fin 8) (n : Fin 2048) :
    top t (ix3 b h n) = max (Ideal.ofBits .f32 0xFF800000#32) (t (ix3 b h n)) := by
  pointwise [top]

theorem expo_at (s : FVec Ideal S8x8x2048x2560 .f32) (t : FVec Ideal S8x8x2048 .f32) (b h : Fin 8) (n : Fin 2048) (k : Fin 2560) :
    expo s t (ix4 b h n k) = Ideal.exp (s (ix4 b h n k) - t (ix3 b h n)) := by
  pointwise [expo]

theorem probs_at (e : FVec Ideal S8x8x2048x2560 .f32) (b h : Fin 8) (n : Fin 2048) (k : Fin 2560) :
    probs e (ix4 b h n k) = Ideal.div (e (ix4 b h n k)) (∑ j : Fin 2560, e (ix4 b h n j)) := by
  pointwise [probs]

theorem out_at (v : FVec Ideal S8x2560x8x64 .f32) (p : FVec Ideal S8x8x2048x2560 .f32) (b h : Fin 8) (n : Fin 2048) (e : Fin 64) :
    out v p (ix2 ⟨b * 2048 + n, by omega⟩ ⟨h * 64 + e, by omega⟩) = ∑ k : Fin 2560, v (ix4 b k h e) * p (ix4 b h n k) := by
  have hr : (⟨(b * 2048 + n : ℕ) / 2048, by omega⟩ : Fin 8) = b := Fin.ext (by show (b * 2048 + n : ℕ) / 2048 = b; omega)
  have hn : (⟨(b * 2048 + n : ℕ) % 2048, by omega⟩ : Fin 2048) = n := Fin.ext (by show (b * 2048 + n : ℕ) % 2048 = n; omega)
  have hh : (⟨(h * 64 + e : ℕ) / 64, by omega⟩ : Fin 8) = h := Fin.ext (by show (h * 64 + e : ℕ) / 64 = h; omega)
  have he : (⟨(h * 64 + e : ℕ) % 64, by omega⟩ : Fin 64) = e := Fin.ext (by show (h * 64 + e : ℕ) % 64 = e; omega)
  pointwise [out]

/-- The reference's result over its arguments. -/
def ref (a0 : FVec Ideal S16384x512 .bf16) (a1 : FVec Ideal S16384x256 .bf16) (a2 : FVec Ideal S8x512x512 .bf16) (a3 : FVec Ideal S8x512x128 .bf16)
    (a4 : FVec Ideal S8x512x512 .bf16) (a5 : FVec Ideal S16384x512 .bf16) (a6 : FVec Ideal S16384x128 .bf16) (a7 : FVec Ideal S16384x512 .bf16) :
    FVec Ideal S16384x512 .bf16 :=
  out (both a4 a7) (probs (expo (scores (queries a0 a1) (keys (both a2 a5) (rot a3 a6)))
    (top (topRaw (scores (queries a0 a1) (keys (both a2 a5) (rot a3 a6)))))))

/-- The reference at an entry: the values weighted by the softmax of the row's scores. -/
theorem ref_at (a0 : FVec Ideal S16384x512 .bf16) (a1 : FVec Ideal S16384x256 .bf16) (a2 : FVec Ideal S8x512x512 .bf16) (a3 : FVec Ideal S8x512x128 .bf16)
    (a4 : FVec Ideal S8x512x512 .bf16) (a5 : FVec Ideal S16384x512 .bf16) (a6 : FVec Ideal S16384x128 .bf16) (a7 : FVec Ideal S16384x512 .bf16)
    (b h : Fin 8) (n : Fin 2048) (e : Fin 64) :
    ref a0 a1 a2 a3 a4 a5 a6 a7 (ix2 ⟨b * 2048 + n, by omega⟩ ⟨h * 64 + e, by omega⟩)
      = ∑ k : Fin 2560, both a4 a7 (ix4 b k h e)
          * Cert.Soft.prob (fun k : Fin 2560 => scores (queries a0 a1) (keys (both a2 a5) (rot a3 a6)) (ix4 b h n k)) k := by
  unfold ref Cert.Soft.prob
  rw [out_at]
  simp only [probs_at, expo_at, top_at, topRaw_at]

/-- The stages composed are the reference's result. -/
theorem result_eq (m : (ℓ : Loc nD τ sig) → Buf (Elt Ideal) ℓ) (c : Dev nD) : Cert.LatentReferenceIdeal.Value.res_out0 m c
    = ref (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  unfold Cert.LatentReferenceIdeal.Value.res_out0
  rfl

end Cert.LatentReferenceIdeal.Stages

end
-- ==== Proof.LatentRow.lean ====
module

public import proofs.«01_k».proof.Proof.LatentPairs
public import proofs.«01_k».proof.Proof.LatentRef

@[expose] public section

set_option maxRecDepth 16384

noncomputable section

/-! One row of one head: what the kernel's block holds is the reference's row. -/
namespace Cert.LatentRow

open Cert.LatentReferenceIdeal
open Idealize.ShloMosaic Idealize.ShloMosaic.TcCoe Idealize.SL.Sem

/-- Two real dot products, added. -/
theorem dot2_real (x y : Fin 64 → EReal) (u v : Fin 32 → EReal) (rx ry : Fin 64 → ℝ) (ru rv : Fin 32 → ℝ)
    (hx : ∀ d, x d = (rx d : EReal)) (hy : ∀ d, y d = (ry d : EReal)) (hu : ∀ d, u d = (ru d : EReal)) (hv : ∀ d, v d = (rv d : EReal)) :
    ∑ d, x d * y d + ∑ d, u d * v d = ((∑ d, rx d * ry d + ∑ d, ru d * rv d : ℝ) : EReal) := by
  rw [Cert.Soft.dot_real x y rx ry hx hy, Cert.Soft.dot_real u v ru rv hu hv, EReal.coe_add]

/-- The same with the first factors times `log 2`. -/
theorem dot2_log (x y : Fin 64 → EReal) (u v : Fin 32 → EReal) (rx ry : Fin 64 → ℝ) (ru rv : Fin 32 → ℝ)
    (hx : ∀ d, x d = (rx d : EReal)) (hy : ∀ d, y d = (ry d : EReal)) (hu : ∀ d, u d = (ru d : EReal)) (hv : ∀ d, v d = (rv d : EReal)) :
    ∑ d, x d * ((Real.log 2 : ℝ) : EReal) * y d + ∑ d, u d * ((Real.log 2 : ℝ) : EReal) * v d
      = ((Real.log 2 * (∑ d, rx d * ry d + ∑ d, ru d * rv d) : ℝ) : EReal) := by
  rw [Cert.Soft.dot_log x y rx ry hx hy, Cert.Soft.dot_log u v ru rv hu hv, mul_add, EReal.coe_add]

/-- THE ROW: a head whose operands are the arguments' rows and lanes is the reference there. -/
theorem row_eq (a0 : FVec Ideal S16384x512 .bf16) (a1 : FVec Ideal S16384x256 .bf16) (a2 : FVec Ideal S8x512x512 .bf16) (a3 : FVec Ideal S8x512x128 .bf16)
    (a4 : FVec Ideal S8x512x512 .bf16) (a5 : FVec Ideal S16384x512 .bf16) (a6 : FVec Ideal S16384x128 .bf16) (a7 : FVec Ideal S16384x512 .bf16)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h5 : ∀ i, ∃ r : ℝ, a5 i = (r : EReal)) (h6 : ∀ i, ∃ r : ℝ, a6 i = (r : EReal))
    (b h : Fin 8) (n : Fin 2048) (e : Fin 64) (hh : Fin 2) (c : Fin 4) (hc : (c : ℕ) = h % 4) (i : Fin 512)
    (qn qr : Vec Ideal Cert.LatentIdeal.S512x128 .bf16) (kc krc vc : Vec Ideal Cert.LatentIdeal.S1x512x128 .bf16)
    (kn krn vn : Vec Ideal Cert.LatentIdeal.S1x2048x128 .bf16)
    (hqn : ∀ x : Fin 64, qn (ix2 i ⟨hh * 64 + x, by omega⟩) = a0 (ix2 ⟨b * 2048 + n, by omega⟩ ⟨h * 64 + x, by omega⟩))
    (hqr : ∀ x : Fin 32, qr (ix2 i ⟨c * 32 + x, by omega⟩) = a1 (ix2 ⟨b * 2048 + n, by omega⟩ ⟨h * 32 + x, by omega⟩))
    (hkc : ∀ (k : Fin 512) (x : Fin 64), kc (ix3 0 k ⟨hh * 64 + x, by omega⟩) = a2 (ix3 b k ⟨h * 64 + x, by omega⟩))
    (hkrc : ∀ (k : Fin 512) (x : Fin 128), krc (ix3 0 k x) = a3 (ix3 b k x))
    (hvc : ∀ (k : Fin 512) (x : Fin 64), vc (ix3 0 k ⟨hh * 64 + x, by omega⟩) = a4 (ix3 b k ⟨h * 64 + x, by omega⟩))
    (hkn : ∀ (k : Fin 2048) (x : Fin 64), kn (ix3 0 k ⟨hh * 64 + x, by omega⟩) = a5 (ix2 ⟨b * 2048 + k, by omega⟩ ⟨h * 64 + x, by omega⟩))
    (hkrn : ∀ (k : Fin 2048) (x : Fin 128), krn (ix3 0 k x) = a6 (ix2 ⟨b * 2048 + k, by omega⟩ x))
    (hvn : ∀ (k : Fin 2048) (x : Fin 64), vn (ix3 0 k ⟨hh * 64 + x, by omega⟩) = a7 (ix2 ⟨b * 2048 + k, by omega⟩ ⟨h * 64 + x, by omega⟩)) :
    Cert.LatentIdeal.Head.headVal hh c qn qr kc krc vc kn krn vn i ⟨hh * 64 + e, by omega⟩
      = Stages.ref a0 a1 a2 a3 a4 a5 a6 a7 (ix2 ⟨b * 2048 + n, by omega⟩ ⟨h * 64 + e, by omega⟩) := by
  choose r0 hr0 using h0
  choose r1 hr1 using h1
  choose r2 hr2 using h2
  choose r3 hr3 using h3
  choose r5 hr5 using h5
  choose r6 hr6 using h6
  have hc' : (⟨(h : ℕ) % 4, by omega⟩ : Fin 4) = c := Fin.ext hc.symm
  rw [Stages.ref_at]
  unfold Cert.LatentIdeal.Head.headVal
  simp only [hqn, hqr, hkc, hkrc, hvc, hkn, hkrn, hvn]
  have eA : (fun k : Fin 512 => ∑ x : Fin 64, a0 (ix2 ⟨b * 2048 + n, by omega⟩ ⟨h * 64 + x, by omega⟩) * a2 (ix3 b k ⟨h * 64 + x, by omega⟩)
      + ∑ x : Fin 32, a1 (ix2 ⟨b * 2048 + n, by omega⟩ ⟨h * 32 + x, by omega⟩) * a3 (ix3 b k ⟨c * 32 + x, by omega⟩)) = _ :=
    funext fun k => dot2_real _ _ _ _ _ _ _ _ (fun d => hr0 _) (fun d => hr2 _) (fun d => hr1 _) (fun d => hr3 _)
  have eB : (fun k : Fin 2048 => ∑ x : Fin 64, a0 (ix2 ⟨b * 2048 + n, by omega⟩ ⟨h * 64 + x, by omega⟩) * a5 (ix2 ⟨b * 2048 + k, by omega⟩ ⟨h * 64 + x, by omega⟩)
      + ∑ x : Fin 32, a1 (ix2 ⟨b * 2048 + n, by omega⟩ ⟨h * 32 + x, by omega⟩) * a6 (ix2 ⟨b * 2048 + k, by omega⟩ ⟨c * 32 + x, by omega⟩)) = _ :=
    funext fun k => dot2_real _ _ _ _ _ _ _ _ (fun d => hr0 _) (fun d => hr5 _) (fun d => hr1 _) (fun d => hr6 _)
  rw [eA, eB]
  refine Cert.Soft.mix1_eq (n := 2560) rfl (by norm_num) (by norm_num) _ _ _ _ _ _ ?_ ?_ ?_ ?_
  · intro k
    rw [Stages.scores_at, Stages.split96]
    simp only [Stages.queries_lo, Stages.queries_hi, Stages.keys_lo, Stages.keys_hi, Stages.both_lo, Stages.rot_lo, hc']
    exact dot2_log _ _ _ _ _ _ _ _ (fun d => hr0 _) (fun d => hr2 _) (fun d => hr1 _) (fun d => hr3 _)
  · intro k
    rw [Stages.scores_at, Stages.split96]
    simp only [Stages.queries_lo, Stages.queries_hi, Stages.keys_lo, Stages.keys_hi, Stages.both_hi, Stages.rot_hi, hc']
    exact dot2_log _ _ _ _ _ _ _ _ (fun d => hr0 _) (fun d => hr5 _) (fun d => hr1 _) (fun d => hr6 _)
  · intro k
    exact Stages.both_lo ..
  · intro k
    exact Stages.both_hi ..

end Cert.LatentRow

end
-- ==== Proof.LatentValue.lean ====
module

public import proofs.«01_k».proof.Proof.Gen.LatentIdeal.Value
public import proofs.«01_k».proof.Proof.LatentRow
public import Idealize.ShloMosaic.Lib.Claim

@[expose] public section

set_option maxRecDepth 16384

noncomputable section

/-! The kernel's result array: every block's every head is the reference's row. -/
namespace Cert.LatentIdeal.Arr

open Cert.LatentIdeal Cert.LatentIdeal.Gen
open Idealize.ShloMosaic Idealize.ShloMosaic.TcCoe Idealize.SL.Sem

variable (m : (ℓ : Loc nD τ sig) → Buf (Elt Ideal) ℓ)

/-- The blocks a grid point stages. -/
theorem idx_val : ∀ t : Fin cfg0.N, win0_0.index t = ![t.val, 0] ∧ win0_1.index t = ![t.val, 0]
    ∧ win0_2.index t = ![t.val / 4, 0, 0] ∧ win0_3.index t = ![t.val / 4, 0, 0] ∧ win0_4.index t = ![t.val / 4, 0, 0]
    ∧ win0_5.index t = ![t.val / 4, 0, 0] ∧ win0_6.index t = ![t.val / 4, 0, 0] ∧ win0_7.index t = ![t.val / 4, 0, 0]
    ∧ win0_8.index t = ![t.val, 0] :=
  (by decide +kernel : ∀ t : Fin grid0.N, _)

/-- The latent keys and values as the kernel receives them: reshaped arguments. -/
theorem V_v0 (c : Dev nD) : V m c main_v0 = shapeCast S8x2048x512 (m ((c : Thread nD τ).loc main_arg5)) shapeCasts_S16384x512_S8x2048x512 := by
  unfold V; after_results; try rfl
theorem V_v1 (c : Dev nD) : V m c main_v1 = shapeCast S8x2048x128 (m ((c : Thread nD τ).loc main_arg6)) shapeCasts_S16384x128_S8x2048x128 := by
  unfold V; after_results; try rfl
theorem V_v2 (c : Dev nD) : V m c main_v2 = shapeCast S8x2048x512 (m ((c : Thread nD τ).loc main_arg7)) shapeCasts_S16384x512_S8x2048x512 := by
  unfold V; after_results; try rfl

/-- The latent arrays' reshapes at an index. -/
theorem split_rows (X : FVec Ideal S16384x512 .bf16) (b : Fin 8) (k : Fin 2048) (l : Fin 512) :
    shapeCast S8x2048x512 X shapeCasts_S16384x512_S8x2048x512 (ix3 b k l) = X (ix2 ⟨b * 2048 + k, by omega⟩ l) := by
  pointwise
theorem split_rot (X : FVec Ideal S16384x128 .bf16) (b : Fin 8) (k : Fin 2048) (l : Fin 128) :
    shapeCast S8x2048x128 X shapeCasts_S16384x128_S8x2048x128 (ix3 b k l) = X (ix2 ⟨b * 2048 + k, by omega⟩ l) := by
  pointwise

theorem qn_at (c : Dev nD) (t : Fin cfg0.N) (i l : Fin 512) (ht : t.val < 32) :
    iblk m c 0 t (ix2 i l) = m ((c : Thread nD τ).loc main_arg0) (ix2 ⟨t.val * 512 + i, by omega⟩ l) := by
  blk_ext [iblk, V, idx_val t]
theorem qr_at (c : Dev nD) (t : Fin cfg0.N) (i : Fin 512) (l : Fin 256) (ht : t.val < 32) :
    iblk m c 1 t (ix2 i l) = m ((c : Thread nD τ).loc main_arg1) (ix2 ⟨t.val * 512 + i, by omega⟩ l) := by
  blk_ext [iblk, V, idx_val t]
theorem kc_at (c : Dev nD) (t : Fin cfg0.N) (k l : Fin 512) (ht : t.val < 32) :
    iblk m c 2 t (ix3 0 k l) = m ((c : Thread nD τ).loc main_arg2) (ix3 ⟨t.val / 4, by omega⟩ k l) := by
  blk_ext [iblk, V, idx_val t]
theorem krc_at (c : Dev nD) (t : Fin cfg0.N) (k : Fin 512) (l : Fin 128) (ht : t.val < 32) :
    iblk m c 3 t (ix3 0 k l) = m ((c : Thread nD τ).loc main_arg3) (ix3 ⟨t.val / 4, by omega⟩ k l) := by
  blk_ext [iblk, V, idx_val t]
theorem vc_at (c : Dev nD) (t : Fin cfg0.N) (k l : Fin 512) (ht : t.val < 32) :
    iblk m c 4 t (ix3 0 k l) = m ((c : Thread nD τ).loc main_arg4) (ix3 ⟨t.val / 4, by omega⟩ k l) := by
  blk_ext [iblk, V, idx_val t]
theorem kn_at (c : Dev nD) (t : Fin cfg0.N) (k : Fin 2048) (l : Fin 512) (ht : t.val < 32) :
    iblk m c 5 t (ix3 0 k l) = m ((c : Thread nD τ).loc main_arg5) (ix2 ⟨t.val / 4 * 2048 + k, by omega⟩ l) := by
  refine Eq.trans (b := V m c main_v0 (ix3 ⟨t.val / 4, by omega⟩ k l)) ?_ ?_
  · blk_ext [iblk, idx_val t]
  · rw [V_v0]; exact split_rows _ _ _ _
theorem krn_at (c : Dev nD) (t : Fin cfg0.N) (k : Fin 2048) (l : Fin 128) (ht : t.val < 32) :
    iblk m c 6 t (ix3 0 k l) = m ((c : Thread nD τ).loc main_arg6) (ix2 ⟨t.val / 4 * 2048 + k, by omega⟩ l) := by
  refine Eq.trans (b := V m c main_v1 (ix3 ⟨t.val / 4, by omega⟩ k l)) ?_ ?_
  · blk_ext [iblk, idx_val t]
  · rw [V_v1]; exact split_rot _ _ _ _
theorem vn_at (c : Dev nD) (t : Fin cfg0.N) (k : Fin 2048) (l : Fin 512) (ht : t.val < 32) :
    iblk m c 7 t (ix3 0 k l) = m ((c : Thread nD τ).loc main_arg7) (ix2 ⟨t.val / 4 * 2048 + k, by omega⟩ l) := by
  refine Eq.trans (b := V m c main_v2 (ix3 ⟨t.val / 4, by omega⟩ k l)) ?_ ?_
  · blk_ext [iblk, idx_val t]
  · rw [V_v2]; exact split_rows _ _ _ _

/-- An array at two indices of the same coordinates. -/
theorem at2 {n k : ℕ} (X : Shape.Idx ⟨2, ![n, k]⟩ → EReal) (a a' : Fin n) (b b' : Fin k) (ha : (a : ℕ) = a') (hb : (b : ℕ) = b') :
    X (ix2 a b) = X (ix2 a' b') := by
  rw [Fin.ext ha, Fin.ext hb]
theorem at3 {n k l : ℕ} (X : Shape.Idx ⟨3, ![n, k, l]⟩ → EReal) (a : Fin n) (b : Fin k) (d d' : Fin l) (h : (d : ℕ) = d') :
    X (ix3 a b d) = X (ix3 a b d') := by
  rw [Fin.ext h]

/-- The reference's array of the memory's arguments. -/
abbrev refm (c : Dev nD) : FVec Ideal S16384x512 .bf16 :=
  Cert.LatentReferenceIdeal.Stages.ref (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))

/-- The queries and the keys are reals. -/
structure Fin6 (c : Dev nD) : Prop where
  f0 : ∀ i, ∃ r : ℝ, m ((c : Thread nD τ).loc main_arg0) i = (r : EReal)
  f1 : ∀ i, ∃ r : ℝ, m ((c : Thread nD τ).loc main_arg1) i = (r : EReal)
  f2 : ∀ i, ∃ r : ℝ, m ((c : Thread nD τ).loc main_arg2) i = (r : EReal)
  f3 : ∀ i, ∃ r : ℝ, m ((c : Thread nD τ).loc main_arg3) i = (r : EReal)
  f5 : ∀ i, ∃ r : ℝ, m ((c : Thread nD τ).loc main_arg5) i = (r : EReal)
  f6 : ∀ i, ∃ r : ℝ, m ((c : Thread nD τ).loc main_arg6) i = (r : EReal)

/-- One head of a pair of a block is the reference at the head's lanes. -/
theorem head_eq (c : Dev nD) (t : Fin cfg0.N) (ht : t.val < 32) (f : Fin6 m c)
    (p : Fin 4) (hh : Fin 2) (cc : Fin 4) (hcc : (cc : ℕ) = (2 * p + hh) % 4) (g : Fin 2) (hg : (g : ℕ) = p / 2)
    (qn qr : Vec Ideal S512x128 .bf16) (kc krc vc : Vec Ideal S1x512x128 .bf16) (kn krn vn : Vec Ideal S1x2048x128 .bf16)
    (hqn : ∀ (i : Fin 512) (d : Fin 128), qn (ix2 i d) = iblk m c 0 t (ix2 i ⟨p * 128 + d, by omega⟩))
    (hqr : ∀ (i : Fin 512) (d : Fin 128), qr (ix2 i d) = iblk m c 1 t (ix2 i ⟨g * 128 + d, by omega⟩))
    (hkc : ∀ (k : Fin 512) (d : Fin 128), kc (ix3 0 k d) = iblk m c 2 t (ix3 0 k ⟨p * 128 + d, by omega⟩))
    (hkrc : ∀ (k : Fin 512) (d : Fin 128), krc (ix3 0 k d) = iblk m c 3 t (ix3 0 k d))
    (hvc : ∀ (k : Fin 512) (d : Fin 128), vc (ix3 0 k d) = iblk m c 4 t (ix3 0 k ⟨p * 128 + d, by omega⟩))
    (hkn : ∀ (k : Fin 2048) (d : Fin 128), kn (ix3 0 k d) = iblk m c 5 t (ix3 0 k ⟨p * 128 + d, by omega⟩))
    (hkrn : ∀ (k : Fin 2048) (d : Fin 128), krn (ix3 0 k d) = iblk m c 6 t (ix3 0 k d))
    (hvn : ∀ (k : Fin 2048) (d : Fin 128), vn (ix3 0 k d) = iblk m c 7 t (ix3 0 k ⟨p * 128 + d, by omega⟩))
    (i : Fin 512) (e : Fin 64) :
    Head.headVal hh cc qn qr kc krc vc kn krn vn i ⟨hh * 64 + e, by omega⟩
      = refm m c (ix2 ⟨t.val / 4 * 2048 + (t.val % 4 * 512 + i), by omega⟩ ⟨(2 * p + hh) * 64 + e, by omega⟩) := by
  refine Cert.LatentRow.row_eq _ _ _ _ _ _ _ _ f.f0 f.f1 f.f2 f.f3 f.f5 f.f6 ⟨t.val / 4, by omega⟩ ⟨2 * p + hh, by omega⟩
    ⟨t.val % 4 * 512 + i, by omega⟩ e hh cc hcc i qn qr kc krc vc kn krn vn (fun x => ?_) (fun x => ?_) (fun k x => ?_)
    (fun k x => (hkrc k x).trans (krc_at m c t k x ht)) (fun k x => ?_) (fun k x => ?_)
    (fun k x => (hkrn k x).trans (krn_at m c t k x ht)) (fun k x => ?_)
  · refine (hqn i _).trans ((qn_at m c t i _ ht).trans (at2 _ _ _ _ _ ?_ ?_))
    · show t.val * 512 + (i : ℕ) = t.val / 4 * 2048 + (t.val % 4 * 512 + (i : ℕ)); omega
    · show (p : ℕ) * 128 + (hh * 64 + x) = (2 * p + hh) * 64 + x; omega
  · refine (hqr i _).trans ((qr_at m c t i _ ht).trans (at2 _ _ _ _ _ ?_ ?_))
    · show t.val * 512 + (i : ℕ) = t.val / 4 * 2048 + (t.val % 4 * 512 + (i : ℕ)); omega
    · show (g : ℕ) * 128 + (cc * 32 + x) = (2 * p + hh) * 32 + x; omega
  · refine (hkc k _).trans ((kc_at m c t k _ ht).trans (at3 _ _ _ _ _ ?_))
    show (p : ℕ) * 128 + (hh * 64 + x) = (2 * p + hh) * 64 + x; omega
  · refine (hvc k _).trans ((vc_at m c t k _ ht).trans (at3 _ _ _ _ _ ?_))
    show (p : ℕ) * 128 + (hh * 64 + x) = (2 * p + hh) * 64 + x; omega
  · refine (hkn k _).trans ((kn_at m c t k _ ht).trans (at2 _ _ _ _ _ rfl ?_))
    show (p : ℕ) * 128 + (hh * 64 + x) = (2 * p + hh) * 64 + x; omega
  · refine (hvn k _).trans ((vn_at m c t k _ ht).trans (at2 _ _ _ _ _ rfl ?_))
    show (p : ℕ) * 128 + (hh * 64 + x) = (2 * p + hh) * 64 + x; omega

/-- A pair of a block is the reference at the pair's lanes. -/
theorem pair_eq (c : Dev nD) (t : Fin cfg0.N) (ht : t.val < 32) (f : Fin6 m c)
    (p : Fin 4) (c0 c1 : Fin 4) (hc0 : (c0 : ℕ) = (2 * p) % 4) (hc1 : (c1 : ℕ) = (2 * p + 1) % 4) (g : Fin 2) (hg : (g : ℕ) = p / 2)
    (qn qr : Vec Ideal S512x128 .bf16) (kc krc vc : Vec Ideal S1x512x128 .bf16) (kn krn vn : Vec Ideal S1x2048x128 .bf16)
    (hqn : ∀ (i : Fin 512) (d : Fin 128), qn (ix2 i d) = iblk m c 0 t (ix2 i ⟨p * 128 + d, by omega⟩))
    (hqr : ∀ (i : Fin 512) (d : Fin 128), qr (ix2 i d) = iblk m c 1 t (ix2 i ⟨g * 128 + d, by omega⟩))
    (hkc : ∀ (k : Fin 512) (d : Fin 128), kc (ix3 0 k d) = iblk m c 2 t (ix3 0 k ⟨p * 128 + d, by omega⟩))
    (hkrc : ∀ (k : Fin 512) (d : Fin 128), krc (ix3 0 k d) = iblk m c 3 t (ix3 0 k d))
    (hvc : ∀ (k : Fin 512) (d : Fin 128), vc (ix3 0 k d) = iblk m c 4 t (ix3 0 k ⟨p * 128 + d, by omega⟩))
    (hkn : ∀ (k : Fin 2048) (d : Fin 128), kn (ix3 0 k d) = iblk m c 5 t (ix3 0 k ⟨p * 128 + d, by omega⟩))
    (hkrn : ∀ (k : Fin 2048) (d : Fin 128), krn (ix3 0 k d) = iblk m c 6 t (ix3 0 k d))
    (hvn : ∀ (k : Fin 2048) (d : Fin 128), vn (ix3 0 k d) = iblk m c 7 t (ix3 0 k ⟨p * 128 + d, by omega⟩))
    (x : S512x128.Idx) (j : S16384x512.Idx) (hj0 : (j 0 : ℕ) = t.val * 512 + x 0) (hj1 : (j 1 : ℕ) = p * 128 + x 1) :
    Head.pairTile (BitVec.ofNat 32 c0) (BitVec.ofNat 32 c1) qn qr kc krc vc kn krn vn x = refm m c j := by
  idx_vars x
  have b0 : (x0 : ℕ) < 512 := x0.isLt
  have b1 : (x1 : ℕ) < 128 := x1.isLt
  have hj1' : (j 1 : ℕ) = p * 128 + x1 := hj1
  have hj : j = ix2 ⟨t.val / 4 * 2048 + (t.val % 4 * 512 + x0), by omega⟩ ⟨p * 128 + x1, by omega⟩ := by
    funext a
    refine Fin.ext ?_
    match a with
    | 0 => show (j 0 : ℕ) = t.val / 4 * 2048 + (t.val % 4 * 512 + (x0 : ℕ)); omega
    | 1 => exact hj1
  rw [hj]
  by_cases hx : (x1 : ℕ) / 64 = 0
  · refine (Head.pair_lo c0 c1 qn qr kc krc vc kn krn vn x0 x1 hx).trans ?_
    have hlt : (x1 : ℕ) < 64 := by omega
    have e := head_eq m c t ht f p 0 c0 (by rw [hc0]; rfl) g hg qn qr kc krc vc kn krn vn hqn hqr hkc hkrc hvc hkn hkrn hvn x0 ⟨x1, hlt⟩
    refine (congrArg (Head.headVal 0 c0 qn qr kc krc vc kn krn vn x0) (Fin.ext (by show (x1 : ℕ) = 0 * 64 + x1; omega))).trans (e.trans ?_)
    exact at2 _ _ _ _ _ rfl (by show (2 * (p : ℕ) + 0) * 64 + x1 = p * 128 + x1; omega)
  · have hx' : (x1 : ℕ) / 64 = 1 := by omega
    refine (Head.pair_hi c0 c1 qn qr kc krc vc kn krn vn x0 x1 hx').trans ?_
    have e := head_eq m c t ht f p 1 c1 hc1 g hg qn qr kc krc vc kn krn vn hqn hqr hkc hkrc hvc hkn hkrn hvn x0 ⟨x1 - 64, by omega⟩
    refine (congrArg (Head.headVal 1 c1 qn qr kc krc vc kn krn vn x0) (Fin.ext (by show (x1 : ℕ) = 1 * 64 + (x1 - 64); omega))).trans (e.trans ?_)
    exact at2 _ _ _ _ _ rfl (by show (2 * (p : ℕ) + 1) * 64 + ((x1 : ℕ) - 64) = p * 128 + x1; omega)

/-! The loads: a pair's lanes of a block. -/

theorem ldq0 (B : Vec Ideal S512x512 .bf16) (i : Fin 512) (d : Fin 128) :
    View.ld B r0_4 (ix2 i d) = B (ix2 i ⟨((0 : Fin 4) : ℕ) * 128 + d, by omega⟩) := by
  pointwise
theorem ldc0 (B : Vec Ideal S1x512x512 .bf16) (k : Fin 512) (d : Fin 128) :
    View.ld B r0_2 (ix3 0 k d) = B (ix3 0 k ⟨((0 : Fin 4) : ℕ) * 128 + d, by omega⟩) := by
  pointwise
theorem ldn0 (B : Vec Ideal S1x2048x512 .bf16) (k : Fin 2048) (d : Fin 128) :
    View.ld B r0_3 (ix3 0 k d) = B (ix3 0 k ⟨((0 : Fin 4) : ℕ) * 128 + d, by omega⟩) := by
  pointwise
theorem ldq1 (B : Vec Ideal S512x512 .bf16) (i : Fin 512) (d : Fin 128) :
    View.ld B r0_8 (ix2 i d) = B (ix2 i ⟨((1 : Fin 4) : ℕ) * 128 + d, by omega⟩) := by
  pointwise
theorem ldc1 (B : Vec Ideal S1x512x512 .bf16) (k : Fin 512) (d : Fin 128) :
    View.ld B r0_6 (ix3 0 k d) = B (ix3 0 k ⟨((1 : Fin 4) : ℕ) * 128 + d, by omega⟩) := by
  pointwise
theorem ldn1 (B : Vec Ideal S1x2048x512 .bf16) (k : Fin 2048) (d : Fin 128) :
    View.ld B r0_7 (ix3 0 k d) = B (ix3 0 k ⟨((1 : Fin 4) : ℕ) * 128 + d, by omega⟩) := by
  pointwise
theorem ldq2 (B : Vec Ideal S512x512 .bf16) (i : Fin 512) (d : Fin 128) :
    View.ld B r0_11 (ix2 i d) = B (ix2 i ⟨((2 : Fin 4) : ℕ) * 128 + d, by omega⟩) := by
  pointwise
theorem ldc2 (B : Vec Ideal S1x512x512 .bf16) (k : Fin 512) (d : Fin 128) :
    View.ld B r0_9 (ix3 0 k d) = B (ix3 0 k ⟨((2 : Fin 4) : ℕ) * 128 + d, by omega⟩) := by
  pointwise
theorem ldn2 (B : Vec Ideal S1x2048x512 .bf16) (k : Fin 2048) (d : Fin 128) :
    View.ld B r0_10 (ix3 0 k d) = B (ix3 0 k ⟨((2 : Fin 4) : ℕ) * 128 + d, by omega⟩) := by
  pointwise
theorem ldq3 (B : Vec Ideal S512x512 .bf16) (i : Fin 512) (d : Fin 128) :
    View.ld B r0_15 (ix2 i d) = B (ix2 i ⟨((3 : Fin 4) : ℕ) * 128 + d, by omega⟩) := by
  pointwise
theorem ldc3 (B : Vec Ideal S1x512x512 .bf16) (k : Fin 512) (d : Fin 128) :
    View.ld B r0_13 (ix3 0 k d) = B (ix3 0 k ⟨((3 : Fin 4) : ℕ) * 128 + d, by omega⟩) := by
  pointwise
theorem ldn3 (B : Vec Ideal S1x2048x512 .bf16) (k : Fin 2048) (d : Fin 128) :
    View.ld B r0_14 (ix3 0 k d) = B (ix3 0 k ⟨((3 : Fin 4) : ℕ) * 128 + d, by omega⟩) := by
  pointwise
theorem ldr0 (B : Vec Ideal S512x256 .bf16) (i : Fin 512) (d : Fin 128) :
    View.ld B r0_5 (ix2 i d) = B (ix2 i ⟨((0 : Fin 2) : ℕ) * 128 + d, by omega⟩) := by
  pointwise
theorem ldr1 (B : Vec Ideal S512x256 .bf16) (i : Fin 512) (d : Fin 128) :
    View.ld B r0_12 (ix2 i d) = B (ix2 i ⟨((1 : Fin 2) : ℕ) * 128 + d, by omega⟩) := by
  pointwise
theorem ldrc (B : Vec Ideal S1x512x128 .bf16) (k : Fin 512) (d : Fin 128) : View.ld B r0_0 (ix3 0 k d) = B (ix3 0 k d) := by
  pointwise
theorem ldrn (B : Vec Ideal S1x2048x128 .bf16) (k : Fin 2048) (d : Fin 128) : View.ld B r0_1 (ix3 0 k d) = B (ix3 0 k d) := by
  pointwise

/-- A block of the result at an index of it. -/
theorem point (c : Dev nD) (t : Fin cfg0.N) (f : Fin6 m c) (y : S512x512.Idx) :
    out0_8 (F := Ideal) (iblk m c 0 t) (iblk m c 1 t) (iblk m c 2 t) (iblk m c 3 t) (iblk m c 4 t) (iblk m c 5 t) (iblk m c 6 t) (iblk m c 7 t) y
      = refm m c (((cfg0.win 8).blk t).view.emb y) := by
  have ht : t.val < 32 := lt_of_lt_of_eq t.isLt N_0
  canon_tiles x h
  · refine (congrFun (Head.pair3 ..) x).trans (pair_eq m c t ht f 3 2 3 (by decide) (by decide) 1 (by decide) _ _ _ _ _ _ _ _ (ldq3 _) (ldr1 _) (ldc3 _) (ldrc _) (ldc3 _) (ldn3 _) (ldrn _) (ldn3 _) x _ ?_ ?_)
    · blk_simp [idx_val t]; try omega
    · blk_simp [idx_val t]; try omega
  · refine (congrFun (Head.pair2 ..) x).trans (pair_eq m c t ht f 2 0 1 (by decide) (by decide) 1 (by decide) _ _ _ _ _ _ _ _ (ldq2 _) (ldr1 _) (ldc2 _) (ldrc _) (ldc2 _) (ldn2 _) (ldrn _) (ldn2 _) x _ ?_ ?_)
    · blk_simp [idx_val t]; try omega
    · blk_simp [idx_val t]; try omega
  · refine (congrFun (Head.pair1 ..) x).trans (pair_eq m c t ht f 1 2 3 (by decide) (by decide) 0 (by decide) _ _ _ _ _ _ _ _ (ldq1 _) (ldr0 _) (ldc1 _) (ldrc _) (ldc1 _) (ldn1 _) (ldrn _) (ldn1 _) x _ ?_ ?_)
    · blk_simp [idx_val t]; try omega
    · blk_simp [idx_val t]; try omega
  · refine (congrFun (Head.pair0 ..) x).trans (pair_eq m c t ht f 0 0 1 (by decide) (by decide) 0 (by decide) _ _ _ _ _ _ _ _ (ldq0 _) (ldr0 _) (ldc0 _) (ldrc _) (ldc0 _) (ldn0 _) (ldrn _) (ldn0 _) x _ ?_ ?_)
    · blk_simp [idx_val t]; try omega
    · blk_simp [idx_val t]; try omega

/-- THE KERNEL'S RESULT is the reference's term of the arguments. -/
theorem final (c : Dev nD) (f : Fin6 m c) : (dats m 0 c).arrAt 8 cfg0.N = refm m c := by
  refine (dats m 0 c).arrAt_eq_of_covers 8 _ (by decide +kernel) fun t _ y => ?_
  blk_simp
  rw [after0_8]
  exact point m c t f y

end Cert.LatentIdeal.Arr

end
-- ==== Proof.LatentClaims.lean ====
module

public import proofs.«01_k».proof.Proof.Value
public import proofs.«01_k».proof.Proof.LatentValue
public import proofs.«01_k».proof.Proof.Gen.Latent.Frame
public import proofs.«01_k».proof.Proof.Gen.LatentReferenceIdeal.Run
public import proofs.«01_k».proof.Defs

@[expose] public section

noncomputable section

/-! The latent attention's claim. -/
namespace Cert.LatentClaims

open Idealize.ShloMosaic Idealize.ShloMosaic.TcCoe Idealize.SL.Sem

/-- The predicate's own shape facts. -/
theorem pre_facts : Cert.Pre_finite_latents.Facts :=
  ⟨by decide, ⟨fun i => Fin.elim0 i, fun i => Fin.elim0 i⟩, ⟨fun i => Fin.elim0 i, fun i => Fin.elim0 i⟩,
    ⟨fun i => Fin.elim0 i, fun i => Fin.elim0 i⟩, ⟨fun i => Fin.elim0 i, fun i => Fin.elim0 i⟩, ⟨fun i => Fin.elim0 i, fun i => Fin.elim0 i⟩⟩

/-- What the predicate says: every query and every key is a real. -/
theorem finite (m : (ℓ : Loc Cert.LatentIdeal.nD Cert.LatentIdeal.τ Cert.LatentIdeal.sig) → Buf (Elt Ideal) ℓ)
    (h : @Cert.Pre_LatentIdeal_finite_latents pre_facts m) (c : Dev Cert.LatentIdeal.nD) : Cert.LatentIdeal.Arr.Fin6 m c where
  f0 := fun i => Cert.KernelIdeal.Arr.real_of_abs _ (congrFun (h c).1 i)
  f1 := fun i => Cert.KernelIdeal.Arr.real_of_abs _ (congrFun (h c).2.1 i)
  f2 := fun i => Cert.KernelIdeal.Arr.real_of_abs _ (congrFun (h c).2.2.1 i)
  f3 := fun i => Cert.KernelIdeal.Arr.real_of_abs _ (congrFun (h c).2.2.2.1 i)
  f5 := fun i => Cert.KernelIdeal.Arr.real_of_abs _ (congrFun (h c).2.2.2.2.1 i)
  f6 := fun i => Cert.KernelIdeal.Arr.real_of_abs _ (congrFun (h c).2.2.2.2.2 i)

/-- The latent attention's claim: the kernel's result is the reference's. -/
theorem value : @Cert.algebraic_LatentIdeal_LatentReferenceIdeal_pre_finite_latents Cert.LatentIdeal.Gen.facts Cert.LatentReferenceIdeal.Gen.facts
    pre_facts := by
  pair_intro
  · run_from Cert.LatentIdeal.Value.run_blocks m g
  · run_from Cert.LatentReferenceIdeal.Value.run m' g'
    obtain ⟨a0, a1, a2, a3, a4, a5, a6, a7⟩ := hagree c
    refine Eq.trans ?_ (Cert.LatentIdeal.Arr.final m c (finite m hpre c)).symm
    refine (Cert.LatentReferenceIdeal.Stages.result_eq m' c).trans ?_
    unfold Cert.LatentIdeal.Arr.refm
    rw [← a0, ← a1, ← a2, ← a3, ← a4, ← a5, ← a6, ← a7]

end Cert.LatentClaims

end
-- ==== Proof.ContextSoft.lean ====
module

public import proofs.«01_k».proof.Proof.LatentSoft

@[expose] public section

noncomputable section

/-! Softmax over one list of keys, and the difference of two of them, as a kernel's row computes them. -/
namespace Cert.Soft

open Idealize.ShloMosaic

/-- The largest score of one list. -/
def topc {n : ℕ} (S : Fin n → EReal) : EReal := Finset.univ.fold max (Ideal.ofBits .f32 0xFF800000#32) S

/-- The sum of one list's exponentials. -/
def sumc {n : ℕ} (S : Fin n → EReal) : EReal := ∑ x, Ideal.exp (S x - topc S)

/-- What a kernel row computes over one list: the exponentials against the values, divided once by their sum. -/
def mixc {n : ℕ} (S v : Fin n → EReal) : EReal := Ideal.div (∑ x, Ideal.exp (S x - topc S) * v x) (sumc S)

/-- The same for two maps, their exponentials combined once. -/
def diffc {n : ℕ} (S1 S2 : Fin n → EReal) (lam : EReal) (v : Fin n → EReal) : EReal :=
  Ideal.div (∑ x, (Ideal.exp (S1 x - topc S1) - Ideal.exp (S2 x - topc S2) * Ideal.div (lam * sumc S1) (sumc S2)) * v x) (sumc S1)

/-- For real scores the once-divided product is the values weighted by the softmax. -/
theorem mixc_eq {n : ℕ} (hn : 0 < n) (S v : Fin n → EReal) (hS : ∀ k, ∃ r : ℝ, S k = (r : EReal)) :
    mixc S v = ∑ k : Fin n, v k * prob S k := by
  choose s hs using hS
  obtain ⟨M, hM⟩ := fold_max_real hn s
  have hS' : S = fun k => (s k : EReal) := funext hs
  have ht : topc S = (M : EReal) := by rw [topc, hS']; exact hM
  have p : (0 : ℝ) < ∑ j, Real.exp (s j - M) := Finset.sum_pos (fun j _ => Real.exp_pos _) ⟨⟨0, hn⟩, Finset.mem_univ _⟩
  have hl : sumc S = ((∑ j, Real.exp (s j - M) : ℝ) : EReal) := by
    unfold sumc
    rw [ht]
    simp only [hs, ← EReal.coe_sub, exp_real, coe_sum]
  have hp := prob_real hn S s hs M
  generalize (∑ j, Real.exp (s j - M)) = L at *
  unfold mixc
  rw [hl, ht, Ideal.div_coe p.ne', sum_mul_coe _ _ (by positivity)]
  simp only [hs, ← EReal.coe_sub, exp_real, hp]
  exact Finset.sum_congr rfl fun x _ => term1_eq _ _ (v x)

/-- For real scores the combined, once-divided product is the values weighted by the difference of the two softmaxes. -/
theorem diffc_eq {n : ℕ} (hn : 0 < n) (S1 S2 v : Fin n → EReal) (lam : EReal) (h1 : ∀ k, ∃ r : ℝ, S1 k = (r : EReal))
    (h2 : ∀ k, ∃ r : ℝ, S2 k = (r : EReal)) :
    diffc S1 S2 lam v = ∑ k : Fin n, v k * (prob S1 k - lam * prob S2 k) := by
  choose s1 hs1 using h1
  choose s2 hs2 using h2
  obtain ⟨M1, hM1⟩ := fold_max_real hn s1
  obtain ⟨M2, hM2⟩ := fold_max_real hn s2
  have hS1 : S1 = fun k => (s1 k : EReal) := funext hs1
  have hS2 : S2 = fun k => (s2 k : EReal) := funext hs2
  have ht1 : topc S1 = (M1 : EReal) := by rw [topc, hS1]; exact hM1
  have ht2 : topc S2 = (M2 : EReal) := by rw [topc, hS2]; exact hM2
  have p1 : (0 : ℝ) < ∑ j, Real.exp (s1 j - M1) := Finset.sum_pos (fun j _ => Real.exp_pos _) ⟨⟨0, hn⟩, Finset.mem_univ _⟩
  have p2 : (0 : ℝ) < ∑ j, Real.exp (s2 j - M2) := Finset.sum_pos (fun j _ => Real.exp_pos _) ⟨⟨0, hn⟩, Finset.mem_univ _⟩
  have hl1 : sumc S1 = ((∑ j, Real.exp (s1 j - M1) : ℝ) : EReal) := by
    unfold sumc
    rw [ht1]
    simp only [hs1, ← EReal.coe_sub, exp_real, coe_sum]
  have hl2 : sumc S2 = ((∑ j, Real.exp (s2 j - M2) : ℝ) : EReal) := by
    unfold sumc
    rw [ht2]
    simp only [hs2, ← EReal.coe_sub, exp_real, coe_sum]
  have hp1 := prob_real hn S1 s1 hs1 M1
  have hp2 := prob_real hn S2 s2 hs2 M2
  generalize (∑ j, Real.exp (s1 j - M1)) = L1 at *
  generalize (∑ j, Real.exp (s2 j - M2)) = L2 at *
  unfold diffc
  rw [hl1, hl2, ht1, ht2, Ideal.div_coe p1.ne', sum_mul_coe _ _ (by positivity)]
  simp only [hs1, hs2, ← EReal.coe_sub, exp_real, hp1, hp2]
  exact Finset.sum_congr rfl fun x _ => term_eq _ _ _ _ p1 p2 lam (v x)

/-- A dot product of reals is real. -/
theorem dot_ex {n : ℕ} (x y : Fin n → EReal) (hx : ∀ d, ∃ r : ℝ, x d = (r : EReal)) (hy : ∀ d, ∃ r : ℝ, y d = (r : EReal)) :
    ∃ r : ℝ, ∑ d, x d * y d = (r : EReal) := by
  choose rx hrx using hx
  choose ry hry using hy
  exact ⟨_, dot_real x y rx ry hrx hry⟩

/-- A sum of two reals is real. -/
theorem add_ex {x y : EReal} (hx : ∃ r : ℝ, x = (r : EReal)) (hy : ∃ r : ℝ, y = (r : EReal)) : ∃ r : ℝ, x + y = (r : EReal) := by
  obtain ⟨r, rfl⟩ := hx
  obtain ⟨s, rfl⟩ := hy
  exact ⟨r + s, (EReal.coe_add r s).symm⟩

end Cert.Soft

end
-- ==== Proof.ContextHead.lean ====
module

public import proofs.«01_k».proof.Proof.Gen.ContextIdeal.Frame
public import Idealize.ShloMosaic.Lib.Pipeline.ValueKit
public import Idealize.ShloMosaic.Lib.Pointwise
public import proofs.«01_k».proof.Proof.ContextSoft

@[expose] public section

set_option maxRecDepth 16384

noncomputable section

/-! The prompt's three attentions: what the body stores for one head or one pair of heads, at an index. -/
namespace Cert.ContextIdeal.Head

open Cert.ContextIdeal Cert.ContextIdeal.Gen
open Idealize.ShloMosaic Idealize.ShloMosaic.TcCoe Idealize.SL.Sem

/-! Differential attention: one head. -/

/-- What the body stores for one head of the differential attention. -/
def diffTile (lam : Vec Ideal S4x64 .f32) (g : Vec Ideal S1x128 .f32) (q : Vec Ideal S256x128 .bf16) (k v : Vec Ideal S256x128 .f32) :
    FVec Ideal S256x128 .bf16 :=
  k0_pay9 (k0_pay2 lam) (k0_pay4 g) (k0_pay6 q k) (k0_pay7 q k) (k0_pay8 q k) v

def dS1 (q : Vec Ideal S256x128 .bf16) (k : Vec Ideal S256x128 .f32) : FVec Ideal S256x256 .f32 :=
  matmul dot_S256x128_S256x128_S256x256_1_1_0_0_n_n none
    (select (broadcastTo S256x128 (shapeCast S1x128 k0_pay3 shapeCasts_S1x128_S1x128) broadcasts_S1x128_S256x128) q
      (broadcast S256x128 (Scalar.ofBits (F := Ideal) .bf16 0x0000#16))) (k0_pay5 k) (constant S256x256 .f32 0x00000000#32)
def dTop (s : FVec Ideal S256x256 .f32) : FVec Ideal S256x1 .f32 :=
  shapeCast S256x1 (multiReduction .maximumf [1] S256 s 0xFF800000#32 reduces_S256x256_S256 (.inl rfl) rfl) shapeCasts_S256_S256x1
def dExp (s : FVec Ideal S256x256 .f32) (t : FVec Ideal S256x1 .f32) : FVec Ideal S256x256 .f32 :=
  exp (subf s (broadcastTo S256x256 t broadcasts_S256x1_S256x256))
def dSum (e : FVec Ideal S256x256 .f32) : FVec Ideal S256x1 .f32 :=
  shapeCast S256x1 (multiReduction .add [1] S256 e 0x00000000#32 reduces_S256x256_S256 (.inl rfl) rfl) shapeCasts_S256_S256x1
def dRatio (l : FVec Ideal S1x1 .f32) (a b : FVec Ideal S256x1 .f32) : FVec Ideal S256x1 .f32 :=
  divf (mulf (broadcastTo S256x1 l broadcasts_S1x1_S256x1) a) b
def dMix (e1 e2 : FVec Ideal S256x256 .f32) (r a : FVec Ideal S256x1 .f32) (v : Vec Ideal S256x128 .f32) : FVec Ideal S256x128 .f32 :=
  divf (matmul dot_S256x256_S256x128_S256x128_1_0_0_1_n_n none (truncf .bf16 (subf e1 (mulf e2 (broadcastTo S256x256 r broadcasts_S256x1_S256x256))) bitsLt_bf16_f32)
      (truncf .bf16 v bitsLt_bf16_f32) (constant S256x128 .f32 0x00000000#32)) (broadcastTo S256x128 a broadcasts_S256x1_S256x128)
def dNorm (o : FVec Ideal S256x128 .f32) (g : FVec Ideal S1x128 .f32) : FVec Ideal S256x128 .bf16 :=
  truncf .bf16 (mulf (mulf (mulf o (broadcastTo S256x128 (rsqrt (addf (divf (shapeCast S256x1 (multiReduction .add [1] S256 (mulf o o) 0x00000000#32 reduces_S256x128_S256 (.inl rfl) rfl) shapeCasts_S256_S256x1)
      (broadcast S256x1 (Scalar.ofBits (F := Ideal) .f32 0x43000000#32))) (broadcast S256x1 (Scalar.ofBits (F := Ideal) .f32 0x358637BD#32)))) broadcasts_S256x1_S256x128))
    (broadcastTo S256x128 g broadcasts_S1x128_S256x128)) (broadcast S256x128 (Scalar.ofBits (F := Ideal) .f32 0x3F4CCCCD#32))) bitsLt_bf16_f32

theorem diff_stages (lam : Vec Ideal S4x64 .f32) (g : Vec Ideal S1x128 .f32) (q : Vec Ideal S256x128 .bf16) (k v : Vec Ideal S256x128 .f32) :
    diffTile lam g q k v = dNorm (dMix (dExp (dS1 q k) (dTop (dS1 q k))) (dExp (k0_pay8 q k) (dTop (k0_pay8 q k)))
      (dRatio (k0_pay2 lam) (dSum (dExp (dS1 q k) (dTop (dS1 q k)))) (dSum (dExp (k0_pay8 q k) (dTop (k0_pay8 q k)))))
      (dSum (dExp (dS1 q k) (dTop (dS1 q k)))) v) (k0_pay4 g) := rfl

theorem dS1_at (q : Vec Ideal S256x128 .bf16) (k : Vec Ideal S256x128 .f32) (i j : Fin 256) :
    dS1 q k (ix2 i j) = ∑ x : Fin 128, Cert.Soft.lo x (q (ix2 i x)) * k (ix2 j x) := by
  unfold Cert.Soft.lo
  pointwise [dS1, k0_pay3, k0_pay5]
theorem dS2_at (q : Vec Ideal S256x128 .bf16) (k : Vec Ideal S256x128 .f32) (i j : Fin 256) :
    k0_pay8 (F := Ideal) q k (ix2 i j) = ∑ x : Fin 128, Cert.Soft.hi x (q (ix2 i x)) * k (ix2 j x) := by
  unfold Cert.Soft.hi
  pointwise [k0_pay8, k0_pay3, k0_pay5]
theorem dTop_at (s : FVec Ideal S256x256 .f32) (i : Fin 256) : dTop s (ix2 i 0) = Cert.Soft.topc fun k : Fin 256 => s (ix2 i k) := by
  pointwise [dTop]
  try rfl
theorem dExp_at (s : FVec Ideal S256x256 .f32) (t : FVec Ideal S256x1 .f32) (i k : Fin 256) :
    dExp s t (ix2 i k) = Ideal.exp (s (ix2 i k) - t (ix2 i 0)) := by
  pointwise [dExp]
  try rfl
theorem dSum_at (e : FVec Ideal S256x256 .f32) (i : Fin 256) : dSum e (ix2 i 0) = ∑ k : Fin 256, e (ix2 i k) := by
  pointwise [dSum]
theorem dRatio_at (l : FVec Ideal S1x1 .f32) (a b : FVec Ideal S256x1 .f32) (i : Fin 256) :
    dRatio l a b (ix2 i 0) = Ideal.div (l (ix2 0 0) * a (ix2 i 0)) (b (ix2 i 0)) := by
  pointwise [dRatio]
theorem dMix_at (e1 e2 : FVec Ideal S256x256 .f32) (r a : FVec Ideal S256x1 .f32) (v : Vec Ideal S256x128 .f32) (i : Fin 256) (e : Fin 128) :
    dMix e1 e2 r a v (ix2 i e) = Ideal.div (∑ x : Fin 256, (e1 (ix2 i x) - e2 (ix2 i x) * r (ix2 i 0)) * v (ix2 x e)) (a (ix2 i 0)) := by
  pointwise [dMix]
theorem dNorm_at (o : FVec Ideal S256x128 .f32) (g : FVec Ideal S1x128 .f32) (i : Fin 256) (e : Fin 128) :
    dNorm o g (ix2 i e) = Cert.Soft.norm128 (fun e : Fin 128 => o (ix2 i e)) (g (ix2 0 e)) e := by
  unfold Cert.Soft.norm128
  pointwise [dNorm]

/-- The mixing factor out of the four vectors. -/
theorem lam_at (lam : Vec Ideal S4x64 .f32) : k0_pay2 (F := Ideal) lam (ix2 0 0)
    = Ideal.exp (∑ x : Fin 64, lam (ix2 0 x) * lam (ix2 1 x)) - Ideal.exp (∑ x : Fin 64, lam (ix2 2 x) * lam (ix2 3 x))
      + Ideal.ofBits .f32 0x3E4CCCCD#32 := by
  pointwise [k0_pay2]

theorem gain_at (g : Vec Ideal S1x128 .f32) (e : Fin 128) : k0_pay4 (F := Ideal) g (ix2 0 e) = g (ix2 0 e) := by
  pointwise [k0_pay4]

theorem lo_mul (x : Fin 128) (a b : EReal) : Cert.Soft.lo x a * b = Cert.Soft.lo x (a * b) := by
  unfold Cert.Soft.lo Scalar.select
  split
  · rfl
  · exact zero_mul _
theorem hi_mul (x : Fin 128) (a b : EReal) : Cert.Soft.hi x a * b = Cert.Soft.hi x (a * b) := by
  unfold Cert.Soft.hi Scalar.select
  split
  · exact zero_mul _
  · rfl

/-- One head of the differential attention at an index, out of its operands. -/
theorem diffTile_at (lam : Vec Ideal S4x64 .f32) (g : Vec Ideal S1x128 .f32) (q : Vec Ideal S256x128 .bf16) (k v : Vec Ideal S256x128 .f32)
    (i : Fin 256) (e : Fin 128) : diffTile lam g q k v (ix2 i e)
      = Cert.Soft.norm128 (fun e : Fin 128 => Cert.Soft.diffc
          (fun j : Fin 256 => ∑ x : Fin 64, q (ix2 i ⟨x, by omega⟩) * k (ix2 j ⟨x, by omega⟩))
          (fun j : Fin 256 => ∑ x : Fin 64, q (ix2 i ⟨64 + x, by omega⟩) * k (ix2 j ⟨64 + x, by omega⟩))
          (Ideal.exp (∑ x : Fin 64, lam (ix2 0 x) * lam (ix2 1 x)) - Ideal.exp (∑ x : Fin 64, lam (ix2 2 x) * lam (ix2 3 x))
            + Ideal.ofBits .f32 0x3E4CCCCD#32)
          (fun j : Fin 256 => v (ix2 j e))) (g (ix2 0 e)) e := by
  rw [diff_stages, dNorm_at, gain_at]
  simp only [dMix_at, dRatio_at, dSum_at, dExp_at, dTop_at, dS1_at, dS2_at, lam_at, lo_mul, hi_mul, Cert.Soft.sum_lo, Cert.Soft.sum_hi]
  rfl

/-! Two heads' queries one above the other: neighbourhood and latent attention. -/

/-- The rows of the scores, the exponentials and the once-divided product, for the 512 stacked query rows. -/
def pTop (s : FVec Ideal S512x256 .f32) : FVec Ideal S512x1 .f32 :=
  shapeCast S512x1 (multiReduction .maximumf [1] S512 s 0xFF800000#32 reduces_S512x256_S512 (.inl rfl) rfl) shapeCasts_S512_S512x1
def pExp (s : FVec Ideal S512x256 .f32) (t : FVec Ideal S512x1 .f32) : FVec Ideal S512x256 .f32 :=
  exp (subf s (broadcastTo S512x256 t broadcasts_S512x1_S512x256))
def pMix (e : FVec Ideal S512x256 .f32) (v : FVec Ideal S256x128 .bf16) : FVec Ideal S512x128 .f32 :=
  divf (matmul dot_S512x256_S256x128_S512x128_1_0_0_1_n_n none (truncf .bf16 e bitsLt_bf16_f32) v (constant S512x128 .f32 0x00000000#32))
    (broadcastTo S512x128 (shapeCast S512x1 (multiReduction .add [1] S512 e 0x00000000#32 reduces_S512x256_S512 (.inl rfl) rfl) shapeCasts_S512_S512x1) broadcasts_S512x1_S512x128)
/-- The first head's rows on the first 64 lanes, the second's on the others. -/
def pSel (mk : IVec S1x128 1) (o : FVec Ideal S512x128 .f32) : FVec Ideal S256x128 .bf16 :=
  truncf .bf16 (select (broadcastTo S256x128 (shapeCast S1x128 mk shapeCasts_S1x128_S1x128) broadcasts_S1x128_S256x128)
    (extractStridedSlice S256x128 ![0, 0] o slices_S512x128_o0_0_S256x128) (extractStridedSlice S256x128 ![256, 0] o slices_S512x128_o256_0_S256x128)) bitsLt_bf16_f32

theorem pTop_at (s : FVec Ideal S512x256 .f32) (i : Fin 512) : pTop s (ix2 i 0) = Cert.Soft.topc fun k : Fin 256 => s (ix2 i k) := by
  pointwise [pTop]
  try rfl
theorem pExp_at (s : FVec Ideal S512x256 .f32) (t : FVec Ideal S512x1 .f32) (i : Fin 512) (k : Fin 256) :
    pExp s t (ix2 i k) = Ideal.exp (s (ix2 i k) - t (ix2 i 0)) := by
  pointwise [pExp]
  try rfl
theorem pMix_at (a : FVec Ideal S512x256 .f32) (v : FVec Ideal S256x128 .bf16) (i : Fin 512) (e : Fin 128) :
    pMix a v (ix2 i e) = Ideal.div (∑ x : Fin 256, a (ix2 i x) * v (ix2 x e)) (∑ x : Fin 256, a (ix2 i x)) := by
  pointwise [pMix]
theorem pSel_at (mk : IVec S1x128 1) (o : FVec Ideal S512x128 .f32) (i : Fin 256) (e : Fin 128) :
    pSel mk o (ix2 i e) = (Scalar.select (mk (ix2 0 e)) (o (ix2 ⟨i, by omega⟩ e) : EReal) (o (ix2 ⟨256 + i, by omega⟩ e) : EReal) : EReal) := by
  pointwise [pSel]

/-- The stacked rows' outputs. -/
def pOut (s : FVec Ideal S512x256 .f32) (v : FVec Ideal S256x128 .bf16) : FVec Ideal S512x128 .f32 := pMix (pExp s (pTop s)) v

theorem pOut_at (s : FVec Ideal S512x256 .f32) (v : FVec Ideal S256x128 .bf16) (i : Fin 512) (e : Fin 128) :
    pOut s v (ix2 i e) = Cert.Soft.mixc (fun k : Fin 256 => s (ix2 i k)) fun k : Fin 256 => v (ix2 k e) := by
  unfold pOut
  rw [pMix_at]
  simp only [pExp_at, pTop_at]
  rfl

theorem loMask_at : ∀ x : Fin 128, k0_pay22 (ix2 (0 : Fin 1) x) = if (x : ℕ) / 64 = 0 then 1#1 else 0#1 := by
  intro x
  pointwise [k0_pay22]
  revert x
  decide +kernel

/-- The other 64 lanes. -/
def hiMask : IVec S1x128 1 := xori k0_pay22 (constantI S1x128 1 1#1)

theorem hiMask_at : ∀ x : Fin 128, hiMask (ix2 (0 : Fin 1) x) = if (x : ℕ) / 64 = 1 then 1#1 else 0#1 := by
  intro x
  pointwise [hiMask, k0_pay22]
  revert x
  decide +kernel

/-- The lanes of block `c` of 32. -/
def rotMask (c : BitVec 32) : IVec S1x128 1 :=
  cmpi .eq (select (andi (cmpi .ne k0_pay46 (broadcast S1x128 (Scalar.subi (Scalar.extui (Scalar.cmpi .sgt 32#32 0#32)) (Scalar.extui (Scalar.cmpi .slt 32#32 0#32)))))
    (cmpi .ne (remsi (iota .tc S1x128 32 [1] iota_S1x128_d1_w32) (broadcast S1x128 32#32)) (broadcast S1x128 0#32)))
    (subi k0_pay45 (broadcast S1x128 1#32)) k0_pay45) (broadcast S1x128 c)

theorem rotMask_at (c : Fin 4) : ∀ x : Fin 128, rotMask (BitVec.ofNat 32 c) (ix2 (0 : Fin 1) x) = if (x : ℕ) / 32 = c then 1#1 else 0#1 := by
  intro x
  pointwise [rotMask, k0_pay45, k0_pay46]
  revert c x
  decide +kernel

/-- A mask's choice between a value and zero. -/
theorem sel_if {p : Prop} [Decidable p] (v : EReal) :
    (Scalar.select (if p then 1#1 else 0#1) v (0 : EReal) : EReal) = if p then v else 0 := by
  split <;> rfl

/-- The queries kept on a mask's lanes. -/
def keep (mk : IVec S1x128 1) (q : Vec Ideal S256x128 .bf16) : Vec Ideal S256x128 .bf16 :=
  select (broadcastTo S256x128 (shapeCast S1x128 mk shapeCasts_S1x128_S1x128) broadcasts_S1x128_S256x128) q
    (broadcast S256x128 (Scalar.ofBits (F := Ideal) .bf16 0x0000#16))

theorem keep_at (mk : IVec S1x128 1) (q : Vec Ideal S256x128 .bf16) (i : Fin 256) (x : Fin 128) :
    keep mk q (ix2 i x) = (Scalar.select (mk (ix2 0 x)) (q (ix2 i x) : EReal) (0 : EReal) : EReal) := by
  pointwise [keep]

/-! Neighbourhood attention: a pair of heads. -/

def nS (a b k : FVec Ideal S256x128 .bf16) : FVec Ideal S512x256 .f32 :=
  matmul dot_S512x128_S256x128_S512x256_1_1_0_0_n_n none
    (concatenate S512x128 0 [⟨S256x128, a⟩, ⟨S256x128, b⟩] concatenates_S256x128_S256x128_S512x128_d0) k (constant S512x256 .f32 0x00000000#32)

theorem nS_lo (a b k : FVec Ideal S256x128 .bf16) (i j : Fin 256) :
    nS a b k (ix2 ⟨i, by omega⟩ j) = ∑ x : Fin 128, a (ix2 i x) * k (ix2 j x) := by
  pointwise [nS]
theorem nS_hi (a b k : FVec Ideal S256x128 .bf16) (i j : Fin 256) :
    nS a b k (ix2 ⟨256 + i, by omega⟩ j) = ∑ x : Fin 128, b (ix2 i x) * k (ix2 j x) := by
  pointwise [nS]

/-- What the body stores for a pair of heads of the neighbourhood attention. -/
def naTile (q : Vec Ideal S256x128 .bf16) (k v : Vec Ideal S256x128 .f32) : FVec Ideal S256x128 .bf16 :=
  pSel k0_pay22 (pOut (nS (keep k0_pay22 q) (keep hiMask q) (truncf .bf16 k bitsLt_bf16_f32)) (truncf .bf16 v bitsLt_bf16_f32))

/-- One head of the pair, at an index, out of the operands. -/
def naVal (hh : Fin 2) (q : Vec Ideal S256x128 .bf16) (k v : Vec Ideal S256x128 .f32) (i : Fin 256) (e : Fin 128) : EReal :=
  Cert.Soft.mixc (fun j : Fin 256 => ∑ x : Fin 64, q (ix2 i ⟨hh * 64 + x, by omega⟩) * k (ix2 j ⟨hh * 64 + x, by omega⟩))
    fun j : Fin 256 => v (ix2 j e)

theorem nScore (mk : IVec S1x128 1) (hh : Fin 2) (hm : ∀ x : Fin 128, mk (ix2 (0 : Fin 1) x) = if (x : ℕ) / 64 = hh then 1#1 else 0#1)
    (q : Vec Ideal S256x128 .bf16) (k : Vec Ideal S256x128 .f32) (i j : Fin 256) :
    ∑ x : Fin 128, keep mk q (ix2 i x) * k (ix2 j x)
      = ∑ x : Fin 64, q (ix2 i ⟨hh * 64 + x, by omega⟩) * k (ix2 j ⟨hh * 64 + x, by omega⟩) := by
  simp only [keep_at, hm, sel_if]
  exact Cert.Soft.dot_block (n := 128) (w := 64) (hh : ℕ) (by omega) (by norm_num) (fun x => q (ix2 i x)) fun x => k (ix2 j x)

theorem na_lo (q : Vec Ideal S256x128 .bf16) (k v : Vec Ideal S256x128 .f32) (i : Fin 256) (e : Fin 128) (he : (e : ℕ) / 64 = 0) :
    naTile q k v (ix2 i e) = naVal 0 q k v i e := by
  unfold naTile naVal
  rw [pSel_at, loMask_at, if_pos he]
  refine (pOut_at _ _ _ _).trans ?_
  simp only [nS_lo]
  refine congrArg (fun S : Fin 256 → EReal => Cert.Soft.mixc S fun j : Fin 256 => v (ix2 j e)) (funext fun j => ?_)
  exact nScore k0_pay22 0 loMask_at q k i j
theorem na_hi (q : Vec Ideal S256x128 .bf16) (k v : Vec Ideal S256x128 .f32) (i : Fin 256) (e : Fin 128) (he : (e : ℕ) / 64 = 1) :
    naTile q k v (ix2 i e) = naVal 1 q k v i e := by
  unfold naTile naVal
  rw [pSel_at, loMask_at, if_neg (by omega)]
  refine (pOut_at _ _ _ _).trans ?_
  simp only [nS_hi]
  refine congrArg (fun S : Fin 256 → EReal => Cert.Soft.mixc S fun j : Fin 256 => v (ix2 j e)) (funext fun j => ?_)
  exact nScore hiMask 1 hiMask_at q k i j

/-! Latent attention: a pair of heads. -/

def mQ (a b : Vec Ideal S256x128 .bf16) : FVec Ideal S256x256 .bf16 :=
  concatenate S256x256 1 [⟨S256x128, a⟩, ⟨S256x128, b⟩] concatenates_S256x128_S256x128_S256x256_d1
def mS (a b k : FVec Ideal S256x256 .bf16) : FVec Ideal S512x256 .f32 :=
  matmul dot_S512x256_S256x256_S512x256_1_1_0_0_n_n none
    (concatenate S512x256 0 [⟨S256x256, a⟩, ⟨S256x256, b⟩] concatenates_S256x256_S256x256_S512x256_d0) k (constant S512x256 .f32 0x00000000#32)

theorem mQ_lo (a b : Vec Ideal S256x128 .bf16) (i : Fin 256) (x : Fin 128) : mQ a b (ix2 i ⟨x, by omega⟩) = a (ix2 i x) := by
  pointwise [mQ]
theorem mQ_hi (a b : Vec Ideal S256x128 .bf16) (i : Fin 256) (x : Fin 128) : mQ a b (ix2 i ⟨128 + x, by omega⟩) = b (ix2 i x) := by
  pointwise [mQ]
theorem mS_lo (a b k : FVec Ideal S256x256 .bf16) (i j : Fin 256) :
    mS a b k (ix2 ⟨i, by omega⟩ j) = ∑ x : Fin 256, a (ix2 i x) * k (ix2 j x) := by
  pointwise [mS]
theorem mS_hi (a b k : FVec Ideal S256x256 .bf16) (i j : Fin 256) :
    mS a b k (ix2 ⟨256 + i, by omega⟩ j) = ∑ x : Fin 256, b (ix2 i x) * k (ix2 j x) := by
  pointwise [mS]

/-- What the body stores for a pair of heads of the latent attention. -/
def mlaTile (c0 c1 : BitVec 32) (qn qr kn kr v : Vec Ideal S256x128 .bf16) : FVec Ideal S256x128 .bf16 :=
  pSel k0_pay22 (pOut (mS (mQ (keep k0_pay22 qn) (keep (rotMask c0) qr)) (mQ (keep hiMask qn) (keep (rotMask c1) qr)) (mQ kn kr)) v)

/-- One head of the pair, at an index, out of the operands. -/
def mlaVal (hh : Fin 2) (c : Fin 4) (qn qr kn kr v : Vec Ideal S256x128 .bf16) (i : Fin 256) (e : Fin 128) : EReal :=
  Cert.Soft.mixc (fun j : Fin 256 => ∑ x : Fin 64, qn (ix2 i ⟨hh * 64 + x, by omega⟩) * kn (ix2 j ⟨hh * 64 + x, by omega⟩)
      + ∑ x : Fin 32, qr (ix2 i ⟨c * 32 + x, by omega⟩) * kr (ix2 j ⟨c * 32 + x, by omega⟩))
    fun j : Fin 256 => v (ix2 j e)

/-- A sum over 256 lanes as two over 128. -/
theorem split256 (f : Fin 256 → EReal) : ∑ x : Fin 256, f x = ∑ x : Fin 128, f ⟨x, by omega⟩ + ∑ x : Fin 128, f ⟨128 + x, by omega⟩ :=
  Fin.sum_univ_add (a := 128) (b := 128) f

theorem mScore (mk : IVec S1x128 1) (hh : Fin 2) (c : Fin 4) (hm : ∀ x : Fin 128, mk (ix2 (0 : Fin 1) x) = if (x : ℕ) / 64 = hh then 1#1 else 0#1)
    (qn qr kn kr : Vec Ideal S256x128 .bf16) (i j : Fin 256) :
    ∑ x : Fin 256, mQ (keep mk qn) (keep (rotMask (BitVec.ofNat 32 c)) qr) (ix2 i x) * mQ kn kr (ix2 j x)
      = ∑ x : Fin 64, qn (ix2 i ⟨hh * 64 + x, by omega⟩) * kn (ix2 j ⟨hh * 64 + x, by omega⟩)
        + ∑ x : Fin 32, qr (ix2 i ⟨c * 32 + x, by omega⟩) * kr (ix2 j ⟨c * 32 + x, by omega⟩) := by
  rw [split256]
  simp only [mQ_lo, mQ_hi, keep_at, hm, rotMask_at, sel_if]
  exact congrArg₂ (· + ·) (Cert.Soft.dot_block (n := 128) (w := 64) (hh : ℕ) (by omega) (by norm_num) (fun x => qn (ix2 i x)) fun x => kn (ix2 j x))
    (Cert.Soft.dot_block (n := 128) (w := 32) (c : ℕ) (by omega) (by norm_num) (fun x => qr (ix2 i x)) fun x => kr (ix2 j x))

theorem mla_lo (c0 c1 : Fin 4) (qn qr kn kr v : Vec Ideal S256x128 .bf16) (i : Fin 256) (e : Fin 128) (he : (e : ℕ) / 64 = 0) :
    mlaTile (BitVec.ofNat 32 c0) (BitVec.ofNat 32 c1) qn qr kn kr v (ix2 i e) = mlaVal 0 c0 qn qr kn kr v i e := by
  unfold mlaTile mlaVal
  rw [pSel_at, loMask_at, if_pos he]
  refine (pOut_at _ _ _ _).trans ?_
  simp only [mS_lo]
  refine congrArg (fun S : Fin 256 → EReal => Cert.Soft.mixc S fun j : Fin 256 => v (ix2 j e)) (funext fun j => ?_)
  exact mScore k0_pay22 0 c0 loMask_at qn qr kn kr i j
theorem mla_hi (c0 c1 : Fin 4) (qn qr kn kr v : Vec Ideal S256x128 .bf16) (i : Fin 256) (e : Fin 128) (he : (e : ℕ) / 64 = 1) :
    mlaTile (BitVec.ofNat 32 c0) (BitVec.ofNat 32 c1) qn qr kn kr v (ix2 i e) = mlaVal 1 c1 qn qr kn kr v i e := by
  unfold mlaTile mlaVal
  rw [pSel_at, loMask_at, if_neg (by omega)]
  refine (pOut_at _ _ _ _).trans ?_
  simp only [mS_hi]
  refine congrArg (fun S : Fin 256 → EReal => Cert.Soft.mixc S fun j : Fin 256 => v (ix2 j e)) (funext fun j => ?_)
  exact mScore hiMask 1 c1 hiMask_at qn qr kn kr i j

end Cert.ContextIdeal.Head

end
-- ==== Proof.ContextPairs.lean ====
module

public import proofs.«01_k».proof.Proof.ContextHead

@[expose] public section

set_option maxRecDepth 16384

noncomputable section

/-! The heads and the pairs of heads do the same: each store's tile is `diffTile`, `naTile` or `mlaTile`. -/
namespace Cert.ContextIdeal.Head

open Cert.ContextIdeal Cert.ContextIdeal.Gen
open Idealize.ShloMosaic Idealize.ShloMosaic.TcCoe Idealize.SL.Sem

variable (lam : Vec Ideal S4x64 .f32) (g : Vec Ideal S1x128 .f32) (q : Vec Ideal S256x128 .bf16) (k v : Vec Ideal S256x128 .f32)

theorem diff3 : k0_pay21 (k0_pay2 lam) (k0_pay4 g) (k0_pay17 k0_pay3 q k) (k0_pay18 k0_pay3 q k) (k0_pay19 k0_pay3 q k) (k0_pay20 k0_pay3 q k) v
    = diffTile lam g q k v := rfl

theorem diff2 : k0_pay15 (k0_pay4 g) (k0_pay13 (k0_pay2 lam) k0_pay3 q k v) (k0_pay14 (k0_pay2 lam) k0_pay3 q k v)
    = diffTile lam g q k v := rfl

theorem diff1 : k0_pay12 (k0_pay2 lam) (k0_pay4 g) (k0_pay10 k0_pay3 q) (k0_pay11 k0_pay3 q) k v
    = diffTile lam g q k v := rfl

theorem diff0 : k0_pay9 (k0_pay2 lam) (k0_pay4 g) (k0_pay6 q k) (k0_pay7 q k) (k0_pay8 q k) v = diffTile lam g q k v := rfl

theorem na3 : k0_pay40 k0_pay23 (k0_pay38 v) (k0_pay39 k0_pay22 k q q) = naTile q k v := rfl

theorem na2 : k0_pay37 k0_pay23 (k0_pay34 k) (k0_pay35 v) (k0_pay36 k0_pay22 q q) (constant S512x256 .f32 0x00000000#32) = naTile q k v := rfl

theorem na1 : k0_pay33 k0_pay23 (k0_pay29 k) (k0_pay30 v) (k0_pay31 k0_pay22 q) q (k0_pay32 k0_pay22) = naTile q k v := rfl

theorem na0 : k0_pay28 k0_pay22 k0_pay23 (k0_pay24 k) (k0_pay25 v) q (k0_pay26 (F := Ideal)) k0_pay27 q = naTile q k v := rfl

variable (qn qr kn kr w : Vec Ideal S256x128 .bf16)

theorem mla3 : k0_pay1 k0_pay42 (k0_pay67 kr kn) w (k0_pay71 (iota .tc S1x128 32 [1] iota_S1x128_d1_w32) (k0_pay68 k0_pay41 qn) qr 32#32 (k0_pay69 (iota .tc S1x128 32 [1] iota_S1x128_d1_w32)) (k0_pay70 (iota .tc S1x128 32 [1] iota_S1x128_d1_w32)) (Scalar.subi (Scalar.extui (Scalar.cmpi .sgt 32#32 0#32)) (Scalar.extui (Scalar.cmpi .slt 32#32 0#32)))) (k0_pay72 k0_pay41 qn) qr (k0_pay73 (iota .tc S1x128 32 [1] iota_S1x128_d1_w32)) (k0_pay74 (iota .tc S1x128 32 [1] iota_S1x128_d1_w32)) (k0_pay75 (iota .tc S1x128 32 [1] iota_S1x128_d1_w32))
    = mlaTile 2#32 3#32 qn qr kn kr w := rfl

theorem mla2 : k0_pay66 k0_pay42 w (k0_pay65 (iota .tc S1x128 32 [1] iota_S1x128_d1_w32) k0_pay41 (k0_pay61 kr kn) (k0_pay62 k0_pay41 qn) qr (k0_pay63 (F := Ideal)) (k0_pay64 (iota .tc S1x128 32 [1] iota_S1x128_d1_w32)) qn qr)
    = mlaTile 0#32 1#32 qn qr kn kr w := rfl

theorem mla1 : k0_pay60 (k0_pay59 (iota .tc S1x128 32 [1] iota_S1x128_d1_w32) k0_pay42 (k0_pay53 kr kn) w (k0_pay56 (iota .tc S1x128 32 [1] iota_S1x128_d1_w32) qn (k0_pay54 (F := Ideal)) (k0_pay55 k0_pay41) qr) (k0_pay57 k0_pay41 qn) qr 32#32 k0_pay58)
    = mlaTile 2#32 3#32 qn qr kn kr w := rfl

theorem mla0 : k0_pay52 (iota .tc S1x128 32 [1] iota_S1x128_d1_w32) k0_pay42 (k0_pay43 kr kn) w (k0_pay47 (iota .tc S1x128 32 [1] iota_S1x128_d1_w32) (k0_pay44 qn) qr 32#32 k0_pay45 k0_pay46 0#32) (k0_pay48 k0_pay41 qn) qr 32#32 (k0_pay49 (iota .tc S1x128 32 [1] iota_S1x128_d1_w32)) (k0_pay50 (iota .tc S1x128 32 [1] iota_S1x128_d1_w32)) k0_pay51
    = mlaTile 0#32 1#32 qn qr kn kr w := rfl

end Cert.ContextIdeal.Head

end
-- ==== Proof.ContextRef.lean ====
module

public import proofs.«01_k».proof.Proof.Gen.ContextReferenceIdeal.Run
public import Idealize.ShloMosaic.Lib.Pipeline.ValueKit
public import Idealize.ShloMosaic.Lib.Pointwise
public import proofs.«01_k».proof.Proof.ContextSoft

@[expose] public section

set_option maxRecDepth 16384

noncomputable section

/-! The reference of the prompt's three attentions, stage by stage. -/
namespace Cert.ContextReferenceIdeal.Stages

open Cert.ContextReferenceIdeal Cert.ContextReferenceIdeal.Gen
open Idealize.ShloMosaic Idealize.ShloMosaic.TcCoe Idealize.SL.Sem

/-- Rows of eight heads of 64. -/
def heads (x : FVec Ideal S8192x512 .f32) : FVec Ideal S32x256x8x64 .f32 := shapeCast S32x256x8x64 x shapeCasts_S8192x512_S32x256x8x64

/-- The queries of a latent head: 64 plain lanes, then 32 rotary ones. -/
def queries (a6 : FVec Ideal S8192x512 .bf16) (a7 : FVec Ideal S8192x256 .bf16) : FVec Ideal S32x256x8x96 .f32 :=
  concatenate S32x256x8x96 3 [⟨S32x256x8x64, shapeCast S32x256x8x64 (extf .f32 a6 bitsLt_bf16_f32) shapeCasts_S8192x512_S32x256x8x64⟩, ⟨S32x256x8x32, shapeCast S32x256x8x32 (extf .f32 a7 bitsLt_bf16_f32) shapeCasts_S8192x256_S32x256x8x32⟩] concatenates_S32x256x8x64_S32x256x8x32_S32x256x8x96_d3

/-- The keys of a latent head: 64 plain lanes, then its 32 rotary ones. -/
def keys (a8 : FVec Ideal S8192x512 .bf16) (a9 : FVec Ideal S8192x128 .bf16) : FVec Ideal S32x256x8x96 .f32 :=
  concatenate S32x256x8x96 3 [⟨S32x256x8x64, shapeCast S32x256x8x64 (extf .f32 a8 bitsLt_bf16_f32) shapeCasts_S8192x512_S32x256x8x64⟩, ⟨S32x256x8x32, concatenate S32x256x8x32 2 [⟨S32x256x4x32, shapeCast S32x256x4x32 (extf .f32 a9 bitsLt_bf16_f32) shapeCasts_S8192x128_S32x256x4x32⟩, ⟨S32x256x4x32, shapeCast S32x256x4x32 (extf .f32 a9 bitsLt_bf16_f32) shapeCasts_S8192x128_S32x256x4x32⟩] concatenates_S32x256x4x32_S32x256x4x32_S32x256x8x32_d2⟩] concatenates_S32x256x8x64_S32x256x8x32_S32x256x8x96_d3

/-- The neighbourhood heads' scores. -/
def nScores (q k : FVec Ideal S32x256x8x64 .f32) : FVec Ideal S32x8x256x256 .f32 :=
  Host.dotGeneral dot_S32x256x8x64_S32x256x8x64_S32x8x256x256_3_3_1_1_02_02 none q k

/-- The latent heads' scores. -/
def mScores (q k : FVec Ideal S32x256x8x96 .f32) : FVec Ideal S32x8x256x256 .f32 :=
  Host.dotGeneral dot_S32x256x8x96_S32x256x8x96_S32x8x256x256_3_3_1_1_02_02 none q k

/-- The largest score of each row, as the reduction leaves it. -/
def topRaw (s : FVec Ideal S32x8x256x256 .f32) : FVec Ideal S32x8x256 .f32 :=
  Host.reduce FloatOps.maximumf s (constant S_ .f32 0xFF800000#32) reducesTo_S32x8x256x256_S32x8x256_d3 h_S_

/-- The largest score of each row. -/
def top (t : FVec Ideal S32x8x256 .f32) : FVec Ideal S32x8x256 .f32 :=
  maximumf (broadcastInDim S32x8x256 ![] bcast_S_S32x8x256 (constant S_ .f32 0xFF800000#32)) t

/-- The exponential of each score less the largest one of its row. -/
def expo (s : FVec Ideal S32x8x256x256 .f32) (t : FVec Ideal S32x8x256 .f32) : FVec Ideal S32x8x256x256 .f32 :=
  Host.exp (subf s (broadcastInDim S32x8x256x256 ![0, 1, 2, 3] bcast_S32x8x256x1_S32x8x256x256_0_1_2_3 (broadcastInDim S32x8x256x1 ![0, 1, 2] bcast_S32x8x256_S32x8x256x1_0_1_2 t)))

/-- Softmax: each exponential over the sum of its row. -/
def probs (e : FVec Ideal S32x8x256x256 .f32) : FVec Ideal S32x8x256x256 .f32 :=
  Host.divf e (broadcastInDim S32x8x256x256 ![0, 1, 2, 3] bcast_S32x8x256x1_S32x8x256x256_0_1_2_3 (broadcastInDim S32x8x256x1 ![0, 1, 2] bcast_S32x8x256_S32x8x256x1_0_1_2 (Host.reduceAdd e (constant S_ .f32 0x00000000#32) reducesTo_S32x8x256x256_S32x8x256_d3 h_S_)))

/-- The values weighted by the softmax, the heads side by side. -/
def out (v : FVec Ideal S32x256x8x64 .f32) (p : FVec Ideal S32x8x256x256 .f32) : FVec Ideal S8192x512 .bf16 :=
  truncf .bf16 (shapeCast S8192x512 (transpose S32x256x8x64 [0, 3, 1, 2] (Host.dotGeneral dot_S32x256x8x64_S32x8x256x256_S32x8x64x256_1_3_3_2_02_01 none v p) transposes_S32x8x64x256_S32x256x8x64_0_3_1_2) shapeCasts_S32x256x8x64_S8192x512) bitsLt_bf16_f32

theorem heads_at (x : FVec Ideal S8192x512 .f32) (b : Fin 32) (n : Fin 256) (h : Fin 8) (d : Fin 64) :
    heads x (ix4 b n h d) = x (ix2 ⟨b * 256 + n, by omega⟩ ⟨h * 64 + d, by omega⟩) := by
  pointwise [heads]

theorem queries_lo (a6 : FVec Ideal S8192x512 .bf16) (a7 : FVec Ideal S8192x256 .bf16) (b : Fin 32) (n : Fin 256) (h : Fin 8) (x : Fin 64) :
    queries a6 a7 (ix4 b n h ⟨x, by omega⟩) = a6 (ix2 ⟨b * 256 + n, by omega⟩ ⟨h * 64 + x, by omega⟩) := by
  pointwise [queries]
theorem queries_hi (a6 : FVec Ideal S8192x512 .bf16) (a7 : FVec Ideal S8192x256 .bf16) (b : Fin 32) (n : Fin 256) (h : Fin 8) (x : Fin 32) :
    queries a6 a7 (ix4 b n h ⟨64 + x, by omega⟩) = a7 (ix2 ⟨b * 256 + n, by omega⟩ ⟨h * 32 + x, by omega⟩) := by
  pointwise [queries]

theorem keys_lo (a8 : FVec Ideal S8192x512 .bf16) (a9 : FVec Ideal S8192x128 .bf16) (b : Fin 32) (k : Fin 256) (h : Fin 8) (x : Fin 64) :
    keys a8 a9 (ix4 b k h ⟨x, by omega⟩) = a8 (ix2 ⟨b * 256 + k, by omega⟩ ⟨h * 64 + x, by omega⟩) := by
  pointwise [keys]
theorem keys_hi (a8 : FVec Ideal S8192x512 .bf16) (a9 : FVec Ideal S8192x128 .bf16) (b : Fin 32) (k : Fin 256) (h : Fin 8) (x : Fin 32) :
    keys a8 a9 (ix4 b k h ⟨64 + x, by omega⟩) = a9 (ix2 ⟨b * 256 + k, by omega⟩ ⟨h % 4 * 32 + x, by omega⟩) := by
  have e : keys a8 a9 (ix4 b k h ⟨64 + x, by omega⟩)
      = if _h : (h : ℕ) < 4 then a9 (ix2 ⟨b * 256 + k, by omega⟩ ⟨h * 32 + x, by omega⟩) else a9 (ix2 ⟨b * 256 + k, by omega⟩ ⟨(h - 4) * 32 + x, by omega⟩) := by
    pointwise [keys]
  rw [e]
  split
  · exact congrArg (fun z : Fin 128 => a9 (ix2 ⟨b * 256 + k, by omega⟩ z)) (Fin.ext (by show (h : ℕ) * 32 + x = h % 4 * 32 + x; omega))
  · exact congrArg (fun z : Fin 128 => a9 (ix2 ⟨b * 256 + k, by omega⟩ z)) (Fin.ext (by show ((h : ℕ) - 4) * 32 + x = h % 4 * 32 + x; omega))

theorem nScores_at (q k : FVec Ideal S32x256x8x64 .f32) (b : Fin 32) (h : Fin 8) (n j : Fin 256) :
    nScores q k (ix4 b h n j) = ∑ x : Fin 64, q (ix4 b n h x) * k (ix4 b j h x) := by
  pointwise [nScores]
theorem mScores_at (q k : FVec Ideal S32x256x8x96 .f32) (b : Fin 32) (h : Fin 8) (n j : Fin 256) :
    mScores q k (ix4 b h n j) = ∑ x : Fin 96, q (ix4 b n h x) * k (ix4 b j h x) := by
  pointwise [mScores]

/-- A sum over 96 lanes as the plain lanes' and the rotary lanes'. -/
theorem split96 (f : Fin 96 → EReal) : ∑ x : Fin 96, f x = ∑ x : Fin 64, f ⟨x, by omega⟩ + ∑ x : Fin 32, f ⟨64 + x, by omega⟩ :=
  Fin.sum_univ_add (a := 64) (b := 32) f

theorem topRaw_gen (s : FVec Ideal S32x8x256x256 .f32) (z : FVec Ideal S_ .f32) (b : Fin 32) (h : Fin 8) (n : Fin 256) :
    Host.reduce FloatOps.maximumf s z reducesTo_S32x8x256x256_S32x8x256_d3 h_S_ (ix3 b h n)
    = Finset.univ.fold max (z (Shape.Idx.first h_S_)) fun k : Fin 256 => s (ix4 b h n k) := by
  pointwise

theorem topRaw_at (s : FVec Ideal S32x8x256x256 .f32) (b : Fin 32) (h : Fin 8) (n : Fin 256) : topRaw s (ix3 b h n)
    = Finset.univ.fold max (Ideal.ofBits .f32 0xFF800000#32) fun k : Fin 256 => s (ix4 b h n k) :=
  topRaw_gen s _ b h n

theorem top_at (t : FVec Ideal S32x8x256 .f32) (b : Fin 32) (h : Fin 8) (n : Fin 256) :
    top t (ix3 b h n) = max (Ideal.ofBits .f32 0xFF800000#32) (t (ix3 b h n)) := by
  pointwise [top]

theorem expo_at (s : FVec Ideal S32x8x256x256 .f32) (t : FVec Ideal S32x8x256 .f32) (b : Fin 32) (h : Fin 8) (n : Fin 256) (k : Fin 256) :
    expo s t (ix4 b h n k) = Ideal.exp (s (ix4 b h n k) - t (ix3 b h n)) := by
  pointwise [expo]

theorem probs_at (e : FVec Ideal S32x8x256x256 .f32) (b : Fin 32) (h : Fin 8) (n : Fin 256) (k : Fin 256) :
    probs e (ix4 b h n k) = Ideal.div (e (ix4 b h n k)) (∑ j : Fin 256, e (ix4 b h n j)) := by
  pointwise [probs]

theorem out_at (v : FVec Ideal S32x256x8x64 .f32) (p : FVec Ideal S32x8x256x256 .f32) (b : Fin 32) (h : Fin 8) (n : Fin 256) (e : Fin 64) :
    out v p (ix2 ⟨b * 256 + n, by omega⟩ ⟨h * 64 + e, by omega⟩) = ∑ k : Fin 256, v (ix4 b k h e) * p (ix4 b h n k) := by
  have hr : (⟨(b * 256 + n : ℕ) / 256, by omega⟩ : Fin 32) = b := Fin.ext (by show (b * 256 + n : ℕ) / 256 = b; omega)
  have hn : (⟨(b * 256 + n : ℕ) % 256, by omega⟩ : Fin 256) = n := Fin.ext (by show (b * 256 + n : ℕ) % 256 = n; omega)
  have hh : (⟨(h * 64 + e : ℕ) / 64, by omega⟩ : Fin 8) = h := Fin.ext (by show (h * 64 + e : ℕ) / 64 = h; omega)
  have he : (⟨(h * 64 + e : ℕ) % 64, by omega⟩ : Fin 64) = e := Fin.ext (by show (h * 64 + e : ℕ) % 64 = e; omega)
  pointwise [out]

/-- Softmax attention over given scores. -/
def attend (s : FVec Ideal S32x8x256x256 .f32) (v : FVec Ideal S32x256x8x64 .f32) : FVec Ideal S8192x512 .bf16 :=
  out v (probs (expo s (top (topRaw s))))

theorem attend_at (s : FVec Ideal S32x8x256x256 .f32) (v : FVec Ideal S32x256x8x64 .f32) (b : Fin 32) (h : Fin 8) (n : Fin 256) (e : Fin 64) :
    attend s v (ix2 ⟨b * 256 + n, by omega⟩ ⟨h * 64 + e, by omega⟩)
      = ∑ k : Fin 256, v (ix4 b k h e) * Cert.Soft.prob (fun k : Fin 256 => s (ix4 b h n k)) k := by
  unfold attend Cert.Soft.prob
  rw [out_at]
  simp only [probs_at, expo_at, top_at, topRaw_at]

/-- The neighbourhood attention's result over its arguments. -/
def refN (a3 : FVec Ideal S8192x512 .bf16) (a4 a5 : FVec Ideal S8192x512 .f32) : FVec Ideal S8192x512 .bf16 :=
  attend (nScores (heads (extf .f32 a3 bitsLt_bf16_f32)) (heads a4)) (heads a5)

/-- The latent attention's result over its arguments. -/
def refM (a6 : FVec Ideal S8192x512 .bf16) (a7 : FVec Ideal S8192x256 .bf16) (a8 : FVec Ideal S8192x512 .bf16) (a9 : FVec Ideal S8192x128 .bf16)
    (a10 : FVec Ideal S8192x512 .bf16) : FVec Ideal S8192x512 .bf16 :=
  attend (mScores (queries a6 a7) (keys a8 a9)) (heads (extf .f32 a10 bitsLt_bf16_f32))

/-- The stages composed are the latent attention's result. -/
theorem resultM_eq (m : (ℓ : Loc nD τ sig) → Buf (Elt Ideal) ℓ) (c : Dev nD) : Cert.ContextReferenceIdeal.Value.res_out2 m c
    = refM (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) := by
  unfold Cert.ContextReferenceIdeal.Value.res_out2 Cert.ContextReferenceIdeal.Value.res_main_v106
  rfl

end Cert.ContextReferenceIdeal.Stages

end
-- ==== Proof.ContextDiff.lean ====
module

public import proofs.«01_k».proof.Proof.Gen.ContextReferenceIdeal.Run
public import Idealize.ShloMosaic.Lib.Pipeline.ValueKit
public import Idealize.ShloMosaic.Lib.Pointwise
public import proofs.«01_k».proof.Proof.ContextSoft

@[expose] public section

set_option maxRecDepth 16384

noncomputable section

/-! The reference of the prompt's differential attention, stage by stage. -/
namespace Cert.ContextReferenceIdeal.Diff

open Cert.ContextReferenceIdeal Cert.ContextReferenceIdeal.Gen
open Idealize.ShloMosaic Idealize.ShloMosaic.TcCoe Idealize.SL.Sem

/-- The weight of the second map. -/
def lam2 (arg5 : FVec Ideal S4x64 .f32) : FVec Ideal S_ .f32 :=
  (addf (subf (Host.exp (Host.reduceAdd (mulf (shapeCast S64 (extractStridedSlice S1x64 ![0, 0] arg5 slices_S4x64_S1x64_0_0) shapeCasts_S1x64_S64) (shapeCast S64 (extractStridedSlice S1x64 ![1, 0] arg5 slices_S4x64_S1x64_1_0) shapeCasts_S1x64_S64)) (constant S_ .f32 0x00000000#32) reducesTo_S64_S_d0 h_S_)) (Host.exp (Host.reduceAdd (mulf (shapeCast S64 (extractStridedSlice S1x64 ![2, 0] arg5 slices_S4x64_S1x64_2_0) shapeCasts_S1x64_S64) (shapeCast S64 (extractStridedSlice S1x64 ![3, 0] arg5 slices_S4x64_S1x64_3_0) shapeCasts_S1x64_S64)) (constant S_ .f32 0x00000000#32) reducesTo_S64_S_d0 h_S_))) (constant S_ .f32 0x3E4CCCCD#32))

/-- The scores: 64-lane dot products of the two maps. -/
def scores (a0 : FVec Ideal S8192x512 .bf16) (a1 : FVec Ideal S8192x512 .f32) : FVec Ideal S32x4x2x256x256 .f32 :=
  Host.dotGeneral dot_S32x256x4x2x64_S32x256x4x2x64_S32x4x2x256x256_4_4_1_1_023_023 none (shapeCast S32x256x4x2x64 (extf .f32 a0 bitsLt_bf16_f32) shapeCasts_S8192x512_S32x256x4x2x64) (shapeCast S32x256x4x2x64 a1 shapeCasts_S8192x512_S32x256x4x2x64)

/-- The values of the four heads. -/
def values (a2 : FVec Ideal S8192x512 .f32) : FVec Ideal S32x256x4x128 .f32 := shapeCast S32x256x4x128 a2 shapeCasts_S8192x512_S32x256x4x128

theorem scores_at (a0 : FVec Ideal S8192x512 .bf16) (a1 : FVec Ideal S8192x512 .f32) (b : Fin 32) (h : Fin 4) (mm : Fin 2) (n k : Fin 256) :
    scores a0 a1 (ix5 b h mm n k) = ∑ x : Fin 64, a0 (ix2 ⟨b * 256 + n, by omega⟩ ⟨h * 128 + mm * 64 + x, by omega⟩)
        * a1 (ix2 ⟨b * 256 + k, by omega⟩ ⟨h * 128 + mm * 64 + x, by omega⟩) := by
  pointwise [scores]
theorem values_at (a2 : FVec Ideal S8192x512 .f32) (b : Fin 32) (h : Fin 4) (k : Fin 256) (e : Fin 128) :
    values a2 (ix4 b k h e) = a2 (ix2 ⟨b * 256 + k, by omega⟩ ⟨h * 128 + e, by omega⟩) := by
  pointwise [values]

/-- The largest score of each row, as the reduction leaves it. -/
def topRaw (scores_ : FVec Ideal S32x4x2x256x256 .f32) : FVec Ideal S32x4x2x256 .f32 :=
  (Host.reduce FloatOps.maximumf scores_ (constant S_ .f32 0xFF800000#32) reducesTo_S32x4x2x256x256_S32x4x2x256_d4 h_S_)

/-- The largest score of each row. -/
def top (topRaw_ : FVec Ideal S32x4x2x256 .f32) : FVec Ideal S32x4x2x256 .f32 :=
  (maximumf (broadcastInDim S32x4x2x256 ![] bcast_S_S32x4x2x256 (constant S_ .f32 0xFF800000#32)) topRaw_)

/-- The exponential of each score less the largest one of its row. -/
def expo (scores_ : FVec Ideal S32x4x2x256x256 .f32) (top_ : FVec Ideal S32x4x2x256 .f32) : FVec Ideal S32x4x2x256x256 .f32 :=
  (Host.exp (subf scores_ (broadcastInDim S32x4x2x256x256 ![0, 1, 2, 3, 4] bcast_S32x4x2x256x1_S32x4x2x256x256_0_1_2_3_4 (broadcastInDim S32x4x2x256x1 ![0, 1, 2, 3] bcast_S32x4x2x256_S32x4x2x256x1_0_1_2_3 top_))))

/-- Softmax: each exponential over the sum of its row. -/
def probs (expo_ : FVec Ideal S32x4x2x256x256 .f32) : FVec Ideal S32x4x2x256x256 .f32 :=
  (Host.divf expo_ (broadcastInDim S32x4x2x256x256 ![0, 1, 2, 3, 4] bcast_S32x4x2x256x1_S32x4x2x256x256_0_1_2_3_4 (broadcastInDim S32x4x2x256x1 ![0, 1, 2, 3] bcast_S32x4x2x256_S32x4x2x256x1_0_1_2_3 (Host.reduceAdd expo_ (constant S_ .f32 0x00000000#32) reducesTo_S32x4x2x256x256_S32x4x2x256_d4 h_S_))))

/-- The values weighted by the difference of the two maps. -/
def mix (values_ : FVec Ideal S32x256x4x128 .f32) (lam2_ : FVec Ideal S_ .f32) (probs_ : FVec Ideal S32x4x2x256x256 .f32) : FVec Ideal S32x256x4x128 .f32 :=
  (transpose S32x256x4x128 [0, 3, 1, 2] (Host.dotGeneral dot_S32x256x4x128_S32x4x256x256_S32x4x128x256_1_3_3_2_02_01 none values_ (subf (shapeCast S32x4x256x256 (extractStridedSlice S32x4x1x256x256 ![0, 0, 0, 0, 0] probs_ slices_S32x4x2x256x256_S32x4x1x256x256_0_0_0_0_0) shapeCasts_S32x4x1x256x256_S32x4x256x256) (mulf (broadcastInDim S32x4x256x256 ![] bcast_S_S32x4x256x256 lam2_) (shapeCast S32x4x256x256 (extractStridedSlice S32x4x1x256x256 ![0, 0, 1, 0, 0] probs_ slices_S32x4x2x256x256_S32x4x1x256x256_0_0_1_0_0) shapeCasts_S32x4x1x256x256_S32x4x256x256)))) transposes_S32x4x128x256_S32x256x4x128_0_3_1_2)

/-- The norm of each head's row with the gain, the factor `1 - lambda_init`, and the heads side by side. -/
def diffOut (arg6 : FVec Ideal S128 .f32) (mix_ : FVec Ideal S32x256x4x128 .f32) : FVec Ideal S8192x512 .bf16 :=
  (truncf .bf16 (shapeCast S8192x512 (mulf (mulf (mulf mix_ (broadcastInDim S32x256x4x128 ![0, 1, 2, 3] bcast_S32x256x4x1_S32x256x4x128_0_1_2_3 (Host.rsqrt (addf (Host.divf (broadcastInDim S32x256x4x1 ![0, 1, 2] bcast_S32x256x4_S32x256x4x1_0_1_2 (Host.reduceAdd (mulf mix_ mix_) (constant S_ .f32 0x00000000#32) reducesTo_S32x256x4x128_S32x256x4_d3 h_S_)) (broadcastInDim S32x256x4x1 ![] bcast_S_S32x256x4x1 (constant S_ .f32 0x43000000#32))) (broadcastInDim S32x256x4x1 ![] bcast_S_S32x256x4x1 (constant S_ .f32 0x358637BD#32)))))) (broadcastInDim S32x256x4x128 ![0, 1, 2, 3] bcast_S1x1x1x128_S32x256x4x128_0_1_2_3 (broadcastInDim S1x1x1x128 ![3] bcast_S128_S1x1x1x128_3 arg6))) (broadcastInDim S32x256x4x128 ![] bcast_S_S32x256x4x128 (constant S_ .f32 0x3F4CCCCD#32))) shapeCasts_S32x256x4x128_S8192x512) bitsLt_bf16_f32)

/-- The weight of the second map, from the four lambda vectors. -/
theorem lam2_at (a5 : FVec Ideal S4x64 .f32) : lam2 a5 ix0
    = Ideal.exp (∑ x : Fin 64, a5 (ix2 0 x) * a5 (ix2 1 x)) - Ideal.exp (∑ x : Fin 64, a5 (ix2 2 x) * a5 (ix2 3 x))
      + Ideal.ofBits .f32 0x3E4CCCCD#32 := by
  pointwise [lam2]

/-- The reduction by maximum at an index, from any initial value. -/
theorem topRaw_gen (s : FVec Ideal S32x4x2x256x256 .f32) (z : FVec Ideal S_ .f32) (b : Fin 32) (h : Fin 4) (mm : Fin 2)
    (n : Fin 256) : Host.reduce FloatOps.maximumf s z reducesTo_S32x4x2x256x256_S32x4x2x256_d4 h_S_ (ix4 b h mm n)
    = Finset.univ.fold max (z (Shape.Idx.first h_S_)) fun k : Fin 256 => s (ix5 b h mm n k) := by
  pointwise

theorem topRaw_at (s : FVec Ideal S32x4x2x256x256 .f32) (b : Fin 32) (h : Fin 4) (mm : Fin 2)
    (n : Fin 256) : topRaw s (ix4 b h mm n)
    = Finset.univ.fold max (Ideal.ofBits .f32 0xFF800000#32) fun k : Fin 256 => s (ix5 b h mm n k) :=
  topRaw_gen s _ b h mm n

theorem top_at (q : FVec Ideal S32x4x2x256 .f32) (b : Fin 32) (h : Fin 4) (mm : Fin 2) (n : Fin 256) :
    top q (ix4 b h mm n) = max (Ideal.ofBits .f32 0xFF800000#32) (q (ix4 b h mm n)) := by
  pointwise [top]

theorem expo_at (s : FVec Ideal S32x4x2x256x256 .f32) (q : FVec Ideal S32x4x2x256 .f32) (b : Fin 32) (h : Fin 4)
    (mm : Fin 2) (n : Fin 256) (k : Fin 256) :
    expo s q (ix5 b h mm n k) = Ideal.exp (s (ix5 b h mm n k) - q (ix4 b h mm n)) := by
  pointwise [expo]

theorem probs_at (e : FVec Ideal S32x4x2x256x256 .f32) (b : Fin 32) (h : Fin 4)
    (mm : Fin 2) (n : Fin 256) (k : Fin 256) :
    probs e (ix5 b h mm n k) = Ideal.div (e (ix5 b h mm n k)) (∑ j : Fin 256, e (ix5 b h mm n j)) := by
  pointwise [probs]

theorem mix_at (v : FVec Ideal S32x256x4x128 .f32) (l : FVec Ideal S_ .f32) (p : FVec Ideal S32x4x2x256x256 .f32)
    (b : Fin 32) (h : Fin 4) (n : Fin 256) (e : Fin 128) : mix v l p (ix4 b n h e)
    = ∑ k : Fin 256, v (ix4 b k h e) * (p (ix5 b h 0 n k) - l ix0 * p (ix5 b h 1 n k)) := by
  pointwise [mix]

/-- The root-mean-square norm with gain, and the factor `1 - lambda_init`, at an index. -/
theorem diffOut_at (g : FVec Ideal S128 .f32) (o : FVec Ideal S32x256x4x128 .f32) (b : Fin 32) (h : Fin 4)
    (n : Fin 256) (e : Fin 128) : diffOut g o (ix2 ⟨b * 256 + n, by omega⟩ ⟨h * 128 + e, by omega⟩)
    = o (ix4 b n h e) * Ideal.rsqrt (Ideal.div (∑ x : Fin 128, o (ix4 b n h x) * o (ix4 b n h x))
          (Ideal.ofBits .f32 0x43000000#32) + Ideal.ofBits .f32 0x358637BD#32) * g (ix1 e)
        * Ideal.ofBits .f32 0x3F4CCCCD#32 := by
  have hr : (⟨(b * 256 + n : ℕ) / 256, by omega⟩ : Fin 32) = b := Fin.ext (by show (b * 256 + n : ℕ) / 256 = b; omega)
  have hn : (⟨(b * 256 + n : ℕ) % 256, by omega⟩ : Fin 256) = n := Fin.ext (by show (b * 256 + n : ℕ) % 256 = n; omega)
  have hh : (⟨(h * 128 + e : ℕ) / 128, by omega⟩ : Fin 4) = h := Fin.ext (by show (h * 128 + e : ℕ) / 128 = h; omega)
  have he : (⟨(h * 128 + e : ℕ) % 128, by omega⟩ : Fin 128) = e := Fin.ext (by show (h * 128 + e : ℕ) % 128 = e; omega)
  pointwise [diffOut]

/-- The differential attention's result over its arguments. -/
def ref (a0 : FVec Ideal S8192x512 .bf16) (a1 a2 : FVec Ideal S8192x512 .f32) (a11 : FVec Ideal S4x64 .f32) (a12 : FVec Ideal S128 .f32) :
    FVec Ideal S8192x512 .bf16 :=
  diffOut a12 (mix (values a2) (lam2 a11) (probs (expo (scores a0 a1) (top (topRaw (scores a0 a1))))))

/-- The reference at a row of one head: the values weighted by the difference of two softmaxes, then the norm. -/
theorem ref_at (a0 : FVec Ideal S8192x512 .bf16) (a1 a2 : FVec Ideal S8192x512 .f32) (a11 : FVec Ideal S4x64 .f32) (a12 : FVec Ideal S128 .f32)
    (b : Fin 32) (h : Fin 4) (n : Fin 256) (e : Fin 128) :
    ref a0 a1 a2 a11 a12 (ix2 ⟨b * 256 + n, by omega⟩ ⟨h * 128 + e, by omega⟩)
      = Cert.Soft.norm128 (fun e : Fin 128 => ∑ k : Fin 256, values a2 (ix4 b k h e)
          * (Cert.Soft.prob (fun k : Fin 256 => scores a0 a1 (ix5 b h 0 n k)) k
            - lam2 a11 ix0 * Cert.Soft.prob (fun k : Fin 256 => scores a0 a1 (ix5 b h 1 n k)) k)) (a12 (ix1 e)) e := by
  unfold ref Cert.Soft.norm128 Cert.Soft.prob
  rw [diffOut_at]
  simp only [mix_at, probs_at, expo_at, top_at, topRaw_at]

/-- The stages composed are the reference's result. -/
theorem result_eq (m : (ℓ : Loc nD τ sig) → Buf (Elt Ideal) ℓ) (c : Dev nD) : Cert.ContextReferenceIdeal.Value.res_out0 m c
    = ref (m ((c.tc : Thread nD τ).loc main_arg0)) (m ((c.tc : Thread nD τ).loc main_arg1)) (m ((c.tc : Thread nD τ).loc main_arg2))
        (m ((c.tc : Thread nD τ).loc main_arg11)) (m ((c.tc : Thread nD τ).loc main_arg12)) := by
  unfold Cert.ContextReferenceIdeal.Value.res_out0 Cert.ContextReferenceIdeal.Value.res_main_v57
  rfl

end Cert.ContextReferenceIdeal.Diff

end
-- ==== Proof.ContextRow.lean ====
module

public import proofs.«01_k».proof.Proof.ContextPairs
public import proofs.«01_k».proof.Proof.ContextRef
public import proofs.«01_k».proof.Proof.ContextDiff

@[expose] public section

set_option maxRecDepth 16384

noncomputable section

/-! One row of one head of the prompt's attentions: what the kernel's block holds is the reference's row. -/
namespace Cert.ContextRow

open Cert.ContextReferenceIdeal
open Idealize.ShloMosaic Idealize.ShloMosaic.TcCoe Idealize.SL.Sem

/-- An array at two indices of the same coordinates. -/
theorem at2 {n k : ℕ} (X : Shape.Idx ⟨2, ![n, k]⟩ → EReal) (a a' : Fin n) (b b' : Fin k) (ha : (a : ℕ) = a') (hb : (b : ℕ) = b') :
    X (ix2 a b) = X (ix2 a' b') := by
  rw [Fin.ext ha, Fin.ext hb]

/-- A row of one head of the differential attention. -/
theorem diff_row (a0 : FVec Ideal S8192x512 .bf16) (a1 a2 : FVec Ideal S8192x512 .f32) (a11 : FVec Ideal S4x64 .f32) (a12 : FVec Ideal S128 .f32)
    (h0 : ∀ i, ∃ r : ℝ, a0 i = (r : EReal)) (h1 : ∀ i, ∃ r : ℝ, a1 i = (r : EReal)) (b : Fin 32) (h : Fin 4) (i : Fin 256) (e : Fin 128)
    (lam : Vec Ideal Cert.ContextIdeal.S4x64 .f32) (g : Vec Ideal Cert.ContextIdeal.S1x128 .f32) (q : Vec Ideal Cert.ContextIdeal.S256x128 .bf16)
    (k v : Vec Ideal Cert.ContextIdeal.S256x128 .f32)
    (hlam : ∀ (a : Fin 4) (d : Fin 64), lam (ix2 a d) = a11 (ix2 a d)) (hg : ∀ e : Fin 128, g (ix2 0 e) = a12 (ix1 e))
    (hq : ∀ d : Fin 128, q (ix2 i d) = a0 (ix2 ⟨b * 256 + i, by omega⟩ ⟨h * 128 + d, by omega⟩))
    (hk : ∀ (j : Fin 256) (d : Fin 128), k (ix2 j d) = a1 (ix2 ⟨b * 256 + j, by omega⟩ ⟨h * 128 + d, by omega⟩))
    (hv : ∀ (j : Fin 256) (d : Fin 128), v (ix2 j d) = a2 (ix2 ⟨b * 256 + j, by omega⟩ ⟨h * 128 + d, by omega⟩)) :
    Cert.ContextIdeal.Head.diffTile lam g q k v (ix2 i e)
      = Diff.ref a0 a1 a2 a11 a12 (ix2 ⟨b * 256 + i, by omega⟩ ⟨h * 128 + e, by omega⟩) := by
  rw [Cert.ContextIdeal.Head.diffTile_at, Diff.ref_at, hg]
  refine congrArg (fun o : Fin 128 → EReal => Cert.Soft.norm128 o (a12 (ix1 e)) e) (funext fun e => ?_)
  simp only [hlam, hv, ← Diff.lam2_at]
  have e1 : (fun j : Fin 256 => ∑ x : Fin 64, q (ix2 i ⟨x, by omega⟩) * k (ix2 j ⟨x, by omega⟩)) = fun j : Fin 256 => Diff.scores a0 a1 (ix5 b h 0 i j) := by
    funext j
    rw [Diff.scores_at]
    refine Finset.sum_congr rfl fun x _ => congrArg₂ (· * ·) ((hq _).trans (at2 a0 _ _ _ _ rfl ?_)) ((hk j _).trans (at2 a1 _ _ _ _ rfl ?_))
    · show (h : ℕ) * 128 + x = h * 128 + 0 * 64 + x; omega
    · show (h : ℕ) * 128 + x = h * 128 + 0 * 64 + x; omega
  have e2 : (fun j : Fin 256 => ∑ x : Fin 64, q (ix2 i ⟨64 + x, by omega⟩) * k (ix2 j ⟨64 + x, by omega⟩)) = fun j : Fin 256 => Diff.scores a0 a1 (ix5 b h 1 i j) := by
    funext j
    rw [Diff.scores_at]
    refine Finset.sum_congr rfl fun x _ => congrArg₂ (· * ·) ((hq _).trans (at2 a0 _ _ _ _ rfl ?_)) ((hk j _).trans (at2 a1 _ _ _ _ rfl ?_))
    · show (h : ℕ) * 128 + (64 + x) = h * 128 + 1 * 64 + x; omega
    · show (h : ℕ) * 128 + (64 + x) = h * 128 + 1 * 64 + x; omega
  have r : ∀ (mm : Fin 2) (j : Fin 256), ∃ r : ℝ, Diff.scores a0 a1 (ix5 b h mm i j) = (r : EReal) := fun mm j => by
    rw [Diff.scores_at]
    exact Cert.Soft.dot_ex _ _ (fun d => h0 _) (fun d => h1 _)
  rw [e1, e2, Cert.Soft.diffc_eq (by norm_num) _ _ _ _ (r 0) (r 1)]
  simp only [Diff.values_at]

/-- A row of one head of the neighbourhood attention. -/
theorem na_row (a3 : FVec Ideal S8192x512 .bf16) (a4 a5 : FVec Ideal S8192x512 .f32)
    (h3 : ∀ i, ∃ r : ℝ, a3 i = (r : EReal)) (h4 : ∀ i, ∃ r : ℝ, a4 i = (r : EReal)) (b : Fin 32) (h : Fin 8) (i : Fin 256) (e : Fin 64) (hh : Fin 2)
    (q : Vec Ideal Cert.ContextIdeal.S256x128 .bf16) (k v : Vec Ideal Cert.ContextIdeal.S256x128 .f32)
    (hq : ∀ x : Fin 64, q (ix2 i ⟨hh * 64 + x, by omega⟩) = a3 (ix2 ⟨b * 256 + i, by omega⟩ ⟨h * 64 + x, by omega⟩))
    (hk : ∀ (j : Fin 256) (x : Fin 64), k (ix2 j ⟨hh * 64 + x, by omega⟩) = a4 (ix2 ⟨b * 256 + j, by omega⟩ ⟨h * 64 + x, by omega⟩))
    (hv : ∀ (j : Fin 256) (x : Fin 64), v (ix2 j ⟨hh * 64 + x, by omega⟩) = a5 (ix2 ⟨b * 256 + j, by omega⟩ ⟨h * 64 + x, by omega⟩)) :
    Cert.ContextIdeal.Head.naVal hh q k v i ⟨hh * 64 + e, by omega⟩
      = Stages.refN a3 a4 a5 (ix2 ⟨b * 256 + i, by omega⟩ ⟨h * 64 + e, by omega⟩) := by
  unfold Cert.ContextIdeal.Head.naVal Stages.refN
  rw [Stages.attend_at]
  simp only [hq, hk, hv]
  have r : ∀ j : Fin 256, ∃ r : ℝ, (∑ x : Fin 64, a3 (ix2 ⟨b * 256 + i, by omega⟩ ⟨h * 64 + x, by omega⟩)
      * a4 (ix2 ⟨b * 256 + j, by omega⟩ ⟨h * 64 + x, by omega⟩) : EReal) = (r : EReal) := fun j =>
    Cert.Soft.dot_ex _ _ (fun d => h3 _) (fun d => h4 _)
  refine (Cert.Soft.mixc_eq (by norm_num) _ _ r).trans ?_
  simp only [Stages.nScores_at, Stages.heads_at]
  rfl

/-- A row of one head of the latent attention. -/
theorem mla_row (a6 : FVec Ideal S8192x512 .bf16) (a7 : FVec Ideal S8192x256 .bf16) (a8 : FVec Ideal S8192x512 .bf16) (a9 : FVec Ideal S8192x128 .bf16)
    (a10 : FVec Ideal S8192x512 .bf16) (h6 : ∀ i, ∃ r : ℝ, a6 i = (r : EReal)) (h7 : ∀ i, ∃ r : ℝ, a7 i = (r : EReal))
    (h8 : ∀ i, ∃ r : ℝ, a8 i = (r : EReal)) (h9 : ∀ i, ∃ r : ℝ, a9 i = (r : EReal))
    (b : Fin 32) (h : Fin 8) (i : Fin 256) (e : Fin 64) (hh : Fin 2) (c : Fin 4) (hc : (c : ℕ) = h % 4)
    (qn qr kn kr v : Vec Ideal Cert.ContextIdeal.S256x128 .bf16)
    (hqn : ∀ x : Fin 64, qn (ix2 i ⟨hh * 64 + x, by omega⟩) = a6 (ix2 ⟨b * 256 + i, by omega⟩ ⟨h * 64 + x, by omega⟩))
    (hqr : ∀ x : Fin 32, qr (ix2 i ⟨c * 32 + x, by omega⟩) = a7 (ix2 ⟨b * 256 + i, by omega⟩ ⟨h * 32 + x, by omega⟩))
    (hkn : ∀ (j : Fin 256) (x : Fin 64), kn (ix2 j ⟨hh * 64 + x, by omega⟩) = a8 (ix2 ⟨b * 256 + j, by omega⟩ ⟨h * 64 + x, by omega⟩))
    (hkr : ∀ (j : Fin 256) (x : Fin 128), kr (ix2 j x) = a9 (ix2 ⟨b * 256 + j, by omega⟩ x))
    (hv : ∀ (j : Fin 256) (x : Fin 64), v (ix2 j ⟨hh * 64 + x, by omega⟩) = a10 (ix2 ⟨b * 256 + j, by omega⟩ ⟨h * 64 + x, by omega⟩)) :
    Cert.ContextIdeal.Head.mlaVal hh c qn qr kn kr v i ⟨hh * 64 + e, by omega⟩
      = Stages.refM a6 a7 a8 a9 a10 (ix2 ⟨b * 256 + i, by omega⟩ ⟨h * 64 + e, by omega⟩) := by
  have hc' : ∀ x : Fin 32, (⟨(h : ℕ) % 4 * 32 + x, by omega⟩ : Fin 128) = ⟨c * 32 + x, by omega⟩ := fun x => Fin.ext (by show (h : ℕ) % 4 * 32 + x = c * 32 + x; omega)
  unfold Cert.ContextIdeal.Head.mlaVal Stages.refM
  rw [Stages.attend_at]
  simp only [hqn, hqr, hkn, hkr, hv]
  have r : ∀ j : Fin 256, ∃ r : ℝ, (∑ x : Fin 64, a6 (ix2 ⟨b * 256 + i, by omega⟩ ⟨h * 64 + x, by omega⟩)
      * a8 (ix2 ⟨b * 256 + j, by omega⟩ ⟨h * 64 + x, by omega⟩) + ∑ x : Fin 32, a7 (ix2 ⟨b * 256 + i, by omega⟩ ⟨h * 32 + x, by omega⟩)
      * a9 (ix2 ⟨b * 256 + j, by omega⟩ ⟨c * 32 + x, by omega⟩) : EReal) = (r : EReal) := fun j =>
    Cert.Soft.add_ex (Cert.Soft.dot_ex _ _ (fun d => h6 _) (fun d => h8 _)) (Cert.Soft.dot_ex _ _ (fun d => h7 _) (fun d => h9 _))
  refine (Cert.Soft.mixc_eq (by norm_num) _ _ r).trans ?_
  simp only [Stages.mScores_at, Stages.split96, Stages.queries_lo, Stages.queries_hi, Stages.keys_lo, Stages.keys_hi, hc', Stages.heads_at]
  rfl

end Cert.ContextRow

end
-- ==== Proof.ContextValue.lean ====
module

public import proofs.«01_k».proof.Proof.Gen.ContextIdeal.Value
public import proofs.«01_k».proof.Proof.ContextRow
public import Idealize.ShloMosaic.Lib.Claim

@[expose] public section

set_option maxRecDepth 16384

noncomputable section

/-! The prompt's attentions: the kernel's three result arrays are the reference's. -/
namespace Cert.ContextIdeal.Arr

open Cert.ContextIdeal Cert.ContextIdeal.Gen
open Idealize.ShloMosaic Idealize.ShloMosaic.TcCoe Idealize.SL.Sem
open Cert.ContextRow (at2)

variable (m : (ℓ : Loc nD τ sig) → Buf (Elt Ideal) ℓ)

/-- The blocks a grid point stages. -/
theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![0, 0]
    ∧ win0_12.index t = ![0, 0] ∧ win0_13.index t = ![t.val, 0] ∧ win0_14.index t = ![t.val, 0]
    ∧ win0_15.index t = ![t.val, 0] :=
  (by decide +kernel : ∀ t : Fin grid0.N, _)

/-- The gain as the kernel receives it: a reshaped argument. -/
theorem V_v0 (c : Dev nD) : V m c main_v0 = shapeCast S1x128 (m ((c : Thread nD τ).loc main_arg12)) shapeCasts_S128_S1x128 := by
  unfold V; after_results; try rfl

theorem blk0_at (c : Dev nD) (t : Fin cfg0.N) (i : Fin 256) (l : Fin 512) (ht : t.val < 32) :
    iblk m c 0 t (ix2 i l) = m ((c : Thread nD τ).loc main_arg0) (ix2 ⟨t.val * 256 + i, by omega⟩ l) := by
  blk_ext [iblk, V, idx_val t]
theorem blk1_at (c : Dev nD) (t : Fin cfg0.N) (i : Fin 256) (l : Fin 512) (ht : t.val < 32) :
    iblk m c 1 t (ix2 i l) = m ((c : Thread nD τ).loc main_arg1) (ix2 ⟨t.val * 256 + i, by omega⟩ l) := by
  blk_ext [iblk, V, idx_val t]
theorem blk2_at (c : Dev nD) (t : Fin cfg0.N) (i : Fin 256) (l : Fin 512) (ht : t.val < 32) :
    iblk m c 2 t (ix2 i l) = m ((c : Thread nD τ).loc main_arg2) (ix2 ⟨t.val * 256 + i, by omega⟩ l) := by
  blk_ext [iblk, V, idx_val t]
theorem blk3_at (c : Dev nD) (t : Fin cfg0.N) (i : Fin 256) (l : Fin 512) (ht : t.val < 32) :
    iblk m c 3 t (ix2 i l) = m ((c : Thread nD τ).loc main_arg3) (ix2 ⟨t.val * 256 + i, by omega⟩ l) := by
  blk_ext [iblk, V, idx_val t]
theorem blk4_at (c : Dev nD) (t : Fin cfg0.N) (i : Fin 256) (l : Fin 512) (ht : t.val < 32) :
    iblk m c 4 t (ix2 i l) = m ((c : Thread nD τ).loc main_arg4) (ix2 ⟨t.val * 256 + i, by omega⟩ l) := by
  blk_ext [iblk, V, idx_val t]
theorem blk5_at (c : Dev nD) (t : Fin cfg0.N) (i : Fin 256) (l : Fin 512) (ht : t.val < 32) :
    iblk m c 5 t (ix2 i l) = m ((c : Thread nD τ).loc main_arg5) (ix2 ⟨t.val * 256 + i, by omega⟩ l) := by
  blk_ext [iblk, V, idx_val t]
theorem blk6_at (c : Dev nD) (t : Fin cfg0.N) (i : Fin 256) (l : Fin 512) (ht : t.val < 32) :
    iblk m c 6 t (ix2 i l) = m ((c : Thread nD τ).loc main_arg6) (ix2 ⟨t.val * 256 + i, by omega⟩ l) := by
  blk_ext [iblk, V, idx_val t]
theorem blk7_at (c : Dev nD) (t : Fin cfg0.N) (i : Fin 256) (l : Fin 256) (ht : t.val < 32) :
    iblk m c 7 t (ix2 i l) = m ((c : Thread nD τ).loc main_arg7) (ix2 ⟨t.val * 256 + i, by omega⟩ l) := by
  blk_ext [iblk, V, idx_val t]
theorem blk8_at (c : Dev nD) (t : Fin cfg0.N) (i : Fin 256) (l : Fin 512) (ht : t.val < 32) :
    iblk m c 8 t (ix2 i l) = m ((c : Thread nD τ).loc main_arg8) (ix2 ⟨t.val * 256 + i, by omega⟩ l) := by
  blk_ext [iblk, V, idx_val t]
theorem blk9_at (c : Dev nD) (t : Fin cfg0.N) (i : Fin 256) (l : Fin 128) (ht : t.val < 32) :
    iblk m c 9 t (ix2 i l) = m ((c : Thread nD τ).loc main_arg9) (ix2 ⟨t.val * 256 + i, by omega⟩ l) := by
  blk_ext [iblk, V, idx_val t]
theorem blk10_at (c : Dev nD) (t : Fin cfg0.N) (i : Fin 256) (l : Fin 512) (ht : t.val < 32) :
    iblk m c 10 t (ix2 i l) = m ((c : Thread nD τ).loc main_arg10) (ix2 ⟨t.val * 256 + i, by omega⟩ l) := by
  blk_ext [iblk, V, idx_val t]
theorem lam_at (c : Dev nD) (t : Fin cfg0.N) (a : Fin 4) (d : Fin 64) :
    iblk m c 11 t (ix2 a d) = m ((c : Thread nD τ).loc main_arg11) (ix2 a d) := by
  blk_ext [iblk, V, idx_val t]
theorem gain_at (c : Dev nD) (t : Fin cfg0.N) (e : Fin 128) :
    iblk m c 12 t (ix2 0 e) = m ((c : Thread nD τ).loc main_arg12) (ix1 e) := by
  blk_simp [iblk]
  rw [V_v0]
  pointwise
  blk_ext [idx_val t]

/-- The reference's arrays of the memory's arguments. -/
abbrev refd (c : Dev nD) : FVec Ideal S8192x512 .bf16 :=
  Cert.ContextReferenceIdeal.Diff.ref (m ((c : Thread nD τ).loc main_arg0)) (m ((c : Thread nD τ).loc main_arg1)) (m ((c : Thread nD τ).loc main_arg2))
    (m ((c : Thread nD τ).loc main_arg11)) (m ((c : Thread nD τ).loc main_arg12))
abbrev refn (c : Dev nD) : FVec Ideal S8192x512 .bf16 :=
  Cert.ContextReferenceIdeal.Stages.refN (m ((c : Thread nD τ).loc main_arg3)) (m ((c : Thread nD τ).loc main_arg4)) (m ((c : Thread nD τ).loc main_arg5))
abbrev refm (c : Dev nD) : FVec Ideal S8192x512 .bf16 :=
  Cert.ContextReferenceIdeal.Stages.refM (m ((c : Thread nD τ).loc main_arg6)) (m ((c : Thread nD τ).loc main_arg7)) (m ((c : Thread nD τ).loc main_arg8))
    (m ((c : Thread nD τ).loc main_arg9)) (m ((c : Thread nD τ).loc main_arg10))

/-- The queries and the keys are reals. -/
structure Fin8 (c : Dev nD) : Prop where
  f0 : ∀ i, ∃ r : ℝ, m ((c : Thread nD τ).loc main_arg0) i = (r : EReal)
  f1 : ∀ i, ∃ r : ℝ, m ((c : Thread nD τ).loc main_arg1) i = (r : EReal)
  f3 : ∀ i, ∃ r : ℝ, m ((c : Thread nD τ).loc main_arg3) i = (r : EReal)
  f4 : ∀ i, ∃ r : ℝ, m ((c : Thread nD τ).loc main_arg4) i = (r : EReal)
  f6 : ∀ i, ∃ r : ℝ, m ((c : Thread nD τ).loc main_arg6) i = (r : EReal)
  f7 : ∀ i, ∃ r : ℝ, m ((c : Thread nD τ).loc main_arg7) i = (r : EReal)
  f8 : ∀ i, ∃ r : ℝ, m ((c : Thread nD τ).loc main_arg8) i = (r : EReal)
  f9 : ∀ i, ∃ r : ℝ, m ((c : Thread nD τ).loc main_arg9) i = (r : EReal)

/-- One head of the differential attention of a block is the reference at the head's lanes. -/
theorem diff_eq (c : Dev nD) (t : Fin cfg0.N) (ht : t.val < 32) (f : Fin8 m c) (h : Fin 4)
    (lam : Vec Ideal S4x64 .f32) (g : Vec Ideal S1x128 .f32) (q : Vec Ideal S256x128 .bf16) (k v : Vec Ideal S256x128 .f32)
    (hlam : ∀ (a : Fin 4) (d : Fin 64), lam (ix2 a d) = iblk m c 11 t (ix2 a d)) (hg : ∀ e : Fin 128, g (ix2 0 e) = iblk m c 12 t (ix2 0 e))
    (hq : ∀ (i : Fin 256) (d : Fin 128), q (ix2 i d) = iblk m c 0 t (ix2 i ⟨h * 128 + d, by omega⟩))
    (hk : ∀ (i : Fin 256) (d : Fin 128), k (ix2 i d) = iblk m c 1 t (ix2 i ⟨h * 128 + d, by omega⟩))
    (hv : ∀ (i : Fin 256) (d : Fin 128), v (ix2 i d) = iblk m c 2 t (ix2 i ⟨h * 128 + d, by omega⟩))
    (x : S256x128.Idx) (j : S8192x512.Idx) (hj0 : (j 0 : ℕ) = t.val * 256 + x 0) (hj1 : (j 1 : ℕ) = h * 128 + x 1) :
    Head.diffTile lam g q k v x = refd m c j := by
  idx_vars x
  have b0 : (x0 : ℕ) < 256 := x0.isLt
  have b1 : (x1 : ℕ) < 128 := x1.isLt
  have hj : j = ix2 ⟨t.val * 256 + x0, by omega⟩ ⟨h * 128 + x1, by omega⟩ := by
    funext a
    refine Fin.ext ?_
    match a with
    | 0 => exact hj0
    | 1 => exact hj1
  rw [hj]
  exact Cert.ContextRow.diff_row _ _ _ _ _ f.f0 f.f1 ⟨t.val, ht⟩ h x0 x1 lam g q k v
    (fun a d => (hlam a d).trans (lam_at m c t a d)) (fun e => (hg e).trans (gain_at m c t e))
    (fun d => (hq x0 d).trans (blk0_at m c t x0 _ ht)) (fun i d => (hk i d).trans (blk1_at m c t i _ ht))
    (fun i d => (hv i d).trans (blk2_at m c t i _ ht))

/-- A pair of heads of the neighbourhood attention of a block is the reference at the pair's lanes. -/
theorem na_eq (c : Dev nD) (t : Fin cfg0.N) (ht : t.val < 32) (f : Fin8 m c) (p : Fin 4)
    (q : Vec Ideal S256x128 .bf16) (k v : Vec Ideal S256x128 .f32)
    (hq : ∀ (i : Fin 256) (d : Fin 128), q (ix2 i d) = iblk m c 3 t (ix2 i ⟨p * 128 + d, by omega⟩))
    (hk : ∀ (i : Fin 256) (d : Fin 128), k (ix2 i d) = iblk m c 4 t (ix2 i ⟨p * 128 + d, by omega⟩))
    (hv : ∀ (i : Fin 256) (d : Fin 128), v (ix2 i d) = iblk m c 5 t (ix2 i ⟨p * 128 + d, by omega⟩))
    (x : S256x128.Idx) (j : S8192x512.Idx) (hj0 : (j 0 : ℕ) = t.val * 256 + x 0) (hj1 : (j 1 : ℕ) = p * 128 + x 1) :
    Head.naTile q k v x = refn m c j := by
  idx_vars x
  have b0 : (x0 : ℕ) < 256 := x0.isLt
  have b1 : (x1 : ℕ) < 128 := x1.isLt
  have hj : j = ix2 ⟨t.val * 256 + x0, by omega⟩ ⟨p * 128 + x1, by omega⟩ := by
    funext a
    refine Fin.ext ?_
    match a with
    | 0 => exact hj0
    | 1 => exact hj1
  rw [hj]
  have row : ∀ (hh : Fin 2) (e : Fin 64), Head.naVal hh q k v x0 ⟨hh * 64 + e, by omega⟩
      = refn m c (ix2 ⟨t.val * 256 + x0, by omega⟩ ⟨(2 * p + hh) * 64 + e, by omega⟩) := fun hh e => by
    have hl : ∀ y : Fin 64, (p : ℕ) * 128 + (hh * 64 + y) = (2 * p + hh) * 64 + y := fun y => by omega
    exact Cert.ContextRow.na_row _ _ _ f.f3 f.f4 ⟨t.val, ht⟩ ⟨2 * p + hh, by omega⟩ x0 e hh q k v
      (fun y => (hq x0 _).trans ((blk3_at m c t x0 _ ht).trans (at2 _ _ _ _ _ rfl (hl y))))
      (fun i y => (hk i _).trans ((blk4_at m c t i _ ht).trans (at2 _ _ _ _ _ rfl (hl y))))
      (fun i y => (hv i _).trans ((blk5_at m c t i _ ht).trans (at2 _ _ _ _ _ rfl (hl y))))
  by_cases hx : (x1 : ℕ) / 64 = 0
  · refine (Head.na_lo q k v x0 x1 hx).trans ?_
    have hlt : (x1 : ℕ) < 64 := by omega
    refine (congrArg (Head.naVal 0 q k v x0) (Fin.ext (by show (x1 : ℕ) = 0 * 64 + x1; omega))).trans ((row 0 ⟨x1, hlt⟩).trans ?_)
    exact at2 _ _ _ _ _ rfl (by show (2 * (p : ℕ) + 0) * 64 + x1 = p * 128 + x1; omega)
  · have hx' : (x1 : ℕ) / 64 = 1 := by omega
    refine (Head.na_hi q k v x0 x1 hx').trans ?_
    refine (congrArg (Head.naVal 1 q k v x0) (Fin.ext (by show (x1 : ℕ) = 1 * 64 + (x1 - 64); omega))).trans ((row 1 ⟨x1 - 64, by omega⟩).trans ?_)
    exact at2 _ _ _ _ _ rfl (by show (2 * (p : ℕ) + 1) * 64 + ((x1 : ℕ) - 64) = p * 128 + x1; omega)

/-- A pair of heads of the latent attention of a block is the reference at the pair's lanes. -/
theorem mla_eq (c : Dev nD) (t : Fin cfg0.N) (ht : t.val < 32) (f : Fin8 m c) (p : Fin 4)
    (c0 c1 : Fin 4) (hc0 : (c0 : ℕ) = (2 * p) % 4) (hc1 : (c1 : ℕ) = (2 * p + 1) % 4) (g : Fin 2) (hg : (g : ℕ) = p / 2)
    (qn qr kn kr v : Vec Ideal S256x128 .bf16)
    (hqn : ∀ (i : Fin 256) (d : Fin 128), qn (ix2 i d) = iblk m c 6 t (ix2 i ⟨p * 128 + d, by omega⟩))
    (hqr : ∀ (i : Fin 256) (d : Fin 128), qr (ix2 i d) = iblk m c 7 t (ix2 i ⟨g * 128 + d, by omega⟩))
    (hkn : ∀ (i : Fin 256) (d : Fin 128), kn (ix2 i d) = iblk m c 8 t (ix2 i ⟨p * 128 + d, by omega⟩))
    (hkr : ∀ (i : Fin 256) (d : Fin 128), kr (ix2 i d) = iblk m c 9 t (ix2 i d))
    (hv : ∀ (i : Fin 256) (d : Fin 128), v (ix2 i d) = iblk m c 10 t (ix2 i ⟨p * 128 + d, by omega⟩))
    (x : S256x128.Idx) (j : S8192x512.Idx) (hj0 : (j 0 : ℕ) = t.val * 256 + x 0) (hj1 : (j 1 : ℕ) = p * 128 + x 1) :
    Head.mlaTile (BitVec.ofNat 32 c0) (BitVec.ofNat 32 c1) qn qr kn kr v x = refm m c j := by
  idx_vars x
  have b0 : (x0 : ℕ) < 256 := x0.isLt
  have b1 : (x1 : ℕ) < 128 := x1.isLt
  have hj : j = ix2 ⟨t.val * 256 + x0, by omega⟩ ⟨p * 128 + x1, by omega⟩ := by
    funext a
    refine Fin.ext ?_
    match a with
    | 0 => exact hj0
    | 1 => exact hj1
  rw [hj]
  have row : ∀ (hh : Fin 2) (cc : Fin 4) (hcc : (cc : ℕ) = (2 * p + hh) % 4) (e : Fin 64), Head.mlaVal hh cc qn qr kn kr v x0 ⟨hh * 64 + e, by omega⟩
      = refm m c (ix2 ⟨t.val * 256 + x0, by omega⟩ ⟨(2 * p + hh) * 64 + e, by omega⟩) := fun hh cc hcc e => by
    have hl : ∀ y : Fin 64, (p : ℕ) * 128 + (hh * 64 + y) = (2 * p + hh) * 64 + y := fun y => by omega
    have hr : ∀ y : Fin 32, (g : ℕ) * 128 + (cc * 32 + y) = (2 * p + hh) * 32 + y := fun y => by omega
    exact Cert.ContextRow.mla_row _ _ _ _ _ f.f6 f.f7 f.f8 f.f9 ⟨t.val, ht⟩ ⟨2 * p + hh, by omega⟩ x0 e hh cc hcc qn qr kn kr v
      (fun y => (hqn x0 _).trans ((blk6_at m c t x0 _ ht).trans (at2 _ _ _ _ _ rfl (hl y))))
      (fun y => (hqr x0 _).trans ((blk7_at m c t x0 _ ht).trans (at2 _ _ _ _ _ rfl (hr y))))
      (fun i y => (hkn i _).trans ((blk8_at m c t i _ ht).trans (at2 _ _ _ _ _ rfl (hl y))))
      (fun i y => (hkr i y).trans (blk9_at m c t i y ht))
      (fun i y => (hv i _).trans ((blk10_at m c t i _ ht).trans (at2 _ _ _ _ _ rfl (hl y))))
  by_cases hx : (x1 : ℕ) / 64 = 0
  · refine (Head.mla_lo c0 c1 qn qr kn kr v x0 x1 hx).trans ?_
    have hlt : (x1 : ℕ) < 64 := by omega
    refine (congrArg (Head.mlaVal 0 c0 qn qr kn kr v x0) (Fin.ext (by show (x1 : ℕ) = 0 * 64 + x1; omega))).trans ((row 0 c0 (by rw [hc0]; rfl) ⟨x1, hlt⟩).trans ?_)
    exact at2 _ _ _ _ _ rfl (by show (2 * (p : ℕ) + 0) * 64 + x1 = p * 128 + x1; omega)
  · have hx' : (x1 : ℕ) / 64 = 1 := by omega
    refine (Head.mla_hi c0 c1 qn qr kn kr v x0 x1 hx').trans ?_
    refine (congrArg (Head.mlaVal 1 c1 qn qr kn kr v x0) (Fin.ext (by show (x1 : ℕ) = 1 * 64 + (x1 - 64); omega))).trans ((row 1 c1 hc1 ⟨x1 - 64, by omega⟩).trans ?_)
    exact at2 _ _ _ _ _ rfl (by show (2 * (p : ℕ) + 1) * 64 + ((x1 : ℕ) - 64) = p * 128 + x1; omega)

/-! The loads: a head's or a pair's lanes of a block. -/

theorem ldb0 (B : Vec Ideal S256x512 .bf16) (i : Fin 256) (d : Fin 128) :
    View.ld B r0_2 (ix2 i d) = B (ix2 i ⟨((0 : Fin 4) : ℕ) * 128 + d, by omega⟩) := by
  pointwise
theorem ldf0 (B : Vec Ideal S256x512 .f32) (i : Fin 256) (d : Fin 128) :
    View.ld B r0_2 (ix2 i d) = B (ix2 i ⟨((0 : Fin 4) : ℕ) * 128 + d, by omega⟩) := by
  pointwise
theorem ldb1 (B : Vec Ideal S256x512 .bf16) (i : Fin 256) (d : Fin 128) :
    View.ld B r0_3 (ix2 i d) = B (ix2 i ⟨((1 : Fin 4) : ℕ) * 128 + d, by omega⟩) := by
  pointwise
theorem ldf1 (B : Vec Ideal S256x512 .f32) (i : Fin 256) (d : Fin 128) :
    View.ld B r0_3 (ix2 i d) = B (ix2 i ⟨((1 : Fin 4) : ℕ) * 128 + d, by omega⟩) := by
  pointwise
theorem ldb2 (B : Vec Ideal S256x512 .bf16) (i : Fin 256) (d : Fin 128) :
    View.ld B r0_4 (ix2 i d) = B (ix2 i ⟨((2 : Fin 4) : ℕ) * 128 + d, by omega⟩) := by
  pointwise
theorem ldf2 (B : Vec Ideal S256x512 .f32) (i : Fin 256) (d : Fin 128) :
    View.ld B r0_4 (ix2 i d) = B (ix2 i ⟨((2 : Fin 4) : ℕ) * 128 + d, by omega⟩) := by
  pointwise
theorem ldb3 (B : Vec Ideal S256x512 .bf16) (i : Fin 256) (d : Fin 128) :
    View.ld B r0_5 (ix2 i d) = B (ix2 i ⟨((3 : Fin 4) : ℕ) * 128 + d, by omega⟩) := by
  pointwise
theorem ldf3 (B : Vec Ideal S256x512 .f32) (i : Fin 256) (d : Fin 128) :
    View.ld B r0_5 (ix2 i d) = B (ix2 i ⟨((3 : Fin 4) : ℕ) * 128 + d, by omega⟩) := by
  pointwise
theorem ldr0 (B : Vec Ideal S256x256 .bf16) (i : Fin 256) (d : Fin 128) :
    View.ld B r0_7 (ix2 i d) = B (ix2 i ⟨((0 : Fin 2) : ℕ) * 128 + d, by omega⟩) := by
  pointwise
theorem ldr1 (B : Vec Ideal S256x256 .bf16) (i : Fin 256) (d : Fin 128) :
    View.ld B r0_8 (ix2 i d) = B (ix2 i ⟨((1 : Fin 2) : ℕ) * 128 + d, by omega⟩) := by
  pointwise
theorem ldk (B : Vec Ideal S256x128 .bf16) (i : Fin 256) (d : Fin 128) : View.ld B r0_6 (ix2 i d) = B (ix2 i d) := by
  pointwise
theorem ldl (B : Vec Ideal S4x64 .f32) (a : Fin 4) (d : Fin 64) : View.ld B r0_0 (ix2 a d) = B (ix2 a d) := by
  pointwise
theorem ldg (B : Vec Ideal S1x128 .f32) (e : Fin 128) : View.ld B r0_1 (ix2 0 e) = B (ix2 0 e) := by
  pointwise

/-- A block of the differential attention at an index of it. -/
theorem point13 (c : Dev nD) (t : Fin cfg0.N) (f : Fin8 m c) (y : S256x512.Idx) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = refd m c (((cfg0.win 13).blk t).view.emb y) := by
  have ht : t.val < 32 := lt_of_lt_of_eq t.isLt N_0
  canon_tiles x h
  · refine (congrFun (Head.diff3 ..) x).trans (diff_eq m c t ht f 3 _ _ _ _ _ (ldl _) (ldg _) (ldb3 _) (ldf3 _) (ldf3 _) x _ ?_ ?_)
    · blk_simp [idx_val t]; try omega
    · blk_simp [idx_val t]; try omega
  · refine (congrFun (Head.diff2 ..) x).trans (diff_eq m c t ht f 2 _ _ _ _ _ (ldl _) (ldg _) (ldb2 _) (ldf2 _) (ldf2 _) x _ ?_ ?_)
    · blk_simp [idx_val t]; try omega
    · blk_simp [idx_val t]; try omega
  · refine (congrFun (Head.diff1 ..) x).trans (diff_eq m c t ht f 1 _ _ _ _ _ (ldl _) (ldg _) (ldb1 _) (ldf1 _) (ldf1 _) x _ ?_ ?_)
    · blk_simp [idx_val t]; try omega
    · blk_simp [idx_val t]; try omega
  · refine (congrFun (Head.diff0 ..) x).trans (diff_eq m c t ht f 0 _ _ _ _ _ (ldl _) (ldg _) (ldb0 _) (ldf0 _) (ldf0 _) x _ ?_ ?_)
    · blk_simp [idx_val t]; try omega
    · blk_simp [idx_val t]; try omega

/-- A block of the neighbourhood attention at an index of it. -/
theorem point14 (c : Dev nD) (t : Fin cfg0.N) (f : Fin8 m c) (y : S256x512.Idx) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = refn m c (((cfg0.win 14).blk t).view.emb y) := by
  have ht : t.val < 32 := lt_of_lt_of_eq t.isLt N_0
  canon_tiles x h
  · refine (congrFun (Head.na3 ..) x).trans (na_eq m c t ht f 3 _ _ _ (ldb3 _) (ldf3 _) (ldf3 _) x _ ?_ ?_)
    · blk_simp [idx_val t]; try omega
    · blk_simp [idx_val t]; try omega
  · refine (congrFun (Head.na2 ..) x).trans (na_eq m c t ht f 2 _ _ _ (ldb2 _) (ldf2 _) (ldf2 _) x _ ?_ ?_)
    · blk_simp [idx_val t]; try omega
    · blk_simp [idx_val t]; try omega
  · refine (congrFun (Head.na1 ..) x).trans (na_eq m c t ht f 1 _ _ _ (ldb1 _) (ldf1 _) (ldf1 _) x _ ?_ ?_)
    · blk_simp [idx_val t]; try omega
    · blk_simp [idx_val t]; try omega
  · refine (congrFun (Head.na0 ..) x).trans (na_eq m c t ht f 0 _ _ _ (ldb0 _) (ldf0 _) (ldf0 _) x _ ?_ ?_)
    · blk_simp [idx_val t]; try omega
    · blk_simp [idx_val t]; try omega

/-- A block of the latent attention at an index of it. -/
theorem point15 (c : Dev nD) (t : Fin cfg0.N) (f : Fin8 m c) (y : S256x512.Idx) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = refm m c (((cfg0.win 15).blk t).view.emb y) := by
  have ht : t.val < 32 := lt_of_lt_of_eq t.isLt N_0
  canon_tiles x h
  · refine (congrFun (Head.mla3 ..) x).trans (mla_eq m c t ht f 3 2 3 (by decide) (by decide) 1 (by decide) _ _ _ _ _ (ldb3 _) (ldr1 _) (ldb3 _) (ldk _) (ldb3 _) x _ ?_ ?_)
    · blk_simp [idx_val t]; try omega
    · blk_simp [idx_val t]; try omega
  · refine (congrFun (Head.mla2 ..) x).trans (mla_eq m c t ht f 2 0 1 (by decide) (by decide) 1 (by decide) _ _ _ _ _ (ldb2 _) (ldr1 _) (ldb2 _) (ldk _) (ldb2 _) x _ ?_ ?_)
    · blk_simp [idx_val t]; try omega
    · blk_simp [idx_val t]; try omega
  · refine (congrFun (Head.mla1 ..) x).trans (mla_eq m c t ht f 1 2 3 (by decide) (by decide) 0 (by decide) _ _ _ _ _ (ldb1 _) (ldr0 _) (ldb1 _) (ldk _) (ldb1 _) x _ ?_ ?_)
    · blk_simp [idx_val t]; try omega
    · blk_simp [idx_val t]; try omega
  · refine (congrFun (Head.mla0 ..) x).trans (mla_eq m c t ht f 0 0 1 (by decide) (by decide) 0 (by decide) _ _ _ _ _ (ldb0 _) (ldr0 _) (ldb0 _) (ldk _) (ldb0 _) x _ ?_ ?_)
    · blk_simp [idx_val t]; try omega
    · blk_simp [idx_val t]; try omega

theorem final13 (c : Dev nD) (f : Fin8 m c) : (dats m 0 c).arrAt 13 cfg0.N = refd m c := by
  refine (dats m 0 c).arrAt_eq_of_covers 13 _ (by decide +kernel) fun t _ y => ?_
  blk_simp
  rw [after0_13]
  exact point13 m c t f y
theorem final14 (c : Dev nD) (f : Fin8 m c) : (dats m 0 c).arrAt 14 cfg0.N = refn m c := by
  refine (dats m 0 c).arrAt_eq_of_covers 14 _ (by decide +kernel) fun t _ y => ?_
  blk_simp
  rw [after0_14]
  exact point14 m c t f y
theorem final15 (c : Dev nD) (f : Fin8 m c) : (dats m 0 c).arrAt 15 cfg0.N = refm m c := by
  refine (dats m 0 c).arrAt_eq_of_covers 15 _ (by decide +kernel) fun t _ y => ?_
  blk_simp
  rw [after0_15]
  exact point15 m c t f y

end Cert.ContextIdeal.Arr

end
-- ==== Proof.ContextClaims.lean ====
module

public import proofs.«01_k».proof.Proof.Value
public import proofs.«01_k».proof.Proof.ContextValue
public import proofs.«01_k».proof.Proof.Gen.Context.Frame
public import proofs.«01_k».proof.Proof.Gen.ContextReferenceIdeal.Run
public import proofs.«01_k».proof.Defs

@[expose] public section

noncomputable section

/-! The claim of the prompt's attentions. -/
namespace Cert.ContextClaims

open Idealize.ShloMosaic Idealize.ShloMosaic.TcCoe Idealize.SL.Sem

/-- The predicate's own shape facts. -/
theorem pre_facts : Cert.Pre_finite_context.Facts :=
  ⟨by decide, ⟨fun i => Fin.elim0 i, fun i => Fin.elim0 i⟩, ⟨fun i => Fin.elim0 i, fun i => Fin.elim0 i⟩,
    ⟨fun i => Fin.elim0 i, fun i => Fin.elim0 i⟩⟩

/-- What the predicate says: every query and every key is a real. -/
theorem finite (m : (ℓ : Loc Cert.ContextIdeal.nD Cert.ContextIdeal.τ Cert.ContextIdeal.sig) → Buf (Elt Ideal) ℓ)
    (h : @Cert.Pre_ContextIdeal_finite_context pre_facts m) (c : Dev Cert.ContextIdeal.nD) : Cert.ContextIdeal.Arr.Fin8 m c where
  f0 := fun i => Cert.KernelIdeal.Arr.real_of_abs _ (congrFun (h c).1 i)
  f1 := fun i => Cert.KernelIdeal.Arr.real_of_abs _ (congrFun (h c).2.1 i)
  f3 := fun i => Cert.KernelIdeal.Arr.real_of_abs _ (congrFun (h c).2.2.1 i)
  f4 := fun i => Cert.KernelIdeal.Arr.real_of_abs _ (congrFun (h c).2.2.2.1 i)
  f6 := fun i => Cert.KernelIdeal.Arr.real_of_abs _ (congrFun (h c).2.2.2.2.1 i)
  f7 := fun i => Cert.KernelIdeal.Arr.real_of_abs _ (congrFun (h c).2.2.2.2.2.1 i)
  f8 := fun i => Cert.KernelIdeal.Arr.real_of_abs _ (congrFun (h c).2.2.2.2.2.2.1 i)
  f9 := fun i => Cert.KernelIdeal.Arr.real_of_abs _ (congrFun (h c).2.2.2.2.2.2.2 i)

/-- The claim of the prompt's attentions: each of the kernel's three results is the reference's. -/
theorem value : @Cert.algebraic_ContextIdeal_ContextReferenceIdeal_pre_finite_context Cert.ContextIdeal.Gen.facts Cert.ContextReferenceIdeal.Gen.facts
    pre_facts := by
  intro m g m' g' hpre hagree
  refine ⟨fun c => Cert.ContextIdeal.Arr.refd m c, fun c => Cert.ContextIdeal.Arr.refn m c, fun c => Cert.ContextIdeal.Arr.refm m c, ?_, ?_⟩
  · refine (θ_run Cert.ContextIdeal.defs _ _).mono (fun r h c => ?_) (Cert.ContextIdeal.Value.run_blocks m g)
    obtain ⟨h0, h1, h2, ha⟩ := h c
    have f := finite m hpre c
    exact ⟨h0.trans (Cert.ContextIdeal.Arr.final13 m c f), h1.trans (Cert.ContextIdeal.Arr.final14 m c f), h2.trans (Cert.ContextIdeal.Arr.final15 m c f), ha⟩
  · refine (θ_run Cert.ContextReferenceIdeal.defs _ _).mono (fun r h c => ?_) (Cert.ContextReferenceIdeal.Value.run m' g')
    obtain ⟨h0, h1, h2, ha⟩ := h c
    obtain ⟨a0, a1, a2, a3, a4, a5, a6, a7, a8, a9, a10, a11, a12⟩ := hagree c
    refine ⟨h0.trans ((Cert.ContextReferenceIdeal.Diff.result_eq m' c).trans ?_), h1.trans (Eq.trans (b := Cert.ContextReferenceIdeal.Stages.refN
        (m' ((c.tc : Thread Cert.ContextReferenceIdeal.nD Cert.ContextReferenceIdeal.τ).loc Cert.ContextReferenceIdeal.main_arg3))
        (m' ((c.tc : Thread Cert.ContextReferenceIdeal.nD Cert.ContextReferenceIdeal.τ).loc Cert.ContextReferenceIdeal.main_arg4))
        (m' ((c.tc : Thread Cert.ContextReferenceIdeal.nD Cert.ContextReferenceIdeal.τ).loc Cert.ContextReferenceIdeal.main_arg5))) rfl ?_),
      h2.trans ((Cert.ContextReferenceIdeal.Stages.resultM_eq m' c).trans ?_), ha⟩
    · show _ = Cert.ContextIdeal.Arr.refd m c
      unfold Cert.ContextIdeal.Arr.refd
      rw [← a0, ← a1, ← a2, ← a11, ← a12]
    · show _ = Cert.ContextIdeal.Arr.refn m c
      unfold Cert.ContextIdeal.Arr.refn
      rw [← a3, ← a4, ← a5]
    · show _ = Cert.ContextIdeal.Arr.refm m c
      unfold Cert.ContextIdeal.Arr.refm
      rw [← a6, ← a7, ← a8, ← a9, ← a10]

end Cert.ContextClaims

end
-- ==== Proof.InputsRef.lean ====
module

public import proofs.«01_k».proof.Proof.Gen.InputsReferenceIdeal.Run
public import Idealize.ShloMosaic.Lib.Pipeline.ValueKit
public import Idealize.ShloMosaic.Lib.Pointwise

@[expose] public section

set_option maxRecDepth 16384

noncomputable section

/-! The projection's rows, and the reference's arrays read at an index. -/
namespace Cert.InputsReferenceIdeal.Stages

open Cert.InputsReferenceIdeal Cert.InputsReferenceIdeal.Gen
open Idealize.ShloMosaic Idealize.ShloMosaic.TcCoe Idealize.SL.Sem

/-- One entry of a modulated row: the input scaled and shifted. -/
def hid (x : Fin 1024 → EReal) (sc sh : Fin 1024 → EReal) (k : Fin 1024) : EReal :=
  x k * (Ideal.ofBits .f32 0x3F800000#32 + sc k) + sh k

/-- A row times a column. -/
def dotp {n : ℕ} (h w : Fin n → EReal) : EReal := ∑ k : Fin n, h k * w k

/-- One entry of a row divided by its root mean square, times the gain. -/
def rms {n : ℕ} (len : BitVec 32) (x g : Fin n → EReal) (d : Fin n) : EReal :=
  x d * Ideal.rsqrt (Ideal.div (∑ k : Fin n, x k * x k) (Ideal.ofBits .f32 len) + Ideal.ofBits .f32 0x358637BD#32) * g d

/-- The modulated input. -/
def modulated (X : FVec Ideal S8192x1024 .f32) (M : FVec Ideal S1x6x1024 .f32) : FVec Ideal S8192x1024 .f32 :=
  (addf (mulf X (broadcastInDim S8192x1024 ![0, 1] bcast_S1x1024_S8192x1024_0_1 (broadcastInDim S1x1024 ![1] bcast_S1024_S1x1024_1 (addf (broadcastInDim S1024 ![] bcast_S_S1024 (constant S_ .f32 0x3F800000#32)) (shapeCast _ (extractStridedSlice S1x1x1024 ![0, 1, 0] M slices_S1x6x1024_S1x1x1024_0_1_0) shapeCasts_S1x1x1024_S1024))))) (broadcastInDim S8192x1024 ![0, 1] bcast_S1x1024_S8192x1024_0_1 (broadcastInDim S1x1024 ![1] bcast_S1024_S1x1024_1 (shapeCast _ (extractStridedSlice S1x1x1024 ![0, 0, 0] M slices_S1x6x1024_S1x1x1024_0_0_0) shapeCasts_S1x1x1024_S1024))))

/-- The in-projection of the modulated input. -/
def projected (H : FVec Ideal S8192x1024 .f32) (W : FVec Ideal S1024x6816 .bf16) : FVec Ideal S8192x3744 .f32 :=
  (Host.dotGeneral dot_S8192x1024_S1024x3744_S8192x3744_1_0_0_1_n_n none H (extf .f32 (extractStridedSlice S1024x3744 ![0, 0] W slices_S1024x6816_S1024x3744_0_0) bitsLt_bf16_f32))

/-- The normalised query latent. -/
def qNorm (P : FVec Ideal S8192x384 .f32) (g : FVec Ideal S384 .f32) : FVec Ideal S8192x384 .f32 :=
  (mulf (mulf P (broadcastInDim S8192x384 ![0, 1] bcast_S8192x1_S8192x384_0_1 (Host.rsqrt (addf (Host.divf (broadcastInDim S8192x1 ![0] bcast_S8192_S8192x1_0 (Host.reduceAdd (mulf P P) (constant S_ .f32 0x00000000#32) reducesTo_S8192x384_S8192_d1 h_S_)) (broadcastInDim S8192x1 ![] bcast_S_S8192x1 (constant S_ .f32 0x43C00000#32))) (broadcastInDim S8192x1 ![] bcast_S_S8192x1 (constant S_ .f32 0x358637BD#32)))))) (broadcastInDim S8192x384 ![0, 1] bcast_S1x384_S8192x384_0_1 (broadcastInDim S1x384 ![1] bcast_S384_S1x384_1 g)))

/-- The normalised key and value latent. -/
def kvNorm (P : FVec Ideal S8192x256 .f32) (g : FVec Ideal S256 .f32) : FVec Ideal S8192x256 .f32 :=
  (mulf (mulf P (broadcastInDim S8192x256 ![0, 1] bcast_S8192x1_S8192x256_0_1 (Host.rsqrt (addf (Host.divf (broadcastInDim S8192x1 ![0] bcast_S8192_S8192x1_0 (Host.reduceAdd (mulf P P) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (broadcastInDim S8192x256 ![0, 1] bcast_S1x256_S8192x256_0_1 (broadcastInDim S1x256 ![1] bcast_S256_S1x256_1 g)))

/-- The scaled queries of the latent attention, all heads. -/
def queries (L : FVec Ideal S8192x384 .f32) (Q : FVec Ideal S384x768 .bf16) : FVec Ideal S8192x768 .f32 :=
  (mulf (Host.dotGeneral dot_S8192x384_S384x768_S8192x768_1_0_0_1_n_n none L (extf .f32 Q bitsLt_bf16_f32)) (broadcastInDim S8192x768 ![] bcast_S_S8192x768 (constant S_ .f32 0x3DD105EC#32)))

/-- The keys and values of the latent attention, all heads. -/
def keyvals (L : FVec Ideal S8192x256 .f32) (K : FVec Ideal S256x1024 .bf16) : FVec Ideal S8192x1024 .f32 :=
  (Host.dotGeneral dot_S8192x256_S256x1024_S8192x1024_1_0_0_1_n_n none L (extf .f32 K bitsLt_bf16_f32))

/-- The rotary key, once for each of the four heads. -/
def four (R : FVec Ideal S8192x32 .f32) : FVec Ideal S8192x128 .bf16 :=
  truncf .bf16 ((concatenate S8192x128 1 [⟨S8192x32, R⟩, ⟨S8192x32, R⟩, ⟨S8192x32, R⟩, ⟨S8192x32, R⟩] concatenates_S8192x32_S8192x32_S8192x32_S8192x32_S8192x128_d1 : (⟨S8192x128, .f32⟩ : BufTy).Contents (Elt Ideal))) bitsLt_bf16_f32

theorem modulated_at (X : FVec Ideal S8192x1024 .f32) (M : FVec Ideal S1x6x1024 .f32) (r : Fin 8192) (k : Fin 1024) :
    modulated X M (ix2 r k) = hid (fun k => X (ix2 r k)) (fun k => M (ix3 0 1 k)) (fun k => M (ix3 0 0 k)) k := by
  pointwise [modulated, hid]

theorem projected_at (H : FVec Ideal S8192x1024 .f32) (W : FVec Ideal S1024x6816 .bf16) (r : Fin 8192) (j : Fin 3744) :
    projected H W (ix2 r j) = dotp (fun k => H (ix2 r k)) (fun k => W (ix2 k ⟨j, by omega⟩)) := by
  pointwise [projected, dotp]

theorem qNorm_at (P : FVec Ideal S8192x384 .f32) (g : FVec Ideal S384 .f32) (r : Fin 8192) (d : Fin 384) :
    qNorm P g (ix2 r d) = rms 0x43C00000#32 (fun d => P (ix2 r d)) (fun d => g (ix1 d)) d := by
  pointwise [qNorm, rms]

theorem kvNorm_at (P : FVec Ideal S8192x256 .f32) (g : FVec Ideal S256 .f32) (r : Fin 8192) (d : Fin 256) :
    kvNorm P g (ix2 r d) = rms 0x43800000#32 (fun d => P (ix2 r d)) (fun d => g (ix1 d)) d := by
  pointwise [kvNorm, rms]

theorem queries_at (L : FVec Ideal S8192x384 .f32) (Q : FVec Ideal S384x768 .bf16) (r : Fin 8192) (j : Fin 768) :
    queries L Q (ix2 r j) = dotp (fun k => L (ix2 r k)) (fun k => Q (ix2 k j)) * Ideal.ofBits .f32 0x3DD105EC#32 := by
  pointwise [queries, dotp]

theorem keyvals_at (L : FVec Ideal S8192x256 .f32) (K : FVec Ideal S256x1024 .bf16) (r : Fin 8192) (j : Fin 1024) :
    keyvals L K (ix2 r j) = dotp (fun k => L (ix2 r k)) (fun k => K (ix2 k j)) := by
  pointwise [keyvals, dotp]

theorem four_at (R : FVec Ideal S8192x32 .f32) (r : Fin 8192) (h : Fin 4) (d : Fin 32) :
    four R (ix2 r ⟨h * 32 + d, by omega⟩) = R (ix2 r d) := by
  fin_cases h <;> pointwise [four]
  all_goals
    repeat (first | rw [dif_neg (by omega)] | rw [dif_pos (by omega)])
    exact congrArg (fun z => R (ix2 r z)) (Fin.ext (by show _ = (d : ℕ); simp only []; omega))

/-! The thirteen results, from the projection `P`, the queries `Q` and the keys and values `KV`. -/

def resDq (P : FVec Ideal S8192x3744 .f32) : FVec Ideal S8192x512 .bf16 :=
  truncf .bf16 (mulf (extractStridedSlice S8192x512 ![0, 0] P slices_S8192x3744_S8192x512_0_0) (broadcastInDim S8192x512 ![] bcast_S_S8192x512 (constant S_ .f32 0x3E000000#32))) bitsLt_bf16_f32
def resNq (P : FVec Ideal S8192x3744 .f32) : FVec Ideal S8192x512 .bf16 :=
  truncf .bf16 (mulf (extractStridedSlice S8192x512 ![0, 1536] P slices_S8192x3744_S8192x512_0_1536) (broadcastInDim S8192x512 ![] bcast_S_S8192x512 (constant S_ .f32 0x3E000000#32))) bitsLt_bf16_f32
def resQn (Q : FVec Ideal S8192x768 .f32) : FVec Ideal S8192x512 .bf16 :=
  truncf .bf16 (extractStridedSlice S8192x512 ![0, 0] Q slices_S8192x768_S8192x512_0_0) bitsLt_bf16_f32
def resQr (Q : FVec Ideal S8192x768 .f32) : FVec Ideal S8192x256 .bf16 :=
  truncf .bf16 (extractStridedSlice S8192x256 ![0, 512] Q slices_S8192x768_S8192x256_0_512) bitsLt_bf16_f32
def resKr (P : FVec Ideal S8192x3744 .f32) : FVec Ideal S8192x32 .f32 :=
  extractStridedSlice S8192x32 ![0, 3712] P slices_S8192x3744_S8192x32_0_3712
def resKn (KV : FVec Ideal S8192x1024 .f32) : FVec Ideal S8192x512 .bf16 :=
  truncf .bf16 (extractStridedSlice S8192x512 ![0, 0] KV slices_S8192x1024_S8192x512_0_0) bitsLt_bf16_f32
def resVn (KV : FVec Ideal S8192x1024 .f32) : FVec Ideal S8192x512 .bf16 :=
  truncf .bf16 (extractStridedSlice S8192x512 ![0, 512] KV slices_S8192x1024_S8192x512_0_512) bitsLt_bf16_f32
def resDk (P : FVec Ideal S8192x3744 .f32) : FVec Ideal S8192x512 .f32 :=
  extractStridedSlice S8192x512 ![0, 512] P slices_S8192x3744_S8192x512_0_512
def resDv (P : FVec Ideal S8192x3744 .f32) : FVec Ideal S8192x512 .f32 :=
  extractStridedSlice S8192x512 ![0, 1024] P slices_S8192x3744_S8192x512_0_1024
def resNk (P : FVec Ideal S8192x3744 .f32) : FVec Ideal S8192x512 .f32 :=
  extractStridedSlice S8192x512 ![0, 2048] P slices_S8192x3744_S8192x512_0_2048
def resNv (P : FVec Ideal S8192x3744 .f32) : FVec Ideal S8192x512 .f32 :=
  extractStridedSlice S8192x512 ![0, 2560] P slices_S8192x3744_S8192x512_0_2560
/-- The query latent and the key and value latent, as the projection holds them. -/
def qLat (P : FVec Ideal S8192x3744 .f32) : FVec Ideal S8192x384 .f32 :=
  extractStridedSlice S8192x384 ![0, 3072] P slices_S8192x3744_S8192x384_0_3072
def kvLat (P : FVec Ideal S8192x3744 .f32) : FVec Ideal S8192x256 .f32 :=
  extractStridedSlice S8192x256 ![0, 3456] P slices_S8192x3744_S8192x256_0_3456

theorem resDq_at (P : FVec Ideal S8192x3744 .f32) (r : Fin 8192) (j : Fin 512) :
    resDq P (ix2 r j) = P (ix2 r ⟨j, by omega⟩) * Ideal.ofBits .f32 0x3E000000#32 := by
  pointwise [resDq]
theorem resNq_at (P : FVec Ideal S8192x3744 .f32) (r : Fin 8192) (j : Fin 512) :
    resNq P (ix2 r j) = P (ix2 r ⟨1536 + j, by omega⟩) * Ideal.ofBits .f32 0x3E000000#32 := by
  pointwise [resNq]
theorem resKr_at (P : FVec Ideal S8192x3744 .f32) (r : Fin 8192) (j : Fin 32) :
    resKr P (ix2 r j) = P (ix2 r ⟨3712 + j, by omega⟩) := by
  pointwise [resKr]
theorem resDk_at (P : FVec Ideal S8192x3744 .f32) (r : Fin 8192) (j : Fin 512) :
    resDk P (ix2 r j) = P (ix2 r ⟨512 + j, by omega⟩) := by
  pointwise [resDk]
theorem resDv_at (P : FVec Ideal S8192x3744 .f32) (r : Fin 8192) (j : Fin 512) :
    resDv P (ix2 r j) = P (ix2 r ⟨1024 + j, by omega⟩) := by
  pointwise [resDv]
theorem resNk_at (P : FVec Ideal S8192x3744 .f32) (r : Fin 8192) (j : Fin 512) :
    resNk P (ix2 r j) = P (ix2 r ⟨2048 + j, by omega⟩) := by
  pointwise [resNk]
theorem resNv_at (P : FVec Ideal S8192x3744 .f32) (r : Fin 8192) (j : Fin 512) :
    resNv P (ix2 r j) = P (ix2 r ⟨2560 + j, by omega⟩) := by
  pointwise [resNv]
theorem qLat_at (P : FVec Ideal S8192x3744 .f32) (r : Fin 8192) (j : Fin 384) :
    qLat P (ix2 r j) = P (ix2 r ⟨3072 + j, by omega⟩) := by
  pointwise [qLat]
theorem kvLat_at (P : FVec Ideal S8192x3744 .f32) (r : Fin 8192) (j : Fin 256) :
    kvLat P (ix2 r j) = P (ix2 r ⟨3456 + j, by omega⟩) := by
  pointwise [kvLat]
theorem resQn_at (Q : FVec Ideal S8192x768 .f32) (r : Fin 8192) (j : Fin 512) :
    resQn Q (ix2 r j) = Q (ix2 r ⟨j, by omega⟩) := by
  pointwise [resQn]
theorem resQr_at (Q : FVec Ideal S8192x768 .f32) (r : Fin 8192) (j : Fin 256) :
    resQr Q (ix2 r j) = Q (ix2 r ⟨512 + j, by omega⟩) := by
  pointwise [resQr]
theorem resKn_at (KV : FVec Ideal S8192x1024 .f32) (r : Fin 8192) (j : Fin 512) :
    resKn KV (ix2 r j) = KV (ix2 r ⟨j, by omega⟩) := by
  pointwise [resKn]
theorem resVn_at (KV : FVec Ideal S8192x1024 .f32) (r : Fin 8192) (j : Fin 512) :
    resVn KV (ix2 r j) = KV (ix2 r ⟨512 + j, by omega⟩) := by
  pointwise [resVn]

end Cert.InputsReferenceIdeal.Stages

end
-- ==== Proof.Rows.lean ====
module

public import proofs.«01_k».proof.Proof.InputsRef

@[expose] public section

set_option maxRecDepth 16384

noncomputable section

/-! One token's rows: the logistic function, the layer norm, and the two bf16 numbers of a 32-bit word. -/
namespace Cert.Rows

open Idealize.ShloMosaic

/-- The logistic function. -/
def sigm (x : EReal) : EReal :=
  Ideal.div (Ideal.ofBits .f32 0x3F800000#32) (Ideal.ofBits .f32 0x3F800000#32 + Ideal.exp (-x))

/-- A row's mean. -/
def mean (y : Fin 1024 → EReal) : EReal := Ideal.div (∑ d : Fin 1024, y d) (Ideal.ofBits .f32 0x44800000#32)

/-- A row less its mean. -/
def cen (y : Fin 1024 → EReal) (d : Fin 1024) : EReal := y d - mean y

/-- A centred row divided by its standard deviation, times the gain, plus the bias. -/
def scaled (z g b : Fin 1024 → EReal) (d : Fin 1024) : EReal :=
  z d * Ideal.rsqrt (Ideal.div (∑ k : Fin 1024, z k * z k) (Ideal.ofBits .f32 0x44800000#32) + Ideal.ofBits .f32 0x3727C5AC#32) * g d + b d

/-- The residual: the input times the depth's weight, plus the gated output. -/
def resid (x g o : Fin 1024 → EReal) (d : Fin 1024) : EReal := Ideal.ofBits .f32 0x3FB504F3#32 * x d + g d * o d

theorem zero_sub_f32 (x : EReal) : Ideal.ofBits .f32 0x00000000#32 - x = -x := by
  have h : Ideal.ofBits .f32 0x00000000#32 = 0 := by simp [Ideal.ofBits, Ideal.ieee]
  rw [h, zero_sub]

/-- A pattern whose low sixteen bits are zero denotes, as f32, what its high sixteen denote as bf16. -/
theorem f32_of_high (b : BitVec 32) (v : BitVec 16) (h : b.toNat = v.toNat * 65536) :
    Ideal.ofBits .f32 b = Ideal.ofBits .bf16 v := by
  have hv := v.isLt
  have hs : b.extractLsb' 31 1 = v.extractLsb' 15 1 := by
    apply BitVec.eq_of_toNat_eq
    simp only [BitVec.extractLsb'_toNat, Nat.shiftRight_eq_div_pow, h]
    omega
  have he : (b.extractLsb' 23 8).toNat = (v.extractLsb' 7 8).toNat := by
    simp only [BitVec.extractLsb'_toNat, Nat.shiftRight_eq_div_pow, h]
    omega
  have hf : (b.extractLsb' 0 23).toNat = (v.extractLsb' 0 7).toNat * 65536 := by
    simp only [BitVec.extractLsb'_toNat, Nat.shiftRight_eq_div_pow, h]
    omega
  have l : Ideal.ofBits .f32 b = Ideal.ieee 8 23 b := rfl
  have r : Ideal.ofBits .bf16 v = Ideal.ieee 8 7 v := rfl
  rw [l, r]
  unfold Ideal.ieee
  dsimp only
  rw [show (8 + 23 : ℕ) = 31 from rfl, show (8 + 7 : ℕ) = 15 from rfl, hs, he, hf]
  generalize (v.extractLsb' 7 8).toNat = ex
  generalize (v.extractLsb' 0 7).toNat = fr
  generalize (if (v.extractLsb' 15 1 == 1#1) = true then (-1 : ℝ) else 1) = sgn
  have e0 : (fr * 65536 = 0) ↔ (fr = 0) := by omega
  simp only [e0]
  split_ifs
  all_goals first
    | rfl
    | (congr 1
       push_cast
       norm_num [zpow_sub₀]
       try ring)

/-- The number a word's low (`p = 0`) or high (`p = 1`) half holds. -/
def num (p : ℕ) (w : BitVec 32) : EReal := Ideal.ofBits .bf16 (w.extractLsb' (p * 16) 16)

theorem num_lo (w : BitVec 32) : Ideal.ofBits .f32 (w <<< 16) = num 0 w := by
  refine f32_of_high _ _ ?_
  have := w.isLt
  simp only [BitVec.toNat_shiftLeft, BitVec.extractLsb'_toNat, Nat.shiftRight_eq_div_pow, Nat.shiftLeft_eq]
  omega

theorem mask : ∀ i : Fin 32, (4294901760#32)[i.val] = decide (16 ≤ i.val) := by decide

theorem num_hi (w : BitVec 32) : Ideal.ofBits .f32 (w &&& 4294901760#32) = num 1 w := by
  refine f32_of_high _ _ ?_
  have e : w &&& 4294901760#32 = (w >>> 16) <<< 16 := by
    ext i hi
    have hm : (4294901760#32)[i] = decide (16 ≤ i) :=
      mask ⟨i, hi⟩
    by_cases h : i < 16
    · simp [hm, h, Nat.not_le.mpr h]
    · simp [hm, h, Nat.not_lt.mp h, BitVec.getLsbD_eq_getElem, hi]
  have := w.isLt
  rw [e]
  simp only [BitVec.toNat_shiftLeft, BitVec.toNat_ushiftRight, BitVec.extractLsb'_toNat, Nat.shiftRight_eq_div_pow, Nat.shiftLeft_eq]
  omega

end Cert.Rows

end
-- ==== Proof.ModulationRef.lean ====
module

public import proofs.«01_k».proof.Proof.Gen.ModulationReferenceIdeal.Run
public import Idealize.ShloMosaic.Lib.Pipeline.ValueKit
public import Idealize.ShloMosaic.Lib.Pointwise
public import proofs.«01_k».proof.Proof.Rows

@[expose] public section

set_option maxRecDepth 16384

noncomputable section

/-! The reference of the modulation, stage by stage. -/
namespace Cert.ModulationReferenceIdeal.Stages

open Cert.ModulationReferenceIdeal Cert.ModulationReferenceIdeal.Gen
open Idealize.ShloMosaic Idealize.ShloMosaic.TcCoe Idealize.SL.Sem
open Cert.Rows

/-- The conditioning rows after their activation. -/
def acts (C : FVec Ideal S16x1024 .f32) : FVec Ideal S16x1024 .f32 :=
  mulf C (Host.divf (broadcastInDim S16x1024 ![] bcast_S_S16x1024 (constant S_ .f32 0x3F800000#32)) (addf (broadcastInDim S16x1024 ![] bcast_S_S16x1024 (constant S_ .f32 0x3F800000#32)) (Host.exp (Host.negf C))))

/-- The first layer's weights and bias, and the second's. -/
def weight0 (W : FVec Ideal S2x1024x6144 .f32) : FVec Ideal S1024x6144 .f32 :=
  shapeCast S1024x6144 (extractStridedSlice S1x1024x6144 ![0, 0, 0] W slices_S2x1024x6144_S1x1024x6144_0_0_0) shapeCasts_S1x1024x6144_S1024x6144
def weight1 (W : FVec Ideal S2x1024x6144 .f32) : FVec Ideal S1024x6144 .f32 :=
  shapeCast S1024x6144 (extractStridedSlice S1x1024x6144 ![1, 0, 0] W slices_S2x1024x6144_S1x1024x6144_1_0_0) shapeCasts_S1x1024x6144_S1024x6144
def bias0 (B : FVec Ideal S2x6144 .f32) : FVec Ideal S16x6144 .f32 :=
  broadcastInDim S16x6144 ![0, 1] bcast_S1x6144_S16x6144_0_1 (broadcastInDim S1x6144 ![1] bcast_S6144_S1x6144_1 (shapeCast S6144 (extractStridedSlice S1x6144 ![0, 0] B slices_S2x6144_S1x6144_0_0) shapeCasts_S1x6144_S6144))
def bias1 (B : FVec Ideal S2x6144 .f32) : FVec Ideal S16x6144 .f32 :=
  broadcastInDim S16x6144 ![0, 1] bcast_S1x6144_S16x6144_0_1 (broadcastInDim S1x6144 ![1] bcast_S6144_S1x6144_1 (shapeCast S6144 (extractStridedSlice S1x6144 ![1, 0] B slices_S2x6144_S1x6144_1_0) shapeCasts_S1x6144_S6144))

/-- One layer: product and bias. -/
def layer (A : FVec Ideal S16x1024 .f32) (W : FVec Ideal S1024x6144 .f32) (B : FVec Ideal S16x6144 .f32) : FVec Ideal S1x16x6144 .f32 :=
  broadcastInDim S1x16x6144 ![1, 2] bcast_S16x6144_S1x16x6144_1_2 (addf (Host.dotGeneral dot_S16x1024_S1024x6144_S16x6144_1_0_0_1_n_n none A W) B)

/-- Both layers. -/
def both (x y : FVec Ideal S1x16x6144 .f32) : FVec Ideal S2x16x6144 .f32 :=
  concatenate S2x16x6144 0 [⟨S1x16x6144, x⟩, ⟨S1x16x6144, y⟩] concatenates_S1x16x6144_S1x16x6144_S2x16x6144_d0

/-- The reference's result over its arguments. -/
def ref (C : FVec Ideal S16x1024 .f32) (W : FVec Ideal S2x1024x6144 .f32) (B : FVec Ideal S2x6144 .f32) : FVec Ideal S2x16x6144 .f32 :=
  both (layer (acts C) (weight0 W) (bias0 B)) (layer (acts C) (weight1 W) (bias1 B))

/-- One entry: the activated row against a column, and the bias. -/
def entry (c w : Fin 1024 → EReal) (b : EReal) : EReal := ∑ k : Fin 1024, c k * sigm (c k) * w k + b

theorem acts_at (C : FVec Ideal S16x1024 .f32) (i : Fin 16) (k : Fin 1024) : acts C (ix2 i k) = C (ix2 i k) * sigm (C (ix2 i k)) := by
  pointwise [acts, sigm]
theorem weight0_at (W : FVec Ideal S2x1024x6144 .f32) (k : Fin 1024) (j : Fin 6144) : weight0 W (ix2 k j) = W (ix3 0 k j) := by
  pointwise [weight0]
theorem weight1_at (W : FVec Ideal S2x1024x6144 .f32) (k : Fin 1024) (j : Fin 6144) : weight1 W (ix2 k j) = W (ix3 1 k j) := by
  pointwise [weight1]
theorem bias0_at (B : FVec Ideal S2x6144 .f32) (i : Fin 16) (j : Fin 6144) : bias0 B (ix2 i j) = B (ix2 0 j) := by
  pointwise [bias0]
theorem bias1_at (B : FVec Ideal S2x6144 .f32) (i : Fin 16) (j : Fin 6144) : bias1 B (ix2 i j) = B (ix2 1 j) := by
  pointwise [bias1]
theorem layer_at (A : FVec Ideal S16x1024 .f32) (W : FVec Ideal S1024x6144 .f32) (B : FVec Ideal S16x6144 .f32) (i : Fin 16) (j : Fin 6144) :
    layer A W B (ix3 0 i j) = ∑ k : Fin 1024, A (ix2 i k) * W (ix2 k j) + B (ix2 i j) := by
  pointwise [layer]
theorem both_lo (x y : FVec Ideal S1x16x6144 .f32) (i : Fin 16) (j : Fin 6144) : both x y (ix3 0 i j) = x (ix3 0 i j) := by
  pointwise [both]
theorem both_hi (x y : FVec Ideal S1x16x6144 .f32) (i : Fin 16) (j : Fin 6144) : both x y (ix3 1 i j) = y (ix3 0 i j) := by
  pointwise [both]

theorem ref_at (C : FVec Ideal S16x1024 .f32) (W : FVec Ideal S2x1024x6144 .f32) (B : FVec Ideal S2x6144 .f32) (l : Fin 2) (i : Fin 16) (j : Fin 6144) :
    ref C W B (ix3 l i j) = entry (fun k => C (ix2 i k)) (fun k => W (ix3 l k j)) (B (ix2 l j)) := by
  unfold ref entry
  match l with
  | 0 => simp only [both_lo, layer_at, acts_at, weight0_at, bias0_at]
  | 1 => simp only [both_hi, layer_at, acts_at, weight1_at, bias1_at]

end Cert.ModulationReferenceIdeal.Stages

end
-- ==== Proof.ModulationValue.lean ====
module

public import proofs.«01_k».proof.Proof.Gen.ModulationIdeal.Value
public import proofs.«01_k».proof.Proof.ModulationRef
public import Idealize.ShloMosaic.Lib.Claim

@[expose] public section

set_option maxRecDepth 16384

noncomputable section

/-! The modulation: the kernel's result array is the reference's. -/
namespace Cert.ModulationIdeal.Arr

open Cert.ModulationIdeal Cert.ModulationIdeal.Gen
open Idealize.ShloMosaic Idealize.ShloMosaic.TcCoe Idealize.SL.Sem
open Cert.ModulationReferenceIdeal.Stages Cert.Rows

variable (m : (ℓ : Loc nD τ sig) → Buf (Elt Ideal) ℓ)

/-- The blocks a grid point stages: four column blocks of each layer. -/
theorem idx_val : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The bias as the kernel receives it: a reshaped argument. -/
theorem V_v0 (c : Dev nD) : V m c main_v0 = shapeCast S2x1x6144 (m ((c : Thread nD τ).loc main_arg2)) shapeCasts_S2x6144_S2x1x6144 := by
  unfold V; after_results; try rfl

theorem bias_at (B : FVec Ideal S2x6144 .f32) (l : Fin 2) (j : Fin 6144) :
    shapeCast S2x1x6144 B shapeCasts_S2x6144_S2x1x6144 (ix3 l 0 j) = B (ix2 l j) := by
  pointwise

/-! A block at an index. -/
theorem c_at (c : Dev nD) (t : Fin cfg0.N) (i : Fin 16) (k : Fin 1024) :
    iblk m c 0 t (ix2 i k) = m ((c : Thread nD τ).loc main_arg0) (ix2 i k) := by
  blk_ext [iblk, V, idx_val t]
theorem w_at (c : Dev nD) (t : Fin cfg0.N) (ht : t.val < 8) (k : Fin 1024) (j : Fin 1536) :
    iblk m c 1 t (ix3 0 k j) = m ((c : Thread nD τ).loc main_arg1) (ix3 ⟨t.val / 4, by omega⟩ k ⟨t.val % 4 * 1536 + j, by omega⟩) := by
  blk_ext [iblk, V, idx_val t]
theorem b_at (c : Dev nD) (t : Fin cfg0.N) (ht : t.val < 8) (j : Fin 1536) :
    iblk m c 2 t (ix3 0 0 j) = m ((c : Thread nD τ).loc main_arg2) (ix2 ⟨t.val / 4, by omega⟩ ⟨t.val % 4 * 1536 + j, by omega⟩) := by
  refine Eq.trans (b := V m c main_v0 (ix3 ⟨t.val / 4, by omega⟩ 0 ⟨t.val % 4 * 1536 + j, by omega⟩)) ?_ ?_
  · blk_ext [iblk, idx_val t]
  · rw [V_v0]; exact bias_at _ _ _

/-- The body's value at an index. -/
theorem pay_at (C : Vec Ideal S16x1024 .f32) (W : Vec Ideal S1x1024x1536 .f32) (B : Vec Ideal S1x1x1536 .f32) (i : Fin 16) (j : Fin 1536) :
    k0_pay1 C W B (ix3 0 i j) = entry (fun k => C (ix2 i k)) (fun k => W (ix3 0 k j)) (B (ix3 0 0 j)) := by
  unfold entry sigm
  simp only [← zero_sub_f32]
  pointwise [k0_pay1]

theorem ld0 (B : Vec Ideal S16x1024 .f32) (i : Fin 16) (k : Fin 1024) : View.ld B r0_0 (ix2 i k) = B (ix2 i k) := by pointwise
theorem ld1 (B : Vec Ideal S1x1024x1536 .f32) (k : Fin 1024) (j : Fin 1536) : View.ld B r0_1 (ix3 0 k j) = B (ix3 0 k j) := by pointwise
theorem ld2 (B : Vec Ideal S1x1x1536 .f32) (j : Fin 1536) : View.ld B r0_2 (ix3 0 0 j) = B (ix3 0 0 j) := by pointwise

/-- The reference's array of the memory's arguments. -/
def refm (c : Dev nD) : FVec Ideal S2x16x6144 .f32 :=
  ref (m ((c : Thread nD τ).loc main_arg0)) (m ((c : Thread nD τ).loc main_arg1)) (m ((c : Thread nD τ).loc main_arg2))

theorem pay_eq (c : Dev nD) (t : Fin cfg0.N) (ht : t.val < 8) (x : S1x16x1536.Idx) (j : S2x16x6144.Idx)
    (h0 : (j 0 : ℕ) = t.val / 4) (h1 : (j 1 : ℕ) = x 1) (h2 : (j 2 : ℕ) = t.val % 4 * 1536 + x 2) :
    k0_pay1 (View.ld (iblk m c 0 t) r0_0) (View.ld (iblk m c 1 t) r0_1) (View.ld (iblk m c 2 t) r0_2) x = refm m c j := by
  idx_vars x
  have b1 : (x1 : ℕ) < 16 := x1.isLt
  have b2 : (x2 : ℕ) < 1536 := x2.isLt
  obtain rfl : x0 = 0 := Fin.ext (by have : (x0 : ℕ) < 1 := x0.isLt; show (x0 : ℕ) = 0; omega)
  have hj : j = ix3 ⟨t.val / 4, by omega⟩ x1 ⟨t.val % 4 * 1536 + x2, by omega⟩ := by
    funext a
    refine Fin.ext ?_
    match a with
    | 0 => exact h0
    | 1 => exact h1
    | 2 => exact h2
  rw [hj]
  unfold refm
  refine (pay_at _ _ _ x1 x2).trans (Eq.trans ?_ (ref_at _ _ _ _ x1 _).symm)
  have e0 : (fun k : Fin 1024 => View.ld (iblk m c 0 t) r0_0 (ix2 x1 k)) = fun k => m ((c : Thread nD τ).loc main_arg0) (ix2 x1 k) :=
    funext fun k => (ld0 _ x1 k).trans (c_at m c t x1 k)
  have e1 : (fun k : Fin 1024 => View.ld (iblk m c 1 t) r0_1 (ix3 0 k x2))
      = fun k => m ((c : Thread nD τ).loc main_arg1) (ix3 ⟨t.val / 4, by omega⟩ k ⟨t.val % 4 * 1536 + x2, by omega⟩) :=
    funext fun k => (ld1 _ k x2).trans (w_at m c t ht k x2)
  exact (congrArg₂ (fun f g => entry f g (View.ld (iblk m c 2 t) r0_2 (ix3 0 0 x2))) e0 e1).trans
    (congrArg (entry _ _) ((ld2 _ x2).trans (b_at m c t ht x2)))

theorem point3 (c : Dev nD) (t : Fin cfg0.N) (y : S1x16x1536.Idx) :
    out0_3 (F := Ideal) (iblk m c 0 t) (iblk m c 1 t) (iblk m c 2 t) y = refm m c (((cfg0.win 3).blk t).view.emb y) := by
  have ht : t.val < 8 := lt_of_lt_of_eq t.isLt N_0
  canon_tiles x h
  · refine pay_eq m c t ht x _ ?_ ?_ ?_
    · blk_simp [idx_val t]; try omega
    · blk_simp [idx_val t]; try omega
    · blk_simp [idx_val t]; try omega

theorem final3 (c : Dev nD) : (dats m 0 c).arrAt 3 cfg0.N = refm m c := by
  refine (dats m 0 c).arrAt_eq_of_covers 3 _ (by decide +kernel) fun t _ y => ?_
  blk_simp
  rw [after0_3]
  exact point3 m c t y

end Cert.ModulationIdeal.Arr

end
-- ==== Proof.ModulationClaims.lean ====
module

public import proofs.«01_k».proof.Proof.ModulationValue
public import proofs.«01_k».proof.Proof.Gen.Modulation.Frame
public import proofs.«01_k».proof.Proof.Gen.ModulationReferenceIdeal.Run
public import proofs.«01_k».proof.Defs

@[expose] public section

set_option maxRecDepth 16384

noncomputable section

/-! The modulation's claim. -/
namespace Cert.ModulationClaims

open Idealize.ShloMosaic Idealize.ShloMosaic.TcCoe Idealize.SL.Sem

/-- The modulation's claim: the kernel's result is the reference's. -/
theorem value : @Cert.algebraic_ModulationIdeal_ModulationReferenceIdeal Cert.ModulationIdeal.Gen.facts Cert.ModulationReferenceIdeal.Gen.facts := by
  intro m g m' g' _ hagree
  refine ⟨fun c => Cert.ModulationIdeal.Arr.refm m c, ?_, ?_⟩
  · refine (θ_run Cert.ModulationIdeal.defs _ _).mono (fun r h c => ?_) (Cert.ModulationIdeal.Value.run_blocks m g)
    obtain ⟨h0, ha⟩ := h c
    exact ⟨h0.trans (Cert.ModulationIdeal.Arr.final3 m c), ha⟩
  · refine (θ_run Cert.ModulationReferenceIdeal.defs _ _).mono (fun r h c => ?_) (Cert.ModulationReferenceIdeal.Value.run m' g')
    obtain ⟨h0, ha⟩ := h c
    obtain ⟨a0, a1, a2⟩ := hagree c
    refine ⟨h0.trans (Eq.trans (b := Cert.ModulationReferenceIdeal.Stages.ref
        (m' ((c.tc : Thread Cert.ModulationReferenceIdeal.nD Cert.ModulationReferenceIdeal.τ).loc Cert.ModulationReferenceIdeal.main_arg0))
        (m' ((c.tc : Thread Cert.ModulationReferenceIdeal.nD Cert.ModulationReferenceIdeal.τ).loc Cert.ModulationReferenceIdeal.main_arg1))
        (m' ((c.tc : Thread Cert.ModulationReferenceIdeal.nD Cert.ModulationReferenceIdeal.τ).loc Cert.ModulationReferenceIdeal.main_arg2))) rfl ?_), ha⟩
    show _ = Cert.ModulationIdeal.Arr.refm m c
    unfold Cert.ModulationIdeal.Arr.refm
    rw [← a0, ← a1, ← a2]

end Cert.ModulationClaims

end
-- ==== Proof.CacheRef.lean ====
module

public import proofs.«01_k».proof.Proof.Gen.CacheReferenceIdeal.Run
public import Idealize.ShloMosaic.Lib.Pipeline.ValueKit
public import Idealize.ShloMosaic.Lib.Pointwise

@[expose] public section

set_option maxRecDepth 16384

noncomputable section

/-! The reference of the compressed cache's up-projection, stage by stage. -/
namespace Cert.CacheReferenceIdeal.Stages

open Cert.CacheReferenceIdeal Cert.CacheReferenceIdeal.Gen
open Idealize.ShloMosaic Idealize.ShloMosaic.TcCoe Idealize.SL.Sem

/-- The first layer's compressed rows against the up-projection. -/
def keyvals (C : FVec Ideal S8x2x512x256 .f32) (W : FVec Ideal S256x1024 .bf16) : FVec Ideal S8x512x1024 .f32 :=
  Host.dotGeneral dot_S8x512x256_S256x1024_S8x512x1024_2_0_01_1_n_n none
    (shapeCast S8x512x256 (extractStridedSlice S8x1x512x256 ![0, 0, 0, 0] C slices_S8x2x512x256_S8x1x512x256_0_0_0_0) shapeCasts_S8x1x512x256_S8x512x256)
    (extf .f32 W bitsLt_bf16_f32)

/-- The keys: the first 512 columns. -/
def keys (P : FVec Ideal S8x512x1024 .f32) : FVec Ideal S8x512x512 .bf16 :=
  truncf .bf16 (extractStridedSlice S8x512x512 ![0, 0, 0] P slices_S8x512x1024_S8x512x512_0_0_0) bitsLt_bf16_f32

/-- The values: the last 512 columns. -/
def values (P : FVec Ideal S8x512x1024 .f32) : FVec Ideal S8x512x512 .bf16 :=
  truncf .bf16 (extractStridedSlice S8x512x512 ![0, 0, 512] P slices_S8x512x1024_S8x512x512_0_0_512) bitsLt_bf16_f32

/-- The first layer's rotary keys. -/
def rotary (R : FVec Ideal S8x2x512x32 .f32) : FVec Ideal S8x512x32 .f32 :=
  shapeCast S8x512x32 (extractStridedSlice S8x1x512x32 ![0, 0, 0, 0] R slices_S8x2x512x32_S8x1x512x32_0_0_0_0) shapeCasts_S8x1x512x32_S8x512x32

/-- Four copies side by side. -/
def four (r : FVec Ideal S8x512x32 .f32) : FVec Ideal S8x512x128 .bf16 :=
  truncf .bf16 (concatenate S8x512x128 2 [⟨S8x512x32, r⟩, ⟨S8x512x32, r⟩, ⟨S8x512x32, r⟩, ⟨S8x512x32, r⟩]
    concatenates_S8x512x32_S8x512x32_S8x512x32_S8x512x32_S8x512x128_d2) bitsLt_bf16_f32

theorem keyvals_at (C : FVec Ideal S8x2x512x256 .f32) (W : FVec Ideal S256x1024 .bf16) (b : Fin 8) (n : Fin 512) (j : Fin 1024) :
    keyvals C W (ix3 b n j) = ∑ k : Fin 256, C (ix4 b 0 n k) * W (ix2 k j) := by
  pointwise [keyvals]
theorem keys_at (P : FVec Ideal S8x512x1024 .f32) (b : Fin 8) (n j : Fin 512) : keys P (ix3 b n j) = P (ix3 b n ⟨j, by omega⟩) := by
  pointwise [keys]
theorem values_at (P : FVec Ideal S8x512x1024 .f32) (b : Fin 8) (n j : Fin 512) : values P (ix3 b n j) = P (ix3 b n ⟨512 + j, by omega⟩) := by
  pointwise [values]
theorem rotary_at (R : FVec Ideal S8x2x512x32 .f32) (b : Fin 8) (n : Fin 512) (d : Fin 32) : rotary R (ix3 b n d) = R (ix4 b 0 n d) := by
  pointwise [rotary]
theorem four_at (r : FVec Ideal S8x512x32 .f32) (b : Fin 8) (n : Fin 512) (h : Fin 4) (d : Fin 32) :
    four r (ix3 b n ⟨h * 32 + d, by omega⟩) = r (ix3 b n d) := by
  fin_cases h <;> pointwise [four]
  all_goals
    repeat (first | rw [dif_neg (by omega)] | rw [dif_pos (by omega)])
    exact congrArg (fun z => r (ix3 b n z)) (Fin.ext (by show _ = (d : ℕ); simp only []; omega))

end Cert.CacheReferenceIdeal.Stages

end
-- ==== Proof.CacheValue.lean ====
module

public import proofs.«01_k».proof.Proof.Gen.CacheIdeal.Value
public import proofs.«01_k».proof.Proof.CacheRef
public import Idealize.ShloMosaic.Lib.IdealHost
public import Idealize.ShloMosaic.Lib.Claim

@[expose] public section

set_option maxRecDepth 16384

noncomputable section

/-! The compressed cache's up-projection: the kernel's three result arrays are the reference's. -/
namespace Cert.CacheIdeal.Arr

open Cert.CacheIdeal Cert.CacheIdeal.Gen
open Idealize.ShloMosaic Idealize.ShloMosaic.TcCoe Idealize.SL.Sem
open Cert.CacheReferenceIdeal.Stages

variable (m : (ℓ : Loc nD τ sig) → Buf (Elt Ideal) ℓ)

/-- The blocks a grid point stages: one latent batch of the first layer. -/
theorem idx_val : ∀ t : Fin cfg0.N, win0_0.index t = ![t.val, 0, 0, 0] ∧ win0_1.index t = ![t.val, 0, 0, 0]
    ∧ win0_2.index t = ![0, 0] ∧ win0_3.index t = ![0, 0]
    ∧ win0_4.index t = ![t.val, 0, 0] ∧ win0_5.index t = ![t.val, 0, 0] ∧ win0_6.index t = ![t.val, 0, 0] :=
  (by decide +kernel : ∀ t : Fin grid0.N, _)

/-- The copying matrix, as a function. -/
def rep : FVec Ideal S32x128 .bf16 := fun i => FloatOps.ofBits .bf16 (lit0 (S32x128.rowMajor i))

theorem V_cst (c : Dev nD) : V m c main_cst = rep := by
  unfold V; after_results; try rfl

/-- The matrix's patterns: a one where the column is a copy of the row, else a zero. -/
theorem lit_val : ∀ (k : Fin 32) (h : Fin 4) (d : Fin 32),
    lit0 ⟨k * 128 + (h * 32 + d), by omega⟩ = if k = d then 0x3F80#16 else 0x0000#16 := by
  decide +kernel

theorem rep_at (k : Fin 32) (h : Fin 4) (d : Fin 32) : rep (ix2 k ⟨h * 32 + d, by omega⟩) = if k = d then 1 else 0 := by
  show Ideal.ofBits .bf16 (lit0 (S32x128.rowMajor (ix2 k ⟨h * 32 + d, by omega⟩))) = _
  have e : S32x128.rowMajor (ix2 k ⟨h * 32 + d, by omega⟩) = ⟨k * 128 + (h * 32 + d), by show _ < 4096; omega⟩ := by
    refine Fin.ext ?_
    rw [Shape.rowMajor_val_two]
    rfl
  rw [e]
  refine (congrArg (Ideal.ofBits .bf16) (lit_val k h d)).trans ?_
  split
  · exact Ideal.ofBits_one_bf16
  · exact Ideal.ofBits_zero_bf16

/-! A block at an index. -/
theorem ckv_at (c : Dev nD) (t : Fin cfg0.N) (ht : t.val < 8) (n : Fin 512) (k : Fin 256) :
    iblk m c 0 t (ix4 0 0 n k) = m ((c : Thread nD τ).loc main_arg0) (ix4 ⟨t.val, ht⟩ 0 n k) := by
  blk_ext [iblk, V, idx_val t]
theorem kr_at (c : Dev nD) (t : Fin cfg0.N) (ht : t.val < 8) (n : Fin 512) (k : Fin 32) :
    iblk m c 1 t (ix4 0 0 n k) = m ((c : Thread nD τ).loc main_arg1) (ix4 ⟨t.val, ht⟩ 0 n k) := by
  blk_ext [iblk, V, idx_val t]
theorem w_at (c : Dev nD) (t : Fin cfg0.N) (k : Fin 256) (j : Fin 1024) :
    iblk m c 2 t (ix2 k j) = m ((c : Thread nD τ).loc main_arg2) (ix2 k j) := by
  blk_ext [iblk, V, idx_val t]
theorem r_at (c : Dev nD) (t : Fin cfg0.N) (k : Fin 32) (j : Fin 128) : iblk m c 3 t (ix2 k j) = rep (ix2 k j) := by
  refine Eq.trans (b := V m c main_cst (ix2 k j)) ?_ ?_
  · blk_ext [iblk, idx_val t]
  · rw [V_cst]

/-! The body's values at an index. -/
theorem pay1_at (C : Vec Ideal S1x1x512x256 .f32) (W : Vec Ideal S256x1024 .bf16) (n : Fin 512) (j : Fin 1024) :
    k0_pay1 C W (ix2 n j) = ∑ k : Fin 256, C (ix4 0 0 n k) * W (ix2 k j) := by
  pointwise [k0_pay1]
theorem pay2_at (C : Vec Ideal S1x1x512x256 .f32) (W : Vec Ideal S256x1024 .bf16) (n j : Fin 512) :
    k0_pay2 C W (ix3 0 n j) = k0_pay1 C W (ix2 n ⟨j, by omega⟩) := by
  unfold k0_pay2
  generalize k0_pay1 C W = p
  pointwise
theorem pay3_at (C : Vec Ideal S1x1x512x256 .f32) (W : Vec Ideal S256x1024 .bf16) (n j : Fin 512) :
    k0_pay3 C W (ix3 0 n j) = k0_pay1 C W (ix2 n ⟨512 + j, by omega⟩) := by
  unfold k0_pay3
  generalize k0_pay1 C W = p
  pointwise
theorem pay4_at (R : Vec Ideal S1x1x512x32 .f32) (E : Vec Ideal S32x128 .bf16) (n : Fin 512) (j : Fin 128) :
    k0_pay4 R E (ix3 0 n j) = ∑ k : Fin 32, R (ix4 0 0 n k) * E (ix2 k j) := by
  pointwise [k0_pay4]

theorem ld0 (B : Vec Ideal S1x1x512x256 .f32) (n : Fin 512) (k : Fin 256) : View.ld B r0_0 (ix4 0 0 n k) = B (ix4 0 0 n k) := by pointwise
theorem ld1 (B : Vec Ideal S256x1024 .bf16) (k : Fin 256) (j : Fin 1024) : View.ld B r0_1 (ix2 k j) = B (ix2 k j) := by pointwise
theorem ld3 (B : Vec Ideal S1x1x512x32 .f32) (n : Fin 512) (k : Fin 32) : View.ld B r0_3 (ix4 0 0 n k) = B (ix4 0 0 n k) := by pointwise
theorem ld4 (B : Vec Ideal S32x128 .bf16) (k : Fin 32) (j : Fin 128) : View.ld B r0_4 (ix2 k j) = B (ix2 k j) := by pointwise

/-- The reference's arrays of the memory's arguments. -/
def kvs (c : Dev nD) : FVec Ideal Cert.CacheReferenceIdeal.S8x512x1024 .f32 := keyvals (m ((c : Thread nD τ).loc main_arg0)) (m ((c : Thread nD τ).loc main_arg2))
def rots (c : Dev nD) : FVec Ideal Cert.CacheReferenceIdeal.S8x512x32 .f32 := rotary (m ((c : Thread nD τ).loc main_arg1))

theorem kv_eq (c : Dev nD) (t : Fin cfg0.N) (ht : t.val < 8) (n : Fin 512) (j : Fin 1024) :
    k0_pay1 (View.ld (iblk m c 0 t) r0_0) (View.ld (iblk m c 2 t) r0_1) (ix2 n j) = kvs m c (ix3 ⟨t.val, ht⟩ n j) := by
  refine (pay1_at _ _ n j).trans (Eq.trans ?_ (keyvals_at _ _ _ n j).symm)
  exact Finset.sum_congr rfl fun k _ => congrArg₂ (· * ·) ((ld0 _ n k).trans (ckv_at m c t ht n k)) ((ld1 _ k j).trans (w_at m c t k j))

/-- A sum against one row of the copying matrix. -/
theorem pick (f : Fin 32 → Ideal .f32) (d : Fin 32) : (∑ k : Fin 32, f k * (if k = d then (1 : Ideal .f32) else 0)) = f d := by
  rw [Finset.sum_eq_single d]
  · rw [if_pos rfl, mul_one]
  · intro k _ hk
    rw [if_neg hk, mul_zero]
  · exact fun hn => absurd (Finset.mem_univ d) hn

theorem rot_eq (c : Dev nD) (t : Fin cfg0.N) (ht : t.val < 8) (n : Fin 512) (h : Fin 4) (d : Fin 32) :
    k0_pay4 (View.ld (iblk m c 1 t) r0_3) (View.ld (iblk m c 3 t) r0_4) (ix3 0 n ⟨h * 32 + d, by omega⟩) = rots m c (ix3 ⟨t.val, ht⟩ n d) := by
  refine (pay4_at _ _ n _).trans (Eq.trans ?_ (rotary_at _ _ n d).symm)
  refine (Finset.sum_congr rfl fun k _ => congrArg₂ (· * ·) ((ld3 _ n k).trans (kr_at m c t ht n k))
    ((ld4 _ k _).trans ((r_at m c t k _).trans (rep_at k h d)))).trans ?_
  exact pick (fun k : Fin 32 => m ((c : Thread nD τ).loc main_arg1) (ix4 ⟨t.val, ht⟩ 0 n k)) d

/-- An index of a three-axis array from its coordinates. -/
theorem idx3 {a b k : ℕ} (j : Shape.Idx ⟨3, ![a, b, k]⟩) (p : Fin a) (q : Fin b) (r : Fin k) (h0 : (j 0 : ℕ) = p) (h1 : (j 1 : ℕ) = q) (h2 : (j 2 : ℕ) = r) :
    j = ix3 p q r := by
  funext x
  refine Fin.ext ?_
  match x with
  | 0 => exact h0
  | 1 => exact h1
  | 2 => exact h2

theorem key_eq (c : Dev nD) (t : Fin cfg0.N) (ht : t.val < 8) (x : S1x512x512.Idx) (j : S8x512x512.Idx)
    (h0 : (j 0 : ℕ) = t.val) (h1 : (j 1 : ℕ) = x 1) (h2 : (j 2 : ℕ) = x 2) :
    k0_pay2 (View.ld (iblk m c 0 t) r0_0) (View.ld (iblk m c 2 t) r0_1) x = keys (kvs m c) j := by
  idx_vars x
  obtain rfl : x0 = 0 := Fin.ext (by have : (x0 : ℕ) < 1 := x0.isLt; show (x0 : ℕ) = 0; omega)
  rw [idx3 j ⟨t.val, ht⟩ x1 x2 h0 h1 h2]
  exact (pay2_at _ _ x1 x2).trans ((kv_eq m c t ht x1 _).trans (keys_at _ _ x1 x2).symm)

theorem value_eq (c : Dev nD) (t : Fin cfg0.N) (ht : t.val < 8) (x : S1x512x512.Idx) (j : S8x512x512.Idx)
    (h0 : (j 0 : ℕ) = t.val) (h1 : (j 1 : ℕ) = x 1) (h2 : (j 2 : ℕ) = x 2) :
    k0_pay3 (View.ld (iblk m c 0 t) r0_0) (View.ld (iblk m c 2 t) r0_1) x = values (kvs m c) j := by
  idx_vars x
  obtain rfl : x0 = 0 := Fin.ext (by have : (x0 : ℕ) < 1 := x0.isLt; show (x0 : ℕ) = 0; omega)
  rw [idx3 j ⟨t.val, ht⟩ x1 x2 h0 h1 h2]
  exact (pay3_at _ _ x1 x2).trans ((kv_eq m c t ht x1 _).trans (values_at _ _ x1 x2).symm)

theorem lane (h : Fin 4) (d : Fin 32) : (h : ℕ) * 32 + d < 128 := by omega

theorem copy_eq (c : Dev nD) (t : Fin cfg0.N) (ht : t.val < 8) (x : S1x512x128.Idx) (j : S8x512x128.Idx)
    (h0 : (j 0 : ℕ) = t.val) (h1 : (j 1 : ℕ) = x 1) (h2 : (j 2 : ℕ) = x 2) :
    k0_pay4 (View.ld (iblk m c 1 t) r0_3) (View.ld (iblk m c 3 t) r0_4) x = four (rots m c) j := by
  idx_vars x
  obtain rfl : x0 = 0 := Fin.ext (by have : (x0 : ℕ) < 1 := x0.isLt; show (x0 : ℕ) = 0; omega)
  have b2 : (x2 : ℕ) < 128 := x2.isLt
  obtain ⟨h, d, rfl⟩ : ∃ (h : Fin 4) (d : Fin 32), x2 = ⟨h * 32 + d, lane h d⟩ :=
    ⟨⟨x2 / 32, by omega⟩, ⟨x2 % 32, by omega⟩, Fin.ext (by show (x2 : ℕ) = x2 / 32 * 32 + x2 % 32; omega)⟩
  rw [idx3 j ⟨t.val, ht⟩ x1 ⟨h * 32 + d, lane h d⟩ h0 h1 h2]
  exact (rot_eq m c t ht x1 h d).trans (four_at _ _ x1 h d).symm

theorem point4 (c : Dev nD) (t : Fin cfg0.N) (y : S1x512x512.Idx) :
    out0_4 (F := Ideal) (iblk m c 0 t) (iblk m c 1 t) (iblk m c 2 t) (iblk m c 3 t) y = keys (kvs m c) (((cfg0.win 4).blk t).view.emb y) := by
  have ht : t.val < 8 := lt_of_lt_of_eq t.isLt N_0
  canon_tiles x h
  · refine key_eq m c t ht x _ ?_ ?_ ?_
    · blk_simp [idx_val t]; try omega
    · blk_simp [idx_val t]; try omega
    · blk_simp [idx_val t]; try omega
theorem point5 (c : Dev nD) (t : Fin cfg0.N) (y : S1x512x512.Idx) :
    out0_5 (F := Ideal) (iblk m c 0 t) (iblk m c 1 t) (iblk m c 2 t) (iblk m c 3 t) y = values (kvs m c) (((cfg0.win 5).blk t).view.emb y) := by
  have ht : t.val < 8 := lt_of_lt_of_eq t.isLt N_0
  canon_tiles x h
  · refine value_eq m c t ht x _ ?_ ?_ ?_
    · blk_simp [idx_val t]; try omega
    · blk_simp [idx_val t]; try omega
    · blk_simp [idx_val t]; try omega
theorem point6 (c : Dev nD) (t : Fin cfg0.N) (y : S1x512x128.Idx) :
    out0_6 (F := Ideal) (iblk m c 0 t) (iblk m c 1 t) (iblk m c 2 t) (iblk m c 3 t) y = four (rots m c) (((cfg0.win 6).blk t).view.emb y) := by
  have ht : t.val < 8 := lt_of_lt_of_eq t.isLt N_0
  canon_tiles x h
  · refine copy_eq m c t ht x _ ?_ ?_ ?_
    · blk_simp [idx_val t]; try omega
    · blk_simp [idx_val t]; try omega
    · blk_simp [idx_val t]; try omega

theorem final4 (c : Dev nD) : (dats m 0 c).arrAt 4 cfg0.N = keys (kvs m c) := by
  refine (dats m 0 c).arrAt_eq_of_covers 4 _ (by decide +kernel) fun t _ y => ?_
  blk_simp
  rw [after0_4]
  exact point4 m c t y
theorem final5 (c : Dev nD) : (dats m 0 c).arrAt 5 cfg0.N = values (kvs m c) := by
  refine (dats m 0 c).arrAt_eq_of_covers 5 _ (by decide +kernel) fun t _ y => ?_
  blk_simp
  rw [after0_5]
  exact point5 m c t y
theorem final6 (c : Dev nD) : (dats m 0 c).arrAt 6 cfg0.N = four (rots m c) := by
  refine (dats m 0 c).arrAt_eq_of_covers 6 _ (by decide +kernel) fun t _ y => ?_
  blk_simp
  rw [after0_6]
  exact point6 m c t y

end Cert.CacheIdeal.Arr

end
-- ==== Proof.CacheClaims.lean ====
module

public import proofs.«01_k».proof.Proof.CacheValue
public import proofs.«01_k».proof.Proof.Gen.Cache.Frame
public import proofs.«01_k».proof.Proof.Gen.CacheReferenceIdeal.Run
public import proofs.«01_k».proof.Defs

@[expose] public section

set_option maxRecDepth 16384

noncomputable section

/-! The claim of the compressed cache's up-projection. -/
namespace Cert.CacheClaims

open Idealize.ShloMosaic Idealize.ShloMosaic.TcCoe Idealize.SL.Sem

/-- The up-projection's claim: each of the kernel's three results is the reference's. -/
theorem value : @Cert.algebraic_CacheIdeal_CacheReferenceIdeal Cert.CacheIdeal.Gen.facts Cert.CacheReferenceIdeal.Gen.facts := by
  intro m g m' g' _ hagree
  refine ⟨fun c => Cert.CacheReferenceIdeal.Stages.keys (Cert.CacheIdeal.Arr.kvs m c), fun c => Cert.CacheReferenceIdeal.Stages.values (Cert.CacheIdeal.Arr.kvs m c),
    fun c => Cert.CacheReferenceIdeal.Stages.four (Cert.CacheIdeal.Arr.rots m c), ?_, ?_⟩
  · refine (θ_run Cert.CacheIdeal.defs _ _).mono (fun r h c => ?_) (Cert.CacheIdeal.Value.run_blocks m g)
    obtain ⟨h0, h1, h2, ha⟩ := h c
    exact ⟨h0.trans (Cert.CacheIdeal.Arr.final4 m c), h1.trans (Cert.CacheIdeal.Arr.final5 m c), h2.trans (Cert.CacheIdeal.Arr.final6 m c), ha⟩
  · refine (θ_run Cert.CacheReferenceIdeal.defs _ _).mono (fun r h c => ?_) (Cert.CacheReferenceIdeal.Value.run m' g')
    obtain ⟨h0, h1, h2, ha⟩ := h c
    obtain ⟨a0, a1, a2⟩ := hagree c
    have ek : (Cert.CacheReferenceIdeal.Stages.keyvals
        (m' ((c.tc : Thread Cert.CacheReferenceIdeal.nD Cert.CacheReferenceIdeal.τ).loc Cert.CacheReferenceIdeal.main_arg0))
        (m' ((c.tc : Thread Cert.CacheReferenceIdeal.nD Cert.CacheReferenceIdeal.τ).loc Cert.CacheReferenceIdeal.main_arg2))) = Cert.CacheIdeal.Arr.kvs m c := by
      unfold Cert.CacheIdeal.Arr.kvs
      rw [← a0, ← a2]
    have er : Cert.CacheReferenceIdeal.Stages.rotary
        (m' ((c.tc : Thread Cert.CacheReferenceIdeal.nD Cert.CacheReferenceIdeal.τ).loc Cert.CacheReferenceIdeal.main_arg1)) = Cert.CacheIdeal.Arr.rots m c := by
      unfold Cert.CacheIdeal.Arr.rots
      rw [← a1]
    exact ⟨h0.trans (congrArg Cert.CacheReferenceIdeal.Stages.keys ek), h1.trans (congrArg Cert.CacheReferenceIdeal.Stages.values ek), h2.trans (congrArg Cert.CacheReferenceIdeal.Stages.four er), ha⟩

end Cert.CacheClaims

end
-- ==== Proof.TokensRef.lean ====
module

public import proofs.«01_k».proof.Proof.Gen.TokensReferenceIdeal.Run
public import Idealize.ShloMosaic.Lib.Pipeline.ValueKit
public import Idealize.ShloMosaic.Lib.Pointwise

@[expose] public section

set_option maxRecDepth 16384

noncomputable section

/-! The latent tokens' projection: its rows, and the reference's arrays read at an index. -/
namespace Cert.TokensReferenceIdeal.Stages

open Cert.TokensReferenceIdeal Cert.TokensReferenceIdeal.Gen
open Idealize.ShloMosaic Idealize.ShloMosaic.TcCoe Idealize.SL.Sem

/-- One entry of a modulated row: the input scaled and shifted. -/
def hid (x : Fin 1024 → EReal) (sc sh : Fin 1024 → EReal) (k : Fin 1024) : EReal :=
  x k * (Ideal.ofBits .f32 0x3F800000#32 + sc k) + sh k

/-- A row times a column. -/
def dotp {n : ℕ} (h w : Fin n → EReal) : EReal := ∑ k : Fin n, h k * w k

/-- One entry of a row divided by its root mean square, times the gain. -/
def rms {n : ℕ} (len : BitVec 32) (x g : Fin n → EReal) (d : Fin n) : EReal :=
  x d * Ideal.rsqrt (Ideal.div (∑ k : Fin n, x k * x k) (Ideal.ofBits .f32 len) + Ideal.ofBits .f32 0x358637BD#32) * g d

/-- The modulated input: the tokens of each picture scaled and shifted by that picture's rows. -/
def modulated (X : FVec Ideal S16384x1024 .f32) (M : FVec Ideal S8x6x1024 .f32) : FVec Ideal S16384x1024 .f32 :=
  (shapeCast _ (addf (mulf (shapeCast _ X shapeCasts_S16384x1024_S8x2048x1024) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 1, 0] M slices_S8x6x1024_S8x1x1024_0_1_0)))) (broadcastInDim S8x2048x1024 ![0, 1, 2] bcast_S8x1x1024_S8x2048x1024_0_1_2 (extractStridedSlice S8x1x1024 ![0, 0, 0] M slices_S8x6x1024_S8x1x1024_0_0_0))) shapeCasts_S8x2048x1024_S16384x1024)

/-- The in-projection of the modulated input. -/
def projected (H : FVec Ideal S16384x1024 .f32) (W : FVec Ideal S1024x6816 .bf16) : FVec Ideal S16384x3744 .f32 :=
  (Host.dotGeneral dot_S16384x1024_S1024x3744_S16384x3744_1_0_0_1_n_n none H (extf .f32 (extractStridedSlice S1024x3744 ![0, 0] W slices_S1024x6816_S1024x3744_0_0) bitsLt_bf16_f32))

/-- The normalised query latent. -/
def qNorm (P : FVec Ideal S16384x384 .f32) (g : FVec Ideal S384 .f32) : FVec Ideal S16384x384 .f32 :=
  (mulf (mulf P (broadcastInDim S16384x384 ![0, 1] bcast_S16384x1_S16384x384_0_1 (Host.rsqrt (addf (Host.divf (broadcastInDim S16384x1 ![0] bcast_S16384_S16384x1_0 (Host.reduceAdd (mulf P P) (constant S_ .f32 0x00000000#32) reducesTo_S16384x384_S16384_d1 h_S_)) (broadcastInDim S16384x1 ![] bcast_S_S16384x1 (constant S_ .f32 0x43C00000#32))) (broadcastInDim S16384x1 ![] bcast_S_S16384x1 (constant S_ .f32 0x358637BD#32)))))) (broadcastInDim S16384x384 ![0, 1] bcast_S1x384_S16384x384_0_1 (broadcastInDim S1x384 ![1] bcast_S384_S1x384_1 g)))

/-- The normalised key and value latent. -/
def kvNorm (P : FVec Ideal S16384x256 .f32) (g : FVec Ideal S256 .f32) : FVec Ideal S16384x256 .f32 :=
  (mulf (mulf P (broadcastInDim S16384x256 ![0, 1] bcast_S16384x1_S16384x256_0_1 (Host.rsqrt (addf (Host.divf (broadcastInDim S16384x1 ![0] bcast_S16384_S16384x1_0 (Host.reduceAdd (mulf P P) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (broadcastInDim S1x256 ![1] bcast_S256_S1x256_1 g)))

/-- The queries of the latent attention, all heads. -/
def queries (L : FVec Ideal S16384x384 .f32) (Q : FVec Ideal S384x768 .bf16) : FVec Ideal S16384x768 .f32 :=
  (Host.dotGeneral dot_S16384x384_S384x768_S16384x768_1_0_0_1_n_n none L (extf .f32 Q bitsLt_bf16_f32))

/-- The keys and values of the latent attention, all heads. -/
def keyvals (L : FVec Ideal S16384x256 .f32) (K : FVec Ideal S256x1024 .bf16) : FVec Ideal S16384x1024 .f32 :=
  (Host.dotGeneral dot_S16384x256_S256x1024_S16384x1024_1_0_0_1_n_n none L (extf .f32 K bitsLt_bf16_f32))

theorem modulated_at (X : FVec Ideal S16384x1024 .f32) (M : FVec Ideal S8x6x1024 .f32) (b : Fin 8) (s : Fin 2048) (k : Fin 1024) :
    modulated X M (ix2 ⟨b * 2048 + s, by omega⟩ k)
      = hid (fun k => X (ix2 ⟨b * 2048 + s, by omega⟩ k)) (fun k => M (ix3 b 1 k)) (fun k => M (ix3 b 0 k)) k := by
  pointwise [modulated, hid]

theorem projected_at (H : FVec Ideal S16384x1024 .f32) (W : FVec Ideal S1024x6816 .bf16) (r : Fin 16384) (j : Fin 3744) :
    projected H W (ix2 r j) = dotp (fun k => H (ix2 r k)) (fun k => W (ix2 k ⟨j, by omega⟩)) := by
  pointwise [projected, dotp]

theorem qNorm_at (P : FVec Ideal S16384x384 .f32) (g : FVec Ideal S384 .f32) (r : Fin 16384) (d : Fin 384) :
    qNorm P g (ix2 r d) = rms 0x43C00000#32 (fun d => P (ix2 r d)) (fun d => g (ix1 d)) d := by
  pointwise [qNorm, rms]

theorem kvNorm_at (P : FVec Ideal S16384x256 .f32) (g : FVec Ideal S256 .f32) (r : Fin 16384) (d : Fin 256) :
    kvNorm P g (ix2 r d) = rms 0x43800000#32 (fun d => P (ix2 r d)) (fun d => g (ix1 d)) d := by
  pointwise [kvNorm, rms]

theorem queries_at (L : FVec Ideal S16384x384 .f32) (Q : FVec Ideal S384x768 .bf16) (r : Fin 16384) (j : Fin 768) :
    queries L Q (ix2 r j) = dotp (fun k => L (ix2 r k)) (fun k => Q (ix2 k j)) := by
  pointwise [queries, dotp]

theorem keyvals_at (L : FVec Ideal S16384x256 .f32) (K : FVec Ideal S256x1024 .bf16) (r : Fin 16384) (j : Fin 1024) :
    keyvals L K (ix2 r j) = dotp (fun k => L (ix2 r k)) (fun k => K (ix2 k j)) := by
  pointwise [keyvals, dotp]

/-! The results without a rotation, from the projection, the queries, and the keys and values. -/

def resDv (P : FVec Ideal S16384x3744 .f32) : FVec Ideal S16384x512 .bf16 :=
  truncf .bf16 (extractStridedSlice S16384x512 ![0, 1024] P slices_S16384x3744_S16384x512_0_1024) bitsLt_bf16_f32
def resNq (P : FVec Ideal S16384x3744 .f32) : FVec Ideal S16384x512 .bf16 :=
  truncf .bf16 (mulf (extractStridedSlice S16384x512 ![0, 1536] P slices_S16384x3744_S16384x512_0_1536) (broadcastInDim S16384x512 ![] bcast_S_S16384x512 (constant S_ .f32 0x3E38AA3B#32))) bitsLt_bf16_f32
def resNk (P : FVec Ideal S16384x3744 .f32) : FVec Ideal S16384x512 .bf16 :=
  truncf .bf16 (extractStridedSlice S16384x512 ![0, 2048] P slices_S16384x3744_S16384x512_0_2048) bitsLt_bf16_f32
def resNv (P : FVec Ideal S16384x3744 .f32) : FVec Ideal S16384x512 .bf16 :=
  truncf .bf16 (extractStridedSlice S16384x512 ![0, 2560] P slices_S16384x3744_S16384x512_0_2560) bitsLt_bf16_f32
def resQn (P : FVec Ideal S16384x768 .f32) : FVec Ideal S16384x512 .bf16 :=
  truncf .bf16 (mulf (extractStridedSlice S16384x512 ![0, 0] P slices_S16384x768_S16384x512_0_0) (broadcastInDim S16384x512 ![] bcast_S_S16384x512 (constant S_ .f32 0x3E16C740#32))) bitsLt_bf16_f32
def resKn (P : FVec Ideal S16384x1024 .f32) : FVec Ideal S16384x512 .bf16 :=
  truncf .bf16 (extractStridedSlice S16384x512 ![0, 0] P slices_S16384x1024_S16384x512_0_0) bitsLt_bf16_f32
def resVn (P : FVec Ideal S16384x1024 .f32) : FVec Ideal S16384x512 .bf16 :=
  truncf .bf16 (extractStridedSlice S16384x512 ![0, 512] P slices_S16384x1024_S16384x512_0_512) bitsLt_bf16_f32
/-- The query latent and the key and value latent, as the projection holds them. -/
def qLat (P : FVec Ideal S16384x3744 .f32) : FVec Ideal S16384x384 .f32 :=
  extractStridedSlice S16384x384 ![0, 3072] P slices_S16384x3744_S16384x384_0_3072
def kvLat (P : FVec Ideal S16384x3744 .f32) : FVec Ideal S16384x256 .f32 :=
  extractStridedSlice S16384x256 ![0, 3456] P slices_S16384x3744_S16384x256_0_3456

theorem resDv_at (P : FVec Ideal S16384x3744 .f32) (r : Fin 16384) (j : Fin 512) :
    resDv P (ix2 r j) = P (ix2 r ⟨1024 + j, by omega⟩) := by
  pointwise [resDv]
theorem resNq_at (P : FVec Ideal S16384x3744 .f32) (r : Fin 16384) (j : Fin 512) :
    resNq P (ix2 r j) = P (ix2 r ⟨1536 + j, by omega⟩) * Ideal.ofBits .f32 0x3E38AA3B#32 := by
  pointwise [resNq]
theorem resNk_at (P : FVec Ideal S16384x3744 .f32) (r : Fin 16384) (j : Fin 512) :
    resNk P (ix2 r j) = P (ix2 r ⟨2048 + j, by omega⟩) := by
  pointwise [resNk]
theorem resNv_at (P : FVec Ideal S16384x3744 .f32) (r : Fin 16384) (j : Fin 512) :
    resNv P (ix2 r j) = P (ix2 r ⟨2560 + j, by omega⟩) := by
  pointwise [resNv]
theorem resQn_at (P : FVec Ideal S16384x768 .f32) (r : Fin 16384) (j : Fin 512) :
    resQn P (ix2 r j) = P (ix2 r ⟨j, by omega⟩) * Ideal.ofBits .f32 0x3E16C740#32 := by
  pointwise [resQn]
theorem resKn_at (P : FVec Ideal S16384x1024 .f32) (r : Fin 16384) (j : Fin 512) :
    resKn P (ix2 r j) = P (ix2 r ⟨j, by omega⟩) := by
  pointwise [resKn]
theorem resVn_at (P : FVec Ideal S16384x1024 .f32) (r : Fin 16384) (j : Fin 512) :
    resVn P (ix2 r j) = P (ix2 r ⟨512 + j, by omega⟩) := by
  pointwise [resVn]
theorem qLat_at (P : FVec Ideal S16384x3744 .f32) (r : Fin 16384) (j : Fin 384) :
    qLat P (ix2 r j) = P (ix2 r ⟨3072 + j, by omega⟩) := by
  pointwise [qLat]
theorem kvLat_at (P : FVec Ideal S16384x3744 .f32) (r : Fin 16384) (j : Fin 256) :
    kvLat P (ix2 r j) = P (ix2 r ⟨3456 + j, by omega⟩) := by
  pointwise [kvLat]

end Cert.TokensReferenceIdeal.Stages

end
-- ==== Proof.TokensTurn.lean ====
module

public import proofs.«01_k».proof.Proof.TokensRef

@[expose] public section

set_option maxRecDepth 16384

noncomputable section

/-! The rotation by position: its angles, and its arrays read at an index. -/
namespace Cert.TokensReferenceIdeal.Stages

open Cert.TokensReferenceIdeal Cert.TokensReferenceIdeal.Gen
open Idealize.ShloMosaic Idealize.ShloMosaic.TcCoe Idealize.SL.Sem

/-! The angles of the grid's rows and of its columns, for blocks of 64 and of 32 lanes. -/
def rows16 : FVec Ideal S2048x16 .f32 :=
  mulf (broadcastInDim S2048x16 ![0, 1] bcast_S2048x1_S2048x16_0_1 (broadcastInDim S2048x1 ![0] bcast_S2048_S2048x1_0 (sitofp .f32 (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))))))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))
def cols16 : FVec Ideal S2048x16 .f32 :=
  mulf (broadcastInDim S2048x16 ![0, 1] bcast_S2048x1_S2048x16_0_1 (broadcastInDim S2048x1 ![0] bcast_S2048_S2048x1_0 (sitofp .f32 (select (andi (cmpi .ne (cmpi .slt (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (constantI S_ 32 0#32))) (broadcastInDim S2048 ![] bcast_S_S2048 (cmpi .slt (select (cmpi .eq (id (constantI S_ 32 64#32)) (constantI S_ 32 0#32)) (constantI S_ 32 1#32) (id (constantI S_ 32 64#32))) (constantI S_ 32 0#32)))) (cmpi .ne (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (constantI S_ 32 0#32)))) (addi (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (select (cmpi .eq (id (constantI S_ 32 64#32)) (constantI S_ 32 0#32)) (constantI S_ 32 1#32) (id (constantI S_ 32 64#32))))) (Host.remsi (iotaInDim S2048 32 0) (broadcastInDim S2048 ![] bcast_S_S2048 (select (cmpi .eq (id (constantI S_ 32 64#32)) (constantI S_ 32 0#32)) (constantI S_ 32 1#32) (id (constantI S_ 32 64#32))))))))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))
def rows8 : FVec Ideal S2048x8 .f32 :=
  mulf (broadcastInDim S2048x8 ![0, 1] bcast_S2048x1_S2048x8_0_1 (broadcastInDim S2048x1 ![0] bcast_S2048_S2048x1_0 (sitofp .f32 (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))))))) (broadcastInDim S2048x8 ![0, 1] bcast_S1x8_S2048x8_0_1 (broadcastInDim S1x8 ![1] bcast_S8_S1x8_1 (Host.powf (broadcastInDim S8 ![] bcast_S_S8 (constant S_ .f32 0x461C4000#32)) (Host.divf (Host.negf (sitofp .f32 (iotaInDim S8 32 0))) (broadcastInDim S8 ![] bcast_S_S8 (constant S_ .f32 0x41000000#32))))))
def cols8 : FVec Ideal S2048x8 .f32 :=
  mulf (broadcastInDim S2048x8 ![0, 1] bcast_S2048x1_S2048x8_0_1 (broadcastInDim S2048x1 ![0] bcast_S2048_S2048x1_0 (sitofp .f32 (select (andi (cmpi .ne (cmpi .slt (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (constantI S_ 32 0#32))) (broadcastInDim S2048 ![] bcast_S_S2048 (cmpi .slt (select (cmpi .eq (id (constantI S_ 32 64#32)) (constantI S_ 32 0#32)) (constantI S_ 32 1#32) (id (constantI S_ 32 64#32))) (constantI S_ 32 0#32)))) (cmpi .ne (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (constantI S_ 32 0#32)))) (addi (Host.remsi (iotaInDim S2048 32 0) (broadcastInDim S2048 ![] bcast_S_S2048 (select (cmpi .eq (id (constantI S_ 32 64#32)) (constantI S_ 32 0#32)) (constantI S_ 32 1#32) (id (constantI S_ 32 64#32))))) (broadcastInDim S2048 ![] bcast_S_S2048 (select (cmpi .eq (id (constantI S_ 32 64#32)) (constantI S_ 32 0#32)) (constantI S_ 32 1#32) (id (constantI S_ 32 64#32))))) (Host.remsi (iotaInDim S2048 32 0) (broadcastInDim S2048 ![] bcast_S_S2048 (select (cmpi .eq (id (constantI S_ 32 64#32)) (constantI S_ 32 0#32)) (constantI S_ 32 1#32) (id (constantI S_ 32 64#32))))))))) (broadcastInDim S2048x8 ![0, 1] bcast_S1x8_S2048x8_0_1 (broadcastInDim S1x8 ![1] bcast_S8_S1x8_1 (Host.powf (broadcastInDim S8 ![] bcast_S_S8 (constant S_ .f32 0x461C4000#32)) (Host.divf (Host.negf (sitofp .f32 (iotaInDim S8 32 0))) (broadcastInDim S8 ![] bcast_S_S8 (constant S_ .f32 0x41000000#32))))))

/-- Half a block turned by the angles `A`, and the block by `A` and `B`: 512 columns. -/
def halfHeads (A : FVec Ideal S2048x16 .f32) (Y : FVec Ideal S8x2048x8x32 .f32) : FVec Ideal S8x2048x8x32 .f32 :=
  concatenate S8x2048x8x32 3 [⟨S8x2048x8x16, (subf (mulf (extractStridedSlice S8x2048x8x16 ![0, 0, 0, 0] Y slices_S8x2048x8x32_S8x2048x8x16_0_0_0_0) (broadcastInDim S8x2048x8x16 ![0, 1, 2, 3] bcast_S1x2048x1x16_S8x2048x8x16_0_1_2_3 (broadcastInDim S1x2048x1x16 ![1, 2, 3] bcast_S2048x1x16_S1x2048x1x16_1_2_3 (broadcastInDim S2048x1x16 ![0, 2] bcast_S2048x16_S2048x1x16_0_2 (Host.cos A))))) (mulf (extractStridedSlice S8x2048x8x16 ![0, 0, 0, 16] Y slices_S8x2048x8x32_S8x2048x8x16_0_0_0_16) (broadcastInDim S8x2048x8x16 ![0, 1, 2, 3] bcast_S1x2048x1x16_S8x2048x8x16_0_1_2_3 (broadcastInDim S1x2048x1x16 ![1, 2, 3] bcast_S2048x1x16_S1x2048x1x16_1_2_3 (broadcastInDim S2048x1x16 ![0, 2] bcast_S2048x16_S2048x1x16_0_2 (Host.sin A))))))⟩, ⟨S8x2048x8x16, (addf (mulf (extractStridedSlice S8x2048x8x16 ![0, 0, 0, 0] Y slices_S8x2048x8x32_S8x2048x8x16_0_0_0_0) (broadcastInDim S8x2048x8x16 ![0, 1, 2, 3] bcast_S1x2048x1x16_S8x2048x8x16_0_1_2_3 (broadcastInDim S1x2048x1x16 ![1, 2, 3] bcast_S2048x1x16_S1x2048x1x16_1_2_3 (broadcastInDim S2048x1x16 ![0, 2] bcast_S2048x16_S2048x1x16_0_2 (Host.sin A))))) (mulf (extractStridedSlice S8x2048x8x16 ![0, 0, 0, 16] Y slices_S8x2048x8x32_S8x2048x8x16_0_0_0_16) (broadcastInDim S8x2048x8x16 ![0, 1, 2, 3] bcast_S1x2048x1x16_S8x2048x8x16_0_1_2_3 (broadcastInDim S1x2048x1x16 ![1, 2, 3] bcast_S2048x1x16_S1x2048x1x16_1_2_3 (broadcastInDim S2048x1x16 ![0, 2] bcast_S2048x16_S2048x1x16_0_2 (Host.cos A))))))⟩] concatenates_S8x2048x8x16_S8x2048x8x16_S8x2048x8x32_d3
def turnHeads (A B : FVec Ideal S2048x16 .f32) (X : FVec Ideal S16384x512 .f32) : FVec Ideal S16384x512 .f32 :=
  shapeCast _ (concatenate S8x2048x8x64 3 [⟨S8x2048x8x32, halfHeads A (extractStridedSlice S8x2048x8x32 ![0, 0, 0, 0] (shapeCast _ X shapeCasts_S16384x512_S8x2048x8x64) slices_S8x2048x8x64_S8x2048x8x32_0_0_0_0)⟩, ⟨S8x2048x8x32, halfHeads B (extractStridedSlice S8x2048x8x32 ![0, 0, 0, 32] (shapeCast _ X shapeCasts_S16384x512_S8x2048x8x64) slices_S8x2048x8x64_S8x2048x8x32_0_0_0_32)⟩] concatenates_S8x2048x8x32_S8x2048x8x32_S8x2048x8x64_d3) shapeCasts_S8x2048x8x64_S16384x512
theorem halfHeads_lo (A : FVec Ideal S2048x16 .f32) (Y : FVec Ideal S8x2048x8x32 .f32) (b : Fin 8) (s : Fin 2048) (g : Fin 8) (d : Fin 32) (hd : d.val < 16) :
    halfHeads A Y (ix4 b s g d) = Y (ix4 b s g d) * Ideal.cos (A (ix2 s ⟨d, hd⟩)) - Y (ix4 b s g ⟨16 + d, by omega⟩) * Ideal.sin (A (ix2 s ⟨d, hd⟩)) := by
  pointwise [halfHeads]
  rw [dif_pos hd]
theorem halfHeads_hi (A : FVec Ideal S2048x16 .f32) (Y : FVec Ideal S8x2048x8x32 .f32) (b : Fin 8) (s : Fin 2048) (g : Fin 8) (d : Fin 32) (hd : 16 ≤ d.val) :
    halfHeads A Y (ix4 b s g d) = Y (ix4 b s g ⟨d - 16, by omega⟩) * Ideal.sin (A (ix2 s ⟨d - 16, by omega⟩)) + Y (ix4 b s g d) * Ideal.cos (A (ix2 s ⟨d - 16, by omega⟩)) := by
  pointwise [halfHeads]
  rw [dif_neg (by omega)]
  refine congrArg₂ (· + ·) rfl (congrArg₂ (· * ·) (congrArg (fun z => Y (ix4 b s _ z)) (Fin.ext ?_)) rfl)
  simp only []; omega
theorem partHeads_lo (X : FVec Ideal S16384x512 .f32) (b : Fin 8) (s : Fin 2048) (g : Fin 8) (d : Fin 32) :
    extractStridedSlice S8x2048x8x32 ![0, 0, 0, 0] (shapeCast S8x2048x8x64 X shapeCasts_S16384x512_S8x2048x8x64) slices_S8x2048x8x64_S8x2048x8x32_0_0_0_0 (ix4 b s g d)
      = X (ix2 ⟨b * 2048 + s, by omega⟩ ⟨g * 64 + d, by omega⟩) := by
  pointwise
theorem partHeads_hi (X : FVec Ideal S16384x512 .f32) (b : Fin 8) (s : Fin 2048) (g : Fin 8) (d : Fin 32) :
    extractStridedSlice S8x2048x8x32 ![0, 0, 0, 32] (shapeCast S8x2048x8x64 X shapeCasts_S16384x512_S8x2048x8x64) slices_S8x2048x8x64_S8x2048x8x32_0_0_0_32 (ix4 b s g d)
      = X (ix2 ⟨b * 2048 + s, by omega⟩ ⟨g * 64 + (32 + d), by omega⟩) := by
  pointwise
theorem turnHeads_1 (A B : FVec Ideal S2048x16 .f32) (X : FVec Ideal S16384x512 .f32) (b : Fin 8) (s : Fin 2048) (j : Fin 512) (h0 : 0 ≤ j.val % 64) (h1 : j.val % 64 < 16) :
    turnHeads A B X (ix2 ⟨b * 2048 + s, by omega⟩ j) = X (ix2 ⟨b * 2048 + s, by omega⟩ j) * Ideal.cos (A (ix2 s ⟨j % 64 - 0, by omega⟩)) - X (ix2 ⟨b * 2048 + s, by omega⟩ ⟨j + 16, by omega⟩) * Ideal.sin (A (ix2 s ⟨j % 64 - 0, by omega⟩)) := by
  pointwise [turnHeads]
  rw [dif_pos (by omega)]
  refine (halfHeads_lo _ _ b s _ _ (by simp only []; omega)).trans ?_
  rw [partHeads_lo, partHeads_lo]
  refine congrArg₂ (· - ·) (congrArg₂ (· * ·) (congrArg (fun z => X (ix2 _ z)) (Fin.ext ?_)) (congrArg (fun z => Ideal.cos (A (ix2 s z))) (Fin.ext ?_))) (congrArg₂ (· * ·) (congrArg (fun z => X (ix2 _ z)) (Fin.ext ?_)) (congrArg (fun z => Ideal.sin (A (ix2 s z))) (Fin.ext ?_)))
  all_goals first | rfl | (simp only []; omega)
theorem turnHeads_2 (A B : FVec Ideal S2048x16 .f32) (X : FVec Ideal S16384x512 .f32) (b : Fin 8) (s : Fin 2048) (j : Fin 512) (h0 : 16 ≤ j.val % 64) (h1 : j.val % 64 < 32) :
    turnHeads A B X (ix2 ⟨b * 2048 + s, by omega⟩ j) = X (ix2 ⟨b * 2048 + s, by omega⟩ ⟨j - 16, by omega⟩) * Ideal.sin (A (ix2 s ⟨j % 64 - 16, by omega⟩)) + X (ix2 ⟨b * 2048 + s, by omega⟩ j) * Ideal.cos (A (ix2 s ⟨j % 64 - 16, by omega⟩)) := by
  pointwise [turnHeads]
  rw [dif_pos (by omega)]
  refine (halfHeads_hi _ _ b s _ _ (by simp only []; omega)).trans ?_
  rw [partHeads_lo, partHeads_lo]
  refine congrArg₂ (· + ·) (congrArg₂ (· * ·) (congrArg (fun z => X (ix2 _ z)) (Fin.ext ?_)) (congrArg (fun z => Ideal.sin (A (ix2 s z))) (Fin.ext ?_))) (congrArg₂ (· * ·) (congrArg (fun z => X (ix2 _ z)) (Fin.ext ?_)) (congrArg (fun z => Ideal.cos (A (ix2 s z))) (Fin.ext ?_)))
  all_goals first | rfl | (simp only []; omega)
theorem turnHeads_3 (A B : FVec Ideal S2048x16 .f32) (X : FVec Ideal S16384x512 .f32) (b : Fin 8) (s : Fin 2048) (j : Fin 512) (h0 : 32 ≤ j.val % 64) (h1 : j.val % 64 < 48) :
    turnHeads A B X (ix2 ⟨b * 2048 + s, by omega⟩ j) = X (ix2 ⟨b * 2048 + s, by omega⟩ j) * Ideal.cos (B (ix2 s ⟨j % 64 - 32, by omega⟩)) - X (ix2 ⟨b * 2048 + s, by omega⟩ ⟨j + 16, by omega⟩) * Ideal.sin (B (ix2 s ⟨j % 64 - 32, by omega⟩)) := by
  pointwise [turnHeads]
  rw [dif_neg (by omega)]
  refine (halfHeads_lo _ _ b s _ _ (by simp only []; omega)).trans ?_
  rw [partHeads_hi, partHeads_hi]
  refine congrArg₂ (· - ·) (congrArg₂ (· * ·) (congrArg (fun z => X (ix2 _ z)) (Fin.ext ?_)) (congrArg (fun z => Ideal.cos (B (ix2 s z))) (Fin.ext ?_))) (congrArg₂ (· * ·) (congrArg (fun z => X (ix2 _ z)) (Fin.ext ?_)) (congrArg (fun z => Ideal.sin (B (ix2 s z))) (Fin.ext ?_)))
  all_goals first | rfl | (simp only []; omega)
theorem turnHeads_4 (A B : FVec Ideal S2048x16 .f32) (X : FVec Ideal S16384x512 .f32) (b : Fin 8) (s : Fin 2048) (j : Fin 512) (h0 : 48 ≤ j.val % 64) (h1 : j.val % 64 < 64) :
    turnHeads A B X (ix2 ⟨b * 2048 + s, by omega⟩ j) = X (ix2 ⟨b * 2048 + s, by omega⟩ ⟨j - 16, by omega⟩) * Ideal.sin (B (ix2 s ⟨j % 64 - 48, by omega⟩)) + X (ix2 ⟨b * 2048 + s, by omega⟩ j) * Ideal.cos (B (ix2 s ⟨j % 64 - 48, by omega⟩)) := by
  pointwise [turnHeads]
  rw [dif_neg (by omega)]
  refine (halfHeads_hi _ _ b s _ _ (by simp only []; omega)).trans ?_
  rw [partHeads_hi, partHeads_hi]
  refine congrArg₂ (· + ·) (congrArg₂ (· * ·) (congrArg (fun z => X (ix2 _ z)) (Fin.ext ?_)) (congrArg (fun z => Ideal.sin (B (ix2 s z))) (Fin.ext ?_))) (congrArg₂ (· * ·) (congrArg (fun z => X (ix2 _ z)) (Fin.ext ?_)) (congrArg (fun z => Ideal.cos (B (ix2 s z))) (Fin.ext ?_)))
  all_goals first | rfl | (simp only []; omega)

/-- Half a block turned by the angles `A`, and the block by `A` and `B`: 256 columns. -/
def halfParts (A : FVec Ideal S2048x8 .f32) (Y : FVec Ideal S8x2048x8x16 .f32) : FVec Ideal S8x2048x8x16 .f32 :=
  concatenate S8x2048x8x16 3 [⟨S8x2048x8x8, (subf (mulf (extractStridedSlice S8x2048x8x8 ![0, 0, 0, 0] Y slices_S8x2048x8x16_S8x2048x8x8_0_0_0_0) (broadcastInDim S8x2048x8x8 ![0, 1, 2, 3] bcast_S1x2048x1x8_S8x2048x8x8_0_1_2_3 (broadcastInDim S1x2048x1x8 ![1, 2, 3] bcast_S2048x1x8_S1x2048x1x8_1_2_3 (broadcastInDim S2048x1x8 ![0, 2] bcast_S2048x8_S2048x1x8_0_2 (Host.cos A))))) (mulf (extractStridedSlice S8x2048x8x8 ![0, 0, 0, 8] Y slices_S8x2048x8x16_S8x2048x8x8_0_0_0_8) (broadcastInDim S8x2048x8x8 ![0, 1, 2, 3] bcast_S1x2048x1x8_S8x2048x8x8_0_1_2_3 (broadcastInDim S1x2048x1x8 ![1, 2, 3] bcast_S2048x1x8_S1x2048x1x8_1_2_3 (broadcastInDim S2048x1x8 ![0, 2] bcast_S2048x8_S2048x1x8_0_2 (Host.sin A))))))⟩, ⟨S8x2048x8x8, (addf (mulf (extractStridedSlice S8x2048x8x8 ![0, 0, 0, 0] Y slices_S8x2048x8x16_S8x2048x8x8_0_0_0_0) (broadcastInDim S8x2048x8x8 ![0, 1, 2, 3] bcast_S1x2048x1x8_S8x2048x8x8_0_1_2_3 (broadcastInDim S1x2048x1x8 ![1, 2, 3] bcast_S2048x1x8_S1x2048x1x8_1_2_3 (broadcastInDim S2048x1x8 ![0, 2] bcast_S2048x8_S2048x1x8_0_2 (Host.sin A))))) (mulf (extractStridedSlice S8x2048x8x8 ![0, 0, 0, 8] Y slices_S8x2048x8x16_S8x2048x8x8_0_0_0_8) (broadcastInDim S8x2048x8x8 ![0, 1, 2, 3] bcast_S1x2048x1x8_S8x2048x8x8_0_1_2_3 (broadcastInDim S1x2048x1x8 ![1, 2, 3] bcast_S2048x1x8_S1x2048x1x8_1_2_3 (broadcastInDim S2048x1x8 ![0, 2] bcast_S2048x8_S2048x1x8_0_2 (Host.cos A))))))⟩] concatenates_S8x2048x8x8_S8x2048x8x8_S8x2048x8x16_d3
def turnParts (A B : FVec Ideal S2048x8 .f32) (X : FVec Ideal S16384x256 .f32) : FVec Ideal S16384x256 .f32 :=
  shapeCast _ (concatenate S8x2048x8x32 3 [⟨S8x2048x8x16, halfParts A (extractStridedSlice S8x2048x8x16 ![0, 0, 0, 0] (shapeCast _ X shapeCasts_S16384x256_S8x2048x8x32) slices_S8x2048x8x32_S8x2048x8x16_0_0_0_0)⟩, ⟨S8x2048x8x16, halfParts B (extractStridedSlice S8x2048x8x16 ![0, 0, 0, 16] (shapeCast _ X shapeCasts_S16384x256_S8x2048x8x32) slices_S8x2048x8x32_S8x2048x8x16_0_0_0_16)⟩] concatenates_S8x2048x8x16_S8x2048x8x16_S8x2048x8x32_d3) shapeCasts_S8x2048x8x32_S16384x256
theorem halfParts_lo (A : FVec Ideal S2048x8 .f32) (Y : FVec Ideal S8x2048x8x16 .f32) (b : Fin 8) (s : Fin 2048) (g : Fin 8) (d : Fin 16) (hd : d.val < 8) :
    halfParts A Y (ix4 b s g d) = Y (ix4 b s g d) * Ideal.cos (A (ix2 s ⟨d, hd⟩)) - Y (ix4 b s g ⟨8 + d, by omega⟩) * Ideal.sin (A (ix2 s ⟨d, hd⟩)) := by
  pointwise [halfParts]
  rw [dif_pos hd]
theorem halfParts_hi (A : FVec Ideal S2048x8 .f32) (Y : FVec Ideal S8x2048x8x16 .f32) (b : Fin 8) (s : Fin 2048) (g : Fin 8) (d : Fin 16) (hd : 8 ≤ d.val) :
    halfParts A Y (ix4 b s g d) = Y (ix4 b s g ⟨d - 8, by omega⟩) * Ideal.sin (A (ix2 s ⟨d - 8, by omega⟩)) + Y (ix4 b s g d) * Ideal.cos (A (ix2 s ⟨d - 8, by omega⟩)) := by
  pointwise [halfParts]
  rw [dif_neg (by omega)]
  refine congrArg₂ (· + ·) rfl (congrArg₂ (· * ·) (congrArg (fun z => Y (ix4 b s _ z)) (Fin.ext ?_)) rfl)
  simp only []; omega
theorem partParts_lo (X : FVec Ideal S16384x256 .f32) (b : Fin 8) (s : Fin 2048) (g : Fin 8) (d : Fin 16) :
    extractStridedSlice S8x2048x8x16 ![0, 0, 0, 0] (shapeCast S8x2048x8x32 X shapeCasts_S16384x256_S8x2048x8x32) slices_S8x2048x8x32_S8x2048x8x16_0_0_0_0 (ix4 b s g d)
      = X (ix2 ⟨b * 2048 + s, by omega⟩ ⟨g * 32 + d, by omega⟩) := by
  pointwise
theorem partParts_hi (X : FVec Ideal S16384x256 .f32) (b : Fin 8) (s : Fin 2048) (g : Fin 8) (d : Fin 16) :
    extractStridedSlice S8x2048x8x16 ![0, 0, 0, 16] (shapeCast S8x2048x8x32 X shapeCasts_S16384x256_S8x2048x8x32) slices_S8x2048x8x32_S8x2048x8x16_0_0_0_16 (ix4 b s g d)
      = X (ix2 ⟨b * 2048 + s, by omega⟩ ⟨g * 32 + (16 + d), by omega⟩) := by
  pointwise
theorem turnParts_1 (A B : FVec Ideal S2048x8 .f32) (X : FVec Ideal S16384x256 .f32) (b : Fin 8) (s : Fin 2048) (j : Fin 256) (h0 : 0 ≤ j.val % 32) (h1 : j.val % 32 < 8) :
    turnParts A B X (ix2 ⟨b * 2048 + s, by omega⟩ j) = X (ix2 ⟨b * 2048 + s, by omega⟩ j) * Ideal.cos (A (ix2 s ⟨j % 32 - 0, by omega⟩)) - X (ix2 ⟨b * 2048 + s, by omega⟩ ⟨j + 8, by omega⟩) * Ideal.sin (A (ix2 s ⟨j % 32 - 0, by omega⟩)) := by
  pointwise [turnParts]
  rw [dif_pos (by omega)]
  refine (halfParts_lo _ _ b s _ _ (by simp only []; omega)).trans ?_
  rw [partParts_lo, partParts_lo]
  refine congrArg₂ (· - ·) (congrArg₂ (· * ·) (congrArg (fun z => X (ix2 _ z)) (Fin.ext ?_)) (congrArg (fun z => Ideal.cos (A (ix2 s z))) (Fin.ext ?_))) (congrArg₂ (· * ·) (congrArg (fun z => X (ix2 _ z)) (Fin.ext ?_)) (congrArg (fun z => Ideal.sin (A (ix2 s z))) (Fin.ext ?_)))
  all_goals first | rfl | (simp only []; omega)
theorem turnParts_2 (A B : FVec Ideal S2048x8 .f32) (X : FVec Ideal S16384x256 .f32) (b : Fin 8) (s : Fin 2048) (j : Fin 256) (h0 : 8 ≤ j.val % 32) (h1 : j.val % 32 < 16) :
    turnParts A B X (ix2 ⟨b * 2048 + s, by omega⟩ j) = X (ix2 ⟨b * 2048 + s, by omega⟩ ⟨j - 8, by omega⟩) * Ideal.sin (A (ix2 s ⟨j % 32 - 8, by omega⟩)) + X (ix2 ⟨b * 2048 + s, by omega⟩ j) * Ideal.cos (A (ix2 s ⟨j % 32 - 8, by omega⟩)) := by
  pointwise [turnParts]
  rw [dif_pos (by omega)]
  refine (halfParts_hi _ _ b s _ _ (by simp only []; omega)).trans ?_
  rw [partParts_lo, partParts_lo]
  refine congrArg₂ (· + ·) (congrArg₂ (· * ·) (congrArg (fun z => X (ix2 _ z)) (Fin.ext ?_)) (congrArg (fun z => Ideal.sin (A (ix2 s z))) (Fin.ext ?_))) (congrArg₂ (· * ·) (congrArg (fun z => X (ix2 _ z)) (Fin.ext ?_)) (congrArg (fun z => Ideal.cos (A (ix2 s z))) (Fin.ext ?_)))
  all_goals first | rfl | (simp only []; omega)
theorem turnParts_3 (A B : FVec Ideal S2048x8 .f32) (X : FVec Ideal S16384x256 .f32) (b : Fin 8) (s : Fin 2048) (j : Fin 256) (h0 : 16 ≤ j.val % 32) (h1 : j.val % 32 < 24) :
    turnParts A B X (ix2 ⟨b * 2048 + s, by omega⟩ j) = X (ix2 ⟨b * 2048 + s, by omega⟩ j) * Ideal.cos (B (ix2 s ⟨j % 32 - 16, by omega⟩)) - X (ix2 ⟨b * 2048 + s, by omega⟩ ⟨j + 8, by omega⟩) * Ideal.sin (B (ix2 s ⟨j % 32 - 16, by omega⟩)) := by
  pointwise [turnParts]
  rw [dif_neg (by omega)]
  refine (halfParts_lo _ _ b s _ _ (by simp only []; omega)).trans ?_
  rw [partParts_hi, partParts_hi]
  refine congrArg₂ (· - ·) (congrArg₂ (· * ·) (congrArg (fun z => X (ix2 _ z)) (Fin.ext ?_)) (congrArg (fun z => Ideal.cos (B (ix2 s z))) (Fin.ext ?_))) (congrArg₂ (· * ·) (congrArg (fun z => X (ix2 _ z)) (Fin.ext ?_)) (congrArg (fun z => Ideal.sin (B (ix2 s z))) (Fin.ext ?_)))
  all_goals first | rfl | (simp only []; omega)
theorem turnParts_4 (A B : FVec Ideal S2048x8 .f32) (X : FVec Ideal S16384x256 .f32) (b : Fin 8) (s : Fin 2048) (j : Fin 256) (h0 : 24 ≤ j.val % 32) (h1 : j.val % 32 < 32) :
    turnParts A B X (ix2 ⟨b * 2048 + s, by omega⟩ j) = X (ix2 ⟨b * 2048 + s, by omega⟩ ⟨j - 8, by omega⟩) * Ideal.sin (B (ix2 s ⟨j % 32 - 24, by omega⟩)) + X (ix2 ⟨b * 2048 + s, by omega⟩ j) * Ideal.cos (B (ix2 s ⟨j % 32 - 24, by omega⟩)) := by
  pointwise [turnParts]
  rw [dif_neg (by omega)]
  refine (halfParts_hi _ _ b s _ _ (by simp only []; omega)).trans ?_
  rw [partParts_hi, partParts_hi]
  refine congrArg₂ (· + ·) (congrArg₂ (· * ·) (congrArg (fun z => X (ix2 _ z)) (Fin.ext ?_)) (congrArg (fun z => Ideal.sin (B (ix2 s z))) (Fin.ext ?_))) (congrArg₂ (· * ·) (congrArg (fun z => X (ix2 _ z)) (Fin.ext ?_)) (congrArg (fun z => Ideal.cos (B (ix2 s z))) (Fin.ext ?_)))
  all_goals first | rfl | (simp only []; omega)

/-- Half a block turned by the angles `A`, and the block by `A` and `B`: 32 columns. -/
def halfShared (A : FVec Ideal S2048x8 .f32) (Y : FVec Ideal S8x2048x1x16 .f32) : FVec Ideal S8x2048x1x16 .f32 :=
  concatenate S8x2048x1x16 3 [⟨S8x2048x1x8, (subf (mulf (extractStridedSlice S8x2048x1x8 ![0, 0, 0, 0] Y slices_S8x2048x1x16_S8x2048x1x8_0_0_0_0) (broadcastInDim S8x2048x1x8 ![0, 1, 2, 3] bcast_S1x2048x1x8_S8x2048x1x8_0_1_2_3 (broadcastInDim S1x2048x1x8 ![1, 2, 3] bcast_S2048x1x8_S1x2048x1x8_1_2_3 (broadcastInDim S2048x1x8 ![0, 2] bcast_S2048x8_S2048x1x8_0_2 (Host.cos A))))) (mulf (extractStridedSlice S8x2048x1x8 ![0, 0, 0, 8] Y slices_S8x2048x1x16_S8x2048x1x8_0_0_0_8) (broadcastInDim S8x2048x1x8 ![0, 1, 2, 3] bcast_S1x2048x1x8_S8x2048x1x8_0_1_2_3 (broadcastInDim S1x2048x1x8 ![1, 2, 3] bcast_S2048x1x8_S1x2048x1x8_1_2_3 (broadcastInDim S2048x1x8 ![0, 2] bcast_S2048x8_S2048x1x8_0_2 (Host.sin A))))))⟩, ⟨S8x2048x1x8, (addf (mulf (extractStridedSlice S8x2048x1x8 ![0, 0, 0, 0] Y slices_S8x2048x1x16_S8x2048x1x8_0_0_0_0) (broadcastInDim S8x2048x1x8 ![0, 1, 2, 3] bcast_S1x2048x1x8_S8x2048x1x8_0_1_2_3 (broadcastInDim S1x2048x1x8 ![1, 2, 3] bcast_S2048x1x8_S1x2048x1x8_1_2_3 (broadcastInDim S2048x1x8 ![0, 2] bcast_S2048x8_S2048x1x8_0_2 (Host.sin A))))) (mulf (extractStridedSlice S8x2048x1x8 ![0, 0, 0, 8] Y slices_S8x2048x1x16_S8x2048x1x8_0_0_0_8) (broadcastInDim S8x2048x1x8 ![0, 1, 2, 3] bcast_S1x2048x1x8_S8x2048x1x8_0_1_2_3 (broadcastInDim S1x2048x1x8 ![1, 2, 3] bcast_S2048x1x8_S1x2048x1x8_1_2_3 (broadcastInDim S2048x1x8 ![0, 2] bcast_S2048x8_S2048x1x8_0_2 (Host.cos A))))))⟩] concatenates_S8x2048x1x8_S8x2048x1x8_S8x2048x1x16_d3
def turnShared (A B : FVec Ideal S2048x8 .f32) (X : FVec Ideal S16384x32 .f32) : FVec Ideal S16384x32 .f32 :=
  shapeCast _ (concatenate S8x2048x1x32 3 [⟨S8x2048x1x16, halfShared A (extractStridedSlice S8x2048x1x16 ![0, 0, 0, 0] (shapeCast _ X shapeCasts_S16384x32_S8x2048x1x32) slices_S8x2048x1x32_S8x2048x1x16_0_0_0_0)⟩, ⟨S8x2048x1x16, halfShared B (extractStridedSlice S8x2048x1x16 ![0, 0, 0, 16] (shapeCast _ X shapeCasts_S16384x32_S8x2048x1x32) slices_S8x2048x1x32_S8x2048x1x16_0_0_0_16)⟩] concatenates_S8x2048x1x16_S8x2048x1x16_S8x2048x1x32_d3) shapeCasts_S8x2048x1x32_S16384x32
theorem halfShared_lo (A : FVec Ideal S2048x8 .f32) (Y : FVec Ideal S8x2048x1x16 .f32) (b : Fin 8) (s : Fin 2048) (g : Fin 1) (d : Fin 16) (hd : d.val < 8) :
    halfShared A Y (ix4 b s g d) = Y (ix4 b s g d) * Ideal.cos (A (ix2 s ⟨d, hd⟩)) - Y (ix4 b s g ⟨8 + d, by omega⟩) * Ideal.sin (A (ix2 s ⟨d, hd⟩)) := by
  obtain rfl : g = 0 := Subsingleton.elim _ _
  pointwise [halfShared]
  rw [dif_pos hd]
theorem halfShared_hi (A : FVec Ideal S2048x8 .f32) (Y : FVec Ideal S8x2048x1x16 .f32) (b : Fin 8) (s : Fin 2048) (g : Fin 1) (d : Fin 16) (hd : 8 ≤ d.val) :
    halfShared A Y (ix4 b s g d) = Y (ix4 b s g ⟨d - 8, by omega⟩) * Ideal.sin (A (ix2 s ⟨d - 8, by omega⟩)) + Y (ix4 b s g d) * Ideal.cos (A (ix2 s ⟨d - 8, by omega⟩)) := by
  obtain rfl : g = 0 := Subsingleton.elim _ _
  pointwise [halfShared]
  rw [dif_neg (by omega)]
  refine congrArg₂ (· + ·) rfl (congrArg₂ (· * ·) (congrArg (fun z => Y (ix4 b s _ z)) (Fin.ext ?_)) rfl)
  simp only []; omega
theorem partShared_lo (X : FVec Ideal S16384x32 .f32) (b : Fin 8) (s : Fin 2048) (g : Fin 1) (d : Fin 16) :
    extractStridedSlice S8x2048x1x16 ![0, 0, 0, 0] (shapeCast S8x2048x1x32 X shapeCasts_S16384x32_S8x2048x1x32) slices_S8x2048x1x32_S8x2048x1x16_0_0_0_0 (ix4 b s g d)
      = X (ix2 ⟨b * 2048 + s, by omega⟩ ⟨g * 32 + d, by omega⟩) := by
  obtain rfl : g = 0 := Subsingleton.elim _ _
  pointwise
theorem partShared_hi (X : FVec Ideal S16384x32 .f32) (b : Fin 8) (s : Fin 2048) (g : Fin 1) (d : Fin 16) :
    extractStridedSlice S8x2048x1x16 ![0, 0, 0, 16] (shapeCast S8x2048x1x32 X shapeCasts_S16384x32_S8x2048x1x32) slices_S8x2048x1x32_S8x2048x1x16_0_0_0_16 (ix4 b s g d)
      = X (ix2 ⟨b * 2048 + s, by omega⟩ ⟨g * 32 + (16 + d), by omega⟩) := by
  obtain rfl : g = 0 := Subsingleton.elim _ _
  pointwise
theorem turnShared_1 (A B : FVec Ideal S2048x8 .f32) (X : FVec Ideal S16384x32 .f32) (b : Fin 8) (s : Fin 2048) (j : Fin 32) (h0 : 0 ≤ j.val % 32) (h1 : j.val % 32 < 8) :
    turnShared A B X (ix2 ⟨b * 2048 + s, by omega⟩ j) = X (ix2 ⟨b * 2048 + s, by omega⟩ j) * Ideal.cos (A (ix2 s ⟨j % 32 - 0, by omega⟩)) - X (ix2 ⟨b * 2048 + s, by omega⟩ ⟨j + 8, by omega⟩) * Ideal.sin (A (ix2 s ⟨j % 32 - 0, by omega⟩)) := by
  pointwise [turnShared]
  rw [dif_pos (by omega)]
  refine (halfShared_lo _ _ b s _ _ (by simp only []; omega)).trans ?_
  rw [partShared_lo, partShared_lo]
  refine congrArg₂ (· - ·) (congrArg₂ (· * ·) (congrArg (fun z => X (ix2 _ z)) (Fin.ext ?_)) (congrArg (fun z => Ideal.cos (A (ix2 s z))) (Fin.ext ?_))) (congrArg₂ (· * ·) (congrArg (fun z => X (ix2 _ z)) (Fin.ext ?_)) (congrArg (fun z => Ideal.sin (A (ix2 s z))) (Fin.ext ?_)))
  all_goals first | rfl | (simp only []; omega)
theorem turnShared_2 (A B : FVec Ideal S2048x8 .f32) (X : FVec Ideal S16384x32 .f32) (b : Fin 8) (s : Fin 2048) (j : Fin 32) (h0 : 8 ≤ j.val % 32) (h1 : j.val % 32 < 16) :
    turnShared A B X (ix2 ⟨b * 2048 + s, by omega⟩ j) = X (ix2 ⟨b * 2048 + s, by omega⟩ ⟨j - 8, by omega⟩) * Ideal.sin (A (ix2 s ⟨j % 32 - 8, by omega⟩)) + X (ix2 ⟨b * 2048 + s, by omega⟩ j) * Ideal.cos (A (ix2 s ⟨j % 32 - 8, by omega⟩)) := by
  pointwise [turnShared]
  rw [dif_pos (by omega)]
  refine (halfShared_hi _ _ b s _ _ (by simp only []; omega)).trans ?_
  rw [partShared_lo, partShared_lo]
  refine congrArg₂ (· + ·) (congrArg₂ (· * ·) (congrArg (fun z => X (ix2 _ z)) (Fin.ext ?_)) (congrArg (fun z => Ideal.sin (A (ix2 s z))) (Fin.ext ?_))) (congrArg₂ (· * ·) (congrArg (fun z => X (ix2 _ z)) (Fin.ext ?_)) (congrArg (fun z => Ideal.cos (A (ix2 s z))) (Fin.ext ?_)))
  all_goals first | rfl | (simp only []; omega)
theorem turnShared_3 (A B : FVec Ideal S2048x8 .f32) (X : FVec Ideal S16384x32 .f32) (b : Fin 8) (s : Fin 2048) (j : Fin 32) (h0 : 16 ≤ j.val % 32) (h1 : j.val % 32 < 24) :
    turnShared A B X (ix2 ⟨b * 2048 + s, by omega⟩ j) = X (ix2 ⟨b * 2048 + s, by omega⟩ j) * Ideal.cos (B (ix2 s ⟨j % 32 - 16, by omega⟩)) - X (ix2 ⟨b * 2048 + s, by omega⟩ ⟨j + 8, by omega⟩) * Ideal.sin (B (ix2 s ⟨j % 32 - 16, by omega⟩)) := by
  pointwise [turnShared]
  rw [dif_neg (by omega)]
  refine (halfShared_lo _ _ b s _ _ (by simp only []; omega)).trans ?_
  rw [partShared_hi, partShared_hi]
  refine congrArg₂ (· - ·) (congrArg₂ (· * ·) (congrArg (fun z => X (ix2 _ z)) (Fin.ext ?_)) (congrArg (fun z => Ideal.cos (B (ix2 s z))) (Fin.ext ?_))) (congrArg₂ (· * ·) (congrArg (fun z => X (ix2 _ z)) (Fin.ext ?_)) (congrArg (fun z => Ideal.sin (B (ix2 s z))) (Fin.ext ?_)))
  all_goals first | rfl | (simp only []; omega)
theorem turnShared_4 (A B : FVec Ideal S2048x8 .f32) (X : FVec Ideal S16384x32 .f32) (b : Fin 8) (s : Fin 2048) (j : Fin 32) (h0 : 24 ≤ j.val % 32) (h1 : j.val % 32 < 32) :
    turnShared A B X (ix2 ⟨b * 2048 + s, by omega⟩ j) = X (ix2 ⟨b * 2048 + s, by omega⟩ ⟨j - 8, by omega⟩) * Ideal.sin (B (ix2 s ⟨j % 32 - 24, by omega⟩)) + X (ix2 ⟨b * 2048 + s, by omega⟩ j) * Ideal.cos (B (ix2 s ⟨j % 32 - 24, by omega⟩)) := by
  pointwise [turnShared]
  rw [dif_neg (by omega)]
  refine (halfShared_hi _ _ b s _ _ (by simp only []; omega)).trans ?_
  rw [partShared_hi, partShared_hi]
  refine congrArg₂ (· + ·) (congrArg₂ (· * ·) (congrArg (fun z => X (ix2 _ z)) (Fin.ext ?_)) (congrArg (fun z => Ideal.sin (B (ix2 s z))) (Fin.ext ?_))) (congrArg₂ (· * ·) (congrArg (fun z => X (ix2 _ z)) (Fin.ext ?_)) (congrArg (fun z => Ideal.cos (B (ix2 s z))) (Fin.ext ?_)))
  all_goals first | rfl | (simp only []; omega)

/-! The columns that turn, and the four results that hold them. -/

def headQ (P : FVec Ideal S16384x3744 .f32) : FVec Ideal S16384x512 .f32 :=
  extractStridedSlice S16384x512 ![0, 0] P slices_S16384x3744_S16384x512_0_0
theorem headQ_at (P : FVec Ideal S16384x3744 .f32) (r : Fin 16384) (j : Fin 512) :
    headQ P (ix2 r j) = P (ix2 r ⟨0 + j, by omega⟩) := by
  pointwise [headQ]
def headK (P : FVec Ideal S16384x3744 .f32) : FVec Ideal S16384x512 .f32 :=
  extractStridedSlice S16384x512 ![0, 512] P slices_S16384x3744_S16384x512_0_512
theorem headK_at (P : FVec Ideal S16384x3744 .f32) (r : Fin 16384) (j : Fin 512) :
    headK P (ix2 r j) = P (ix2 r ⟨512 + j, by omega⟩) := by
  pointwise [headK]
def partQ (P : FVec Ideal S16384x768 .f32) : FVec Ideal S16384x256 .f32 :=
  extractStridedSlice S16384x256 ![0, 512] P slices_S16384x768_S16384x256_0_512
theorem partQ_at (P : FVec Ideal S16384x768 .f32) (r : Fin 16384) (j : Fin 256) :
    partQ P (ix2 r j) = P (ix2 r ⟨512 + j, by omega⟩) := by
  pointwise [partQ]
def sharedK (P : FVec Ideal S16384x3744 .f32) : FVec Ideal S16384x32 .f32 :=
  extractStridedSlice S16384x32 ![0, 3712] P slices_S16384x3744_S16384x32_0_3712
theorem sharedK_at (P : FVec Ideal S16384x3744 .f32) (r : Fin 16384) (j : Fin 32) :
    sharedK P (ix2 r j) = P (ix2 r ⟨3712 + j, by omega⟩) := by
  pointwise [sharedK]
def resDq (P : FVec Ideal S16384x3744 .f32) : FVec Ideal S16384x512 .bf16 :=
  truncf .bf16 (mulf (turnHeads rows16 cols16 (headQ P)) (broadcastInDim S16384x512 ![] bcast_S_S16384x512 (constant S_ .f32 0x3E38AA3B#32))) bitsLt_bf16_f32
def resDk (P : FVec Ideal S16384x3744 .f32) : FVec Ideal S16384x512 .bf16 :=
  truncf .bf16 (turnHeads rows16 cols16 (headK P)) bitsLt_bf16_f32
def resQr (P : FVec Ideal S16384x768 .f32) : FVec Ideal S16384x256 .bf16 :=
  truncf .bf16 (mulf (turnParts rows8 cols8 (partQ P)) (broadcastInDim S16384x256 ![] bcast_S_S16384x256 (constant S_ .f32 0x3E16C740#32))) bitsLt_bf16_f32
/-- The shared key's columns, four times over. -/
def four (R : FVec Ideal S16384x32 .f32) : FVec Ideal S16384x128 .f32 :=
  concatenate S16384x128 1 [⟨S16384x32, R⟩, ⟨S16384x32, R⟩, ⟨S16384x32, R⟩, ⟨S16384x32, R⟩] concatenates_S16384x32_S16384x32_S16384x32_S16384x32_S16384x128_d1
def resKr (P : FVec Ideal S16384x3744 .f32) : FVec Ideal S16384x128 .bf16 :=
  truncf .bf16 (four (turnShared rows8 cols8 (sharedK P))) bitsLt_bf16_f32

theorem resDq_at (P : FVec Ideal S16384x3744 .f32) (r : Fin 16384) (j : Fin 512) :
    resDq P (ix2 r j) = turnHeads rows16 cols16 (headQ P) (ix2 r j) * Ideal.ofBits .f32 0x3E38AA3B#32 := by
  unfold resDq
  generalize turnHeads rows16 cols16 (headQ P) = T
  pointwise
theorem resDk_at (P : FVec Ideal S16384x3744 .f32) (r : Fin 16384) (j : Fin 512) :
    resDk P (ix2 r j) = turnHeads rows16 cols16 (headK P) (ix2 r j) := by
  unfold resDk
  generalize turnHeads rows16 cols16 (headK P) = T
  pointwise
theorem resQr_at (P : FVec Ideal S16384x768 .f32) (r : Fin 16384) (j : Fin 256) :
    resQr P (ix2 r j) = turnParts rows8 cols8 (partQ P) (ix2 r j) * Ideal.ofBits .f32 0x3E16C740#32 := by
  unfold resQr
  generalize turnParts rows8 cols8 (partQ P) = T
  pointwise
theorem four_at (R : FVec Ideal S16384x32 .f32) (r : Fin 16384) (l : Fin 128) :
    four R (ix2 r l) = R (ix2 r ⟨l % 32, by omega⟩) := by
  pointwise [four]
  rcases (by omega : l.val < 32 ∨ (32 ≤ l.val ∧ l.val < 64) ∨ (64 ≤ l.val ∧ l.val < 96) ∨ 96 ≤ l.val) with h | h | h | h
  all_goals
    repeat (first | rw [dif_neg (by omega)] | rw [dif_pos (by omega)])
    exact congrArg (fun z => R (ix2 r z)) (Fin.ext (by simp only []; omega))
theorem resKr_at (P : FVec Ideal S16384x3744 .f32) (r : Fin 16384) (l : Fin 128) :
    resKr P (ix2 r l) = turnShared rows8 cols8 (sharedK P) (ix2 r ⟨l % 32, by omega⟩) := by
  unfold resKr
  generalize turnShared rows8 cols8 (sharedK P) = T
  exact four_at T r l

end Cert.TokensReferenceIdeal.Stages

end
-- ==== Proof.TokensTake.lean ====
module

public import proofs.«01_k».proof.Proof.Gen.TokensIdeal.Value
public import Idealize.ShloMosaic.Lib.Pipeline.ValueKit
public import Idealize.ShloMosaic.Lib.Pointwise
public import Idealize.ShloMosaic.Lib.Routing.Ops

@[expose] public section

set_option maxRecDepth 16384

noncomputable section

/-! The permuted columns of the weights, read at an index. -/
namespace Cert.TokensIdeal.Take

open Cert.TokensIdeal Cert.TokensIdeal.Gen
open Idealize.ShloMosaic Idealize.ShloMosaic.TcCoe Idealize.SL.Sem

/-- `x[:, idx]`: where `idx` holds at `(c, 0)` a column number `b`, entry `(y, c)` of the result is the operand's `(y, b)`. -/
theorem gather_col {α : Type} {na nb n : Nat} (d : GatherDims ⟨2, ![na, nb]⟩ ⟨2, ![n, 1]⟩ ⟨2, ![na, n]⟩) (hoff : d.offsetDims = [0])
    (hcoll : d.collapsedSliceDims = [1]) (hob : d.operandBatchingDims = []) (hsim : d.startIndexMap = [1]) (hivd : d.indexVectorDim = 1)
    (x : (⟨2, ![na, nb]⟩ : Shape).Idx → α) (idx : IVec ⟨2, ![n, 1]⟩ 32) (y : Fin na) (c : Fin n) (b : Fin nb)
    (hb : idx (ix2 c (0 : Fin 1)) = BitVec.ofNat 32 b.val) (hnb : nb < 2 ^ 31) :
    Host.gather d x idx (ix2 y c) = x (ix2 y b) := by
  unfold Host.gather
  refine congrArg x (funext fun a => Fin.ext ?_)
  have hbN : ∀ a', a' ∉ d.operandBatchingDims := fun a' => by rw [hob]; exact List.not_mem_nil
  have hk1 : ∀ k ∈ d.batchDims, k = (1 : Fin 2) := fun k hk => by
    have hk' : k ∉ d.offsetDims := of_decide_eq_true (List.mem_filter.1 hk).2
    rw [hoff] at hk'
    have h1 : k.val ≠ 0 := fun e => hk' (List.mem_singleton.2 (Fin.ext e))
    have h2 : k.val < 2 := k.isLt
    exact Fin.ext (by show k.val = 1; omega)
  have hk0 : ∀ k ∈ d.offsetDims, k = (0 : Fin 2) := fun k hk => by rw [hoff] at hk; exact List.mem_singleton.1 hk
  have e0 : ∀ X : Fin 2, X = 0 → (ix2 y c X).val = y.val := fun X h => by subst h; rfl
  have e1 : ∀ X : Fin 2, X = 1 → (ix2 y c X).val = c.val := fun X h => by subst h; rfl
  have h01 : (0 : Fin 2) ∉ [(1 : Fin 2)] := fun h => Nat.zero_ne_one (congrArg Fin.val (List.mem_singleton.1 h))
  match a with
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 y c) idx 1 + d.batchCoord (ix2 y c) 1 + d.offCoord (ix2 y c) 1 = b.val
    rw [d.batchCoord_eq_zero _ _ (hbN 1), d.offCoord_eq_zero _ _ hk]
    simp only [Nat.add_zero]
    unfold GatherDims.start
    rw [dif_pos hm]
    have hsi : d.siIdx (ix2 y c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk1 _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (nb - 1) = b.val
    omega
  | ⟨0, _⟩ =>
    have hk : (0 : Fin 2) ∈ d.sKept := (d.mem_sKept 0).2 ⟨by rw [hcoll]; exact h01, hbN 0⟩
    have hm : (0 : Fin 2) ∉ d.startIndexMap := by rw [hsim]; exact h01
    show d.start (ix2 y c) idx 0 + d.batchCoord (ix2 y c) 0 + d.offCoord (ix2 y c) 0 = y.val
    rw [d.batchCoord_eq_zero _ _ (hbN 0), Nat.add_zero]
    unfold GatherDims.start GatherDims.offCoord
    rw [dif_neg hm, dif_pos hk, Nat.zero_add]
    exact e0 _ (hk0 _ (List.getElem_mem _))

/-- A lane's partner in blocks of `2 h`: the lane `h` further in the block's first half, `h` back in its second. -/
def mate (h j : ℕ) : ℕ := if j % (2 * h) < h then j + h else j - h

/-! The three tables of columns. -/
def cols0 : IVec S32x1 32 :=
  broadcastInDim S32x1 ![0] bcast_S32_S32x1_0 (select (constantI S32 1 0#1)
    (addi (fun i => lit0 (S32.rowMajor i)) (broadcastInDim S32 ![] bcast_S_S32 (constantI S_ 32 32#32))) (fun i => lit0 (S32.rowMajor i)))
theorem mate0_lt : ∀ j : Fin 32, mate 8 j < 32 := by decide +kernel
theorem lit0_at : ∀ j : Fin 32, lit0 j = BitVec.ofNat 32 (mate 8 j) := by decide +kernel
theorem cols0_at (j : Fin 32) : cols0 (ix2 j (0 : Fin 1)) = BitVec.ofNat 32 (mate 8 j) := by
  refine Eq.trans ?_ (lit0_at j)
  pointwise [cols0]
  exact congrArg lit0 (Fin.ext (Shape.rowMajor_val_one _))
theorem take0_at (x : FVec Ideal S1024x32 .bf16) (k : Fin 1024) (j : Fin 32) :
    Host.gather gather_S1024x32_S32x1_S1024x32_0_1_n_n_1_1_10241 x cols0 (ix2 k j) = x (ix2 k ⟨mate 8 j, mate0_lt j⟩) :=
  gather_col _ rfl rfl rfl rfl rfl x _ k j ⟨mate 8 j, mate0_lt j⟩ (cols0_at j) (by norm_num)
def cols1 : IVec S1024x1 32 :=
  broadcastInDim S1024x1 ![0] bcast_S1024_S1024x1_0 (select (constantI S1024 1 0#1)
    (addi (fun i => lit1 (S1024.rowMajor i)) (broadcastInDim S1024 ![] bcast_S_S1024 (constantI S_ 32 1024#32))) (fun i => lit1 (S1024.rowMajor i)))
theorem mate1_lt : ∀ j : Fin 1024, mate 16 j < 1024 := by decide +kernel
theorem lit1_at : ∀ j : Fin 1024, lit1 j = BitVec.ofNat 32 (mate 16 j) := by decide +kernel
theorem cols1_at (j : Fin 1024) : cols1 (ix2 j (0 : Fin 1)) = BitVec.ofNat 32 (mate 16 j) := by
  refine Eq.trans ?_ (lit1_at j)
  pointwise [cols1]
  exact congrArg lit1 (Fin.ext (Shape.rowMajor_val_one _))
theorem take1_at (x : FVec Ideal S1024x1024 .bf16) (k : Fin 1024) (j : Fin 1024) :
    Host.gather gather_S1024x1024_S1024x1_S1024x1024_0_1_n_n_1_1_10241 x cols1 (ix2 k j) = x (ix2 k ⟨mate 16 j, mate1_lt j⟩) :=
  gather_col _ rfl rfl rfl rfl rfl x _ k j ⟨mate 16 j, mate1_lt j⟩ (cols1_at j) (by norm_num)
def cols2 : IVec S256x1 32 :=
  broadcastInDim S256x1 ![0] bcast_S256_S256x1_0 (select (constantI S256 1 0#1)
    (addi (fun i => lit2 (S256.rowMajor i)) (broadcastInDim S256 ![] bcast_S_S256 (constantI S_ 32 256#32))) (fun i => lit2 (S256.rowMajor i)))
theorem mate2_lt : ∀ j : Fin 256, mate 8 j < 256 := by decide +kernel
theorem lit2_at : ∀ j : Fin 256, lit2 j = BitVec.ofNat 32 (mate 8 j) := by decide +kernel
theorem cols2_at (j : Fin 256) : cols2 (ix2 j (0 : Fin 1)) = BitVec.ofNat 32 (mate 8 j) := by
  refine Eq.trans ?_ (lit2_at j)
  pointwise [cols2]
  exact congrArg lit2 (Fin.ext (Shape.rowMajor_val_one _))
theorem take2_at (x : FVec Ideal S384x256 .bf16) (k : Fin 384) (j : Fin 256) :
    Host.gather gather_S384x256_S256x1_S384x256_0_1_n_n_1_1_3841 x cols2 (ix2 k j) = x (ix2 k ⟨mate 8 j, mate2_lt j⟩) :=
  gather_col _ rfl rfl rfl rfl rfl x _ k j ⟨mate 8 j, mate2_lt j⟩ (cols2_at j) (by norm_num)

variable (m : (ℓ : Loc nD τ sig) → Buf (Elt Ideal) ℓ)

/-! The operands the host prepares from them. -/
theorem V_v19 (c : Dev nD) : V m c main_v19 = Host.gather gather_S1024x1024_S1024x1_S1024x1024_0_1_n_n_1_1_10241
    (extractStridedSlice S1024x1024 ![0, 0] (extractStridedSlice S1024x3072 ![0, 0] (m ((c : Thread nD τ).loc main_arg2)) slices_S1024x6816_S1024x3072_0_0) slices_S1024x3072_S1024x1024_0_0) cols1 := by
  simp only [V, hostOps0, hostOps0_1, hostOps0_2, hostOps0_3, hostOps0_4, List.flatten_cons, List.flatten_nil, List.cons_append, List.nil_append, List.append_nil]
  after_results
  try rfl
theorem V_v28 (c : Dev nD) : V m c main_v28 = Host.gather gather_S384x256_S256x1_S384x256_0_1_n_n_1_1_3841
    (extractStridedSlice S384x256 ![0, 512] (m ((c : Thread nD τ).loc main_arg5)) slices_S384x768_S384x256_0_512) cols2 := by
  simp only [V, hostOps0, hostOps0_1, hostOps0_2, hostOps0_3, hostOps0_4, List.flatten_cons, List.flatten_nil, List.cons_append, List.nil_append, List.append_nil]
  after_results
  try rfl
theorem V_v13 (c : Dev nD) : V m c main_v13 = shapeCast S1024x128 (broadcastInDim S1x1024x4x32 ![0, 1, 2, 3] bcast_S1x1024x1x32_S1x1024x4x32_0_1_2_3
    (shapeCast S1x1024x1x32 (Host.gather gather_S1024x32_S32x1_S1024x32_0_1_n_n_1_1_10241
      (extractStridedSlice S1024x32 ![0, 3712] (m ((c : Thread nD τ).loc main_arg2)) slices_S1024x6816_S1024x32_0_3712) cols0) shapeCasts_S1024x32_S1x1024x1x32)) shapeCasts_S1x1024x4x32_S1024x128 := by
  simp only [V, hostOps0, hostOps0_1, hostOps0_2, hostOps0_3, hostOps0_4, List.flatten_cons, List.flatten_nil, List.cons_append, List.nil_append, List.append_nil]
  after_results
  try rfl
theorem V_v5 (c : Dev nD) : V m c main_v5 = shapeCast S1024x128 (broadcastInDim S1x1024x4x32 ![0, 1, 2, 3] bcast_S1x1024x1x32_S1x1024x4x32_0_1_2_3
    (shapeCast S1x1024x1x32 (extractStridedSlice S1024x32 ![0, 3712] (m ((c : Thread nD τ).loc main_arg2)) slices_S1024x6816_S1024x32_0_3712) shapeCasts_S1024x32_S1x1024x1x32)) shapeCasts_S1x1024x4x32_S1024x128 := by
  simp only [V, hostOps0, hostOps0_1, hostOps0_2, hostOps0_3, hostOps0_4, List.flatten_cons, List.flatten_nil, List.cons_append, List.nil_append, List.append_nil]
  after_results
  try rfl

/-! The tables of cosines and of signed sines, from the two arrays of angles. -/
def cos16 (A B : FVec Ideal S2048x16 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x16, Host.cos A⟩, ⟨S2048x16, Host.cos A⟩, ⟨S2048x16, Host.cos B⟩, ⟨S2048x16, Host.cos B⟩] concatenates_S2048x16_S2048x16_S2048x16_S2048x16_S2048x64_d1 : FVec Ideal S2048x64 .f32) shapeCasts_S2048x64_S1x2048x1x64)) shapeCasts_S1x2048x2x64_S2048x128
def sin16 (A B : FVec Ideal S2048x16 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x16, Host.negf (Host.sin A)⟩, ⟨S2048x16, Host.sin A⟩, ⟨S2048x16, Host.negf (Host.sin B)⟩, ⟨S2048x16, Host.sin B⟩] concatenates_S2048x16_S2048x16_S2048x16_S2048x16_S2048x64_d1 : FVec Ideal S2048x64 .f32) shapeCasts_S2048x64_S1x2048x1x64)) shapeCasts_S1x2048x2x64_S2048x128
def cos8 (A B : FVec Ideal S2048x8 .f32) : FVec Ideal S2048x128 .f32 :=
  shapeCast S2048x128 (broadcastInDim S1x2048x4x32 ![0, 1, 2, 3] bcast_S1x2048x1x32_S1x2048x4x32_0_1_2_3
    (shapeCast S1x2048x1x32 (concatenate S2048x32 1 [⟨S2048x8, Host.cos A⟩, ⟨S2048x8, Host.cos A⟩, ⟨S2048x8, Host.cos B⟩, ⟨S2048x8, Host.cos B⟩] concatenates_S2048x8_S2048x8_S2048x8_S2048x8_S2048x32_d1 : FVec Ideal S2048x32 .f32) shapeCasts_S2048x32_S1x2048x1x32)) shapeCasts_S1x2048x4x32_S2048x128
def sin8 (A B : FVec Ideal S2048x8 .f32) : FVec Ideal S2048x128 .f32 :=
  shapeCast S2048x128 (broadcastInDim S1x2048x4x32 ![0, 1, 2, 3] bcast_S1x2048x1x32_S1x2048x4x32_0_1_2_3
    (shapeCast S1x2048x1x32 (concatenate S2048x32 1 [⟨S2048x8, Host.negf (Host.sin A)⟩, ⟨S2048x8, Host.sin A⟩, ⟨S2048x8, Host.negf (Host.sin B)⟩, ⟨S2048x8, Host.sin B⟩] concatenates_S2048x8_S2048x8_S2048x8_S2048x8_S2048x32_d1 : FVec Ideal S2048x32 .f32) shapeCasts_S2048x32_S1x2048x1x32)) shapeCasts_S1x2048x4x32_S2048x128

/-- The operations ahead of the last stretch, and the buffers after them. -/
def early (m : (ℓ : Loc nD τ sig) → Buf (Elt Ideal) ℓ) (c : Dev nD) : Valuation τ sig (Elt Ideal) :=
  StableHlo.after (List.flatten [hostOps0, hostOps0_1, hostOps0_2, hostOps0_3]) (fun b => m (c, b))
theorem V_late (c : Dev nD) (r : Ref sig .tc) : V m c r = StableHlo.after hostOps0_4 (early m c) (Proc.devRef .tc r) := by
  have e : (List.flatten [hostOps0, hostOps0_1, hostOps0_2, hostOps0_3, hostOps0_4] : List (HloOp τ sig (Elt Ideal)))
      = List.flatten [hostOps0, hostOps0_1, hostOps0_2, hostOps0_3] ++ hostOps0_4 := by
    simp only [List.flatten_cons, List.flatten_nil, List.append_nil, List.append_assoc]
  unfold V early
  rw [e, StableHlo.after_append]
theorem V_v63 (c : Dev nD) : V m c main_v63 = cos16 (V m c main_v44) (V m c main_v54) := by
  unfold cos16
  rw [V_late m c main_v63, V_late m c main_v44, V_late m c main_v54]
  generalize early m c = W
  after_results
  rfl
theorem V_v67 (c : Dev nD) : V m c main_v67 = sin16 (V m c main_v44) (V m c main_v54) := by
  unfold sin16
  rw [V_late m c main_v67, V_late m c main_v44, V_late m c main_v54]
  generalize early m c = W
  after_results
  rfl
theorem V_v97 (c : Dev nD) : V m c main_v97 = cos8 (V m c main_v78) (V m c main_v88) := by
  unfold cos8
  rw [V_late m c main_v97, V_late m c main_v78, V_late m c main_v88]
  generalize early m c = W
  after_results
  rfl
theorem V_v101 (c : Dev nD) : V m c main_v101 = sin8 (V m c main_v78) (V m c main_v88) := by
  unfold sin8
  rw [V_late m c main_v101, V_late m c main_v78, V_late m c main_v88]
  generalize early m c = W
  after_results
  rfl

end Cert.TokensIdeal.Take

end
-- ==== Proof.TokensMeet.lean ====
module

public import proofs.«01_k».proof.Proof.TokensTurn
public import proofs.«01_k».proof.Proof.TokensTake

@[expose] public section

set_option maxRecDepth 16384

noncomputable section

/-! The kernel's rotation, a column and its partner under tables of cosines and signed sines, is the reference's. -/
namespace Cert.TokensIdeal.Take

open Cert.TokensIdeal Cert.TokensIdeal.Gen
open Idealize.ShloMosaic Idealize.ShloMosaic.TcCoe Idealize.SL.Sem
open Cert.TokensReferenceIdeal.Stages

variable (m : (ℓ : Loc nD τ sig) → Buf (Elt Ideal) ℓ)

/-! The host's arrays of angles. -/
theorem V_v44 (c : Dev nD) : V m c main_v44 = rows16 := by
  simp only [V, hostOps0, hostOps0_1, hostOps0_2, hostOps0_3, hostOps0_4, List.flatten_cons, List.flatten_nil, List.cons_append, List.nil_append, List.append_nil]
  after_results
  rfl
theorem V_v54 (c : Dev nD) : V m c main_v54 = cols16 := by
  simp only [V, hostOps0, hostOps0_1, hostOps0_2, hostOps0_3, hostOps0_4, List.flatten_cons, List.flatten_nil, List.cons_append, List.nil_append, List.append_nil]
  after_results
  rfl
theorem V_v78 (c : Dev nD) : V m c main_v78 = rows8 := by
  simp only [V, hostOps0, hostOps0_1, hostOps0_2, hostOps0_3, hostOps0_4, List.flatten_cons, List.flatten_nil, List.cons_append, List.nil_append, List.append_nil]
  after_results
  rfl
theorem V_v88 (c : Dev nD) : V m c main_v88 = cols8 := by
  simp only [V, hostOps0, hostOps0_1, hostOps0_2, hostOps0_3, hostOps0_4, List.flatten_cons, List.flatten_nil, List.cons_append, List.nil_append, List.append_nil]
  after_results
  rfl

/-! The tables at a lane. -/
theorem cos16_1 (A B : FVec Ideal S2048x16 .f32) (s : Fin 2048) (l : Fin 128) (e : Fin 16) (he : l.val % 64 = 0 + e.val) :
    cos16 A B (ix2 s l) = Ideal.cos (A (ix2 s e)) := by
  have := e.isLt
  pointwise [cos16]
  repeat (first | rw [dif_neg (by omega)] | rw [dif_pos (by omega)])
  exact congrArg (fun z => Ideal.cos (A (ix2 s z))) (Fin.ext (by simp only []; omega))
theorem sin16_1 (A B : FVec Ideal S2048x16 .f32) (s : Fin 2048) (l : Fin 128) (e : Fin 16) (he : l.val % 64 = 0 + e.val) :
    sin16 A B (ix2 s l) = -Ideal.sin (A (ix2 s e)) := by
  have := e.isLt
  pointwise [sin16]
  repeat (first | rw [dif_neg (by omega)] | rw [dif_pos (by omega)])
  exact congrArg (fun z => -Ideal.sin (A (ix2 s z))) (Fin.ext (by simp only []; omega))
theorem cos16_2 (A B : FVec Ideal S2048x16 .f32) (s : Fin 2048) (l : Fin 128) (e : Fin 16) (he : l.val % 64 = 16 + e.val) :
    cos16 A B (ix2 s l) = Ideal.cos (A (ix2 s e)) := by
  have := e.isLt
  pointwise [cos16]
  repeat (first | rw [dif_neg (by omega)] | rw [dif_pos (by omega)])
  exact congrArg (fun z => Ideal.cos (A (ix2 s z))) (Fin.ext (by simp only []; omega))
theorem sin16_2 (A B : FVec Ideal S2048x16 .f32) (s : Fin 2048) (l : Fin 128) (e : Fin 16) (he : l.val % 64 = 16 + e.val) :
    sin16 A B (ix2 s l) = Ideal.sin (A (ix2 s e)) := by
  have := e.isLt
  pointwise [sin16]
  repeat (first | rw [dif_neg (by omega)] | rw [dif_pos (by omega)])
  exact congrArg (fun z => Ideal.sin (A (ix2 s z))) (Fin.ext (by simp only []; omega))
theorem cos16_3 (A B : FVec Ideal S2048x16 .f32) (s : Fin 2048) (l : Fin 128) (e : Fin 16) (he : l.val % 64 = 32 + e.val) :
    cos16 A B (ix2 s l) = Ideal.cos (B (ix2 s e)) := by
  have := e.isLt
  pointwise [cos16]
  repeat (first | rw [dif_neg (by omega)] | rw [dif_pos (by omega)])
  exact congrArg (fun z => Ideal.cos (B (ix2 s z))) (Fin.ext (by simp only []; omega))
theorem sin16_3 (A B : FVec Ideal S2048x16 .f32) (s : Fin 2048) (l : Fin 128) (e : Fin 16) (he : l.val % 64 = 32 + e.val) :
    sin16 A B (ix2 s l) = -Ideal.sin (B (ix2 s e)) := by
  have := e.isLt
  pointwise [sin16]
  repeat (first | rw [dif_neg (by omega)] | rw [dif_pos (by omega)])
  exact congrArg (fun z => -Ideal.sin (B (ix2 s z))) (Fin.ext (by simp only []; omega))
theorem cos16_4 (A B : FVec Ideal S2048x16 .f32) (s : Fin 2048) (l : Fin 128) (e : Fin 16) (he : l.val % 64 = 48 + e.val) :
    cos16 A B (ix2 s l) = Ideal.cos (B (ix2 s e)) := by
  have := e.isLt
  pointwise [cos16]
  repeat (first | rw [dif_neg (by omega)] | rw [dif_pos (by omega)])
  exact congrArg (fun z => Ideal.cos (B (ix2 s z))) (Fin.ext (by simp only []; omega))
theorem sin16_4 (A B : FVec Ideal S2048x16 .f32) (s : Fin 2048) (l : Fin 128) (e : Fin 16) (he : l.val % 64 = 48 + e.val) :
    sin16 A B (ix2 s l) = Ideal.sin (B (ix2 s e)) := by
  have := e.isLt
  pointwise [sin16]
  repeat (first | rw [dif_neg (by omega)] | rw [dif_pos (by omega)])
  exact congrArg (fun z => Ideal.sin (B (ix2 s z))) (Fin.ext (by simp only []; omega))
theorem cos8_1 (A B : FVec Ideal S2048x8 .f32) (s : Fin 2048) (l : Fin 128) (e : Fin 8) (he : l.val % 32 = 0 + e.val) :
    cos8 A B (ix2 s l) = Ideal.cos (A (ix2 s e)) := by
  have := e.isLt
  pointwise [cos8]
  repeat (first | rw [dif_neg (by omega)] | rw [dif_pos (by omega)])
  exact congrArg (fun z => Ideal.cos (A (ix2 s z))) (Fin.ext (by simp only []; omega))
theorem sin8_1 (A B : FVec Ideal S2048x8 .f32) (s : Fin 2048) (l : Fin 128) (e : Fin 8) (he : l.val % 32 = 0 + e.val) :
    sin8 A B (ix2 s l) = -Ideal.sin (A (ix2 s e)) := by
  have := e.isLt
  pointwise [sin8]
  repeat (first | rw [dif_neg (by omega)] | rw [dif_pos (by omega)])
  exact congrArg (fun z => -Ideal.sin (A (ix2 s z))) (Fin.ext (by simp only []; omega))
theorem cos8_2 (A B : FVec Ideal S2048x8 .f32) (s : Fin 2048) (l : Fin 128) (e : Fin 8) (he : l.val % 32 = 8 + e.val) :
    cos8 A B (ix2 s l) = Ideal.cos (A (ix2 s e)) := by
  have := e.isLt
  pointwise [cos8]
  repeat (first | rw [dif_neg (by omega)] | rw [dif_pos (by omega)])
  exact congrArg (fun z => Ideal.cos (A (ix2 s z))) (Fin.ext (by simp only []; omega))
theorem sin8_2 (A B : FVec Ideal S2048x8 .f32) (s : Fin 2048) (l : Fin 128) (e : Fin 8) (he : l.val % 32 = 8 + e.val) :
    sin8 A B (ix2 s l) = Ideal.sin (A (ix2 s e)) := by
  have := e.isLt
  pointwise [sin8]
  repeat (first | rw [dif_neg (by omega)] | rw [dif_pos (by omega)])
  exact congrArg (fun z => Ideal.sin (A (ix2 s z))) (Fin.ext (by simp only []; omega))
theorem cos8_3 (A B : FVec Ideal S2048x8 .f32) (s : Fin 2048) (l : Fin 128) (e : Fin 8) (he : l.val % 32 = 16 + e.val) :
    cos8 A B (ix2 s l) = Ideal.cos (B (ix2 s e)) := by
  have := e.isLt
  pointwise [cos8]
  repeat (first | rw [dif_neg (by omega)] | rw [dif_pos (by omega)])
  exact congrArg (fun z => Ideal.cos (B (ix2 s z))) (Fin.ext (by simp only []; omega))
theorem sin8_3 (A B : FVec Ideal S2048x8 .f32) (s : Fin 2048) (l : Fin 128) (e : Fin 8) (he : l.val % 32 = 16 + e.val) :
    sin8 A B (ix2 s l) = -Ideal.sin (B (ix2 s e)) := by
  have := e.isLt
  pointwise [sin8]
  repeat (first | rw [dif_neg (by omega)] | rw [dif_pos (by omega)])
  exact congrArg (fun z => -Ideal.sin (B (ix2 s z))) (Fin.ext (by simp only []; omega))
theorem cos8_4 (A B : FVec Ideal S2048x8 .f32) (s : Fin 2048) (l : Fin 128) (e : Fin 8) (he : l.val % 32 = 24 + e.val) :
    cos8 A B (ix2 s l) = Ideal.cos (B (ix2 s e)) := by
  have := e.isLt
  pointwise [cos8]
  repeat (first | rw [dif_neg (by omega)] | rw [dif_pos (by omega)])
  exact congrArg (fun z => Ideal.cos (B (ix2 s z))) (Fin.ext (by simp only []; omega))
theorem sin8_4 (A B : FVec Ideal S2048x8 .f32) (s : Fin 2048) (l : Fin 128) (e : Fin 8) (he : l.val % 32 = 24 + e.val) :
    sin8 A B (ix2 s l) = Ideal.sin (B (ix2 s e)) := by
  have := e.isLt
  pointwise [sin8]
  repeat (first | rw [dif_neg (by omega)] | rw [dif_pos (by omega)])
  exact congrArg (fun z => Ideal.sin (B (ix2 s z))) (Fin.ext (by simp only []; omega))

/-! The two rotations agree at a column. -/
theorem mateLtHeads (j : Fin 512) : mate 16 j < 512 := by
  have := j.isLt
  unfold mate
  split_ifs <;> omega
theorem meetHeads (A B : FVec Ideal S2048x16 .f32) (X : FVec Ideal Cert.TokensReferenceIdeal.S16384x512 .f32) (b : Fin 8) (s : Fin 2048) (j : Fin 512) (l : Fin 128)
    (hl : l.val % 64 = j.val % 64) :
    X (ix2 ⟨b * 2048 + s, by omega⟩ j) * cos16 A B (ix2 s l) + X (ix2 ⟨b * 2048 + s, by omega⟩ ⟨mate 16 j, mateLtHeads j⟩) * sin16 A B (ix2 s l)
      = turnHeads A B X (ix2 ⟨b * 2048 + s, by omega⟩ j) := by
  have hj := j.isLt
  rcases (by omega : (0 ≤ j.val % 64 ∧ j.val % 64 < 16) ∨ (16 ≤ j.val % 64 ∧ j.val % 64 < 32) ∨ (32 ≤ j.val % 64 ∧ j.val % 64 < 48) ∨ (48 ≤ j.val % 64 ∧ j.val % 64 < 64)) with ⟨h0, h1⟩ | ⟨h0, h1⟩ | ⟨h0, h1⟩ | ⟨h0, h1⟩
  · rw [turnHeads_1 A B X b s j h0 h1, cos16_1 A B s l ⟨j % 64 - 0, by omega⟩ (by simp only []; omega), sin16_1 A B s l ⟨j % 64 - 0, by omega⟩ (by simp only []; omega)]
    rw [mul_neg, ← sub_eq_add_neg]
    refine congrArg₂ (· - ·) rfl (congrArg₂ (· * ·) (congrArg (fun z => X (ix2 _ z)) (Fin.ext ?_)) rfl)
    show mate 16 j = j + 16
    unfold mate
    rw [if_pos (by omega)]
  · rw [turnHeads_2 A B X b s j h0 h1, cos16_2 A B s l ⟨j % 64 - 16, by omega⟩ (by simp only []; omega), sin16_2 A B s l ⟨j % 64 - 16, by omega⟩ (by simp only []; omega)]
    rw [add_comm]
    refine congrArg₂ (· + ·) (congrArg₂ (· * ·) (congrArg (fun z => X (ix2 _ z)) (Fin.ext ?_)) rfl) rfl
    show mate 16 j = j - 16
    unfold mate
    rw [if_neg (by omega)]
  · rw [turnHeads_3 A B X b s j h0 h1, cos16_3 A B s l ⟨j % 64 - 32, by omega⟩ (by simp only []; omega), sin16_3 A B s l ⟨j % 64 - 32, by omega⟩ (by simp only []; omega)]
    rw [mul_neg, ← sub_eq_add_neg]
    refine congrArg₂ (· - ·) rfl (congrArg₂ (· * ·) (congrArg (fun z => X (ix2 _ z)) (Fin.ext ?_)) rfl)
    show mate 16 j = j + 16
    unfold mate
    rw [if_pos (by omega)]
  · rw [turnHeads_4 A B X b s j h0 h1, cos16_4 A B s l ⟨j % 64 - 48, by omega⟩ (by simp only []; omega), sin16_4 A B s l ⟨j % 64 - 48, by omega⟩ (by simp only []; omega)]
    rw [add_comm]
    refine congrArg₂ (· + ·) (congrArg₂ (· * ·) (congrArg (fun z => X (ix2 _ z)) (Fin.ext ?_)) rfl) rfl
    show mate 16 j = j - 16
    unfold mate
    rw [if_neg (by omega)]
theorem mateLtParts (j : Fin 256) : mate 8 j < 256 := by
  have := j.isLt
  unfold mate
  split_ifs <;> omega
theorem meetParts (A B : FVec Ideal S2048x8 .f32) (X : FVec Ideal Cert.TokensReferenceIdeal.S16384x256 .f32) (b : Fin 8) (s : Fin 2048) (j : Fin 256) (l : Fin 128)
    (hl : l.val % 32 = j.val % 32) :
    X (ix2 ⟨b * 2048 + s, by omega⟩ j) * cos8 A B (ix2 s l) + X (ix2 ⟨b * 2048 + s, by omega⟩ ⟨mate 8 j, mateLtParts j⟩) * sin8 A B (ix2 s l)
      = turnParts A B X (ix2 ⟨b * 2048 + s, by omega⟩ j) := by
  have hj := j.isLt
  rcases (by omega : (0 ≤ j.val % 32 ∧ j.val % 32 < 8) ∨ (8 ≤ j.val % 32 ∧ j.val % 32 < 16) ∨ (16 ≤ j.val % 32 ∧ j.val % 32 < 24) ∨ (24 ≤ j.val % 32 ∧ j.val % 32 < 32)) with ⟨h0, h1⟩ | ⟨h0, h1⟩ | ⟨h0, h1⟩ | ⟨h0, h1⟩
  · rw [turnParts_1 A B X b s j h0 h1, cos8_1 A B s l ⟨j % 32 - 0, by omega⟩ (by simp only []; omega), sin8_1 A B s l ⟨j % 32 - 0, by omega⟩ (by simp only []; omega)]
    rw [mul_neg, ← sub_eq_add_neg]
    refine congrArg₂ (· - ·) rfl (congrArg₂ (· * ·) (congrArg (fun z => X (ix2 _ z)) (Fin.ext ?_)) rfl)
    show mate 8 j = j + 8
    unfold mate
    rw [if_pos (by omega)]
  · rw [turnParts_2 A B X b s j h0 h1, cos8_2 A B s l ⟨j % 32 - 8, by omega⟩ (by simp only []; omega), sin8_2 A B s l ⟨j % 32 - 8, by omega⟩ (by simp only []; omega)]
    rw [add_comm]
    refine congrArg₂ (· + ·) (congrArg₂ (· * ·) (congrArg (fun z => X (ix2 _ z)) (Fin.ext ?_)) rfl) rfl
    show mate 8 j = j - 8
    unfold mate
    rw [if_neg (by omega)]
  · rw [turnParts_3 A B X b s j h0 h1, cos8_3 A B s l ⟨j % 32 - 16, by omega⟩ (by simp only []; omega), sin8_3 A B s l ⟨j % 32 - 16, by omega⟩ (by simp only []; omega)]
    rw [mul_neg, ← sub_eq_add_neg]
    refine congrArg₂ (· - ·) rfl (congrArg₂ (· * ·) (congrArg (fun z => X (ix2 _ z)) (Fin.ext ?_)) rfl)
    show mate 8 j = j + 8
    unfold mate
    rw [if_pos (by omega)]
  · rw [turnParts_4 A B X b s j h0 h1, cos8_4 A B s l ⟨j % 32 - 24, by omega⟩ (by simp only []; omega), sin8_4 A B s l ⟨j % 32 - 24, by omega⟩ (by simp only []; omega)]
    rw [add_comm]
    refine congrArg₂ (· + ·) (congrArg₂ (· * ·) (congrArg (fun z => X (ix2 _ z)) (Fin.ext ?_)) rfl) rfl
    show mate 8 j = j - 8
    unfold mate
    rw [if_neg (by omega)]
theorem mateLtShared (j : Fin 32) : mate 8 j < 32 := by
  have := j.isLt
  unfold mate
  split_ifs <;> omega
theorem meetShared (A B : FVec Ideal S2048x8 .f32) (X : FVec Ideal Cert.TokensReferenceIdeal.S16384x32 .f32) (b : Fin 8) (s : Fin 2048) (j : Fin 32) (l : Fin 128)
    (hl : l.val % 32 = j.val % 32) :
    X (ix2 ⟨b * 2048 + s, by omega⟩ j) * cos8 A B (ix2 s l) + X (ix2 ⟨b * 2048 + s, by omega⟩ ⟨mate 8 j, mateLtShared j⟩) * sin8 A B (ix2 s l)
      = turnShared A B X (ix2 ⟨b * 2048 + s, by omega⟩ j) := by
  have hj := j.isLt
  rcases (by omega : (0 ≤ j.val % 32 ∧ j.val % 32 < 8) ∨ (8 ≤ j.val % 32 ∧ j.val % 32 < 16) ∨ (16 ≤ j.val % 32 ∧ j.val % 32 < 24) ∨ (24 ≤ j.val % 32 ∧ j.val % 32 < 32)) with ⟨h0, h1⟩ | ⟨h0, h1⟩ | ⟨h0, h1⟩ | ⟨h0, h1⟩
  · rw [turnShared_1 A B X b s j h0 h1, cos8_1 A B s l ⟨j % 32 - 0, by omega⟩ (by simp only []; omega), sin8_1 A B s l ⟨j % 32 - 0, by omega⟩ (by simp only []; omega)]
    rw [mul_neg, ← sub_eq_add_neg]
    refine congrArg₂ (· - ·) rfl (congrArg₂ (· * ·) (congrArg (fun z => X (ix2 _ z)) (Fin.ext ?_)) rfl)
    show mate 8 j = j + 8
    unfold mate
    rw [if_pos (by omega)]
  · rw [turnShared_2 A B X b s j h0 h1, cos8_2 A B s l ⟨j % 32 - 8, by omega⟩ (by simp only []; omega), sin8_2 A B s l ⟨j % 32 - 8, by omega⟩ (by simp only []; omega)]
    rw [add_comm]
    refine congrArg₂ (· + ·) (congrArg₂ (· * ·) (congrArg (fun z => X (ix2 _ z)) (Fin.ext ?_)) rfl) rfl
    show mate 8 j = j - 8
    unfold mate
    rw [if_neg (by omega)]
  · rw [turnShared_3 A B X b s j h0 h1, cos8_3 A B s l ⟨j % 32 - 16, by omega⟩ (by simp only []; omega), sin8_3 A B s l ⟨j % 32 - 16, by omega⟩ (by simp only []; omega)]
    rw [mul_neg, ← sub_eq_add_neg]
    refine congrArg₂ (· - ·) rfl (congrArg₂ (· * ·) (congrArg (fun z => X (ix2 _ z)) (Fin.ext ?_)) rfl)
    show mate 8 j = j + 8
    unfold mate
    rw [if_pos (by omega)]
  · rw [turnShared_4 A B X b s j h0 h1, cos8_4 A B s l ⟨j % 32 - 24, by omega⟩ (by simp only []; omega), sin8_4 A B s l ⟨j % 32 - 24, by omega⟩ (by simp only []; omega)]
    rw [add_comm]
    refine congrArg₂ (· + ·) (congrArg₂ (· * ·) (congrArg (fun z => X (ix2 _ z)) (Fin.ext ?_)) rfl) rfl
    show mate 8 j = j - 8
    unfold mate
    rw [if_neg (by omega)]

end Cert.TokensIdeal.Take

end
-- ==== Proof.TokensKer.lean ====
module

public import proofs.«01_k».proof.Proof.Gen.TokensIdeal.Value
public import proofs.«01_k».proof.Proof.TokensRef

@[expose] public section

set_option maxRecDepth 16384

noncomputable section

/-! The kernel's values of one block read at an index. -/
namespace Cert.TokensIdeal.Blk

open Cert.TokensIdeal Cert.TokensIdeal.Gen
open Idealize.ShloMosaic Idealize.ShloMosaic.TcCoe Idealize.SL.Sem
open Cert.TokensReferenceIdeal.Stages (hid dotp rms)

theorem pay6_at (v0 : Vec Ideal S1x6x1024 .f32) (v2 : Vec Ideal S512x1024 .f32) (i : Fin 512) (k : Fin 1024) :
    k0_pay6 v0 v2 (ix2 i k) = hid (fun k => v2 (ix2 i k)) (fun k => v0 (ix3 0 1 k)) (fun k => v0 (ix3 0 0 k)) k := by
  pointwise [k0_pay6, hid]

theorem pay7_at (v0 : Vec Ideal S1x6x1024 .f32) (v2 : Vec Ideal S512x1024 .f32) (w : Vec Ideal S1024x3072 .bf16) (i : Fin 512) (j : Fin 3072) :
    k0_pay7 v0 v2 w (ix2 i j) = dotp (fun k => k0_pay6 v0 v2 (ix2 i k)) (fun k => w (ix2 k j)) := by
  unfold k0_pay7
  generalize k0_pay6 v0 v2 = h
  pointwise [dotp]

theorem pay8_at (v0 : Vec Ideal S1x6x1024 .f32) (v2 : Vec Ideal S512x1024 .f32) (w : Vec Ideal S1024x896 .bf16) (i : Fin 512) (j : Fin 896) :
    k0_pay8 v0 v2 w (ix2 i j) = dotp (fun k => k0_pay6 v0 v2 (ix2 i k)) (fun k => w (ix2 k j)) := by
  unfold k0_pay8
  generalize k0_pay6 v0 v2 = h
  pointwise [dotp]

theorem pay9_at (v0 : Vec Ideal S1x6x1024 .f32) (v2 : Vec Ideal S512x1024 .f32) (w : Vec Ideal S1024x896 .bf16) (g : Vec Ideal S1x384 .f32)
    (i : Fin 512) (d : Fin 384) :
    k0_pay9 v0 v2 w g (ix2 i d)
      = rms 0x43C00000#32 (fun d : Fin 384 => k0_pay8 v0 v2 w (ix2 i ⟨d, by omega⟩)) (fun d => g (ix2 0 d)) d := by
  unfold k0_pay9
  generalize k0_pay8 v0 v2 w = h
  pointwise [rms]

theorem pay10_at (v0 : Vec Ideal S1x6x1024 .f32) (v2 : Vec Ideal S512x1024 .f32) (w : Vec Ideal S1024x896 .bf16) (g : Vec Ideal S1x384 .f32)
    (q : Vec Ideal S384x768 .bf16) (i : Fin 512) (j : Fin 768) :
    k0_pay10 v0 v2 w g q (ix2 i j) = dotp (fun d => k0_pay9 v0 v2 w g (ix2 i d)) (fun d => q (ix2 d j)) := by
  unfold k0_pay10
  generalize k0_pay9 v0 v2 w g = h
  pointwise [dotp]

theorem pay11_at (v0 : Vec Ideal S1x6x1024 .f32) (v2 : Vec Ideal S512x1024 .f32) (w : Vec Ideal S1024x896 .bf16) (i : Fin 512) (j : Fin 256) :
    k0_pay11 v0 v2 w (ix2 i j) = k0_pay8 v0 v2 w (ix2 i ⟨384 + j, by omega⟩) := by
  unfold k0_pay11
  generalize k0_pay8 v0 v2 w = h
  pointwise

theorem pay12_at (p : FVec Ideal S512x256 .f32) (g : Vec Ideal S1x256 .f32) (w : Vec Ideal S256x1024 .bf16) (i : Fin 512) (j : Fin 1024) :
    k0_pay12 p g w (ix2 i j)
      = dotp (rms 0x43800000#32 (fun d => p (ix2 i d)) (fun d => g (ix2 0 d))) (fun d => w (ix2 d j)) := by
  pointwise [k0_pay12, dotp, rms]

/-! The stored values without a rotation. -/

theorem pay27_at (a : FVec Ideal S512x3072 .f32) (i : Fin 512) (j : Fin 512) :
    k0_pay27 a (ix2 i j) = a (ix2 i ⟨1024 + j, by omega⟩) := by
  pointwise [k0_pay27]
theorem pay28_at (a : FVec Ideal S512x3072 .f32) (i : Fin 512) (j : Fin 512) :
    k0_pay28 a (ix2 i j) = a (ix2 i ⟨1536 + j, by omega⟩) * Ideal.ofBits .f32 0x3E38AA3B#32 := by
  pointwise [k0_pay28]
theorem pay29_at (a : FVec Ideal S512x3072 .f32) (i : Fin 512) (j : Fin 512) :
    k0_pay29 a (ix2 i j) = a (ix2 i ⟨2048 + j, by omega⟩) := by
  pointwise [k0_pay29]
theorem pay30_at (a : FVec Ideal S512x3072 .f32) (i : Fin 512) (j : Fin 512) :
    k0_pay30 a (ix2 i j) = a (ix2 i ⟨2560 + j, by omega⟩) := by
  pointwise [k0_pay30]
theorem pay31_at (a : FVec Ideal S512x768 .f32) (i : Fin 512) (j : Fin 512) :
    k0_pay31 a (ix2 i j) = a (ix2 i ⟨j, by omega⟩) * Ideal.ofBits .f32 0x3E16C740#32 := by
  pointwise [k0_pay31]
theorem pay4_at (a : FVec Ideal S512x1024 .f32) (i : Fin 512) (j : Fin 512) :
    k0_pay4 a (ix2 i j) = a (ix2 i ⟨j, by omega⟩) := by
  pointwise [k0_pay4]
theorem pay5_at (a : FVec Ideal S512x1024 .f32) (i : Fin 512) (j : Fin 512) :
    k0_pay5 a (ix2 i j) = a (ix2 i ⟨512 + j, by omega⟩) := by
  pointwise [k0_pay5]

/-! A load of a whole block is the block. -/

theorem ld0 (B : Vec Ideal S1x6x1024 .f32) (a : Fin 6) (b : Fin 1024) : View.ld B r0_0 (ix3 0 a b) = B (ix3 0 a b) := by
  pointwise
theorem ld1 (B : Vec Ideal S512x1024 .f32) (a : Fin 512) (b : Fin 1024) : View.ld B r0_1 (ix2 a b) = B (ix2 a b) := by
  pointwise
theorem ld2 (B : Vec Ideal S1024x3072 .bf16) (a : Fin 1024) (b : Fin 3072) : View.ld B r0_2 (ix2 a b) = B (ix2 a b) := by
  pointwise
theorem ld3 (B : Vec Ideal S1024x896 .bf16) (a : Fin 1024) (b : Fin 896) : View.ld B r0_3 (ix2 a b) = B (ix2 a b) := by
  pointwise
theorem ld4 (B : Vec Ideal S1x384 .f32) (b : Fin 384) : View.ld B r0_4 (ix2 0 b) = B (ix2 0 b) := by
  pointwise
theorem ld5 (B : Vec Ideal S384x768 .bf16) (a : Fin 384) (b : Fin 768) : View.ld B r0_5 (ix2 a b) = B (ix2 a b) := by
  pointwise
theorem ld6 (B : Vec Ideal S1x256 .f32) (b : Fin 256) : View.ld B r0_6 (ix2 0 b) = B (ix2 0 b) := by
  pointwise
theorem ld7 (B : Vec Ideal S256x1024 .bf16) (a : Fin 256) (b : Fin 1024) : View.ld B r0_7 (ix2 a b) = B (ix2 a b) := by
  pointwise

end Cert.TokensIdeal.Blk

end
-- ==== Proof.TokensBlocks.lean ====
module

public import proofs.«01_k».proof.Proof.TokensKer
public import Idealize.ShloMosaic.Lib.Claim

@[expose] public section

set_option maxRecDepth 16384

noncomputable section

/-! What the kernel's blocks hold, and the values of a block as the reference's. -/
namespace Cert.TokensIdeal.Arr

open Cert.TokensIdeal Cert.TokensIdeal.Gen Cert.TokensIdeal.Blk
open Idealize.ShloMosaic Idealize.ShloMosaic.TcCoe Idealize.SL.Sem
open Cert.TokensReferenceIdeal.Stages

variable (m : (ℓ : Loc nD τ sig) → Buf (Elt Ideal) ℓ)

/-- The blocks a grid point stages. -/
theorem idx_val : ∀ t : Fin cfg0.N, win0_0.index t = ![t.val, 0] ∧ win0_1.index t = ![t.val / 4, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_16.index t = ![t.val, 0] ∧ win0_17.index t = ![t.val, 0] ∧ win0_18.index t = ![t.val, 0] ∧ win0_19.index t = ![t.val, 0] ∧ win0_20.index t = ![t.val, 0] ∧ win0_23.index t = ![t.val, 0] ∧ win0_24.index t = ![t.val, 0] :=
  (by decide +kernel : ∀ t : Fin grid0.N, _)

/-- The operands the host prepares. -/
theorem V_v0 (c : Dev nD) : V m c main_v0 = extractStridedSlice S1024x3072 ![0, 0] (m ((c : Thread nD τ).loc main_arg2)) slices_S1024x6816_S1024x3072_0_0 := by
  simp only [V, hostOps0, hostOps0_1, hostOps0_2, hostOps0_3, hostOps0_4, List.flatten_cons, List.flatten_nil, List.cons_append, List.nil_append, List.append_nil]
  after_results
  try rfl
theorem V_v21 (c : Dev nD) : V m c main_v21 = shapeCast S1x384 (m ((c : Thread nD τ).loc main_arg3)) shapeCasts_S384_S1x384 := by
  simp only [V, hostOps0, hostOps0_1, hostOps0_2, hostOps0_3, hostOps0_4, List.flatten_cons, List.flatten_nil, List.cons_append, List.nil_append, List.append_nil]
  after_results
  try rfl
theorem V_v22 (c : Dev nD) : V m c main_v22 = shapeCast S1x256 (m ((c : Thread nD τ).loc main_arg4)) shapeCasts_S256_S1x256 := by
  simp only [V, hostOps0, hostOps0_1, hostOps0_2, hostOps0_3, hostOps0_4, List.flatten_cons, List.flatten_nil, List.cons_append, List.nil_append, List.append_nil]
  after_results
  try rfl
/-- The narrow columns: 640 of the latents, then the rotary ones four times, and their partners four times. -/
theorem V_v20 (c : Dev nD) : V m c main_v20 = concatenate S1024x896 1 [⟨S1024x640, extractStridedSlice S1024x640 ![0, 3072] (m ((c : Thread nD τ).loc main_arg2)) slices_S1024x6816_S1024x640_0_3072⟩,
    ⟨S1024x128, V m c main_v5⟩, ⟨S1024x128, V m c main_v13⟩] concatenates_S1024x640_S1024x128_S1024x128_S1024x896_d1 := by
  simp only [V, hostOps0, hostOps0_1, hostOps0_2, hostOps0_3, hostOps0_4, List.flatten_cons, List.flatten_nil, List.cons_append, List.nil_append, List.append_nil]
  after_results
  try rfl

theorem wide_at (W : FVec Ideal S1024x6816 .bf16) (k : Fin 1024) (j : Fin 3072) :
    extractStridedSlice S1024x3072 ![0, 0] W slices_S1024x6816_S1024x3072_0_0 (ix2 k j) = W (ix2 k ⟨j, by omega⟩) := by
  pointwise
theorem narrow_lo (W : FVec Ideal S1024x6816 .bf16) (A B : FVec Ideal S1024x128 .bf16) (k : Fin 1024) (j : Fin 640) :
    (concatenate S1024x896 1 [⟨S1024x640, extractStridedSlice S1024x640 ![0, 3072] W slices_S1024x6816_S1024x640_0_3072⟩,
      ⟨S1024x128, A⟩, ⟨S1024x128, B⟩] concatenates_S1024x640_S1024x128_S1024x128_S1024x896_d1 : FVec Ideal S1024x896 .bf16) (ix2 k ⟨j, by omega⟩)
      = W (ix2 k ⟨3072 + j, by omega⟩) := by
  pointwise

/-! A block at an index. -/
theorem x_at (c : Dev nD) (t : Fin cfg0.N) (ht : t.val < 32) (i : Fin 512) (k : Fin 1024) :
    iblk m c 0 t (ix2 i k) = m ((c : Thread nD τ).loc main_arg0) (ix2 ⟨t.val * 512 + i, by omega⟩ k) := by
  blk_ext [iblk, V, idx_val t]
theorem mod_at (c : Dev nD) (t : Fin cfg0.N) (ht : t.val < 32) (a : Fin 6) (k : Fin 1024) :
    iblk m c 1 t (ix3 0 a k) = m ((c : Thread nD τ).loc main_arg1) (ix3 ⟨t.val / 4, by omega⟩ a k) := by
  blk_ext [iblk, V, idx_val t]
theorem wa_at (c : Dev nD) (t : Fin cfg0.N) (k : Fin 1024) (j : Fin 3072) :
    iblk m c 2 t (ix2 k j) = m ((c : Thread nD τ).loc main_arg2) (ix2 k ⟨j, by omega⟩) := by
  refine Eq.trans (b := V m c main_v0 (ix2 k j)) ?_ ?_
  · blk_ext [iblk, idx_val t]
  · rw [V_v0]; exact wide_at _ _ _
theorem wm_at (c : Dev nD) (t : Fin cfg0.N) (k : Fin 1024) (j : Fin 640) :
    iblk m c 3 t (ix2 k ⟨j, by omega⟩) = m ((c : Thread nD τ).loc main_arg2) (ix2 k ⟨3072 + j, by omega⟩) := by
  refine Eq.trans (b := V m c main_v20 (ix2 k ⟨j, by omega⟩)) ?_ ?_
  · blk_ext [iblk, idx_val t]
  · rw [V_v20]; exact narrow_lo _ _ _ _ _
theorem g1_at (c : Dev nD) (t : Fin cfg0.N) (d : Fin 384) :
    iblk m c 4 t (ix2 0 d) = m ((c : Thread nD τ).loc main_arg3) (ix1 d) := by
  blk_simp [iblk]
  rw [V_v21]
  pointwise
  blk_ext [idx_val t]
theorem g2_at (c : Dev nD) (t : Fin cfg0.N) (d : Fin 256) :
    iblk m c 5 t (ix2 0 d) = m ((c : Thread nD τ).loc main_arg4) (ix1 d) := by
  blk_simp [iblk]
  rw [V_v22]
  pointwise
  blk_ext [idx_val t]
theorem q_at (c : Dev nD) (t : Fin cfg0.N) (k : Fin 384) (j : Fin 768) :
    iblk m c 6 t (ix2 k j) = m ((c : Thread nD τ).loc main_arg5) (ix2 k j) := by
  blk_ext [iblk, V, idx_val t]
theorem kv_at (c : Dev nD) (t : Fin cfg0.N) (k : Fin 256) (j : Fin 1024) :
    iblk m c 7 t (ix2 k j) = m ((c : Thread nD τ).loc main_arg6) (ix2 k j) := by
  blk_ext [iblk, V, idx_val t]

/-- The projection, the normalised latents, the queries, and the keys and values, of core `c`'s arguments. -/
def prj (c : Dev nD) : FVec Ideal Cert.TokensReferenceIdeal.S16384x3744 .f32 :=
  projected (modulated (m ((c : Thread nD τ).loc main_arg0)) (m ((c : Thread nD τ).loc main_arg1))) (m ((c : Thread nD τ).loc main_arg2))
def ckv (c : Dev nD) : FVec Ideal Cert.TokensReferenceIdeal.S16384x256 .f32 := kvNorm (kvLat (prj m c)) (m ((c : Thread nD τ).loc main_arg4))
def qs (c : Dev nD) : FVec Ideal Cert.TokensReferenceIdeal.S16384x768 .f32 :=
  queries (qNorm (qLat (prj m c)) (m ((c : Thread nD τ).loc main_arg3))) (m ((c : Thread nD τ).loc main_arg5))
def kvs (c : Dev nD) : FVec Ideal Cert.TokensReferenceIdeal.S16384x1024 .f32 := keyvals (ckv m c) (m ((c : Thread nD τ).loc main_arg6))

/-- One entry of the block's modulated rows. -/
theorem h_at (c : Dev nD) (t : Fin cfg0.N) (ht : t.val < 32) (i : Fin 512) (k : Fin 1024) :
    k0_pay6 (View.ld (iblk m c 1 t) r0_0) (View.ld (iblk m c 0 t) r0_1) (ix2 i k)
      = modulated (m ((c : Thread nD τ).loc main_arg0)) (m ((c : Thread nD τ).loc main_arg1)) (ix2 ⟨t.val * 512 + i, by omega⟩ k) := by
  have hr : (⟨t.val * 512 + i, by omega⟩ : Fin 16384)
      = ⟨(⟨t.val / 4, by omega⟩ : Fin 8) * 2048 + (⟨t.val % 4 * 512 + i, by omega⟩ : Fin 2048), by dsimp only; omega⟩ :=
    Fin.ext (by show t.val * 512 + (i : ℕ) = t.val / 4 * 2048 + (t.val % 4 * 512 + i); omega)
  rw [pay6_at]
  refine Eq.trans ?_ ((congrArg (fun r => modulated _ _ (ix2 r k)) hr).trans (modulated_at _ _ _ _ _)).symm
  unfold hid
  refine congrArg₂ (· + ·) (congrArg₂ (· * ·) ?_ (congrArg₂ (· + ·) rfl ?_)) ?_
  · exact (ld1 _ _ _).trans ((x_at m c t ht _ _).trans (congrArg (fun r => m ((c : Thread nD τ).loc main_arg0) (ix2 r k)) hr))
  · exact (ld0 _ _ _).trans (mod_at m c t ht _ _)
  · exact (ld0 _ _ _).trans (mod_at m c t ht _ _)

theorem a_at (c : Dev nD) (t : Fin cfg0.N) (ht : t.val < 32) (i : Fin 512) (j : Fin 3072) :
    k0_pay34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i j)
      = prj m c (ix2 ⟨t.val * 512 + i, by omega⟩ ⟨j, by omega⟩) := by
  unfold k0_pay34 prj
  rw [pay7_at, projected_at]
  refine congrArg₂ dotp (funext fun k => h_at m c t ht i k) (funext fun k => ?_)
  exact (ld2 _ _ _).trans (wa_at m c t _ _)

theorem lo_at (c : Dev nD) (t : Fin cfg0.N) (ht : t.val < 32) (i : Fin 512) (j : Fin 640) :
    k0_pay8 (View.ld (iblk m c 1 t) r0_0) (View.ld (iblk m c 0 t) r0_1) (View.ld (iblk m c 3 t) r0_3) (ix2 i ⟨j, by omega⟩)
      = prj m c (ix2 ⟨t.val * 512 + i, by omega⟩ ⟨3072 + j, by omega⟩) := by
  unfold prj
  rw [pay8_at, projected_at]
  refine congrArg₂ dotp (funext fun k => h_at m c t ht i k) (funext fun k => ?_)
  exact (ld3 _ _ _).trans (wm_at m c t _ _)

theorem qan_at (c : Dev nD) (t : Fin cfg0.N) (ht : t.val < 32) (i : Fin 512) (d : Fin 384) :
    k0_pay9 (View.ld (iblk m c 1 t) r0_0) (View.ld (iblk m c 0 t) r0_1) (View.ld (iblk m c 3 t) r0_3) (View.ld (iblk m c 4 t) r0_4) (ix2 i d)
      = qNorm (qLat (prj m c)) (m ((c : Thread nD τ).loc main_arg3)) (ix2 ⟨t.val * 512 + i, by omega⟩ d) := by
  rw [pay9_at, qNorm_at]
  refine congrFun (congrArg₂ (rms _) (funext fun d => ?_) (funext fun d => (ld4 _ _).trans (g1_at m c t _))) d
  rw [qLat_at]
  exact lo_at m c t ht i ⟨d, by omega⟩

theorem mq_at (c : Dev nD) (t : Fin cfg0.N) (ht : t.val < 32) (i : Fin 512) (j : Fin 768) :
    k0_pay35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i j)
      = qs m c (ix2 ⟨t.val * 512 + i, by omega⟩ j) := by
  unfold k0_pay35 qs
  rw [pay10_at, queries_at]
  exact congrArg₂ dotp (funext fun d => qan_at m c t ht i d) (funext fun k => (ld5 _ _ _).trans (q_at m c t _ _))

theorem pre_at (c : Dev nD) (t : Fin cfg0.N) (ht : t.val < 32) (i : Fin 512) (j : Fin 256) :
    k0_pay11 (View.ld (iblk m c 1 t) r0_0) (View.ld (iblk m c 0 t) r0_1) (View.ld (iblk m c 3 t) r0_3) (ix2 i j)
      = kvLat (prj m c) (ix2 ⟨t.val * 512 + i, by omega⟩ j) := by
  rw [pay11_at, kvLat_at]
  refine (lo_at m c t ht i ⟨384 + j, by omega⟩).trans (congrArg (fun z => prj m c (ix2 _ z)) (Fin.ext ?_))
  show 3072 + (384 + (j : ℕ)) = 3456 + j
  omega

theorem kvs_at (c : Dev nD) (t : Fin cfg0.N) (ht : t.val < 32) (i : Fin 512) (j : Fin 1024) :
    k0_pay36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i j)
      = kvs m c (ix2 ⟨t.val * 512 + i, by omega⟩ j) := by
  unfold k0_pay36 kvs
  rw [pay12_at, keyvals_at]
  refine congrArg₂ dotp (funext fun d => ?_) (funext fun k => (ld7 _ _ _).trans (kv_at m c t _ _))
  unfold ckv
  rw [kvNorm_at]
  exact congrFun (congrArg₂ (rms _) (funext fun d => pre_at m c t ht i d) (funext fun d => (ld6 _ _).trans (g2_at m c t _))) d

end Cert.TokensIdeal.Arr

end
-- ==== Proof.TokensParts.lean ====
module

public import proofs.«01_k».proof.Proof.TokensMeet
public import proofs.«01_k».proof.Proof.TokensBlocks

@[expose] public section

set_option maxRecDepth 16384

noncomputable section

/-! The kernel's turned columns: the stored values and the blocks they read. -/
namespace Cert.TokensIdeal.Blk

open Cert.TokensIdeal Cert.TokensIdeal.Gen
open Idealize.ShloMosaic Idealize.ShloMosaic.TcCoe Idealize.SL.Sem
open Cert.TokensReferenceIdeal.Stages (dotp)

theorem pay13_at (h : FVec Ideal S512x1024 .bf16) (w : Vec Ideal S1024x1024 .bf16) (i : Fin 512) (j : Fin 1024) :
    k0_pay13 h w (ix2 i j) = dotp (fun k => h (ix2 i k)) (fun k => w (ix2 k j)) := by
  pointwise [k0_pay13, dotp]
theorem pay14_at (h : FVec Ideal S512x384 .bf16) (w : Vec Ideal S384x256 .bf16) (i : Fin 512) (j : Fin 256) :
    k0_pay14 h w (ix2 i j) = dotp (fun k => h (ix2 i k)) (fun k => w (ix2 k j)) := by
  pointwise [k0_pay14, dotp]
theorem pay15_at (w : Vec Ideal S512x128 .f32) (i : Fin 512) (l : Fin 128) : k0_pay15 w (ix2 i l) = w (ix2 i l) := by
  pointwise [k0_pay15]
theorem pay16_at (w : Vec Ideal S512x128 .f32) (i : Fin 512) (l : Fin 128) : k0_pay16 w (ix2 i l) = w (ix2 i l) := by
  pointwise [k0_pay16]
theorem pay17_at (w : Vec Ideal S512x128 .f32) (i : Fin 512) (l : Fin 128) : k0_pay17 w (ix2 i l) = w (ix2 i l) := by
  pointwise [k0_pay17]
theorem pay18_at (w : Vec Ideal S512x128 .f32) (i : Fin 512) (l : Fin 128) : k0_pay18 w (ix2 i l) = w (ix2 i l) := by
  pointwise [k0_pay18]
theorem pay19_at (h : FVec Ideal S512x1024 .bf16) (a : FVec Ideal S512x3072 .f32) (w : Vec Ideal S1024x1024 .bf16) (C S : Vec Ideal S512x128 .f32) (i : Fin 512) (l : Fin 128) :
    k0_pay19 h a w C S (ix2 i l) = (a (ix2 i ⟨l, by omega⟩) * k0_pay15 C (ix2 i l) + k0_pay13 h w (ix2 i ⟨l, by omega⟩) * k0_pay16 S (ix2 i l)) * Ideal.ofBits .f32 0x3E38AA3B#32 := by
  unfold k0_pay19
  generalize k0_pay13 h w = p
  generalize k0_pay15 C = C'
  generalize k0_pay16 S = S'
  pointwise
theorem pay21_at (a : FVec Ideal S512x3072 .f32) (p : FVec Ideal S512x1024 .f32) (C S : FVec Ideal S512x128 .f32) (i : Fin 512) (l : Fin 128) :
    k0_pay21 a p C S (ix2 i l) = (a (ix2 i ⟨128 + l, by omega⟩) * C (ix2 i l) + p (ix2 i ⟨128 + l, by omega⟩) * S (ix2 i l)) * Ideal.ofBits .f32 0x3E38AA3B#32 := by
  pointwise [k0_pay21]
theorem pay23_at (a : FVec Ideal S512x3072 .f32) (p : FVec Ideal S512x1024 .f32) (C S : FVec Ideal S512x128 .f32) (i : Fin 512) (l : Fin 128) :
    k0_pay23 a p C S (ix2 i l) = (a (ix2 i ⟨256 + l, by omega⟩) * C (ix2 i l) + p (ix2 i ⟨256 + l, by omega⟩) * S (ix2 i l)) * Ideal.ofBits .f32 0x3E38AA3B#32 := by
  pointwise [k0_pay23]
theorem pay25_at (a : FVec Ideal S512x3072 .f32) (p : FVec Ideal S512x1024 .f32) (C S : FVec Ideal S512x128 .f32) (i : Fin 512) (l : Fin 128) :
    k0_pay25 a p C S (ix2 i l) = (a (ix2 i ⟨384 + l, by omega⟩) * C (ix2 i l) + p (ix2 i ⟨384 + l, by omega⟩) * S (ix2 i l)) * Ideal.ofBits .f32 0x3E38AA3B#32 := by
  pointwise [k0_pay25]
theorem pay20_at (a : FVec Ideal S512x3072 .f32) (p : FVec Ideal S512x1024 .f32) (C S : FVec Ideal S512x128 .f32) (i : Fin 512) (l : Fin 128) :
    k0_pay20 a p C S (ix2 i l) = a (ix2 i ⟨512 + l, by omega⟩) * C (ix2 i l) + p (ix2 i ⟨512 + l, by omega⟩) * S (ix2 i l) := by
  pointwise [k0_pay20]
theorem pay22_at (a : FVec Ideal S512x3072 .f32) (p : FVec Ideal S512x1024 .f32) (C S : FVec Ideal S512x128 .f32) (i : Fin 512) (l : Fin 128) :
    k0_pay22 a p C S (ix2 i l) = a (ix2 i ⟨640 + l, by omega⟩) * C (ix2 i l) + p (ix2 i ⟨640 + l, by omega⟩) * S (ix2 i l) := by
  pointwise [k0_pay22]
theorem pay24_at (a : FVec Ideal S512x3072 .f32) (p : FVec Ideal S512x1024 .f32) (C S : FVec Ideal S512x128 .f32) (i : Fin 512) (l : Fin 128) :
    k0_pay24 a p C S (ix2 i l) = a (ix2 i ⟨768 + l, by omega⟩) * C (ix2 i l) + p (ix2 i ⟨768 + l, by omega⟩) * S (ix2 i l) := by
  pointwise [k0_pay24]
theorem pay26_at (a : FVec Ideal S512x3072 .f32) (p : FVec Ideal S512x1024 .f32) (C S : FVec Ideal S512x128 .f32) (i : Fin 512) (l : Fin 128) :
    k0_pay26 a p C S (ix2 i l) = a (ix2 i ⟨896 + l, by omega⟩) * C (ix2 i l) + p (ix2 i ⟨896 + l, by omega⟩) * S (ix2 i l) := by
  pointwise [k0_pay26]
theorem pay1_at (p : FVec Ideal S512x256 .f32) (C S : FVec Ideal S512x128 .f32) (q : FVec Ideal S512x768 .f32) (i : Fin 512) (l : Fin 128) :
    k0_pay1 p C S (k0_pay32 q) (ix2 i l) = (q (ix2 i ⟨512 + l, by omega⟩) * C (ix2 i l) + p (ix2 i ⟨l, by omega⟩) * S (ix2 i l)) * Ideal.ofBits .f32 0x3E16C740#32 := by
  pointwise [k0_pay1, k0_pay32]
theorem pay2_at (q : FVec Ideal S512x768 .f32) (p : FVec Ideal S512x256 .f32) (C S : FVec Ideal S512x128 .f32) (i : Fin 512) (l : Fin 128) :
    k0_pay2 q p C S (ix2 i l) = (q (ix2 i ⟨640 + l, by omega⟩) * C (ix2 i l) + p (ix2 i ⟨128 + l, by omega⟩) * S (ix2 i l)) * Ideal.ofBits .f32 0x3E16C740#32 := by
  pointwise [k0_pay2]
theorem pay3_at (a : FVec Ideal S512x896 .f32) (C S : FVec Ideal S512x128 .f32) (i : Fin 512) (l : Fin 128) :
    k0_pay3 a C S (ix2 i l) = a (ix2 i ⟨640 + l, by omega⟩) * C (ix2 i l) + a (ix2 i ⟨768 + l, by omega⟩) * S (ix2 i l) := by
  pointwise [k0_pay3]
theorem ld8 (B : Vec Ideal S1024x1024 .bf16) (a : Fin 1024) (b : Fin 1024) : View.ld B r0_8 (ix2 a b) = B (ix2 a b) := by
  pointwise
theorem ld9 (B : Vec Ideal S384x256 .bf16) (a : Fin 384) (b : Fin 256) : View.ld B r0_9 (ix2 a b) = B (ix2 a b) := by
  pointwise
theorem ld10 (B : Vec Ideal S512x128 .f32) (a : Fin 512) (b : Fin 128) : View.ld B r0_10 (ix2 a b) = B (ix2 a b) := by
  pointwise

end Cert.TokensIdeal.Blk

namespace Cert.TokensIdeal.Arr

open Cert.TokensIdeal Cert.TokensIdeal.Gen Cert.TokensIdeal.Blk Cert.TokensIdeal.Take
open Idealize.ShloMosaic Idealize.ShloMosaic.TcCoe Idealize.SL.Sem
open Cert.TokensReferenceIdeal.Stages

variable (m : (ℓ : Loc nD τ sig) → Buf (Elt Ideal) ℓ)

/-- The blocks a grid point stages of the permuted weights and the tables, and those it writes of the turned columns. -/
theorem idx_turn : ∀ t : Fin cfg0.N, win0_8.index t = ![0, 0] ∧ win0_9.index t = ![0, 0] ∧ win0_10.index t = ![t.val % 4, 0] ∧ win0_11.index t = ![t.val % 4, 0] ∧ win0_12.index t = ![t.val % 4, 0] ∧ win0_13.index t = ![t.val % 4, 0] ∧ win0_14.index t = ![t.val, 0] ∧ win0_15.index t = ![t.val, 0] ∧ win0_21.index t = ![t.val, 0] ∧ win0_22.index t = ![t.val, 0] :=
  (by decide +kernel : ∀ t : Fin grid0.N, _)

/-! The permuted weights, the shared key's columns four times, and the tables, as the blocks hold them. -/
theorem wp_at (c : Dev nD) (t : Fin cfg0.N) (k : Fin 1024) (j : Fin 1024) :
    iblk m c 8 t (ix2 k j) = m ((c : Thread nD τ).loc main_arg2) (ix2 k ⟨mate 16 j, by have := mate1_lt j; omega⟩) := by
  refine Eq.trans (b := V m c main_v19 (ix2 k j)) ?_ ?_
  · blk_ext [iblk, idx_val t, idx_turn t]
  · rw [V_v19, take1_at]
    pointwise
theorem wqp_at (c : Dev nD) (t : Fin cfg0.N) (k : Fin 384) (j : Fin 256) :
    iblk m c 9 t (ix2 k j) = m ((c : Thread nD τ).loc main_arg5) (ix2 k ⟨512 + mate 8 j, by have := mate2_lt j; omega⟩) := by
  refine Eq.trans (b := V m c main_v28 (ix2 k j)) ?_ ?_
  · blk_ext [iblk, idx_val t, idx_turn t]
  · rw [V_v28, take2_at]
    pointwise
theorem tiled_at (R : FVec Ideal S1024x32 .bf16) (k : Fin 1024) (l : Fin 128) :
    shapeCast S1024x128 (broadcastInDim S1x1024x4x32 ![0, 1, 2, 3] bcast_S1x1024x1x32_S1x1024x4x32_0_1_2_3 (shapeCast S1x1024x1x32 R shapeCasts_S1024x32_S1x1024x1x32)) shapeCasts_S1x1024x4x32_S1024x128 (ix2 k l)
      = R (ix2 k ⟨l % 32, by omega⟩) := by
  pointwise
theorem rot_at (c : Dev nD) (k : Fin 1024) (l : Fin 128) :
    V m c main_v5 (ix2 k l) = m ((c : Thread nD τ).loc main_arg2) (ix2 k ⟨3712 + l % 32, by omega⟩) := by
  rw [V_v5, tiled_at]
  pointwise
theorem rotp_at (c : Dev nD) (k : Fin 1024) (l : Fin 128) :
    V m c main_v13 (ix2 k l) = m ((c : Thread nD τ).loc main_arg2) (ix2 k ⟨3712 + mate 8 (l % 32), by have := mate0_lt ⟨l % 32, by omega⟩; simp only [] at this; omega⟩) := by
  rw [V_v13, tiled_at, take0_at]
  pointwise
theorem narrow_mid (W : FVec Ideal S1024x6816 .bf16) (A B : FVec Ideal S1024x128 .bf16) (k : Fin 1024) (l : Fin 128) :
    (concatenate S1024x896 1 [⟨S1024x640, extractStridedSlice S1024x640 ![0, 3072] W slices_S1024x6816_S1024x640_0_3072⟩,
      ⟨S1024x128, A⟩, ⟨S1024x128, B⟩] concatenates_S1024x640_S1024x128_S1024x128_S1024x896_d1 : FVec Ideal S1024x896 .bf16) (ix2 k ⟨640 + l, by omega⟩)
      = A (ix2 k l) := by
  pointwise
theorem narrow_hi (W : FVec Ideal S1024x6816 .bf16) (A B : FVec Ideal S1024x128 .bf16) (k : Fin 1024) (l : Fin 128) :
    (concatenate S1024x896 1 [⟨S1024x640, extractStridedSlice S1024x640 ![0, 3072] W slices_S1024x6816_S1024x640_0_3072⟩,
      ⟨S1024x128, A⟩, ⟨S1024x128, B⟩] concatenates_S1024x640_S1024x128_S1024x128_S1024x896_d1 : FVec Ideal S1024x896 .bf16) (ix2 k ⟨768 + l, by omega⟩)
      = B (ix2 k l) := by
  pointwise
  rw [dif_neg (by omega), dif_neg (by omega)]
  exact congrArg (fun z => B (ix2 k z)) (Fin.ext (by simp only []; omega))
theorem wm_mid (c : Dev nD) (t : Fin cfg0.N) (k : Fin 1024) (l : Fin 128) :
    iblk m c 3 t (ix2 k ⟨640 + l, by omega⟩) = m ((c : Thread nD τ).loc main_arg2) (ix2 k ⟨3712 + l % 32, by omega⟩) := by
  refine Eq.trans (b := V m c main_v20 (ix2 k ⟨640 + l, by omega⟩)) ?_ ?_
  · blk_ext [iblk, idx_val t, idx_turn t]
  · rw [V_v20]; exact (narrow_mid _ _ _ _ _).trans (rot_at m c k l)
theorem wm_hi (c : Dev nD) (t : Fin cfg0.N) (k : Fin 1024) (l : Fin 128) :
    iblk m c 3 t (ix2 k ⟨768 + l, by omega⟩) = m ((c : Thread nD τ).loc main_arg2) (ix2 k ⟨3712 + mate 8 (l % 32), by have := mate0_lt ⟨l % 32, by omega⟩; simp only [] at this; omega⟩) := by
  refine Eq.trans (b := V m c main_v20 (ix2 k ⟨768 + l, by omega⟩)) ?_ ?_
  · blk_ext [iblk, idx_val t, idx_turn t]
  · rw [V_v20]; exact (narrow_hi _ _ _ _ _).trans (rotp_at m c k l)
theorem tab10_at (c : Dev nD) (t : Fin cfg0.N) (ht : t.val < 32) (i : Fin 512) (l : Fin 128) :
    iblk m c 10 t (ix2 i l) = cos16 rows16 cols16 (ix2 ⟨t.val % 4 * 512 + i, by omega⟩ l) := by
  refine Eq.trans (b := V m c main_v63 (ix2 ⟨t.val % 4 * 512 + i, by omega⟩ l)) ?_ ?_
  · blk_ext [iblk, idx_val t, idx_turn t]
  · rw [V_v63, V_v44, V_v54]
theorem pay39_at (c : Dev nD) (t : Fin cfg0.N) (ht : t.val < 32) (i : Fin 512) (l : Fin 128) :
    k0_pay39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i l) = cos16 rows16 cols16 (ix2 ⟨t.val % 4 * 512 + i, by omega⟩ l) := by
  unfold k0_pay39
  exact (pay15_at _ _ _).trans ((ld10 _ _ _).trans (tab10_at m c t ht i l))
theorem tab11_at (c : Dev nD) (t : Fin cfg0.N) (ht : t.val < 32) (i : Fin 512) (l : Fin 128) :
    iblk m c 11 t (ix2 i l) = sin16 rows16 cols16 (ix2 ⟨t.val % 4 * 512 + i, by omega⟩ l) := by
  refine Eq.trans (b := V m c main_v67 (ix2 ⟨t.val % 4 * 512 + i, by omega⟩ l)) ?_ ?_
  · blk_ext [iblk, idx_val t, idx_turn t]
  · rw [V_v67, V_v44, V_v54]
theorem pay40_at (c : Dev nD) (t : Fin cfg0.N) (ht : t.val < 32) (i : Fin 512) (l : Fin 128) :
    k0_pay40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i l) = sin16 rows16 cols16 (ix2 ⟨t.val % 4 * 512 + i, by omega⟩ l) := by
  unfold k0_pay40
  exact (pay16_at _ _ _).trans ((ld10 _ _ _).trans (tab11_at m c t ht i l))
theorem tab12_at (c : Dev nD) (t : Fin cfg0.N) (ht : t.val < 32) (i : Fin 512) (l : Fin 128) :
    iblk m c 12 t (ix2 i l) = cos8 rows8 cols8 (ix2 ⟨t.val % 4 * 512 + i, by omega⟩ l) := by
  refine Eq.trans (b := V m c main_v97 (ix2 ⟨t.val % 4 * 512 + i, by omega⟩ l)) ?_ ?_
  · blk_ext [iblk, idx_val t, idx_turn t]
  · rw [V_v97, V_v78, V_v88]
theorem pay41_at (c : Dev nD) (t : Fin cfg0.N) (ht : t.val < 32) (i : Fin 512) (l : Fin 128) :
    k0_pay41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i l) = cos8 rows8 cols8 (ix2 ⟨t.val % 4 * 512 + i, by omega⟩ l) := by
  unfold k0_pay41
  exact (pay17_at _ _ _).trans ((ld10 _ _ _).trans (tab12_at m c t ht i l))
theorem tab13_at (c : Dev nD) (t : Fin cfg0.N) (ht : t.val < 32) (i : Fin 512) (l : Fin 128) :
    iblk m c 13 t (ix2 i l) = sin8 rows8 cols8 (ix2 ⟨t.val % 4 * 512 + i, by omega⟩ l) := by
  refine Eq.trans (b := V m c main_v101 (ix2 ⟨t.val % 4 * 512 + i, by omega⟩ l)) ?_ ?_
  · blk_ext [iblk, idx_val t, idx_turn t]
  · rw [V_v101, V_v78, V_v88]
theorem pay42_at (c : Dev nD) (t : Fin cfg0.N) (ht : t.val < 32) (i : Fin 512) (l : Fin 128) :
    k0_pay42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i l) = sin8 rows8 cols8 (ix2 ⟨t.val % 4 * 512 + i, by omega⟩ l) := by
  unfold k0_pay42
  exact (pay18_at _ _ _).trans ((ld10 _ _ _).trans (tab13_at m c t ht i l))

/-! The partners' products. -/
theorem ap_at (c : Dev nD) (t : Fin cfg0.N) (ht : t.val < 32) (i : Fin 512) (j : Fin 1024) :
    k0_pay37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i j) = prj m c (ix2 ⟨t.val * 512 + i, by omega⟩ ⟨mate 16 j, by have := mate1_lt j; omega⟩) := by
  unfold k0_pay37 k0_pay33 prj
  rw [pay13_at, projected_at]
  refine congrArg₂ dotp (funext fun k => h_at m c t ht i k) (funext fun k => ?_)
  exact (ld8 _ _ _).trans (wp_at m c t _ _)
theorem mqp_at (c : Dev nD) (t : Fin cfg0.N) (ht : t.val < 32) (i : Fin 512) (j : Fin 256) :
    k0_pay38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i j) = qs m c (ix2 ⟨t.val * 512 + i, by omega⟩ ⟨512 + mate 8 j, by have := mate2_lt j; omega⟩) := by
  unfold k0_pay38 qs
  rw [pay14_at, queries_at]
  exact congrArg₂ dotp (funext fun d => qan_at m c t ht i d) (funext fun k => (ld9 _ _ _).trans (wqp_at m c t _ _))
theorem kr_at (c : Dev nD) (t : Fin cfg0.N) (ht : t.val < 32) (i : Fin 512) (l : Fin 128) :
    k0_pay8 (View.ld (iblk m c 1 t) r0_0) (View.ld (iblk m c 0 t) r0_1) (View.ld (iblk m c 3 t) r0_3) (ix2 i ⟨640 + l, by omega⟩)
      = prj m c (ix2 ⟨t.val * 512 + i, by omega⟩ ⟨3712 + l % 32, by omega⟩) := by
  unfold prj
  rw [pay8_at, projected_at]
  refine congrArg₂ dotp (funext fun k => h_at m c t ht i k) (funext fun k => ?_)
  exact (ld3 _ _ _).trans (wm_mid m c t _ _)
theorem krp_at (c : Dev nD) (t : Fin cfg0.N) (ht : t.val < 32) (i : Fin 512) (l : Fin 128) :
    k0_pay8 (View.ld (iblk m c 1 t) r0_0) (View.ld (iblk m c 0 t) r0_1) (View.ld (iblk m c 3 t) r0_3) (ix2 i ⟨768 + l, by omega⟩)
      = prj m c (ix2 ⟨t.val * 512 + i, by omega⟩ ⟨3712 + mate 8 (l % 32), by have := mate0_lt ⟨l % 32, by omega⟩; simp only [] at this; omega⟩) := by
  unfold prj
  rw [pay8_at, projected_at]
  refine congrArg₂ dotp (funext fun k => h_at m c t ht i k) (funext fun k => ?_)
  exact (ld3 _ _ _).trans (wm_hi m c t _ _)

end Cert.TokensIdeal.Arr

end
-- ==== Proof.TokensValue.lean ====
module

public import proofs.«01_k».proof.Proof.TokensBlocks

@[expose] public section

set_option maxRecDepth 16384

noncomputable section

/-! The kernel's result arrays without a rotation are the reference's. -/
namespace Cert.TokensIdeal.Arr

open Cert.TokensIdeal Cert.TokensIdeal.Gen Cert.TokensIdeal.Blk
open Idealize.ShloMosaic Idealize.ShloMosaic.TcCoe Idealize.SL.Sem
open Cert.TokensReferenceIdeal.Stages

variable (m : (ℓ : Loc nD τ sig) → Buf (Elt Ideal) ℓ)

/-! An index of a result from its two coordinates. -/
theorem ix_of512 (j : S16384x512.Idx) (r : Fin 16384) (k : Fin 512) (h0 : (j 0 : ℕ) = r) (h1 : (j 1 : ℕ) = k) : j = ix2 r k := by
  funext a
  refine Fin.ext ?_
  match a with
  | 0 => exact h0
  | 1 => exact h1
theorem point16 (c : Dev nD) (t : Fin cfg0.N) (y : S512x512.Idx) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (resDv (prj m c)) (((cfg0.win 16).blk t).view.emb y) := by
  have ht : t.val < 32 := lt_of_lt_of_eq t.isLt N_0
  canon_tiles x h
  idx_vars x
  have b0 : (x0 : ℕ) < 512 := x0.isLt
  have b1 : (x1 : ℕ) < 512 := x1.isLt
  refine Eq.trans ?_ (congrArg (resDv (prj m c)) (ix_of512 _ ⟨t.val * 512 + x0, by omega⟩ x1 ?_ ?_)).symm
  rotate_left
  · blk_simp [idx_val t]; try (dsimp only; omega)
  · blk_simp [idx_val t]; try (dsimp only; omega)
  exact (pay27_at _ _ _).trans ((a_at m c t ht x0 _).trans (resDv_at _ _ _).symm)
theorem final16 (c : Dev nD) : (dats m 0 c).arrAt 16 cfg0.N = resDv (prj m c) := by
  refine (dats m 0 c).arrAt_eq_of_covers 16 _ (by decide +kernel) fun t _ y => ?_
  blk_simp
  rw [after0_16]
  exact point16 m c t y

theorem point17 (c : Dev nD) (t : Fin cfg0.N) (y : S512x512.Idx) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (resNq (prj m c)) (((cfg0.win 17).blk t).view.emb y) := by
  have ht : t.val < 32 := lt_of_lt_of_eq t.isLt N_0
  canon_tiles x h
  idx_vars x
  have b0 : (x0 : ℕ) < 512 := x0.isLt
  have b1 : (x1 : ℕ) < 512 := x1.isLt
  refine Eq.trans ?_ (congrArg (resNq (prj m c)) (ix_of512 _ ⟨t.val * 512 + x0, by omega⟩ x1 ?_ ?_)).symm
  rotate_left
  · blk_simp [idx_val t]; try (dsimp only; omega)
  · blk_simp [idx_val t]; try (dsimp only; omega)
  exact (pay28_at _ _ _).trans ((congrArg (· * _) (a_at m c t ht x0 _)).trans (resNq_at _ _ _).symm)
theorem final17 (c : Dev nD) : (dats m 0 c).arrAt 17 cfg0.N = resNq (prj m c) := by
  refine (dats m 0 c).arrAt_eq_of_covers 17 _ (by decide +kernel) fun t _ y => ?_
  blk_simp
  rw [after0_17]
  exact point17 m c t y

theorem point18 (c : Dev nD) (t : Fin cfg0.N) (y : S512x512.Idx) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (resNk (prj m c)) (((cfg0.win 18).blk t).view.emb y) := by
  have ht : t.val < 32 := lt_of_lt_of_eq t.isLt N_0
  canon_tiles x h
  idx_vars x
  have b0 : (x0 : ℕ) < 512 := x0.isLt
  have b1 : (x1 : ℕ) < 512 := x1.isLt
  refine Eq.trans ?_ (congrArg (resNk (prj m c)) (ix_of512 _ ⟨t.val * 512 + x0, by omega⟩ x1 ?_ ?_)).symm
  rotate_left
  · blk_simp [idx_val t]; try (dsimp only; omega)
  · blk_simp [idx_val t]; try (dsimp only; omega)
  exact (pay29_at _ _ _).trans ((a_at m c t ht x0 _).trans (resNk_at _ _ _).symm)
theorem final18 (c : Dev nD) : (dats m 0 c).arrAt 18 cfg0.N = resNk (prj m c) := by
  refine (dats m 0 c).arrAt_eq_of_covers 18 _ (by decide +kernel) fun t _ y => ?_
  blk_simp
  rw [after0_18]
  exact point18 m c t y

theorem point19 (c : Dev nD) (t : Fin cfg0.N) (y : S512x512.Idx) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (resNv (prj m c)) (((cfg0.win 19).blk t).view.emb y) := by
  have ht : t.val < 32 := lt_of_lt_of_eq t.isLt N_0
  canon_tiles x h
  idx_vars x
  have b0 : (x0 : ℕ) < 512 := x0.isLt
  have b1 : (x1 : ℕ) < 512 := x1.isLt
  refine Eq.trans ?_ (congrArg (resNv (prj m c)) (ix_of512 _ ⟨t.val * 512 + x0, by omega⟩ x1 ?_ ?_)).symm
  rotate_left
  · blk_simp [idx_val t]; try (dsimp only; omega)
  · blk_simp [idx_val t]; try (dsimp only; omega)
  exact (pay30_at _ _ _).trans ((a_at m c t ht x0 _).trans (resNv_at _ _ _).symm)
theorem final19 (c : Dev nD) : (dats m 0 c).arrAt 19 cfg0.N = resNv (prj m c) := by
  refine (dats m 0 c).arrAt_eq_of_covers 19 _ (by decide +kernel) fun t _ y => ?_
  blk_simp
  rw [after0_19]
  exact point19 m c t y

theorem point20 (c : Dev nD) (t : Fin cfg0.N) (y : S512x512.Idx) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (resQn (qs m c)) (((cfg0.win 20).blk t).view.emb y) := by
  have ht : t.val < 32 := lt_of_lt_of_eq t.isLt N_0
  canon_tiles x h
  idx_vars x
  have b0 : (x0 : ℕ) < 512 := x0.isLt
  have b1 : (x1 : ℕ) < 512 := x1.isLt
  refine Eq.trans ?_ (congrArg (resQn (qs m c)) (ix_of512 _ ⟨t.val * 512 + x0, by omega⟩ x1 ?_ ?_)).symm
  rotate_left
  · blk_simp [idx_val t]; try (dsimp only; omega)
  · blk_simp [idx_val t]; try (dsimp only; omega)
  exact (pay31_at _ _ _).trans ((congrArg (· * _) (mq_at m c t ht x0 _)).trans (resQn_at _ _ _).symm)
theorem final20 (c : Dev nD) : (dats m 0 c).arrAt 20 cfg0.N = resQn (qs m c) := by
  refine (dats m 0 c).arrAt_eq_of_covers 20 _ (by decide +kernel) fun t _ y => ?_
  blk_simp
  rw [after0_20]
  exact point20 m c t y

theorem point23 (c : Dev nD) (t : Fin cfg0.N) (y : S512x512.Idx) :
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (resKn (kvs m c)) (((cfg0.win 23).blk t).view.emb y) := by
  have ht : t.val < 32 := lt_of_lt_of_eq t.isLt N_0
  canon_tiles x h
  idx_vars x
  have b0 : (x0 : ℕ) < 512 := x0.isLt
  have b1 : (x1 : ℕ) < 512 := x1.isLt
  refine Eq.trans ?_ (congrArg (resKn (kvs m c)) (ix_of512 _ ⟨t.val * 512 + x0, by omega⟩ x1 ?_ ?_)).symm
  rotate_left
  · blk_simp [idx_val t]; try (dsimp only; omega)
  · blk_simp [idx_val t]; try (dsimp only; omega)
  exact (pay4_at _ _ _).trans ((kvs_at m c t ht x0 _).trans (resKn_at _ _ _).symm)
theorem final23 (c : Dev nD) : (dats m 0 c).arrAt 23 cfg0.N = resKn (kvs m c) := by
  refine (dats m 0 c).arrAt_eq_of_covers 23 _ (by decide +kernel) fun t _ y => ?_
  blk_simp
  rw [after0_23]
  exact point23 m c t y

theorem point24 (c : Dev nD) (t : Fin cfg0.N) (y : S512x512.Idx) :
    out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (resVn (kvs m c)) (((cfg0.win 24).blk t).view.emb y) := by
  have ht : t.val < 32 := lt_of_lt_of_eq t.isLt N_0
  canon_tiles x h
  idx_vars x
  have b0 : (x0 : ℕ) < 512 := x0.isLt
  have b1 : (x1 : ℕ) < 512 := x1.isLt
  refine Eq.trans ?_ (congrArg (resVn (kvs m c)) (ix_of512 _ ⟨t.val * 512 + x0, by omega⟩ x1 ?_ ?_)).symm
  rotate_left
  · blk_simp [idx_val t]; try (dsimp only; omega)
  · blk_simp [idx_val t]; try (dsimp only; omega)
  exact (pay5_at _ _ _).trans ((kvs_at m c t ht x0 _).trans (resVn_at _ _ _).symm)
theorem final24 (c : Dev nD) : (dats m 0 c).arrAt 24 cfg0.N = resVn (kvs m c) := by
  refine (dats m 0 c).arrAt_eq_of_covers 24 _ (by decide +kernel) fun t _ y => ?_
  blk_simp
  rw [after0_24]
  exact point24 m c t y

end Cert.TokensIdeal.Arr

end
-- ==== Proof.TokensRotate.lean ====
module

public import proofs.«01_k».proof.Proof.TokensParts
public import proofs.«01_k».proof.Proof.TokensValue

@[expose] public section

set_option maxRecDepth 16384

noncomputable section

/-! The kernel's turned result arrays are the reference's. -/
namespace Cert.TokensIdeal.Arr

open Cert.TokensIdeal Cert.TokensIdeal.Gen Cert.TokensIdeal.Blk Cert.TokensIdeal.Take
open Idealize.ShloMosaic Idealize.ShloMosaic.TcCoe Idealize.SL.Sem
open Cert.TokensReferenceIdeal.Stages

variable (m : (ℓ : Loc nD τ sig) → Buf (Elt Ideal) ℓ)

/-- A row of the block, by picture and position. -/
theorem row_of (t : ℕ) (ht : t < 32) (i : Fin 512) : (⟨t * 512 + i, by omega⟩ : Fin 16384)
    = ⟨(⟨t / 4, by omega⟩ : Fin 8) * 2048 + (⟨t % 4 * 512 + i, by omega⟩ : Fin 2048), by dsimp only; omega⟩ :=
  Fin.ext (by show t * 512 + (i : ℕ) = t / 4 * 2048 + (t % 4 * 512 + i); omega)
theorem rowHeads (A B : FVec Ideal S2048x16 .f32) (X : FVec Ideal Cert.TokensReferenceIdeal.S16384x512 .f32) (t : ℕ) (ht : t < 32) (i : Fin 512) (j : Fin 512) (l : Fin 128)
    (hl : l.val % 64 = j.val % 64) :
    X (ix2 ⟨t * 512 + i, by omega⟩ j) * cos16 A B (ix2 ⟨t % 4 * 512 + i, by omega⟩ l)
        + X (ix2 ⟨t * 512 + i, by omega⟩ ⟨mate 16 j, mateLtHeads j⟩) * sin16 A B (ix2 ⟨t % 4 * 512 + i, by omega⟩ l)
      = turnHeads A B X (ix2 ⟨t * 512 + i, by omega⟩ j) := by
  rw [row_of t ht i]
  exact meetHeads A B X ⟨t / 4, by omega⟩ ⟨t % 4 * 512 + i, by omega⟩ j l hl
theorem rowParts (A B : FVec Ideal S2048x8 .f32) (X : FVec Ideal Cert.TokensReferenceIdeal.S16384x256 .f32) (t : ℕ) (ht : t < 32) (i : Fin 512) (j : Fin 256) (l : Fin 128)
    (hl : l.val % 32 = j.val % 32) :
    X (ix2 ⟨t * 512 + i, by omega⟩ j) * cos8 A B (ix2 ⟨t % 4 * 512 + i, by omega⟩ l)
        + X (ix2 ⟨t * 512 + i, by omega⟩ ⟨mate 8 j, mateLtParts j⟩) * sin8 A B (ix2 ⟨t % 4 * 512 + i, by omega⟩ l)
      = turnParts A B X (ix2 ⟨t * 512 + i, by omega⟩ j) := by
  rw [row_of t ht i]
  exact meetParts A B X ⟨t / 4, by omega⟩ ⟨t % 4 * 512 + i, by omega⟩ j l hl
theorem rowShared (A B : FVec Ideal S2048x8 .f32) (X : FVec Ideal Cert.TokensReferenceIdeal.S16384x32 .f32) (t : ℕ) (ht : t < 32) (i : Fin 512) (j : Fin 32) (l : Fin 128)
    (hl : l.val % 32 = j.val % 32) :
    X (ix2 ⟨t * 512 + i, by omega⟩ j) * cos8 A B (ix2 ⟨t % 4 * 512 + i, by omega⟩ l)
        + X (ix2 ⟨t * 512 + i, by omega⟩ ⟨mate 8 j, mateLtShared j⟩) * sin8 A B (ix2 ⟨t % 4 * 512 + i, by omega⟩ l)
      = turnShared A B X (ix2 ⟨t * 512 + i, by omega⟩ j) := by
  rw [row_of t ht i]
  exact meetShared A B X ⟨t / 4, by omega⟩ ⟨t % 4 * 512 + i, by omega⟩ j l hl
theorem turned_headQ (c : Dev nD) (t : Fin cfg0.N) (ht : t.val < 32) (i : Fin 512) (j : Fin 512) (l : Fin 128) (hl : l.val % 64 = j.val % 64)
    (k : Fin 3072) (k' : Fin 1024) (hk : k.val = 0 + j.val) (hk' : k'.val = 0 + j.val) :
    k0_pay34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i k) * k0_pay39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i l)
        + k0_pay37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i k') * k0_pay40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i l)
      = turnHeads rows16 cols16 (headQ (prj m c)) (ix2 ⟨t.val * 512 + i, by omega⟩ j) := by
  rw [a_at m c t ht, ap_at m c t ht, pay39_at m c t ht, pay40_at m c t ht]
  refine Eq.trans (congrArg₂ (· + ·) (congrArg₂ (· * ·) ?_ rfl) (congrArg₂ (· * ·) ?_ rfl)) (rowHeads rows16 cols16 (headQ (prj m c)) t.val ht i j l hl)
  · rw [headQ_at]
    exact congrArg (fun z => prj m c (ix2 _ z)) (Fin.ext hk)
  · rw [headQ_at]
    refine congrArg (fun z => prj m c (ix2 _ z)) (Fin.ext ?_)
    show mate 16 k' = 0 + mate 16 j
    unfold mate
    rw [hk']
    split_ifs <;> omega
theorem turned_headK (c : Dev nD) (t : Fin cfg0.N) (ht : t.val < 32) (i : Fin 512) (j : Fin 512) (l : Fin 128) (hl : l.val % 64 = j.val % 64)
    (k : Fin 3072) (k' : Fin 1024) (hk : k.val = 512 + j.val) (hk' : k'.val = 512 + j.val) :
    k0_pay34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i k) * k0_pay39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i l)
        + k0_pay37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i k') * k0_pay40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i l)
      = turnHeads rows16 cols16 (headK (prj m c)) (ix2 ⟨t.val * 512 + i, by omega⟩ j) := by
  rw [a_at m c t ht, ap_at m c t ht, pay39_at m c t ht, pay40_at m c t ht]
  refine Eq.trans (congrArg₂ (· + ·) (congrArg₂ (· * ·) ?_ rfl) (congrArg₂ (· * ·) ?_ rfl)) (rowHeads rows16 cols16 (headK (prj m c)) t.val ht i j l hl)
  · rw [headK_at]
    exact congrArg (fun z => prj m c (ix2 _ z)) (Fin.ext hk)
  · rw [headK_at]
    refine congrArg (fun z => prj m c (ix2 _ z)) (Fin.ext ?_)
    show mate 16 k' = 512 + mate 16 j
    unfold mate
    rw [hk']
    split_ifs <;> omega
theorem turned_partQ (c : Dev nD) (t : Fin cfg0.N) (ht : t.val < 32) (i : Fin 512) (j : Fin 256) (l : Fin 128) (hl : l.val % 32 = j.val % 32)
    (k : Fin 768) (k' : Fin 256) (hk : k.val = 512 + j.val) (hk' : k'.val = j.val) :
    k0_pay35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i k) * k0_pay41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i l)
        + k0_pay38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i k') * k0_pay42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i l)
      = turnParts rows8 cols8 (partQ (qs m c)) (ix2 ⟨t.val * 512 + i, by omega⟩ j) := by
  rw [mq_at m c t ht, mqp_at m c t ht, pay41_at m c t ht, pay42_at m c t ht]
  refine Eq.trans (congrArg₂ (· + ·) (congrArg₂ (· * ·) ?_ rfl) (congrArg₂ (· * ·) ?_ rfl)) (rowParts rows8 cols8 (partQ (qs m c)) t.val ht i j l hl)
  · rw [partQ_at]
    exact congrArg (fun z => qs m c (ix2 _ z)) (Fin.ext hk)
  · rw [partQ_at]
    refine congrArg (fun z => qs m c (ix2 _ z)) (Fin.ext ?_)
    show 512 + mate 8 k' = 512 + mate 8 j
    rw [hk']
theorem turned_sharedK (c : Dev nD) (t : Fin cfg0.N) (ht : t.val < 32) (i : Fin 512) (l : Fin 128) :
    k0_pay8 (View.ld (iblk m c 1 t) r0_0) (View.ld (iblk m c 0 t) r0_1) (View.ld (iblk m c 3 t) r0_3) (ix2 i ⟨640 + l, by omega⟩) * k0_pay41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i l)
        + k0_pay8 (View.ld (iblk m c 1 t) r0_0) (View.ld (iblk m c 0 t) r0_1) (View.ld (iblk m c 3 t) r0_3) (ix2 i ⟨768 + l, by omega⟩) * k0_pay42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i l)
      = turnShared rows8 cols8 (sharedK (prj m c)) (ix2 ⟨t.val * 512 + i, by omega⟩ ⟨l % 32, by omega⟩) := by
  rw [kr_at m c t ht, krp_at m c t ht, pay41_at m c t ht, pay42_at m c t ht]
  refine Eq.trans (congrArg₂ (· + ·) (congrArg₂ (· * ·) ?_ rfl) (congrArg₂ (· * ·) ?_ rfl)) (rowShared rows8 cols8 (sharedK (prj m c)) t.val ht i ⟨l % 32, by omega⟩ l (Nat.mod_mod _ _).symm)
  · rw [sharedK_at]
  · rw [sharedK_at]

/-! An index of a result from its two coordinates. -/
theorem ix_of256 (j : S16384x256.Idx) (r : Fin 16384) (k : Fin 256) (h0 : (j 0 : ℕ) = r) (h1 : (j 1 : ℕ) = k) : j = ix2 r k := by
  funext a
  refine Fin.ext ?_
  match a with
  | 0 => exact h0
  | 1 => exact h1
theorem ix_of128 (j : S16384x128.Idx) (r : Fin 16384) (k : Fin 128) (h0 : (j 0 : ℕ) = r) (h1 : (j 1 : ℕ) = k) : j = ix2 r k := by
  funext a
  refine Fin.ext ?_
  match a with
  | 0 => exact h0
  | 1 => exact h1
set_option maxHeartbeats 1000000 in
theorem point14 (c : Dev nD) (t : Fin cfg0.N) (y : S512x512.Idx) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (resDq (prj m c)) (((cfg0.win 14).blk t).view.emb y) := by
  have ht : t.val < 32 := lt_of_lt_of_eq t.isLt N_0
  canon_tiles x h
  · idx_vars x
    have b0 : (x0 : ℕ) < 512 := x0.isLt
    have b1 : (x1 : ℕ) < 128 := x1.isLt
    refine Eq.trans ?_ (congrArg (resDq (prj m c)) (ix_of512 _ ⟨t.val * 512 + x0, by omega⟩ ⟨384 + x1, by omega⟩ ?_ ?_)).symm
    rotate_left
    · blk_simp [idx_turn t]; try (dsimp only; omega)
    · blk_simp [idx_turn t]; try (dsimp only; omega)
    exact (pay25_at _ _ _ _ _ _).trans ((congrArg (· * _) (turned_headQ m c t ht x0 ⟨384 + x1, by omega⟩ x1 (by dsimp only; omega) _ _ (by dsimp only; omega) (by dsimp only; omega))).trans (resDq_at _ _ _).symm)
  · idx_vars x
    have b0 : (x0 : ℕ) < 512 := x0.isLt
    have b1 : (x1 : ℕ) < 128 := x1.isLt
    refine Eq.trans ?_ (congrArg (resDq (prj m c)) (ix_of512 _ ⟨t.val * 512 + x0, by omega⟩ ⟨256 + x1, by omega⟩ ?_ ?_)).symm
    rotate_left
    · blk_simp [idx_turn t]; try (dsimp only; omega)
    · blk_simp [idx_turn t]; try (dsimp only; omega)
    exact (pay23_at _ _ _ _ _ _).trans ((congrArg (· * _) (turned_headQ m c t ht x0 ⟨256 + x1, by omega⟩ x1 (by dsimp only; omega) _ _ (by dsimp only; omega) (by dsimp only; omega))).trans (resDq_at _ _ _).symm)
  · idx_vars x
    have b0 : (x0 : ℕ) < 512 := x0.isLt
    have b1 : (x1 : ℕ) < 128 := x1.isLt
    refine Eq.trans ?_ (congrArg (resDq (prj m c)) (ix_of512 _ ⟨t.val * 512 + x0, by omega⟩ ⟨128 + x1, by omega⟩ ?_ ?_)).symm
    rotate_left
    · blk_simp [idx_turn t]; try (dsimp only; omega)
    · blk_simp [idx_turn t]; try (dsimp only; omega)
    exact (pay21_at _ _ _ _ _ _).trans ((congrArg (· * _) (turned_headQ m c t ht x0 ⟨128 + x1, by omega⟩ x1 (by dsimp only; omega) _ _ (by dsimp only; omega) (by dsimp only; omega))).trans (resDq_at _ _ _).symm)
  · idx_vars x
    have b0 : (x0 : ℕ) < 512 := x0.isLt
    have b1 : (x1 : ℕ) < 128 := x1.isLt
    refine Eq.trans ?_ (congrArg (resDq (prj m c)) (ix_of512 _ ⟨t.val * 512 + x0, by omega⟩ ⟨0 + x1, by omega⟩ ?_ ?_)).symm
    rotate_left
    · blk_simp [idx_turn t]; try (dsimp only; omega)
    · blk_simp [idx_turn t]; try (dsimp only; omega)
    exact (pay19_at _ _ _ _ _ _ _).trans ((congrArg (· * _) (turned_headQ m c t ht x0 ⟨0 + x1, by omega⟩ x1 (by dsimp only; omega) _ _ (by dsimp only; omega) (by dsimp only; omega))).trans (resDq_at _ _ _).symm)
theorem final14 (c : Dev nD) : (dats m 0 c).arrAt 14 cfg0.N = resDq (prj m c) := by
  refine (dats m 0 c).arrAt_eq_of_covers 14 _ (by decide +kernel) fun t _ y => ?_
  blk_simp
  rw [after0_14]
  exact point14 m c t y

set_option maxHeartbeats 1000000 in
theorem point15 (c : Dev nD) (t : Fin cfg0.N) (y : S512x512.Idx) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (resDk (prj m c)) (((cfg0.win 15).blk t).view.emb y) := by
  have ht : t.val < 32 := lt_of_lt_of_eq t.isLt N_0
  canon_tiles x h
  · idx_vars x
    have b0 : (x0 : ℕ) < 512 := x0.isLt
    have b1 : (x1 : ℕ) < 128 := x1.isLt
    refine Eq.trans ?_ (congrArg (resDk (prj m c)) (ix_of512 _ ⟨t.val * 512 + x0, by omega⟩ ⟨384 + x1, by omega⟩ ?_ ?_)).symm
    rotate_left
    · blk_simp [idx_turn t]; try (dsimp only; omega)
    · blk_simp [idx_turn t]; try (dsimp only; omega)
    exact (pay26_at _ _ _ _ _ _).trans ((turned_headK m c t ht x0 ⟨384 + x1, by omega⟩ x1 (by dsimp only; omega) _ _ (by dsimp only; omega) (by dsimp only; omega)).trans (resDk_at _ _ _).symm)
  · idx_vars x
    have b0 : (x0 : ℕ) < 512 := x0.isLt
    have b1 : (x1 : ℕ) < 128 := x1.isLt
    refine Eq.trans ?_ (congrArg (resDk (prj m c)) (ix_of512 _ ⟨t.val * 512 + x0, by omega⟩ ⟨256 + x1, by omega⟩ ?_ ?_)).symm
    rotate_left
    · blk_simp [idx_turn t]; try (dsimp only; omega)
    · blk_simp [idx_turn t]; try (dsimp only; omega)
    exact (pay24_at _ _ _ _ _ _).trans ((turned_headK m c t ht x0 ⟨256 + x1, by omega⟩ x1 (by dsimp only; omega) _ _ (by dsimp only; omega) (by dsimp only; omega)).trans (resDk_at _ _ _).symm)
  · idx_vars x
    have b0 : (x0 : ℕ) < 512 := x0.isLt
    have b1 : (x1 : ℕ) < 128 := x1.isLt
    refine Eq.trans ?_ (congrArg (resDk (prj m c)) (ix_of512 _ ⟨t.val * 512 + x0, by omega⟩ ⟨128 + x1, by omega⟩ ?_ ?_)).symm
    rotate_left
    · blk_simp [idx_turn t]; try (dsimp only; omega)
    · blk_simp [idx_turn t]; try (dsimp only; omega)
    exact (pay22_at _ _ _ _ _ _).trans ((turned_headK m c t ht x0 ⟨128 + x1, by omega⟩ x1 (by dsimp only; omega) _ _ (by dsimp only; omega) (by dsimp only; omega)).trans (resDk_at _ _ _).symm)
  · idx_vars x
    have b0 : (x0 : ℕ) < 512 := x0.isLt
    have b1 : (x1 : ℕ) < 128 := x1.isLt
    refine Eq.trans ?_ (congrArg (resDk (prj m c)) (ix_of512 _ ⟨t.val * 512 + x0, by omega⟩ ⟨0 + x1, by omega⟩ ?_ ?_)).symm
    rotate_left
    · blk_simp [idx_turn t]; try (dsimp only; omega)
    · blk_simp [idx_turn t]; try (dsimp only; omega)
    exact (pay20_at _ _ _ _ _ _).trans ((turned_headK m c t ht x0 ⟨0 + x1, by omega⟩ x1 (by dsimp only; omega) _ _ (by dsimp only; omega) (by dsimp only; omega)).trans (resDk_at _ _ _).symm)
theorem final15 (c : Dev nD) : (dats m 0 c).arrAt 15 cfg0.N = resDk (prj m c) := by
  refine (dats m 0 c).arrAt_eq_of_covers 15 _ (by decide +kernel) fun t _ y => ?_
  blk_simp
  rw [after0_15]
  exact point15 m c t y

set_option maxHeartbeats 1000000 in
theorem point21 (c : Dev nD) (t : Fin cfg0.N) (y : S512x256.Idx) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (resQr (qs m c)) (((cfg0.win 21).blk t).view.emb y) := by
  have ht : t.val < 32 := lt_of_lt_of_eq t.isLt N_0
  canon_tiles x h
  · idx_vars x
    have b0 : (x0 : ℕ) < 512 := x0.isLt
    have b1 : (x1 : ℕ) < 128 := x1.isLt
    refine Eq.trans ?_ (congrArg (resQr (qs m c)) (ix_of256 _ ⟨t.val * 512 + x0, by omega⟩ ⟨128 + x1, by omega⟩ ?_ ?_)).symm
    rotate_left
    · blk_simp [idx_turn t]; try (dsimp only; omega)
    · blk_simp [idx_turn t]; try (dsimp only; omega)
    exact (pay2_at _ _ _ _ _ _).trans ((congrArg (· * _) (turned_partQ m c t ht x0 ⟨128 + x1, by omega⟩ x1 (by first | (dsimp only; done) | (dsimp only; omega)) _ _ (by first | (dsimp only; done) | (dsimp only; omega)) (by first | (dsimp only; done) | (dsimp only; omega)))).trans (resQr_at _ _ _).symm)
  · idx_vars x
    have b0 : (x0 : ℕ) < 512 := x0.isLt
    have b1 : (x1 : ℕ) < 128 := x1.isLt
    refine Eq.trans ?_ (congrArg (resQr (qs m c)) (ix_of256 _ ⟨t.val * 512 + x0, by omega⟩ ⟨0 + x1, by omega⟩ ?_ ?_)).symm
    rotate_left
    · blk_simp [idx_turn t]; try (dsimp only; omega)
    · blk_simp [idx_turn t]; try (dsimp only; omega)
    exact (pay1_at _ _ _ _ _ _).trans ((congrArg (· * _) (turned_partQ m c t ht x0 ⟨0 + x1, by omega⟩ x1 (by first | (dsimp only; done) | (dsimp only; omega)) _ _ (by first | (dsimp only; done) | (dsimp only; omega)) (by first | (dsimp only; done) | (dsimp only; omega)))).trans (resQr_at _ _ _).symm)
theorem final21 (c : Dev nD) : (dats m 0 c).arrAt 21 cfg0.N = resQr (qs m c) := by
  refine (dats m 0 c).arrAt_eq_of_covers 21 _ (by decide +kernel) fun t _ y => ?_
  blk_simp
  rw [after0_21]
  exact point21 m c t y

theorem point22 (c : Dev nD) (t : Fin cfg0.N) (y : S512x128.Idx) :
    out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (resKr (prj m c)) (((cfg0.win 22).blk t).view.emb y) := by
  have ht : t.val < 32 := lt_of_lt_of_eq t.isLt N_0
  canon_tiles x h
  idx_vars x
  have b0 : (x0 : ℕ) < 512 := x0.isLt
  have b1 : (x1 : ℕ) < 128 := x1.isLt
  refine Eq.trans ?_ (congrArg (resKr (prj m c)) (ix_of128 _ ⟨t.val * 512 + x0, by omega⟩ x1 ?_ ?_)).symm
  rotate_left
  · blk_simp [idx_turn t]; try (dsimp only; omega)
  · blk_simp [idx_turn t]; try (dsimp only; omega)
  refine (pay3_at _ _ _ x0 x1).trans ?_
  rw [resKr_at (prj m c) ⟨t.val * 512 + x0, by omega⟩ x1]
  exact turned_sharedK m c t ht x0 x1
theorem final22 (c : Dev nD) : (dats m 0 c).arrAt 22 cfg0.N = resKr (prj m c) := by
  refine (dats m 0 c).arrAt_eq_of_covers 22 _ (by decide +kernel) fun t _ y => ?_
  blk_simp
  rw [after0_22]
  exact point22 m c t y

end Cert.TokensIdeal.Arr

end
-- ==== Proof.TokensRun.lean ====
module

public import proofs.«01_k».proof.Proof.TokensTurn

@[expose] public section

set_option maxRecDepth 16384

noncomputable section

/-! The reference's run, its eleven results by name. -/
namespace Cert.TokensReferenceIdeal.Short

open Cert.TokensReferenceIdeal Cert.TokensReferenceIdeal.Gen Cert.TokensReferenceIdeal.Stages
open Idealize.ShloMosaic Idealize.ShloMosaic.TcCoe Idealize.SL.Sem

variable (m : (ℓ : Loc nD τ sig) → Buf (Elt Ideal) ℓ)

/-- The projection, the normalised latents, the queries, and the keys and values, of core `c`'s arguments. -/
def prj (c : Dev nD) : FVec Ideal S16384x3744 .f32 :=
  projected (modulated (m ((c.tc : Thread nD τ).loc main_arg0)) (m ((c.tc : Thread nD τ).loc main_arg1))) (m ((c.tc : Thread nD τ).loc main_arg2))
def ckv (c : Dev nD) : FVec Ideal S16384x256 .f32 := kvNorm (kvLat (prj m c)) (m ((c.tc : Thread nD τ).loc main_arg4))
def qs (c : Dev nD) : FVec Ideal S16384x768 .f32 :=
  queries (qNorm (qLat (prj m c)) (m ((c.tc : Thread nD τ).loc main_arg3))) (m ((c.tc : Thread nD τ).loc main_arg5))
def kvs (c : Dev nD) : FVec Ideal S16384x1024 .f32 := keyvals (ckv m c) (m ((c.tc : Thread nD τ).loc main_arg6))

/-- Every run ends with each result at its term of the arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v354) = resDq (prj m c)
      ∧ r.2.mem ((c.tc : Thread nD τ).loc main_v355) = resDk (prj m c)
      ∧ r.2.mem ((c.tc : Thread nD τ).loc main_v356) = resDv (prj m c)
      ∧ r.2.mem ((c.tc : Thread nD τ).loc main_v359) = resNq (prj m c)
      ∧ r.2.mem ((c.tc : Thread nD τ).loc main_v360) = resNk (prj m c)
      ∧ r.2.mem ((c.tc : Thread nD τ).loc main_v361) = resNv (prj m c)
      ∧ r.2.mem ((c.tc : Thread nD τ).loc main_v364) = resQn (qs m c)
      ∧ r.2.mem ((c.tc : Thread nD τ).loc main_v367) = resQr (qs m c)
      ∧ r.2.mem ((c.tc : Thread nD τ).loc main_v369) = resKr (prj m c)
      ∧ r.2.mem ((c.tc : Thread nD τ).loc main_v370) = resKn (kvs m c)
      ∧ r.2.mem ((c.tc : Thread nD τ).loc main_v371) = resVn (kvs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.TokensReferenceIdeal.Value.run m ρ)
  obtain ⟨h0, h1, h2, h3, h4, h5, h6, h7, h8, h9, h10, ha⟩ := h c
  exact ⟨h0, h1, h2, h3, h4, h5, h6, h7, h8, h9, h10, ha⟩

end Cert.TokensReferenceIdeal.Short

end
-- ==== Proof.TokensClaims.lean ====
module

public import proofs.«01_k».proof.Proof.TokensRotate
public import proofs.«01_k».proof.Proof.TokensRun
public import proofs.«01_k».proof.Proof.Gen.Tokens.Frame
public import proofs.«01_k».proof.Defs

@[expose] public section

set_option maxRecDepth 16384

noncomputable section

/-! The claim of the latent tokens' projection. -/
namespace Cert.TokensClaims

open Cert.TokensReferenceIdeal.Stages
open Idealize.ShloMosaic Idealize.ShloMosaic.TcCoe Idealize.SL.Sem

/-- The projection's claim: each of the eleven results is the reference's. -/
theorem value : @Cert.algebraic_TokensIdeal_TokensReferenceIdeal Cert.TokensIdeal.Gen.facts Cert.TokensReferenceIdeal.Gen.facts := by
  intro m g m' g' _ hagree
  refine ⟨fun c => resDq (Cert.TokensIdeal.Arr.prj m c), fun c => resDk (Cert.TokensIdeal.Arr.prj m c), fun c => resDv (Cert.TokensIdeal.Arr.prj m c), fun c => resNq (Cert.TokensIdeal.Arr.prj m c), fun c => resNk (Cert.TokensIdeal.Arr.prj m c), fun c => resNv (Cert.TokensIdeal.Arr.prj m c), fun c => resQn (Cert.TokensIdeal.Arr.qs m c), fun c => resQr (Cert.TokensIdeal.Arr.qs m c), fun c => resKr (Cert.TokensIdeal.Arr.prj m c), fun c => resKn (Cert.TokensIdeal.Arr.kvs m c), fun c => resVn (Cert.TokensIdeal.Arr.kvs m c), ?_, ?_⟩
  · refine (θ_run Cert.TokensIdeal.defs _ _).mono (fun r h c => ?_) (Cert.TokensIdeal.Value.run_blocks m g)
    obtain ⟨h0, h1, h2, h3, h4, h5, h6, h7, h8, h9, h10, ha⟩ := h c
    exact ⟨h0.trans (Cert.TokensIdeal.Arr.final14 m c), h1.trans (Cert.TokensIdeal.Arr.final15 m c), h2.trans (Cert.TokensIdeal.Arr.final16 m c), h3.trans (Cert.TokensIdeal.Arr.final17 m c), h4.trans (Cert.TokensIdeal.Arr.final18 m c), h5.trans (Cert.TokensIdeal.Arr.final19 m c), h6.trans (Cert.TokensIdeal.Arr.final20 m c), h7.trans (Cert.TokensIdeal.Arr.final21 m c), h8.trans (Cert.TokensIdeal.Arr.final22 m c), h9.trans (Cert.TokensIdeal.Arr.final23 m c), h10.trans (Cert.TokensIdeal.Arr.final24 m c), ha⟩
  · refine (θ_run Cert.TokensReferenceIdeal.defs _ _).mono (fun r h c => ?_) (Cert.TokensReferenceIdeal.Short.run m' g')
    obtain ⟨h0, h1, h2, h3, h4, h5, h6, h7, h8, h9, h10, ha⟩ := h c
    obtain ⟨a0, a1, a2, a3, a4, a5, a6⟩ := hagree c
    have ep : Cert.TokensReferenceIdeal.Short.prj m' c = Cert.TokensIdeal.Arr.prj m c := by
      unfold Cert.TokensReferenceIdeal.Short.prj Cert.TokensIdeal.Arr.prj
      rw [← a0, ← a1, ← a2]
    have ec : Cert.TokensReferenceIdeal.Short.ckv m' c = Cert.TokensIdeal.Arr.ckv m c := by
      unfold Cert.TokensReferenceIdeal.Short.ckv Cert.TokensIdeal.Arr.ckv
      rw [ep, ← a4]
    have eq : Cert.TokensReferenceIdeal.Short.qs m' c = Cert.TokensIdeal.Arr.qs m c := by
      unfold Cert.TokensReferenceIdeal.Short.qs Cert.TokensIdeal.Arr.qs
      rw [ep, ← a3, ← a5]
    have ek : Cert.TokensReferenceIdeal.Short.kvs m' c = Cert.TokensIdeal.Arr.kvs m c := by
      unfold Cert.TokensReferenceIdeal.Short.kvs Cert.TokensIdeal.Arr.kvs
      rw [ec, ← a6]
    exact ⟨h0.trans (congrArg resDq ep), h1.trans (congrArg resDk ep), h2.trans (congrArg resDv ep), h3.trans (congrArg resNq ep), h4.trans (congrArg resNk ep), h5.trans (congrArg resNv ep), h6.trans (congrArg resQn eq), h7.trans (congrArg resQr eq), h8.trans (congrArg resKr ep), h9.trans (congrArg resKn ek), h10.trans (congrArg resVn ek), ha⟩

end Cert.TokensClaims

end
-- ==== Proof.ExpertsIdealBody.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Tiles

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The table of the tiles' experts and the table of their counts of real rows, as the body is handed them. -/
abbrev teM : Memref sig .tc .smem S192 .i32 := Memref.whole main_arg1
abbrev trM : Memref sig .tc .smem S192 .i32 := Memref.whole main_arg2

/-- What the buffer of such a table holds on core `c`, -/
abbrev TabBuf (c : Dev nD) (M : Memref sig .tc .smem S192 .i32) : Type := Buf (Elt F) (M.view.loc (c : Thread nD τ))

/-- and the half share of it that the body may read. -/
abbrev tabPt (c : Dev nD) (M : Memref sig .tc .smem S192 .i32) (f : TabBuf (F := F) c M) : sProp (MT nD τ sig Unit (Elt F) ℕ (UR sig nD τ) ℕ) :=
  M.view.loc (c : Thread nD τ) ↦{fullShare.right} f

/-- The count of real rows that the body reads at point `i`. -/
abbrev cnt (i : grid0.Coords) {c : Dev nD} (x : TabBuf (F := F) c trM) : Elt F .i32 :=
  trM.view.readAt (Elt F) (Rect.unit (s := S192) (k0_off1 i) S1.size (k0_off1_inb i)).toLoadRect x (Shape.Idx.first (numel1_S1.symm ▸ Nat.one_pos))

/-- The two conditions never hold together: the one asks for a positive count, the other for zero. -/
theorem not_both (w : BitVec 32) (h : k0_cond1 w = 1#1) : ¬ k0_cond2 w = 1#1 := by
  by_cases e : w = 0#32
  · subst e; revert h; decide
  · intro h2
    refine e ?_
    unfold k0_cond2 at h2
    by_contra hne
    revert h2
    have hb : (w == 0#32) = false := beq_eq_false_iff_ne.mpr hne
    simp only [Scalar.cmpi, Scalar.extui, IntOp.cmpi, hb]
    decide

set_option maxHeartbeats 1000000 in
/-- The body at a point whose tile has real rows: what it stores into the output's buffer, with the triple that says so. -/
noncomputable def runFull (c : Dev nD) (i : grid0.Coords) (a3 : Memref sig .tc .vmem S1024x1024 .bf16) (h3 : a3.IsWhole)
    (a4 : Memref sig .tc .vmem S1x1024x256 .bf16) (h4 : a4.IsWhole) (a5 : Memref sig .tc .vmem S1x1024x256 .bf16) (h5 : a5.IsWhole)
    (a6 : Memref sig .tc .vmem S1x256x1024 .bf16) (h6 : a6.IsWhole) (a7 : Memref sig .tc .vmem S1024x1024 .bf16) (h7 : a7.IsWhole)
    (x0 : Vec F S1024x1024 .bf16) (x1 : Vec F S1x1024x256 .bf16) (x2 : Vec F S1x1024x256 .bf16) (x3 : Vec F S1x256x1024 .bf16)
    (y0 : TabBuf (F := F) c teM) (y1 : TabBuf (F := F) c trM) (hp : k0_cond1 (cnt i y1) = 1#1) (hz : ¬ k0_cond2 (cnt i y1) = 1#1) :
    { L : List (View.Piece (Elt F) S1024x1024 .bf16) //
      ∀ (E : Set ℕ) (K : PUnit → sProp (MT nD τ sig Unit (Elt F) ℕ (UR sig nD τ) ℕ)),
        iprop(owns (c : Thread nD τ) a3 fullShare x0 ∗ owns (c : Thread nD τ) a4 fullShare x1 ∗ owns (c : Thread nD τ) a5 fullShare x2
            ∗ owns (c : Thread nD τ) a6 fullShare x3 ∗ (∃ d, owns (c : Thread nD τ) a7 fullShare d) ∗ tabPt c teM y0 ∗ tabPt c trM y1
            ∗ (iprop(owns (c : Thread nD τ) a3 fullShare x0 ∗ owns (c : Thread nD τ) a4 fullShare x1 ∗ owns (c : Thread nD τ) a5 fullShare x2
                ∗ owns (c : Thread nD τ) a6 fullShare x3 ∗ (∃ f, a7.view.loc (c : Thread nD τ) ↦[a7.view.set]{fullShare} a7.view.writes (Elt F) f L)
                ∗ tabPt c teM y0 ∗ tabPt c trM y1) -∗ K ⟨⟩))
          ⊢ wp frame (wpE (defs₀ (F := F)) Variants.none c none) E
              (cc0_moe_ffn i teM (Memref.isWhole_whole _) trM (Memref.isWhole_whole _) a3 h3 a4 h4 a5 h5 a6 h6 a7 h7) K } := by
  refine ⟨?_, fun E K => ?run⟩
  case run =>
    simp only [cc0_moe_ffn_eq_skeleton]; unfold cc0_moe_ffn_skel
    unfold owns
    iintro ⟨⟨%f0, %e0, H0⟩, ⟨%f1, %e1, H1⟩, ⟨%f2, %e2, H2⟩, ⟨%f3, %e3, H3⟩, ⟨%d4, %f4, -, H4⟩, T0, T1, Hk⟩
    obtain rfl := h3.eq_unread e0; obtain rfl := h4.eq_unread e1; obtain rfl := h5.eq_unread e2; obtain rfl := h6.eq_unread e3
    sl_exec (disch := first | sl_exact hp | sl_exact hz)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]; · iexists _; iexact H4
    isplitl [T0]; · iexact T0
    iexact T1

set_option maxHeartbeats 1000000 in
/-- The body at a point whose tile has no real row, likewise. -/
noncomputable def runEmpty (c : Dev nD) (i : grid0.Coords) (a3 : Memref sig .tc .vmem S1024x1024 .bf16) (h3 : a3.IsWhole)
    (a4 : Memref sig .tc .vmem S1x1024x256 .bf16) (h4 : a4.IsWhole) (a5 : Memref sig .tc .vmem S1x1024x256 .bf16) (h5 : a5.IsWhole)
    (a6 : Memref sig .tc .vmem S1x256x1024 .bf16) (h6 : a6.IsWhole) (a7 : Memref sig .tc .vmem S1024x1024 .bf16) (h7 : a7.IsWhole)
    (x0 : Vec F S1024x1024 .bf16) (x1 : Vec F S1x1024x256 .bf16) (x2 : Vec F S1x1024x256 .bf16) (x3 : Vec F S1x256x1024 .bf16)
    (y0 : TabBuf (F := F) c teM) (y1 : TabBuf (F := F) c trM) (hp : ¬ k0_cond1 (cnt i y1) = 1#1) (hz : k0_cond2 (cnt i y1) = 1#1) :
    { L : List (View.Piece (Elt F) S1024x1024 .bf16) //
      ∀ (E : Set ℕ) (K : PUnit → sProp (MT nD τ sig Unit (Elt F) ℕ (UR sig nD τ) ℕ)),
        iprop(owns (c : Thread nD τ) a3 fullShare x0 ∗ owns (c : Thread nD τ) a4 fullShare x1 ∗ owns (c : Thread nD τ) a5 fullShare x2
            ∗ owns (c : Thread nD τ) a6 fullShare x3 ∗ (∃ d, owns (c : Thread nD τ) a7 fullShare d) ∗ tabPt c teM y0 ∗ tabPt c trM y1
            ∗ (iprop(owns (c : Thread nD τ) a3 fullShare x0 ∗ owns (c : Thread nD τ) a4 fullShare x1 ∗ owns (c : Thread nD τ) a5 fullShare x2
                ∗ owns (c : Thread nD τ) a6 fullShare x3 ∗ (∃ f, a7.view.loc (c : Thread nD τ) ↦[a7.view.set]{fullShare} a7.view.writes (Elt F) f L)
                ∗ tabPt c teM y0 ∗ tabPt c trM y1) -∗ K ⟨⟩))
          ⊢ wp frame (wpE (defs₀ (F := F)) Variants.none c none) E
              (cc0_moe_ffn i teM (Memref.isWhole_whole _) trM (Memref.isWhole_whole _) a3 h3 a4 h4 a5 h5 a6 h6 a7 h7) K } := by
  refine ⟨?_, fun E K => ?run⟩
  case run =>
    simp only [cc0_moe_ffn_eq_skeleton]; unfold cc0_moe_ffn_skel
    unfold owns
    iintro ⟨⟨%f0, %e0, H0⟩, ⟨%f1, %e1, H1⟩, ⟨%f2, %e2, H2⟩, ⟨%f3, %e3, H3⟩, ⟨%d4, %f4, -, H4⟩, T0, T1, Hk⟩
    obtain rfl := h3.eq_unread e0; obtain rfl := h4.eq_unread e1; obtain rfl := h5.eq_unread e2; obtain rfl := h6.eq_unread e3
    sl_exec (disch := first | sl_exact hp | sl_exact hz)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]; · iexists _; iexact H4
    isplitl [T0]; · iexact T0
    iexact T1

end Cert.ExpertsIdeal.Tiles

end
-- ==== Proof.ExpertsIdealFrame.lean ====
module

public import proofs.«01_k».proof.Proof.ExpertsIdealBody
public import Idealize.ShloMosaic.Lib.Claim

@[expose] public section

set_option maxRecDepth 16384

noncomputable section

namespace Cert.ExpertsIdeal.Tiles

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The memory core `c` starts the call with: the program is the call alone. -/
abbrev V (c : Dev nD) (b : Ref sig .tc) : Buf (Elt F) ((c : Thread nD τ).loc b) := m ((c : Thread nD τ).loc b)

/-- The program reaches the call with that memory. -/
theorem reach (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables, as the memory holds them. -/
def tabs : pre0.Contents (Elt F) := fun j => V m (0 : Dev nD) (pre0.ref j)

theorem tabs_eq (c : Dev nD) (j : Fin 2) : V m c (pre0.ref j) = tabs m j := by
  obtain rfl : c = 0 := Subsingleton.elim _ _; rfl

/-- Every tile's expert is one of the sixty-four: the weights' blocks lie inside their arrays. -/
abbrev Named : Prop := ok0 (F := F) (tabs m)

/-- Every point stores its tile of the result: each count of real rows is positive or zero. -/
def Stored : Prop := ∀ i : grid0.Coords, idle0 (tabs m) 4 i = false

/-- The pipeline at these tables. -/
abbrev at' (hO : Named m) : (pcfg0 (F := F)).Adm := ⟨tabs m, hO⟩
abbrev cfgT (hO : Named m) : Pipeline.Cfg sig Λ₀ := cfg0 (at' m hO)

/-- The tables' halves which the pipeline hands the body, one by one. -/
theorem halves (c : Dev nD) : (Pipeline.ΦT pre0 (tabs m) c : sProp (MT nD τ sig Unit (Elt F) ℕ (UR sig nD τ) ℕ))
    = iprop(tabPt c teM (tabs m 0) ∗ tabPt c trM (tabs m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`. -/
def iblk (hO : Named m) (c : Dev nD) (w : Fin (cfgT m hO).W) (t : Fin (cfgT m hO).N) :
    (((cfgT m hO).win w).xblock ((cfgT m hO).grid.coords t)).Idx → Elt F ((cfgT m hO).win w).elt :=
  (((cfgT m hO).win w).blk t).view.read (Elt F) (V m c (Pipeline.arrRef spec0 w))

abbrev mem0 (hO : Named m) (t : Fin (cfgT m hO).N) : Memref sig .tc .vmem S1024x1024 .bf16 := spec0_0.stage ((cfgT m hO).slots t 0)
abbrev mem1 (hO : Named m) (t : Fin (cfgT m hO).N) : Memref sig .tc .vmem S1x1024x256 .bf16 := spec0_1.stage ((cfgT m hO).slots t 1)
abbrev mem2 (hO : Named m) (t : Fin (cfgT m hO).N) : Memref sig .tc .vmem S1x1024x256 .bf16 := spec0_2.stage ((cfgT m hO).slots t 2)
abbrev mem3 (hO : Named m) (t : Fin (cfgT m hO).N) : Memref sig .tc .vmem S1x256x1024 .bf16 := spec0_3.stage ((cfgT m hO).slots t 3)
abbrev mem4 (hO : Named m) (t : Fin (cfgT m hO).N) : Memref sig .tc .vmem S1024x1024 .bf16 := spec0_4.stage ((cfgT m hO).slots t 4)
abbrev who0 (hO : Named m) (t : Fin (cfgT m hO).N) : (mem0 m hO t).IsWhole := hstage0_0 (((cfgT m hO).slots t 0).cast nbuf0_0)
abbrev who1 (hO : Named m) (t : Fin (cfgT m hO).N) : (mem1 m hO t).IsWhole := hstage0_1 (((cfgT m hO).slots t 1).cast nbuf0_1)
abbrev who2 (hO : Named m) (t : Fin (cfgT m hO).N) : (mem2 m hO t).IsWhole := hstage0_2 (((cfgT m hO).slots t 2).cast nbuf0_2)
abbrev who3 (hO : Named m) (t : Fin (cfgT m hO).N) : (mem3 m hO t).IsWhole := hstage0_3 (((cfgT m hO).slots t 3).cast nbuf0_3)
abbrev who4 (hO : Named m) (t : Fin (cfgT m hO).N) : (mem4 m hO t).IsWhole := hstage0_4 (((cfgT m hO).slots t 4).cast nbuf0_4)

/-- The body as the pipeline calls it at point `t`. -/
abbrev bodyT (hO : Named m) (t : Fin (cfgT m hO).N) : Prog (TpuEff nD τ sig (Elt F) Λ₀ .tc) PUnit :=
  cc0_moe_ffn (grid0.coords t) teM (Memref.isWhole_whole _) trM (Memref.isWhole_whole _) (mem0 m hO t) (who0 m hO t) (mem1 m hO t) (who1 m hO t)
    (mem2 m hO t) (who2 m hO t) (mem3 m hO t) (who3 m hO t) (mem4 m hO t) (who4 m hO t)

/-- The count of point `t`'s tile. -/
abbrev cntT (hO : Named m) (t : Fin (cfgT m hO).N) : Elt F .i32 := cnt (c := 0) (grid0.coords t) (tabs m 1)

/-- Where no count is negative one of the two conditions holds. -/
theorem one_holds (hO : Named m) (hS : Stored m) (t : Fin (cfgT m hO).N) (h : ¬ k0_cond1 (cntT m hO t) = 1#1) :
    k0_cond2 (cntT m hO t) = 1#1 := by
  have hs := hS (grid0.coords t)
  have hb : ∀ a, k0_off1 (grid0.coords t) a + 1 ≤ (pre0.ref 1).ty.shape.size a := fun (a : Fin 1) => by
    obtain rfl : a = 0 := Subsingleton.elim _ _
    exact k0_off1_inb (grid0.coords t) 0
  have e : (tabs m).atD 1 (k0_off1 (grid0.coords t)) = cntT m hO t := by
    unfold Pipeline.Prefetch.Contents.atD
    refine (dif_pos hb).trans ?_
    exact congrArg (tabs m 1) (funext fun (a : Fin 1) => Fin.ext (by
      obtain rfl : a = 0 := Subsingleton.elim _ _
      rfl))
  by_contra h2
  have : idle0 (tabs m) 4 (grid0.coords t) = true := by
    show (!(k0_cond1 ((tabs m).atD 1 (k0_off1 (grid0.coords t))) == 1#1) && !(k0_cond2 ((tabs m).atD 1 (k0_off1 (grid0.coords t))) == 1#1)) = true
    rw [e]
    simp [h, h2]
  rw [this] at hs
  exact absurd hs (by decide)

/-- One buffer of the result's window, through which what is stored is read back. -/
abbrev VO : View sig .tc .vmem S1024x1024 .bf16 := (Memref.whole cc0_stg4_0 : Memref sig .tc .vmem S1024x1024 .bf16).view

/-- The run at a tile with real rows, on point `t`'s buffers and blocks, -/
abbrev fullT (hO : Named m) (c : Dev nD) (t : Fin (cfgT m hO).N) (hp : k0_cond1 (cntT m hO t) = 1#1) :=
  runFull c (grid0.coords t) (mem0 m hO t) (who0 m hO t) (mem1 m hO t) (who1 m hO t) (mem2 m hO t) (who2 m hO t) (mem3 m hO t) (who3 m hO t)
    (mem4 m hO t) (who4 m hO t) (iblk m hO c 0 t) (iblk m hO c 1 t) (iblk m hO c 2 t) (iblk m hO c 3 t) (tabs m 0) (tabs m 1) hp (not_both _ hp)

/-- and at a tile without. -/
abbrev emptyT (hO : Named m) (hS : Stored m) (c : Dev nD) (t : Fin (cfgT m hO).N) (hp : ¬ k0_cond1 (cntT m hO t) = 1#1) :=
  runEmpty c (grid0.coords t) (mem0 m hO t) (who0 m hO t) (mem1 m hO t) (who1 m hO t) (mem2 m hO t) (who2 m hO t) (mem3 m hO t) (who3 m hO t)
    (mem4 m hO t) (who4 m hO t) (iblk m hO c 0 t) (iblk m hO c 1 t) (iblk m hO c 2 t) (iblk m hO c 3 t) (tabs m 0) (tabs m 1) hp (one_holds m hO hS t hp)

theorem coverFull (hO : Named m) (c : Dev nD) (t : Fin (cfgT m hO).N) (hp : k0_cond1 (cntT m hO t) = 1#1) (y : S1024x1024.Idx) :
    ∃ pc ∈ (fullT m hO c t hp).1, y ∈ pc.1.set :=
  View.cover_of_tiledL (fullT m hO c t hp).1 S1024x1024.size (by sl_kernel_rfl) y

theorem coverEmpty (hO : Named m) (hS : Stored m) (c : Dev nD) (t : Fin (cfgT m hO).N) (hp : ¬ k0_cond1 (cntT m hO t) = 1#1) (y : S1024x1024.Idx) :
    ∃ pc ∈ (emptyT m hO hS c t hp).1, y ∈ pc.1.set :=
  View.cover_of_tiledL (emptyT m hO hS c t hp).1 S1024x1024.size (by sl_kernel_rfl) y

/-- What the result's buffer holds after the body at point `t`. -/
def outT (hO : Named m) (hS : Stored m) (c : Dev nD) (t : Fin (cfgT m hO).N) : Vec F S1024x1024 .bf16 :=
  if hp : k0_cond1 (cntT m hO t) = 1#1 then VO.read (Elt F) (VO.writes (Elt F) VO.junk (fullT m hO c t hp).1)
  else VO.read (Elt F) (VO.writes (Elt F) VO.junk (emptyT m hO hS c t hp).1)

theorem outT_full (hO : Named m) (hS : Stored m) (c : Dev nD) (t : Fin (cfgT m hO).N) (hp : k0_cond1 (cntT m hO t) = 1#1) :
    outT m hO hS c t = VO.read (Elt F) (VO.writes (Elt F) VO.junk (fullT m hO c t hp).1) := by
  unfold outT; exact dif_pos hp

theorem outT_empty (hO : Named m) (hS : Stored m) (c : Dev nD) (t : Fin (cfgT m hO).N) (hp : ¬ k0_cond1 (cntT m hO t) = 1#1) :
    outT m hO hS c t = VO.read (Elt F) (VO.writes (Elt F) VO.junk (emptyT m hO hS c t hp).1) := by
  unfold outT; exact dif_neg hp

/-- What the pipeline holds: the arrays as the call finds them, the inputs' buffers at their blocks, the result's at `outT`. -/
def data (hO : Named m) (hS : Stored m) (_ : Fin 1) (c : Dev nD) : Dat τ (Elt F) Unit ℕ (UR sig nD τ) ℕ (cfgT m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outT m hO hS c t
  Φ _ := iprop(Pipeline.ΦA spec0 c ∗ Pipeline.ΦT pre0 (tabs m) c)
  q _ := fullShare
  owed _ := 0

theorem A_eq (hO : Named m) (hS : Stored m) (c : Dev nD) (w : Fin (cfgT m hO).W) : (data m hO hS 0 c).A w = V m c (Pipeline.arrRef spec0 w) := by
  dsimp only [data]

theorem after_0 (hO : Named m) (hS : Stored m) (c : Dev nD) (t : Fin (cfgT m hO).N) : (data m hO hS 0 c).after 0 t = iblk m hO c 0 t := by dsimp only [data]; try rfl
theorem after_1 (hO : Named m) (hS : Stored m) (c : Dev nD) (t : Fin (cfgT m hO).N) : (data m hO hS 0 c).after 1 t = iblk m hO c 1 t := by dsimp only [data]; try rfl
theorem after_2 (hO : Named m) (hS : Stored m) (c : Dev nD) (t : Fin (cfgT m hO).N) : (data m hO hS 0 c).after 2 t = iblk m hO c 2 t := by dsimp only [data]; try rfl
theorem after_3 (hO : Named m) (hS : Stored m) (c : Dev nD) (t : Fin (cfgT m hO).N) : (data m hO hS 0 c).after 3 t = iblk m hO c 3 t := by dsimp only [data]; try rfl
theorem after_4 (hO : Named m) (hS : Stored m) (c : Dev nD) (t : Fin (cfgT m hO).N) : (data m hO hS 0 c).after 4 t = outT m hO hS c t := by dsimp only [data]; try rfl

theorem before_0 (hO : Named m) (hS : Stored m) (c : Dev nD) (t : Fin (cfgT m hO).N) (d) : (data m hO hS 0 c).before 0 t d = iblk m hO c 0 t :=
  ((data m hO hS 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (hO : Named m) (hS : Stored m) (c : Dev nD) (t : Fin (cfgT m hO).N) (d) : (data m hO hS 0 c).before 1 t d = iblk m hO c 1 t :=
  ((data m hO hS 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (hO : Named m) (hS : Stored m) (c : Dev nD) (t : Fin (cfgT m hO).N) (d) : (data m hO hS 0 c).before 2 t d = iblk m hO c 2 t :=
  ((data m hO hS 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (hO : Named m) (hS : Stored m) (c : Dev nD) (t : Fin (cfgT m hO).N) (d) : (data m hO hS 0 c).before 3 t d = iblk m hO c 3 t :=
  ((data m hO hS 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-- What the body starts from at point `t`, -/
def pre (hO : Named m) (hS : Stored m) (c : Dev nD) (t : Fin (cfgT m hO).N) : sProp (MT nD τ sig Unit (Elt F) ℕ (UR sig nD τ) ℕ) :=
  iprop((data m hO hS 0 c).Φ t.castSucc ∗ (data m hO hS 0 c).owesAt () t.castSucc
    ∗ (∃ d, owns (c : Thread nD τ) (mem0 m hO t) fullShare ((data m hO hS 0 c).before 0 t d))
    ∗ (∃ d, owns (c : Thread nD τ) (mem1 m hO t) fullShare ((data m hO hS 0 c).before 1 t d))
    ∗ (∃ d, owns (c : Thread nD τ) (mem2 m hO t) fullShare ((data m hO hS 0 c).before 2 t d))
    ∗ (∃ d, owns (c : Thread nD τ) (mem3 m hO t) fullShare ((data m hO hS 0 c).before 3 t d))
    ∗ (∃ d, owns (c : Thread nD τ) (mem4 m hO t) fullShare ((data m hO hS 0 c).before 4 t d)))

/-- and what it ends with. -/
def post (hO : Named m) (hS : Stored m) (c : Dev nD) (t : Fin (cfgT m hO).N) : sProp (MT nD τ sig Unit (Elt F) ℕ (UR sig nD τ) ℕ) :=
  iprop((data m hO hS 0 c).Φ t.succ ∗ (data m hO hS 0 c).owesAt () t.succ
    ∗ owns (c : Thread nD τ) (mem0 m hO t) fullShare ((data m hO hS 0 c).after 0 t)
    ∗ owns (c : Thread nD τ) (mem1 m hO t) fullShare ((data m hO hS 0 c).after 1 t)
    ∗ owns (c : Thread nD τ) (mem2 m hO t) fullShare ((data m hO hS 0 c).after 2 t)
    ∗ owns (c : Thread nD τ) (mem3 m hO t) fullShare ((data m hO hS 0 c).after 3 t)
    ∗ owns (c : Thread nD τ) (mem4 m hO t) fullShare ((data m hO hS 0 c).after 4 t))

set_option maxHeartbeats 800000 in
/-- The body's triple at every point. -/
theorem body_triple (hO : Named m) (hS : Stored m) (c : Dev nD) (t : Fin (cfgT m hO).N) :
    pre m hO hS c t ⊢ wp frame (wpE (defs₀ (F := F)) Variants.none c none) Set.univ (bodyT m hO t) (fun _ => post m hO hS c t) := by
  unfold pre post bodyT
  simp only [before_0, before_1, before_2, before_3]
  rw [show (data m hO hS 0 c).Φ t.succ = (data m hO hS 0 c).Φ t.castSucc from rfl,
    show (data m hO hS 0 c).owesAt () t.succ = (data m hO hS 0 c).owesAt () t.castSucc from rfl,
    after_0, after_1, after_2, after_3, after_4]
  rw [show (data m hO hS 0 c).Φ t.castSucc = iprop(Pipeline.ΦA spec0 c ∗ Pipeline.ΦT pre0 (tabs m) c) from rfl, halves]
  by_cases hp : k0_cond1 (cntT m hO t) = 1#1
  · rw [outT_full m hO hS c t hp]
    iintro ⟨⟨HΦ, ⟨T0, T1⟩⟩, Ho, ⟨%d0, H0⟩, ⟨%d1, H1⟩, ⟨%d2, H2⟩, ⟨%d3, H3⟩, ⟨%d4, H4⟩⟩
    iapply ((fullT m hO c t hp).2 Set.univ _)
    isplitl [H0]; · iexact H0
    isplitl [H1]; · iexact H1
    isplitl [H2]; · iexact H2
    isplitl [H3]; · iexact H3
    isplitl [H4]; · iexists _; iexact H4
    isplitl [T0]; · iexact T0
    isplitl [T1]; · iexact T1
    iintro ⟨H0, H1, H2, H3, ⟨%e4, H4⟩, T0, T1⟩
    isplitl [HΦ T0 T1]
    · isplitl [HΦ]
      · iexact HΦ
      isplitl [T0]; · iexact T0
      iexact T1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFull m hO c t hp)
  · rw [outT_empty m hO hS c t hp]
    iintro ⟨⟨HΦ, ⟨T0, T1⟩⟩, Ho, ⟨%d0, H0⟩, ⟨%d1, H1⟩, ⟨%d2, H2⟩, ⟨%d3, H3⟩, ⟨%d4, H4⟩⟩
    iapply ((emptyT m hO hS c t hp).2 Set.univ _)
    isplitl [H0]; · iexact H0
    isplitl [H1]; · iexact H1
    isplitl [H2]; · iexact H2
    isplitl [H3]; · iexact H3
    isplitl [H4]; · iexists _; iexact H4
    isplitl [T0]; · iexact T0
    isplitl [T1]; · iexact T1
    iintro ⟨H0, H1, H2, H3, ⟨%e4, H4⟩, T0, T1⟩
    isplitl [HΦ T0 T1]
    · isplitl [HΦ]
      · iexact HΦ
      isplitl [T0]; · iexact T0
      iexact T1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverEmpty m hO hS c t hp)

theorem row_eq (hO : Named m) (t : Fin (cfgT m hO).N) :
    defs₀ (F := F) .tc (cfgT m hO).body ((cfgT m hO).bodyArgs t ((cfgT m hO).slots t)) = bodyT m hO t := by
  unfold defs₀; rw [Defs.onTc_tc]

/-- The pipeline's obligation for the body. -/
theorem obligation (hO : Named m) (hS : Stored m) (c : Dev nD) :
    BodyObligation (data (F := F) m hO hS 0 c) (defs₀ (F := F)) Variants.none () Set.univ := fun t => by
  rw [bigSep_W0, bigSep_W0, row_eq m hO]
  rw [show (cfgT m hO).idle (4 : Fin 5) ((cfgT m hO).grid.coords t) = false from hS _]
  exact triple_restated (body_triple m hO hS c t) rfl .rfl fun _ => .rfl

set_option backward.isDefEq.respectTransparency.types false in
/-- Every execution of the call ends, the result's array at what the pipeline's writes make of it, and every semaphore at zero. -/
theorem run_quiet (hO : Named m) (hS : Stored m) : θ_run defs (onTc (τ := τ) (main (F := F))) (s₀ m ρ)
    (fun r => (Pipeline.FramePost (Pipeline.pin pcfgs fun _ => at' m hO) (data m hO hS) 0 (V m)) r ∧ r.2.sem = fun _ => 0) :=
  Pipeline.θ_run_frameP (Q' := _) pcfgs (fun _ => at' m hO) (data m hO hS) (0 : Fin 1) launch0 defs₀ Variants.none m ρ main
    (hbody := fun c => (obligation m hO hS c).loose) (hshare := fun c => (data m hO hS 0 c).share_full fun _ => rfl)
    (howed := fun _ _ => rfl) (V := V m) (hmain := reach m Variants.none) (hA := A_eq m hO hS) (hpf := tabs_eq m)
    (hΦ := fun _ _ => rfl)

/-- The run's result array, and the six arguments as they were, at the run's end. -/
theorem run (hO : Named m) (hS : Stored m) : θ_run defs (onTc (τ := τ) (main (F := F))) ⟨m, fun _ => 0, ρ⟩ (fun r => (∀ c : Dev nD,
      r.2.mem ((c.tc : Thread nD τ).loc main_v0) = (data m hO hS 0 c).arrAt (4 : Fin 5) (cfgT m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 4,
      ((h.1 c).1 0).trans (((data m hO hS 0 c).arrAt_in 0 rfl _).trans (A_eq m hO hS c 0)),
      (h.1 c).2 main_arg1 (by decide : main_arg1 ∈ Pipeline.restRefs sig spec0),
      (h.1 c).2 main_arg2 (by decide : main_arg2 ∈ Pipeline.restRefs sig spec0),
      ((h.1 c).1 1).trans (((data m hO hS 0 c).arrAt_in 1 rfl _).trans (A_eq m hO hS c 1)),
      ((h.1 c).1 2).trans (((data m hO hS 0 c).arrAt_in 2 rfl _).trans (A_eq m hO hS c 2)),
      ((h.1 c).1 3).trans (((data m hO hS 0 c).arrAt_in 3 rfl _).trans (A_eq m hO hS c 3))⟩, h.2⟩) (run_quiet m ρ hO hS)

end Cert.ExpertsIdeal.Tiles

end
-- ==== Proof.ExpertsIdealTabs.lean ====
module

public import proofs.«01_k».proof.Defs
public import proofs.«01_k».proof.Proof.ExpertsIdealFrame
public import proofs.«01_k».proof.Proof.Gen.Pre_tiles_named

@[expose] public section

set_option maxRecDepth 16384

noncomputable section

/-! What the precondition gives: the experts' pipeline has its side conditions. -/
namespace Cert.ExpertsIdeal.Tiles

open Cert.ExpertsIdeal Cert.ExpertsIdeal.Gen
open Idealize.ShloMosaic Idealize.ShloMosaic.TcCoe Idealize.SL.Sem

/-- Every word of the first table is below sixty-four and no word of the second is negative. -/
def Ranged (te tr : S192.Idx → BitVec 32) : Prop := ∀ w, (te w).toNat < 64 ∧ 0 ≤ (tr w).toInt

variable {F : FTy → Type} [FloatOps F] (m : (ℓ : Loc nD τ sig) → Buf (Elt F) ℓ)

/-- The weights' blocks lie inside their arrays. -/
theorem named (h : Ranged (tabs m 0) (tabs m 1)) : Named m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    match a with
    | 0 => exact (Nat.mul_one _).le.trans (h _).1
    | 1 => exact (Nat.one_mul _).le
    | 2 => exact (Nat.one_mul _).le

/-- Every tile of the result is stored: a count is positive or zero. -/
theorem stored (h : Ranged (tabs m 0) (tabs m 1)) : Stored m := by
  intro i
  have hb : ∀ a, k0_off1 i a + 1 ≤ (pre0.ref 1).ty.shape.size a := fun (a : Fin 1) => by
    obtain rfl : a = 0 := Subsingleton.elim _ _
    exact k0_off1_inb i 0
  have key : ∀ v : BitVec 32, 0 ≤ v.toInt → (!(k0_cond1 v == 1#1) && !(k0_cond2 v == 1#1)) = false := by
    intro v hv
    by_cases e : v = 0#32
    · subst e; decide
    · have hlt : (0#32).slt v = true := by
        simp only [BitVec.slt, decide_eq_true_eq]
        rcases lt_or_eq_of_le hv with h1 | h1
        · simpa using h1
        · exact absurd (BitVec.eq_of_toInt_eq (by rw [← h1]; rfl)) e
      have h1 : k0_cond1 v = 1#1 := by
        simp only [k0_cond1, Scalar.cmpi, Scalar.extui, IntOp.cmpi, hlt]
        decide
      rw [h1]; rfl
  have e : (tabs m).atD 1 (k0_off1 i) = tabs m 1 fun a => ⟨k0_off1 i a, hb a⟩ := by
    unfold Pipeline.Prefetch.Contents.atD
    exact dif_pos hb
  show (!(k0_cond1 ((tabs m).atD 1 (k0_off1 i)) == 1#1) && !(k0_cond2 ((tabs m).atD 1 (k0_off1 i)) == 1#1)) = false
  rw [e]
  exact key _ (h _).2

end Cert.ExpertsIdeal.Tiles

namespace Cert.ExpertsIdeal.Tiles

open Cert.ExpertsIdeal Cert.ExpertsIdeal.Gen
open Idealize.ShloMosaic Idealize.ShloMosaic.TcCoe Idealize.SL.Sem

attribute [local instance] Cert.Pre_tiles_named.Gen.facts

/-- The precondition, read as ranges of the tables' words. -/
theorem ranged (m : (ℓ : Loc nD τ sig) → Buf (Elt Ideal) ℓ) (h : Cert.Pre_ExpertsIdeal m) : Ranged (tabs m 0) (tabs m 1) := by
  intro w
  have andi_one (a b : BitVec 1) : IntOp.andi a b = 1#1 ↔ a = 1#1 ∧ b = 1#1 := by revert a b; decide
  have ofBool_eq_one (p : Bool) : (BitVec.ofBool p = 1#1) ↔ p = true := by cases p <;> decide
  have p := congrFun (h 0) w
  simp only [Cert.Pre_tiles_named.fn, cmpi, constantI, broadcastInDim, andi, andi_one, IntOp.cmpi, ofBool_eq_one, BitVec.sle, BitVec.slt,
    decide_eq_true_eq] at p
  obtain ⟨⟨p1, p2⟩, p3⟩ := p
  constructor
  · have q1 : 0 ≤ BitVec.toInt (tabs m 0 w) := of_decide_eq_true p1
    have q2 : BitVec.toInt (tabs m 0 w) < 64 := of_decide_eq_true p2
    have h1 := BitVec.toInt_eq_toNat_cond (tabs m 0 w)
    have h2 := (tabs m 0 w : BitVec 32).isLt
    split at h1 <;> omega
  · exact of_decide_eq_true p3

end Cert.ExpertsIdeal.Tiles

end
-- ==== Proof.ExpertsRef.lean ====
module

public import proofs.«01_k».proof.Proof.Gen.ExpertsReferenceIdeal.Run
public import Idealize.ShloMosaic.Lib.Pipeline.ValueKit
public import Idealize.ShloMosaic.Lib.Pointwise

@[expose] public section

set_option maxRecDepth 16384

noncomputable section

/-! One row through one expert, and the reference's arrays read at an index. -/
namespace Cert.ExpertsReferenceIdeal.Stages

open Cert.ExpertsReferenceIdeal Cert.ExpertsReferenceIdeal.Gen
open Idealize.ShloMosaic Idealize.ShloMosaic.TcCoe Idealize.SL.Sem

/-- A row times a column. -/
def along {n : ℕ} (x w : Fin n → EReal) : EReal := ∑ k : Fin n, x k * w k

/-- The expert's gated activation: `h / (1 + exp (-h))`. -/
def gated (h : EReal) : EReal :=
  h * Ideal.div (Ideal.ofBits .f32 0x3F800000#32) (Ideal.ofBits .f32 0x3F800000#32 + Ideal.exp (-h))

/-- One hidden entry of a row in an expert with weights `g` and `u`. -/
def hidden (x : Fin 1024 → EReal) (g u : Fin 1024 → EReal) : EReal := gated (along x g) * along x u

/-- Which rows are real, and of which expert: the gates of all rows and experts. -/
def gates (te tr : IVec S192 32) : FVec Ideal S196608x64 .f32 :=
  shapeCast S196608x64 (mulf (broadcastInDim S192x1024x64 ![0, 1, 2] bcast_S192x1024x1_S192x1024x64_0_1_2 (broadcastInDim S192x1024x1 ![0, 1] bcast_S192x1024_S192x1024x1_0_1 (uitofp .f32 (cmpi .slt (broadcastInDim S192x1024 ![0, 1] bcast_S1x1024_S192x1024_0_1 (broadcastInDim S1x1024 ![1] bcast_S1024_S1x1024_1 (iotaInDim S1024 32 0))) (broadcastInDim S192x1024 ![0, 1] bcast_S192x1_S192x1024_0_1 (broadcastInDim S192x1 ![0] bcast_S192_S192x1_0 tr)))))) (broadcastInDim S192x1024x64 ![0, 1, 2] bcast_S192x1x64_S192x1024x64_0_1_2 (broadcastInDim S192x1x64 ![0, 2] bcast_S192x64_S192x1x64_0_2 (uitofp .f32 (cmpi .eq (broadcastInDim S192x64 ![0, 1] bcast_S192x1_S192x64_0_1 (broadcastInDim S192x1 ![0] bcast_S192_S192x1_0 te)) (broadcastInDim S192x64 ![0, 1] bcast_S1x64_S192x64_0_1 (broadcastInDim S1x64 ![1] bcast_S64_S1x64_1 (iotaInDim S64 32 0)))))))) shapeCasts_S192x1024x64_S196608x64

/-- Every row times every expert's first or second matrix. -/
def up (X : FVec Ideal S196608x1024 .bf16) (W : FVec Ideal S64x1024x256 .bf16) : FVec Ideal S196608x64x256 .f32 :=
  Host.dotGeneral dot_S196608x1024_S64x1024x256_S196608x64x256_1_1_0_02_n_n none (extf .f32 X bitsLt_bf16_f32) (extf .f32 W bitsLt_bf16_f32)

/-- The activations of every row in every expert. -/
def acts (G U : FVec Ideal S196608x64x256 .f32) : FVec Ideal S196608x64x256 .f32 :=
  mulf (mulf G (Host.divf (broadcastInDim S196608x64x256 ![] bcast_S_S196608x64x256 (constant S_ .f32 0x3F800000#32)) (addf (broadcastInDim S196608x64x256 ![] bcast_S_S196608x64x256 (constant S_ .f32 0x3F800000#32)) (Host.exp (Host.negf G))))) U

/-- The outputs of every expert for every row. -/
def outs (H : FVec Ideal S196608x64x256 .f32) (W : FVec Ideal S64x256x1024 .bf16) : FVec Ideal S196608x64x1024 .f32 :=
  transpose S196608x64x1024 [2, 0, 1] (Host.dotGeneral dot_S64x256x1024_S196608x64x256_S64x1024x196608_1_2_2_0_0_1 none (extf .f32 W bitsLt_bf16_f32) H) transposes_S64x1024x196608_S196608x64x1024_2_0_1

/-- The outputs weighted by the gates and summed over the experts. -/
def mixed (C : FVec Ideal S196608x64 .f32) (Y : FVec Ideal S196608x64x1024 .f32) : FVec Ideal S196608x1024 .bf16 :=
  truncf .bf16 (Host.reduceAdd (mulf (broadcastInDim S196608x64x1024 ![0, 1, 2] bcast_S196608x64x1_S196608x64x1024_0_1_2 (broadcastInDim S196608x64x1 ![0, 1] bcast_S196608x64_S196608x64x1_0_1 C)) Y) (constant S_ .f32 0x00000000#32) reducesTo_S196608x64x1024_S196608x1024_d1 h_S_) bitsLt_bf16_f32

theorem up_at (X : FVec Ideal S196608x1024 .bf16) (W : FVec Ideal S64x1024x256 .bf16) (r : Fin 196608) (e : Fin 64) (f : Fin 256) :
    up X W (ix3 r e f) = along (fun k => X (ix2 r k)) (fun k => W (ix3 e k f)) := by
  pointwise [up, along]

theorem acts_at (G U : FVec Ideal S196608x64x256 .f32) (r : Fin 196608) (e : Fin 64) (f : Fin 256) :
    acts G U (ix3 r e f) = gated (G (ix3 r e f)) * U (ix3 r e f) := by
  pointwise [acts, gated]

theorem outs_at (H : FVec Ideal S196608x64x256 .f32) (W : FVec Ideal S64x256x1024 .bf16) (r : Fin 196608) (e : Fin 64) (d : Fin 1024) :
    outs H W (ix3 r e d) = along (fun f => W (ix3 e f d)) (fun f => H (ix3 r e f)) := by
  pointwise [outs, along]

theorem mixed_at (C : FVec Ideal S196608x64 .f32) (Y : FVec Ideal S196608x64x1024 .f32) (r : Fin 196608) (d : Fin 1024) :
    mixed C Y (ix2 r d) = ∑ e : Fin 64, C (ix2 r e) * Y (ix3 r e d) := by
  pointwise [mixed]

theorem bit_at (b : Bool) : (FloatOps.uitofp (F := Ideal) .f32 (BitVec.ofBool b) : EReal) = if b = true then 1 else 0 := by
  cases b <;> simp [FloatOps.uitofp]

theorem gates_at (te tr : IVec S192 32) (t : Fin 192) (p : Fin 1024) (e : Fin 64) :
    gates te tr (ix2 ⟨t * 1024 + p, by omega⟩ e)
      = (if (BitVec.ofNat 32 p).slt (tr (ix1 t)) then 1 else 0) * (if te (ix1 t) = BitVec.ofNat 32 e then 1 else 0) := by
  pointwise [gates]
  have e1 := bit_at ((BitVec.ofNat 32 (p : ℕ)).slt (tr (ix1 t)))
  have e2 := bit_at (te (ix1 t) == BitVec.ofNat 32 (e : ℕ))
  simp only [beq_iff_eq] at e2
  exact congrArg₂ (fun a b : EReal => a * b) e1 e2

/-- One row through the expert with weights `G`, `U` and `D`. -/
def through (x : Fin 1024 → EReal) (G U : Fin 1024 → Fin 256 → EReal) (D : Fin 256 → Fin 1024 → EReal) (d : Fin 1024) : EReal :=
  ∑ f : Fin 256, hidden x (fun k => G k f) (fun k => U k f) * D f d

/-- A row of zeros goes to zero. -/
theorem through_zero (G U : Fin 1024 → Fin 256 → EReal) (D : Fin 256 → Fin 1024 → EReal) (d : Fin 1024) :
    through (fun _ => 0) G U D d = 0 := by
  unfold through hidden along
  simp

/-- The reference's result: a real row goes through its tile's expert, any other row is zero. -/
theorem result_at (X : FVec Ideal S196608x1024 .bf16) (te tr : IVec S192 32) (Wg Wu : FVec Ideal S64x1024x256 .bf16)
    (Wd : FVec Ideal S64x256x1024 .bf16) (t : Fin 192) (p : Fin 1024) (d : Fin 1024) (e : Fin 64) (he : te (ix1 t) = BitVec.ofNat 32 e) :
    mixed (gates te tr) (outs (acts (up X Wg) (up X Wu)) Wd) (ix2 ⟨t * 1024 + p, by omega⟩ d)
      = if (BitVec.ofNat 32 p).slt (tr (ix1 t)) then
          through (fun k => X (ix2 ⟨t * 1024 + p, by omega⟩ k)) (fun k f => Wg (ix3 e k f)) (fun k f => Wu (ix3 e k f)) (fun f d => Wd (ix3 e f d)) d
        else 0 := by
  have hy : ∀ e : Fin 64, outs (acts (up X Wg) (up X Wu)) Wd (ix3 ⟨t * 1024 + p, by omega⟩ e d)
      = through (fun k => X (ix2 ⟨t * 1024 + p, by omega⟩ k)) (fun k f => Wg (ix3 e k f)) (fun k f => Wu (ix3 e k f)) (fun f d => Wd (ix3 e f d)) d := by
    intro e
    rw [outs_at]
    unfold through along
    refine Finset.sum_congr rfl fun f _ => ?_
    dsimp only
    rw [acts_at, up_at, up_at]
    exact mul_comm _ _
  rw [mixed_at, Finset.sum_eq_single e]
  · rw [gates_at, if_pos he, hy]
    split
    · simp
    · simp
  · intro b _ hb
    have hne : ¬ te (ix1 t) = BitVec.ofNat 32 b := by
      rw [he]
      intro h
      refine hb (Fin.ext ?_)
      have h' := congrArg BitVec.toNat h
      simp only [BitVec.toNat_ofNat] at h'
      omega
    rw [gates_at, if_neg hne]
    simp
  · simp

end Cert.ExpertsReferenceIdeal.Stages

end
-- ==== Proof.ExpertsKer.lean ====
module

public import proofs.«01_k».proof.Proof.Gen.ExpertsIdeal.Skeleton
public import proofs.«01_k».proof.Proof.ExpertsRef

@[expose] public section

set_option maxRecDepth 16384

noncomputable section

/-! What the experts' kernel stores for one tile, read at an index. -/
namespace Cert.ExpertsIdeal.Blk

open Cert.ExpertsIdeal Cert.ExpertsIdeal.Gen
open Idealize.ShloMosaic Idealize.ShloMosaic.TcCoe Idealize.SL.Sem
open Cert.ExpertsReferenceIdeal.Stages (along gated through through_zero)

/-- A tile with `n` real rows: rows before `n` go through the expert, the others through it as rows of zeros. -/
theorem pay1_at (n : BitVec 32) (x : Vec Ideal S1024x1024 .bf16) (g u : Vec Ideal S1x1024x256 .bf16) (w : Vec Ideal S1x256x1024 .bf16)
    (p d : Fin 1024) :
    k0_pay1 (F := Ideal) n x g u w (ix2 p d)
      = through (fun k => if (BitVec.ofNat 32 p).slt n then x (ix2 p k) else 0)
          (fun k f => g (ix3 0 k f)) (fun k f => u (ix3 0 k f)) (fun f d => w (ix3 0 f d)) d := by
  pointwise [k0_pay1, through, Cert.ExpertsReferenceIdeal.Stages.hidden, gated, along]
  have hs : ∀ a : EReal, Scalar.select (IntOp.cmpi CmpIPredicate.slt (BitVec.ofNat 32 (p : ℕ)) n) a (((0#32).toInt : ℝ) : EReal)
      = if (BitVec.ofNat 32 (p : ℕ)).slt n = true then a else 0 := by
    intro a
    simp only [IntOp.cmpi]
    cases (BitVec.ofNat 32 (p : ℕ)).slt n <;> simp [Scalar.select]
  simp only [hs, zero_sub]

/-- A tile without a real row is zero. -/
theorem pay2_at (p d : Fin 1024) : k0_pay2 (F := Ideal) (ix2 p d) = 0 := by
  pointwise [k0_pay2]

end Cert.ExpertsIdeal.Blk

end
-- ==== Proof.ExpertsBlocks.lean ====
module

public import proofs.«01_k».proof.Proof.ExpertsIdealTabs
public import proofs.«01_k».proof.Proof.ExpertsKer
public import Idealize.ShloMosaic.Lib.Pipeline.Covers
public import Idealize.ShloMosaic.Lib.VecWindow

@[expose] public section

set_option maxRecDepth 16384

noncomputable section

/-! The experts' blocks, read at an index. -/
namespace Cert.ExpertsIdeal.Blk

open Cert.ExpertsIdeal Cert.ExpertsIdeal.Gen Cert.ExpertsIdeal.Tiles
open Idealize.ShloMosaic Idealize.ShloMosaic.TcCoe Idealize.SL.Sem
open Cert.ExpertsReferenceIdeal.Stages (gates up acts outs mixed through through_zero result_at)

variable (m : (ℓ : Loc nD τ sig) → Buf (Elt Ideal) ℓ) (hO : Named m)

/-- The call's arguments. -/
abbrev rows (c : Dev nD) : FVec Ideal S196608x1024 .bf16 := m ((c : Thread nD τ).loc main_arg0)
abbrev te (c : Dev nD) : IVec S192 32 := m ((c : Thread nD τ).loc main_arg1)
abbrev tr (c : Dev nD) : IVec S192 32 := m ((c : Thread nD τ).loc main_arg2)
abbrev wg (c : Dev nD) : FVec Ideal S64x1024x256 .bf16 := m ((c : Thread nD τ).loc main_arg3)
abbrev wu (c : Dev nD) : FVec Ideal S64x1024x256 .bf16 := m ((c : Thread nD τ).loc main_arg4)
abbrev wd (c : Dev nD) : FVec Ideal S64x256x1024 .bf16 := m ((c : Thread nD τ).loc main_arg5)

/-- A point of the grid is its one coordinate. -/
theorem coord (t : Fin grid0.N) : (grid0.coords t 0).val = t.val := (by decide +kernel : ∀ t : Fin grid0.N, (grid0.coords t 0).val = t.val) t

theorem t_lt (t : Fin grid0.N) : t.val < 192 := lt_of_lt_of_eq t.isLt N_0

theorem off1_val (t : Fin grid0.N) : k0_off1 (grid0.coords t) 0 = t.val :=
  (by decide +kernel : ∀ t : Fin grid0.N, k0_off1 (grid0.coords t) 0 = t.val) t

/-- The count which the body reads is its tile's. -/
theorem cnt_at (c : Dev nD) (t : Fin grid0.N) : cntT m hO t = tr m c (ix1 ⟨t.val, t_lt t⟩) := by
  obtain rfl : c = 0 := Subsingleton.elim _ _
  refine congrArg (tr m 0) (funext fun (a : Fin 1) => Fin.ext ?_)
  obtain rfl : a = 0 := Subsingleton.elim _ _
  exact off1_val t

/-- The first table's word at a point is its tile's. -/
theorem word_at (c : Dev nD) (t : Fin grid0.N) :
    (tabs m).at 0 (Rect.unit (s := S192) (k0_off1 (grid0.coords t)) S1.size (k0_off1_inb (grid0.coords t))) numel1_S1 = te m c (ix1 ⟨t.val, t_lt t⟩) := by
  obtain rfl : c = 0 := Subsingleton.elim _ _
  refine congrArg (te m 0) (funext fun (a : Fin 1) => Fin.ext ?_)
  obtain rfl : a = 0 := Subsingleton.elim _ _
  exact off1_val t

/-! Where the windows' blocks begin. -/
theorem tr0 (t : Fin grid0.N) : cc0_transform_0 (grid0.coords t) = ![t.val, 0] :=
  (by decide +kernel : ∀ t : Fin grid0.N, cc0_transform_0 (grid0.coords t) = ![t.val, 0]) t
theorem tr4 (t : Fin grid0.N) : cc0_transform_4 (grid0.coords t) = ![t.val, 0] :=
  (by decide +kernel : ∀ t : Fin grid0.N, cc0_transform_4 (grid0.coords t) = ![t.val, 0]) t
theorem at0 (t : Fin grid0.N) : ((cfgT m hO).win 0).index t = ![t.val, 0] := tr0 t
theorem at4 (t : Fin grid0.N) : ((cfgT m hO).win 4).index t = ![t.val, 0] := tr4 t
theorem at1 (c : Dev nD) (t : Fin grid0.N) : ((cfgT m hO).win 1).index t = ![(te m c (ix1 ⟨t.val, t_lt t⟩)).toNat, 0, 0] :=
  congrArg (fun v : BitVec 32 => ![v.toNat, 0, 0]) (word_at m c t)
theorem at2 (c : Dev nD) (t : Fin grid0.N) : ((cfgT m hO).win 2).index t = ![(te m c (ix1 ⟨t.val, t_lt t⟩)).toNat, 0, 0] :=
  congrArg (fun v : BitVec 32 => ![v.toNat, 0, 0]) (word_at m c t)
theorem at3 (c : Dev nD) (t : Fin grid0.N) : ((cfgT m hO).win 3).index t = ![(te m c (ix1 ⟨t.val, t_lt t⟩)).toNat, 0, 0] :=
  congrArg (fun v : BitVec 32 => ![v.toNat, 0, 0]) (word_at m c t)

/-- The tile's rows. -/
theorem x_at (c : Dev nD) (t : Fin grid0.N) (p k : Fin 1024) :
    iblk m hO c 0 t (ix2 p k) = rows m c (ix2 ⟨t.val * 1024 + p, by have := t_lt t; omega⟩ k) := by
  refine congrArg (rows m c) (funext fun (a : Fin 2) => Fin.ext ?_)
  match a with
  | 0 => blk_simp [at0 m hO t]
  | 1 => blk_simp [at0 m hO t]

/-! The matrices of the tile's expert. -/
theorem g_at (c : Dev nD) (t : Fin grid0.N) (e : Fin 64) (he : te m c (ix1 ⟨t.val, t_lt t⟩) = BitVec.ofNat 32 e) (k : Fin 1024) (f : Fin 256) :
    iblk m hO c 1 t (ix3 0 k f) = wg m c (ix3 e k f) := by
  have hv : (te m c (ix1 ⟨t.val, t_lt t⟩)).toNat = e := by rw [he, BitVec.toNat_ofNat]; omega
  refine congrArg (wg m c) (funext fun (a : Fin 3) => Fin.ext ?_)
  match a with
  | 0 => blk_simp [at1 m hO c t]; exact hv
  | 1 => blk_simp [at1 m hO c t]
  | 2 => blk_simp [at1 m hO c t]

theorem u_at (c : Dev nD) (t : Fin grid0.N) (e : Fin 64) (he : te m c (ix1 ⟨t.val, t_lt t⟩) = BitVec.ofNat 32 e) (k : Fin 1024) (f : Fin 256) :
    iblk m hO c 2 t (ix3 0 k f) = wu m c (ix3 e k f) := by
  have hv : (te m c (ix1 ⟨t.val, t_lt t⟩)).toNat = e := by rw [he, BitVec.toNat_ofNat]; omega
  refine congrArg (wu m c) (funext fun (a : Fin 3) => Fin.ext ?_)
  match a with
  | 0 => blk_simp [at2 m hO c t]; exact hv
  | 1 => blk_simp [at2 m hO c t]
  | 2 => blk_simp [at2 m hO c t]

theorem d_at (c : Dev nD) (t : Fin grid0.N) (e : Fin 64) (he : te m c (ix1 ⟨t.val, t_lt t⟩) = BitVec.ofNat 32 e) (f : Fin 256) (d : Fin 1024) :
    iblk m hO c 3 t (ix3 0 f d) = wd m c (ix3 e f d) := by
  have hv : (te m c (ix1 ⟨t.val, t_lt t⟩)).toNat = e := by rw [he, BitVec.toNat_ofNat]; omega
  refine congrArg (wd m c) (funext fun (a : Fin 3) => Fin.ext ?_)
  match a with
  | 0 => blk_simp [at3 m hO c t]; exact hv
  | 1 => blk_simp [at3 m hO c t]
  | 2 => blk_simp [at3 m hO c t]

/-- The blocks of the result's window cover its array. -/
theorem covers : ((cfgT m hO).win 4).Covers := by
  refine Pipeline.Window.covers_of_index_surj _ rfl (fun (a : Fin 2) => ?_) fun β => ?_
  · match a with
    | 0 => exact (by decide : 0 < 1024)
    | 1 => exact (by decide : 0 < 1024)
  · have b0 : (β (0 : Fin 2)).val < 192 := lt_of_lt_of_eq (β (0 : Fin 2)).isLt (by decide : (196608 + 1024 - 1) / 1024 = 192)
    have b1 : (β (1 : Fin 2)).val < 1 := lt_of_lt_of_eq (β (1 : Fin 2)).isLt (by decide : (1024 + 1024 - 1) / 1024 = 1)
    refine ⟨⟨(β (0 : Fin 2)).val, lt_of_lt_of_eq b0 N_0.symm⟩, fun (a : Fin 2) => ?_⟩
    rw [at4]
    match a with
    | 0 => rfl
    | 1 => exact (Nat.lt_one_iff.mp b1).symm

/-- What a tile with real rows leaves in the result's buffer, -/
theorem full_at (hS : Stored m) (c : Dev nD) (t : Fin grid0.N) (hp : k0_cond1 (cntT m hO t) = 1#1) :
    outT m hO hS c t = k0_pay1 (F := Ideal) (cntT m hO t) (iblk m hO c 0 t) (iblk m hO c 1 t) (iblk m hO c 2 t) (iblk m hO c 3 t) := by
  rw [outT_full m hO hS c t hp]
  unfold fullT runFull
  refine (View.read_writes_full VO _ _ _ _).trans ?_
  have e0 := (View.readAt_full (mem0 m hO t).view ((who0 m hO t).unread (iblk m hO c 0 t)) inb_S1024x1024_S1024x1024_0_0).trans ((who0 m hO t).read_unread _)
  have e1 := (View.readAt_full (mem1 m hO t).view ((who1 m hO t).unread (iblk m hO c 1 t)) inb_S1x1024x256_S1x1024x256_0_0_0).trans ((who1 m hO t).read_unread _)
  have e2 := (View.readAt_full (mem2 m hO t).view ((who2 m hO t).unread (iblk m hO c 2 t)) inb_S1x1024x256_S1x1024x256_0_0_0).trans ((who2 m hO t).read_unread _)
  have e3 := (View.readAt_full (mem3 m hO t).view ((who3 m hO t).unread (iblk m hO c 3 t)) inb_S1x256x1024_S1x256x1024_0_0_0).trans ((who3 m hO t).read_unread _)
  have ec : c = 0 := Subsingleton.elim _ _
  subst ec
  exact congr (congr (congr (congrArg (k0_pay1 (F := Ideal) (cntT m hO t)) e0) e1) e2) e3

/-- and a tile without. -/
theorem empty_at (hS : Stored m) (c : Dev nD) (t : Fin grid0.N) (hp : ¬ k0_cond1 (cntT m hO t) = 1#1) :
    outT m hO hS c t = k0_pay2 (F := Ideal) := by
  rw [outT_empty m hO hS c t hp]
  exact View.read_writes_full VO _ _ _ _

/-- The result at an index: a real row goes through its tile's expert, any other row is zero. -/
theorem out_at (hS : Stored m) (c : Dev nD) (t : Fin grid0.N) (e : Fin 64) (he : te m c (ix1 ⟨t.val, t_lt t⟩) = BitVec.ofNat 32 e) (p d : Fin 1024) :
    outT m hO hS c t (ix2 p d)
      = if (BitVec.ofNat 32 p).slt (tr m c (ix1 ⟨t.val, t_lt t⟩)) then
          through (fun k => rows m c (ix2 ⟨t.val * 1024 + p, by have := t_lt t; omega⟩ k)) (fun k f => wg m c (ix3 e k f)) (fun k f => wu m c (ix3 e k f))
            (fun f d => wd m c (ix3 e f d)) d
        else 0 := by
  by_cases hp : k0_cond1 (cntT m hO t) = 1#1
  · refine (congrFun (full_at m hO hS c t hp) (ix2 p d)).trans ((pay1_at _ _ _ _ _ p d).trans ?_)
    by_cases hr : (BitVec.ofNat 32 p).slt (tr m c (ix1 ⟨t.val, t_lt t⟩)) = true
    · have hr' : (BitVec.ofNat 32 p).slt (cntT m hO t) = true := (cnt_at m hO c t).symm ▸ hr
      rw [if_pos hr]
      exact congrFun (congr (congr (congr (congrArg through (funext fun k => (if_pos hr').trans (x_at m hO c t p k)))
        (funext fun k => funext fun f => g_at m hO c t e he k f)) (funext fun k => funext fun f => u_at m hO c t e he k f))
        (funext fun f => funext fun d => d_at m hO c t e he f d)) d
    · have hr' : ¬ (BitVec.ofNat 32 p).slt (cntT m hO t) = true := (cnt_at m hO c t).symm ▸ hr
      rw [if_neg hr]
      exact (congrArg (fun x => through x _ _ _ d) (funext fun k => if_neg hr')).trans (through_zero _ _ _ _)
  · rw [empty_at m hO hS c t hp, pay2_at]
    have hz := one_holds m hO hS t hp
    rw [cnt_at m hO c t] at hz
    have h0 : tr m c (ix1 ⟨t.val, t_lt t⟩) = 0#32 := by
      by_contra hne
      have hb : (tr m c (ix1 ⟨t.val, t_lt t⟩) == 0#32) = false := beq_eq_false_iff_ne.mpr hne
      simp only [k0_cond2, Scalar.cmpi, Scalar.extui, IntOp.cmpi, hb] at hz
      exact absurd hz (by decide)
    have hn : (BitVec.ofNat 32 p).slt 0#32 = false := by
      have hpl := p.isLt
      simp only [BitVec.slt, decide_eq_false_iff_not, BitVec.toInt_zero, not_lt]
      rw [BitVec.toInt_eq_toNat_cond, BitVec.toNat_ofNat]
      split <;> omega
    rw [h0, hn]
    rfl

/-- The reference's result, of the kernel's arguments. -/
abbrev refOf (c : Dev nD) : FVec Ideal S196608x1024 .bf16 :=
  mixed (gates (te m c) (tr m c)) (outs (acts (up (rows m c) (wg m c)) (up (rows m c) (wu m c))) (wd m c))

theorem ix_of (j : S196608x1024.Idx) (r : Fin 196608) (k : Fin 1024) (h0 : (j 0 : ℕ) = r) (h1 : (j 1 : ℕ) = k) : j = ix2 r k := by
  funext a
  refine Fin.ext ?_
  match a with
  | 0 => exact h0
  | 1 => exact h1

/-- A tile's block of the result, at an index of the block. -/
theorem point (hR : Ranged (tabs m 0) (tabs m 1)) (hS : Stored m) (c : Dev nD) (t : Fin grid0.N) (p d : Fin 1024) (j : S196608x1024.Idx)
    (h0 : (j 0 : ℕ) = t.val * 1024 + p) (h1 : (j 1 : ℕ) = d) : outT m hO hS c t (ix2 p d) = refOf m c j := by
  have hw : (te m c (ix1 ⟨t.val, t_lt t⟩)).toNat < 64 := by
    obtain rfl : c = 0 := Subsingleton.elim _ _
    exact (hR _).1
  have he : te m c (ix1 ⟨t.val, t_lt t⟩) = BitVec.ofNat 32 (⟨(te m c (ix1 ⟨t.val, t_lt t⟩)).toNat, hw⟩ : Fin 64) :=
    BitVec.eq_of_toNat_eq (by simp)
  rw [out_at m hO hS c t _ he, ix_of j ⟨t.val * 1024 + p, by have := t_lt t; omega⟩ d h0 h1]
  exact (result_at _ _ _ _ _ _ ⟨t.val, t_lt t⟩ p d _ he).symm

/-- The kernel's result is the reference's. -/
theorem final (hR : Ranged (tabs m 0) (tabs m 1)) (hS : Stored m) (c : Dev nD) :
    (data m hO hS 0 c).arrAt (4 : Fin 5) (cfgT m hO).N = refOf m c := by
  refine (data m hO hS 0 c).arrAt_eq_of_covers (4 : Fin 5) _ (covers m hO) fun t _ y => ?_
  blk_simp
  rw [after_4]
  idx_vars y
  refine point m hO hR hS c t _ _ _ ?_ ?_
  · blk_simp
    exact congrArg (fun n : ℕ => n * 1024 + (y0 : ℕ)) (congrFun (at4 m hO t) (0 : Fin 2))
  · blk_simp
    exact (congrArg (fun n : ℕ => n * 1024 + (y1 : ℕ)) (congrFun (at4 m hO t) (1 : Fin 2))).trans
      ((congrArg (· + (y1 : ℕ)) (Nat.zero_mul 1024)).trans (Nat.zero_add _))

end Cert.ExpertsIdeal.Blk

end
-- ==== Proof.ExpertsValue.lean ====
module

public import proofs.«01_k».proof.Proof.ExpertsBlocks
public import proofs.«01_k».proof.Proof.ExpertsTabs

@[expose] public section

set_option maxRecDepth 16384

noncomputable section

/-! The experts' claims. -/
namespace Cert.ExpertsClaims

open Idealize.ShloMosaic Idealize.ShloMosaic.TcCoe Idealize.SL.Sem
open Cert.ExpertsReferenceIdeal.Stages (gates up acts outs mixed)

/-- The kernel ends, its arguments as they were. -/
theorem kernel_frame : @Cert.quiescent_Experts Cert.Experts.Gen.facts Cert.Pre_tiles_named.Gen.facts := by
  intro m g hpre
  have hR := Cert.Experts.Tiles.ranged m hpre
  exact (θ_run Cert.Experts.defs _ _).mono (fun r h => ⟨fun c => (h.1 c).2, h.2⟩)
    (Cert.Experts.Tiles.run m g (Cert.Experts.Tiles.named m hR) (Cert.Experts.Tiles.stored m hR))

/-- So does its ideal reading, -/
theorem ideal_frame : @Cert.quiescent_ExpertsIdeal Cert.ExpertsIdeal.Gen.facts Cert.Pre_tiles_named.Gen.facts := by
  intro m g hpre
  have hR := Cert.ExpertsIdeal.Tiles.ranged m hpre
  exact (θ_run Cert.ExpertsIdeal.defs _ _).mono (fun r h => ⟨fun c => (h.1 c).2, h.2⟩)
    (Cert.ExpertsIdeal.Tiles.run m g (Cert.ExpertsIdeal.Tiles.named m hR) (Cert.ExpertsIdeal.Tiles.stored m hR))

/-- and the reference, whatever the tables hold. -/
theorem reference_frame : @Cert.quiescent_ExpertsReferenceIdeal Cert.ExpertsReferenceIdeal.Gen.facts :=
  fun m g _ => (θ_run Cert.ExpertsReferenceIdeal.defs _ _).mono (fun r h => ⟨fun c => (h c).2, sem_eq_zero_of_no_sems (by decide) r.2⟩)
    (Cert.ExpertsReferenceIdeal.Value.run m g)

/-- The kernel's result is the reference's. -/
theorem value : @Cert.algebraic_ExpertsIdeal_ExpertsReferenceIdeal Cert.ExpertsIdeal.Gen.facts Cert.ExpertsReferenceIdeal.Gen.facts
    Cert.Pre_tiles_named.Gen.facts := by
  intro m g m' g' hpre hagree
  have hR := Cert.ExpertsIdeal.Tiles.ranged m hpre
  have hO := Cert.ExpertsIdeal.Tiles.named m hR
  have hS := Cert.ExpertsIdeal.Tiles.stored m hR
  refine ⟨fun c => Cert.ExpertsIdeal.Blk.refOf m c, ?_, ?_⟩
  · exact (θ_run Cert.ExpertsIdeal.defs _ _).mono (fun r h c => ⟨(h.1 c).1.trans (Cert.ExpertsIdeal.Blk.final m hO hR hS c), (h.1 c).2⟩)
      (Cert.ExpertsIdeal.Tiles.run m g hO hS)
  · refine (θ_run Cert.ExpertsReferenceIdeal.defs _ _).mono (fun r h c => ?_) (Cert.ExpertsReferenceIdeal.Value.run m' g')
    obtain ⟨h0, ha⟩ := h c
    obtain ⟨a0, a1, a2, a3, a4, a5⟩ := hagree c
    refine ⟨h0.trans ?_, ha⟩
    have e (te te' tr tr' : IVec Cert.ExpertsReferenceIdeal.S192 32) (x x' : FVec Ideal Cert.ExpertsReferenceIdeal.S196608x1024 .bf16)
        (g g' u u' : FVec Ideal Cert.ExpertsReferenceIdeal.S64x1024x256 .bf16) (d d' : FVec Ideal Cert.ExpertsReferenceIdeal.S64x256x1024 .bf16)
        (e1 : te = te') (e2 : tr = tr') (e0 : x = x') (e3 : g = g') (e4 : u = u') (e5 : d = d') :
        mixed (gates te tr) (outs (acts (up x g) (up x u)) d) = mixed (gates te' tr') (outs (acts (up x' g') (up x' u')) d') := by
      subst e0 e1 e2 e3 e4 e5; rfl
    exact e _ _ _ _ _ _ _ _ _ _ _ _ a1 a2 a0 a3 a4 a5

end Cert.ExpertsClaims

end
-- ==== Proof.InputsKer.lean ====
module

public import proofs.«01_k».proof.Proof.Gen.InputsIdeal.Value
public import proofs.«01_k».proof.Proof.InputsRef

@[expose] public section

set_option maxRecDepth 16384

noncomputable section

/-! The kernel's values of one block read at an index. -/
namespace Cert.InputsIdeal.Blk

open Cert.InputsIdeal Cert.InputsIdeal.Gen
open Idealize.ShloMosaic Idealize.ShloMosaic.TcCoe Idealize.SL.Sem
open Cert.InputsReferenceIdeal.Stages (hid dotp rms)

theorem pay8_at (v0 : Vec Ideal S1x6x1024 .f32) (v2 : Vec Ideal S512x1024 .f32) (i : Fin 512) (k : Fin 1024) :
    k0_pay8 v0 v2 (ix2 i k) = hid (fun k => v2 (ix2 i k)) (fun k => v0 (ix3 0 1 k)) (fun k => v0 (ix3 0 0 k)) k := by
  pointwise [k0_pay8, hid]

theorem pay9_at (v0 : Vec Ideal S1x6x1024 .f32) (v2 : Vec Ideal S512x1024 .f32) (w : Vec Ideal S1024x3072 .bf16) (i : Fin 512) (j : Fin 3072) :
    k0_pay9 v0 v2 w (ix2 i j) = dotp (fun k => k0_pay8 v0 v2 (ix2 i k)) (fun k => w (ix2 k j)) := by
  unfold k0_pay9
  generalize k0_pay8 v0 v2 = h
  pointwise [dotp]

theorem pay10_at (v0 : Vec Ideal S1x6x1024 .f32) (v2 : Vec Ideal S512x1024 .f32) (w : Vec Ideal S1024x768 .bf16) (i : Fin 512) (j : Fin 768) :
    k0_pay10 v0 v2 w (ix2 i j) = dotp (fun k => k0_pay8 v0 v2 (ix2 i k)) (fun k => w (ix2 k j)) := by
  unfold k0_pay10
  generalize k0_pay8 v0 v2 = h
  pointwise [dotp]

theorem pay11_at (v0 : Vec Ideal S1x6x1024 .f32) (v2 : Vec Ideal S512x1024 .f32) (w : Vec Ideal S1024x768 .bf16) (g : Vec Ideal S1x384 .f32)
    (q : Vec Ideal S384x768 .bf16) (i : Fin 512) (j : Fin 768) :
    k0_pay11 v0 v2 w g q (ix2 i j)
      = dotp (rms 0x43C00000#32 (fun d : Fin 384 => k0_pay10 v0 v2 w (ix2 i ⟨d, by omega⟩)) (fun d => g (ix2 0 d))) (fun d => q (ix2 d j)) := by
  unfold k0_pay11
  generalize k0_pay10 v0 v2 w = h
  pointwise [dotp, rms]

theorem pay12_at (v0 : Vec Ideal S1x6x1024 .f32) (v2 : Vec Ideal S512x1024 .f32) (w : Vec Ideal S1024x768 .bf16) (i : Fin 512) (j : Fin 256) :
    k0_pay12 v0 v2 w (ix2 i j) = k0_pay10 v0 v2 w (ix2 i ⟨384 + j, by omega⟩) := by
  unfold k0_pay12
  generalize k0_pay10 v0 v2 w = h
  pointwise

theorem pay13_at (p : FVec Ideal S512x256 .f32) (g : Vec Ideal S1x256 .f32) (i : Fin 512) (j : Fin 256) :
    k0_pay13 p g (ix2 i j) = rms 0x43800000#32 (fun d => p (ix2 i d)) (fun d => g (ix2 0 d)) j := by
  pointwise [k0_pay13, rms]

theorem pay14_at (p : FVec Ideal S512x256 .f32) (g : Vec Ideal S1x256 .f32) (w : Vec Ideal S256x1024 .bf16) (i : Fin 512) (j : Fin 1024) :
    k0_pay14 p g w (ix2 i j) = dotp (fun d => k0_pay13 p g (ix2 i d)) (fun d => w (ix2 d j)) := by
  unfold k0_pay14
  generalize k0_pay13 p g = h
  pointwise [dotp]

/-! The stored values. -/

theorem pay15_at (a : FVec Ideal S512x3072 .f32) (i : Fin 512) (j : Fin 512) :
    k0_pay15 a (ix2 i j) = a (ix2 i ⟨j, by omega⟩) * Ideal.ofBits .f32 0x3E000000#32 := by
  pointwise [k0_pay15]
theorem pay18_at (a : FVec Ideal S512x3072 .f32) (i : Fin 512) (j : Fin 512) :
    k0_pay18 a (ix2 i j) = a (ix2 i ⟨1536 + j, by omega⟩) * Ideal.ofBits .f32 0x3E000000#32 := by
  pointwise [k0_pay18]
theorem pay16_at (a : FVec Ideal S512x3072 .f32) (i : Fin 512) (j : Fin 512) :
    k0_pay16 a (ix2 i j) = a (ix2 i ⟨512 + j, by omega⟩) := by
  pointwise [k0_pay16]
theorem pay17_at (a : FVec Ideal S512x3072 .f32) (i : Fin 512) (j : Fin 512) :
    k0_pay17 a (ix2 i j) = a (ix2 i ⟨1024 + j, by omega⟩) := by
  pointwise [k0_pay17]
theorem pay19_at (a : FVec Ideal S512x3072 .f32) (i : Fin 512) (j : Fin 512) :
    k0_pay19 a (ix2 i j) = a (ix2 i ⟨2048 + j, by omega⟩) := by
  pointwise [k0_pay19]
theorem pay20_at (a : FVec Ideal S512x3072 .f32) (i : Fin 512) (j : Fin 512) :
    k0_pay20 a (ix2 i j) = a (ix2 i ⟨2560 + j, by omega⟩) := by
  pointwise [k0_pay20]
theorem pay1_at (a : FVec Ideal S512x768 .f32) (i : Fin 512) (j : Fin 512) :
    k0_pay1 a (ix2 i j) = a (ix2 i ⟨j, by omega⟩) * Ideal.ofBits .f32 0x3DD105EC#32 := by
  pointwise [k0_pay1]
theorem pay2_at (a : FVec Ideal S512x768 .f32) (i : Fin 512) (j : Fin 256) :
    k0_pay2 a (ix2 i j) = a (ix2 i ⟨512 + j, by omega⟩) * Ideal.ofBits .f32 0x3DD105EC#32 := by
  pointwise [k0_pay2]
theorem pay4_at (a : FVec Ideal S512x768 .f32) (i : Fin 512) (j : Fin 128) :
    k0_pay4 a (ix2 i j) = a (ix2 i ⟨640 + j, by omega⟩) := by
  pointwise [k0_pay4, k0_pay3]
theorem pay5_at (a : FVec Ideal S512x768 .f32) (i : Fin 512) (j : Fin 32) :
    k0_pay5 a (ix2 i j) = a (ix2 i ⟨640 + j, by omega⟩) := by
  pointwise [k0_pay5, k0_pay3]
theorem pay6_at (a : FVec Ideal S512x1024 .f32) (i : Fin 512) (j : Fin 512) :
    k0_pay6 a (ix2 i j) = a (ix2 i ⟨j, by omega⟩) := by
  pointwise [k0_pay6]
theorem pay7_at (a : FVec Ideal S512x1024 .f32) (i : Fin 512) (j : Fin 512) :
    k0_pay7 a (ix2 i j) = a (ix2 i ⟨512 + j, by omega⟩) := by
  pointwise [k0_pay7]

/-! A load of a whole block is the block. -/

theorem ld0 (B : Vec Ideal S1x6x1024 .f32) (a : Fin 6) (b : Fin 1024) : View.ld B r0_0 (ix3 0 a b) = B (ix3 0 a b) := by
  pointwise
theorem ld1 (B : Vec Ideal S512x1024 .f32) (a : Fin 512) (b : Fin 1024) : View.ld B r0_1 (ix2 a b) = B (ix2 a b) := by
  pointwise
theorem ld2 (B : Vec Ideal S1024x3072 .bf16) (a : Fin 1024) (b : Fin 3072) : View.ld B r0_2 (ix2 a b) = B (ix2 a b) := by
  pointwise
theorem ld3 (B : Vec Ideal S1024x768 .bf16) (a : Fin 1024) (b : Fin 768) : View.ld B r0_3 (ix2 a b) = B (ix2 a b) := by
  pointwise
theorem ld4 (B : Vec Ideal S1x384 .f32) (b : Fin 384) : View.ld B r0_4 (ix2 0 b) = B (ix2 0 b) := by
  pointwise
theorem ld5 (B : Vec Ideal S384x768 .bf16) (a : Fin 384) (b : Fin 768) : View.ld B r0_5 (ix2 a b) = B (ix2 a b) := by
  pointwise
theorem ld6 (B : Vec Ideal S1x256 .f32) (b : Fin 256) : View.ld B r0_6 (ix2 0 b) = B (ix2 0 b) := by
  pointwise
theorem ld7 (B : Vec Ideal S256x1024 .bf16) (a : Fin 256) (b : Fin 1024) : View.ld B r0_7 (ix2 a b) = B (ix2 a b) := by
  pointwise

end Cert.InputsIdeal.Blk

end
-- ==== Proof.InputsValue.lean ====
module

public import proofs.«01_k».proof.Proof.InputsKer
public import Idealize.ShloMosaic.Lib.Claim

@[expose] public section

set_option maxRecDepth 16384

noncomputable section

/-! The projection's result arrays are the reference's. -/
namespace Cert.InputsIdeal.Arr

open Cert.InputsIdeal Cert.InputsIdeal.Gen Cert.InputsIdeal.Blk
open Idealize.ShloMosaic Idealize.ShloMosaic.TcCoe Idealize.SL.Sem
open Cert.InputsReferenceIdeal.Stages

variable (m : (ℓ : Loc nD τ sig) → Buf (Elt Ideal) ℓ)

/-- The blocks a grid point stages. -/
theorem idx_val : ∀ t : Fin cfg0.N, win0_0.index t = ![t.val, 0] ∧ win0_1.index t = ![0, 0, 0]
    ∧ win0_2.index t = ![0, 0] ∧ win0_3.index t = ![0, 0] ∧ win0_4.index t = ![0, 0] ∧ win0_5.index t = ![0, 0]
    ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, _)

/-- The operands the host prepares. -/
theorem V_v0 (c : Dev nD) : V m c main_v0 = extractStridedSlice S1024x3072 ![0, 0] (m ((c : Thread nD τ).loc main_arg2)) slices_S1024x6816_S1024x3072_0_0 := by
  unfold V; after_results; try rfl
/-- The narrow columns: 640 of the latents, then the rotary ones four times. -/
def narrow (W : FVec Ideal S1024x6816 .bf16) : FVec Ideal S1024x768 .bf16 :=
  concatenate S1024x768 1 [⟨S1024x640, extractStridedSlice S1024x640 ![0, 3072] W slices_S1024x6816_S1024x640_0_3072⟩,
    ⟨S1024x128, shapeCast S1024x128 (broadcastInDim S1x1024x4x32 ![0, 1, 2, 3] bcast_S1x1024x1x32_S1x1024x4x32_0_1_2_3
      (shapeCast S1x1024x1x32 (extractStridedSlice S1024x32 ![0, 3712] W slices_S1024x6816_S1024x32_0_3712) shapeCasts_S1024x32_S1x1024x1x32)) shapeCasts_S1x1024x4x32_S1024x128⟩]
    concatenates_S1024x640_S1024x128_S1024x768_d1
theorem V_v6 (c : Dev nD) : V m c main_v6 = narrow (m ((c : Thread nD τ).loc main_arg2)) := by
  unfold V; after_results; try rfl
theorem V_v7 (c : Dev nD) : V m c main_v7 = shapeCast S1x384 (m ((c : Thread nD τ).loc main_arg3)) shapeCasts_S384_S1x384 := by
  unfold V; after_results; try rfl
theorem V_v8 (c : Dev nD) : V m c main_v8 = shapeCast S1x256 (m ((c : Thread nD τ).loc main_arg4)) shapeCasts_S256_S1x256 := by
  unfold V; after_results; try rfl

theorem wide_at (W : FVec Ideal S1024x6816 .bf16) (k : Fin 1024) (j : Fin 3072) :
    extractStridedSlice S1024x3072 ![0, 0] W slices_S1024x6816_S1024x3072_0_0 (ix2 k j) = W (ix2 k ⟨j, by omega⟩) := by
  pointwise
theorem narrow_lo (W : FVec Ideal S1024x6816 .bf16) (k : Fin 1024) (j : Fin 640) :
    narrow W (ix2 k ⟨j, by omega⟩) = W (ix2 k ⟨3072 + j, by omega⟩) := by
  pointwise [narrow]
theorem narrow_hi (W : FVec Ideal S1024x6816 .bf16) (k : Fin 1024) (h : Fin 4) (d : Fin 32) :
    narrow W (ix2 k ⟨640 + (h * 32 + d), by omega⟩) = W (ix2 k ⟨3712 + d, by omega⟩) := by
  pointwise [narrow]

/-! A block at an index. -/
theorem x_at (c : Dev nD) (t : Fin cfg0.N) (ht : t.val < 16) (i : Fin 512) (k : Fin 1024) :
    iblk m c 0 t (ix2 i k) = m ((c : Thread nD τ).loc main_arg0) (ix2 ⟨t.val * 512 + i, by omega⟩ k) := by
  blk_ext [iblk, V, idx_val t]
theorem mod_at (c : Dev nD) (t : Fin cfg0.N) (a : Fin 6) (k : Fin 1024) :
    iblk m c 1 t (ix3 0 a k) = m ((c : Thread nD τ).loc main_arg1) (ix3 0 a k) := by
  blk_ext [iblk, V, idx_val t]
theorem wa_at (c : Dev nD) (t : Fin cfg0.N) (k : Fin 1024) (j : Fin 3072) :
    iblk m c 2 t (ix2 k j) = m ((c : Thread nD τ).loc main_arg2) (ix2 k ⟨j, by omega⟩) := by
  refine Eq.trans (b := V m c main_v0 (ix2 k j)) ?_ ?_
  · blk_ext [iblk, idx_val t]
  · rw [V_v0]; exact wide_at _ _ _
theorem wm_at (c : Dev nD) (t : Fin cfg0.N) (k : Fin 1024) (j : Fin 768) :
    iblk m c 3 t (ix2 k j) = narrow (m ((c : Thread nD τ).loc main_arg2)) (ix2 k j) := by
  refine Eq.trans (b := V m c main_v6 (ix2 k j)) ?_ ?_
  · blk_ext [iblk, idx_val t]
  · rw [V_v6]
theorem g1_at (c : Dev nD) (t : Fin cfg0.N) (d : Fin 384) :
    iblk m c 4 t (ix2 0 d) = m ((c : Thread nD τ).loc main_arg3) (ix1 d) := by
  blk_simp [iblk]
  rw [V_v7]
  pointwise
  blk_ext [idx_val t]
theorem g2_at (c : Dev nD) (t : Fin cfg0.N) (d : Fin 256) :
    iblk m c 5 t (ix2 0 d) = m ((c : Thread nD τ).loc main_arg4) (ix1 d) := by
  blk_simp [iblk]
  rw [V_v8]
  pointwise
  blk_ext [idx_val t]
theorem q_at (c : Dev nD) (t : Fin cfg0.N) (k : Fin 384) (j : Fin 768) :
    iblk m c 6 t (ix2 k j) = m ((c : Thread nD τ).loc main_arg5) (ix2 k j) := by
  blk_ext [iblk, V, idx_val t]
theorem kv_at (c : Dev nD) (t : Fin cfg0.N) (k : Fin 256) (j : Fin 1024) :
    iblk m c 7 t (ix2 k j) = m ((c : Thread nD τ).loc main_arg6) (ix2 k j) := by
  blk_ext [iblk, V, idx_val t]

/-- The projection, the normalised latents, the queries, and the keys and values, of core `c`'s arguments. -/
def prj (c : Dev nD) : FVec Ideal Cert.InputsReferenceIdeal.S8192x3744 .f32 :=
  projected (modulated (m ((c : Thread nD τ).loc main_arg0)) (m ((c : Thread nD τ).loc main_arg1))) (m ((c : Thread nD τ).loc main_arg2))
def ckv (c : Dev nD) : FVec Ideal Cert.InputsReferenceIdeal.S8192x256 .f32 := kvNorm (kvLat (prj m c)) (m ((c : Thread nD τ).loc main_arg4))
def qs (c : Dev nD) : FVec Ideal Cert.InputsReferenceIdeal.S8192x768 .f32 :=
  queries (qNorm (qLat (prj m c)) (m ((c : Thread nD τ).loc main_arg3))) (m ((c : Thread nD τ).loc main_arg5))
def kvs (c : Dev nD) : FVec Ideal Cert.InputsReferenceIdeal.S8192x1024 .f32 := keyvals (ckv m c) (m ((c : Thread nD τ).loc main_arg6))

/-- One entry of the block's modulated rows. -/
theorem h_at (c : Dev nD) (t : Fin cfg0.N) (ht : t.val < 16) (i : Fin 512) (k : Fin 1024) :
    k0_pay8 (View.ld (iblk m c 1 t) r0_0) (View.ld (iblk m c 0 t) r0_1) (ix2 i k)
      = modulated (m ((c : Thread nD τ).loc main_arg0)) (m ((c : Thread nD τ).loc main_arg1)) (ix2 ⟨t.val * 512 + i, by omega⟩ k) := by
  rw [pay8_at, modulated_at]
  unfold hid
  refine congrArg₂ (· + ·) (congrArg₂ (· * ·) ?_ (congrArg₂ (· + ·) rfl ?_)) ?_
  · exact (ld1 _ _ _).trans (x_at m c t ht _ _)
  · exact (ld0 _ _ _).trans (mod_at m c t _ _)
  · exact (ld0 _ _ _).trans (mod_at m c t _ _)

theorem a_at (c : Dev nD) (t : Fin cfg0.N) (ht : t.val < 16) (i : Fin 512) (j : Fin 3072) :
    k0_pay21 (iblk m c 0 t) (iblk m c 1 t) (iblk m c 2 t) (iblk m c 3 t) (iblk m c 4 t) (iblk m c 5 t) (iblk m c 6 t) (iblk m c 7 t) (ix2 i j)
      = prj m c (ix2 ⟨t.val * 512 + i, by omega⟩ ⟨j, by omega⟩) := by
  unfold k0_pay21 prj
  rw [pay9_at, projected_at]
  refine congrArg₂ dotp (funext fun k => h_at m c t ht i k) (funext fun k => ?_)
  exact (ld2 _ _ _).trans (wa_at m c t _ _)

theorem lo_at (c : Dev nD) (t : Fin cfg0.N) (ht : t.val < 16) (i : Fin 512) (j : Fin 640) :
    k0_pay10 (View.ld (iblk m c 1 t) r0_0) (View.ld (iblk m c 0 t) r0_1) (View.ld (iblk m c 3 t) r0_3) (ix2 i ⟨j, by omega⟩)
      = prj m c (ix2 ⟨t.val * 512 + i, by omega⟩ ⟨3072 + j, by omega⟩) := by
  unfold prj
  rw [pay10_at, projected_at]
  refine congrArg₂ dotp (funext fun k => h_at m c t ht i k) (funext fun k => ?_)
  exact (ld3 _ _ _).trans ((wm_at m c t _ _).trans (narrow_lo _ _ _))

theorem hi_at (c : Dev nD) (t : Fin cfg0.N) (ht : t.val < 16) (i : Fin 512) (h : Fin 4) (d : Fin 32) :
    k0_pay22 (iblk m c 0 t) (iblk m c 1 t) (iblk m c 2 t) (iblk m c 3 t) (iblk m c 4 t) (iblk m c 5 t) (iblk m c 6 t) (iblk m c 7 t) (ix2 i ⟨640 + (h * 32 + d), by omega⟩)
      = resKr (prj m c) (ix2 ⟨t.val * 512 + i, by omega⟩ d) := by
  unfold k0_pay22 prj
  rw [pay10_at, resKr_at, projected_at]
  refine congrArg₂ dotp (funext fun k => h_at m c t ht i k) (funext fun k => ?_)
  exact (ld3 _ _ _).trans ((wm_at m c t _ _).trans (narrow_hi _ _ _ _))

theorem mq_at (c : Dev nD) (t : Fin cfg0.N) (ht : t.val < 16) (i : Fin 512) (j : Fin 768) :
    k0_pay23 (iblk m c 0 t) (iblk m c 1 t) (iblk m c 2 t) (iblk m c 3 t) (iblk m c 4 t) (iblk m c 5 t) (iblk m c 6 t) (iblk m c 7 t) (ix2 i j) * Ideal.ofBits .f32 0x3DD105EC#32
      = qs m c (ix2 ⟨t.val * 512 + i, by omega⟩ j) := by
  unfold k0_pay23 qs
  rw [pay11_at, queries_at]
  refine congrArg (· * _) (congrArg₂ dotp (funext fun d => ?_) (funext fun k => (ld5 _ _ _).trans (q_at m c t _ _)))
  rw [qNorm_at]
  refine congrFun (congrArg₂ (rms _) (funext fun d => ?_) (funext fun d => (ld4 _ _).trans (g1_at m c t _))) d
  rw [qLat_at]
  exact lo_at m c t ht i ⟨d, by omega⟩

theorem pre_at (c : Dev nD) (t : Fin cfg0.N) (ht : t.val < 16) (i : Fin 512) (j : Fin 256) :
    k0_pay24 (iblk m c 0 t) (iblk m c 1 t) (iblk m c 2 t) (iblk m c 3 t) (iblk m c 4 t) (iblk m c 5 t) (iblk m c 6 t) (iblk m c 7 t) (ix2 i j)
      = kvLat (prj m c) (ix2 ⟨t.val * 512 + i, by omega⟩ j) := by
  unfold k0_pay24
  rw [pay12_at, kvLat_at]
  refine (lo_at m c t ht i ⟨384 + j, by omega⟩).trans (congrArg (fun z => prj m c (ix2 _ z)) (Fin.ext ?_))
  show 3072 + (384 + (j : ℕ)) = 3456 + j
  omega

theorem ckv_at (c : Dev nD) (t : Fin cfg0.N) (ht : t.val < 16) (i : Fin 512) (j : Fin 256) :
    k0_pay13 (k0_pay24 (iblk m c 0 t) (iblk m c 1 t) (iblk m c 2 t) (iblk m c 3 t) (iblk m c 4 t) (iblk m c 5 t) (iblk m c 6 t) (iblk m c 7 t)) (View.ld (iblk m c 5 t) r0_6) (ix2 i j)
      = ckv m c (ix2 ⟨t.val * 512 + i, by omega⟩ j) := by
  unfold ckv
  rw [pay13_at, kvNorm_at]
  exact congrFun (congrArg₂ (rms _) (funext fun d => pre_at m c t ht i d) (funext fun d => (ld6 _ _).trans (g2_at m c t _))) j

theorem kvs_at (c : Dev nD) (t : Fin cfg0.N) (ht : t.val < 16) (i : Fin 512) (j : Fin 1024) :
    k0_pay25 (iblk m c 0 t) (iblk m c 1 t) (iblk m c 2 t) (iblk m c 3 t) (iblk m c 4 t) (iblk m c 5 t) (iblk m c 6 t) (iblk m c 7 t) (ix2 i j)
      = kvs m c (ix2 ⟨t.val * 512 + i, by omega⟩ j) := by
  unfold k0_pay25 kvs
  rw [pay14_at, keyvals_at]
  exact congrArg₂ dotp (funext fun d => ckv_at m c t ht i d) (funext fun k => (ld7 _ _ _).trans (kv_at m c t _ _))

/-! An index of a result from its two coordinates. -/
theorem ix_of512 (j : S8192x512.Idx) (r : Fin 8192) (k : Fin 512) (h0 : (j 0 : ℕ) = r) (h1 : (j 1 : ℕ) = k) : j = ix2 r k := by
  funext a
  refine Fin.ext ?_
  match a with
  | 0 => exact h0
  | 1 => exact h1
theorem ix_of256 (j : S8192x256.Idx) (r : Fin 8192) (k : Fin 256) (h0 : (j 0 : ℕ) = r) (h1 : (j 1 : ℕ) = k) : j = ix2 r k := by
  funext a
  refine Fin.ext ?_
  match a with
  | 0 => exact h0
  | 1 => exact h1
theorem ix_of128 (j : S8192x128.Idx) (r : Fin 8192) (k : Fin 128) (h0 : (j 0 : ℕ) = r) (h1 : (j 1 : ℕ) = k) : j = ix2 r k := by
  funext a
  refine Fin.ext ?_
  match a with
  | 0 => exact h0
  | 1 => exact h1
theorem ix_of32 (j : S8192x32.Idx) (r : Fin 8192) (k : Fin 32) (h0 : (j 0 : ℕ) = r) (h1 : (j 1 : ℕ) = k) : j = ix2 r k := by
  funext a
  refine Fin.ext ?_
  match a with
  | 0 => exact h0
  | 1 => exact h1

/-! THE KERNEL'S RESULTS, one by one: a block at an index, then the array. -/

theorem point8 (c : Dev nD) (t : Fin cfg0.N) (y : S512x512.Idx) :
    out0_8 (F := Ideal) (iblk m c 0 t) (iblk m c 1 t) (iblk m c 2 t) (iblk m c 3 t) (iblk m c 4 t) (iblk m c 5 t) (iblk m c 6 t) (iblk m c 7 t) y
      = (resDq (prj m c)) (((cfg0.win 8).blk t).view.emb y) := by
  have ht : t.val < 16 := lt_of_lt_of_eq t.isLt N_0
  canon_tiles x h
  idx_vars x
  have b0 : (x0 : ℕ) < 512 := x0.isLt
  have b1 : (x1 : ℕ) < 512 := x1.isLt
  refine Eq.trans ?_ (congrArg (resDq (prj m c)) (ix_of512 _ ⟨t.val * 512 + x0, by omega⟩ x1 ?_ ?_)).symm
  rotate_left
  · blk_simp [idx_val t]; try (dsimp only; omega)
  · blk_simp [idx_val t]; try (dsimp only; omega)
  exact (pay15_at _ _ _).trans ((congrArg (· * _) (a_at m c t ht x0 _)).trans (resDq_at _ _ _).symm)
theorem final8 (c : Dev nD) : (dats m 0 c).arrAt 8 cfg0.N = resDq (prj m c) := by
  refine (dats m 0 c).arrAt_eq_of_covers 8 _ (by decide +kernel) fun t _ y => ?_
  blk_simp
  rw [after0_8]
  exact point8 m c t y

theorem point9 (c : Dev nD) (t : Fin cfg0.N) (y : S512x512.Idx) :
    out0_9 (F := Ideal) (iblk m c 0 t) (iblk m c 1 t) (iblk m c 2 t) (iblk m c 3 t) (iblk m c 4 t) (iblk m c 5 t) (iblk m c 6 t) (iblk m c 7 t) y
      = (resNq (prj m c)) (((cfg0.win 9).blk t).view.emb y) := by
  have ht : t.val < 16 := lt_of_lt_of_eq t.isLt N_0
  canon_tiles x h
  idx_vars x
  have b0 : (x0 : ℕ) < 512 := x0.isLt
  have b1 : (x1 : ℕ) < 512 := x1.isLt
  refine Eq.trans ?_ (congrArg (resNq (prj m c)) (ix_of512 _ ⟨t.val * 512 + x0, by omega⟩ x1 ?_ ?_)).symm
  rotate_left
  · blk_simp [idx_val t]; try (dsimp only; omega)
  · blk_simp [idx_val t]; try (dsimp only; omega)
  exact (pay18_at _ _ _).trans ((congrArg (· * _) (a_at m c t ht x0 _)).trans (resNq_at _ _ _).symm)
theorem final9 (c : Dev nD) : (dats m 0 c).arrAt 9 cfg0.N = resNq (prj m c) := by
  refine (dats m 0 c).arrAt_eq_of_covers 9 _ (by decide +kernel) fun t _ y => ?_
  blk_simp
  rw [after0_9]
  exact point9 m c t y

theorem point10 (c : Dev nD) (t : Fin cfg0.N) (y : S512x512.Idx) :
    out0_10 (F := Ideal) (iblk m c 0 t) (iblk m c 1 t) (iblk m c 2 t) (iblk m c 3 t) (iblk m c 4 t) (iblk m c 5 t) (iblk m c 6 t) (iblk m c 7 t) y
      = (resQn (qs m c)) (((cfg0.win 10).blk t).view.emb y) := by
  have ht : t.val < 16 := lt_of_lt_of_eq t.isLt N_0
  canon_tiles x h
  idx_vars x
  have b0 : (x0 : ℕ) < 512 := x0.isLt
  have b1 : (x1 : ℕ) < 512 := x1.isLt
  refine Eq.trans ?_ (congrArg (resQn (qs m c)) (ix_of512 _ ⟨t.val * 512 + x0, by omega⟩ x1 ?_ ?_)).symm
  rotate_left
  · blk_simp [idx_val t]; try (dsimp only; omega)
  · blk_simp [idx_val t]; try (dsimp only; omega)
  exact (pay1_at _ _ _).trans ((mq_at m c t ht x0 _).trans (resQn_at _ _ _).symm)
theorem final10 (c : Dev nD) : (dats m 0 c).arrAt 10 cfg0.N = resQn (qs m c) := by
  refine (dats m 0 c).arrAt_eq_of_covers 10 _ (by decide +kernel) fun t _ y => ?_
  blk_simp
  rw [after0_10]
  exact point10 m c t y

theorem point11 (c : Dev nD) (t : Fin cfg0.N) (y : S512x256.Idx) :
    out0_11 (F := Ideal) (iblk m c 0 t) (iblk m c 1 t) (iblk m c 2 t) (iblk m c 3 t) (iblk m c 4 t) (iblk m c 5 t) (iblk m c 6 t) (iblk m c 7 t) y
      = (resQr (qs m c)) (((cfg0.win 11).blk t).view.emb y) := by
  have ht : t.val < 16 := lt_of_lt_of_eq t.isLt N_0
  canon_tiles x h
  idx_vars x
  have b0 : (x0 : ℕ) < 512 := x0.isLt
  have b1 : (x1 : ℕ) < 256 := x1.isLt
  refine Eq.trans ?_ (congrArg (resQr (qs m c)) (ix_of256 _ ⟨t.val * 512 + x0, by omega⟩ x1 ?_ ?_)).symm
  rotate_left
  · blk_simp [idx_val t]; try (dsimp only; omega)
  · blk_simp [idx_val t]; try (dsimp only; omega)
  exact (pay2_at _ _ _).trans ((mq_at m c t ht x0 _).trans (resQr_at _ _ _).symm)
theorem final11 (c : Dev nD) : (dats m 0 c).arrAt 11 cfg0.N = resQr (qs m c) := by
  refine (dats m 0 c).arrAt_eq_of_covers 11 _ (by decide +kernel) fun t _ y => ?_
  blk_simp
  rw [after0_11]
  exact point11 m c t y

theorem point12 (c : Dev nD) (t : Fin cfg0.N) (y : S512x128.Idx) :
    out0_12 (F := Ideal) (iblk m c 0 t) (iblk m c 1 t) (iblk m c 2 t) (iblk m c 3 t) (iblk m c 4 t) (iblk m c 5 t) (iblk m c 6 t) (iblk m c 7 t) y
      = (four (resKr (prj m c))) (((cfg0.win 12).blk t).view.emb y) := by
  have ht : t.val < 16 := lt_of_lt_of_eq t.isLt N_0
  canon_tiles x h
  idx_vars x
  have b0 : (x0 : ℕ) < 512 := x0.isLt
  have b1 : (x1 : ℕ) < 128 := x1.isLt
  refine Eq.trans ?_ (congrArg (four (resKr (prj m c))) (ix_of128 _ ⟨t.val * 512 + x0, by omega⟩ x1 ?_ ?_)).symm
  rotate_left
  · blk_simp [idx_val t]; try (dsimp only; omega)
  · blk_simp [idx_val t]; try (dsimp only; omega)
  have hx : (x1 : ℕ) = (⟨x1 / 32, by omega⟩ : Fin 4) * 32 + (⟨x1 % 32, by omega⟩ : Fin 32) := by show (x1 : ℕ) = x1 / 32 * 32 + x1 % 32; omega
  have hx' : x1 = ⟨(⟨x1 / 32, by omega⟩ : Fin 4) * 32 + (⟨x1 % 32, by omega⟩ : Fin 32), by omega⟩ := Fin.ext hx
  refine (pay4_at _ _ _).trans (Eq.trans ?_ ((congrArg (fun z => four (resKr (prj m c)) (ix2 _ z)) hx').trans (four_at _ _ _ _)).symm)
  exact (congrArg (fun z => k0_pay22 (iblk m c 0 t) (iblk m c 1 t) (iblk m c 2 t) (iblk m c 3 t) (iblk m c 4 t) (iblk m c 5 t) (iblk m c 6 t) (iblk m c 7 t) (ix2 x0 z)) (Fin.ext (congrArg (640 + ·) hx))).trans (hi_at m c t ht x0 ⟨x1 / 32, by omega⟩ ⟨x1 % 32, by omega⟩)
theorem final12 (c : Dev nD) : (dats m 0 c).arrAt 12 cfg0.N = four (resKr (prj m c)) := by
  refine (dats m 0 c).arrAt_eq_of_covers 12 _ (by decide +kernel) fun t _ y => ?_
  blk_simp
  rw [after0_12]
  exact point12 m c t y

theorem point13 (c : Dev nD) (t : Fin cfg0.N) (y : S512x512.Idx) :
    out0_13 (F := Ideal) (iblk m c 0 t) (iblk m c 1 t) (iblk m c 2 t) (iblk m c 3 t) (iblk m c 4 t) (iblk m c 5 t) (iblk m c 6 t) (iblk m c 7 t) y
      = (resKn (kvs m c)) (((cfg0.win 13).blk t).view.emb y) := by
  have ht : t.val < 16 := lt_of_lt_of_eq t.isLt N_0
  canon_tiles x h
  idx_vars x
  have b0 : (x0 : ℕ) < 512 := x0.isLt
  have b1 : (x1 : ℕ) < 512 := x1.isLt
  refine Eq.trans ?_ (congrArg (resKn (kvs m c)) (ix_of512 _ ⟨t.val * 512 + x0, by omega⟩ x1 ?_ ?_)).symm
  rotate_left
  · blk_simp [idx_val t]; try (dsimp only; omega)
  · blk_simp [idx_val t]; try (dsimp only; omega)
  exact (pay6_at _ _ _).trans ((kvs_at m c t ht x0 _).trans (resKn_at _ _ _).symm)
theorem final13 (c : Dev nD) : (dats m 0 c).arrAt 13 cfg0.N = resKn (kvs m c) := by
  refine (dats m 0 c).arrAt_eq_of_covers 13 _ (by decide +kernel) fun t _ y => ?_
  blk_simp
  rw [after0_13]
  exact point13 m c t y

theorem point14 (c : Dev nD) (t : Fin cfg0.N) (y : S512x512.Idx) :
    out0_14 (F := Ideal) (iblk m c 0 t) (iblk m c 1 t) (iblk m c 2 t) (iblk m c 3 t) (iblk m c 4 t) (iblk m c 5 t) (iblk m c 6 t) (iblk m c 7 t) y
      = (resVn (kvs m c)) (((cfg0.win 14).blk t).view.emb y) := by
  have ht : t.val < 16 := lt_of_lt_of_eq t.isLt N_0
  canon_tiles x h
  idx_vars x
  have b0 : (x0 : ℕ) < 512 := x0.isLt
  have b1 : (x1 : ℕ) < 512 := x1.isLt
  refine Eq.trans ?_ (congrArg (resVn (kvs m c)) (ix_of512 _ ⟨t.val * 512 + x0, by omega⟩ x1 ?_ ?_)).symm
  rotate_left
  · blk_simp [idx_val t]; try (dsimp only; omega)
  · blk_simp [idx_val t]; try (dsimp only; omega)
  exact (pay7_at _ _ _).trans ((kvs_at m c t ht x0 _).trans (resVn_at _ _ _).symm)
theorem final14 (c : Dev nD) : (dats m 0 c).arrAt 14 cfg0.N = resVn (kvs m c) := by
  refine (dats m 0 c).arrAt_eq_of_covers 14 _ (by decide +kernel) fun t _ y => ?_
  blk_simp
  rw [after0_14]
  exact point14 m c t y

theorem point15 (c : Dev nD) (t : Fin cfg0.N) (y : S512x512.Idx) :
    out0_15 (F := Ideal) (iblk m c 0 t) (iblk m c 1 t) (iblk m c 2 t) (iblk m c 3 t) (iblk m c 4 t) (iblk m c 5 t) (iblk m c 6 t) (iblk m c 7 t) y
      = (resDk (prj m c)) (((cfg0.win 15).blk t).view.emb y) := by
  have ht : t.val < 16 := lt_of_lt_of_eq t.isLt N_0
  canon_tiles x h
  idx_vars x
  have b0 : (x0 : ℕ) < 512 := x0.isLt
  have b1 : (x1 : ℕ) < 512 := x1.isLt
  refine Eq.trans ?_ (congrArg (resDk (prj m c)) (ix_of512 _ ⟨t.val * 512 + x0, by omega⟩ x1 ?_ ?_)).symm
  rotate_left
  · blk_simp [idx_val t]; try (dsimp only; omega)
  · blk_simp [idx_val t]; try (dsimp only; omega)
  exact (pay16_at _ _ _).trans ((a_at m c t ht x0 _).trans (resDk_at _ _ _).symm)
theorem final15 (c : Dev nD) : (dats m 0 c).arrAt 15 cfg0.N = resDk (prj m c) := by
  refine (dats m 0 c).arrAt_eq_of_covers 15 _ (by decide +kernel) fun t _ y => ?_
  blk_simp
  rw [after0_15]
  exact point15 m c t y

theorem point16 (c : Dev nD) (t : Fin cfg0.N) (y : S512x512.Idx) :
    out0_16 (F := Ideal) (iblk m c 0 t) (iblk m c 1 t) (iblk m c 2 t) (iblk m c 3 t) (iblk m c 4 t) (iblk m c 5 t) (iblk m c 6 t) (iblk m c 7 t) y
      = (resDv (prj m c)) (((cfg0.win 16).blk t).view.emb y) := by
  have ht : t.val < 16 := lt_of_lt_of_eq t.isLt N_0
  canon_tiles x h
  idx_vars x
  have b0 : (x0 : ℕ) < 512 := x0.isLt
  have b1 : (x1 : ℕ) < 512 := x1.isLt
  refine Eq.trans ?_ (congrArg (resDv (prj m c)) (ix_of512 _ ⟨t.val * 512 + x0, by omega⟩ x1 ?_ ?_)).symm
  rotate_left
  · blk_simp [idx_val t]; try (dsimp only; omega)
  · blk_simp [idx_val t]; try (dsimp only; omega)
  exact (pay17_at _ _ _).trans ((a_at m c t ht x0 _).trans (resDv_at _ _ _).symm)
theorem final16 (c : Dev nD) : (dats m 0 c).arrAt 16 cfg0.N = resDv (prj m c) := by
  refine (dats m 0 c).arrAt_eq_of_covers 16 _ (by decide +kernel) fun t _ y => ?_
  blk_simp
  rw [after0_16]
  exact point16 m c t y

theorem point17 (c : Dev nD) (t : Fin cfg0.N) (y : S512x512.Idx) :
    out0_17 (F := Ideal) (iblk m c 0 t) (iblk m c 1 t) (iblk m c 2 t) (iblk m c 3 t) (iblk m c 4 t) (iblk m c 5 t) (iblk m c 6 t) (iblk m c 7 t) y
      = (resNk (prj m c)) (((cfg0.win 17).blk t).view.emb y) := by
  have ht : t.val < 16 := lt_of_lt_of_eq t.isLt N_0
  canon_tiles x h
  idx_vars x
  have b0 : (x0 : ℕ) < 512 := x0.isLt
  have b1 : (x1 : ℕ) < 512 := x1.isLt
  refine Eq.trans ?_ (congrArg (resNk (prj m c)) (ix_of512 _ ⟨t.val * 512 + x0, by omega⟩ x1 ?_ ?_)).symm
  rotate_left
  · blk_simp [idx_val t]; try (dsimp only; omega)
  · blk_simp [idx_val t]; try (dsimp only; omega)
  exact (pay19_at _ _ _).trans ((a_at m c t ht x0 _).trans (resNk_at _ _ _).symm)
theorem final17 (c : Dev nD) : (dats m 0 c).arrAt 17 cfg0.N = resNk (prj m c) := by
  refine (dats m 0 c).arrAt_eq_of_covers 17 _ (by decide +kernel) fun t _ y => ?_
  blk_simp
  rw [after0_17]
  exact point17 m c t y

theorem point18 (c : Dev nD) (t : Fin cfg0.N) (y : S512x512.Idx) :
    out0_18 (F := Ideal) (iblk m c 0 t) (iblk m c 1 t) (iblk m c 2 t) (iblk m c 3 t) (iblk m c 4 t) (iblk m c 5 t) (iblk m c 6 t) (iblk m c 7 t) y
      = (resNv (prj m c)) (((cfg0.win 18).blk t).view.emb y) := by
  have ht : t.val < 16 := lt_of_lt_of_eq t.isLt N_0
  canon_tiles x h
  idx_vars x
  have b0 : (x0 : ℕ) < 512 := x0.isLt
  have b1 : (x1 : ℕ) < 512 := x1.isLt
  refine Eq.trans ?_ (congrArg (resNv (prj m c)) (ix_of512 _ ⟨t.val * 512 + x0, by omega⟩ x1 ?_ ?_)).symm
  rotate_left
  · blk_simp [idx_val t]; try (dsimp only; omega)
  · blk_simp [idx_val t]; try (dsimp only; omega)
  exact (pay20_at _ _ _).trans ((a_at m c t ht x0 _).trans (resNv_at _ _ _).symm)
theorem final18 (c : Dev nD) : (dats m 0 c).arrAt 18 cfg0.N = resNv (prj m c) := by
  refine (dats m 0 c).arrAt_eq_of_covers 18 _ (by decide +kernel) fun t _ y => ?_
  blk_simp
  rw [after0_18]
  exact point18 m c t y

theorem point19 (c : Dev nD) (t : Fin cfg0.N) (y : S512x256.Idx) :
    out0_19 (F := Ideal) (iblk m c 0 t) (iblk m c 1 t) (iblk m c 2 t) (iblk m c 3 t) (iblk m c 4 t) (iblk m c 5 t) (iblk m c 6 t) (iblk m c 7 t) y
      = (ckv m c) (((cfg0.win 19).blk t).view.emb y) := by
  have ht : t.val < 16 := lt_of_lt_of_eq t.isLt N_0
  canon_tiles x h
  idx_vars x
  have b0 : (x0 : ℕ) < 512 := x0.isLt
  have b1 : (x1 : ℕ) < 256 := x1.isLt
  refine Eq.trans ?_ (congrArg (ckv m c) (ix_of256 _ ⟨t.val * 512 + x0, by omega⟩ x1 ?_ ?_)).symm
  rotate_left
  · blk_simp [idx_val t]; try (dsimp only; omega)
  · blk_simp [idx_val t]; try (dsimp only; omega)
  exact ckv_at m c t ht x0 x1
theorem final19 (c : Dev nD) : (dats m 0 c).arrAt 19 cfg0.N = ckv m c := by
  refine (dats m 0 c).arrAt_eq_of_covers 19 _ (by decide +kernel) fun t _ y => ?_
  blk_simp
  rw [after0_19]
  exact point19 m c t y

theorem point20 (c : Dev nD) (t : Fin cfg0.N) (y : S512x32.Idx) :
    out0_20 (F := Ideal) (iblk m c 0 t) (iblk m c 1 t) (iblk m c 2 t) (iblk m c 3 t) (iblk m c 4 t) (iblk m c 5 t) (iblk m c 6 t) (iblk m c 7 t) y
      = (resKr (prj m c)) (((cfg0.win 20).blk t).view.emb y) := by
  have ht : t.val < 16 := lt_of_lt_of_eq t.isLt N_0
  canon_tiles x h
  idx_vars x
  have b0 : (x0 : ℕ) < 512 := x0.isLt
  have b1 : (x1 : ℕ) < 32 := x1.isLt
  refine Eq.trans ?_ (congrArg (resKr (prj m c)) (ix_of32 _ ⟨t.val * 512 + x0, by omega⟩ x1 ?_ ?_)).symm
  rotate_left
  · blk_simp [idx_val t]; try (dsimp only; omega)
  · blk_simp [idx_val t]; try (dsimp only; omega)
  refine (pay5_at _ _ _).trans ?_
  exact (congrArg (fun z => k0_pay22 (iblk m c 0 t) (iblk m c 1 t) (iblk m c 2 t) (iblk m c 3 t) (iblk m c 4 t) (iblk m c 5 t) (iblk m c 6 t) (iblk m c 7 t) (ix2 x0 z)) (Fin.ext (by show 640 + (x1 : ℕ) = 640 + (0 * 32 + x1); omega))).trans (hi_at m c t ht x0 0 x1)
theorem final20 (c : Dev nD) : (dats m 0 c).arrAt 20 cfg0.N = resKr (prj m c) := by
  refine (dats m 0 c).arrAt_eq_of_covers 20 _ (by decide +kernel) fun t _ y => ?_
  blk_simp
  rw [after0_20]
  exact point20 m c t y

end Cert.InputsIdeal.Arr

end
-- ==== Proof.MergeRef.lean ====
module

public import proofs.«01_k».proof.Proof.Gen.MergeReferenceIdeal.Run
public import proofs.«01_k».proof.Proof.Rows
public import Idealize.ShloMosaic.Lib.Pipeline.ValueKit
public import Idealize.ShloMosaic.Lib.Pointwise

@[expose] public section

set_option maxRecDepth 16384

noncomputable section

/-! The merge's reference, its arrays read at an index. -/
namespace Cert.MergeReferenceIdeal.Stages

open Cert.MergeReferenceIdeal Cert.MergeReferenceIdeal.Gen
open Idealize.ShloMosaic Idealize.ShloMosaic.TcCoe Idealize.SL.Sem
open Cert.InputsReferenceIdeal.Stages (dotp hid)
open Cert.Rows

/-- A token's three gated attention outputs, each through its branch's projection, summed. -/
def mixRow (s : Fin 3072 → EReal) (od on om : Fin 512 → EReal) (wd wn wm : Fin 512 → Fin 1024 → EReal) (e : Fin 1024) : EReal :=
  sigm (s ⟨e, by omega⟩) * dotp od (fun k => wd k e) + sigm (s ⟨1024 + e, by omega⟩) * dotp on (fun k => wn k e)
    + sigm (s ⟨2048 + e, by omega⟩) * dotp om (fun k => wm k e)

/-- The modulated input. -/
def modulated (X : FVec Ideal S8192x1024 .f32) (M : FVec Ideal S1x6x1024 .f32) : FVec Ideal S8192x1024 .f32 :=
  (addf (mulf X (broadcastInDim S8192x1024 ![0, 1] bcast_S1x1024_S8192x1024_0_1 (broadcastInDim S1x1024 ![1] bcast_S1024_S1x1024_1 (addf (broadcastInDim S1024 ![] bcast_S_S1024 (constant S_ .f32 0x3F800000#32)) (shapeCast _ (extractStridedSlice S1x1x1024 ![0, 1, 0] M slices_S1x6x1024_S1x1x1024_0_1_0) shapeCasts_S1x1x1024_S1024))))) (broadcastInDim S8192x1024 ![0, 1] bcast_S1x1024_S8192x1024_0_1 (broadcastInDim S1x1024 ![1] bcast_S1024_S1x1024_1 (shapeCast _ (extractStridedSlice S1x1x1024 ![0, 0, 0] M slices_S1x6x1024_S1x1x1024_0_0_0) shapeCasts_S1x1x1024_S1024))))

/-- The row handed on to the router and the experts. -/
def handed (X : FVec Ideal S8192x1024 .f32) (M : FVec Ideal S1x6x1024 .f32) : FVec Ideal S8192x1024 .bf16 :=
  truncf .bf16 (addf (mulf X (broadcastInDim S8192x1024 ![0, 1] bcast_S1x1024_S8192x1024_0_1 (broadcastInDim S1x1024 ![1] bcast_S1024_S1x1024_1 (addf (broadcastInDim S1024 ![] bcast_S_S1024 (constant S_ .f32 0x3F800000#32)) (shapeCast _ (extractStridedSlice S1x1x1024 ![0, 4, 0] M slices_S1x6x1024_S1x1x1024_0_4_0) shapeCasts_S1x1x1024_S1024))))) (broadcastInDim S8192x1024 ![0, 1] bcast_S1x1024_S8192x1024_0_1 (broadcastInDim S1x1024 ![1] bcast_S1024_S1x1024_1 (shapeCast _ (extractStridedSlice S1x1x1024 ![0, 3, 0] M slices_S1x6x1024_S1x1x1024_0_3_0) shapeCasts_S1x1x1024_S1024)))) bitsLt_bf16_f32

/-- The gates' columns of the in-projection. -/
def gates (H : FVec Ideal S8192x1024 .f32) (W : FVec Ideal S1024x6816 .bf16) : FVec Ideal S8192x3072 .f32 :=
  (Host.dotGeneral dot_S8192x1024_S1024x3072_S8192x3072_1_0_0_1_n_n none H (extf .f32 (extractStridedSlice S1024x3072 ![0, 3744] W slices_S1024x6816_S1024x3072_0_3744) bitsLt_bf16_f32))

/-- One branch's attention output through its projection. -/
def branch (O : FVec Ideal S8192x512 .bf16) (W : FVec Ideal S512x1024 .bf16) : FVec Ideal S8192x1024 .f32 :=
  (Host.dotGeneral dot_S8192x512_S512x1024_S8192x1024_1_0_0_1_n_n none (extf .f32 O bitsLt_bf16_f32) (extf .f32 W bitsLt_bf16_f32))

/-- The three branches, gated and summed. -/
def mixed (S : FVec Ideal S8192x3072 .f32) (D N L : FVec Ideal S8192x1024 .f32) : FVec Ideal S8192x1024 .f32 :=
  (addf (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 0] S slices_S8192x3072_S8192x1024_0_0))))) D)
    (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 1024] S slices_S8192x3072_S8192x1024_0_1024))))) N))
    (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 2048] S slices_S8192x3072_S8192x1024_0_2048))))) L))

/-- The layer's output projection. -/
def projected (Y : FVec Ideal S8192x1024 .f32) (W : FVec Ideal S1024x1024 .bf16) : FVec Ideal S8192x1024 .f32 :=
  (Host.dotGeneral dot_S8192x1024_S1024x1024_S8192x1024_1_0_0_1_n_n none Y (extf .f32 W bitsLt_bf16_f32))

/-- The residual rows. -/
def residual (X : FVec Ideal S8192x1024 .f32) (M : FVec Ideal S1x6x1024 .f32) (O : FVec Ideal S8192x1024 .f32) : FVec Ideal S8192x1024 .f32 :=
  (addf (mulf (broadcastInDim S8192x1024 ![] bcast_S_S8192x1024 (constant S_ .f32 0x3FB504F3#32)) X) (mulf (broadcastInDim S8192x1024 ![0, 1] bcast_S1x1024_S8192x1024_0_1 (broadcastInDim S1x1024 ![1] bcast_S1024_S1x1024_1 (shapeCast _ (extractStridedSlice S1x1x1024 ![0, 2, 0] M slices_S1x6x1024_S1x1x1024_0_2_0) shapeCasts_S1x1x1024_S1024))) O))

/-- Rows less their means. -/
def centred (Y : FVec Ideal S8192x1024 .f32) : FVec Ideal S8192x1024 .f32 :=
  (subf Y (broadcastInDim S8192x1024 ![0, 1] bcast_S8192x1_S8192x1024_0_1 (Host.divf (broadcastInDim S8192x1 ![0] bcast_S8192_S8192x1_0 (Host.reduceAdd Y (constant S_ .f32 0x00000000#32) reducesTo_S8192x1024_S8192_d1 h_S_)) (broadcastInDim S8192x1 ![] bcast_S_S8192x1 (constant S_ .f32 0x44800000#32)))))

/-- Centred rows divided by their standard deviations, times the gain, plus the bias. -/
def normed (Z : FVec Ideal S8192x1024 .f32) (g b : FVec Ideal S1024 .f32) : FVec Ideal S8192x1024 .f32 :=
  addf (mulf (mulf Z (broadcastInDim S8192x1024 ![0, 1] bcast_S8192x1_S8192x1024_0_1 (Host.rsqrt (addf (Host.divf (broadcastInDim S8192x1 ![0] bcast_S8192_S8192x1_0 (Host.reduceAdd (mulf Z Z) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 g))) (broadcastInDim S8192x1024 ![0, 1] bcast_S1x1024_S8192x1024_0_1 (broadcastInDim S1x1024 ![1] bcast_S1024_S1x1024_1 b))

theorem modulated_at (X : FVec Ideal S8192x1024 .f32) (M : FVec Ideal S1x6x1024 .f32) (r : Fin 8192) (k : Fin 1024) :
    modulated X M (ix2 r k) = hid (fun k => X (ix2 r k)) (fun k => M (ix3 0 1 k)) (fun k => M (ix3 0 0 k)) k := by
  pointwise [modulated, hid]

theorem handed_at (X : FVec Ideal S8192x1024 .f32) (M : FVec Ideal S1x6x1024 .f32) (r : Fin 8192) (k : Fin 1024) :
    handed X M (ix2 r k) = hid (fun k => X (ix2 r k)) (fun k => M (ix3 0 4 k)) (fun k => M (ix3 0 3 k)) k := by
  pointwise [handed, hid]

theorem gates_at (H : FVec Ideal S8192x1024 .f32) (W : FVec Ideal S1024x6816 .bf16) (r : Fin 8192) (j : Fin 3072) :
    gates H W (ix2 r j) = dotp (fun k => H (ix2 r k)) (fun k => W (ix2 k ⟨3744 + j, by omega⟩)) := by
  pointwise [gates, dotp]

theorem branch_at (O : FVec Ideal S8192x512 .bf16) (W : FVec Ideal S512x1024 .bf16) (r : Fin 8192) (e : Fin 1024) :
    branch O W (ix2 r e) = dotp (fun k => O (ix2 r k)) (fun k => W (ix2 k e)) := by
  pointwise [branch, dotp]

theorem mixed_at (S : FVec Ideal S8192x3072 .f32) (D N L : FVec Ideal S8192x1024 .f32) (r : Fin 8192) (e : Fin 1024) :
    mixed S D N L (ix2 r e) = sigm (S (ix2 r ⟨e, by omega⟩)) * D (ix2 r e) + sigm (S (ix2 r ⟨1024 + e, by omega⟩)) * N (ix2 r e)
      + sigm (S (ix2 r ⟨2048 + e, by omega⟩)) * L (ix2 r e) := by
  pointwise [mixed, sigm]

theorem projected_at (Y : FVec Ideal S8192x1024 .f32) (W : FVec Ideal S1024x1024 .bf16) (r : Fin 8192) (d : Fin 1024) :
    projected Y W (ix2 r d) = dotp (fun e => Y (ix2 r e)) (fun e => W (ix2 e d)) := by
  pointwise [projected, dotp]

theorem residual_at (X : FVec Ideal S8192x1024 .f32) (M : FVec Ideal S1x6x1024 .f32) (O : FVec Ideal S8192x1024 .f32) (r : Fin 8192) (d : Fin 1024) :
    residual X M O (ix2 r d) = resid (fun d => X (ix2 r d)) (fun d => M (ix3 0 2 d)) (fun d => O (ix2 r d)) d := by
  pointwise [residual, resid]

theorem centred_at (Y : FVec Ideal S8192x1024 .f32) (r : Fin 8192) (d : Fin 1024) :
    centred Y (ix2 r d) = cen (fun d => Y (ix2 r d)) d := by
  pointwise [centred, cen, mean]

theorem normed_at (Z : FVec Ideal S8192x1024 .f32) (g b : FVec Ideal S1024 .f32) (r : Fin 8192) (d : Fin 1024) :
    normed Z g b (ix2 r d) = scaled (fun d => Z (ix2 r d)) (fun d => g (ix1 d)) (fun d => b (ix1 d)) d := by
  pointwise [normed, scaled]

/-- The new rows, of the arguments. -/
def out (X : FVec Ideal S8192x1024 .f32) (M : FVec Ideal S1x6x1024 .f32) (od on om : FVec Ideal S8192x512 .bf16)
    (W : FVec Ideal S1024x6816 .bf16) (wd wn wm : FVec Ideal S512x1024 .bf16) (wo : FVec Ideal S1024x1024 .bf16) (g b : FVec Ideal S1024 .f32) :
    FVec Ideal S8192x1024 .f32 :=
  normed (centred (residual X M (projected (mixed (gates (modulated X M) W) (branch od wd) (branch on wn) (branch om wm)) wo))) g b

/-- A token's new row. -/
def newRow (x : Fin 1024 → EReal) (md : Fin 6 → Fin 1024 → EReal) (od on om : Fin 512 → EReal) (W : Fin 1024 → Fin 3072 → EReal)
    (wd wn wm : Fin 512 → Fin 1024 → EReal) (wo : Fin 1024 → Fin 1024 → EReal) (g b : Fin 1024 → EReal) (d : Fin 1024) : EReal :=
  scaled (cen (resid x (md 2) (fun d => dotp (mixRow (fun j => dotp (hid x (md 1) (md 0)) (fun k => W k j)) od on om wd wn wm)
    (fun e => wo e d)))) g b d

theorem out_at (X : FVec Ideal S8192x1024 .f32) (M : FVec Ideal S1x6x1024 .f32) (od on om : FVec Ideal S8192x512 .bf16)
    (W : FVec Ideal S1024x6816 .bf16) (wd wn wm : FVec Ideal S512x1024 .bf16) (wo : FVec Ideal S1024x1024 .bf16) (g b : FVec Ideal S1024 .f32)
    (r : Fin 8192) (d : Fin 1024) :
    out X M od on om W wd wn wm wo g b (ix2 r d)
      = newRow (fun d => X (ix2 r d)) (fun a d => M (ix3 0 a d)) (fun k => od (ix2 r k)) (fun k => on (ix2 r k)) (fun k => om (ix2 r k))
          (fun k j => W (ix2 k ⟨3744 + j, by omega⟩)) (fun k e => wd (ix2 k e)) (fun k e => wn (ix2 k e)) (fun k e => wm (ix2 k e))
          (fun e d => wo (ix2 e d)) (fun d => g (ix1 d)) (fun d => b (ix1 d)) d := by
  unfold out newRow
  refine (normed_at _ _ _ _ _).trans (congrArg (fun z => scaled z _ _ d) (funext fun d => ?_))
  refine (centred_at _ _ _).trans (congrArg (fun z => cen z d) (funext fun d => ?_))
  refine (residual_at _ _ _ _ _).trans (congrArg (fun z => resid _ _ z d) (funext fun d => ?_))
  refine (projected_at _ _ _ _).trans (congrArg (fun z => dotp z _) (funext fun e => ?_))
  have hs : ∀ j : Fin 3072, gates (modulated X M) W (ix2 r j)
      = dotp (hid (fun d => X (ix2 r d)) (fun d => M (ix3 0 1 d)) (fun d => M (ix3 0 0 d))) (fun k => W (ix2 k ⟨3744 + j, by omega⟩)) :=
    fun j => (gates_at _ _ _ _).trans (congrArg (fun z => dotp z _) (funext fun k => modulated_at _ _ _ _))
  rw [mixed_at, hs, hs, hs, branch_at, branch_at, branch_at]
  rfl

variable (m : (ℓ : Loc nD τ sig) → Buf (Elt Ideal) ℓ)

/-- The new rows, of core `c`'s arguments. -/
def args (c : Dev nD) : FVec Ideal S8192x1024 .f32 :=
  out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))

theorem res_eq87 (c : Dev nD) : Cert.MergeReferenceIdeal.Value.res_main_v87 m c = args m c := by
  unfold Cert.MergeReferenceIdeal.Value.res_main_v87
  rfl

theorem res_eq96 (c : Dev nD) : Cert.MergeReferenceIdeal.Value.res_main_v96 m c
    = handed (args m c) (m ((c.tc : Thread nD τ).loc main_arg1)) := by
  unfold Cert.MergeReferenceIdeal.Value.res_main_v96
  rfl

end Cert.MergeReferenceIdeal.Stages

end
-- ==== Proof.MergeKer.lean ====
module

public import proofs.«01_k».proof.Proof.MergeRun
public import proofs.«01_k».proof.Proof.MergeRef
public import Idealize.ShloMosaic.Lib.Pointwise

@[expose] public section

set_option maxRecDepth 16384

noncomputable section

/-! The merge's values of one block read at an index. -/
namespace Cert.MergeIdeal.Blk

open Cert.MergeIdeal Cert.MergeIdeal.Gen
open Idealize.ShloMosaic Idealize.ShloMosaic.TcCoe Idealize.SL.Sem
open Cert.InputsReferenceIdeal.Stages (dotp hid)
open Cert.MergeReferenceIdeal.Stages (mixRow newRow)
open Cert.Rows

theorem pay3_at (M : Vec Ideal S1x6x1024 .f32) (a : Fin 6) (k : Fin 1024) : k0_pay3 M (ix2 a k) = M (ix3 0 a k) := by
  pointwise [k0_pay3]

theorem pay7_at (g : Vec Ideal S1x1024 .f32) (d : Fin 1024) : k0_pay7 g (ix2 0 d) = g (ix2 0 d) := by
  pointwise [k0_pay7]

theorem pay8_at (g : Vec Ideal S1x1024 .f32) (d : Fin 1024) : k0_pay8 g (ix2 0 d) = g (ix2 0 d) := by
  pointwise [k0_pay8]

/-- The gates' columns. -/
theorem pay4_at (X : Vec Ideal S512x1024 .f32) (M : Vec Ideal S1x6x1024 .f32) (W : Vec Ideal S1024x3072 .bf16) (i : Fin 512) (j : Fin 3072) :
    k0_pay4 X M W (ix2 i j)
      = dotp (hid (fun k => X (ix2 i k)) (fun k => M (ix3 0 1 k)) (fun k => M (ix3 0 0 k))) (fun k => W (ix2 k j)) := by
  pointwise [k0_pay4, k0_pay3, dotp, hid]

/-- The first branch, gated. -/
theorem pay5_at (X : Vec Ideal S512x1024 .f32) (M : Vec Ideal S1x6x1024 .f32) (W : Vec Ideal S1024x3072 .bf16) (O : Vec Ideal S512x512 .bf16)
    (B : Vec Ideal S512x1024 .bf16) (i : Fin 512) (e : Fin 1024) :
    k0_pay5 X M W O B (ix2 i e) = sigm (k0_pay4 X M W (ix2 i ⟨e, by omega⟩)) * dotp (fun k => O (ix2 i k)) (fun k => B (ix2 k e)) := by
  unfold k0_pay5 sigm
  rw [← zero_sub_f32]
  generalize k0_pay4 X M W = s
  pointwise [dotp]

/-- The second branch's gate. -/
theorem pay6_at (X : Vec Ideal S512x1024 .f32) (M : Vec Ideal S1x6x1024 .f32) (W : Vec Ideal S1024x3072 .bf16) (i : Fin 512) (e : Fin 1024) :
    k0_pay6 X M W (ix2 i e) = sigm (k0_pay4 X M W (ix2 i ⟨1024 + e, by omega⟩)) := by
  unfold k0_pay6 sigm
  rw [← zero_sub_f32]
  generalize k0_pay4 X M W = s
  pointwise

/-- The residual rows less their means. -/
theorem pay9_at (X : Vec Ideal S512x1024 .f32) (m : FVec Ideal S6x1024 .f32) (s : FVec Ideal S512x3072 .f32) (p q : FVec Ideal S512x1024 .f32)
    (on : Vec Ideal S512x512 .bf16) (wn : Vec Ideal S512x1024 .bf16) (om : Vec Ideal S512x512 .bf16) (wm : Vec Ideal S512x1024 .bf16)
    (wo : Vec Ideal S1024x1024 .bf16) (i : Fin 512) (d : Fin 1024) :
    k0_pay9 X m s p q on wn om wm wo (ix2 i d)
      = cen (resid (fun d => X (ix2 i d)) (fun d => m (ix2 2 d))
          (fun d => dotp (fun e => p (ix2 i e) + q (ix2 i e) * dotp (fun k => on (ix2 i k)) (fun k => wn (ix2 k e))
            + sigm (s (ix2 i ⟨2048 + e, by omega⟩)) * dotp (fun k => om (ix2 i k)) (fun k => wm (ix2 k e))) (fun e => wo (ix2 e d)))) d := by
  unfold sigm
  simp only [← zero_sub_f32]
  pointwise [k0_pay9, cen, resid, mean, dotp]

/-- The rows' sums of squares. -/
theorem pay10_at (X : Vec Ideal S512x1024 .f32) (m : FVec Ideal S6x1024 .f32) (s : FVec Ideal S512x3072 .f32) (p q : FVec Ideal S512x1024 .f32)
    (on : Vec Ideal S512x512 .bf16) (wn : Vec Ideal S512x1024 .bf16) (om : Vec Ideal S512x512 .bf16) (wm : Vec Ideal S512x1024 .bf16)
    (wo : Vec Ideal S1024x1024 .bf16) (i : Fin 512) :
    k0_pay10 X m s p q on wn om wm wo (ix2 i 0)
      = ∑ k : Fin 1024, k0_pay9 X m s p q on wn om wm wo (ix2 i k) * k0_pay9 X m s p q on wn om wm wo (ix2 i k) := by
  unfold k0_pay10
  generalize k0_pay9 X m s p q on wn om wm wo = z
  pointwise

theorem pay1_at (g b : FVec Ideal S1x1024 .f32) (z : FVec Ideal S512x1024 .f32) (q : FVec Ideal S512x1 .f32) (i : Fin 512) (d : Fin 1024)
    (hq : q (ix2 i 0) = ∑ k : Fin 1024, z (ix2 i k) * z (ix2 i k)) :
    k0_pay1 g b z q (ix2 i d) = scaled (fun d => z (ix2 i d)) (fun d => g (ix2 0 d)) (fun d => b (ix2 0 d)) d := by
  unfold scaled
  rw [← hq]
  pointwise [k0_pay1]

theorem pay2_at (m : FVec Ideal S6x1024 .f32) (g b : FVec Ideal S1x1024 .f32) (z : FVec Ideal S512x1024 .f32) (q : FVec Ideal S512x1 .f32)
    (i : Fin 512) (d : Fin 1024) :
    k0_pay2 m g b z q (ix2 i d) = hid (fun d => k0_pay1 g b z q (ix2 i d)) (fun d => m (ix2 4 d)) (fun d => m (ix2 3 d)) d := by
  unfold k0_pay2
  generalize k0_pay1 g b z q = x
  pointwise [hid]

/-- A block's new rows. -/
theorem row_at (X : Vec Ideal S512x1024 .f32) (M : Vec Ideal S1x6x1024 .f32) (W : Vec Ideal S1024x3072 .bf16) (od on om : Vec Ideal S512x512 .bf16)
    (wd wn wm : Vec Ideal S512x1024 .bf16) (wo : Vec Ideal S1024x1024 .bf16) (g b : Vec Ideal S1x1024 .f32) (i : Fin 512) (d : Fin 1024) :
    k0_pay1 (k0_pay7 g) (k0_pay8 b)
        (k0_pay9 X (k0_pay3 M) (k0_pay4 X M W) (k0_pay5 X M W od wd) (k0_pay6 X M W) on wn om wm wo)
        (k0_pay10 X (k0_pay3 M) (k0_pay4 X M W) (k0_pay5 X M W od wd) (k0_pay6 X M W) on wn om wm wo) (ix2 i d)
      = newRow (fun d => X (ix2 i d)) (fun a d => M (ix3 0 a d)) (fun k => od (ix2 i k)) (fun k => on (ix2 i k)) (fun k => om (ix2 i k))
          (fun k j => W (ix2 k j)) (fun k e => wd (ix2 k e)) (fun k e => wn (ix2 k e)) (fun k e => wm (ix2 k e))
          (fun e d => wo (ix2 e d)) (fun d => g (ix2 0 d)) (fun d => b (ix2 0 d)) d := by
  rw [pay1_at _ _ _ _ _ _ (pay10_at _ _ _ _ _ _ _ _ _ _ _)]
  unfold newRow
  have e {z z' g g' b b' : Fin 1024 → EReal} (d : Fin 1024) (h1 : z = z') (h2 : g = g') (h3 : b = b') : scaled z g b d = scaled z' g' b' d := by
    subst h1 h2 h3; rfl
  refine e _ (funext fun d => (pay9_at _ _ _ _ _ _ _ _ _ _ _ _).trans ?_) (funext fun d => pay7_at _ _) (funext fun d => pay8_at _ _)
  have e2 {x x' g g' o o' : Fin 1024 → EReal} (d : Fin 1024) (h1 : x = x') (h2 : g = g') (h3 : o = o') :
      cen (resid x g o) d = cen (resid x' g' o') d := by
    subst h1 h2 h3; rfl
  refine e2 _ rfl (funext fun d => pay3_at _ _ _) (funext fun d => congrArg (fun z => dotp z _) (funext fun e => ?_))
  rw [pay5_at, pay6_at, pay4_at, pay4_at, pay4_at]
  rfl

/-! A load is the block. -/
theorem ld0 (B : Vec Ideal S512x1024 .f32) (a : Fin 512) (b : Fin 1024) : View.ld B r0_0 (ix2 a b) = B (ix2 a b) := by pointwise
theorem ld0b (B : Vec Ideal S512x1024 .bf16) (a : Fin 512) (b : Fin 1024) : View.ld B r0_0 (ix2 a b) = B (ix2 a b) := by pointwise
theorem ld1 (B : Vec Ideal S1x6x1024 .f32) (a : Fin 6) (b : Fin 1024) : View.ld B r0_1 (ix3 0 a b) = B (ix3 0 a b) := by pointwise
theorem ld2 (B : Vec Ideal S1024x3072 .bf16) (a : Fin 1024) (b : Fin 3072) : View.ld B r0_2 (ix2 a b) = B (ix2 a b) := by pointwise
theorem ld3 (B : Vec Ideal S512x512 .bf16) (a b : Fin 512) : View.ld B r0_3 (ix2 a b) = B (ix2 a b) := by pointwise
theorem ld4 (B : Vec Ideal S1024x1024 .bf16) (a b : Fin 1024) : View.ld B r0_4 (ix2 a b) = B (ix2 a b) := by pointwise
theorem ld5 (B : Vec Ideal S1x1024 .f32) (b : Fin 1024) : View.ld B r0_5 (ix2 0 b) = B (ix2 0 b) := by pointwise

end Cert.MergeIdeal.Blk

end
-- ==== Proof.MergeValue.lean ====
module

public import proofs.«01_k».proof.Proof.MergeKer
public import proofs.«01_k».proof.Proof.MergeA
public import proofs.«01_k».proof.Defs
public import Idealize.ShloMosaic.Lib.Pipeline.ValueKit
public import Idealize.ShloMosaic.Lib.Claim

@[expose] public section

set_option maxRecDepth 16384

noncomputable section

/-! The merge's two result arrays are the reference's. -/
namespace Cert.MergeIdeal.Arr

open Cert.MergeIdeal Cert.MergeIdeal.Gen Cert.MergeIdeal.Blk
open Idealize.ShloMosaic Idealize.ShloMosaic.TcCoe Idealize.SL.Sem
open Cert.InputsReferenceIdeal.Stages (dotp hid)
open Cert.Rows
open Cert.MergeReferenceIdeal.Stages (mixRow newRow out out_at handed handed_at)

variable (m : (ℓ : Loc nD τ sig) → Buf (Elt Ideal) ℓ)

/-- The blocks a grid point stages. -/
theorem idx_val : ∀ t : Fin cfg0.N, win0_0.index t = ![t.val, 0] ∧ win0_1.index t = ![0, 0, 0]
    ∧ win0_2.index t = ![t.val, 0] ∧ win0_3.index t = ![t.val, 0] ∧ win0_4.index t = ![t.val, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val, 0] ∧ win0_13.index t = ![t.val, 0] :=
  (by decide +kernel : ∀ t : Fin grid0.N, _)

/-- The gates' columns of the in-projection's weight, as the host cuts them out. -/
theorem V_v0 (c : Dev nD) : V m c main_v0
    = extractStridedSlice S1024x3072 ![0, 3744] (m ((c : Thread nD τ).loc main_arg5)) slices_S1024x6816_S1024x3072_0_3744 := by
  unfold V; after_results; try rfl
/-- The gain and the bias as the host lays them out. -/
theorem V_v1 (c : Dev nD) : V m c main_v1 = shapeCast S1x1024 (m ((c : Thread nD τ).loc main_arg10)) shapeCasts_S1024_S1x1024 := by
  unfold V; after_results; try rfl
theorem V_v2 (c : Dev nD) : V m c main_v2 = shapeCast S1x1024 (m ((c : Thread nD τ).loc main_arg11)) shapeCasts_S1024_S1x1024 := by
  unfold V; after_results; try rfl

/-! A block at an index. -/
theorem x_at (c : Dev nD) (t : Fin cfg0.N) (ht : t.val < 16) (i : Fin 512) (j : Fin 1024) :
    iblk m c 0 t (ix2 i j) = m ((c : Thread nD τ).loc main_arg0) (ix2 ⟨t.val * 512 + i, by omega⟩ j) := by
  blk_ext [iblk, V, idx_val t]
theorem mod_at (c : Dev nD) (t : Fin cfg0.N) (a : Fin 6) (k : Fin 1024) :
    iblk m c 1 t (ix3 0 a k) = m ((c : Thread nD τ).loc main_arg1) (ix3 0 a k) := by
  blk_ext [iblk, V, idx_val t]
theorem od_at (c : Dev nD) (t : Fin cfg0.N) (ht : t.val < 16) (i j : Fin 512) :
    iblk m c 2 t (ix2 i j) = m ((c : Thread nD τ).loc main_arg2) (ix2 ⟨t.val * 512 + i, by omega⟩ j) := by
  blk_ext [iblk, V, idx_val t]
theorem on_at (c : Dev nD) (t : Fin cfg0.N) (ht : t.val < 16) (i j : Fin 512) :
    iblk m c 3 t (ix2 i j) = m ((c : Thread nD τ).loc main_arg3) (ix2 ⟨t.val * 512 + i, by omega⟩ j) := by
  blk_ext [iblk, V, idx_val t]
theorem om_at (c : Dev nD) (t : Fin cfg0.N) (ht : t.val < 16) (i j : Fin 512) :
    iblk m c 4 t (ix2 i j) = m ((c : Thread nD τ).loc main_arg4) (ix2 ⟨t.val * 512 + i, by omega⟩ j) := by
  blk_ext [iblk, V, idx_val t]
theorem wg_at (c : Dev nD) (t : Fin cfg0.N) (k : Fin 1024) (j : Fin 3072) :
    iblk m c 5 t (ix2 k j) = m ((c : Thread nD τ).loc main_arg5) (ix2 k ⟨3744 + j, by omega⟩) := by
  blk_simp [iblk]
  rw [V_v0]
  pointwise
  blk_ext [idx_val t]
theorem wd_at (c : Dev nD) (t : Fin cfg0.N) (k : Fin 512) (e : Fin 1024) :
    iblk m c 6 t (ix2 k e) = m ((c : Thread nD τ).loc main_arg6) (ix2 k e) := by
  blk_ext [iblk, V, idx_val t]
theorem wn_at (c : Dev nD) (t : Fin cfg0.N) (k : Fin 512) (e : Fin 1024) :
    iblk m c 7 t (ix2 k e) = m ((c : Thread nD τ).loc main_arg7) (ix2 k e) := by
  blk_ext [iblk, V, idx_val t]
theorem wm_at (c : Dev nD) (t : Fin cfg0.N) (k : Fin 512) (e : Fin 1024) :
    iblk m c 8 t (ix2 k e) = m ((c : Thread nD τ).loc main_arg8) (ix2 k e) := by
  blk_ext [iblk, V, idx_val t]
theorem wo_at (c : Dev nD) (t : Fin cfg0.N) (e d : Fin 1024) :
    iblk m c 9 t (ix2 e d) = m ((c : Thread nD τ).loc main_arg9) (ix2 e d) := by
  blk_ext [iblk, V, idx_val t]
theorem g_at (c : Dev nD) (t : Fin cfg0.N) (d : Fin 1024) :
    iblk m c 10 t (ix2 0 d) = m ((c : Thread nD τ).loc main_arg10) (ix1 d) := by
  blk_simp [iblk]
  rw [V_v1]
  pointwise
  blk_ext [idx_val t]
theorem b_at (c : Dev nD) (t : Fin cfg0.N) (d : Fin 1024) :
    iblk m c 11 t (ix2 0 d) = m ((c : Thread nD τ).loc main_arg11) (ix1 d) := by
  blk_simp [iblk]
  rw [V_v2]
  pointwise
  blk_ext [idx_val t]

theorem ix_of (j : S8192x1024.Idx) (r : Fin 8192) (k : Fin 1024) (h0 : (j 0 : ℕ) = r) (h1 : (j 1 : ℕ) = k) : j = ix2 r k := by
  funext a
  refine Fin.ext ?_
  match a with
  | 0 => exact h0
  | 1 => exact h1

/-- The reference's new rows, of core `c`'s arguments. -/
def res (c : Dev nD) : FVec Ideal Cert.MergeReferenceIdeal.S8192x1024 .f32 :=
  out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The reference's second result, of core `c`'s arguments. -/
def res2 (c : Dev nD) : FVec Ideal Cert.MergeReferenceIdeal.S8192x1024 .bf16 :=
  handed (res m c) (m ((c : Thread nD τ).loc main_arg1))

theorem newRow_congr {x x' : Fin 1024 → EReal} {md md' : Fin 6 → Fin 1024 → EReal} {od od' on on' om om' : Fin 512 → EReal}
    {W W' : Fin 1024 → Fin 3072 → EReal} {wd wd' wn wn' wm wm' : Fin 512 → Fin 1024 → EReal} {wo wo' : Fin 1024 → Fin 1024 → EReal}
    {g g' b b' : Fin 1024 → EReal} (d : Fin 1024) (h0 : x = x') (h1 : md = md') (h2 : od = od') (h3 : on = on') (h4 : om = om') (h5 : W = W')
    (h6 : wd = wd') (h7 : wn = wn') (h8 : wm = wm') (h9 : wo = wo') (h10 : g = g') (h11 : b = b') :
    newRow x md od on om W wd wn wm wo g b d = newRow x' md' od' on' om' W' wd' wn' wm' wo' g' b' d := by
  subst h0 h1 h2 h3 h4 h5 h6 h7 h8 h9 h10 h11; rfl

/-- A block's new rows are the reference's. -/
theorem rows (c : Dev nD) (t : Fin cfg0.N) (ht : t.val < 16) (i : Fin 512) (d : Fin 1024) :
    k0_pay1 (k0_pay15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 i d)
      = res m c (ix2 ⟨t.val * 512 + i, by omega⟩ d) := by
  refine (row_at _ _ _ _ _ _ _ _ _ _ _ _ _ _).trans (Eq.trans ?_ (out_at _ _ _ _ _ _ _ _ _ _ _ _ _ _).symm)
  exact newRow_congr d (funext fun d => (ld0 _ _ _).trans (x_at m c t ht _ _))
    (funext fun a => funext fun d => (ld1 _ _ _).trans (mod_at m c t _ _))
    (funext fun k => (ld3 _ _ _).trans (od_at m c t ht _ _)) (funext fun k => (ld3 _ _ _).trans (on_at m c t ht _ _))
    (funext fun k => (ld3 _ _ _).trans (om_at m c t ht _ _))
    (funext fun k => funext fun j => (ld2 _ _ _).trans (wg_at m c t _ _))
    (funext fun k => funext fun e => (ld0b _ _ _).trans (wd_at m c t _ _)) (funext fun k => funext fun e => (ld0b _ _ _).trans (wn_at m c t _ _))
    (funext fun k => funext fun e => (ld0b _ _ _).trans (wm_at m c t _ _)) (funext fun e => funext fun d => (ld4 _ _ _).trans (wo_at m c t _ _))
    (funext fun d => (ld5 _ _).trans (g_at m c t d)) (funext fun d => (ld5 _ _).trans (b_at m c t d))

/-- One block of the first result. -/
theorem point12 (c : Dev nD) (t : Fin cfg0.N) (y : S512x1024.Idx) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = res m c (((cfg0.win 12).blk t).view.emb y) := by
  have ht : t.val < 16 := lt_of_lt_of_eq t.isLt N_0
  canon_tiles x h
  idx_vars x
  have b0 : (x0 : ℕ) < 512 := x0.isLt
  have b1 : (x1 : ℕ) < 1024 := x1.isLt
  refine Eq.trans ?_ (congrArg (res m c) (ix_of _ ⟨t.val * 512 + x0, by omega⟩ x1 ?_ ?_)).symm
  rotate_left
  · blk_simp [idx_val t]; try (dsimp only; omega)
  · blk_simp [idx_val t]; try (dsimp only; omega)
  exact rows m c t ht x0 x1

/-- One block of the second result. -/
theorem point13 (c : Dev nD) (t : Fin cfg0.N) (y : S512x1024.Idx) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = res2 m c (((cfg0.win 13).blk t).view.emb y) := by
  have ht : t.val < 16 := lt_of_lt_of_eq t.isLt N_0
  canon_tiles x h
  idx_vars x
  have b0 : (x0 : ℕ) < 512 := x0.isLt
  have b1 : (x1 : ℕ) < 1024 := x1.isLt
  refine Eq.trans ?_ (congrArg (res2 m c) (ix_of _ ⟨t.val * 512 + x0, by omega⟩ x1 ?_ ?_)).symm
  rotate_left
  · blk_simp [idx_val t]; try (dsimp only; omega)
  · blk_simp [idx_val t]; try (dsimp only; omega)
  refine (pay2_at _ _ _ _ _ _ _).trans (Eq.trans ?_ (handed_at _ _ _ _).symm)
  have e {x x' s s' h h' : Fin 1024 → EReal} (d : Fin 1024) (h1 : x = x') (h2 : s = s') (h3 : h = h') : hid x s h d = hid x' s' h' d := by
    subst h1 h2 h3; rfl
  exact e _ (funext fun d => rows m c t ht x0 d) (funext fun d => (pay3_at _ _ _).trans ((ld1 _ _ _).trans (mod_at m c t _ _)))
    (funext fun d => (pay3_at _ _ _).trans ((ld1 _ _ _).trans (mod_at m c t _ _)))

theorem final12 (c : Dev nD) : (dats m 0 c).arrAt 12 cfg0.N = res m c := by
  refine (dats m 0 c).arrAt_eq_of_covers 12 _ (by decide +kernel) fun t _ y => ?_
  blk_simp
  rw [after0_12]
  exact point12 m c t y

theorem final13 (c : Dev nD) : (dats m 0 c).arrAt 13 cfg0.N = res2 m c := by
  refine (dats m 0 c).arrAt_eq_of_covers 13 _ (by decide +kernel) fun t _ y => ?_
  blk_simp
  rw [after0_13]
  exact point13 m c t y

end Cert.MergeIdeal.Arr

namespace Cert.MergeClaims

open Idealize.ShloMosaic Idealize.ShloMosaic.TcCoe Idealize.SL.Sem
open Cert.MergeReferenceIdeal

theorem out_congr {X X' : FVec Ideal S8192x1024 .f32} {M M' : FVec Ideal S1x6x1024 .f32} {od od' on on' om om' : FVec Ideal S8192x512 .bf16}
    {W W' : FVec Ideal S1024x6816 .bf16} {wd wd' wn wn' wm wm' : FVec Ideal S512x1024 .bf16} {wo wo' : FVec Ideal S1024x1024 .bf16}
    {g g' b b' : FVec Ideal S1024 .f32} (h0 : X = X') (h1 : M = M') (h2 : od = od') (h3 : on = on') (h4 : om = om') (h5 : W = W')
    (h6 : wd = wd') (h7 : wn = wn') (h8 : wm = wm') (h9 : wo = wo') (h10 : g = g') (h11 : b = b') :
    Stages.out X M od on om W wd wn wm wo g b = Stages.out X' M' od' on' om' W' wd' wn' wm' wo' g' b' := by
  subst h0 h1 h2 h3 h4 h5 h6 h7 h8 h9 h10 h11; rfl

theorem handed_congr {X X' : FVec Ideal S8192x1024 .f32} {M M' : FVec Ideal S1x6x1024 .f32} (h0 : X = X') (h1 : M = M') :
    Stages.handed X M = Stages.handed X' M' := by
  subst h0 h1; rfl

/-- The merge's claim: the kernel's two results are the reference's. -/
theorem value : @Cert.algebraic_MergeIdeal_MergeReferenceIdeal Cert.MergeIdeal.Gen.facts Cert.MergeReferenceIdeal.Gen.facts := by
  intro m g m' g' _ hagree
  refine ⟨fun c => Cert.MergeIdeal.Arr.res m c, fun c => Cert.MergeIdeal.Arr.res2 m c, ?_, ?_⟩
  · refine (θ_run Cert.MergeIdeal.defs _ _).mono (fun r h c => ?_) (Cert.MergeIdeal.Run.run_blocks m g)
    obtain ⟨h0, h1, ha⟩ := h c
    exact ⟨h0.trans (Cert.MergeIdeal.Arr.final12 m c), h1.trans (Cert.MergeIdeal.Arr.final13 m c), ha⟩
  · refine (θ_run Cert.MergeReferenceIdeal.defs _ _).mono (fun r h c => ?_) (Cert.MergeReferenceIdeal.Value.run m' g')
    obtain ⟨h0, h1, ha⟩ := h c
    obtain ⟨a0, a1, a2, a3, a4, a5, a6, a7, a8, a9, a10, a11⟩ := hagree c
    have e := out_congr a0 a1 a2 a3 a4 a5 a6 a7 a8 a9 a10 a11
    exact ⟨h0.trans ((Cert.MergeReferenceIdeal.Stages.res_eq87 m' c).trans e),
      h1.trans ((Cert.MergeReferenceIdeal.Stages.res_eq96 m' c).trans (handed_congr e a1)), ha⟩

end Cert.MergeClaims

end
-- ==== Proof.CombineKer.lean ====
module

public import proofs.«01_k».proof.Proof.Gen.CombineIdeal.Value
public import proofs.«01_k».proof.Proof.Rows
public import Idealize.ShloMosaic.Lib.Pointwise

@[expose] public section

set_option maxRecDepth 16384

noncomputable section

/-! The combination's values of one block read at an index. -/
namespace Cert.CombineIdeal.Blk

open Cert.CombineIdeal Cert.CombineIdeal.Gen
open Idealize.ShloMosaic Idealize.ShloMosaic.TcCoe Idealize.SL.Sem
open Cert.InputsReferenceIdeal.Stages (dotp)
open Cert.Rows

theorem lo_word (w : BitVec 32) : Ideal.ofBits .f32 (IntOp.shli ArithUnit.vector w 16#32) = num 0 w := num_lo w
theorem hi_word (w : BitVec 32) : Ideal.ofBits .f32 (IntOp.andi w 4294901760#32) = num 1 w := num_hi w

/-- Three of the experts' outputs, weighted: the first half's columns. -/
theorem pay1_lo (T : Vec Ideal S512x128 .f32) (a b c : Vec Ideal S1x512x512 .i32) (i : Fin 512) (j : Fin 512) :
    k0_pay1 T a b c (ix2 i ⟨j, by omega⟩)
      = T (ix2 i 0) * num 0 (a (ix3 0 i j)) + T (ix2 i 1) * num 0 (b (ix3 0 i j)) + T (ix2 i 2) * num 0 (c (ix3 0 i j)) := by
  rw [← lo_word, ← lo_word, ← lo_word]
  pointwise [k0_pay1]
theorem pay1_hi (T : Vec Ideal S512x128 .f32) (a b c : Vec Ideal S1x512x512 .i32) (i : Fin 512) (j : Fin 512) :
    k0_pay1 T a b c (ix2 i ⟨512 + j, by omega⟩)
      = T (ix2 i 0) * num 1 (a (ix3 0 i j)) + T (ix2 i 1) * num 1 (b (ix3 0 i j)) + T (ix2 i 2) * num 1 (c (ix3 0 i j)) := by
  rw [← hi_word, ← hi_word, ← hi_word]
  pointwise [k0_pay1]
/-- Three more added to the running sum. -/
theorem pay3_lo (T : Vec Ideal S512x128 .f32) (s : FVec Ideal S512x1024 .f32) (w : FVec Ideal S512x1 .f32) (a b c : Vec Ideal S1x512x512 .i32)
    (i : Fin 512) (j : Fin 512) :
    k0_pay3 T s w a b c (ix2 i ⟨j, by omega⟩)
      = s (ix2 i ⟨j, by omega⟩) + w (ix2 i 0) * num 0 (a (ix3 0 i j)) + T (ix2 i 4) * num 0 (b (ix3 0 i j)) + T (ix2 i 5) * num 0 (c (ix3 0 i j)) := by
  rw [← lo_word, ← lo_word, ← lo_word]
  pointwise [k0_pay3]
theorem pay3_hi (T : Vec Ideal S512x128 .f32) (s : FVec Ideal S512x1024 .f32) (w : FVec Ideal S512x1 .f32) (a b c : Vec Ideal S1x512x512 .i32)
    (i : Fin 512) (j : Fin 512) :
    k0_pay3 T s w a b c (ix2 i ⟨512 + j, by omega⟩)
      = s (ix2 i ⟨512 + j, by omega⟩) + w (ix2 i 0) * num 1 (a (ix3 0 i j)) + T (ix2 i 4) * num 1 (b (ix3 0 i j)) + T (ix2 i 5) * num 1 (c (ix3 0 i j)) := by
  rw [← hi_word, ← hi_word, ← hi_word]
  pointwise [k0_pay3]
/-- The last two. -/
theorem pay7_lo (T : Vec Ideal S512x128 .f32) (s : FVec Ideal S512x1024 .f32) (w : FVec Ideal S512x1 .f32) (a b : Vec Ideal S1x512x512 .i32)
    (i : Fin 512) (j : Fin 512) :
    k0_pay7 T s w (k0_pay5 a) (k0_pay6 a) b (ix2 i ⟨j, by omega⟩)
      = s (ix2 i ⟨j, by omega⟩) + w (ix2 i 0) * num 0 (a (ix3 0 i j)) + T (ix2 i 7) * num 0 (b (ix3 0 i j)) := by
  rw [← lo_word, ← lo_word]
  pointwise [k0_pay7, k0_pay5, k0_pay6]
theorem pay7_hi (T : Vec Ideal S512x128 .f32) (s : FVec Ideal S512x1024 .f32) (w : FVec Ideal S512x1 .f32) (a b : Vec Ideal S1x512x512 .i32)
    (i : Fin 512) (j : Fin 512) :
    k0_pay7 T s w (k0_pay5 a) (k0_pay6 a) b (ix2 i ⟨512 + j, by omega⟩)
      = s (ix2 i ⟨512 + j, by omega⟩) + w (ix2 i 0) * num 1 (a (ix3 0 i j)) + T (ix2 i 7) * num 1 (b (ix3 0 i j)) := by
  rw [← hi_word, ← hi_word]
  pointwise [k0_pay7, k0_pay5, k0_pay6]
theorem pay2_at (T : Vec Ideal S512x128 .f32) (i : Fin 512) : k0_pay2 T (ix2 i 0) = T (ix2 i 3) := by
  pointwise [k0_pay2]
theorem pay4_at (T : Vec Ideal S512x128 .f32) (i : Fin 512) : k0_pay4 T (ix2 i 0) = T (ix2 i 6) := by
  pointwise [k0_pay4]

theorem pay8_lo (H : Vec Ideal S512x512 .i32) (i : Fin 512) (j : Fin 512) :
    k0_pay8 H (ix2 i ⟨j, by omega⟩) = num 0 (H (ix2 i j)) := by
  rw [← lo_word]
  pointwise [k0_pay8]
theorem pay8_hi (H : Vec Ideal S512x512 .i32) (i : Fin 512) (j : Fin 512) :
    k0_pay8 H (ix2 i ⟨512 + j, by omega⟩) = num 1 (H (ix2 i j)) := by
  rw [← hi_word]
  pointwise [k0_pay8]

theorem pay9_at (H : Vec Ideal S512x512 .i32) (W : Vec Ideal S1024x256 .bf16) (i : Fin 512) (f : Fin 256) :
    k0_pay9 H W (ix2 i f) = dotp (fun k => k0_pay8 H (ix2 i k)) (fun k => W (ix2 k f))
      * sigm (dotp (fun k => k0_pay8 H (ix2 i k)) (fun k => W (ix2 k f))) := by
  unfold k0_pay9 sigm
  rw [← zero_sub_f32]
  generalize k0_pay8 H = h
  pointwise [dotp]

theorem pay10_at (r : FVec Ideal S512x1024 .f32) (h : FVec Ideal S512x1024 .bf16) (s : FVec Ideal S512x256 .f32) (U : Vec Ideal S1024x256 .bf16)
    (D : Vec Ideal S256x1024 .bf16) (M : Vec Ideal S1x6x1024 .f32) (X : Vec Ideal S512x1024 .f32) (g b : Vec Ideal S1x1024 .f32)
    (i : Fin 512) (d : Fin 1024) :
    k0_pay10 r h s U (constant S512x256 .f32 0x00000000#32) D M X g b (ix2 i d)
      = scaled (cen (resid (fun d => X (ix2 i d)) (fun d => M (ix3 0 5 d))
          (fun d => r (ix2 i d) + dotp (fun f => s (ix2 i f) * dotp (fun k => h (ix2 i k)) (fun k => U (ix2 k f))) (fun f => D (ix2 f d)))))
          (fun d => g (ix2 0 d)) (fun d => b (ix2 0 d)) d := by
  pointwise [k0_pay10, scaled, cen, resid, mean, dotp]

/-! A load is the block, or one of its eight slices. -/
theorem ld0 (B : Vec Ideal S512x128 .f32) (a : Fin 512) (b : Fin 128) : View.ld B r0_0 (ix2 a b) = B (ix2 a b) := by pointwise
theorem ld1 (B : Vec Ideal S8x512x512 .i32) (a b : Fin 512) : View.ld B r0_1 (ix3 0 a b) = B (ix3 0 a b) := by pointwise
theorem ld2 (B : Vec Ideal S8x512x512 .i32) (a b : Fin 512) : View.ld B r0_2 (ix3 0 a b) = B (ix3 1 a b) := by pointwise
theorem ld3 (B : Vec Ideal S8x512x512 .i32) (a b : Fin 512) : View.ld B r0_3 (ix3 0 a b) = B (ix3 2 a b) := by pointwise
theorem ld4 (B : Vec Ideal S8x512x512 .i32) (a b : Fin 512) : View.ld B r0_4 (ix3 0 a b) = B (ix3 3 a b) := by pointwise
theorem ld5 (B : Vec Ideal S8x512x512 .i32) (a b : Fin 512) : View.ld B r0_5 (ix3 0 a b) = B (ix3 4 a b) := by pointwise
theorem ld6 (B : Vec Ideal S8x512x512 .i32) (a b : Fin 512) : View.ld B r0_6 (ix3 0 a b) = B (ix3 5 a b) := by pointwise
theorem ld7 (B : Vec Ideal S8x512x512 .i32) (a b : Fin 512) : View.ld B r0_7 (ix3 0 a b) = B (ix3 6 a b) := by pointwise
theorem ld8 (B : Vec Ideal S8x512x512 .i32) (a b : Fin 512) : View.ld B r0_8 (ix3 0 a b) = B (ix3 7 a b) := by pointwise
theorem ld9 (B : Vec Ideal S512x512 .i32) (a b : Fin 512) : View.ld B r0_9 (ix2 a b) = B (ix2 a b) := by pointwise
theorem ld10 (B : Vec Ideal S1024x256 .bf16) (a : Fin 1024) (b : Fin 256) : View.ld B r0_10 (ix2 a b) = B (ix2 a b) := by pointwise
theorem ld11 (B : Vec Ideal S256x1024 .bf16) (a : Fin 256) (b : Fin 1024) : View.ld B r0_11 (ix2 a b) = B (ix2 a b) := by pointwise
theorem ld12 (B : Vec Ideal S1x6x1024 .f32) (a : Fin 6) (b : Fin 1024) : View.ld B r0_12 (ix3 0 a b) = B (ix3 0 a b) := by pointwise
theorem ld13 (B : Vec Ideal S512x1024 .f32) (a : Fin 512) (b : Fin 1024) : View.ld B r0_13 (ix2 a b) = B (ix2 a b) := by pointwise
theorem ld14 (B : Vec Ideal S1x1024 .f32) (b : Fin 1024) : View.ld B r0_14 (ix2 0 b) = B (ix2 0 b) := by pointwise

end Cert.CombineIdeal.Blk

end
-- ==== Proof.CombineRef.lean ====
module

public import proofs.«01_k».proof.Proof.Gen.CombineReferenceIdeal.Run
public import proofs.«01_k».proof.Proof.Rows
public import Idealize.ShloMosaic.Lib.BitcastConvert
public import Idealize.ShloMosaic.Lib.Pipeline.ValueKit
public import Idealize.ShloMosaic.Lib.Pointwise

@[expose] public section

set_option maxRecDepth 16384

noncomputable section

/-! The combination's reference, its arrays read at an index. -/
namespace Cert.CombineReferenceIdeal.Stages

open Cert.CombineReferenceIdeal Cert.CombineReferenceIdeal.Gen
open Idealize.ShloMosaic Idealize.ShloMosaic.TcCoe Idealize.SL.Sem
open Cert.InputsReferenceIdeal.Stages (dotp)
open Cert.Rows

/-- The tokens' numbers from their words. -/
def words2 (H : IVec S8192x512 32) : FVec Ideal S8192x1024 .f32 :=
  (extf .f32 (concatenate S8192x1024 1 [⟨S8192x512, (shapeCast _ (extractStridedSlice S8192x512x1 ![0, 0, 0] (bitcastToFloat (F := Ideal) .bf16 (Host.bitcastConvertNarrow S8192x512x2 16 H splits_S8192x512_w32_S8192x512x2_w16)) slices_S8192x512x2_S8192x512x1_0_0_0) shapeCasts_S8192x512x1_S8192x512)⟩, ⟨S8192x512, (shapeCast _ (extractStridedSlice S8192x512x1 ![0, 0, 1] (bitcastToFloat (F := Ideal) .bf16 (Host.bitcastConvertNarrow S8192x512x2 16 H splits_S8192x512_w32_S8192x512x2_w16)) slices_S8192x512x2_S8192x512x1_0_0_1) shapeCasts_S8192x512x1_S8192x512)⟩] concatenates_S8192x512_S8192x512_S8192x1024_d1) bitsLt_bf16_f32)

/-- The experts' numbers from their words. -/
def words3 (Y : IVec S8x8192x512 32) : FVec Ideal S8x8192x1024 .f32 :=
  (extf .f32 (concatenate S8x8192x1024 2 [⟨S8x8192x512, (shapeCast _ (extractStridedSlice S8x8192x512x1 ![0, 0, 0, 0] (bitcastToFloat (F := Ideal) .bf16 (Host.bitcastConvertNarrow S8x8192x512x2 16 Y splits_S8x8192x512_w32_S8x8192x512x2_w16)) slices_S8x8192x512x2_S8x8192x512x1_0_0_0_0) shapeCasts_S8x8192x512x1_S8x8192x512)⟩, ⟨S8x8192x512, (shapeCast _ (extractStridedSlice S8x8192x512x1 ![0, 0, 0, 1] (bitcastToFloat (F := Ideal) .bf16 (Host.bitcastConvertNarrow S8x8192x512x2 16 Y splits_S8x8192x512_w32_S8x8192x512x2_w16)) slices_S8x8192x512x2_S8x8192x512x1_0_0_0_1) shapeCasts_S8x8192x512x1_S8x8192x512)⟩] concatenates_S8x8192x512_S8x8192x512_S8x8192x1024_d2) bitsLt_bf16_f32)

/-- The eight experts' outputs of every token, weighted and summed. -/
def routed (T : FVec Ideal S8192x128 .f32) (Y : FVec Ideal S8x8192x1024 .f32) : FVec Ideal S8192x1024 .f32 :=
  (Host.reduceAdd (mulf (broadcastInDim S8x8192x1024 ![0, 1, 2] bcast_S8x8192x1_S8x8192x1024_0_1_2 (broadcastInDim S8x8192x1 ![0, 1] bcast_S8x8192_S8x8192x1_0_1 (transpose S8x8192 [1, 0] (extractStridedSlice S8192x8 ![0, 0] T slices_S8192x128_S8192x8_0_0) transposes_S8192x8_S8x8192_1_0))) Y) (constant S_ .f32 0x00000000#32) reducesTo_S8x8192x1024_S8192x1024_d0 h_S_)

/-- The product with one of the shared expert's first two weights. -/
def hidden (H : FVec Ideal S8192x1024 .f32) (W : FVec Ideal S1024x256 .bf16) : FVec Ideal S8192x256 .f32 :=
  (Host.dotGeneral dot_S8192x1024_S1024x256_S8192x256_1_0_0_1_n_n none H (extf .f32 W bitsLt_bf16_f32))

/-- The shared expert's output, from its two first products. -/
def shared (G U : FVec Ideal S8192x256 .f32) (W : FVec Ideal S256x1024 .bf16) : FVec Ideal S8192x1024 .f32 :=
  (Host.dotGeneral dot_S8192x256_S256x1024_S8192x1024_1_0_0_1_n_n none (mulf (mulf G (Host.divf (broadcastInDim S8192x256 ![] bcast_S_S8192x256 (constant S_ .f32 0x3F800000#32)) (addf (broadcastInDim S8192x256 ![] bcast_S_S8192x256 (constant S_ .f32 0x3F800000#32)) (Host.exp (Host.negf G))))) U) (extf .f32 W bitsLt_bf16_f32))

/-- The residual rows. -/
def residual (X : FVec Ideal S8192x1024 .f32) (M : FVec Ideal S1x6x1024 .f32) (O : FVec Ideal S8192x1024 .f32) : FVec Ideal S8192x1024 .f32 :=
  (addf (mulf (broadcastInDim S8192x1024 ![] bcast_S_S8192x1024 (constant S_ .f32 0x3FB504F3#32)) X) (mulf (broadcastInDim S8192x1024 ![0, 1] bcast_S1x1024_S8192x1024_0_1 (broadcastInDim S1x1024 ![1] bcast_S1024_S1x1024_1 (shapeCast _ (extractStridedSlice S1x1x1024 ![0, 5, 0] M slices_S1x6x1024_S1x1x1024_0_5_0) shapeCasts_S1x1x1024_S1024))) O))

/-- Rows less their means. -/
def centred (Y : FVec Ideal S8192x1024 .f32) : FVec Ideal S8192x1024 .f32 :=
  (subf Y (broadcastInDim S8192x1024 ![0, 1] bcast_S8192x1_S8192x1024_0_1 (Host.divf (broadcastInDim S8192x1 ![0] bcast_S8192_S8192x1_0 (Host.reduceAdd Y (constant S_ .f32 0x00000000#32) reducesTo_S8192x1024_S8192_d1 h_S_)) (broadcastInDim S8192x1 ![] bcast_S_S8192x1 (constant S_ .f32 0x44800000#32)))))

/-- Centred rows divided by their standard deviations, times the gain, plus the bias. -/
def normed (Z : FVec Ideal S8192x1024 .f32) (g b : FVec Ideal S1024 .f32) : FVec Ideal S8192x1024 .f32 :=
  addf (mulf (mulf Z (broadcastInDim S8192x1024 ![0, 1] bcast_S8192x1_S8192x1024_0_1 (Host.rsqrt (addf (Host.divf (broadcastInDim S8192x1 ![0] bcast_S8192_S8192x1_0 (Host.reduceAdd (mulf Z Z) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 g))) (broadcastInDim S8192x1024 ![0, 1] bcast_S1x1024_S8192x1024_0_1 (broadcastInDim S1x1024 ![1] bcast_S1024_S1x1024_1 b))

/-- The word a half belongs to. -/
theorem drop2 (r : Fin 8192) (j : Fin 512) (p : Fin 2) : splits_S8192x512_w32_S8192x512x2_w16.drop (ix3 r j p) = ix2 r j := by
  funext a
  fin_cases a <;> rfl
theorem drop3 (k : Fin 8) (r : Fin 8192) (j : Fin 512) (p : Fin 2) :
    splits_S8x8192x512_w32_S8x8192x512x2_w16.drop (ix4 k r j p) = ix3 k r j := by
  funext a
  fin_cases a <;> rfl

theorem words2_lo (H : IVec S8192x512 32) (r : Fin 8192) (j : Fin 512) : words2 H (ix2 r ⟨j, by omega⟩) = num 0 (H (ix2 r j)) := by
  pointwise [words2, num]
  rw [drop2]
theorem words2_hi (H : IVec S8192x512 32) (r : Fin 8192) (j : Fin 512) : words2 H (ix2 r ⟨512 + j, by omega⟩) = num 1 (H (ix2 r j)) := by
  pointwise [words2, num]
  rw [drop2]
theorem words3_lo (Y : IVec S8x8192x512 32) (k : Fin 8) (r : Fin 8192) (j : Fin 512) :
    words3 Y (ix3 k r ⟨j, by omega⟩) = num 0 (Y (ix3 k r j)) := by
  pointwise [words3, num]
  rw [drop3]
theorem words3_hi (Y : IVec S8x8192x512 32) (k : Fin 8) (r : Fin 8192) (j : Fin 512) :
    words3 Y (ix3 k r ⟨512 + j, by omega⟩) = num 1 (Y (ix3 k r j)) := by
  pointwise [words3, num]
  rw [drop3]

/-- One entry of the weighted sum of the eight experts' outputs. -/
def wsum (T : FVec Ideal S8192x128 .f32) (Y : FVec Ideal S8x8192x1024 .f32) (r : Fin 8192) (d : Fin 1024) : EReal :=
  ∑ k : Fin 8, T (ix2 r ⟨k, by omega⟩) * Y (ix3 k r d)

theorem routed_at (T : FVec Ideal S8192x128 .f32) (Y : FVec Ideal S8x8192x1024 .f32) (r : Fin 8192) (d : Fin 1024) :
    routed T Y (ix2 r d) = wsum T Y r d := by
  pointwise [routed, wsum]

theorem hidden_at (H : FVec Ideal S8192x1024 .f32) (W : FVec Ideal S1024x256 .bf16) (r : Fin 8192) (f : Fin 256) :
    hidden H W (ix2 r f) = dotp (fun k => H (ix2 r k)) (fun k => W (ix2 k f)) := by
  pointwise [hidden, dotp]

theorem shared_at (G U : FVec Ideal S8192x256 .f32) (W : FVec Ideal S256x1024 .bf16) (r : Fin 8192) (d : Fin 1024) :
    shared G U W (ix2 r d) = dotp (fun f => G (ix2 r f) * sigm (G (ix2 r f)) * U (ix2 r f)) (fun f => W (ix2 f d)) := by
  pointwise [shared, dotp, sigm]

theorem residual_at (X : FVec Ideal S8192x1024 .f32) (M : FVec Ideal S1x6x1024 .f32) (O : FVec Ideal S8192x1024 .f32) (r : Fin 8192) (d : Fin 1024) :
    residual X M O (ix2 r d) = resid (fun d => X (ix2 r d)) (fun d => M (ix3 0 5 d)) (fun d => O (ix2 r d)) d := by
  pointwise [residual, resid]

theorem centred_at (Y : FVec Ideal S8192x1024 .f32) (r : Fin 8192) (d : Fin 1024) :
    centred Y (ix2 r d) = cen (fun d => Y (ix2 r d)) d := by
  pointwise [centred, cen, mean]

theorem normed_at (Z : FVec Ideal S8192x1024 .f32) (g b : FVec Ideal S1024 .f32) (r : Fin 8192) (d : Fin 1024) :
    normed Z g b (ix2 r d) = scaled (fun d => Z (ix2 r d)) (fun d => g (ix1 d)) (fun d => b (ix1 d)) d := by
  pointwise [normed, scaled]

variable (m : (ℓ : Loc nD τ sig) → Buf (Elt Ideal) ℓ)

/-- The reference's result, of the arguments. -/
def out (Y : IVec S8x8192x512 32) (H : IVec S8192x512 32) (T : FVec Ideal S8192x128 .f32) (X : FVec Ideal S8192x1024 .f32)
    (M : FVec Ideal S1x6x1024 .f32) (wg wu : FVec Ideal S1024x256 .bf16) (wd : FVec Ideal S256x1024 .bf16) (g b : FVec Ideal S1024 .f32) :
    FVec Ideal S8192x1024 .f32 :=
  normed (centred (residual X M (addf (routed T (words3 Y)) (shared (hidden (words2 H) wg) (hidden (words2 H) wu) wd)))) g b

theorem out_at (Y : IVec S8x8192x512 32) (H : IVec S8192x512 32) (T : FVec Ideal S8192x128 .f32) (X : FVec Ideal S8192x1024 .f32)
    (M : FVec Ideal S1x6x1024 .f32) (wg wu : FVec Ideal S1024x256 .bf16) (wd : FVec Ideal S256x1024 .bf16) (g b : FVec Ideal S1024 .f32)
    (r : Fin 8192) (d : Fin 1024) :
    out Y H T X M wg wu wd g b (ix2 r d)
      = scaled (cen (resid (fun d => X (ix2 r d)) (fun d => M (ix3 0 5 d))
          (fun d => wsum T (words3 Y) r d
            + dotp (fun f => dotp (fun k => words2 H (ix2 r k)) (fun k => wg (ix2 k f)) * sigm (dotp (fun k => words2 H (ix2 r k)) (fun k => wg (ix2 k f)))
                * dotp (fun k => words2 H (ix2 r k)) (fun k => wu (ix2 k f))) (fun f => wd (ix2 f d)))))
          (fun d => g (ix1 d)) (fun d => b (ix1 d)) d := by
  unfold out
  refine (normed_at _ _ _ _ _).trans (congrArg (fun z => scaled z _ _ d) (funext fun d => ?_))
  refine (centred_at _ _ _).trans (congrArg (fun z => cen z d) (funext fun d => ?_))
  refine (residual_at _ _ _ _ _).trans (congrArg (fun z => resid _ _ z d) (funext fun d => ?_))
  refine congrArg₂ (· + ·) (routed_at _ _ _ _) ((shared_at _ _ _ _ _).trans ?_)
  refine congrArg (fun z => dotp z _) (funext fun f => ?_)
  rw [hidden_at, hidden_at]

theorem res_eq (c : Dev nD) : Cert.CombineReferenceIdeal.Value.res_main_v60 m c
    = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := by
  unfold Cert.CombineReferenceIdeal.Value.res_main_v60
  rfl

end Cert.CombineReferenceIdeal.Stages

end
-- ==== Proof.CombineValue.lean ====
module

public import proofs.«01_k».proof.Proof.CombineKer
public import proofs.«01_k».proof.Proof.CombineRef
public import proofs.«01_k».proof.Proof.CombineA
public import proofs.«01_k».proof.Defs
public import Idealize.ShloMosaic.Lib.Claim

@[expose] public section

set_option maxRecDepth 16384

noncomputable section

/-! The combination's result array is the reference's. -/
namespace Cert.CombineIdeal.Arr

open Cert.CombineIdeal Cert.CombineIdeal.Gen Cert.CombineIdeal.Blk
open Idealize.ShloMosaic Idealize.ShloMosaic.TcCoe Idealize.SL.Sem
open Cert.InputsReferenceIdeal.Stages (dotp)
open Cert.Rows
open Cert.CombineReferenceIdeal.Stages (words2 words3 words2_lo words2_hi words3_lo words3_hi wsum out out_at)

variable (m : (ℓ : Loc nD τ sig) → Buf (Elt Ideal) ℓ)

/-- The blocks a grid point stages. -/
theorem idx_val : ∀ t : Fin cfg0.N, win0_0.index t = ![0, t.val, 0] ∧ win0_1.index t = ![t.val, 0]
    ∧ win0_2.index t = ![t.val, 0] ∧ win0_3.index t = ![t.val, 0] ∧ win0_4.index t = ![0, 0, 0] ∧ win0_5.index t = ![0, 0]
    ∧ win0_6.index t = ![0, 0] ∧ win0_7.index t = ![0, 0] ∧ win0_8.index t = ![0, 0] ∧ win0_9.index t = ![0, 0]
    ∧ win0_10.index t = ![t.val, 0] :=
  (by decide +kernel : ∀ t : Fin grid0.N, _)

/-- The gain and the bias as the host lays them out. -/
theorem V_v0 (c : Dev nD) : V m c main_v0 = shapeCast S1x1024 (m ((c : Thread nD τ).loc main_arg8)) shapeCasts_S1024_S1x1024 := by
  unfold V; after_results; try rfl
theorem V_v1 (c : Dev nD) : V m c main_v1 = shapeCast S1x1024 (m ((c : Thread nD τ).loc main_arg9)) shapeCasts_S1024_S1x1024 := by
  unfold V; after_results; try rfl

/-! A block at an index. -/
theorem y_at (c : Dev nD) (t : Fin cfg0.N) (ht : t.val < 16) (k : Fin 8) (i j : Fin 512) :
    iblk m c 0 t (ix3 k i j) = m ((c : Thread nD τ).loc main_arg0) (ix3 k ⟨t.val * 512 + i, by omega⟩ j) := by
  blk_ext [iblk, V, idx_val t]
theorem h_at (c : Dev nD) (t : Fin cfg0.N) (ht : t.val < 16) (i j : Fin 512) :
    iblk m c 1 t (ix2 i j) = m ((c : Thread nD τ).loc main_arg1) (ix2 ⟨t.val * 512 + i, by omega⟩ j) := by
  blk_ext [iblk, V, idx_val t]
theorem t_at (c : Dev nD) (t : Fin cfg0.N) (ht : t.val < 16) (i : Fin 512) (j : Fin 128) :
    iblk m c 2 t (ix2 i j) = m ((c : Thread nD τ).loc main_arg2) (ix2 ⟨t.val * 512 + i, by omega⟩ j) := by
  blk_ext [iblk, V, idx_val t]
theorem x_at (c : Dev nD) (t : Fin cfg0.N) (ht : t.val < 16) (i : Fin 512) (j : Fin 1024) :
    iblk m c 3 t (ix2 i j) = m ((c : Thread nD τ).loc main_arg3) (ix2 ⟨t.val * 512 + i, by omega⟩ j) := by
  blk_ext [iblk, V, idx_val t]
theorem mod_at (c : Dev nD) (t : Fin cfg0.N) (a : Fin 6) (k : Fin 1024) :
    iblk m c 4 t (ix3 0 a k) = m ((c : Thread nD τ).loc main_arg4) (ix3 0 a k) := by
  blk_ext [iblk, V, idx_val t]
theorem wg_at (c : Dev nD) (t : Fin cfg0.N) (k : Fin 1024) (f : Fin 256) :
    iblk m c 5 t (ix2 k f) = m ((c : Thread nD τ).loc main_arg5) (ix2 k f) := by
  blk_ext [iblk, V, idx_val t]
theorem wu_at (c : Dev nD) (t : Fin cfg0.N) (k : Fin 1024) (f : Fin 256) :
    iblk m c 6 t (ix2 k f) = m ((c : Thread nD τ).loc main_arg6) (ix2 k f) := by
  blk_ext [iblk, V, idx_val t]
theorem wd_at (c : Dev nD) (t : Fin cfg0.N) (f : Fin 256) (d : Fin 1024) :
    iblk m c 7 t (ix2 f d) = m ((c : Thread nD τ).loc main_arg7) (ix2 f d) := by
  blk_ext [iblk, V, idx_val t]
theorem g_at (c : Dev nD) (t : Fin cfg0.N) (d : Fin 1024) :
    iblk m c 8 t (ix2 0 d) = m ((c : Thread nD τ).loc main_arg8) (ix1 d) := by
  blk_simp [iblk]
  rw [V_v0]
  pointwise
  blk_ext [idx_val t]
theorem b_at (c : Dev nD) (t : Fin cfg0.N) (d : Fin 1024) :
    iblk m c 9 t (ix2 0 d) = m ((c : Thread nD τ).loc main_arg9) (ix1 d) := by
  blk_simp [iblk]
  rw [V_v1]
  pointwise
  blk_ext [idx_val t]

/-- A column is one of the first 512 or one of the last. -/
theorem halves (d : Fin 1024) : (∃ j : Fin 512, d = ⟨j, by omega⟩) ∨ ∃ j : Fin 512, d = ⟨512 + j, by omega⟩ := by
  rcases Nat.lt_or_ge d.val 512 with h | h
  · exact Or.inl ⟨⟨d, h⟩, rfl⟩
  · exact Or.inr ⟨⟨d - 512, by omega⟩, Fin.ext (by show (d : ℕ) = 512 + (d - 512); omega)⟩

/-- The block's tokens are the reference's. -/
theorem tok_at (c : Dev nD) (t : Fin cfg0.N) (ht : t.val < 16) (i : Fin 512) (k : Fin 1024) :
    k0_pay8 (View.ld (iblk m c 1 t) r0_9) (ix2 i k) = words2 (m ((c : Thread nD τ).loc main_arg1)) (ix2 ⟨t.val * 512 + i, by omega⟩ k) := by
  rcases halves k with ⟨j, rfl⟩ | ⟨j, rfl⟩
  · rw [words2_lo]
    exact (pay8_lo _ _ _).trans (congrArg (num 0) ((ld9 _ _ _).trans (h_at m c t ht _ _)))
  · rw [words2_hi]
    exact (pay8_hi _ _ _).trans (congrArg (num 1) ((ld9 _ _ _).trans (h_at m c t ht _ _)))

/-- The weighted sum of the eight experts' outputs is the reference's. -/
theorem routed_blk (c : Dev nD) (t : Fin cfg0.N) (ht : t.val < 16) (i : Fin 512) (d : Fin 1024) :
    k0_pay7 (View.ld (iblk m c 2 t) r0_0) (k0_pay3 (View.ld (iblk m c 2 t) r0_0) (k0_pay1 (View.ld (iblk m c 2 t) r0_0) (View.ld (iblk m c 0 t) r0_1) (View.ld (iblk m c 0 t) r0_2) (View.ld (iblk m c 0 t) r0_3)) (k0_pay2 (View.ld (iblk m c 2 t) r0_0)) (View.ld (iblk m c 0 t) r0_4) (View.ld (iblk m c 0 t) r0_5) (View.ld (iblk m c 0 t) r0_6)) (k0_pay4 (View.ld (iblk m c 2 t) r0_0)) (k0_pay5 (View.ld (iblk m c 0 t) r0_7)) (k0_pay6 (View.ld (iblk m c 0 t) r0_7)) (View.ld (iblk m c 0 t) r0_8) (ix2 i d)
      = wsum (m ((c : Thread nD τ).loc main_arg2)) (words3 (m ((c : Thread nD τ).loc main_arg0))) ⟨t.val * 512 + i, by omega⟩ d := by
  unfold wsum
  have ht' : ∀ k : Fin 128, View.ld (iblk m c 2 t) r0_0 (ix2 i k) = m ((c : Thread nD τ).loc main_arg2) (ix2 ⟨t.val * 512 + i, by omega⟩ k) :=
    fun k => (ld0 _ _ _).trans (t_at m c t ht _ _)
  have l1 : ∀ j : Fin 512, View.ld (iblk m c 0 t) r0_1 (ix3 0 i j) = m ((c : Thread nD τ).loc main_arg0) (ix3 0 ⟨t.val * 512 + i, by omega⟩ j) :=
    fun j => (ld1 _ _ _).trans (y_at m c t ht _ _ _)
  have l2 : ∀ j : Fin 512, View.ld (iblk m c 0 t) r0_2 (ix3 0 i j) = m ((c : Thread nD τ).loc main_arg0) (ix3 1 ⟨t.val * 512 + i, by omega⟩ j) :=
    fun j => (ld2 _ _ _).trans (y_at m c t ht _ _ _)
  have l3 : ∀ j : Fin 512, View.ld (iblk m c 0 t) r0_3 (ix3 0 i j) = m ((c : Thread nD τ).loc main_arg0) (ix3 2 ⟨t.val * 512 + i, by omega⟩ j) :=
    fun j => (ld3 _ _ _).trans (y_at m c t ht _ _ _)
  have l4 : ∀ j : Fin 512, View.ld (iblk m c 0 t) r0_4 (ix3 0 i j) = m ((c : Thread nD τ).loc main_arg0) (ix3 3 ⟨t.val * 512 + i, by omega⟩ j) :=
    fun j => (ld4 _ _ _).trans (y_at m c t ht _ _ _)
  have l5 : ∀ j : Fin 512, View.ld (iblk m c 0 t) r0_5 (ix3 0 i j) = m ((c : Thread nD τ).loc main_arg0) (ix3 4 ⟨t.val * 512 + i, by omega⟩ j) :=
    fun j => (ld5 _ _ _).trans (y_at m c t ht _ _ _)
  have l6 : ∀ j : Fin 512, View.ld (iblk m c 0 t) r0_6 (ix3 0 i j) = m ((c : Thread nD τ).loc main_arg0) (ix3 5 ⟨t.val * 512 + i, by omega⟩ j) :=
    fun j => (ld6 _ _ _).trans (y_at m c t ht _ _ _)
  have l7 : ∀ j : Fin 512, View.ld (iblk m c 0 t) r0_7 (ix3 0 i j) = m ((c : Thread nD τ).loc main_arg0) (ix3 6 ⟨t.val * 512 + i, by omega⟩ j) :=
    fun j => (ld7 _ _ _).trans (y_at m c t ht _ _ _)
  have l8 : ∀ j : Fin 512, View.ld (iblk m c 0 t) r0_8 (ix3 0 i j) = m ((c : Thread nD τ).loc main_arg0) (ix3 7 ⟨t.val * 512 + i, by omega⟩ j) :=
    fun j => (ld8 _ _ _).trans (y_at m c t ht _ _ _)
  rcases halves d with ⟨j, rfl⟩ | ⟨j, rfl⟩
  · simp only [words3_lo]
    rw [pay7_lo, pay3_lo, pay1_lo, pay2_at, pay4_at, Fin.sum_univ_eight]
    simp only [ht', l1, l2, l3, l4, l5, l6, l7, l8]
    rfl
  · simp only [words3_hi]
    rw [pay7_hi, pay3_hi, pay1_hi, pay2_at, pay4_at, Fin.sum_univ_eight]
    simp only [ht', l1, l2, l3, l4, l5, l6, l7, l8]
    rfl

theorem ix_of (j : S8192x1024.Idx) (r : Fin 8192) (k : Fin 1024) (h0 : (j 0 : ℕ) = r) (h1 : (j 1 : ℕ) = k) : j = ix2 r k := by
  funext a
  refine Fin.ext ?_
  match a with
  | 0 => exact h0
  | 1 => exact h1

/-- The reference's result, of core `c`'s arguments. -/
def res (c : Dev nD) : FVec Ideal Cert.CombineReferenceIdeal.S8192x1024 .f32 :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- One block of the result. -/
theorem point (c : Dev nD) (t : Fin cfg0.N) (y : S512x1024.Idx) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) y
      = res m c (((cfg0.win 10).blk t).view.emb y) := by
  have ht : t.val < 16 := lt_of_lt_of_eq t.isLt N_0
  canon_tiles x h
  idx_vars x
  have b0 : (x0 : ℕ) < 512 := x0.isLt
  have b1 : (x1 : ℕ) < 1024 := x1.isLt
  refine Eq.trans ?_ (congrArg (res m c) (ix_of _ ⟨t.val * 512 + x0, by omega⟩ x1 ?_ ?_)).symm
  rotate_left
  · blk_simp [idx_val t]; try (dsimp only; omega)
  · blk_simp [idx_val t]; try (dsimp only; omega)
  refine (pay10_at _ _ _ _ _ _ _ _ _ _ _).trans (Eq.trans ?_ (out_at _ _ _ _ _ _ _ _ _ _ _ _).symm)
  have hd : ∀ (i : Fin 512) (f : Fin 256), dotp (fun k => k0_pay8 (View.ld (iblk m c 1 t) r0_9) (ix2 i k)) (fun k => View.ld (iblk m c 5 t) r0_10 (ix2 k f))
      = dotp (fun k => words2 (m ((c : Thread nD τ).loc main_arg1)) (ix2 ⟨t.val * 512 + i, by omega⟩ k)) (fun k => m ((c : Thread nD τ).loc main_arg5) (ix2 k f)) :=
    fun i f => congrArg₂ dotp (funext fun k => tok_at m c t ht i k) (funext fun k => (ld10 _ _ _).trans (wg_at m c t _ _))
  have hu : ∀ (i : Fin 512) (f : Fin 256), dotp (fun k => k0_pay8 (View.ld (iblk m c 1 t) r0_9) (ix2 i k)) (fun k => View.ld (iblk m c 6 t) r0_10 (ix2 k f))
      = dotp (fun k => words2 (m ((c : Thread nD τ).loc main_arg1)) (ix2 ⟨t.val * 512 + i, by omega⟩ k)) (fun k => m ((c : Thread nD τ).loc main_arg6) (ix2 k f)) :=
    fun i f => congrArg₂ dotp (funext fun k => tok_at m c t ht i k) (funext fun k => (ld10 _ _ _).trans (wu_at m c t _ _))
  have e {z z' g g' b b' : Fin 1024 → EReal} (d : Fin 1024) (h1 : z = z') (h2 : g = g') (h3 : b = b') : scaled z g b d = scaled z' g' b' d := by
    subst h1 h2 h3; rfl
  refine e _ (congrArg cen ?_) (funext fun d => (ld14 _ _).trans (g_at m c t d)) (funext fun d => (ld14 _ _).trans (b_at m c t d))
  have e2 {x x' g g' o o' : Fin 1024 → EReal} (h1 : x = x') (h2 : g = g') (h3 : o = o') : resid x g o = resid x' g' o' := by
    subst h1 h2 h3; rfl
  refine e2 (funext fun d => (ld13 _ _ _).trans (x_at m c t ht _ _)) (funext fun d => (ld12 _ _ _).trans (mod_at m c t _ _)) (funext fun d => ?_)
  refine congrArg₂ (· + ·) (routed_blk m c t ht x0 d) (congrArg₂ dotp (funext fun f => ?_) (funext fun f => (ld11 _ _ _).trans (wd_at m c t _ _)))
  exact congrArg₂ (· * ·) ((pay9_at _ _ _ _).trans (congrArg (fun z => z * sigm z) (hd x0 f))) (hu x0 f)

theorem final (c : Dev nD) : (dats m 0 c).arrAt 10 cfg0.N = res m c := by
  refine (dats m 0 c).arrAt_eq_of_covers 10 _ (by decide +kernel) fun t _ y => ?_
  blk_simp
  rw [after0_10]
  exact point m c t y

end Cert.CombineIdeal.Arr

namespace Cert.CombineClaims

open Idealize.ShloMosaic Idealize.ShloMosaic.TcCoe Idealize.SL.Sem

theorem out_congr {Y Y' : IVec Cert.CombineReferenceIdeal.S8x8192x512 32} {H H' : IVec Cert.CombineReferenceIdeal.S8192x512 32}
    {T T' : FVec Ideal Cert.CombineReferenceIdeal.S8192x128 .f32} {X X' : FVec Ideal Cert.CombineReferenceIdeal.S8192x1024 .f32}
    {M M' : FVec Ideal Cert.CombineReferenceIdeal.S1x6x1024 .f32} {wg wg' wu wu' : FVec Ideal Cert.CombineReferenceIdeal.S1024x256 .bf16}
    {wd wd' : FVec Ideal Cert.CombineReferenceIdeal.S256x1024 .bf16} {g g' b b' : FVec Ideal Cert.CombineReferenceIdeal.S1024 .f32}
    (h0 : Y = Y') (h1 : H = H') (h2 : T = T') (h3 : X = X') (h4 : M = M') (h5 : wg = wg') (h6 : wu = wu') (h7 : wd = wd') (h8 : g = g') (h9 : b = b') :
    Cert.CombineReferenceIdeal.Stages.out Y H T X M wg wu wd g b = Cert.CombineReferenceIdeal.Stages.out Y' H' T' X' M' wg' wu' wd' g' b' := by
  subst h0 h1 h2 h3 h4 h5 h6 h7 h8 h9; rfl

/-- The combination's claim: the kernel's result is the reference's. -/
theorem value : @Cert.algebraic_CombineIdeal_CombineReferenceIdeal Cert.CombineIdeal.Gen.facts Cert.CombineReferenceIdeal.Gen.facts := by
  intro m g m' g' _ hagree
  refine ⟨fun c => Cert.CombineIdeal.Arr.res m c, ?_, ?_⟩
  · refine (θ_run Cert.CombineIdeal.defs _ _).mono (fun r h c => ?_) (Cert.CombineIdeal.Value.run_blocks m g)
    obtain ⟨h0, ha⟩ := h c
    exact ⟨h0.trans (Cert.CombineIdeal.Arr.final m c), ha⟩
  · refine (θ_run Cert.CombineReferenceIdeal.defs _ _).mono (fun r h c => ?_) (Cert.CombineReferenceIdeal.Value.run m' g')
    obtain ⟨h0, ha⟩ := h c
    obtain ⟨a0, a1, a2, a3, a4, a5, a6, a7, a8, a9⟩ := hagree c
    refine ⟨h0.trans ((Cert.CombineReferenceIdeal.Stages.res_eq m' c).trans ?_), ha⟩
    exact out_congr a0 a1 a2 a3 a4 a5 a6 a7 a8 a9

end Cert.CombineClaims

end
-- ==== Proof.InputsRun.lean ====
module

public import proofs.«01_k».proof.Proof.InputsRef

@[expose] public section

set_option maxRecDepth 16384

noncomputable section

/-! The reference's run, its thirteen results by name. -/
namespace Cert.InputsReferenceIdeal.Short

open Cert.InputsReferenceIdeal Cert.InputsReferenceIdeal.Gen Cert.InputsReferenceIdeal.Stages
open Idealize.ShloMosaic Idealize.ShloMosaic.TcCoe Idealize.SL.Sem

variable (m : (ℓ : Loc nD τ sig) → Buf (Elt Ideal) ℓ)

/-- The projection, the normalised latents, the queries, and the keys and values, of core `c`'s arguments. -/
def prj (c : Dev nD) : FVec Ideal S8192x3744 .f32 :=
  projected (modulated (m ((c.tc : Thread nD τ).loc main_arg0)) (m ((c.tc : Thread nD τ).loc main_arg1))) (m ((c.tc : Thread nD τ).loc main_arg2))
def ckv (c : Dev nD) : FVec Ideal S8192x256 .f32 := kvNorm (kvLat (prj m c)) (m ((c.tc : Thread nD τ).loc main_arg4))
def qs (c : Dev nD) : FVec Ideal S8192x768 .f32 :=
  queries (qNorm (qLat (prj m c)) (m ((c.tc : Thread nD τ).loc main_arg3))) (m ((c.tc : Thread nD τ).loc main_arg5))
def kvs (c : Dev nD) : FVec Ideal S8192x1024 .f32 := keyvals (ckv m c) (m ((c.tc : Thread nD τ).loc main_arg6))

/-- Every run ends with each result at its term of the arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v65) = resDq (prj m c)
      ∧ r.2.mem ((c.tc : Thread nD τ).loc main_v66) = resNq (prj m c)
      ∧ r.2.mem ((c.tc : Thread nD τ).loc main_v67) = resQn (qs m c)
      ∧ r.2.mem ((c.tc : Thread nD τ).loc main_v68) = resQr (qs m c)
      ∧ r.2.mem ((c.tc : Thread nD τ).loc main_v69) = four (resKr (prj m c))
      ∧ r.2.mem ((c.tc : Thread nD τ).loc main_v70) = resKn (kvs m c)
      ∧ r.2.mem ((c.tc : Thread nD τ).loc main_v71) = resVn (kvs m c)
      ∧ r.2.mem ((c.tc : Thread nD τ).loc main_v16) = resDk (prj m c)
      ∧ r.2.mem ((c.tc : Thread nD τ).loc main_v17) = resDv (prj m c)
      ∧ r.2.mem ((c.tc : Thread nD τ).loc main_v19) = resNk (prj m c)
      ∧ r.2.mem ((c.tc : Thread nD τ).loc main_v20) = resNv (prj m c)
      ∧ r.2.mem ((c.tc : Thread nD τ).loc main_v57) = ckv m c
      ∧ r.2.mem ((c.tc : Thread nD τ).loc main_v23) = resKr (prj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.InputsReferenceIdeal.Value.run m ρ)
  obtain ⟨h0, h1, h2, h3, h4, h5, h6, h7, h8, h9, h10, h11, h12, ha⟩ := h c
  exact ⟨h0, h1, h2, h3, h4.trans (by unfold Cert.InputsReferenceIdeal.Value.res_main_v69; rfl), h5, h6, h7, h8, h9, h10, h11, h12, ha⟩

end Cert.InputsReferenceIdeal.Short

end
-- ==== Proof.lean ====
module

public import proofs.«01_k».proof.Proof.InputsA
public import proofs.«01_k».proof.Proof.ExpertsA
public import proofs.«01_k».proof.Proof.MergeA
public import proofs.«01_k».proof.Proof.CombineA
public import proofs.«01_k».proof.Proof.LatentA
public import proofs.«01_k».proof.Proof.ContextA
public import proofs.«01_k».proof.Proof.ModulationA
public import proofs.«01_k».proof.Proof.CacheA
public import proofs.«01_k».proof.Proof.TokensA
public import proofs.«01_k».proof.Proof.LatentClaims
public import proofs.«01_k».proof.Proof.ContextClaims
public import proofs.«01_k».proof.Proof.ModulationClaims
public import proofs.«01_k».proof.Proof.CacheClaims
public import proofs.«01_k».proof.Proof.TokensClaims
public import proofs.«01_k».proof.Proof.ExpertsValue
public import proofs.«01_k».proof.Proof.InputsValue
public import proofs.«01_k».proof.Proof.MergeValue
public import proofs.«01_k».proof.Proof.CombineValue
public import proofs.«01_k».proof.Proof.InputsRun
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.Kernel

/-- The predicate's own shape facts. -/
theorem pre_facts : Cert.Pre_finite_scores.Facts :=
  ⟨by decide, ⟨fun i => Fin.elim0 i, fun i => Fin.elim0 i⟩, ⟨fun i => Fin.elim0 i, fun i => Fin.elim0 i⟩⟩

/-- What the predicate says: every query and every key is a real. -/
theorem finite (m : (ℓ : Loc Cert.KernelIdeal.nD Cert.KernelIdeal.τ Cert.KernelIdeal.sig) → Buf (Elt Ideal) ℓ)
    (h : @Cert.Pre_KernelIdeal_finite_scores pre_facts m) (c : Dev Cert.KernelIdeal.nD) :
    (∀ i, ∃ r : ℝ, m ((c : Thread Cert.KernelIdeal.nD Cert.KernelIdeal.τ).loc Cert.KernelIdeal.main_arg0) i = (r : EReal))
    ∧ (∀ i, ∃ r : ℝ, m ((c : Thread Cert.KernelIdeal.nD Cert.KernelIdeal.τ).loc Cert.KernelIdeal.main_arg1) i = (r : EReal))
    ∧ (∀ i, ∃ r : ℝ, m ((c : Thread Cert.KernelIdeal.nD Cert.KernelIdeal.τ).loc Cert.KernelIdeal.main_arg3) i = (r : EReal)) :=
  ⟨fun i => Cert.KernelIdeal.Arr.real_of_abs _ (congrFun (h c).1 i), fun i => Cert.KernelIdeal.Arr.real_of_abs _ (congrFun (h c).2.1 i),
    fun i => Cert.KernelIdeal.Arr.real_of_abs _ (congrFun (h c).2.2 i)⟩

/-- The attention's claim: the kernel's result is the reference's. -/
theorem value : @Cert.algebraic_KernelIdeal_ReferenceIdeal_pre_finite_scores Cert.KernelIdeal.Gen.facts Cert.ReferenceIdeal.Gen.facts pre_facts := by
  pair_intro
  · run_from Cert.KernelIdeal.Value.run_blocks m g
  · run_from Cert.ReferenceIdeal.Value.run m' g'
    obtain ⟨f0, f1, f3⟩ := finite m hpre c
    obtain ⟨a0, a1, a2, a3, a4, a5, a6⟩ := hagree c
    refine Eq.trans ?_ (Cert.KernelIdeal.Arr.final m c f0 f1 f3).symm
    refine (Cert.ReferenceIdeal.Stages.result_eq m' c).trans ?_
    unfold Cert.Row.ref
    rw [← a0, ← a1, ← a2, ← a3, ← a4, ← a5, ← a6]

open Cert.InputsReferenceIdeal.Stages in
/-- The projection's claim: each of the kernel's thirteen results is the reference's. -/
theorem inputs_value : @Cert.algebraic_InputsIdeal_InputsReferenceIdeal Cert.InputsIdeal.Gen.facts Cert.InputsReferenceIdeal.Gen.facts := by
  intro m g m' g' _ hagree
  refine ⟨fun c => resDq (Cert.InputsIdeal.Arr.prj m c),
    fun c => resNq (Cert.InputsIdeal.Arr.prj m c),
    fun c => resQn (Cert.InputsIdeal.Arr.qs m c),
    fun c => resQr (Cert.InputsIdeal.Arr.qs m c),
    fun c => four (resKr (Cert.InputsIdeal.Arr.prj m c)),
    fun c => resKn (Cert.InputsIdeal.Arr.kvs m c),
    fun c => resVn (Cert.InputsIdeal.Arr.kvs m c),
    fun c => resDk (Cert.InputsIdeal.Arr.prj m c),
    fun c => resDv (Cert.InputsIdeal.Arr.prj m c),
    fun c => resNk (Cert.InputsIdeal.Arr.prj m c),
    fun c => resNv (Cert.InputsIdeal.Arr.prj m c),
    fun c => Cert.InputsIdeal.Arr.ckv m c,
    fun c => resKr (Cert.InputsIdeal.Arr.prj m c), ?_, ?_⟩
  · refine (θ_run Cert.InputsIdeal.defs _ _).mono (fun r h c => ?_) (Cert.InputsIdeal.Value.run_blocks m g)
    obtain ⟨h0, h1, h2, h3, h4, h5, h6, h7, h8, h9, h10, h11, h12, ha⟩ := h c
    exact ⟨h0.trans (Cert.InputsIdeal.Arr.final8 m c), h1.trans (Cert.InputsIdeal.Arr.final9 m c), h2.trans (Cert.InputsIdeal.Arr.final10 m c), h3.trans (Cert.InputsIdeal.Arr.final11 m c), h4.trans (Cert.InputsIdeal.Arr.final12 m c), h5.trans (Cert.InputsIdeal.Arr.final13 m c), h6.trans (Cert.InputsIdeal.Arr.final14 m c), h7.trans (Cert.InputsIdeal.Arr.final15 m c), h8.trans (Cert.InputsIdeal.Arr.final16 m c), h9.trans (Cert.InputsIdeal.Arr.final17 m c), h10.trans (Cert.InputsIdeal.Arr.final18 m c), h11.trans (Cert.InputsIdeal.Arr.final19 m c), h12.trans (Cert.InputsIdeal.Arr.final20 m c), ha⟩
  · refine (θ_run Cert.InputsReferenceIdeal.defs _ _).mono (fun r h c => ?_) (Cert.InputsReferenceIdeal.Short.run m' g')
    obtain ⟨h0, h1, h2, h3, h4, h5, h6, h7, h8, h9, h10, h11, h12, ha⟩ := h c
    obtain ⟨a0, a1, a2, a3, a4, a5, a6⟩ := hagree c
    have ep : Cert.InputsReferenceIdeal.Short.prj m' c = Cert.InputsIdeal.Arr.prj m c := by
      unfold Cert.InputsReferenceIdeal.Short.prj Cert.InputsIdeal.Arr.prj
      rw [← a0, ← a1, ← a2]
    have ec : Cert.InputsReferenceIdeal.Short.ckv m' c = Cert.InputsIdeal.Arr.ckv m c := by
      unfold Cert.InputsReferenceIdeal.Short.ckv Cert.InputsIdeal.Arr.ckv
      rw [ep, ← a4]
    have eq : Cert.InputsReferenceIdeal.Short.qs m' c = Cert.InputsIdeal.Arr.qs m c := by
      unfold Cert.InputsReferenceIdeal.Short.qs Cert.InputsIdeal.Arr.qs
      rw [ep, ← a3, ← a5]
    have ek : Cert.InputsReferenceIdeal.Short.kvs m' c = Cert.InputsIdeal.Arr.kvs m c := by
      unfold Cert.InputsReferenceIdeal.Short.kvs Cert.InputsIdeal.Arr.kvs
      rw [ec, ← a6]
    exact ⟨h0.trans (congrArg resDq ep), h1.trans (congrArg resNq ep), h2.trans (congrArg resQn eq), h3.trans (congrArg resQr eq),
      h4.trans (congrArg (fun p => four (resKr p)) ep), h5.trans (congrArg resKn ek), h6.trans (congrArg resVn ek), h7.trans (congrArg resDk ep),
      h8.trans (congrArg resDv ep), h9.trans (congrArg resNk ep), h10.trans (congrArg resNv ep), h11.trans ec, h12.trans (congrArg resKr ep), ha⟩

theorem claim : Cert.Claim := by
  refine ⟨Cert.Kernel.Gen.facts, Cert.KernelIdeal.Gen.facts, Cert.ReferenceIdeal.Gen.facts, Cert.Inputs.Gen.facts, Cert.InputsIdeal.Gen.facts,
    Cert.InputsReferenceIdeal.Gen.facts, Cert.Experts.Gen.facts, Cert.ExpertsIdeal.Gen.facts, Cert.ExpertsReferenceIdeal.Gen.facts,
    Cert.Merge.Gen.facts, Cert.MergeIdeal.Gen.facts, Cert.MergeReferenceIdeal.Gen.facts, Cert.Combine.Gen.facts, Cert.CombineIdeal.Gen.facts,
    Cert.CombineReferenceIdeal.Gen.facts, Cert.Latent.Gen.facts, Cert.LatentIdeal.Gen.facts, Cert.LatentReferenceIdeal.Gen.facts,
    Cert.Context.Gen.facts, Cert.ContextIdeal.Gen.facts, Cert.ContextReferenceIdeal.Gen.facts,
    Cert.Modulation.Gen.facts, Cert.ModulationIdeal.Gen.facts, Cert.ModulationReferenceIdeal.Gen.facts,
    Cert.Cache.Gen.facts, Cert.CacheIdeal.Gen.facts, Cert.CacheReferenceIdeal.Gen.facts,
    Cert.Tokens.Gen.facts, Cert.TokensIdeal.Gen.facts, Cert.TokensReferenceIdeal.Gen.facts,
    pre_facts, Cert.Pre_tiles_named.Gen.facts, Cert.LatentClaims.pre_facts, Cert.ContextClaims.pre_facts,
    fun m ρ _ => Cert.Kernel.Gen.frame m ρ, fun m ρ _ => Cert.KernelIdeal.Gen.frame m ρ, fun m ρ _ => Cert.KernelIdeal.Gen.frame m ρ,
    ?_, ?_, fun m ρ _ => Cert.Inputs.Gen.frame m ρ, fun m ρ _ => Cert.InputsIdeal.Gen.frame m ρ, ?_,
    Cert.ExpertsClaims.kernel_frame, Cert.ExpertsClaims.ideal_frame, Cert.ExpertsClaims.reference_frame,
    fun m ρ _ => Cert.ExpertsClaims.reference_frame m ρ trivial,
    fun m ρ _ => Cert.Merge.Gen.frame m ρ, fun m ρ _ => Cert.MergeIdeal.Gen.frame m ρ, ?_,
    fun m ρ _ => Cert.Combine.Gen.frame m ρ, fun m ρ _ => Cert.CombineIdeal.Gen.frame m ρ, ?_,
    fun m ρ _ => Cert.Latent.Gen.frame m ρ, fun m ρ _ => Cert.LatentIdeal.Gen.frame m ρ, fun m ρ _ => Cert.LatentIdeal.Gen.frame m ρ, ?_, ?_,
    fun m ρ _ => Cert.Context.Gen.frame m ρ, fun m ρ _ => Cert.ContextIdeal.Gen.frame m ρ, fun m ρ _ => Cert.ContextIdeal.Gen.frame m ρ, ?_, ?_,
    fun m ρ _ => Cert.Modulation.Gen.frame m ρ, fun m ρ _ => Cert.ModulationIdeal.Gen.frame m ρ, ?_,
    fun m ρ _ => Cert.Cache.Gen.frame m ρ, fun m ρ _ => Cert.CacheIdeal.Gen.frame m ρ, ?_,
    fun m ρ _ => Cert.Tokens.Gen.frame m ρ, fun m ρ _ => Cert.TokensIdeal.Gen.frame m ρ, ?_,
    trivial, value, trivial, inputs_value, trivial, Cert.ExpertsClaims.value, trivial, Cert.MergeClaims.value,
    trivial, Cert.CombineClaims.value, trivial, Cert.LatentClaims.value, trivial, Cert.ContextClaims.value,
    trivial, Cert.ModulationClaims.value, trivial, Cert.CacheClaims.value, trivial, Cert.TokensClaims.value⟩
  · exact fun m ρ _ => (θ_run Cert.ReferenceIdeal.defs _ _).mono (fun r h => ⟨fun c => (h c).2, sem_eq_zero_of_no_sems (by decide) r.2⟩)
      (Cert.ReferenceIdeal.Value.run m ρ)
  · exact fun m ρ _ => (θ_run Cert.ReferenceIdeal.defs _ _).mono (fun r h => ⟨fun c => (h c).2, sem_eq_zero_of_no_sems (by decide) r.2⟩)
      (Cert.ReferenceIdeal.Value.run m ρ)
  · exact fun m ρ _ => (θ_run Cert.InputsReferenceIdeal.defs _ _).mono
      (fun r h => ⟨fun c => (h c).2.2.2.2.2.2.2.2.2.2.2.2.2, sem_eq_zero_of_no_sems (by decide) r.2⟩) (Cert.InputsReferenceIdeal.Short.run m ρ)
  · exact fun m ρ _ => (θ_run Cert.MergeReferenceIdeal.defs _ _).mono (fun r h => ⟨fun c => (h c).2.2, sem_eq_zero_of_no_sems (by decide) r.2⟩)
      (Cert.MergeReferenceIdeal.Value.run m ρ)
  · exact fun m ρ _ => (θ_run Cert.CombineReferenceIdeal.defs _ _).mono (fun r h => ⟨fun c => (h c).2, sem_eq_zero_of_no_sems (by decide) r.2⟩)
      (Cert.CombineReferenceIdeal.Value.run m ρ)
  · exact fun m ρ _ => (θ_run Cert.LatentReferenceIdeal.defs _ _).mono (fun r h => ⟨fun c => (h c).2, sem_eq_zero_of_no_sems (by decide) r.2⟩)
      (Cert.LatentReferenceIdeal.Value.run m ρ)
  · exact fun m ρ _ => (θ_run Cert.LatentReferenceIdeal.defs _ _).mono (fun r h => ⟨fun c => (h c).2, sem_eq_zero_of_no_sems (by decide) r.2⟩)
      (Cert.LatentReferenceIdeal.Value.run m ρ)
  · exact fun m ρ _ => (θ_run Cert.ContextReferenceIdeal.defs _ _).mono (fun r h => ⟨fun c => (h c).2.2.2, sem_eq_zero_of_no_sems (by decide) r.2⟩)
      (Cert.ContextReferenceIdeal.Value.run m ρ)
  · exact fun m ρ _ => (θ_run Cert.ContextReferenceIdeal.defs _ _).mono (fun r h => ⟨fun c => (h c).2.2.2, sem_eq_zero_of_no_sems (by decide) r.2⟩)
      (Cert.ContextReferenceIdeal.Value.run m ρ)
  · exact fun m ρ _ => (θ_run Cert.ModulationReferenceIdeal.defs _ _).mono (fun r h => ⟨fun c => (h c).2, sem_eq_zero_of_no_sems (by decide) r.2⟩)
      (Cert.ModulationReferenceIdeal.Value.run m ρ)
  · exact fun m ρ _ => (θ_run Cert.CacheReferenceIdeal.defs _ _).mono (fun r h => ⟨fun c => (h c).2.2.2, sem_eq_zero_of_no_sems (by decide) r.2⟩)
      (Cert.CacheReferenceIdeal.Value.run m ρ)
  · exact fun m ρ _ => (θ_run Cert.TokensReferenceIdeal.defs _ _).mono
      (fun r h => ⟨fun c => (h c).2.2.2.2.2.2.2.2.2.2.2, sem_eq_zero_of_no_sems (by decide) r.2⟩) (Cert.TokensReferenceIdeal.Short.run m ρ)

end Cert.Proof

end
